-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite22 [hPre_finite22 : Cert.Pre_finite22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4))).1 = (fun _ => 1#1)
    ∧ (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4))).2.1 = (fun _ => 1#1)
    ∧ (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4))).2.2.1 = (fun _ => 1#1)
    ∧ (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4))).2.2.2.1 = (fun _ => 1#1)
    ∧ (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4))).2.2.2.2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite22 [hPre_finite22 : Cert.Pre_finite22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4))).1 = (fun _ => 1#1)
    ∧ (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4))).2.1 = (fun _ => 1#1)
    ∧ (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4))).2.2.1 = (fun _ => 1#1)
    ∧ (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4))).2.2.2.1 = (fun _ => 1#1)
    ∧ (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4))).2.2.2.2 = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Kernel22Ideal_pre_finite22 [hKernel22Ideal : Cert.Kernel22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Reference22Ideal_pre_finite22 [hReference22Ideal : Cert.Reference22Ideal.Facts] [hPre_finite22 : Cert.Pre_finite22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v11_0)) (v2 : (c : Dev Cert.Kernel2Ideal.nD) → Buf (Elt Ideal) ((c.tc : Thread Cert.Kernel2Ideal.nD Cert.Kernel2Ideal.τ).loc Cert.Kernel2Ideal.main_v11_1)) (v3 : (c : Dev Cert.Kernel2Ideal.nD) → Buf (Elt Ideal) ((c.tc : Thread Cert.Kernel2Ideal.nD Cert.Kernel2Ideal.τ).loc Cert.Kernel2Ideal.main_v11_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v11_0) = v1 c
          ∧ r.2.mem ((c.tc : Thread Cert.Kernel2Ideal.nD Cert.Kernel2Ideal.τ).loc Cert.Kernel2Ideal.main_v11_1) = v2 c
          ∧ r.2.mem ((c.tc : Thread Cert.Kernel2Ideal.nD Cert.Kernel2Ideal.τ).loc Cert.Kernel2Ideal.main_v11_2) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_v69) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_v68) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v53) = v1 c
          ∧ r.2.mem ((c.tc : Thread Cert.Reference6Ideal.nD Cert.Reference6Ideal.τ).loc Cert.Reference6Ideal.main_v54) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)) (v4 : (c : Dev Cert.Kernel7Ideal.nD) → Buf (Elt Ideal) ((c.tc : Thread Cert.Kernel7Ideal.nD Cert.Kernel7Ideal.τ).loc Cert.Kernel7Ideal.main_v3_4)) (v5 : (c : Dev Cert.Kernel7Ideal.nD) → Buf (Elt Ideal) ((c.tc : Thread Cert.Kernel7Ideal.nD Cert.Kernel7Ideal.τ).loc Cert.Kernel7Ideal.main_v3_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_v3_4) = v4 c
          ∧ r.2.mem ((c.tc : Thread Cert.Kernel7Ideal.nD Cert.Kernel7Ideal.τ).loc Cert.Kernel7Ideal.main_v3_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v78) = v0 c
          ∧ r.2.mem ((c.tc : Thread Cert.Reference7Ideal.nD Cert.Reference7Ideal.τ).loc Cert.Reference7Ideal.main_v79) = v1 c
          ∧ r.2.mem ((c.tc : Thread Cert.Reference7Ideal.nD Cert.Reference7Ideal.τ).loc Cert.Reference7Ideal.main_v81) = v2 c
          ∧ r.2.mem ((c.tc : Thread Cert.Reference7Ideal.nD Cert.Reference7Ideal.τ).loc Cert.Reference7Ideal.main_v83) = v3 c
          ∧ r.2.mem ((c.tc : Thread Cert.Reference7Ideal.nD Cert.Reference7Ideal.τ).loc Cert.Reference7Ideal.main_v84) = v4 c
          ∧ r.2.mem ((c.tc : Thread Cert.Reference7Ideal.nD Cert.Reference7Ideal.τ).loc Cert.Reference7Ideal.main_v85) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v32) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v20_0)) (v1 : (c : Dev Cert.Kernel11Ideal.nD) → Buf (Elt Ideal) ((c.tc : Thread Cert.Kernel11Ideal.nD Cert.Kernel11Ideal.τ).loc Cert.Kernel11Ideal.main_v20_1)) (v2 : (c : Dev Cert.Kernel11Ideal.nD) → Buf (Elt Ideal) ((c.tc : Thread Cert.Kernel11Ideal.nD Cert.Kernel11Ideal.τ).loc Cert.Kernel11Ideal.main_v20_2)) (v3 : (c : Dev Cert.Kernel11Ideal.nD) → Buf (Elt Ideal) ((c.tc : Thread Cert.Kernel11Ideal.nD Cert.Kernel11Ideal.τ).loc Cert.Kernel11Ideal.main_v20_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v20_0) = v0 c
          ∧ r.2.mem ((c.tc : Thread Cert.Kernel11Ideal.nD Cert.Kernel11Ideal.τ).loc Cert.Kernel11Ideal.main_v20_1) = v1 c
          ∧ r.2.mem ((c.tc : Thread Cert.Kernel11Ideal.nD Cert.Kernel11Ideal.τ).loc Cert.Kernel11Ideal.main_v20_2) = v2 c
          ∧ r.2.mem ((c.tc : Thread Cert.Kernel11Ideal.nD Cert.Kernel11Ideal.τ).loc Cert.Kernel11Ideal.main_v20_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v175) = v0 c
          ∧ r.2.mem ((c.tc : Thread Cert.Reference11Ideal.nD Cert.Reference11Ideal.τ).loc Cert.Reference11Ideal.main_v177) = v1 c
          ∧ r.2.mem ((c.tc : Thread Cert.Reference11Ideal.nD Cert.Reference11Ideal.τ).loc Cert.Reference11Ideal.main_v178) = v2 c
          ∧ r.2.mem ((c.tc : Thread Cert.Reference11Ideal.nD Cert.Reference11Ideal.τ).loc Cert.Reference11Ideal.main_v179) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v20_0)) (v1 : (c : Dev Cert.Kernel12Ideal.nD) → Buf (Elt Ideal) ((c.tc : Thread Cert.Kernel12Ideal.nD Cert.Kernel12Ideal.τ).loc Cert.Kernel12Ideal.main_v20_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v20_0) = v0 c
          ∧ r.2.mem ((c.tc : Thread Cert.Kernel12Ideal.nD Cert.Kernel12Ideal.τ).loc Cert.Kernel12Ideal.main_v20_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v54) = v0 c
          ∧ r.2.mem ((c.tc : Thread Cert.Reference12Ideal.nD Cert.Reference12Ideal.τ).loc Cert.Reference12Ideal.main_v77) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v43) = v0 c
          ∧ r.2.mem ((c.tc : Thread Cert.Reference13Ideal.nD Cert.Reference13Ideal.τ).loc Cert.Reference13Ideal.main_v45) = v1 c
          ∧ r.2.mem ((c.tc : Thread Cert.Reference13Ideal.nD Cert.Reference13Ideal.τ).loc Cert.Reference13Ideal.main_v40) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)) (v2 : (c : Dev Cert.Kernel14Ideal.nD) → Buf (Elt Ideal) ((c.tc : Thread Cert.Kernel14Ideal.nD Cert.Kernel14Ideal.τ).loc Cert.Kernel14Ideal.main_v6_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_v6_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v26) = v0 c
          ∧ r.2.mem ((c.tc : Thread Cert.Reference14Ideal.nD Cert.Reference14Ideal.τ).loc Cert.Reference14Ideal.main_v33) = v1 c
          ∧ r.2.mem ((c.tc : Thread Cert.Reference14Ideal.nD Cert.Reference14Ideal.τ).loc Cert.Reference14Ideal.main_v34) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v17) = v0 c
          ∧ r.2.mem ((c.tc : Thread Cert.Reference16Ideal.nD Cert.Reference16Ideal.τ).loc Cert.Reference16Ideal.main_v19) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v8_0)) (v1 : (c : Dev Cert.Kernel17Ideal.nD) → Buf (Elt Ideal) ((c.tc : Thread Cert.Kernel17Ideal.nD Cert.Kernel17Ideal.τ).loc Cert.Kernel17Ideal.main_v8_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8_0) = v0 c
          ∧ r.2.mem ((c.tc : Thread Cert.Kernel17Ideal.nD Cert.Kernel17Ideal.τ).loc Cert.Kernel17Ideal.main_v8_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v43) = v0 c
          ∧ r.2.mem ((c.tc : Thread Cert.Reference17Ideal.nD Cert.Reference17Ideal.τ).loc Cert.Reference17Ideal.main_v42) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v7)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v7) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_4)) (v4 : (c : Dev Cert.Kernel21Ideal.nD) → Buf (Elt Ideal) ((c.tc : Thread Cert.Kernel21Ideal.nD Cert.Kernel21Ideal.τ).loc Cert.Kernel21Ideal.main_v0_5)) (v5 : (c : Dev Cert.Kernel21Ideal.nD) → Buf (Elt Ideal) ((c.tc : Thread Cert.Kernel21Ideal.nD Cert.Kernel21Ideal.τ).loc Cert.Kernel21Ideal.main_v0_6)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_4) = v3 c
          ∧ r.2.mem ((c.tc : Thread Cert.Kernel21Ideal.nD Cert.Kernel21Ideal.τ).loc Cert.Kernel21Ideal.main_v0_5) = v4 c
          ∧ r.2.mem ((c.tc : Thread Cert.Kernel21Ideal.nD Cert.Kernel21Ideal.τ).loc Cert.Kernel21Ideal.main_v0_6) = v5 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_v47) = v3 c
          ∧ r.2.mem ((c.tc : Thread Cert.Reference21Ideal.nD Cert.Reference21Ideal.τ).loc Cert.Reference21Ideal.main_v28) = v4 c
          ∧ r.2.mem ((c.tc : Thread Cert.Reference21Ideal.nD Cert.Reference21Ideal.τ).loc Cert.Reference21Ideal.main_v34) = v5 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  True

def algebraic_Kernel22Ideal_Reference22Ideal_pre_finite22 [hKernel22Ideal : Cert.Kernel22Ideal.Facts] [hReference22Ideal : Cert.Reference22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v5_0)) (v1 : (c : Dev Cert.Kernel22Ideal.nD) → Buf (Elt Ideal) ((c.tc : Thread Cert.Kernel22Ideal.nD Cert.Kernel22Ideal.τ).loc Cert.Kernel22Ideal.main_v5_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v5_0) = v0 c
          ∧ r.2.mem ((c.tc : Thread Cert.Kernel22Ideal.nD Cert.Kernel22Ideal.τ).loc Cert.Kernel22Ideal.main_v5_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v43) = v0 c
          ∧ r.2.mem ((c.tc : Thread Cert.Reference22Ideal.nD Cert.Reference22Ideal.τ).loc Cert.Reference22Ideal.main_v42) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m ((c.tc : Thread Cert.Kernel23Ideal.nD Cert.Kernel23Ideal.τ).loc Cert.Kernel23Ideal.main_arg0) = Layout.block ⟨2, ![1, 32256]⟩ ⟨2, ![8, 32256]⟩ 0 8 c (m' (((0 : Dev Cert.Reference23Ideal.nD).tc : Thread Cert.Reference23Ideal.nD Cert.Reference23Ideal.τ).loc Cert.Reference23Ideal.main_arg0))
      ∧ m ((c.tc : Thread Cert.Kernel23Ideal.nD Cert.Kernel23Ideal.τ).loc Cert.Kernel23Ideal.main_arg1) = Layout.block ⟨2, ![8, 32256]⟩ ⟨2, ![64, 32256]⟩ 0 8 c (m' (((0 : Dev Cert.Reference23Ideal.nD).tc : Thread Cert.Reference23Ideal.nD Cert.Reference23Ideal.τ).loc Cert.Reference23Ideal.main_arg1))) →
    ∃ (v0 : Buf (Elt Ideal) (((0 : Dev Cert.Reference23Ideal.nD).tc : Thread Cert.Reference23Ideal.nD Cert.Reference23Ideal.τ).loc Cert.Reference23Ideal.main_v9)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = Layout.block ⟨2, ![1, 32256]⟩ ⟨2, ![8, 32256]⟩ 0 8 c v0
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r =>
          r.2.mem (((0 : Dev Cert.Reference23Ideal.nD).tc : Thread Cert.Reference23Ideal.nD Cert.Reference23Ideal.τ).loc Cert.Reference23Ideal.main_v9) = v0
          ∧ r.2.mem (((0 : Dev Cert.Reference23Ideal.nD).tc : Thread Cert.Reference23Ideal.nD Cert.Reference23Ideal.τ).loc Cert.Reference23Ideal.main_arg0) = m' (((0 : Dev Cert.Reference23Ideal.nD).tc : Thread Cert.Reference23Ideal.nD Cert.Reference23Ideal.τ).loc Cert.Reference23Ideal.main_arg0)
          ∧ r.2.mem (((0 : Dev Cert.Reference23Ideal.nD).tc : Thread Cert.Reference23Ideal.nD Cert.Reference23Ideal.τ).loc Cert.Reference23Ideal.main_arg1) = m' (((0 : Dev Cert.Reference23Ideal.nD).tc : Thread Cert.Reference23Ideal.nD Cert.Reference23Ideal.τ).loc Cert.Reference23Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite8 : Cert.Pre_finite8.Facts) (hPre_finite9 : Cert.Pre_finite9.Facts) (hPre_finite11 : Cert.Pre_finite11.Facts) (hPre_finite12 : Cert.Pre_finite12.Facts) (hPre_finite13 : Cert.Pre_finite13.Facts) (hPre_finite14 : Cert.Pre_finite14.Facts) (hPre_finite15 : Cert.Pre_finite15.Facts) (hPre_finite16 : Cert.Pre_finite16.Facts) (hPre_finite17 : Cert.Pre_finite17.Facts) (hPre_finite22 : Cert.Pre_finite22.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite22 (hKernel22Ideal := hKernel22Ideal) (hPre_finite22 := hPre_finite22)
    ∧ quiescent_Reference22Ideal (hReference22Ideal := hReference22Ideal)
    ∧ quiescent_Reference22Ideal_pre_finite22 (hReference22Ideal := hReference22Ideal) (hPre_finite22 := hPre_finite22)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite22 (hKernel22Ideal := hKernel22Ideal) (hReference22Ideal := hReference22Ideal) (hPre_finite22 := hPre_finite22)
    ∧ preserves_Kernel23_Kernel23Ideal
    ∧ algebraic_Kernel23Ideal_Reference23Ideal (hKernel23Ideal := hKernel23Ideal) (hReference23Ideal := hReference23Ideal)
-- ==== Pre_finite.lean ====
abbrev S1x256x1024 : Shape := ⟨3, ![1, 256, 1024]⟩
abbrev S1x1024 : Shape := ⟨2, ![1, 1024]⟩
abbrev S_ : Shape := ⟨0, ![]⟩

class Facts : Prop where
  bcast_S_S1x256x1024 : S_.BroadcastsInDim S1x256x1024 (![] : Fin 0 → Fin S1x256x1024.rank)
  bcast_S_S1x1024 : S_.BroadcastsInDim S1x1024 (![] : Fin 0 → Fin S1x1024.rank)

variable [Facts]

def fn {F : FTy → Type} [FloatOps F] (main_arg0 : FVec F S1x256x1024 .f32) (main_arg1 : FVec F S1x1024 .f32) (main_arg2 : FVec F S1x256x1024 .f32) : IVec S1x256x1024 1 × IVec S1x1024 1 × IVec S1x256x1024 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x256x1024 .f32 := Host.absf main_arg2
  let main_cst_1 : FVec F S_ .f32 := constant S_ .f32 0x7F800000#32
  let main_v7 : FVec F S1x256x1024 .f32 := broadcastInDim S1x256x1024 ![] bcast_S_S1x256x1024 main_cst_1
  let main_v8 : IVec S1x256x1024 1 := cmpf .olt main_v6 main_v7
  (main_v2, main_v5, main_v8)
-- ==== Pre_finite11.lean ====
abbrev S1x2048x3328 : Shape := ⟨3, ![1, 2048, 3328]⟩
abbrev S1x64 : Shape := ⟨2, ![1, 64]⟩
abbrev S2048x32 : Shape := ⟨2, ![2048, 32]⟩
abbrev S2048x512 : Shape := ⟨2, ![2048, 512]⟩
abbrev S2048x128 : Shape := ⟨2, ![2048, 128]⟩
abbrev S_ : Shape := ⟨0, ![]⟩

class Facts : Prop where
  bcast_S_S1x2048x3328 : S_.BroadcastsInDim S1x2048x3328 (![] : Fin 0 → Fin S1x2048x3328.rank)
  bcast_S_S1x64 : S_.BroadcastsInDim S1x64 (![] : Fin 0 → Fin S1x64.rank)
  bcast_S_S2048x32 : S_.BroadcastsInDim S2048x32 (![] : Fin 0 → Fin S2048x32.rank)
  bcast_S_S2048x512 : S_.BroadcastsInDim S2048x512 (![] : Fin 0 → Fin S2048x512.rank)
  bcast_S_S2048x128 : S_.BroadcastsInDim S2048x128 (![] : Fin 0 → Fin S2048x128.rank)

variable [Facts]

def fn_part1 {F : FTy → Type} [FloatOps F] (main_arg6 : FVec F S2048x128 .f32) (main_v2 : IVec S1x2048x3328 1) (main_v5 : IVec S1x64 1) (main_v8 : IVec S1x64 1) (main_v11 : IVec S2048x32 1) (main_v14 : IVec S2048x32 1) (main_v17 : IVec S2048x512 1) : IVec S1x2048x3328 1 × IVec S1x64 1 × IVec S1x64 1 × IVec S2048x32 1 × IVec S2048x32 1 × IVec S2048x512 1 × IVec S2048x128 1 :=
  let main_v18 : FVec F S2048x128 .f32 := Host.absf main_arg6
  let main_cst_5 : FVec F S_ .f32 := constant S_ .f32 0x7F800000#32
  let main_v19 : FVec F S2048x128 .f32 := broadcastInDim S2048x128 ![] bcast_S_S2048x128 main_cst_5
  let main_v20 : IVec S2048x128 1 := cmpf .olt main_v18 main_v19
  (main_v2, main_v5, main_v8, main_v11, main_v14, main_v17, main_v20)

def fn {F : FTy → Type} [FloatOps F] (main_arg0 : FVec F S1x2048x3328 .f32) (main_arg1 : FVec F S1x64 .f32) (main_arg2 : FVec F S1x64 .f32) (main_arg3 : FVec F S2048x32 .f32) (main_arg4 : FVec F S2048x32 .f32) (main_arg5 : FVec F S2048x512 .f32) (main_arg6 : FVec F S2048x128 .f32) : IVec S1x2048x3328 1 × IVec S1x64 1 × IVec S1x64 1 × IVec S2048x32 1 × IVec S2048x32 1 × IVec S2048x512 1 × IVec S2048x128 1 :=
  let main_v0 : FVec F S1x2048x3328 .f32 := Host.absf main_arg0
  let main_cst : FVec F S_ .f32 := constant S_ .f32 0x7F800000#32
  let main_v1 : FVec F S1x2048x3328 .f32 := broadcastInDim S1x2048x3328 ![] bcast_S_S1x2048x3328 main_cst
  let main_v2 : IVec S1x2048x3328 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S2048x32 .f32 := Host.absf main_arg3
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_v12 : FVec F S2048x32 .f32 := Host.absf main_arg4
  let main_cst_3 : FVec F S_ .f32 := constant S_ .f32 0x7F800000#32
  let main_v13 : FVec F S2048x32 .f32 := broadcastInDim S2048x32 ![] bcast_S_S2048x32 main_cst_3
  let main_v14 : IVec S2048x32 1 := cmpf .olt main_v12 main_v13
  let main_v15 : FVec F S2048x512 .f32 := Host.absf main_arg5
  let main_cst_4 : FVec F S_ .f32 := constant S_ .f32 0x7F800000#32
  let main_v16 : FVec F S2048x512 .f32 := broadcastInDim S2048x512 ![] bcast_S_S2048x512 main_cst_4
  let main_v17 : IVec S2048x512 1 := cmpf .olt main_v15 main_v16
  fn_part1 (F := F) main_arg6 main_v2 main_v5 main_v8 main_v11 main_v14 main_v17
-- ==== Pre_finite12.lean ====
abbrev S1x2048x3328 : Shape := ⟨3, ![1, 2048, 3328]⟩
abbrev S1x64 : Shape := ⟨2, ![1, 64]⟩
abbrev S2048x32 : Shape := ⟨2, ![2048, 32]⟩
abbrev S_ : Shape := ⟨0, ![]⟩

class Facts : Prop where
  bcast_S_S1x2048x3328 : S_.BroadcastsInDim S1x2048x3328 (![] : Fin 0 → Fin S1x2048x3328.rank)
  bcast_S_S1x64 : S_.BroadcastsInDim S1x64 (![] : Fin 0 → Fin S1x64.rank)
  bcast_S_S2048x32 : S_.BroadcastsInDim S2048x32 (![] : Fin 0 → Fin S2048x32.rank)

variable [Facts]

def fn {F : FTy → Type} [FloatOps F] (main_arg0 : FVec F S1x2048x3328 .f32) (main_arg1 : FVec F S1x64 .f32) (main_arg2 : FVec F S1x64 .f32) (main_arg3 : FVec F S2048x32 .f32) (main_arg4 : FVec F S2048x32 .f32) : IVec S1x2048x3328 1 × IVec S1x64 1 × IVec S1x64 1 × IVec S2048x32 1 × IVec S2048x32 1 :=
  let main_v0 : FVec F S1x2048x3328 .f32 := Host.absf main_arg0
  let main_cst : FVec F S_ .f32 := constant S_ .f32 0x7F800000#32
  let main_v1 : FVec F S1x2048x3328 .f32 := broadcastInDim S1x2048x3328 ![] bcast_S_S1x2048x3328 main_cst
  let main_v2 : IVec S1x2048x3328 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S2048x32 .f32 := Host.absf main_arg3
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_v12 : FVec F S2048x32 .f32 := Host.absf main_arg4
  let main_cst_3 : FVec F S_ .f32 := constant S_ .f32 0x7F800000#32
  let main_v13 : FVec F S2048x32 .f32 := broadcastInDim S2048x32 ![] bcast_S_S2048x32 main_cst_3
  let main_v14 : IVec S2048x32 1 := cmpf .olt main_v12 main_v13
  (main_v2, main_v5, main_v8, main_v11, main_v14)
-- ==== Pre_finite13.lean ====
abbrev S1x2048x1024 : Shape := ⟨3, ![1, 2048, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S1x2048x1024 : S_.BroadcastsInDim S1x2048x1024 (![] : Fin 0 → Fin S1x2048x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn {F : FTy → Type} [FloatOps F] (main_arg0 : FVec F S1x2048x1024 .f32) (main_arg1 : FVec F S1x1024x1024 .f32) (main_arg2 : FVec F S1x1024 .f32) (main_arg3 : FVec F S1x2048x1024 .f32) : IVec S1x2048x1024 1 × IVec S1x1024x1024 1 × IVec S1x1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024x1024 .f32 := Host.absf main_arg1
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x2048x1024 .f32 := Host.absf main_arg3
  let main_cst_2 : FVec F S_ .f32 := constant S_ .f32 0x7F800000#32
  let main_v10 : FVec F S1x2048x1024 .f32 := broadcastInDim S1x2048x1024 ![] bcast_S_S1x2048x1024 main_cst_2
  let main_v11 : IVec S1x2048x1024 1 := cmpf .olt main_v9 main_v10
  (main_v2, main_v5, main_v8, main_v11)
-- ==== Pre_finite14.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S1x1024 : Shape := ⟨2, ![1, 1024]⟩
abbrev S_ : Shape := ⟨0, ![]⟩

class Facts : Prop where
  bcast_S_S1x2048x2816 : S_.BroadcastsInDim S1x2048x2816 (![] : Fin 0 → Fin S1x2048x2816.rank)
  bcast_S_S1x2816x1024 : S_.BroadcastsInDim S1x2816x1024 (![] : Fin 0 → Fin S1x2816x1024.rank)
  bcast_S_S1x2048x1024 : S_.BroadcastsInDim S1x2048x1024 (![] : Fin 0 → Fin S1x2048x1024.rank)
  bcast_S_S1x1024 : S_.BroadcastsInDim S1x1024 (![] : Fin 0 → Fin S1x1024.rank)

variable [Facts]

def fn {F : FTy → Type} [FloatOps F] (main_arg0 : FVec F S1x2048x2816 .f32) (main_arg1 : FVec F S1x2816x1024 .f32) (main_arg2 : FVec F S1x2048x1024 .f32) (main_arg3 : FVec F S1x1024 .f32) (main_arg4 : FVec F S1x2048x1024 .f32) : IVec S1x2048x2816 1 × IVec S1x2816x1024 1 × IVec S1x2048x1024 1 × IVec S1x1024 1 × IVec S1x2048x1024 1 :=
  let main_v0 : FVec F S1x2048x2816 .f32 := Host.absf main_arg0
  let main_cst : FVec F S_ .f32 := constant S_ .f32 0x7F800000#32
  let main_v1 : FVec F S1x2048x2816 .f32 := broadcastInDim S1x2048x2816 ![] bcast_S_S1x2048x2816 main_cst
  let main_v2 : IVec S1x2048x2816 1 := cmpf .olt main_v0 main_v1
  let main_v3 : FVec F S1x2816x1024 .f32 := Host.absf main_arg1
  let main_cst_0 : FVec F S_ .f32 := constant S_ .f32 0x7F800000#32
  let main_v4 : FVec F S1x2816x1024 .f32 := broadcastInDim S1x2816x1024 ![] bcast_S_S1x2816x1024 main_cst_0
  let main_v5 : IVec S1x2816x1024 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  (main_v2, main_v5, main_v8, main_v11, main_v14)
-- ==== Pre_finite15.lean ====
abbrev S1x2048x1024 : Shape := ⟨3, ![1, 2048, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S1x2048x1024 : S_.BroadcastsInDim S1x2048x1024 (![] : Fin 0 → Fin S1x2048x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn {F : FTy → Type} [FloatOps F] (main_arg0 : FVec F S1x2048x1024 .f32) (main_arg1 : FVec F S1x1024x1024 .f32) (main_arg2 : FVec F S1x2048x1024 .f32) (main_arg3 : FVec F S1x1024 .f32) : IVec S1x2048x1024 1 × IVec S1x1024x1024 1 × IVec S1x2048x1024 1 × IVec S1x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024x1024 .f32 := Host.absf main_arg1
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite16.lean ====
abbrev S1x2048x1024 : Shape := ⟨3, ![1, 2048, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)

variable [Facts]

def fn {F : FTy → Type} [FloatOps F] (main_arg0 : FVec F S1x2048x1024 .f32) (main_arg1 : FVec F S1x1024 .f32) (main_arg2 : FVec F S1x1024x1024 .f32) : IVec S1x2048x1024 1 × IVec S1x1024 1 × IVec S1x1024x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  (main_v2, main_v5, main_v8)
-- ==== Pre_finite17.lean ====
abbrev S1x2048x1024 : Shape := ⟨3, ![1, 2048, 1024]⟩
abbrev S1x1024 : Shape := ⟨2, ![1, 1024]⟩
abbrev S1x1024x3328 : Shape := ⟨3, ![1, 1024, 3328]⟩
abbrev S1x2048x3328 : Shape := ⟨3, ![1, 2048, 3328]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x3328 : S_.BroadcastsInDim S1x1024x3328 (![] : Fin 0 → Fin S1x1024x3328.rank)
  bcast_S_S1x2048x3328 : S_.BroadcastsInDim S1x2048x3328 (![] : Fin 0 → Fin S1x2048x3328.rank)

variable [Facts]

def fn {F : FTy → Type} [FloatOps F] (main_arg0 : FVec F S1x2048x1024 .f32) (main_arg1 : FVec F S1x1024 .f32) (main_arg2 : FVec F S1x1024x3328 .f32) (main_arg3 : FVec F S1x2048x3328 .f32) (main_arg4 : FVec F S1x2048x1024 .f32) : IVec S1x2048x1024 1 × IVec S1x1024 1 × IVec S1x1024x3328 1 × IVec S1x2048x3328 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x3328 .f32 := Host.absf main_arg2
  let main_cst_1 : FVec F S_ .f32 := constant S_ .f32 0x7F800000#32
  let main_v7 : FVec F S1x1024x3328 .f32 := broadcastInDim S1x1024x3328 ![] bcast_S_S1x1024x3328 main_cst_1
  let main_v8 : IVec S1x1024x3328 1 := cmpf .olt main_v6 main_v7
  let main_v9 : FVec F S1x2048x3328 .f32 := Host.absf main_arg3
  let main_cst_2 : FVec F S_ .f32 := constant S_ .f32 0x7F800000#32
  let main_v10 : FVec F S1x2048x3328 .f32 := broadcastInDim S1x2048x3328 ![] bcast_S_S1x2048x3328 main_cst_2
  let main_v11 : IVec S1x2048x3328 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  (main_v2, main_v5, main_v8, main_v11, main_v14)
-- ==== Pre_finite2.lean ====
abbrev S1x2048x8x64 : Shape := ⟨4, ![1, 2048, 8, 64]⟩
abbrev S1x2048x2x64 : Shape := ⟨4, ![1, 2048, 2, 64]⟩
abbrev S1x2048x512 : Shape := ⟨3, ![1, 2048, 512]⟩
abbrev S_ : Shape := ⟨0, ![]⟩

class Facts : Prop where
  bcast_S_S1x2048x8x64 : S_.BroadcastsInDim S1x2048x8x64 (![] : Fin 0 → Fin S1x2048x8x64.rank)
  bcast_S_S1x2048x2x64 : S_.BroadcastsInDim S1x2048x2x64 (![] : Fin 0 → Fin S1x2048x2x64.rank)
  bcast_S_S1x2048x512 : S_.BroadcastsInDim S1x2048x512 (![] : Fin 0 → Fin S1x2048x512.rank)

variable [Facts]

def fn {F : FTy → Type} [FloatOps F] (main_arg0 : FVec F S1x2048x8x64 .f32) (main_arg1 : FVec F S1x2048x2x64 .f32) (main_arg2 : FVec F S1x2048x2x64 .f32) (main_arg3 : FVec F S1x2048x512 .f32) : IVec S1x2048x8x64 1 × IVec S1x2048x2x64 1 × IVec S1x2048x2x64 1 × IVec S1x2048x512 1 :=
  let main_v0 : FVec F S1x2048x8x64 .f32 := Host.absf main_arg0
  let main_cst : FVec F S_ .f32 := constant S_ .f32 0x7F800000#32
  let main_v1 : FVec F S1x2048x8x64 .f32 := broadcastInDim S1x2048x8x64 ![] bcast_S_S1x2048x8x64 main_cst
  let main_v2 : IVec S1x2048x8x64 1 := cmpf .olt main_v0 main_v1
  let main_v3 : FVec F S1x2048x2x64 .f32 := Host.absf main_arg1
  let main_cst_0 : FVec F S_ .f32 := constant S_ .f32 0x7F800000#32
  let main_v4 : FVec F S1x2048x2x64 .f32 := broadcastInDim S1x2048x2x64 ![] bcast_S_S1x2048x2x64 main_cst_0
  let main_v5 : IVec S1x2048x2x64 1 := cmpf .olt main_v3 main_v4
  let main_v6 : FVec F S1x2048x2x64 .f32 := Host.absf main_arg2
  let main_cst_1 : FVec F S_ .f32 := constant S_ .f32 0x7F800000#32
  let main_v7 : FVec F S1x2048x2x64 .f32 := broadcastInDim S1x2048x2x64 ![] bcast_S_S1x2048x2x64 main_cst_1
  let main_v8 : IVec S1x2048x2x64 1 := cmpf .olt main_v6 main_v7
  let main_v9 : FVec F S1x2048x512 .f32 := Host.absf main_arg3
  let main_cst_2 : FVec F S_ .f32 := constant S_ .f32 0x7F800000#32
  let main_v10 : FVec F S1x2048x512 .f32 := broadcastInDim S1x2048x512 ![] bcast_S_S1x2048x512 main_cst_2
  let main_v11 : IVec S1x2048x512 1 := cmpf .olt main_v9 main_v10
  (main_v2, main_v5, main_v8, main_v11)
-- ==== Pre_finite22.lean ====
abbrev S1x2048x1024 : Shape := ⟨3, ![1, 2048, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)

variable [Facts]

def fn {F : FTy → Type} [FloatOps F] (main_arg0 : FVec F S1x2048x1024 .f32) (main_arg1 : FVec F S1x1024 .f32) (main_arg2 : FVec F S1x1024x1024 .f32) (main_arg3 : FVec F S1x2048x1024 .f32) (main_arg4 : FVec F S1x2048x1024 .f32) : IVec S1x2048x1024 1 × IVec S1x1024 1 × IVec S1x1024x1024 1 × IVec S1x2048x1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x2048x1024 .f32 := Host.absf main_arg3
  let main_cst_2 : FVec F S_ .f32 := constant S_ .f32 0x7F800000#32
  let main_v10 : FVec F S1x2048x1024 .f32 := broadcastInDim S1x2048x1024 ![] bcast_S_S1x2048x1024 main_cst_2
  let main_v11 : IVec S1x2048x1024 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  (main_v2, main_v5, main_v8, main_v11, main_v14)
-- ==== Pre_finite3.lean ====
abbrev S1x2048x1024 : Shape := ⟨3, ![1, 2048, 1024]⟩
abbrev S1x256x2048 : Shape := ⟨3, ![1, 256, 2048]⟩
abbrev S_ : Shape := ⟨0, ![]⟩

class Facts : Prop where
  bcast_S_S1x2048x1024 : S_.BroadcastsInDim S1x2048x1024 (![] : Fin 0 → Fin S1x2048x1024.rank)
  bcast_S_S1x256x2048 : S_.BroadcastsInDim S1x256x2048 (![] : Fin 0 → Fin S1x256x2048.rank)

variable [Facts]

def fn {F : FTy → Type} [FloatOps F] (main_arg0 : FVec F S1x2048x1024 .f32) (main_arg1 : FVec F S1x256x2048 .f32) (main_arg2 : FVec F S1x2048x1024 .f32) : IVec S1x2048x1024 1 × IVec S1x256x2048 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x256x2048 .f32 := Host.absf main_arg1
  let main_cst_0 : FVec F S_ .f32 := constant S_ .f32 0x7F800000#32
  let main_v4 : FVec F S1x256x2048 .f32 := broadcastInDim S1x256x2048 ![] bcast_S_S1x256x2048 main_cst_0
  let main_v5 : IVec S1x256x2048 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  (main_v2, main_v5, main_v8)
-- ==== Pre_finite4.lean ====
abbrev S1x2048x1024 : Shape := ⟨3, ![1, 2048, 1024]⟩
abbrev S1x256x2048 : Shape := ⟨3, ![1, 256, 2048]⟩
abbrev S_ : Shape := ⟨0, ![]⟩

class Facts : Prop where
  bcast_S_S1x2048x1024 : S_.BroadcastsInDim S1x2048x1024 (![] : Fin 0 → Fin S1x2048x1024.rank)
  bcast_S_S1x256x2048 : S_.BroadcastsInDim S1x256x2048 (![] : Fin 0 → Fin S1x256x2048.rank)

variable [Facts]

def fn {F : FTy → Type} [FloatOps F] (main_arg0 : FVec F S1x2048x1024 .f32) (main_arg1 : FVec F S1x256x2048 .f32) : IVec S1x2048x1024 1 × IVec S1x256x2048 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x256x2048 .f32 := Host.absf main_arg1
  let main_cst_0 : FVec F S_ .f32 := constant S_ .f32 0x7F800000#32
  let main_v4 : FVec F S1x256x2048 .f32 := broadcastInDim S1x256x2048 ![] bcast_S_S1x256x2048 main_cst_0
  let main_v5 : IVec S1x256x2048 1 := cmpf .olt main_v3 main_v4
  (main_v2, main_v5)
-- ==== Pre_finite5.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2048x5632 : S_.BroadcastsInDim S1x2048x5632 (![] : Fin 0 → Fin S1x2048x5632.rank)

variable [Facts]

def fn {F : FTy → Type} [FloatOps F] (main_arg0 : FVec F S1x2048x1024 .f32) (main_arg1 : FVec F S1x1024 .f32) (main_arg2 : FVec F S1x1024x5632 .f32) (main_arg3 : FVec F S1x2048x5632 .f32) (main_arg4 : FVec F S1x2048x1024 .f32) : IVec S1x2048x1024 1 × IVec S1x1024 1 × IVec S1x1024x5632 1 × IVec S1x2048x5632 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x2048x5632 .f32 := Host.absf main_arg3
  let main_cst_2 : FVec F S_ .f32 := constant S_ .f32 0x7F800000#32
  let main_v10 : FVec F S1x2048x5632 .f32 := broadcastInDim S1x2048x5632 ![] bcast_S_S1x2048x5632 main_cst_2
  let main_v11 : IVec S1x2048x5632 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  (main_v2, main_v5, main_v8, main_v11, main_v14)
-- ==== Pre_finite6.lean ====
abbrev S2x2048x512 : Shape := ⟨3, ![2, 2048, 512]⟩
abbrev S2048x3328 : Shape := ⟨2, ![2048, 3328]⟩
abbrev S1x128 : Shape := ⟨2, ![1, 128]⟩
abbrev S2048x1024 : Shape := ⟨2, ![2048, 1024]⟩
abbrev S_ : Shape := ⟨0, ![]⟩

class Facts : Prop where
  bcast_S_S2x2048x512 : S_.BroadcastsInDim S2x2048x512 (![] : Fin 0 → Fin S2x2048x512.rank)
  bcast_S_S2048x3328 : S_.BroadcastsInDim S2048x3328 (![] : Fin 0 → Fin S2048x3328.rank)
  bcast_S_S1x128 : S_.BroadcastsInDim S1x128 (![] : Fin 0 → Fin S1x128.rank)
  bcast_S_S2048x1024 : S_.BroadcastsInDim S2048x1024 (![] : Fin 0 → Fin S2048x1024.rank)

variable [Facts]

def fn {F : FTy → Type} [FloatOps F] (main_arg0 : FVec F S2x2048x512 .f32) (main_arg1 : FVec F S2048x3328 .f32) (main_arg2 : FVec F S1x128 .f32) (main_arg3 : FVec F S2048x1024 .f32) : IVec S2x2048x512 1 × IVec S2048x3328 1 × IVec S1x128 1 × IVec S2048x1024 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2048x3328 .f32 := Host.absf main_arg1
  let main_cst_0 : FVec F S_ .f32 := constant S_ .f32 0x7F800000#32
  let main_v4 : FVec F S2048x3328 .f32 := broadcastInDim S2048x3328 ![] bcast_S_S2048x3328 main_cst_0
  let main_v5 : IVec S2048x3328 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_finite7.lean ====
abbrev S1x2048x5632 : Shape := ⟨3, ![1, 2048, 5632]⟩
abbrev S1x3x5632 : Shape := ⟨3, ![1, 3, 5632]⟩
abbrev S1x5632 : Shape := ⟨2, ![1, 5632]⟩
abbrev S1x2048x2816 : Shape := ⟨3, ![1, 2048, 2816]⟩
abbrev S_ : Shape := ⟨0, ![]⟩

class Facts : Prop where
  bcast_S_S1x2048x5632 : S_.BroadcastsInDim S1x2048x5632 (![] : Fin 0 → Fin S1x2048x5632.rank)
  bcast_S_S1x3x5632 : S_.BroadcastsInDim S1x3x5632 (![] : Fin 0 → Fin S1x3x5632.rank)
  bcast_S_S1x5632 : S_.BroadcastsInDim S1x5632 (![] : Fin 0 → Fin S1x5632.rank)
  bcast_S_S1x2048x2816 : S_.BroadcastsInDim S1x2048x2816 (![] : Fin 0 → Fin S1x2048x2816.rank)

variable [Facts]

def fn {F : FTy → Type} [FloatOps F] (main_arg0 : FVec F S1x2048x5632 .f32) (main_arg1 : FVec F S1x3x5632 .f32) (main_arg2 : FVec F S1x5632 .f32) (main_arg3 : FVec F S1x2048x2816 .f32) : IVec S1x2048x5632 1 × IVec S1x3x5632 1 × IVec S1x5632 1 × IVec S1x2048x2816 1 :=
  let main_v0 : FVec F S1x2048x5632 .f32 := Host.absf main_arg0
  let main_cst : FVec F S_ .f32 := constant S_ .f32 0x7F800000#32
  let main_v1 : FVec F S1x2048x5632 .f32 := broadcastInDim S1x2048x5632 ![] bcast_S_S1x2048x5632 main_cst
  let main_v2 : IVec S1x2048x5632 1 := cmpf .olt main_v0 main_v1
  let main_v3 : FVec F S1x3x5632 .f32 := Host.absf main_arg1
  let main_cst_0 : FVec F S_ .f32 := constant S_ .f32 0x7F800000#32
  let main_v4 : FVec F S1x3x5632 .f32 := broadcastInDim S1x3x5632 ![] bcast_S_S1x3x5632 main_cst_0
  let main_v5 : IVec S1x3x5632 1 := cmpf .olt main_v3 main_v4
  let main_v6 : FVec F S1x5632 .f32 := Host.absf main_arg2
  let main_cst_1 : FVec F S_ .f32 := constant S_ .f32 0x7F800000#32
  let main_v7 : FVec F S1x5632 .f32 := broadcastInDim S1x5632 ![] bcast_S_S1x5632 main_cst_1
  let main_v8 : IVec S1x5632 1 := cmpf .olt main_v6 main_v7
  let main_v9 : FVec F S1x2048x2816 .f32 := Host.absf main_arg3
  let main_cst_2 : FVec F S_ .f32 := constant S_ .f32 0x7F800000#32
  let main_v10 : FVec F S1x2048x2816 .f32 := broadcastInDim S1x2048x2816 ![] bcast_S_S1x2048x2816 main_cst_2
  let main_v11 : IVec S1x2048x2816 1 := cmpf .olt main_v9 main_v10
  (main_v2, main_v5, main_v8, main_v11)
-- ==== Pre_finite8.lean ====
abbrev S2x2048x512 : Shape := ⟨3, ![2, 2048, 512]⟩
abbrev S2048x3328 : Shape := ⟨2, ![2048, 3328]⟩
abbrev S1x128 : Shape := ⟨2, ![1, 128]⟩
abbrev S_ : Shape := ⟨0, ![]⟩

class Facts : Prop where
  bcast_S_S2x2048x512 : S_.BroadcastsInDim S2x2048x512 (![] : Fin 0 → Fin S2x2048x512.rank)
  bcast_S_S2048x3328 : S_.BroadcastsInDim S2048x3328 (![] : Fin 0 → Fin S2048x3328.rank)
  bcast_S_S1x128 : S_.BroadcastsInDim S1x128 (![] : Fin 0 → Fin S1x128.rank)

variable [Facts]

def fn {F : FTy → Type} [FloatOps F] (main_arg0 : FVec F S2x2048x512 .f32) (main_arg1 : FVec F S2048x3328 .f32) (main_arg2 : FVec F S1x128 .f32) : IVec S2x2048x512 1 × IVec S2048x3328 1 × IVec S1x128 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2048x3328 .f32 := Host.absf main_arg1
  let main_cst_0 : FVec F S_ .f32 := constant S_ .f32 0x7F800000#32
  let main_v4 : FVec F S2048x3328 .f32 := broadcastInDim S2048x3328 ![] bcast_S_S2048x3328 main_cst_0
  let main_v5 : IVec S2048x3328 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  (main_v2, main_v5, main_v8)
-- ==== Pre_finite9.lean ====
abbrev S1x2048x5632 : Shape := ⟨3, ![1, 2048, 5632]⟩
abbrev S1x3x5632 : Shape := ⟨3, ![1, 3, 5632]⟩
abbrev S1x5632 : Shape := ⟨2, ![1, 5632]⟩
abbrev S_ : Shape := ⟨0, ![]⟩

class Facts : Prop where
  bcast_S_S1x2048x5632 : S_.BroadcastsInDim S1x2048x5632 (![] : Fin 0 → Fin S1x2048x5632.rank)
  bcast_S_S1x3x5632 : S_.BroadcastsInDim S1x3x5632 (![] : Fin 0 → Fin S1x3x5632.rank)
  bcast_S_S1x5632 : S_.BroadcastsInDim S1x5632 (![] : Fin 0 → Fin S1x5632.rank)

variable [Facts]

def fn {F : FTy → Type} [FloatOps F] (main_arg0 : FVec F S1x2048x5632 .f32) (main_arg1 : FVec F S1x3x5632 .f32) (main_arg2 : FVec F S1x5632 .f32) : IVec S1x2048x5632 1 × IVec S1x3x5632 1 × IVec S1x5632 1 :=
  let main_v0 : FVec F S1x2048x5632 .f32 := Host.absf main_arg0
  let main_cst : FVec F S_ .f32 := constant S_ .f32 0x7F800000#32
  let main_v1 : FVec F S1x2048x5632 .f32 := broadcastInDim S1x2048x5632 ![] bcast_S_S1x2048x5632 main_cst
  let main_v2 : IVec S1x2048x5632 1 := cmpf .olt main_v0 main_v1
  let main_v3 : FVec F S1x3x5632 .f32 := Host.absf main_arg1
  let main_cst_0 : FVec F S_ .f32 := constant S_ .f32 0x7F800000#32
  let main_v4 : FVec F S1x3x5632 .f32 := broadcastInDim S1x3x5632 ![] bcast_S_S1x3x5632 main_cst_0
  let main_v5 : IVec S1x3x5632 1 := cmpf .olt main_v3 main_v4
  let main_v6 : FVec F S1x5632 .f32 := Host.absf main_arg2
  let main_cst_1 : FVec F S_ .f32 := constant S_ .f32 0x7F800000#32
  let main_v7 : FVec F S1x5632 .f32 := broadcastInDim S1x5632 ![] bcast_S_S1x5632 main_cst_1
  let main_v8 : IVec S1x5632 1 := cmpf .olt main_v6 main_v7
  (main_v2, main_v5, main_v8)
-- ==== Kernel.lean ====
abbrev S1x256x1024 : Shape := ⟨3, ![1, 256, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 5
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x256x1024, .f32⟩
  | .hbm, ⟨3, _⟩ => ⟨S256x1024, .f32⟩
  | .hbm, ⟨4, _⟩ => ⟨S256x1024, .f32⟩
  | .hbm, ⟨5, _⟩ => ⟨S256x1024, .bf16⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .bf16⟩
  | .local _ .vmem, ⟨4, _⟩ => ⟨S1x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x256x1024 : Shape := ⟨3, ![1, 256, 1024]⟩
abbrev S1x1024 : Shape := ⟨2, ![1, 1024]⟩
abbrev S1024 : Shape := ⟨1, ![1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S256 : Shape := ⟨1, ![256]⟩
abbrev S256x1024 : Shape := ⟨2, ![256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x256x1024, .f32⟩
  | .hbm, ⟨3, _⟩ => ⟨S1024, .f32⟩
  | .hbm, ⟨4, _⟩ => ⟨S1x256x1024, .f32⟩
  | .hbm, ⟨5, _⟩ => ⟨S_, .f32⟩
  | .hbm, ⟨6, _⟩ => ⟨S1x256, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S1x256x1, .f32⟩
  | .hbm, ⟨15, _⟩ => ⟨S1x256x1, .f32⟩
  | .hbm, ⟨16, _⟩ => ⟨S_, .f32⟩
  | .hbm, ⟨17, _⟩ => ⟨S1x256x1, .f32⟩
  | .hbm, ⟨18, _⟩ => ⟨S1x256x1, .f32⟩
  | .hbm, ⟨19, _⟩ => ⟨S1x256x1024, .f32⟩
  | .hbm, ⟨20, _⟩ => ⟨S1x256x1024, .f32⟩
  | .hbm, ⟨21, _⟩ => ⟨S1x1x1024, .f32⟩
  | .hbm, ⟨22, _⟩ => ⟨S1x256x1024, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x1024, .f32⟩
  | .hbm, ⟨27, _⟩ => ⟨S1x1x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1024, .f32⟩
  | .hbm, ⟨32, _⟩ => ⟨S1x256x1024, .f32⟩
  | .hbm, ⟨33, _⟩ => ⟨S_, .f32⟩
  | .hbm, ⟨34, _⟩ => ⟨S1x256, .f32⟩
  | .hbm, ⟨35, _⟩ => ⟨S1x256x1, .f32⟩
  | .hbm, ⟨36, _⟩ => ⟨S1x256x1024, .f32⟩
  | .hbm, ⟨37, _⟩ => ⟨S1x256x1024, .f32⟩
  | .hbm, ⟨38, _⟩ => ⟨S1x256x1, .f32⟩
  | .hbm, ⟨39, _⟩ => ⟨S_, .f32⟩
  | .hbm, ⟨40, _⟩ => ⟨S1x256x1, .f32⟩
  | .hbm, ⟨41, _⟩ => ⟨S1x256x1, .f32⟩
  | .hbm, ⟨42, _⟩ => ⟨S_, .f32⟩
  | .hbm, ⟨43, _⟩ => ⟨S256, .f32⟩
  | .hbm, ⟨44, _⟩ => ⟨S1x256, .f32⟩
  | .hbm, ⟨45, _⟩ => ⟨S1x256x1024, .f32⟩
  | .hbm, ⟨46, _⟩ => ⟨S1x256x1024, .f32⟩
  | .hbm, ⟨47, _⟩ => ⟨S1x256x1024, .f32⟩
  | .hbm, ⟨48, _⟩ => ⟨S1x256x1024, .f32⟩
  | .hbm, ⟨49, _⟩ => ⟨S1x256x1024, .f32⟩
  | .hbm, ⟨50, _⟩ => ⟨S1x1024, .f32⟩
  | .hbm, ⟨51, _⟩ => ⟨S256x1024, .f32⟩
  | .hbm, ⟨52, _⟩ => ⟨S256x1024, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel2.lean ====
abbrev S1x2048x8x64 : Shape := ⟨4, ![1, 2048, 8, 64]⟩
abbrev S1x2048x2x64 : Shape := ⟨4, ![1, 2048, 2, 64]⟩
abbrev S1x2048x512 : Shape := ⟨3, ![1, 2048, 512]⟩
abbrev S2048x512 : Shape := ⟨2, ![2048, 512]⟩
abbrev S2048x2x64 : Shape := ⟨3, ![2048, 2, 64]⟩
abbrev S2x2048x64 : Shape := ⟨3, ![2, 2048, 64]⟩
abbrev S256x256 : Shape := ⟨2, ![256, 256]⟩
abbrev S1x2048x64 : Shape := ⟨3, ![1, 2048, 64]⟩
abbrev S2048x64 : Shape := ⟨2, ![2048, 64]⟩
abbrev S2048x128 : Shape := ⟨2, ![2048, 128]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S2x64x2048 : Shape := ⟨3, ![2, 64, 2048]⟩
abbrev S512x128 : Shape := ⟨2, ![512, 128]⟩
abbrev S1x64x2048 : Shape := ⟨3, ![1, 64, 2048]⟩
abbrev S64x2048 : Shape := ⟨2, ![64, 2048]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 24
  | .smem => 0
  | _ => 0

abbrev bufTy : (tb : Table) → Fin (tcTables nBuf tb) → BufTy
  | .hbm, ⟨0, _⟩ => ⟨S1x2048x8x64, .f32⟩
  | .hbm, ⟨1, _⟩ => ⟨S1x2048x2x64, .f32⟩
  | .hbm, ⟨2, _⟩ => ⟨S1x2048x2x64, .f32⟩
  | .hbm, ⟨3, _⟩ => ⟨S1x2048x512, .f32⟩
  | .hbm, ⟨4, _⟩ => ⟨S2048x512, .f32⟩
  | .hbm, ⟨5, _⟩ => ⟨S2048x512, .bf16⟩
  | .hbm, ⟨6, _⟩ => ⟨S2048x2x64, .f32⟩
  | .hbm, ⟨7, _⟩ => ⟨S2048x2x64, .bf16⟩
  | .hbm, ⟨8, _⟩ => ⟨S2x2048x64, .bf16⟩
  | .hbm, ⟨9, _⟩ => ⟨S2048x2x64, .f32⟩
  | .hbm, ⟨10, _⟩ => ⟨S2048x2x64, .bf16⟩
  | .hbm, ⟨11, _⟩ => ⟨S2x2048x64, .bf16⟩
  | .hbm, ⟨12, _⟩ => ⟨S2048x512, .bf16⟩
  | .hbm, ⟨13, _⟩ => ⟨S2048x512, .f32⟩
  | .hbm, ⟨14, _⟩ => ⟨S2048x512, .bf16⟩
  | .hbm, ⟨15, _⟩ => ⟨S2048x512, .f32⟩
  | .hbm, ⟨16, _⟩ => ⟨S2x64x2048, .f32⟩
  | .hbm, ⟨17, _⟩ => ⟨S2x64x2048, .f32⟩
  | .local _ .vmem, ⟨0, _⟩ => ⟨S256x256, .bf16⟩
  | .local _ .vmem, ⟨1, _⟩ => ⟨S256x256, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S256x256, .bf16⟩
  | .local _ .vmem, ⟨7, _⟩ => ⟨S256x256, .bf16⟩
  | .local _ .vmem, ⟨8, _⟩ => ⟨S512x128, .bf16⟩
  | .local _ .vmem, ⟨9, _⟩ => ⟨S512x128, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .f32⟩
  | .local _ .vmem, ⟨23, _⟩ => ⟨S1x64x2048, .f32⟩
  | _, _ => ⟨S1x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![2, 4, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S1x64x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]
-- ==== Reference2Ideal.lean ====
abbrev S1x2048x8x64 : Shape := ⟨4, ![1, 2048, 8, 64]⟩
abbrev S1x2048x2x64 : Shape := ⟨4, ![1, 2048, 2, 64]⟩
abbrev S1x2048x512 : Shape := ⟨3, ![1, 2048, 512]⟩
abbrev S1x2048x2x4x64 : Shape := ⟨5, ![1, 2048, 2, 4, 64]⟩
abbrev S1x2x2048x2048x4 : Shape := ⟨5, ![1, 2, 2048, 2048, 4]⟩
abbrev S1x2x4x2048x2048 : Shape := ⟨5, ![1, 2, 4, 2048, 2048]⟩
abbrev S_ : Shape := ⟨0, ![]⟩
abbrev S1x2x4x2048 : Shape := ⟨4, ![1, 2, 4, 2048]⟩
abbrev S1x2x4x2048x1 : Shape := ⟨5, ![1, 2, 4, 2048, 1]⟩
abbrev S1x2x64x4x2048 : Shape := ⟨5, ![1, 2, 64, 4, 2048]⟩
abbrev S1x2x64x2048 : Shape := ⟨4, ![1, 2, 64, 2048]⟩
abbrev S2x4x2048 : Shape := ⟨3, ![2, 4, 2048]⟩
abbrev S1x2x2048x4x64 : Shape := ⟨5, ![1, 2, 2048, 4, 64]⟩
abbrev S1x2x2048x64 : Shape := ⟨4, ![1, 2, 2048, 64]⟩
abbrev S2048x512 : Shape := ⟨2, ![2048, 512]⟩
abbrev S2048x8x64 : Shape := ⟨3, ![2048, 8, 64]⟩
abbrev S2048x2x64 : Shape := ⟨3, ![2048, 2, 64]⟩
abbrev S2x64x2048 : Shape := ⟨3, ![2, 64, 2048]⟩

abbrev nBuf : Space → Nat
  | .hbm => 88
  | .vmem => 0
  | .smem => 0
  | _ => 0

abbrev bufTy : (tb : Table) → Fin (tcTables nBuf tb) → BufTy
  | .hbm, ⟨0, _⟩ => ⟨S1x2048x8x64, .f32⟩
  | .hbm, ⟨1, _⟩ => ⟨S1x2048x2x64, .f32⟩
  | .hbm, ⟨2, _⟩ => ⟨S1x2048x2x64, .f32⟩
  | .hbm, ⟨3, _⟩ => ⟨S1x2048x512, .f32⟩
  | .hbm, ⟨4, _⟩ => ⟨S1x2048x2x4x64, .f32⟩
  | .hbm, ⟨5, _⟩ => ⟨S1x2x2048x2048x4, .f32⟩
  | .hbm, ⟨6, _⟩ => ⟨S1x2x4x2048x2048, .f32⟩
  | .hbm, ⟨7, _⟩ => ⟨S_, .f32⟩
  | .hbm, ⟨8, _⟩ => ⟨S1x2x4x2048x2048, .f32⟩
  | .hbm, ⟨9, _⟩ => ⟨S1x2x4x2048x2048, .f32⟩
  | .hbm, ⟨10, _⟩ => ⟨S_, .f32⟩
  | .hbm, ⟨11, _⟩ => ⟨S1x2x4x2048, .f32⟩
  | .hbm, ⟨12, _⟩ => ⟨S1x2x4x2048x1, .f32⟩
  | .hbm, ⟨13, _⟩ => ⟨S1x2x4x2048x2048, .f32⟩
  | .hbm, ⟨14, _⟩ => ⟨S1x2x4x2048x2048, .i1⟩
  | .hbm, ⟨15, _⟩ => ⟨S1x2x4x2048x2048, .f32⟩
  | .hbm, ⟨16, _⟩ => ⟨S_, .f32⟩
  | .hbm, ⟨17, _⟩ => ⟨S1x2x4x2048, .f32⟩
  | .hbm, ⟨18, _⟩ => ⟨S_, .f32⟩
  | .hbm, ⟨19, _⟩ => ⟨S1x2x4x2048, .f32⟩
  | .hbm, ⟨20, _⟩ => ⟨S1x2x4x2048, .f32⟩
  | .hbm, ⟨21, _⟩ => ⟨S_, .f32⟩
  | .hbm, ⟨22, _⟩ => ⟨S1x2x4x2048, .f32⟩
  | .hbm, ⟨23, _⟩ => ⟨S1x2x4x2048, .i1⟩
  | .hbm, ⟨24, _⟩ => ⟨S_, .f32⟩
  | .hbm, ⟨25, _⟩ => ⟨S1x2x4x2048, .f32⟩
  | .hbm, ⟨26, _⟩ => ⟨S1x2x4x2048, .i1⟩
  | .hbm, ⟨27, _⟩ => ⟨S_, .f32⟩
  | .hbm, ⟨28, _⟩ => ⟨S1x2x4x2048, .f32⟩
  | .hbm, ⟨29, _⟩ => ⟨S_, .f32⟩
  | .hbm, ⟨30, _⟩ => ⟨S1x2x4x2048, .f32⟩
  | .hbm, ⟨31, _⟩ => ⟨S_, .f32⟩
  | .hbm, ⟨32, _⟩ => ⟨S1x2x4x2048, .f32⟩
  | .hbm, ⟨33, _⟩ => ⟨S1x2x4x2048, .f32⟩
  | .hbm, ⟨34, _⟩ => ⟨S1x2x4x2048, .f32⟩
  | .hbm, ⟨35, _⟩ => ⟨S1x2x4x2048x1, .f32⟩
  | .hbm, ⟨36, _⟩ => ⟨S1x2x4x2048x2048, .f32⟩
  | .hbm, ⟨37, _⟩ => ⟨S1x2x4x2048x2048, .f32⟩
  | .hbm, ⟨38, _⟩ => ⟨S1x2x4x2048x2048, .f32⟩
  | .hbm, ⟨39, _⟩ => ⟨S_, .f32⟩
  | .hbm, ⟨40, _⟩ => ⟨S1x2x4x2048, .f32⟩
  | .hbm, ⟨41, _⟩ => ⟨S1x2x4x2048x1, .f32⟩
  | .hbm, ⟨42, _⟩ => ⟨S1x2x4x2048x2048, .f32⟩
  | .hbm, ⟨43, _⟩ => ⟨S1x2x4x2048x2048, .f32⟩
  | .hbm, ⟨44, _⟩ => ⟨S1x2x4x2048x1, .f32⟩
  | .hbm, ⟨45, _⟩ => ⟨S_, .f32⟩
  | .hbm, ⟨46, _⟩ => ⟨S1x2x4x2048x1, .f32⟩
  | .hbm, ⟨47, _⟩ => ⟨S1x2x4x2048x1, .f32⟩
  | .hbm, ⟨48, _⟩ => ⟨S1x2x64x4x2048, .f32⟩
  | .hbm, ⟨49, _⟩ => ⟨S1x2048x2x4x64, .f32⟩
  | .hbm, ⟨50, _⟩ => ⟨S1x2048x512, .f32⟩
  | .hbm, ⟨51, _⟩ => ⟨S1x2048x2x4x64, .f32⟩
  | .hbm, ⟨52, _⟩ => ⟨S1x2x64x4x2048, .f32⟩
  | .hbm, ⟨53, _⟩ => ⟨S1x2x4x2048x2048, .f32⟩
  | .hbm, ⟨54, _⟩ => ⟨S1x2x64x2048, .f32⟩
  | .hbm, ⟨55, _⟩ => ⟨S1x2048x2x64, .f32⟩
  | .hbm, ⟨56, _⟩ => ⟨S1x2x4x2048x2048, .f32⟩
  | .hbm, ⟨57, _⟩ => ⟨S1x2x4x2048x2048, .f32⟩
  | .hbm, ⟨58, _⟩ => ⟨S1x2x4x2048x2048, .f32⟩
  | .hbm, ⟨59, _⟩ => ⟨S_, .f32⟩
  | .hbm, ⟨60, _⟩ => ⟨S1x2x4x2048, .f32⟩
  | .hbm, ⟨61, _⟩ => ⟨S1x2x4x2048x1, .f32⟩
  | .hbm, ⟨62, _⟩ => ⟨S1x2x4x2048x1, .f32⟩
  | .hbm, ⟨63, _⟩ => ⟨S1x2x4x2048x2048, .f32⟩
  | .hbm, ⟨64, _⟩ => ⟨S1x2x4x2048x2048, .f32⟩
  | .hbm, ⟨65, _⟩ => ⟨S_, .f32⟩
  | .hbm, ⟨66, _⟩ => ⟨S2x4x2048, .f32⟩
  | .hbm, ⟨67, _⟩ => ⟨S1x2x4x2048, .f32⟩
  | .hbm, ⟨68, _⟩ => ⟨S1x2x4x2048x2048, .f32⟩
  | .hbm, ⟨69, _⟩ => ⟨S1x2x4x2048x2048, .f32⟩
  | .hbm, ⟨70, _⟩ => ⟨S1x2x4x2048x2048, .f32⟩
  | .hbm, ⟨71, _⟩ => ⟨S_, .f32⟩
  | .hbm, ⟨72, _⟩ => ⟨S1x2x4x2048x2048, .f32⟩
  | .hbm, ⟨73, _⟩ => ⟨S1x2x4x2048x2048, .f32⟩
  | .hbm, ⟨74, _⟩ => ⟨S1x2x2048x2048x4, .f32⟩
  | .hbm, ⟨75, _⟩ => ⟨S1x2x2048x4x64, .f32⟩
  | .hbm, ⟨76, _⟩ => ⟨S1x2048x2x4x64, .f32⟩
  | .hbm, ⟨77, _⟩ => ⟨S1x2x2048x64, .f32⟩
  | .hbm, ⟨78, _⟩ => ⟨S1x2048x2x64, .f32⟩
  | .hbm, ⟨79, _⟩ => ⟨S1x2048x8x64, .f32⟩
  | .hbm, ⟨80, _⟩ => ⟨S2048x512, .f32⟩
  | .hbm, ⟨81, _⟩ => ⟨S2048x512, .bf16⟩
  | .hbm, ⟨82, _⟩ => ⟨S2048x8x64, .f32⟩
  | .hbm, ⟨83, _⟩ => ⟨S2048x512, .f32⟩
  | .hbm, ⟨84, _⟩ => ⟨S2048x2x64, .f32⟩
  | .hbm, ⟨85, _⟩ => ⟨S2x64x2048, .f32⟩
  | .hbm, ⟨86, _⟩ => ⟨S2048x2x64, .f32⟩
  | .hbm, ⟨87, _⟩ => ⟨S2x64x2048, .f32⟩
  | _, _ => ⟨S1x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel3.lean ====
abbrev S1x2048x1024 : Shape := ⟨3, ![1, 2048, 1024]⟩
abbrev S1x256x2048 : Shape := ⟨3, ![1, 256, 2048]⟩
abbrev S2048x1024 : Shape := ⟨2, ![2048, 1024]⟩
abbrev S256x2048 : Shape := ⟨2, ![256, 2048]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1x256x2048, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S256x2048, .f32⟩
  | .hbm, ⟨6, _⟩ => ⟨S256x2048, .bf16⟩
  | .hbm, ⟨7, _⟩ => ⟨S2048x1024, .f32⟩
  | .hbm, ⟨8, _⟩ => ⟨S2048x1024, .bf16⟩
  | .hbm, ⟨9, _⟩ => ⟨S2048x1024, .bf16⟩
  | .hbm, ⟨10, _⟩ => ⟨S256x1024, .f32⟩
  | .hbm, ⟨11, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S1x2048x1024 : Shape := ⟨3, ![1, 2048, 1024]⟩
abbrev S1x256x2048 : Shape := ⟨3, ![1, 256, 2048]⟩
abbrev S1x256x2x4x256 : Shape := ⟨5, ![1, 256, 2, 4, 256]⟩
abbrev S1x256x1x4x256 : Shape := ⟨5, ![1, 256, 1, 4, 256]⟩
abbrev S1x256x4x256 : Shape := ⟨4, ![1, 256, 4, 256]⟩
abbrev S1x2048x4x256 : Shape := ⟨4, ![1, 2048, 4, 256]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x256x2048 : Shape := ⟨4, ![1, 4, 256, 2048]⟩
abbrev S1x4x256x256 : Shape := ⟨4, ![1, 4, 256, 256]⟩
abbrev S4x2048 : Shape := ⟨2, ![4, 2048]⟩
abbrev S2048x1024 : Shape := ⟨2, ![2048, 1024]⟩
abbrev S256x1024 : Shape := ⟨2, ![256, 1024]⟩

abbrev nBuf : Space → Nat
  | .hbm => 86
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x256x2048, .f32⟩
  | .hbm, ⟨2, _⟩ => ⟨S1x2048x1024, .f32⟩
  | .hbm, ⟨3, _⟩ => ⟨S1x256x2x4x256, .f32⟩
  | .hbm, ⟨4, _⟩ => ⟨S1x256x1x4x256, .f32⟩
  | .hbm, ⟨5, _⟩ => ⟨S1x256x4x256, .f32⟩
  | .hbm, ⟨6, _⟩ => ⟨S1x256x1x4x256, .f32⟩
  | .hbm, ⟨7, _⟩ => ⟨S1x256x4x256, .f32⟩
  | .hbm, ⟨8, _⟩ => ⟨S1x2048x4x256, .f32⟩
  | .hbm, ⟨9, _⟩ => ⟨S1x4x2048x256, .f32⟩
  | .hbm, ⟨10, _⟩ => ⟨S_, .f32⟩
  | .hbm, ⟨11, _⟩ => ⟨S1x4x2048x256, .f32⟩
  | .hbm, ⟨12, _⟩ => ⟨S1x4x2048x256, .f32⟩
  | .hbm, ⟨13, _⟩ => ⟨S_, .f32⟩
  | .hbm, ⟨14, _⟩ => ⟨S1x4x2048, .f32⟩
  | .hbm, ⟨15, _⟩ => ⟨S1x4x2048x1, .f32⟩
  | .hbm, ⟨16, _⟩ => ⟨S1x4x2048x256, .f32⟩
  | .hbm, ⟨17, _⟩ => ⟨S1x4x2048x256, .i1⟩
  | .hbm, ⟨18, _⟩ => ⟨S1x4x2048x256, .f32⟩
  | .hbm, ⟨19, _⟩ => ⟨S_, .f32⟩
  | .hbm, ⟨20, _⟩ => ⟨S1x4x2048, .f32⟩
  | .hbm, ⟨21, _⟩ => ⟨S_, .f32⟩
  | .hbm, ⟨22, _⟩ => ⟨S1x4x2048, .f32⟩
  | .hbm, ⟨23, _⟩ => ⟨S1x4x2048, .f32⟩
  | .hbm, ⟨24, _⟩ => ⟨S_, .f32⟩
  | .hbm, ⟨25, _⟩ => ⟨S1x4x2048, .f32⟩
  | .hbm, ⟨26, _⟩ => ⟨S1x4x2048, .i1⟩
  | .hbm, ⟨27, _⟩ => ⟨S_, .f32⟩
  | .hbm, ⟨28, _⟩ => ⟨S1x4x2048, .f32⟩
  | .hbm, ⟨29, _⟩ => ⟨S1x4x2048, .i1⟩
  | .hbm, ⟨30, _⟩ => ⟨S_, .f32⟩
  | .hbm, ⟨31, _⟩ => ⟨S1x4x2048, .f32⟩
  | .hbm, ⟨32, _⟩ => ⟨S_, .f32⟩
  | .hbm, ⟨33, _⟩ => ⟨S1x4x2048, .f32⟩
  | .hbm, ⟨34, _⟩ => ⟨S_, .f32⟩
  | .hbm, ⟨35, _⟩ => ⟨S1x4x2048, .f32⟩
  | .hbm, ⟨36, _⟩ => ⟨S1x4x2048, .f32⟩
  | .hbm, ⟨37, _⟩ => ⟨S1x4x2048, .f32⟩
  | .hbm, ⟨38, _⟩ => ⟨S1x4x2048x1, .f32⟩
  | .hbm, ⟨39, _⟩ => ⟨S1x4x2048x256, .f32⟩
  | .hbm, ⟨40, _⟩ => ⟨S1x4x2048x256, .f32⟩
  | .hbm, ⟨41, _⟩ => ⟨S1x4x2048x256, .f32⟩
  | .hbm, ⟨42, _⟩ => ⟨S_, .f32⟩
  | .hbm, ⟨43, _⟩ => ⟨S1x4x2048, .f32⟩
  | .hbm, ⟨44, _⟩ => ⟨S1x4x2048x1, .f32⟩
  | .hbm, ⟨45, _⟩ => ⟨S1x4x2048x256, .f32⟩
  | .hbm, ⟨46, _⟩ => ⟨S1x4x2048x256, .f32⟩
  | .hbm, ⟨47, _⟩ => ⟨S1x4x2048x1, .f32⟩
  | .hbm, ⟨48, _⟩ => ⟨S_, .f32⟩
  | .hbm, ⟨49, _⟩ => ⟨S1x4x2048x1, .f32⟩
  | .hbm, ⟨50, _⟩ => ⟨S1x4x2048x1, .f32⟩
  | .hbm, ⟨51, _⟩ => ⟨S1x4x256x2048, .f32⟩
  | .hbm, ⟨52, _⟩ => ⟨S1x2048x4x256, .f32⟩
  | .hbm, ⟨53, _⟩ => ⟨S1x2048x1024, .f32⟩
  | .hbm, ⟨54, _⟩ => ⟨S1x2048x4x256, .f32⟩
  | .hbm, ⟨55, _⟩ => ⟨S1x4x256x2048, .f32⟩
  | .hbm, ⟨56, _⟩ => ⟨S1x4x2048x256, .f32⟩
  | .hbm, ⟨57, _⟩ => ⟨S1x4x256x256, .f32⟩
  | .hbm, ⟨58, _⟩ => ⟨S1x256x4x256, .f32⟩
  | .hbm, ⟨59, _⟩ => ⟨S1x4x2048x256, .f32⟩
  | .hbm, ⟨60, _⟩ => ⟨S1x4x2048x256, .f32⟩
  | .hbm, ⟨61, _⟩ => ⟨S1x4x2048x256, .f32⟩
  | .hbm, ⟨62, _⟩ => ⟨S_, .f32⟩
  | .hbm, ⟨63, _⟩ => ⟨S1x4x2048, .f32⟩
  | .hbm, ⟨64, _⟩ => ⟨S1x4x2048x1, .f32⟩
  | .hbm, ⟨65, _⟩ => ⟨S1x4x2048x1, .f32⟩
  | .hbm, ⟨66, _⟩ => ⟨S1x4x2048x256, .f32⟩
  | .hbm, ⟨67, _⟩ => ⟨S1x4x2048x256, .f32⟩
  | .hbm, ⟨68, _⟩ => ⟨S_, .f32⟩
  | .hbm, ⟨69, _⟩ => ⟨S4x2048, .f32⟩
  | .hbm, ⟨70, _⟩ => ⟨S1x4x2048, .f32⟩
  | .hbm, ⟨71, _⟩ => ⟨S1x4x2048x256, .f32⟩
  | .hbm, ⟨72, _⟩ => ⟨S1x4x2048x256, .f32⟩
  | .hbm, ⟨73, _⟩ => ⟨S1x4x2048x256, .f32⟩
  | .hbm, ⟨74, _⟩ => ⟨S_, .f32⟩
  | .hbm, ⟨75, _⟩ => ⟨S1x4x2048x256, .f32⟩
  | .hbm, ⟨76, _⟩ => ⟨S1x4x2048x256, .f32⟩
  | .hbm, ⟨77, _⟩ => ⟨S1x4x256x256, .f32⟩
  | .hbm, ⟨78, _⟩ => ⟨S1x256x4x256, .f32⟩
  | .hbm, ⟨79, _⟩ => ⟨S1x4x2048x256, .f32⟩
  | .hbm, ⟨80, _⟩ => ⟨S1x2048x4x256, .f32⟩
  | .hbm, ⟨81, _⟩ => ⟨S1x2048x1024, .f32⟩
  | .hbm, ⟨82, _⟩ => ⟨S2048x1024, .f32⟩
  | .hbm, ⟨83, _⟩ => ⟨S2048x1024, .bf16⟩
  | .hbm, ⟨84, _⟩ => ⟨S256x1024, .f32⟩
  | .hbm, ⟨85, _⟩ => ⟨S256x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel4.lean ====
abbrev S1x2048x1024 : Shape := ⟨3, ![1, 2048, 1024]⟩
abbrev S1x256x2048 : Shape := ⟨3, ![1, 256, 2048]⟩
abbrev S2048x1024 : Shape := ⟨2, ![2048, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1x256x2048, .f32⟩
  | .hbm, ⟨2, _⟩ => ⟨S2048x1024, .f32⟩
  | .hbm, ⟨3, _⟩ => ⟨S2048x1024, .bf16⟩
  | .hbm, ⟨4, _⟩ => ⟨S256x2048, .f32⟩
  | .hbm, ⟨5, _⟩ => ⟨S256x2048, .bf16⟩
  | .hbm, ⟨6, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S512x256, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S1x2048x1024 : Shape := ⟨3, ![1, 2048, 1024]⟩
abbrev S1x256x2048 : Shape := ⟨3, ![1, 256, 2048]⟩
abbrev S1x256x2x4x256 : Shape := ⟨5, ![1, 256, 2, 4, 256]⟩
abbrev S1x256x1x4x256 : Shape := ⟨5, ![1, 256, 1, 4, 256]⟩
abbrev S1x256x4x256 : Shape := ⟨4, ![1, 256, 4, 256]⟩
abbrev S1x2048x4x256 : Shape := ⟨4, ![1, 2048, 4, 256]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x256x2048 : Shape := ⟨4, ![1, 4, 256, 2048]⟩
abbrev S2048x1024 : Shape := ⟨2, ![2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x256x2048, .f32⟩
  | .hbm, ⟨2, _⟩ => ⟨S1x256x2x4x256, .f32⟩
  | .hbm, ⟨3, _⟩ => ⟨S1x256x1x4x256, .f32⟩
  | .hbm, ⟨4, _⟩ => ⟨S1x256x4x256, .f32⟩
  | .hbm, ⟨5, _⟩ => ⟨S1x256x1x4x256, .f32⟩
  | .hbm, ⟨6, _⟩ => ⟨S1x256x4x256, .f32⟩
  | .hbm, ⟨7, _⟩ => ⟨S1x2048x4x256, .f32⟩
  | .hbm, ⟨8, _⟩ => ⟨S1x4x2048x256, .f32⟩
  | .hbm, ⟨9, _⟩ => ⟨S_, .f32⟩
  | .hbm, ⟨10, _⟩ => ⟨S1x4x2048x256, .f32⟩
  | .hbm, ⟨11, _⟩ => ⟨S1x4x2048x256, .f32⟩
  | .hbm, ⟨12, _⟩ => ⟨S_, .f32⟩
  | .hbm, ⟨13, _⟩ => ⟨S1x4x2048, .f32⟩
  | .hbm, ⟨14, _⟩ => ⟨S_, .f32⟩
  | .hbm, ⟨15, _⟩ => ⟨S1x4x2048, .f32⟩
  | .hbm, ⟨16, _⟩ => ⟨S1x4x2048, .f32⟩
  | .hbm, ⟨17, _⟩ => ⟨S1x4x2048x1, .f32⟩
  | .hbm, ⟨18, _⟩ => ⟨S1x4x2048x256, .f32⟩
  | .hbm, ⟨19, _⟩ => ⟨S1x4x2048x256, .f32⟩
  | .hbm, ⟨20, _⟩ => ⟨S1x4x2048x256, .f32⟩
  | .hbm, ⟨21, _⟩ => ⟨S_, .f32⟩
  | .hbm, ⟨22, _⟩ => ⟨S1x4x2048, .f32⟩
  | .hbm, ⟨23, _⟩ => ⟨S1x4x2048x1, .f32⟩
  | .hbm, ⟨24, _⟩ => ⟨S1x4x2048x256, .f32⟩
  | .hbm, ⟨25, _⟩ => ⟨S1x4x2048x256, .f32⟩
  | .hbm, ⟨26, _⟩ => ⟨S1x4x256x2048, .f32⟩
  | .hbm, ⟨27, _⟩ => ⟨S1x2048x4x256, .f32⟩
  | .hbm, ⟨28, _⟩ => ⟨S1x2048x1024, .f32⟩
  | .hbm, ⟨29, _⟩ => ⟨S2048x1024, .f32⟩
  | .hbm, ⟨30, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel5.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S2048x5632 : Shape := ⟨2, ![2048, 5632]⟩
abbrev S2048x2816 : Shape := ⟨2, ![2048, 2816]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x1024 : Shape := ⟨2, ![2048, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 17
  | .vmem => 20
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1x2048x5632, .f32⟩
  | .hbm, ⟨4, _⟩ => ⟨S1x2048x1024, .f32⟩
  | .hbm, ⟨5, _⟩ => ⟨S2048x5632, .f32⟩
  | .hbm, ⟨6, _⟩ => ⟨S2048x5632, .bf16⟩
  | .hbm, ⟨7, _⟩ => ⟨S2048x2816, .bf16⟩
  | .hbm, ⟨8, _⟩ => ⟨S2048x2816, .bf16⟩
  | .hbm, ⟨9, _⟩ => ⟨S1024x5632, .f32⟩
  | .hbm, ⟨10, _⟩ => ⟨S1024x4x1408, .f32⟩
  | .hbm, ⟨11, _⟩ => ⟨S4x1024x1408, .f32⟩
  | .hbm, ⟨12, _⟩ => ⟨S4x1024x1408, .bf16⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S2048 : Shape := ⟨1, ![2048]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1x2048x5632, .f32⟩
  | .hbm, ⟨4, _⟩ => ⟨S1x2048x1024, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x5632, .f32⟩
  | .hbm, ⟨27, _⟩ => ⟨S1x2048x5632, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x1024, .f32⟩
  | .hbm, ⟨57, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel6.lean ====
abbrev S2x2048x512 : Shape := ⟨3, ![2, 2048, 512]⟩
abbrev S2048x3328 : Shape := ⟨2, ![2048, 3328]⟩
abbrev S1x128 : Shape := ⟨2, ![1, 128]⟩
abbrev S2048x1024 : Shape := ⟨2, ![2048, 1024]⟩
abbrev S2048x512 : Shape := ⟨2, ![2048, 512]⟩
abbrev S2x1x256 : Shape := ⟨3, ![2, 1, 256]⟩
abbrev S1x512x256 : Shape := ⟨3, ![1, 512, 256]⟩
abbrev S512x256 : Shape := ⟨2, ![512, 256]⟩
abbrev S1x1x256 : Shape := ⟨3, ![1, 1, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128 : Shape := ⟨1, ![128]⟩
abbrev S1x1x128 : Shape := ⟨3, ![1, 1, 128]⟩

abbrev nBuf : Space → Nat
  | .hbm => 7
  | .vmem => 15
  | .smem => 0
  | _ => 0

abbrev bufTy : (tb : Table) → Fin (tcTables nBuf tb) → BufTy
  | .hbm, ⟨0, _⟩ => ⟨S2x2048x512, .f32⟩
  | .hbm, ⟨1, _⟩ => ⟨S2048x3328, .f32⟩
  | .hbm, ⟨2, _⟩ => ⟨S1x128, .f32⟩
  | .hbm, ⟨3, _⟩ => ⟨S2048x1024, .f32⟩
  | .hbm, ⟨4, _⟩ => ⟨S2048x512, .f32⟩
  | .hbm, ⟨5, _⟩ => ⟨S2048x512, .bf16⟩
  | .hbm, ⟨6, _⟩ => ⟨S2x1x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S512x256, .f32⟩
  | .local _ .vmem, ⟨5, _⟩ => ⟨S512x256, .f32⟩
  | .local _ .vmem, ⟨6, _⟩ => ⟨S1x128, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .bf16⟩
  | .local _ .vmem, ⟨12, _⟩ => ⟨S512x256, .bf16⟩
  | .local _ .vmem, ⟨13, _⟩ => ⟨S1x1x256, .f32⟩
  | .local _ .vmem, ⟨14, _⟩ => ⟨S1x1x256, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S2x2048x512 : Shape := ⟨3, ![2, 2048, 512]⟩
abbrev S2048x3328 : Shape := ⟨2, ![2048, 3328]⟩
abbrev S1x128 : Shape := ⟨2, ![1, 128]⟩
abbrev S2048x1024 : Shape := ⟨2, ![2048, 1024]⟩
abbrev S4x128 : Shape := ⟨2, ![4, 128]⟩
abbrev S1x2048x512 : Shape := ⟨3, ![1, 2048, 512]⟩
abbrev S2048x512 : Shape := ⟨2, ![2048, 512]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x4x128 : Shape := ⟨3, ![1, 4, 128]⟩
abbrev S2x1x256 : Shape := ⟨3, ![2, 1, 256]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2048x3328, .f32⟩
  | .hbm, ⟨2, _⟩ => ⟨S1x128, .f32⟩
  | .hbm, ⟨3, _⟩ => ⟨S2048x1024, .f32⟩
  | .hbm, ⟨4, _⟩ => ⟨S4x128, .f32⟩
  | .hbm, ⟨5, _⟩ => ⟨S1x2048x512, .f32⟩
  | .hbm, ⟨6, _⟩ => ⟨S2048x512, .f32⟩
  | .hbm, ⟨7, _⟩ => ⟨S1x2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x4x128, .f32⟩
  | .hbm, ⟨12, _⟩ => ⟨S2048x4x128, .f32⟩
  | .hbm, ⟨13, _⟩ => ⟨S_, .f32⟩
  | .hbm, ⟨14, _⟩ => ⟨S2048x4, .f32⟩
  | .hbm, ⟨15, _⟩ => ⟨S2048x4x1, .f32⟩
  | .hbm, ⟨16, _⟩ => ⟨S_, .f32⟩
  | .hbm, ⟨17, _⟩ => ⟨S2048x4x1, .f32⟩
  | .hbm, ⟨18, _⟩ => ⟨S2048x4x1, .f32⟩
  | .hbm, ⟨19, _⟩ => ⟨S_, .f32⟩
  | .hbm, ⟨20, _⟩ => ⟨S2048x4x1, .f32⟩
  | .hbm, ⟨21, _⟩ => ⟨S2048x4x1, .f32⟩
  | .hbm, ⟨22, _⟩ => ⟨S2048x4x1, .f32⟩
  | .hbm, ⟨23, _⟩ => ⟨S2048x4x1, .f32⟩
  | .hbm, ⟨24, _⟩ => ⟨S_, .f32⟩
  | .hbm, ⟨25, _⟩ => ⟨S2048x4x1, .f32⟩
  | .hbm, ⟨26, _⟩ => ⟨S2048x4x1, .f32⟩
  | .hbm, ⟨27, _⟩ => ⟨S2048x4x128, .f32⟩
  | .hbm, ⟨28, _⟩ => ⟨S2048x4x128, .f32⟩
  | .hbm, ⟨29, _⟩ => ⟨S1x4x128, .f32⟩
  | .hbm, ⟨30, _⟩ => ⟨S2048x4x128, .f32⟩
  | .hbm, ⟨31, _⟩ => ⟨S2048x4x128, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x4x128, .f32⟩
  | .hbm, ⟨55, _⟩ => ⟨S2048x4x128, .f32⟩
  | .hbm, ⟨56, _⟩ => ⟨S_, .f32⟩
  | .hbm, ⟨57, _⟩ => ⟨S4x128, .f32⟩
  | .hbm, ⟨58, _⟩ => ⟨S1x4x128, .f32⟩
  | .hbm, ⟨59, _⟩ => ⟨S2048x4x128, .f32⟩
  | .hbm, ⟨60, _⟩ => ⟨S2048x4x128, .f32⟩
  | .hbm, ⟨61, _⟩ => ⟨S_, .f32⟩
  | .hbm, ⟨62, _⟩ => ⟨S4x128, .f32⟩
  | .hbm, ⟨63, _⟩ => ⟨S2048x4x128, .f32⟩
  | .hbm, ⟨64, _⟩ => ⟨S_, .f32⟩
  | .hbm, ⟨65, _⟩ => ⟨S2048x4, .f32⟩
  | .hbm, ⟨66, _⟩ => ⟨S2048x4x1, .f32⟩
  | .hbm, ⟨67, _⟩ => ⟨S2048x4x128, .f32⟩
  | .hbm, ⟨68, _⟩ => ⟨S2048x4x128, .f32⟩
  | .hbm, ⟨69, _⟩ => ⟨S2048x4x1, .f32⟩
  | .hbm, ⟨70, _⟩ => ⟨S_, .f32⟩
  | .hbm, ⟨71, _⟩ => ⟨S2048x4x1, .f32⟩
  | .hbm, ⟨72, _⟩ => ⟨S2048x4x1, .f32⟩
  | .hbm, ⟨73, _⟩ => ⟨S_, .f32⟩
  | .hbm, ⟨74, _⟩ => ⟨S2048x4, .f32⟩
  | .hbm, ⟨75, _⟩ => ⟨S2048x4x128, .f32⟩
  | .hbm, ⟨76, _⟩ => ⟨S2048x4x128, .f32⟩
  | .hbm, ⟨77, _⟩ => ⟨S2048x4x128, .f32⟩
  | .hbm, ⟨78, _⟩ => ⟨S2048x4x128, .f32⟩
  | .hbm, ⟨79, _⟩ => ⟨S2048x4x128, .f32⟩
  | .hbm, ⟨80, _⟩ => ⟨S2048x512, .f32⟩
  | .hbm, ⟨81, _⟩ => ⟨S2048x512, .bf16⟩
  | .hbm, ⟨82, _⟩ => ⟨S2x1x256, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v25_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v25_1 : Ref sig .tc := ⟨.hbm, 44, rfl⟩
abbrev main_v25_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Kernel7.lean ====
abbrev S1x2048x5632 : Shape := ⟨3, ![1, 2048, 5632]⟩
abbrev S1x3x5632 : Shape := ⟨3, ![1, 3, 5632]⟩
abbrev S1x5632 : Shape := ⟨2, ![1, 5632]⟩
abbrev S1x2048x2816 : Shape := ⟨3, ![1, 2048, 2816]⟩
abbrev S2048x5632 : Shape := ⟨2, ![2048, 5632]⟩
abbrev S3x5632 : Shape := ⟨2, ![3, 5632]⟩
abbrev S2048x2816 : Shape := ⟨2, ![2048, 2816]⟩
abbrev S3x2816 : Shape := ⟨2, ![3, 2816]⟩
abbrev S1x2816 : Shape := ⟨2, ![1, 2816]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 13
  | .vmem => 26
  | .smem => 0
  | _ => 0

abbrev bufTy : (tb : Table) → Fin (tcTables nBuf tb) → BufTy
  | .hbm, ⟨0, _⟩ => ⟨S1x2048x5632, .f32⟩
  | .hbm, ⟨1, _⟩ => ⟨S1x3x5632, .f32⟩
  | .hbm, ⟨2, _⟩ => ⟨S1x5632, .f32⟩
  | .hbm, ⟨3, _⟩ => ⟨S1x2048x2816, .f32⟩
  | .hbm, ⟨4, _⟩ => ⟨S2048x5632, .f32⟩
  | .hbm, ⟨5, _⟩ => ⟨S3x5632, .f32⟩
  | .hbm, ⟨6, _⟩ => ⟨S2048x2816, .f32⟩
  | .hbm, ⟨7, _⟩ => ⟨S2048x2816, .bf16⟩
  | .hbm, ⟨8, _⟩ => ⟨S2048x2816, .bf16⟩
  | .hbm, ⟨9, _⟩ => ⟨S3x2816, .f32⟩
  | .hbm, ⟨10, _⟩ => ⟨S3x2816, .f32⟩
  | .hbm, ⟨11, _⟩ => ⟨S1x2816, .f32⟩
  | .hbm, ⟨12, _⟩ => ⟨S1x2816, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S1x2048x5632 : Shape := ⟨3, ![1, 2048, 5632]⟩
abbrev S1x3x5632 : Shape := ⟨3, ![1, 3, 5632]⟩
abbrev S1x5632 : Shape := ⟨2, ![1, 5632]⟩
abbrev S1x2048x2816 : Shape := ⟨3, ![1, 2048, 2816]⟩
abbrev S3x5632 : Shape := ⟨2, ![3, 5632]⟩
abbrev S5632 : Shape := ⟨1, ![5632]⟩
abbrev S_ : Shape := ⟨0, ![]⟩
abbrev S1x1x5632 : Shape := ⟨3, ![1, 1, 5632]⟩
abbrev S1x2050x5632 : Shape := ⟨3, ![1, 2050, 5632]⟩
abbrev S2048x5632 : Shape := ⟨2, ![2048, 5632]⟩
abbrev S2048x2816 : Shape := ⟨2, ![2048, 2816]⟩
abbrev S1x3x2816 : Shape := ⟨3, ![1, 3, 2816]⟩
abbrev S3x2816 : Shape := ⟨2, ![3, 2816]⟩
abbrev S1x2816 : Shape := ⟨2, ![1, 2816]⟩

abbrev nBuf : Space → Nat
  | .hbm => 122
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S1x3x5632, .f32⟩
  | .hbm, ⟨2, _⟩ => ⟨S1x5632, .f32⟩
  | .hbm, ⟨3, _⟩ => ⟨S1x2048x2816, .f32⟩
  | .hbm, ⟨4, _⟩ => ⟨S3x5632, .f32⟩
  | .hbm, ⟨5, _⟩ => ⟨S5632, .f32⟩
  | .hbm, ⟨6, _⟩ => ⟨S_, .f32⟩
  | .hbm, ⟨7, _⟩ => ⟨S1x1x5632, .f32⟩
  | .hbm, ⟨8, _⟩ => ⟨S1x2050x5632, .f32⟩
  | .hbm, ⟨9, _⟩ => ⟨S_, .f32⟩
  | .hbm, ⟨10, _⟩ => ⟨S1x1x5632, .f32⟩
  | .hbm, ⟨11, _⟩ => ⟨S_, .f32⟩
  | .hbm, ⟨12, _⟩ => ⟨S1x1x5632, .f32⟩
  | .hbm, ⟨13, _⟩ => ⟨S1x2048x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S1x2048x5632, .f32⟩
  | .hbm, ⟨18, _⟩ => ⟨S1x2048x5632, .f32⟩
  | .hbm, ⟨19, _⟩ => ⟨S1x1x5632, .f32⟩
  | .hbm, ⟨20, _⟩ => ⟨S1x2048x5632, .f32⟩
  | .hbm, ⟨21, _⟩ => ⟨S1x2048x5632, .f32⟩
  | .hbm, ⟨22, _⟩ => ⟨S1x2048x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S1x2048x5632, .f32⟩
  | .hbm, ⟨27, _⟩ => ⟨S1x2048x5632, .f32⟩
  | .hbm, ⟨28, _⟩ => ⟨S1x2048x5632, .f32⟩
  | .hbm, ⟨29, _⟩ => ⟨S1x2048x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S1x2048x5632, .f32⟩
  | .hbm, ⟨34, _⟩ => ⟨S1x2048x5632, .f32⟩
  | .hbm, ⟨35, _⟩ => ⟨S1x2048x5632, .f32⟩
  | .hbm, ⟨36, _⟩ => ⟨S1x2048x2816, .f32⟩
  | .hbm, ⟨37, _⟩ => ⟨S1x2048x2816, .f32⟩
  | .hbm, ⟨38, _⟩ => ⟨S1x2048x2816, .f32⟩
  | .hbm, ⟨39, _⟩ => ⟨S1x2048x2816, .f32⟩
  | .hbm, ⟨40, _⟩ => ⟨S_, .f32⟩
  | .hbm, ⟨41, _⟩ => ⟨S1x2048x2816, .f32⟩
  | .hbm, ⟨42, _⟩ => ⟨S1x2048x2816, .f32⟩
  | .hbm, ⟨43, _⟩ => ⟨S_, .f32⟩
  | .hbm, ⟨44, _⟩ => ⟨S1x2048x2816, .f32⟩
  | .hbm, ⟨45, _⟩ => ⟨S1x2048x2816, .f32⟩
  | .hbm, ⟨46, _⟩ => ⟨S_, .f32⟩
  | .hbm, ⟨47, _⟩ => ⟨S1x2048x2816, .f32⟩
  | .hbm, ⟨48, _⟩ => ⟨S1x2048x2816, .f32⟩
  | .hbm, ⟨49, _⟩ => ⟨S1x2048x2816, .f32⟩
  | .hbm, ⟨50, _⟩ => ⟨S1x2048x2816, .f32⟩
  | .hbm, ⟨51, _⟩ => ⟨S1x2048x2816, .f32⟩
  | .hbm, ⟨52, _⟩ => ⟨S1x2048x2816, .f32⟩
  | .hbm, ⟨53, _⟩ => ⟨S1x2048x2816, .f32⟩
  | .hbm, ⟨54, _⟩ => ⟨S1x2048x2816, .f32⟩
  | .hbm, ⟨55, _⟩ => ⟨S1x2048x2816, .f32⟩
  | .hbm, ⟨56, _⟩ => ⟨S1x2048x2816, .f32⟩
  | .hbm, ⟨57, _⟩ => ⟨S1x2048x2816, .f32⟩
  | .hbm, ⟨58, _⟩ => ⟨S1x2048x5632, .f32⟩
  | .hbm, ⟨59, _⟩ => ⟨S1x2048x5632, .f32⟩
  | .hbm, ⟨60, _⟩ => ⟨S_, .f32⟩
  | .hbm, ⟨61, _⟩ => ⟨S1x5632, .f32⟩
  | .hbm, ⟨62, _⟩ => ⟨S1x1x5632, .f32⟩
  | .hbm, ⟨63, _⟩ => ⟨S1x2048x5632, .f32⟩
  | .hbm, ⟨64, _⟩ => ⟨S1x2048x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S3x5632, .f32⟩
  | .hbm, ⟨70, _⟩ => ⟨S_, .f32⟩
  | .hbm, ⟨71, _⟩ => ⟨S1x2050x5632, .f32⟩
  | .hbm, ⟨72, _⟩ => ⟨S1x2048x5632, .f32⟩
  | .hbm, ⟨73, _⟩ => ⟨S_, .f32⟩
  | .hbm, ⟨74, _⟩ => ⟨S1x5632, .f32⟩
  | .hbm, ⟨75, _⟩ => ⟨S1x1x5632, .f32⟩
  | .hbm, ⟨76, _⟩ => ⟨S1x2048x5632, .f32⟩
  | .hbm, ⟨77, _⟩ => ⟨S1x2048x5632, .f32⟩
  | .hbm, ⟨78, _⟩ => ⟨S_, .f32⟩
  | .hbm, ⟨79, _⟩ => ⟨S5632, .f32⟩
  | .hbm, ⟨80, _⟩ => ⟨S1x5632, .f32⟩
  | .hbm, ⟨81, _⟩ => ⟨S_, .f32⟩
  | .hbm, ⟨82, _⟩ => ⟨S3x5632, .f32⟩
  | .hbm, ⟨83, _⟩ => ⟨S3x5632, .f32⟩
  | .hbm, ⟨84, _⟩ => ⟨S_, .f32⟩
  | .hbm, ⟨85, _⟩ => ⟨S1x2050x5632, .f32⟩
  | .hbm, ⟨86, _⟩ => ⟨S1x2050x5632, .f32⟩
  | .hbm, ⟨87, _⟩ => ⟨S_, .f32⟩
  | .hbm, ⟨88, _⟩ => ⟨S1x5632, .f32⟩
  | .hbm, ⟨89, _⟩ => ⟨S1x1x5632, .f32⟩
  | .hbm, ⟨90, _⟩ => ⟨S_, .f32⟩
  | .hbm, ⟨91, _⟩ => ⟨S5632, .f32⟩
  | .hbm, ⟨92, _⟩ => ⟨S1x2048x5632, .f32⟩
  | .hbm, ⟨93, _⟩ => ⟨S_, .f32⟩
  | .hbm, ⟨94, _⟩ => ⟨S1x5632, .f32⟩
  | .hbm, ⟨95, _⟩ => ⟨S1x1x5632, .f32⟩
  | .hbm, ⟨96, _⟩ => ⟨S1x2048x5632, .f32⟩
  | .hbm, ⟨97, _⟩ => ⟨S1x2048x5632, .f32⟩
  | .hbm, ⟨98, _⟩ => ⟨S_, .f32⟩
  | .hbm, ⟨99, _⟩ => ⟨S5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S_, .f32⟩
  | .hbm, ⟨105, _⟩ => ⟨S1x2050x5632, .f32⟩
  | .hbm, ⟨106, _⟩ => ⟨S1x2050x5632, .f32⟩
  | .hbm, ⟨107, _⟩ => ⟨S1x1x5632, .f32⟩
  | .hbm, ⟨108, _⟩ => ⟨S1x2048x5632, .f32⟩
  | .hbm, ⟨109, _⟩ => ⟨S1x1x5632, .f32⟩
  | .hbm, ⟨110, _⟩ => ⟨S1x5632, .f32⟩
  | .hbm, ⟨111, _⟩ => ⟨S1x3x5632, .f32⟩
  | .hbm, ⟨112, _⟩ => ⟨S2048x5632, .f32⟩
  | .hbm, ⟨113, _⟩ => ⟨S2048x5632, .bf16⟩
  | .hbm, ⟨114, _⟩ => ⟨S2048x2816, .bf16⟩
  | .hbm, ⟨115, _⟩ => ⟨S2048x2816, .bf16⟩
  | .hbm, ⟨116, _⟩ => ⟨S1x3x2816, .f32⟩
  | .hbm, ⟨117, _⟩ => ⟨S3x2816, .f32⟩
  | .hbm, ⟨118, _⟩ => ⟨S1x3x2816, .f32⟩
  | .hbm, ⟨119, _⟩ => ⟨S3x2816, .f32⟩
  | .hbm, ⟨120, _⟩ => ⟨S1x2816, .f32⟩
  | .hbm, ⟨121, _⟩ => ⟨S1x2816, .f32⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]
-- ==== Kernel8.lean ====
abbrev S2x2048x512 : Shape := ⟨3, ![2, 2048, 512]⟩
abbrev S2048x3328 : Shape := ⟨2, ![2048, 3328]⟩
abbrev S1x128 : Shape := ⟨2, ![1, 128]⟩
abbrev S2048x512 : Shape := ⟨2, ![2048, 512]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S2x2048x512, .f32⟩
  | .hbm, ⟨1, _⟩ => ⟨S2048x3328, .f32⟩
  | .hbm, ⟨2, _⟩ => ⟨S1x128, .f32⟩
  | .hbm, ⟨3, _⟩ => ⟨S2048x512, .bf16⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S512x256, .f32⟩
  | .local _ .vmem, ⟨5, _⟩ => ⟨S512x256, .f32⟩
  | .local _ .vmem, ⟨6, _⟩ => ⟨S1x128, .f32⟩
  | .local _ .vmem, ⟨7, _⟩ => ⟨S512x256, .bf16⟩
  | .local _ .vmem, ⟨8, _⟩ => ⟨S512x256, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S2x2048x512 : Shape := ⟨3, ![2, 2048, 512]⟩
abbrev S2048x3328 : Shape := ⟨2, ![2048, 3328]⟩
abbrev S1x128 : Shape := ⟨2, ![1, 128]⟩
abbrev S1x2048x512 : Shape := ⟨3, ![1, 2048, 512]⟩
abbrev S2048x512 : Shape := ⟨2, ![2048, 512]⟩
abbrev S128 : Shape := ⟨1, ![128]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2048x3328, .f32⟩
  | .hbm, ⟨2, _⟩ => ⟨S1x128, .f32⟩
  | .hbm, ⟨3, _⟩ => ⟨S1x2048x512, .f32⟩
  | .hbm, ⟨4, _⟩ => ⟨S2048x512, .f32⟩
  | .hbm, ⟨5, _⟩ => ⟨S1x2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S128, .f32⟩
  | .hbm, ⟨10, _⟩ => ⟨S2048x4x128, .f32⟩
  | .hbm, ⟨11, _⟩ => ⟨S2048x4x128, .f32⟩
  | .hbm, ⟨12, _⟩ => ⟨S_, .f32⟩
  | .hbm, ⟨13, _⟩ => ⟨S2048x4, .f32⟩
  | .hbm, ⟨14, _⟩ => ⟨S2048x4x1, .f32⟩
  | .hbm, ⟨15, _⟩ => ⟨S_, .f32⟩
  | .hbm, ⟨16, _⟩ => ⟨S2048x4x1, .f32⟩
  | .hbm, ⟨17, _⟩ => ⟨S2048x4x1, .f32⟩
  | .hbm, ⟨18, _⟩ => ⟨S_, .f32⟩
  | .hbm, ⟨19, _⟩ => ⟨S2048x4x1, .f32⟩
  | .hbm, ⟨20, _⟩ => ⟨S2048x4x1, .f32⟩
  | .hbm, ⟨21, _⟩ => ⟨S2048x4x1, .f32⟩
  | .hbm, ⟨22, _⟩ => ⟨S2048x4x128, .f32⟩
  | .hbm, ⟨23, _⟩ => ⟨S2048x4x128, .f32⟩
  | .hbm, ⟨24, _⟩ => ⟨S1x1x128, .f32⟩
  | .hbm, ⟨25, _⟩ => ⟨S2048x4x128, .f32⟩
  | .hbm, ⟨26, _⟩ => ⟨S2048x4x128, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S1x2048x5632 : Shape := ⟨3, ![1, 2048, 5632]⟩
abbrev S1x3x5632 : Shape := ⟨3, ![1, 3, 5632]⟩
abbrev S1x5632 : Shape := ⟨2, ![1, 5632]⟩
abbrev S2048x5632 : Shape := ⟨2, ![2048, 5632]⟩
abbrev S3x5632 : Shape := ⟨2, ![3, 5632]⟩
abbrev S2048x2816 : Shape := ⟨2, ![2048, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 6
  | .vmem => 14
  | .smem => 0
  | _ => 0

abbrev bufTy : (tb : Table) → Fin (tcTables nBuf tb) → BufTy
  | .hbm, ⟨0, _⟩ => ⟨S1x2048x5632, .f32⟩
  | .hbm, ⟨1, _⟩ => ⟨S1x3x5632, .f32⟩
  | .hbm, ⟨2, _⟩ => ⟨S1x5632, .f32⟩
  | .hbm, ⟨3, _⟩ => ⟨S2048x5632, .f32⟩
  | .hbm, ⟨4, _⟩ => ⟨S3x5632, .f32⟩
  | .hbm, ⟨5, _⟩ => ⟨S2048x2816, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S1x2048x5632 : Shape := ⟨3, ![1, 2048, 5632]⟩
abbrev S1x3x5632 : Shape := ⟨3, ![1, 3, 5632]⟩
abbrev S1x5632 : Shape := ⟨2, ![1, 5632]⟩
abbrev S3x5632 : Shape := ⟨2, ![3, 5632]⟩
abbrev S5632 : Shape := ⟨1, ![5632]⟩
abbrev S_ : Shape := ⟨0, ![]⟩
abbrev S1x1x5632 : Shape := ⟨3, ![1, 1, 5632]⟩
abbrev S1x2050x5632 : Shape := ⟨3, ![1, 2050, 5632]⟩
abbrev S1x2048x2816 : Shape := ⟨3, ![1, 2048, 2816]⟩
abbrev S2048x2816 : Shape := ⟨2, ![2048, 2816]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S1x3x5632, .f32⟩
  | .hbm, ⟨2, _⟩ => ⟨S1x5632, .f32⟩
  | .hbm, ⟨3, _⟩ => ⟨S3x5632, .f32⟩
  | .hbm, ⟨4, _⟩ => ⟨S5632, .f32⟩
  | .hbm, ⟨5, _⟩ => ⟨S_, .f32⟩
  | .hbm, ⟨6, _⟩ => ⟨S1x1x5632, .f32⟩
  | .hbm, ⟨7, _⟩ => ⟨S1x2050x5632, .f32⟩
  | .hbm, ⟨8, _⟩ => ⟨S1x2048x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S1x2048x5632, .f32⟩
  | .hbm, ⟨13, _⟩ => ⟨S1x2048x5632, .f32⟩
  | .hbm, ⟨14, _⟩ => ⟨S1x1x5632, .f32⟩
  | .hbm, ⟨15, _⟩ => ⟨S1x2048x5632, .f32⟩
  | .hbm, ⟨16, _⟩ => ⟨S1x2048x5632, .f32⟩
  | .hbm, ⟨17, _⟩ => ⟨S1x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S1x2048x5632, .f32⟩
  | .hbm, ⟨22, _⟩ => ⟨S1x2048x5632, .f32⟩
  | .hbm, ⟨23, _⟩ => ⟨S1x2048x5632, .f32⟩
  | .hbm, ⟨24, _⟩ => ⟨S1x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S1x2048x5632, .f32⟩
  | .hbm, ⟨29, _⟩ => ⟨S1x2048x5632, .f32⟩
  | .hbm, ⟨30, _⟩ => ⟨S1x2048x5632, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S1x2048x2816, .f32⟩
  | .hbm, ⟨35, _⟩ => ⟨S_, .f32⟩
  | .hbm, ⟨36, _⟩ => ⟨S1x2048x2816, .f32⟩
  | .hbm, ⟨37, _⟩ => ⟨S1x2048x2816, .f32⟩
  | .hbm, ⟨38, _⟩ => ⟨S_, .f32⟩
  | .hbm, ⟨39, _⟩ => ⟨S1x2048x2816, .f32⟩
  | .hbm, ⟨40, _⟩ => ⟨S1x2048x2816, .f32⟩
  | .hbm, ⟨41, _⟩ => ⟨S1x2048x2816, .f32⟩
  | .hbm, ⟨42, _⟩ => ⟨S1x2048x2816, .f32⟩
  | .hbm, ⟨43, _⟩ => ⟨S2048x2816, .f32⟩
  | .hbm, ⟨44, _⟩ => ⟨S2048x2816, .bf16⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel10.lean ====
abbrev S2048x3328 : Shape := ⟨2, ![2048, 3328]⟩
abbrev S2x2x512 : Shape := ⟨3, ![2, 2, 512]⟩
abbrev S2048x512 : Shape := ⟨2, ![2048, 512]⟩
abbrev S2x1152x128 : Shape := ⟨3, ![2, 1152, 128]⟩
abbrev S2x7x128x128 : Shape := ⟨4, ![2, 7, 128, 128]⟩
abbrev S8x128x128 : Shape := ⟨3, ![8, 128, 128]⟩
abbrev S2x128x1024 : Shape := ⟨3, ![2, 128, 1024]⟩
abbrev S1x2048x512 : Shape := ⟨3, ![1, 2048, 512]⟩
abbrev S2x2048x512 : Shape := ⟨3, ![2, 2048, 512]⟩
abbrev S2x1x512 : Shape := ⟨3, ![2, 1, 512]⟩
abbrev S_ : Shape := ⟨0, ![]⟩
abbrev S2x16x128x512 : Shape := ⟨4, ![2, 16, 128, 512]⟩
abbrev S2x16x512x1152 : Shape := ⟨4, ![2, 16, 512, 1152]⟩
abbrev S2x16x1152x512 : Shape := ⟨4, ![2, 16, 1152, 512]⟩
abbrev S2x16x9x128x4x128 : Shape := ⟨6, ![2, 16, 9, 128, 4, 128]⟩
abbrev S2x16x7x128x4x128 : Shape := ⟨6, ![2, 16, 7, 128, 4, 128]⟩
abbrev S16x128x4x128 : Shape := ⟨4, ![16, 128, 4, 128]⟩
abbrev S2x16x128x4x128 : Shape := ⟨5, ![2, 16, 128, 4, 128]⟩
abbrev S2x1x7x128x1x128 : Shape := ⟨6, ![2, 1, 7, 128, 1, 128]⟩
abbrev S1x16x1x128x4x128 : Shape := ⟨6, ![1, 16, 1, 128, 4, 128]⟩
abbrev S2x16x1x128x4x128 : Shape := ⟨6, ![2, 16, 1, 128, 4, 128]⟩
abbrev S2x16x7x4x128x128 : Shape := ⟨6, ![2, 16, 7, 4, 128, 128]⟩
abbrev S1x16x128x4x128 : Shape := ⟨5, ![1, 16, 128, 4, 128]⟩
abbrev S2x16x128x4 : Shape := ⟨4, ![2, 16, 128, 4]⟩
abbrev S2x4x16x128 : Shape := ⟨4, ![2, 4, 16, 128]⟩
abbrev S1x128x128 : Shape := ⟨3, ![1, 128, 128]⟩
abbrev S128x128 : Shape := ⟨2, ![128, 128]⟩
abbrev S2x4x16x128x1 : Shape := ⟨5, ![2, 4, 16, 128, 1]⟩
abbrev S1x1x1x128x128 : Shape := ⟨5, ![1, 1, 1, 128, 128]⟩
abbrev S2x4x16x128x128 : Shape := ⟨5, ![2, 4, 16, 128, 128]⟩
abbrev S7x128x128 : Shape := ⟨3, ![7, 128, 128]⟩
abbrev S128x128x2x16x4 : Shape := ⟨5, ![128, 128, 2, 16, 4]⟩
abbrev S2x16x512 : Shape := ⟨3, ![2, 16, 512]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S16x16x1 : Shape := ⟨3, ![16, 16, 1]⟩
abbrev S2x16x1x512 : Shape := ⟨4, ![2, 16, 1, 512]⟩
abbrev S2x1x16x512 : Shape := ⟨4, ![2, 1, 16, 512]⟩
abbrev S2x16x16x512 : Shape := ⟨4, ![2, 16, 16, 512]⟩
abbrev S1x16x16x512 : Shape := ⟨4, ![1, 16, 16, 512]⟩
abbrev S16x16x512 : Shape := ⟨3, ![16, 16, 512]⟩
abbrev S2x16x16x4x128 : Shape := ⟨5, ![2, 16, 16, 4, 128]⟩
abbrev S16x4x2x128x128 : Shape := ⟨5, ![16, 4, 2, 128, 128]⟩
abbrev S2x16x4x128x128 : Shape := ⟨5, ![2, 16, 4, 128, 128]⟩
abbrev S2x4x128x128x16 : Shape := ⟨5, ![2, 4, 128, 128, 16]⟩
abbrev S2x1x2048x512 : Shape := ⟨4, ![2, 1, 2048, 512]⟩
abbrev S2x7x2048x512 : Shape := ⟨4, ![2, 7, 2048, 512]⟩
abbrev S2x4x16x7x128x128 : Shape := ⟨6, ![2, 4, 16, 7, 128, 128]⟩
abbrev S128x256 : Shape := ⟨2, ![128, 256]⟩
abbrev S1x1x512 : Shape := ⟨3, ![1, 1, 512]⟩
abbrev S1x7x128x128 : Shape := ⟨4, ![1, 7, 128, 128]⟩
abbrev S1x128x1024 : Shape := ⟨3, ![1, 128, 1024]⟩
abbrev S128x512 : Shape := ⟨2, ![128, 512]⟩
abbrev S1x4x1x128x128 : Shape := ⟨5, ![1, 4, 1, 128, 128]⟩
abbrev S1x4x1x7x128x128 : Shape := ⟨6, ![1, 4, 1, 7, 128, 128]⟩
abbrev S1x7x128x512 : Shape := ⟨4, ![1, 7, 128, 512]⟩
abbrev S1x128x512 : Shape := ⟨3, ![1, 128, 512]⟩
abbrev S4x128x128 : Shape := ⟨3, ![4, 128, 128]⟩
abbrev S1x1x128x128 : Shape := ⟨4, ![1, 1, 128, 128]⟩
abbrev S1x1x128 : Shape := ⟨3, ![1, 1, 128]⟩
abbrev S1x128 : Shape := ⟨2, ![1, 128]⟩
abbrev S1x1x1x1x128x128 : Shape := ⟨6, ![1, 1, 1, 1, 128, 128]⟩
abbrev S128 : Shape := ⟨1, ![128]⟩
abbrev S128x1 : Shape := ⟨2, ![128, 1]⟩
abbrev S128x1024 : Shape := ⟨2, ![128, 1024]⟩
abbrev S1024x128 : Shape := ⟨2, ![1024, 128]⟩

abbrev nBuf : Space → Nat
  | .hbm => 183
  | .vmem => 34
  | .smem => 0
  | _ => 0

abbrev hbmTy0_0 (i : Nat) : BufTy := match i % 128 with
  | 0 => ⟨S2048x3328, .f32⟩
  | 1 => ⟨S2x2x512, .f32⟩
  | 2 => ⟨S2048x512, .f32⟩
  | 3 => ⟨S2x1152x128, .bf16⟩
  | 4 => ⟨S2x7x128x128, .f32⟩
  | 5 => ⟨S8x128x128, .f32⟩
  | 6 => ⟨S2x128x1024, .bf16⟩
  | 7 => ⟨S2x128x1024, .bf16⟩
  | 8 => ⟨S2048x512, .f32⟩
  | 9 => ⟨S2048x512, .f32⟩
  | 10 => ⟨S2048x512, .f32⟩
  | 11 => ⟨S2048x512, .f32⟩
  | 12 => ⟨S1x2048x512, .f32⟩
  | 13 => ⟨S1x2048x512, .f32⟩
  | 14 => ⟨S2x2048x512, .f32⟩
  | 15 => ⟨S2x1x512, .f32⟩
  | 16 => ⟨S2x1x512, .f32⟩
  | 17 => ⟨S2048x512, .f32⟩
  | 18 => ⟨S2048x512, .f32⟩
  | 19 => ⟨S_, .f32⟩
  | 20 => ⟨S2048x512, .f32⟩
  | 21 => ⟨S2048x512, .f32⟩
  | 22 => ⟨S_, .f32⟩
  | 23 => ⟨S2048x512, .f32⟩
  | 24 => ⟨S2048x512, .f32⟩
  | 25 => ⟨S2048x512, .f32⟩
  | 26 => ⟨S2x2048x512, .f32⟩
  | 27 => ⟨S2x2048x512, .f32⟩
  | 28 => ⟨S_, .f32⟩
  | 29 => ⟨S2x2048x512, .f32⟩
  | 30 => ⟨S2x2048x512, .f32⟩
  | 31 => ⟨S_, .f32⟩
  | 32 => ⟨S2x2048x512, .f32⟩
  | 33 => ⟨S2x2048x512, .f32⟩
  | 34 => ⟨S2x1x512, .f32⟩
  | 35 => ⟨S2x1x512, .f32⟩
  | 36 => ⟨S2x1x512, .f32⟩
  | 37 => ⟨S_, .f32⟩
  | 38 => ⟨S2x1x512, .f32⟩
  | 39 => ⟨S2x1x512, .f32⟩
  | 40 => ⟨S_, .f32⟩
  | 41 => ⟨S2x1x512, .f32⟩
  | 42 => ⟨S2x1x512, .f32⟩
  | 43 => ⟨S_, .f32⟩
  | 44 => ⟨S2x1x512, .f32⟩
  | 45 => ⟨S2x1x512, .f32⟩
  | 46 => ⟨S2x2048x512, .f32⟩
  | 47 => ⟨S2x2048x512, .f32⟩
  | 48 => ⟨S2x2048x512, .f32⟩
  | 49 => ⟨S2x2048x512, .f32⟩
  | 50 => ⟨S_, .f32⟩
  | 51 => ⟨S2x1x512, .f32⟩
  | 52 => ⟨S2x1x512, .f32⟩
  | 53 => ⟨S_, .f32⟩
  | 54 => ⟨S2x2048x512, .f32⟩
  | 55 => ⟨S2x2048x512, .f32⟩
  | 56 => ⟨S2x2048x512, .f32⟩
  | 57 => ⟨S2x2048x512, .f32⟩
  | 58 => ⟨S2x2048x512, .f32⟩
  | 59 => ⟨S2x16x128x512, .f32⟩
  | 60 => ⟨S2x1152x128, .f32⟩
  | 61 => ⟨S2x16x512x1152, .f32⟩
  | 62 => ⟨S2x16x1152x512, .f32⟩
  | 63 => ⟨S2x16x1152x512, .f32⟩
  | 64 => ⟨S2x16x9x128x4x128, .f32⟩
  | 65 => ⟨S2x16x7x128x4x128, .f32⟩
  | 66 => ⟨S16x128x4x128, .f32⟩
  | 67 => ⟨S2x16x128x4x128, .f32⟩
  | 68 => ⟨S16x128x4x128, .f32⟩
  | 69 => ⟨S2x1x7x128x1x128, .f32⟩
  | 70 => ⟨S2x16x7x128x4x128, .f32⟩
  | 71 => ⟨S2x16x7x128x4x128, .f32⟩
  | 72 => ⟨S1x16x1x128x4x128, .f32⟩
  | 73 => ⟨S2x16x7x128x4x128, .f32⟩
  | 74 => ⟨S2x16x7x128x4x128, .f32⟩
  | 75 => ⟨S2x16x1x128x4x128, .f32⟩
  | 76 => ⟨S2x16x7x128x4x128, .f32⟩
  | 77 => ⟨S2x16x7x128x4x128, .f32⟩
  | 78 => ⟨S2x16x7x128x4x128, .f32⟩
  | 79 => ⟨S2x16x7x4x128x128, .f32⟩
  | 80 => ⟨S1x16x128x4x128, .f32⟩
  | 81 => ⟨S2x16x128x4x128, .f32⟩
  | 82 => ⟨S2x16x128x4x128, .f32⟩
  | 83 => ⟨S_, .f32⟩
  | 84 => ⟨S2x16x128x4, .f32⟩
  | 85 => ⟨S2x4x16x128, .f32⟩
  | 86 => ⟨S1x128x128, .f32⟩
  | 87 => ⟨S128x128, .f32⟩
  | 88 => ⟨S2x4x16x128x1, .f32⟩
  | 89 => ⟨S1x1x1x128x128, .f32⟩
  | 90 => ⟨S2x4x16x128x128, .f32⟩
  | 91 => ⟨S2x4x16x128x128, .f32⟩
  | 92 => ⟨S2x4x16x128x128, .f32⟩
  | 93 => ⟨S7x128x128, .f32⟩
  | 94 => ⟨S128x128x2x16x4, .f32⟩
  | 95 => ⟨S2x4x16x128x128, .f32⟩
  | 96 => ⟨S2x4x16x128x128, .f32⟩
  | 97 => ⟨S_, .f32⟩
  | 98 => ⟨S2x16x512, .f32⟩
  | 99 => ⟨S_, .f32⟩
  | 100 => ⟨S_, .f32⟩
  | 101 => ⟨S2x16x512, .f32⟩
  | 102 => ⟨S16, .i32⟩
  | 103 => ⟨S1x16, .i32⟩
  | 104 => ⟨S16x1, .i32⟩
  | 105 => ⟨S16x16, .i32⟩
  | 106 => ⟨S16x16, .i32⟩
  | 107 => ⟨S16x16, .i1⟩
  | 108 => ⟨S16x16x1, .i1⟩
  | 109 => ⟨S2x16x512, .f32⟩
  | 110 => ⟨S2x16x1x512, .f32⟩
  | 111 => ⟨S2x1x16x512, .f32⟩
  | 112 => ⟨S2x16x16x512, .f32⟩
  | 113 => ⟨S2x16x16x512, .f32⟩
  | 114 => ⟨S2x16x16x512, .f32⟩
  | 115 => ⟨S_, .f32⟩
  | 116 => ⟨S_, .f32⟩
  | 117 => ⟨S2x16x16x512, .i1⟩
  | 118 => ⟨S2x16x16x512, .f32⟩
  | 119 => ⟨S2x16x16x512, .f32⟩
  | 120 => ⟨S2x16x16x512, .f32⟩
  | 121 => ⟨S_, .f32⟩
  | 122 => ⟨S_, .f32⟩
  | 123 => ⟨S2x16x16x512, .i1⟩
  | 124 => ⟨S2x16x16x512, .f32⟩
  | 125 => ⟨S2x16x16x512, .f32⟩
  | 126 => ⟨S1x16x16x512, .f32⟩
  | 127 => ⟨S16x16x512, .f32⟩
  | _ => ⟨S2048x3328, .f32⟩

abbrev hbmTy0_1 (i : Nat) : BufTy := match i % 128 with
  | 0 => ⟨S1x16x16x512, .f32⟩
  | 1 => ⟨S16x16x512, .f32⟩
  | 2 => ⟨S16x16x512, .f32⟩
  | 3 => ⟨S1x16x16x512, .f32⟩
  | 4 => ⟨S1x16x16x512, .f32⟩
  | 5 => ⟨S2x16x16x512, .f32⟩
  | 6 => ⟨S2x16x16x4x128, .f32⟩
  | 7 => ⟨S2x16x1x128x4x128, .f32⟩
  | 8 => ⟨S2x16x128x4x128, .f32⟩
  | 9 => ⟨S2x16x128x4x128, .f32⟩
  | 10 => ⟨S16x4x2x128x128, .f32⟩
  | 11 => ⟨S2x16x4x128x128, .f32⟩
  | 12 => ⟨S2x4x128x128x16, .f32⟩
  | 13 => ⟨S2x4x16x128x128, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S_, .f32⟩
  | 20 => ⟨S2048x512, .f32⟩
  | 21 => ⟨S2048x512, .f32⟩
  | 22 => ⟨S2x2048x512, .f32⟩
  | 23 => ⟨S_, .f32⟩
  | 24 => ⟨S2048x512, .f32⟩
  | 25 => ⟨S2048x512, .f32⟩
  | 26 => ⟨S2048x512, .f32⟩
  | 27 => ⟨S_, .f32⟩
  | 28 => ⟨S2048x512, .f32⟩
  | 29 => ⟨S2048x512, .f32⟩
  | 30 => ⟨S2048x512, .f32⟩
  | 31 => ⟨S2x2048x512, .f32⟩
  | 32 => ⟨S2x16x1x128x4x128, .f32⟩
  | 33 => ⟨S2x16x128x4x128, .f32⟩
  | 34 => ⟨S2x2048x512, .f32⟩
  | 35 => ⟨S2x16x1x128x4x128, .f32⟩
  | 36 => ⟨S2x16x128x4x128, .f32⟩
  | 37 => ⟨S2x2048x512, .f32⟩
  | 38 => ⟨S2x1x2048x512, .f32⟩
  | 39 => ⟨S2x1x2048x512, .f32⟩
  | 40 => ⟨S2x1x2048x512, .f32⟩
  | 41 => ⟨S2x1x2048x512, .f32⟩
  | 42 => ⟨S2x1x2048x512, .f32⟩
  | 43 => ⟨S2x1x2048x512, .f32⟩
  | 44 => ⟨S2x1x2048x512, .f32⟩
  | 45 => ⟨S2x7x2048x512, .f32⟩
  | 46 => ⟨S2x4x16x128x128, .bf16⟩
  | 47 => ⟨S2x4x16x7x128x128, .f32⟩
  | 48 => ⟨S2x4x16x7x128x128, .bf16⟩
  | 49 => ⟨S2x1x512, .f32⟩
  | 50 => ⟨S2x1x512, .f32⟩
  | 51 => ⟨S2x2048x512, .f32⟩
  | 52 => ⟨S2x2048x512, .f32⟩
  | 53 => ⟨S2x2048x512, .f32⟩
  | 54 => ⟨S2x1x512, .f32⟩
  | _ => ⟨S2048x3328, .f32⟩

abbrev hbmTy (i : Nat) : BufTy := match i / 128 with
  | 0 => hbmTy0_0 i
  | 1 => hbmTy0_1 i
  | _ => ⟨S2048x3328, .f32⟩

abbrev bufTy : (tb : Table) → Fin (tcTables nBuf tb) → BufTy
  | .hbm, ⟨i, _⟩ => hbmTy i
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x7x128x128, .f32⟩
  | .local _ .vmem, ⟨9, _⟩ => ⟨S1x7x128x128, .f32⟩
  | .local _ .vmem, ⟨10, _⟩ => ⟨S8x128x128, .f32⟩
  | .local _ .vmem, ⟨11, _⟩ => ⟨S1x128x1024, .bf16⟩
  | .local _ .vmem, ⟨12, _⟩ => ⟨S1x128x1024, .bf16⟩
  | .local _ .vmem, ⟨13, _⟩ => ⟨S1x128x1024, .bf16⟩
  | .local _ .vmem, ⟨14, _⟩ => ⟨S1x128x1024, .bf16⟩
  | .local _ .vmem, ⟨15, _⟩ => ⟨S128x512, .f32⟩
  | .local _ .vmem, ⟨16, _⟩ => ⟨S128x512, .f32⟩
  | .local _ .vmem, ⟨17, _⟩ => ⟨S1x4x1x128x128, .f32⟩
  | .local _ .vmem, ⟨18, _⟩ => ⟨S1x4x1x128x128, .f32⟩
  | .local _ .vmem, ⟨19, _⟩ => ⟨S1x4x1x128x128, .bf16⟩
  | .local _ .vmem, ⟨20, _⟩ => ⟨S1x4x1x128x128, .bf16⟩
  | .local _ .vmem, ⟨21, _⟩ => ⟨S1x4x1x7x128x128, .bf16⟩
  | .local _ .vmem, ⟨22, _⟩ => ⟨S1x4x1x7x128x128, .bf16⟩
  | .local _ .vmem, ⟨23, _⟩ => ⟨S1x7x128x512, .f32⟩
  | .local _ .vmem, ⟨24, _⟩ => ⟨S1x7x128x512, .f32⟩
  | .local _ .vmem, ⟨25, _⟩ => ⟨S1x128x512, .f32⟩
  | .local _ .vmem, ⟨26, _⟩ => ⟨S1x128x512, .f32⟩
  | .local _ .vmem, ⟨27, _⟩ => ⟨S1x128x512, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x1x512, .f32⟩
  | .local _ .vmem, ⟨32, _⟩ => ⟨S1x1x512, .f32⟩
  | .local _ .vmem, ⟨33, _⟩ => ⟨S4x128x128, .f32⟩
  | _, _ => ⟨S2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_9 : Ref sig .tc := ⟨.hbm, 97, rfl⟩
abbrev main_v79 : Ref sig .tc := ⟨.hbm, 98, rfl⟩
abbrev main_call0_call0_cst : Ref sig .tc := ⟨.hbm, 99, rfl⟩
abbrev main_call0_call0_v0 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_10 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v94 : Ref sig .tc := ⟨.hbm, 119, rfl⟩
abbrev main_v95 : Ref sig .tc := ⟨.hbm, 120, rfl⟩
abbrev main_cst_11 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_12 : Ref sig .tc := ⟨.hbm, 144, rfl⟩
abbrev main_v115 : Ref sig .tc := ⟨.hbm, 145, rfl⟩
abbrev main_v116 : Ref sig .tc := ⟨.hbm, 146, rfl⟩
abbrev main_cst_13 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_14 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_15 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146_0 : Ref sig .tc := ⟨.hbm, 179, rfl⟩
abbrev main_v146_1 : Ref sig .tc := ⟨.hbm, 180, rfl⟩
abbrev main_v146_2 : Ref sig .tc := ⟨.hbm, 181, rfl⟩
abbrev main_v146_3 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let v5 : BitVec 32 := Scalar.muli c0_i32 arg0
  let c9_i32 : BitVec 32 := 9#32
  let v6 : BitVec 32 := Scalar.addi c9_i32 v5
  let c0_i32_0 : BitVec 32 := 0#32
  let v7 : BitVec 32 := Scalar.addi v6 c0_i32_0
  let c0_i32_1 : BitVec 32 := 0#32
  ![v4.toNat, v7.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let v5 : BitVec 32 := Scalar.muli c0_i32 arg0
  let c9_i32 : BitVec 32 := 9#32
  let v6 : BitVec 32 := Scalar.addi c9_i32 v5
  let c1_i32_0 : BitVec 32 := 1#32
  let v7 : BitVec 32 := Scalar.addi v6 c1_i32_0
  let c0_i32_1 : BitVec 32 := 0#32
  ![v4.toNat, v7.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let c0_i32_0 : BitVec 32 := 0#32
  ![v4.toNat, c0_i32.toNat]

def cc0_transform_9 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let c0_i32_0 : BitVec 32 := 0#32
  let c0_i32_1 : BitVec 32 := 0#32
  let c0_i32_2 : BitVec 32 := 0#32
  ![arg0.toNat, c0_i32.toNat, v4.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let c0_i32_0 : BitVec 32 := 0#32
  let c0_i32_1 : BitVec 32 := 0#32
  let c0_i32_2 : BitVec 32 := 0#32
  ![arg0.toNat, c0_i32.toNat, v4.toNat, c0_i32_0.toNat, c0_i32_1.toNat]

def cc0_transform_11 (i : grid0.Coords) : Fin 6 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, v4.toNat, c0_i32_0.toNat, c0_i32_1.toNat, c0_i32_2.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let c0_i32_0 : BitVec 32 := 0#32
  let c0_i32_1 : BitVec 32 := 0#32
  ![arg0.toNat, c0_i32.toNat, v4.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let c0_i32_0 : BitVec 32 := 0#32
  ![arg0.toNat, v4.toNat, c0_i32.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let c0_i32_0 : BitVec 32 := 0#32
  ![arg0.toNat, v4.toNat, c0_i32.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c15_i32 : BitVec 32 := 15#32
  let v2 : BitVec 32 := Scalar.subi c15_i32 v1
  let v3 : BitVec 32 := Scalar.muli v0 v2
  let v4 : BitVec 32 := Scalar.addi arg1 v3
  let c0_i32 : BitVec 32 := 0#32
  let c0_i32_0 : BitVec 32 := 0#32
  ![arg0.toNat, v4.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x7x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x1x7x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x7x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Kernel11.lean ====
abbrev S1x2048x3328 : Shape := ⟨3, ![1, 2048, 3328]⟩
abbrev S1x64 : Shape := ⟨2, ![1, 64]⟩
abbrev S2048x32 : Shape := ⟨2, ![2048, 32]⟩
abbrev S2048x512 : Shape := ⟨2, ![2048, 512]⟩
abbrev S2048x128 : Shape := ⟨2, ![2048, 128]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x32x1 : Shape := ⟨3, ![2048, 32, 1]⟩
abbrev S2048x3328 : Shape := ⟨2, ![2048, 3328]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x512 : Shape := ⟨2, ![1, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 31
  | .vmem => 20
  | .smem => 0
  | _ => 0

abbrev bufTy : (tb : Table) → Fin (tcTables nBuf tb) → BufTy
  | .hbm, ⟨0, _⟩ => ⟨S1x2048x3328, .f32⟩
  | .hbm, ⟨1, _⟩ => ⟨S1x64, .f32⟩
  | .hbm, ⟨2, _⟩ => ⟨S1x64, .f32⟩
  | .hbm, ⟨3, _⟩ => ⟨S2048x32, .f32⟩
  | .hbm, ⟨4, _⟩ => ⟨S2048x32, .f32⟩
  | .hbm, ⟨5, _⟩ => ⟨S2048x512, .f32⟩
  | .hbm, ⟨6, _⟩ => ⟨S2048x128, .f32⟩
  | .hbm, ⟨7, _⟩ => ⟨S2048x32x2, .f32⟩
  | .hbm, ⟨8, _⟩ => ⟨S2048x64, .f32⟩
  | .hbm, ⟨9, _⟩ => ⟨S1x2048x1x64, .f32⟩
  | .hbm, ⟨10, _⟩ => ⟨S1x2048x2x64, .f32⟩
  | .hbm, ⟨11, _⟩ => ⟨S2048x128, .f32⟩
  | .hbm, ⟨12, _⟩ => ⟨S2048x32, .f32⟩
  | .hbm, ⟨13, _⟩ => ⟨S2048x32x1, .f32⟩
  | .hbm, ⟨14, _⟩ => ⟨S2048x32x1, .f32⟩
  | .hbm, ⟨15, _⟩ => ⟨S2048x32x2, .f32⟩
  | .hbm, ⟨16, _⟩ => ⟨S2048x64, .f32⟩
  | .hbm, ⟨17, _⟩ => ⟨S1x2048x1x64, .f32⟩
  | .hbm, ⟨18, _⟩ => ⟨S1x2048x2x64, .f32⟩
  | .hbm, ⟨19, _⟩ => ⟨S2048x128, .f32⟩
  | .hbm, ⟨20, _⟩ => ⟨S2048x3328, .f32⟩
  | .hbm, ⟨21, _⟩ => ⟨S1x1x1x64, .f32⟩
  | .hbm, ⟨22, _⟩ => ⟨S1x1x2x64, .f32⟩
  | .hbm, ⟨23, _⟩ => ⟨S1x128, .f32⟩
  | .hbm, ⟨24, _⟩ => ⟨S1x1x1x64, .f32⟩
  | .hbm, ⟨25, _⟩ => ⟨S1x1x2x64, .f32⟩
  | .hbm, ⟨26, _⟩ => ⟨S1x128, .f32⟩
  | .hbm, ⟨27, _⟩ => ⟨S2048x512, .bf16⟩
  | .hbm, ⟨28, _⟩ => ⟨S2048x128, .bf16⟩
  | .hbm, ⟨29, _⟩ => ⟨S1x512, .f32⟩
  | .hbm, ⟨30, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S1x512, .f32⟩
  | .local _ .vmem, ⟨19, _⟩ => ⟨S1x128, .f32⟩
  | _, _ => ⟨S1x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v20_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference11Ideal.lean ====
abbrev S1x2048x3328 : Shape := ⟨3, ![1, 2048, 3328]⟩
abbrev S1x64 : Shape := ⟨2, ![1, 64]⟩
abbrev S2048x32 : Shape := ⟨2, ![2048, 32]⟩
abbrev S2048x512 : Shape := ⟨2, ![2048, 512]⟩
abbrev S2048x128 : Shape := ⟨2, ![2048, 128]⟩
abbrev S1x1x1x64 : Shape := ⟨4, ![1, 1, 1, 64]⟩
abbrev S8x1x1x64 : Shape := ⟨4, ![8, 1, 1, 64]⟩
abbrev S8x64 : Shape := ⟨2, ![8, 64]⟩
abbrev S2x1x1x64 : Shape := ⟨4, ![2, 1, 1, 64]⟩
abbrev S2x64 : Shape := ⟨2, ![2, 64]⟩
abbrev S1x2048x512 : Shape := ⟨3, ![1, 2048, 512]⟩
abbrev S1x2048x128 : Shape := ⟨3, ![1, 2048, 128]⟩
abbrev S1x2048x8x64 : Shape := ⟨4, ![1, 2048, 8, 64]⟩
abbrev S_ : Shape := ⟨0, ![]⟩
abbrev S1x2048x8 : Shape := ⟨3, ![1, 2048, 8]⟩
abbrev S1x2048x8x1 : Shape := ⟨4, ![1, 2048, 8, 1]⟩
abbrev S1x1x8x64 : Shape := ⟨4, ![1, 1, 8, 64]⟩
abbrev S1x2048x2x64 : Shape := ⟨4, ![1, 2048, 2, 64]⟩
abbrev S1x2048x2 : Shape := ⟨3, ![1, 2048, 2]⟩
abbrev S1x2048x2x1 : Shape := ⟨4, ![1, 2048, 2, 1]⟩
abbrev S1x1x2x64 : Shape := ⟨4, ![1, 1, 2, 64]⟩
abbrev S1x2048x8x32x2 : Shape := ⟨5, ![1, 2048, 8, 32, 2]⟩
abbrev S1x2048x8x32x1 : Shape := ⟨5, ![1, 2048, 8, 32, 1]⟩
abbrev S1x2048x8x32 : Shape := ⟨4, ![1, 2048, 8, 32]⟩
abbrev S1x2048x1x32 : Shape := ⟨4, ![1, 2048, 1, 32]⟩
abbrev S1x2048x2x32x2 : Shape := ⟨5, ![1, 2048, 2, 32, 2]⟩
abbrev S1x2048x2x32x1 : Shape := ⟨5, ![1, 2048, 2, 32, 1]⟩
abbrev S1x2048x2x32 : Shape := ⟨4, ![1, 2048, 2, 32]⟩
abbrev S1x2x64 : Shape := ⟨3, ![1, 2, 64]⟩
abbrev S2048x2 : Shape := ⟨2, ![2048, 2]⟩
abbrev S1x8x64 : Shape := ⟨3, ![1, 8, 64]⟩
abbrev S2048x8 : Shape := ⟨2, ![2048, 8]⟩
abbrev S1x512 : Shape := ⟨2, ![1, 512]⟩
abbrev S1x128 : Shape := ⟨2, ![1, 128]⟩

abbrev nBuf : Space → Nat
  | .hbm => 209
  | .vmem => 0
  | .smem => 0
  | _ => 0

abbrev hbmTy0_0 (i : Nat) : BufTy := match i % 128 with
  | 0 => ⟨S1x2048x3328, .f32⟩
  | 1 => ⟨S1x64, .f32⟩
  | 2 => ⟨S1x64, .f32⟩
  | 3 => ⟨S2048x32, .f32⟩
  | 4 => ⟨S2048x32, .f32⟩
  | 5 => ⟨S2048x512, .f32⟩
  | 6 => ⟨S2048x128, .f32⟩
  | 7 => ⟨S1x1x1x64, .f32⟩
  | 8 => ⟨S8x1x1x64, .f32⟩
  | 9 => ⟨S8x64, .f32⟩
  | 10 => ⟨S1x1x1x64, .f32⟩
  | 11 => ⟨S2x1x1x64, .f32⟩
  | 12 => ⟨S2x64, .f32⟩
  | 13 => ⟨S1x2048x512, .f32⟩
  | 14 => ⟨S1x2048x128, .f32⟩
  | 15 => ⟨S1x2048x8x64, .f32⟩
  | 16 => ⟨S1x2048x8x64, .f32⟩
  | 17 => ⟨S_, .f32⟩
  | 18 => ⟨S1x2048x8, .f32⟩
  | 19 => ⟨S1x2048x8x1, .f32⟩
  | 20 => ⟨S_, .f32⟩
  | 21 => ⟨S1x2048x8x1, .f32⟩
  | 22 => ⟨S1x2048x8x1, .f32⟩
  | 23 => ⟨S_, .f32⟩
  | 24 => ⟨S1x2048x8x1, .f32⟩
  | 25 => ⟨S1x2048x8x1, .f32⟩
  | 26 => ⟨S1x2048x8x1, .f32⟩
  | 27 => ⟨S1x2048x8x1, .f32⟩
  | 28 => ⟨S_, .f32⟩
  | 29 => ⟨S1x2048x8x1, .f32⟩
  | 30 => ⟨S1x2048x8x1, .f32⟩
  | 31 => ⟨S1x2048x8x64, .f32⟩
  | 32 => ⟨S1x2048x8x64, .f32⟩
  | 33 => ⟨S1x1x8x64, .f32⟩
  | 34 => ⟨S1x2048x8x64, .f32⟩
  | 35 => ⟨S1x2048x8x64, .f32⟩
  | 36 => ⟨S1x2048x2x64, .f32⟩
  | 37 => ⟨S1x2048x2x64, .f32⟩
  | 38 => ⟨S_, .f32⟩
  | 39 => ⟨S1x2048x2, .f32⟩
  | 40 => ⟨S1x2048x2x1, .f32⟩
  | 41 => ⟨S_, .f32⟩
  | 42 => ⟨S1x2048x2x1, .f32⟩
  | 43 => ⟨S1x2048x2x1, .f32⟩
  | 44 => ⟨S_, .f32⟩
  | 45 => ⟨S1x2048x2x1, .f32⟩
  | 46 => ⟨S1x2048x2x1, .f32⟩
  | 47 => ⟨S1x2048x2x1, .f32⟩
  | 48 => ⟨S1x2048x2x1, .f32⟩
  | 49 => ⟨S_, .f32⟩
  | 50 => ⟨S1x2048x2x1, .f32⟩
  | 51 => ⟨S1x2048x2x1, .f32⟩
  | 52 => ⟨S1x2048x2x64, .f32⟩
  | 53 => ⟨S1x2048x2x64, .f32⟩
  | 54 => ⟨S1x1x2x64, .f32⟩
  | 55 => ⟨S1x2048x2x64, .f32⟩
  | 56 => ⟨S1x2048x2x64, .f32⟩
  | 57 => ⟨S1x2048x8x32x2, .f32⟩
  | 58 => ⟨S1x2048x8x32x1, .f32⟩
  | 59 => ⟨S1x2048x8x32, .f32⟩
  | 60 => ⟨S1x2048x8x32x1, .f32⟩
  | 61 => ⟨S1x2048x8x32, .f32⟩
  | 62 => ⟨S1x2048x1x32, .f32⟩
  | 63 => ⟨S1x2048x1x32, .f32⟩
  | 64 => ⟨S1x2048x8x32, .f32⟩
  | 65 => ⟨S1x2048x8x32, .f32⟩
  | 66 => ⟨S1x2048x8x32, .f32⟩
  | 67 => ⟨S1x2048x8x32, .f32⟩
  | 68 => ⟨S1x2048x8x32, .f32⟩
  | 69 => ⟨S1x2048x8x32, .f32⟩
  | 70 => ⟨S1x2048x8x32, .f32⟩
  | 71 => ⟨S1x2048x8x32, .f32⟩
  | 72 => ⟨S1x2048x8x32, .f32⟩
  | 73 => ⟨S1x2048x8x32, .f32⟩
  | 74 => ⟨S1x2048x8x32x1, .f32⟩
  | 75 => ⟨S1x2048x8x32x1, .f32⟩
  | 76 => ⟨S1x2048x8x32x2, .f32⟩
  | 77 => ⟨S1x2048x8x64, .f32⟩
  | 78 => ⟨S1x2048x2x32x2, .f32⟩
  | 79 => ⟨S1x2048x2x32x1, .f32⟩
  | 80 => ⟨S1x2048x2x32, .f32⟩
  | 81 => ⟨S1x2048x2x32x1, .f32⟩
  | 82 => ⟨S1x2048x2x32, .f32⟩
  | 83 => ⟨S1x2048x1x32, .f32⟩
  | 84 => ⟨S1x2048x1x32, .f32⟩
  | 85 => ⟨S1x2048x2x32, .f32⟩
  | 86 => ⟨S1x2048x2x32, .f32⟩
  | 87 => ⟨S1x2048x2x32, .f32⟩
  | 88 => ⟨S1x2048x2x32, .f32⟩
  | 89 => ⟨S1x2048x2x32, .f32⟩
  | 90 => ⟨S1x2048x2x32, .f32⟩
  | 91 => ⟨S1x2048x2x32, .f32⟩
  | 92 => ⟨S1x2048x2x32, .f32⟩
  | 93 => ⟨S1x2048x2x32, .f32⟩
  | 94 => ⟨S1x2048x2x32, .f32⟩
  | 95 => ⟨S1x2048x2x32x1, .f32⟩
  | 96 => ⟨S1x2048x2x32x1, .f32⟩
  | 97 => ⟨S1x2048x2x32x2, .f32⟩
  | 98 => ⟨S1x2048x2x64, .f32⟩
  | 99 => ⟨S1x2048x8x64, .f32⟩
  | 100 => ⟨S1x2048x2x64, .f32⟩
  | 101 => ⟨S1x2048x2x32x2, .f32⟩
  | 102 => ⟨S1x2048x2x32x1, .f32⟩
  | 103 => ⟨S1x2048x2x32, .f32⟩
  | 104 => ⟨S1x2048x2x32x1, .f32⟩
  | 105 => ⟨S1x2048x2x32, .f32⟩
  | 106 => ⟨S1x2048x2x32, .f32⟩
  | 107 => ⟨S1x2048x2x32, .f32⟩
  | 108 => ⟨S1x2048x2x32, .f32⟩
  | 109 => ⟨S1x2048x2x32, .f32⟩
  | 110 => ⟨S1x2048x2x32, .f32⟩
  | 111 => ⟨S1x2048x2x32, .f32⟩
  | 112 => ⟨S1x2048x2x32, .f32⟩
  | 113 => ⟨S1x2048x2x32, .f32⟩
  | 114 => ⟨S1x2048x2x32, .f32⟩
  | 115 => ⟨S1x2048x2x32, .f32⟩
  | 116 => ⟨S1x2048x2x32, .f32⟩
  | 117 => ⟨S1x2048x2x32x1, .f32⟩
  | 118 => ⟨S_, .f32⟩
  | 119 => ⟨S1x2048x2x32x2, .f32⟩
  | 120 => ⟨S1x2048x2x32x1, .f32⟩
  | 121 => ⟨S_, .f32⟩
  | 122 => ⟨S1x2048x2x32x2, .f32⟩
  | 123 => ⟨S1x2048x2x32x2, .f32⟩
  | 124 => ⟨S1x2048x2x64, .f32⟩
  | 125 => ⟨S1x2048x8x32x2, .f32⟩
  | 126 => ⟨S1x2048x8x32x1, .f32⟩
  | 127 => ⟨S1x2048x8x32, .f32⟩
  | _ => ⟨S1x2048x3328, .f32⟩

abbrev hbmTy0_1 (i : Nat) : BufTy := match i % 128 with
  | 0 => ⟨S1x2048x8x32x1, .f32⟩
  | 1 => ⟨S1x2048x8x32, .f32⟩
  | 2 => ⟨S1x2048x8x32, .f32⟩
  | 3 => ⟨S1x2048x8x32, .f32⟩
  | 4 => ⟨S1x2048x8x32, .f32⟩
  | 5 => ⟨S1x2048x8x32, .f32⟩
  | 6 => ⟨S1x2048x8x32, .f32⟩
  | 7 => ⟨S1x2048x8x32, .f32⟩
  | 8 => ⟨S1x2048x8x32, .f32⟩
  | 9 => ⟨S1x2048x8x32, .f32⟩
  | 10 => ⟨S1x2048x8x32, .f32⟩
  | 11 => ⟨S1x2048x8x32, .f32⟩
  | 12 => ⟨S1x2048x8x32, .f32⟩
  | 13 => ⟨S1x2048x8x32x1, .f32⟩
  | 14 => ⟨S_, .f32⟩
  | 15 => ⟨S1x2048x8x32x2, .f32⟩
  | 16 => ⟨S1x2048x8x32x1, .f32⟩
  | 17 => ⟨S_, .f32⟩
  | 18 => ⟨S1x2048x8x32x2, .f32⟩
  | 19 => ⟨S1x2048x8x32x2, .f32⟩
  | 20 => ⟨S1x2048x8x64, .f32⟩
  | 21 => ⟨S1x2048x2x64, .f32⟩
  | 22 => ⟨S_, .f32⟩
  | 23 => ⟨S1x2x64, .f32⟩
  | 24 => ⟨S1x1x2x64, .f32⟩
  | 25 => ⟨S1x2048x2x64, .f32⟩
  | 26 => ⟨S1x2048x2x64, .f32⟩
  | 27 => ⟨S_, .f32⟩
  | 28 => ⟨S2x64, .f32⟩
  | 29 => ⟨S1x2048x2x64, .f32⟩
  | 30 => ⟨S_, .f32⟩
  | 31 => ⟨S1x2048x2, .f32⟩
  | 32 => ⟨S1x2048x2x1, .f32⟩
  | 33 => ⟨S1x2048x2x64, .f32⟩
  | 34 => ⟨S1x2048x2x64, .f32⟩
  | 35 => ⟨S1x2048x2x1, .f32⟩
  | 36 => ⟨S_, .f32⟩
  | 37 => ⟨S1x2048x2x1, .f32⟩
  | 38 => ⟨S1x2048x2x1, .f32⟩
  | 39 => ⟨S_, .f32⟩
  | 40 => ⟨S2048x2, .f32⟩
  | 41 => ⟨S1x2048x2, .f32⟩
  | 42 => ⟨S1x2048x2x64, .f32⟩
  | 43 => ⟨S1x2048x2x64, .f32⟩
  | 44 => ⟨S1x2048x2x64, .f32⟩
  | 45 => ⟨S1x2048x2x64, .f32⟩
  | 46 => ⟨S1x2048x2x64, .f32⟩
  | 47 => ⟨S1x2048x128, .f32⟩
  | 48 => ⟨S1x2048x8x64, .f32⟩
  | 49 => ⟨S_, .f32⟩
  | 50 => ⟨S1x8x64, .f32⟩
  | 51 => ⟨S1x1x8x64, .f32⟩
  | 52 => ⟨S1x2048x8x64, .f32⟩
  | 53 => ⟨S1x2048x8x64, .f32⟩
  | 54 => ⟨S_, .f32⟩
  | 55 => ⟨S8x64, .f32⟩
  | 56 => ⟨S1x2048x8x64, .f32⟩
  | 57 => ⟨S_, .f32⟩
  | 58 => ⟨S1x2048x8, .f32⟩
  | 59 => ⟨S1x2048x8x1, .f32⟩
  | 60 => ⟨S1x2048x8x64, .f32⟩
  | 61 => ⟨S1x2048x8x64, .f32⟩
  | 62 => ⟨S1x2048x8x1, .f32⟩
  | 63 => ⟨S_, .f32⟩
  | 64 => ⟨S1x2048x8x1, .f32⟩
  | 65 => ⟨S1x2048x8x1, .f32⟩
  | 66 => ⟨S_, .f32⟩
  | 67 => ⟨S2048x8, .f32⟩
  | 68 => ⟨S1x2048x8, .f32⟩
  | 69 => ⟨S1x2048x8x64, .f32⟩
  | 70 => ⟨S1x2048x8x64, .f32⟩
  | 71 => ⟨S1x2048x8x64, .f32⟩
  | 72 => ⟨S1x2048x8x64, .f32⟩
  | 73 => ⟨S1x2048x8x64, .f32⟩
  | 74 => ⟨S1x2048x512, .f32⟩
  | 75 => ⟨S2048x512, .f32⟩
  | 76 => ⟨S2048x512, .bf16⟩
  | 77 => ⟨S2048x128, .f32⟩
  | 78 => ⟨S2048x128, .bf16⟩
  | 79 => ⟨S1x512, .f32⟩
  | 80 => ⟨S1x128, .f32⟩
  | _ => ⟨S1x2048x3328, .f32⟩

abbrev hbmTy (i : Nat) : BufTy := match i / 128 with
  | 0 => hbmTy0_0 i
  | 1 => hbmTy0_1 i
  | _ => ⟨S1x2048x3328, .f32⟩

abbrev bufTy : (tb : Table) → Fin (tcTables nBuf tb) → BufTy
  | .hbm, ⟨i, _⟩ => hbmTy i
  | _, _ => ⟨S1x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_cst_7 : Ref sig .tc := ⟨.hbm, 118, rfl⟩
abbrev main_v103 : Ref sig .tc := ⟨.hbm, 119, rfl⟩
abbrev main_v104 : Ref sig .tc := ⟨.hbm, 120, rfl⟩
abbrev main_cst_8 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_cst_9 : Ref sig .tc := ⟨.hbm, 142, rfl⟩
abbrev main_v125 : Ref sig .tc := ⟨.hbm, 143, rfl⟩
abbrev main_v126 : Ref sig .tc := ⟨.hbm, 144, rfl⟩
abbrev main_cst_10 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_cst_11 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_cst_12 : Ref sig .tc := ⟨.hbm, 155, rfl⟩
abbrev main_v135 : Ref sig .tc := ⟨.hbm, 156, rfl⟩
abbrev main_v136 : Ref sig .tc := ⟨.hbm, 157, rfl⟩
abbrev main_cst_13 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_cst_14 : Ref sig .tc := ⟨.hbm, 164, rfl⟩
abbrev main_v142 : Ref sig .tc := ⟨.hbm, 165, rfl⟩
abbrev main_v143 : Ref sig .tc := ⟨.hbm, 166, rfl⟩
abbrev main_cst_15 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_cst_16 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_cst_17 : Ref sig .tc := ⟨.hbm, 182, rfl⟩
abbrev main_v157 : Ref sig .tc := ⟨.hbm, 183, rfl⟩
abbrev main_v158 : Ref sig .tc := ⟨.hbm, 184, rfl⟩
abbrev main_cst_18 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_cst_19 : Ref sig .tc := ⟨.hbm, 191, rfl⟩
abbrev main_v164 : Ref sig .tc := ⟨.hbm, 192, rfl⟩
abbrev main_v165 : Ref sig .tc := ⟨.hbm, 193, rfl⟩
abbrev main_cst_20 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩

abbrev nD : Nat := 1
abbrev τ : Topo := Topo.v7x

variable {F : FTy → Type} [FloatOps F]
-- ==== Kernel12.lean ====
abbrev S1x2048x3328 : Shape := ⟨3, ![1, 2048, 3328]⟩
abbrev S1x64 : Shape := ⟨2, ![1, 64]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2048x32x1 : Shape := ⟨3, ![2048, 32, 1]⟩
abbrev S2048x3328 : Shape := ⟨2, ![2048, 3328]⟩
abbrev S1x1x1x64 : Shape := ⟨4, ![1, 1, 1, 64]⟩
abbrev S1x1x2x64 : Shape := ⟨4, ![1, 1, 2, 64]⟩
abbrev S1x128 : Shape := ⟨2, ![1, 128]⟩
abbrev S2048x512 : Shape := ⟨2, ![2048, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 27
  | .vmem => 14
  | .smem => 0
  | _ => 0

abbrev bufTy : (tb : Table) → Fin (tcTables nBuf tb) → BufTy
  | .hbm, ⟨0, _⟩ => ⟨S1x2048x3328, .f32⟩
  | .hbm, ⟨1, _⟩ => ⟨S1x64, .f32⟩
  | .hbm, ⟨2, _⟩ => ⟨S1x64, .f32⟩
  | .hbm, ⟨3, _⟩ => ⟨S2048x32, .f32⟩
  | .hbm, ⟨4, _⟩ => ⟨S2048x32, .f32⟩
  | .hbm, ⟨5, _⟩ => ⟨S2048x32x2, .f32⟩
  | .hbm, ⟨6, _⟩ => ⟨S2048x64, .f32⟩
  | .hbm, ⟨7, _⟩ => ⟨S1x2048x1x64, .f32⟩
  | .hbm, ⟨8, _⟩ => ⟨S1x2048x2x64, .f32⟩
  | .hbm, ⟨9, _⟩ => ⟨S2048x128, .f32⟩
  | .hbm, ⟨10, _⟩ => ⟨S2048x32, .f32⟩
  | .hbm, ⟨11, _⟩ => ⟨S2048x32x1, .f32⟩
  | .hbm, ⟨12, _⟩ => ⟨S2048x32x1, .f32⟩
  | .hbm, ⟨13, _⟩ => ⟨S2048x32x2, .f32⟩
  | .hbm, ⟨14, _⟩ => ⟨S2048x64, .f32⟩
  | .hbm, ⟨15, _⟩ => ⟨S1x2048x1x64, .f32⟩
  | .hbm, ⟨16, _⟩ => ⟨S1x2048x2x64, .f32⟩
  | .hbm, ⟨17, _⟩ => ⟨S2048x128, .f32⟩
  | .hbm, ⟨18, _⟩ => ⟨S2048x3328, .f32⟩
  | .hbm, ⟨19, _⟩ => ⟨S1x1x1x64, .f32⟩
  | .hbm, ⟨20, _⟩ => ⟨S1x1x2x64, .f32⟩
  | .hbm, ⟨21, _⟩ => ⟨S1x128, .f32⟩
  | .hbm, ⟨22, _⟩ => ⟨S1x1x1x64, .f32⟩
  | .hbm, ⟨23, _⟩ => ⟨S1x1x2x64, .f32⟩
  | .hbm, ⟨24, _⟩ => ⟨S1x128, .f32⟩
  | .hbm, ⟨25, _⟩ => ⟨S2048x512, .bf16⟩
  | .hbm, ⟨26, _⟩ => ⟨S2048x128, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | _, _ => ⟨S1x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1x2048x3328 : Shape := ⟨3, ![1, 2048, 3328]⟩
abbrev S1x64 : Shape := ⟨2, ![1, 64]⟩
abbrev S2048x32 : Shape := ⟨2, ![2048, 32]⟩
abbrev S1x2048x512 : Shape := ⟨3, ![1, 2048, 512]⟩
abbrev S1x2048x8x64 : Shape := ⟨4, ![1, 2048, 8, 64]⟩
abbrev S64 : Shape := ⟨1, ![64]⟩
abbrev S_ : Shape := ⟨0, ![]⟩
abbrev S1x2048x8 : Shape := ⟨3, ![1, 2048, 8]⟩
abbrev S1x2048x8x1 : Shape := ⟨4, ![1, 2048, 8, 1]⟩
abbrev S1x1x1x64 : Shape := ⟨4, ![1, 1, 1, 64]⟩
abbrev S1x2048x128 : Shape := ⟨3, ![1, 2048, 128]⟩
abbrev S1x2048x2x64 : Shape := ⟨4, ![1, 2048, 2, 64]⟩
abbrev S1x2048x2 : Shape := ⟨3, ![1, 2048, 2]⟩
abbrev S1x2048x2x1 : Shape := ⟨4, ![1, 2048, 2, 1]⟩
abbrev S1x2048x8x32x2 : Shape := ⟨5, ![1, 2048, 8, 32, 2]⟩
abbrev S1x2048x8x32x1 : Shape := ⟨5, ![1, 2048, 8, 32, 1]⟩
abbrev S1x2048x8x32 : Shape := ⟨4, ![1, 2048, 8, 32]⟩
abbrev S1x2048x1x32 : Shape := ⟨4, ![1, 2048, 1, 32]⟩
abbrev S2048x512 : Shape := ⟨2, ![2048, 512]⟩
abbrev S1x2048x2x32x2 : Shape := ⟨5, ![1, 2048, 2, 32, 2]⟩
abbrev S1x2048x2x32x1 : Shape := ⟨5, ![1, 2048, 2, 32, 1]⟩
abbrev S1x2048x2x32 : Shape := ⟨4, ![1, 2048, 2, 32]⟩
abbrev S2048x128 : Shape := ⟨2, ![2048, 128]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x3328, .f32⟩
  | .hbm, ⟨1, _⟩ => ⟨S1x64, .f32⟩
  | .hbm, ⟨2, _⟩ => ⟨S1x64, .f32⟩
  | .hbm, ⟨3, _⟩ => ⟨S2048x32, .f32⟩
  | .hbm, ⟨4, _⟩ => ⟨S2048x32, .f32⟩
  | .hbm, ⟨5, _⟩ => ⟨S1x2048x512, .f32⟩
  | .hbm, ⟨6, _⟩ => ⟨S1x2048x8x64, .f32⟩
  | .hbm, ⟨7, _⟩ => ⟨S64, .f32⟩
  | .hbm, ⟨8, _⟩ => ⟨S1x2048x8x64, .f32⟩
  | .hbm, ⟨9, _⟩ => ⟨S_, .f32⟩
  | .hbm, ⟨10, _⟩ => ⟨S1x2048x8, .f32⟩
  | .hbm, ⟨11, _⟩ => ⟨S1x2048x8x1, .f32⟩
  | .hbm, ⟨12, _⟩ => ⟨S_, .f32⟩
  | .hbm, ⟨13, _⟩ => ⟨S1x2048x8x1, .f32⟩
  | .hbm, ⟨14, _⟩ => ⟨S1x2048x8x1, .f32⟩
  | .hbm, ⟨15, _⟩ => ⟨S_, .f32⟩
  | .hbm, ⟨16, _⟩ => ⟨S1x2048x8x1, .f32⟩
  | .hbm, ⟨17, _⟩ => ⟨S1x2048x8x1, .f32⟩
  | .hbm, ⟨18, _⟩ => ⟨S1x2048x8x1, .f32⟩
  | .hbm, ⟨19, _⟩ => ⟨S1x2048x8x64, .f32⟩
  | .hbm, ⟨20, _⟩ => ⟨S1x2048x8x64, .f32⟩
  | .hbm, ⟨21, _⟩ => ⟨S1x1x1x64, .f32⟩
  | .hbm, ⟨22, _⟩ => ⟨S1x2048x8x64, .f32⟩
  | .hbm, ⟨23, _⟩ => ⟨S1x2048x8x64, .f32⟩
  | .hbm, ⟨24, _⟩ => ⟨S1x2048x128, .f32⟩
  | .hbm, ⟨25, _⟩ => ⟨S1x2048x2x64, .f32⟩
  | .hbm, ⟨26, _⟩ => ⟨S64, .f32⟩
  | .hbm, ⟨27, _⟩ => ⟨S1x2048x2x64, .f32⟩
  | .hbm, ⟨28, _⟩ => ⟨S_, .f32⟩
  | .hbm, ⟨29, _⟩ => ⟨S1x2048x2, .f32⟩
  | .hbm, ⟨30, _⟩ => ⟨S1x2048x2x1, .f32⟩
  | .hbm, ⟨31, _⟩ => ⟨S_, .f32⟩
  | .hbm, ⟨32, _⟩ => ⟨S1x2048x2x1, .f32⟩
  | .hbm, ⟨33, _⟩ => ⟨S1x2048x2x1, .f32⟩
  | .hbm, ⟨34, _⟩ => ⟨S_, .f32⟩
  | .hbm, ⟨35, _⟩ => ⟨S1x2048x2x1, .f32⟩
  | .hbm, ⟨36, _⟩ => ⟨S1x2048x2x1, .f32⟩
  | .hbm, ⟨37, _⟩ => ⟨S1x2048x2x1, .f32⟩
  | .hbm, ⟨38, _⟩ => ⟨S1x2048x2x64, .f32⟩
  | .hbm, ⟨39, _⟩ => ⟨S1x2048x2x64, .f32⟩
  | .hbm, ⟨40, _⟩ => ⟨S1x1x1x64, .f32⟩
  | .hbm, ⟨41, _⟩ => ⟨S1x2048x2x64, .f32⟩
  | .hbm, ⟨42, _⟩ => ⟨S1x2048x2x64, .f32⟩
  | .hbm, ⟨43, _⟩ => ⟨S1x2048x8x32x2, .f32⟩
  | .hbm, ⟨44, _⟩ => ⟨S1x2048x8x32x1, .f32⟩
  | .hbm, ⟨45, _⟩ => ⟨S1x2048x8x32, .f32⟩
  | .hbm, ⟨46, _⟩ => ⟨S1x2048x8x32x1, .f32⟩
  | .hbm, ⟨47, _⟩ => ⟨S1x2048x8x32, .f32⟩
  | .hbm, ⟨48, _⟩ => ⟨S1x2048x1x32, .f32⟩
  | .hbm, ⟨49, _⟩ => ⟨S1x2048x1x32, .f32⟩
  | .hbm, ⟨50, _⟩ => ⟨S1x2048x8x32, .f32⟩
  | .hbm, ⟨51, _⟩ => ⟨S1x2048x8x32, .f32⟩
  | .hbm, ⟨52, _⟩ => ⟨S1x2048x8x32, .f32⟩
  | .hbm, ⟨53, _⟩ => ⟨S1x2048x8x32, .f32⟩
  | .hbm, ⟨54, _⟩ => ⟨S1x2048x8x32, .f32⟩
  | .hbm, ⟨55, _⟩ => ⟨S1x2048x8x32, .f32⟩
  | .hbm, ⟨56, _⟩ => ⟨S1x2048x8x32, .f32⟩
  | .hbm, ⟨57, _⟩ => ⟨S1x2048x8x32, .f32⟩
  | .hbm, ⟨58, _⟩ => ⟨S1x2048x8x32, .f32⟩
  | .hbm, ⟨59, _⟩ => ⟨S1x2048x8x32, .f32⟩
  | .hbm, ⟨60, _⟩ => ⟨S1x2048x8x32x1, .f32⟩
  | .hbm, ⟨61, _⟩ => ⟨S1x2048x8x32x1, .f32⟩
  | .hbm, ⟨62, _⟩ => ⟨S1x2048x8x32x2, .f32⟩
  | .hbm, ⟨63, _⟩ => ⟨S1x2048x8x64, .f32⟩
  | .hbm, ⟨64, _⟩ => ⟨S2048x512, .f32⟩
  | .hbm, ⟨65, _⟩ => ⟨S2048x512, .bf16⟩
  | .hbm, ⟨66, _⟩ => ⟨S1x2048x2x32x2, .f32⟩
  | .hbm, ⟨67, _⟩ => ⟨S1x2048x2x32x1, .f32⟩
  | .hbm, ⟨68, _⟩ => ⟨S1x2048x2x32, .f32⟩
  | .hbm, ⟨69, _⟩ => ⟨S1x2048x2x32x1, .f32⟩
  | .hbm, ⟨70, _⟩ => ⟨S1x2048x2x32, .f32⟩
  | .hbm, ⟨71, _⟩ => ⟨S1x2048x1x32, .f32⟩
  | .hbm, ⟨72, _⟩ => ⟨S1x2048x1x32, .f32⟩
  | .hbm, ⟨73, _⟩ => ⟨S1x2048x2x32, .f32⟩
  | .hbm, ⟨74, _⟩ => ⟨S1x2048x2x32, .f32⟩
  | .hbm, ⟨75, _⟩ => ⟨S1x2048x2x32, .f32⟩
  | .hbm, ⟨76, _⟩ => ⟨S1x2048x2x32, .f32⟩
  | .hbm, ⟨77, _⟩ => ⟨S1x2048x2x32, .f32⟩
  | .hbm, ⟨78, _⟩ => ⟨S1x2048x2x32, .f32⟩
  | .hbm, ⟨79, _⟩ => ⟨S1x2048x2x32, .f32⟩
  | .hbm, ⟨80, _⟩ => ⟨S1x2048x2x32, .f32⟩
  | .hbm, ⟨81, _⟩ => ⟨S1x2048x2x32, .f32⟩
  | .hbm, ⟨82, _⟩ => ⟨S1x2048x2x32, .f32⟩
  | .hbm, ⟨83, _⟩ => ⟨S1x2048x2x32x1, .f32⟩
  | .hbm, ⟨84, _⟩ => ⟨S1x2048x2x32x1, .f32⟩
  | .hbm, ⟨85, _⟩ => ⟨S1x2048x2x32x2, .f32⟩
  | .hbm, ⟨86, _⟩ => ⟨S1x2048x2x64, .f32⟩
  | .hbm, ⟨87, _⟩ => ⟨S2048x128, .f32⟩
  | .hbm, ⟨88, _⟩ => ⟨S2048x128, .bf16⟩
  | _, _ => ⟨S1x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩

abbrev nD : Nat := 1
abbrev τ : Topo := Topo.v7x

variable {F : FTy → Type} [FloatOps F]
-- ==== Kernel13.lean ====
abbrev S1x2048x1024 : Shape := ⟨3, ![1, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x1024, .f32⟩
  | .hbm, ⟨3, _⟩ => ⟨S1x2048x1024, .f32⟩
  | .hbm, ⟨4, _⟩ => ⟨S1024x1024, .f32⟩
  | .hbm, ⟨5, _⟩ => ⟨S1024x1024, .bf16⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x1024, .f32⟩
  | .hbm, ⟨10, _⟩ => ⟨S2048x1024, .bf16⟩
  | .hbm, ⟨11, _⟩ => ⟨S2048x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference13Ideal.lean ====
abbrev S1x2048x1024 : Shape := ⟨3, ![1, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S2048x1024 : Shape := ⟨2, ![2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x1024, .f32⟩
  | .hbm, ⟨3, _⟩ => ⟨S1x2048x1024, .f32⟩
  | .hbm, ⟨4, _⟩ => ⟨S1024x1024, .f32⟩
  | .hbm, ⟨5, _⟩ => ⟨S1x2048x1024, .f32⟩
  | .hbm, ⟨6, _⟩ => ⟨S1024, .f32⟩
  | .hbm, ⟨7, _⟩ => ⟨S1x2048x1024, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x1024, .f32⟩
  | .hbm, ⟨23, _⟩ => ⟨S1x2048x1024, .f32⟩
  | .hbm, ⟨24, _⟩ => ⟨S1x1x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1024, .f32⟩
  | .hbm, ⟨35, _⟩ => ⟨S1x2048x1024, .f32⟩
  | .hbm, ⟨36, _⟩ => ⟨S_, .f32⟩
  | .hbm, ⟨37, _⟩ => ⟨S1x2048, .f32⟩
  | .hbm, ⟨38, _⟩ => ⟨S1x2048x1, .f32⟩
  | .hbm, ⟨39, _⟩ => ⟨S1x2048x1024, .f32⟩
  | .hbm, ⟨40, _⟩ => ⟨S1x2048x1024, .f32⟩
  | .hbm, ⟨41, _⟩ => ⟨S1x2048x1, .f32⟩
  | .hbm, ⟨42, _⟩ => ⟨S_, .f32⟩
  | .hbm, ⟨43, _⟩ => ⟨S1x2048x1, .f32⟩
  | .hbm, ⟨44, _⟩ => ⟨S1x2048x1, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S1x2048x1024, .f32⟩
  | .hbm, ⟨49, _⟩ => ⟨S1x2048x1024, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S1x1024, .f32⟩
  | .hbm, ⟨54, _⟩ => ⟨S1x2048x1024, .f32⟩
  | .hbm, ⟨55, _⟩ => ⟨S2048x1024, .f32⟩
  | .hbm, ⟨56, _⟩ => ⟨S2048x1024, .bf16⟩
  | .hbm, ⟨57, _⟩ => ⟨S2048x1024, .f32⟩
  | .hbm, ⟨58, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel14.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S1x1024 : Shape := ⟨2, ![1, 1024]⟩
abbrev S2048x2816 : Shape := ⟨2, ![2048, 2816]⟩
abbrev S2816x1024 : Shape := ⟨2, ![2816, 1024]⟩
abbrev S2048x1024 : Shape := ⟨2, ![2048, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 14
  | .vmem => 13
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x2048x1024, .f32⟩
  | .hbm, ⟨3, _⟩ => ⟨S1x1024, .f32⟩
  | .hbm, ⟨4, _⟩ => ⟨S1x2048x1024, .f32⟩
  | .hbm, ⟨5, _⟩ => ⟨S2048x2816, .f32⟩
  | .hbm, ⟨6, _⟩ => ⟨S2048x2816, .bf16⟩
  | .hbm, ⟨7, _⟩ => ⟨S2816x1024, .f32⟩
  | .hbm, ⟨8, _⟩ => ⟨S2816x1024, .bf16⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1, .f32⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x2048x1024, .f32⟩
  | .hbm, ⟨3, _⟩ => ⟨S1x1024, .f32⟩
  | .hbm, ⟨4, _⟩ => ⟨S1x2048x1024, .f32⟩
  | .hbm, ⟨5, _⟩ => ⟨S2816x1024, .f32⟩
  | .hbm, ⟨6, _⟩ => ⟨S1x2048x1024, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1024, .f32⟩
  | .hbm, ⟨20, _⟩ => ⟨S1x2048x1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S1x2048x1024, .f32⟩
  | .hbm, ⟨48, _⟩ => ⟨S1x2048x1024, .f32⟩
  | .hbm, ⟨49, _⟩ => ⟨S2048x1024, .f32⟩
  | .hbm, ⟨50, _⟩ => ⟨S1x1, .f32⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel15.lean ====
abbrev S1x2048x1024 : Shape := ⟨3, ![1, 2048, 1024]⟩
abbrev S1x1024x1024 : Shape := ⟨3, ![1, 1024, 1024]⟩
abbrev S1x1024 : Shape := ⟨2, ![1, 1024]⟩
abbrev S2048x1024 : Shape := ⟨2, ![2048, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S1024x1024, .f32⟩
  | .hbm, ⟨7, _⟩ => ⟨S1024x1024, .bf16⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S1x2048x1024 : Shape := ⟨3, ![1, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S2048x1024 : Shape := ⟨2, ![2048, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x2048x1024, .f32⟩
  | .hbm, ⟨3, _⟩ => ⟨S1x1024, .f32⟩
  | .hbm, ⟨4, _⟩ => ⟨S1024x1024, .f32⟩
  | .hbm, ⟨5, _⟩ => ⟨S1x2048x1024, .f32⟩
  | .hbm, ⟨6, _⟩ => ⟨S2048x1024, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1024, .f32⟩
  | .hbm, ⟨20, _⟩ => ⟨S1x2048x1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel16.lean ====
abbrev S1x2048x1024 : Shape := ⟨3, ![1, 2048, 1024]⟩
abbrev S1x1024 : Shape := ⟨2, ![1, 1024]⟩
abbrev S1x1024x1024 : Shape := ⟨3, ![1, 1024, 1024]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x1024, .f32⟩
  | .hbm, ⟨3, _⟩ => ⟨S2048x1024, .f32⟩
  | .hbm, ⟨4, _⟩ => ⟨S1024x1024, .f32⟩
  | .hbm, ⟨5, _⟩ => ⟨S1024x1024, .bf16⟩
  | .hbm, ⟨6, _⟩ => ⟨S2048x1024, .bf16⟩
  | .hbm, ⟨7, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference16Ideal.lean ====
abbrev S1x2048x1024 : Shape := ⟨3, ![1, 2048, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x1024 : Shape := ⟨2, ![1024, 1024]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S1x2048x1024, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x1024, .f32⟩
  | .hbm, ⟨16, _⟩ => ⟨S1x2048x1024, .f32⟩
  | .hbm, ⟨17, _⟩ => ⟨S1x1x1024, .f32⟩
  | .hbm, ⟨18, _⟩ => ⟨S1x2048x1024, .f32⟩
  | .hbm, ⟨19, _⟩ => ⟨S1x2048x1024, .f32⟩
  | .hbm, ⟨20, _⟩ => ⟨S1024x1024, .f32⟩
  | .hbm, ⟨21, _⟩ => ⟨S1x2048x1024, .f32⟩
  | .hbm, ⟨22, _⟩ => ⟨S2048x1024, .f32⟩
  | .hbm, ⟨23, _⟩ => ⟨S2048x1024, .bf16⟩
  | .hbm, ⟨24, _⟩ => ⟨S2048x1024, .f32⟩
  | .hbm, ⟨25, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel17.lean ====
abbrev S1x2048x1024 : Shape := ⟨3, ![1, 2048, 1024]⟩
abbrev S1x1024 : Shape := ⟨2, ![1, 1024]⟩
abbrev S1x1024x3328 : Shape := ⟨3, ![1, 1024, 3328]⟩
abbrev S1x2048x3328 : Shape := ⟨3, ![1, 2048, 3328]⟩
abbrev S1x3328x1024 : Shape := ⟨3, ![1, 3328, 1024]⟩
abbrev S3328x1024 : Shape := ⟨2, ![3328, 1024]⟩
abbrev S2048x3328 : Shape := ⟨2, ![2048, 3328]⟩
abbrev S2048x1024 : Shape := ⟨2, ![2048, 1024]⟩
abbrev S512x3328 : Shape := ⟨2, ![512, 3328]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x3328, .f32⟩
  | .hbm, ⟨3, _⟩ => ⟨S1x2048x3328, .f32⟩
  | .hbm, ⟨4, _⟩ => ⟨S1x2048x1024, .f32⟩
  | .hbm, ⟨5, _⟩ => ⟨S1x3328x1024, .f32⟩
  | .hbm, ⟨6, _⟩ => ⟨S3328x1024, .f32⟩
  | .hbm, ⟨7, _⟩ => ⟨S3328x1024, .bf16⟩
  | .hbm, ⟨8, _⟩ => ⟨S2048x3328, .f32⟩
  | .hbm, ⟨9, _⟩ => ⟨S2048x3328, .bf16⟩
  | .hbm, ⟨10, _⟩ => ⟨S1x3328x1024, .bf16⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S1x1024, .f32⟩
  | .local _ .vmem, ⟨0, _⟩ => ⟨S512x3328, .bf16⟩
  | .local _ .vmem, ⟨1, _⟩ => ⟨S512x3328, .bf16⟩
  | .local _ .vmem, ⟨2, _⟩ => ⟨S1x3328x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3328x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S1x2048x1024 : Shape := ⟨3, ![1, 2048, 1024]⟩
abbrev S1x1024 : Shape := ⟨2, ![1, 1024]⟩
abbrev S1x1024x3328 : Shape := ⟨3, ![1, 1024, 3328]⟩
abbrev S1x2048x3328 : Shape := ⟨3, ![1, 2048, 3328]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x3328 : Shape := ⟨2, ![1024, 3328]⟩
abbrev S2048 : Shape := ⟨1, ![2048]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x3328, .f32⟩
  | .hbm, ⟨3, _⟩ => ⟨S1x2048x3328, .f32⟩
  | .hbm, ⟨4, _⟩ => ⟨S1x2048x1024, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x3328, .f32⟩
  | .hbm, ⟨27, _⟩ => ⟨S1x2048x3328, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x1024, .f32⟩
  | .hbm, ⟨57, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel18.lean ====
abbrev S1x2048x1024 : Shape := ⟨3, ![1, 2048, 1024]⟩
abbrev S1x2048x3328 : Shape := ⟨3, ![1, 2048, 3328]⟩
abbrev S2048x3328 : Shape := ⟨2, ![2048, 3328]⟩
abbrev S2048x1024 : Shape := ⟨2, ![2048, 1024]⟩
abbrev S3328x1024 : Shape := ⟨2, ![3328, 1024]⟩
abbrev S2048x1664 : Shape := ⟨2, ![2048, 1664]⟩
abbrev S1664x1024 : Shape := ⟨2, ![1664, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1x2048x3328, .f32⟩
  | .hbm, ⟨2, _⟩ => ⟨S2048x3328, .f32⟩
  | .hbm, ⟨3, _⟩ => ⟨S2048x3328, .bf16⟩
  | .hbm, ⟨4, _⟩ => ⟨S2048x1024, .f32⟩
  | .hbm, ⟨5, _⟩ => ⟨S2048x1024, .bf16⟩
  | .hbm, ⟨6, _⟩ => ⟨S3328x1024, .bf16⟩
  | .local _ .vmem, ⟨0, _⟩ => ⟨S2048x1664, .bf16⟩
  | .local _ .vmem, ⟨1, _⟩ => ⟨S2048x1664, .bf16⟩
  | .local _ .vmem, ⟨2, _⟩ => ⟨S2048x1024, .bf16⟩
  | .local _ .vmem, ⟨3, _⟩ => ⟨S1664x1024, .bf16⟩
  | .local _ .vmem, ⟨4, _⟩ => ⟨S1664x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S1x2048x1024 : Shape := ⟨3, ![1, 2048, 1024]⟩
abbrev S1x2048x3328 : Shape := ⟨3, ![1, 2048, 3328]⟩
abbrev S_ : Shape := ⟨0, ![]⟩
abbrev S1024x3328 : Shape := ⟨2, ![1024, 3328]⟩
abbrev S3328x1024 : Shape := ⟨2, ![3328, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x3328, .f32⟩
  | .hbm, ⟨2, _⟩ => ⟨S_, .f32⟩
  | .hbm, ⟨3, _⟩ => ⟨S1024x3328, .f32⟩
  | .hbm, ⟨4, _⟩ => ⟨S1x2048x3328, .f32⟩
  | .hbm, ⟨5, _⟩ => ⟨S3328x1024, .f32⟩
  | .hbm, ⟨6, _⟩ => ⟨S1024x3328, .f32⟩
  | .hbm, ⟨7, _⟩ => ⟨S3328x1024, .f32⟩
  | .hbm, ⟨8, _⟩ => ⟨S3328x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S1x2048x1024 : Shape := ⟨3, ![1, 2048, 1024]⟩
abbrev S1x2048x5632 : Shape := ⟨3, ![1, 2048, 5632]⟩
abbrev S2048x1024 : Shape := ⟨2, ![2048, 1024]⟩
abbrev S2048x5632 : Shape := ⟨2, ![2048, 5632]⟩
abbrev S2048x2816 : Shape := ⟨2, ![2048, 2816]⟩
abbrev S4x1024x1408 : Shape := ⟨3, ![4, 1024, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 10
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1x2048x5632, .f32⟩
  | .hbm, ⟨2, _⟩ => ⟨S2048x1024, .f32⟩
  | .hbm, ⟨3, _⟩ => ⟨S2048x1024, .bf16⟩
  | .hbm, ⟨4, _⟩ => ⟨S2048x5632, .f32⟩
  | .hbm, ⟨5, _⟩ => ⟨S2048x5632, .bf16⟩
  | .hbm, ⟨6, _⟩ => ⟨S2048x2816, .bf16⟩
  | .hbm, ⟨7, _⟩ => ⟨S4x1024x1408, .bf16⟩
  | .hbm, ⟨8, _⟩ => ⟨S2048x2816, .bf16⟩
  | .hbm, ⟨9, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S2048x512, .bf16⟩
  | .local _ .vmem, ⟨7, _⟩ => ⟨S2048x512, .bf16⟩
  | .local _ .vmem, ⟨8, _⟩ => ⟨S2048x1408, .bf16⟩
  | .local _ .vmem, ⟨9, _⟩ => ⟨S2048x1408, .bf16⟩
  | .local _ .vmem, ⟨10, _⟩ => ⟨S1x512x1408, .bf16⟩
  | .local _ .vmem, ⟨11, _⟩ => ⟨S1x512x1408, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference19Ideal.lean ====
abbrev S1x2048x1024 : Shape := ⟨3, ![1, 2048, 1024]⟩
abbrev S1x2048x5632 : Shape := ⟨3, ![1, 2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x5632, .f32⟩
  | .hbm, ⟨2, _⟩ => ⟨S_, .f32⟩
  | .hbm, ⟨3, _⟩ => ⟨S1024x5632, .f32⟩
  | .hbm, ⟨4, _⟩ => ⟨S1x2048x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S1x1024x2048 : Shape := ⟨3, ![1, 1024, 2048]⟩
abbrev S1x256x2048 : Shape := ⟨3, ![1, 256, 2048]⟩
abbrev S256x2048 : Shape := ⟨2, ![256, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S1x1024x2048, .f32⟩
  | .hbm, ⟨1, _⟩ => ⟨S1x256x2048, .f32⟩
  | .hbm, ⟨2, _⟩ => ⟨S256x2048, .f32⟩
  | .hbm, ⟨3, _⟩ => ⟨S256x2048, .bf16⟩
  | .hbm, ⟨4, _⟩ => ⟨S1024x2048, .f32⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S256x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S256x1024, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference20Ideal.lean ====
abbrev S1x1024x2048 : Shape := ⟨3, ![1, 1024, 2048]⟩
abbrev S1x256x2048 : Shape := ⟨3, ![1, 256, 2048]⟩
abbrev S_ : Shape := ⟨0, ![]⟩
abbrev S1x256x1024 : Shape := ⟨3, ![1, 256, 1024]⟩
abbrev S1024x2048 : Shape := ⟨2, ![1024, 2048]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x256x2048, .f32⟩
  | .hbm, ⟨2, _⟩ => ⟨S_, .f32⟩
  | .hbm, ⟨3, _⟩ => ⟨S1x256x1024, .f32⟩
  | .hbm, ⟨4, _⟩ => ⟨S1024x2048, .f32⟩
  | .hbm, ⟨5, _⟩ => ⟨S1x256x2048, .f32⟩
  | .hbm, ⟨6, _⟩ => ⟨S1x256x1024, .f32⟩
  | .hbm, ⟨7, _⟩ => ⟨S256x1024, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S1x1024x1408 : Shape := ⟨3, ![1, 1024, 1408]⟩
abbrev S1x704x1024 : Shape := ⟨3, ![1, 704, 1024]⟩
abbrev S1x256x1408 : Shape := ⟨3, ![1, 256, 1408]⟩
abbrev S1x176x1024 : Shape := ⟨3, ![1, 176, 1024]⟩

abbrev nBuf : Space → Nat
  | .hbm => 16
  | .vmem => 32
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S1x704x1024, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | .local _ .vmem, ⟨22, _⟩ => ⟨S1x256x1408, .f32⟩
  | .local _ .vmem, ⟨23, _⟩ => ⟨S1x256x1408, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference21Ideal.lean ====
abbrev S1x1024x1408 : Shape := ⟨3, ![1, 1024, 1408]⟩
abbrev S1x704x1024 : Shape := ⟨3, ![1, 704, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S_, .f32⟩
  | .hbm, ⟨9, _⟩ => ⟨S1x1024x1408, .f32⟩
  | .hbm, ⟨10, _⟩ => ⟨S1x1024x1408, .f32⟩
  | .hbm, ⟨11, _⟩ => ⟨S_, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S_, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S_, .f32⟩
  | .hbm, ⟨20, _⟩ => ⟨S1x1024x1408, .f32⟩
  | .hbm, ⟨21, _⟩ => ⟨S1x1024x1408, .f32⟩
  | .hbm, ⟨22, _⟩ => ⟨S1x1024x1408, .f32⟩
  | .hbm, ⟨23, _⟩ => ⟨S_, .f32⟩
  | .hbm, ⟨24, _⟩ => ⟨S1x1024x1408, .f32⟩
  | .hbm, ⟨25, _⟩ => ⟨S1x1024x1408, .f32⟩
  | .hbm, ⟨26, _⟩ => ⟨S_, .f32⟩
  | .hbm, ⟨27, _⟩ => ⟨S1x1024x1408, .f32⟩
  | .hbm, ⟨28, _⟩ => ⟨S1x1024x1408, .f32⟩
  | .hbm, ⟨29, _⟩ => ⟨S1x1024x1408, .f32⟩
  | .hbm, ⟨30, _⟩ => ⟨S_, .f32⟩
  | .hbm, ⟨31, _⟩ => ⟨S1x1024x1408, .f32⟩
  | .hbm, ⟨32, _⟩ => ⟨S1x1024x1408, .f32⟩
  | .hbm, ⟨33, _⟩ => ⟨S1x1024x1408, .f32⟩
  | .hbm, ⟨34, _⟩ => ⟨S_, .f32⟩
  | .hbm, ⟨35, _⟩ => ⟨S1x1024x1408, .f32⟩
  | .hbm, ⟨36, _⟩ => ⟨S1x1024x1408, .f32⟩
  | .hbm, ⟨37, _⟩ => ⟨S1x1024x1408, .f32⟩
  | .hbm, ⟨38, _⟩ => ⟨S_, .f32⟩
  | .hbm, ⟨39, _⟩ => ⟨S1x1024x1408, .f32⟩
  | .hbm, ⟨40, _⟩ => ⟨S1x1024x1408, .f32⟩
  | .hbm, ⟨41, _⟩ => ⟨S_, .f32⟩
  | .hbm, ⟨42, _⟩ => ⟨S1x704x1024, .f32⟩
  | .hbm, ⟨43, _⟩ => ⟨S1x704x1024, .f32⟩
  | .hbm, ⟨44, _⟩ => ⟨S_, .f32⟩
  | .hbm, ⟨45, _⟩ => ⟨S1x704x1024, .f32⟩
  | .hbm, ⟨46, _⟩ => ⟨S1x704x1024, .f32⟩
  | .hbm, ⟨47, _⟩ => ⟨S1x704x1024, .f32⟩
  | .hbm, ⟨48, _⟩ => ⟨S_, .f32⟩
  | .hbm, ⟨49, _⟩ => ⟨S1x704x1024, .f32⟩
  | .hbm, ⟨50, _⟩ => ⟨S1x704x1024, .f32⟩
  | .hbm, ⟨51, _⟩ => ⟨S1x704x1024, .f32⟩
  | .hbm, ⟨52, _⟩ => ⟨S_, .f32⟩
  | .hbm, ⟨53, _⟩ => ⟨S1x704x1024, .f32⟩
  | .hbm, ⟨54, _⟩ => ⟨S1x704x1024, .f32⟩
  | .hbm, ⟨55, _⟩ => ⟨S1x704x1024, .f32⟩
  | .hbm, ⟨56, _⟩ => ⟨S_, .f32⟩
  | .hbm, ⟨57, _⟩ => ⟨S1x704x1024, .f32⟩
  | .hbm, ⟨58, _⟩ => ⟨S1x704x1024, .f32⟩
  | .hbm, ⟨59, _⟩ => ⟨S_, .f32⟩
  | .hbm, ⟨60, _⟩ => ⟨S1x704x1024, .f32⟩
  | .hbm, ⟨61, _⟩ => ⟨S1x704x1024, .f32⟩
  | .hbm, ⟨62, _⟩ => ⟨S1x704x1024, .f32⟩
  | .hbm, ⟨63, _⟩ => ⟨S_, .f32⟩
  | .hbm, ⟨64, _⟩ => ⟨S1x704x1024, .f32⟩
  | .hbm, ⟨65, _⟩ => ⟨S1x704x1024, .f32⟩
  | .hbm, ⟨66, _⟩ => ⟨S1x704x1024, .f32⟩
  | .hbm, ⟨67, _⟩ => ⟨S_, .f32⟩
  | .hbm, ⟨68, _⟩ => ⟨S1x704x1024, .f32⟩
  | .hbm, ⟨69, _⟩ => ⟨S1x704x1024, .f32⟩
  | .hbm, ⟨70, _⟩ => ⟨S1x704x1024, .f32⟩
  | .hbm, ⟨71, _⟩ => ⟨S_, .f32⟩
  | .hbm, ⟨72, _⟩ => ⟨S1x704x1024, .f32⟩
  | .hbm, ⟨73, _⟩ => ⟨S1x704x1024, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel22.lean ====
abbrev S1x2048x1024 : Shape := ⟨3, ![1, 2048, 1024]⟩
abbrev S1x1024 : Shape := ⟨2, ![1, 1024]⟩
abbrev S1x1024x1024 : Shape := ⟨3, ![1, 1024, 1024]⟩
abbrev S2048x1024 : Shape := ⟨2, ![2048, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x1024, .f32⟩
  | .hbm, ⟨3, _⟩ => ⟨S1x2048x1024, .f32⟩
  | .hbm, ⟨4, _⟩ => ⟨S1x2048x1024, .f32⟩
  | .hbm, ⟨5, _⟩ => ⟨S2048x1024, .f32⟩
  | .hbm, ⟨6, _⟩ => ⟨S2048x1024, .bf16⟩
  | .hbm, ⟨7, _⟩ => ⟨S1x1024x1024, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference22Ideal.lean ====
abbrev S1x2048x1024 : Shape := ⟨3, ![1, 2048, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x1024 : Shape := ⟨2, ![1024, 1024]⟩
abbrev S2048 : Shape := ⟨1, ![2048]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x1024, .f32⟩
  | .hbm, ⟨3, _⟩ => ⟨S1x2048x1024, .f32⟩
  | .hbm, ⟨4, _⟩ => ⟨S1x2048x1024, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x1024, .f32⟩
  | .hbm, ⟨57, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel23.lean ====
abbrev S1x32256 : Shape := ⟨2, ![1, 32256]⟩
abbrev S8x32256 : Shape := ⟨2, ![8, 32256]⟩
abbrev S8x1x32256 : Shape := ⟨3, ![8, 1, 32256]⟩
abbrev S1x1x32256 : Shape := ⟨3, ![1, 1, 32256]⟩

abbrev nBuf : Space → Nat
  | .hbm => 4
  | .vmem => 3
  | .smem => 0
  | _ => 0

abbrev bufTy : (tb : Table) → Fin (tcTables nBuf tb) → BufTy
  | .hbm, ⟨0, _⟩ => ⟨S1x32256, .f32⟩
  | .hbm, ⟨1, _⟩ => ⟨S8x32256, .f32⟩
  | .hbm, ⟨2, _⟩ => ⟨S8x1x32256, .f32⟩
  | .hbm, ⟨3, _⟩ => ⟨S1x32256, .f32⟩
  | .local _ .vmem, ⟨0, _⟩ => ⟨S1x32256, .f32⟩
  | .local _ .vmem, ⟨1, _⟩ => ⟨S8x1x32256, .f32⟩
  | .local _ .vmem, ⟨2, _⟩ => ⟨S1x32256, .f32⟩
  | _, _ => ⟨S1x32256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 8
abbrev τ : Topo := Topo.v7x

variable {F : FTy → Type} [FloatOps F]

abbrev grid0 : Pipeline.Grid := .none

abbrev stage0_0 : Fin 1 → Memref sig .tc .vmem S1x32256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x32256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference23Ideal.lean ====
abbrev S8x32256 : Shape := ⟨2, ![8, 32256]⟩
abbrev S64x32256 : Shape := ⟨2, ![64, 32256]⟩
abbrev S8x8 : Shape := ⟨2, ![8, 8]⟩
abbrev S_ : Shape := ⟨0, ![]⟩
abbrev S8x8x1 : Shape := ⟨3, ![8, 8, 1]⟩
abbrev S8x1x32256 : Shape := ⟨3, ![8, 1, 32256]⟩
abbrev S8x8x32256 : Shape := ⟨3, ![8, 8, 32256]⟩

abbrev nBuf : Space → Nat
  | .hbm => 16
  | .vmem => 0
  | .smem => 0
  | _ => 0

abbrev bufTy : (tb : Table) → Fin (tcTables nBuf tb) → BufTy
  | .hbm, ⟨0, _⟩ => ⟨S8x32256, .f32⟩
  | .hbm, ⟨1, _⟩ => ⟨S64x32256, .f32⟩
  | .hbm, ⟨2, _⟩ => ⟨S8x8, .i32⟩
  | .hbm, ⟨3, _⟩ => ⟨S8x8, .i32⟩
  | .hbm, ⟨4, _⟩ => ⟨S_, .i32⟩
  | .hbm, ⟨5, _⟩ => ⟨S8x8, .i32⟩
  | .hbm, ⟨6, _⟩ => ⟨S8x8, .i32⟩
  | .hbm, ⟨7, _⟩ => ⟨S8x8, .i1⟩
  | .hbm, ⟨8, _⟩ => ⟨S8x8x1, .i1⟩
  | .hbm, ⟨9, _⟩ => ⟨S8x1x32256, .f32⟩
  | .hbm, ⟨10, _⟩ => ⟨S8x8x32256, .f32⟩
  | .hbm, ⟨11, _⟩ => ⟨S8x8x32256, .i1⟩
  | .hbm, ⟨12, _⟩ => ⟨S8x8x32256, .f32⟩
  | .hbm, ⟨13, _⟩ => ⟨S8x8x32256, .f32⟩
  | .hbm, ⟨14, _⟩ => ⟨S_, .f32⟩
  | .hbm, ⟨15, _⟩ => ⟨S8x32256, .f32⟩
  | _, _ => ⟨S8x32256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Lift.lean ====
module

public import Idealize.ShloMosaic.Lib.Pointwise
public import Idealize.ShloMosaic.Lib.Pipeline.ValueKit

/-! Extended reals that are real numbers: the operations of the two programs on them, and the words of the
    literals they use. -/

@[expose] public section

set_option maxRecDepth 16384

noncomputable section

namespace Cert.Lift

open Idealize.ShloMosaic

/-- A sum of real numbers, read in the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The quotient of real numbers, the divisor not zero. -/
theorem div_real (x : ℝ) {y : ℝ} (h : y ≠ 0) : Ideal.div (x : EReal) (y : EReal) = ((x / y : ℝ) : EReal) := by
  rw [Ideal.div_coe h, ← EReal.coe_mul, one_div, div_eq_mul_inv]

/-- The reciprocal square root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- An extended real of finite magnitude is a real number. -/
theorem exists_real_of_abs_lt {a : EReal} (h : Ideal.cmp .olt (max a (-a)) ⊤ = 1#1) : ∃ r : ℝ, a = (r : EReal) := by
  induction a with
  | bot => simp [Ideal.cmp] at h
  | coe r => exact ⟨r, rfl⟩
  | top => simp [Ideal.cmp] at h

theorem ofBits_inf : Ideal.ofBits .f32 0x7F800000#32 = ⊤ := by
  simp [Ideal.ofBits, Ideal.ieee]

/-- An array whose elements all pass the test "magnitude below infinity" holds real numbers. -/
theorem exists_real {s : Shape} (x : FVec Ideal s .f32) (h : (⟨0, ![]⟩ : Shape).BroadcastsInDim s (![] : Fin 0 → Fin s.rank))
    (hx : cmpf .olt (Host.absf x) (broadcastInDim s ![] h (constant (F := Ideal) ⟨0, ![]⟩ .f32 0x7F800000#32)) = fun _ => 1#1) :
    ∃ r : s.Idx → ℝ, x = fun i => ((r i : ℝ) : EReal) := by
  have hr : ∀ i, ∃ r : ℝ, x i = ((r : ℝ) : EReal) := fun i => by
    refine exists_real_of_abs_lt ?_
    have := congrFun hx i
    rw [← ofBits_inf]
    exact this
  exact ⟨fun i => (hr i).choose, funext fun i => (hr i).choose_spec⟩

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul]; norm_num

theorem ofBits_bf16_eighth : Ideal.ofBits .bf16 0x3E00#16 = ((1 / 8 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_bf16_one : Ideal.ofBits .bf16 0x3F80#16 = ((1 : ℝ) : EReal) := by
  simp [Ideal.ofBits, Ideal.ieee, -EReal.coe_mul]; norm_num

/-- An array of reals, read as extended reals. -/
def lift {s : Shape} (x : s.Idx → ℝ) : s.Idx → EReal := fun i => ((x i : ℝ) : EReal)

/-- The norm's epsilon, as the real number its word names. -/
def eps : ℝ := 8796093 / 2 ^ 43

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

/-- A host sum over the axes [0, 2] of an array of rank 3, at an index. -/
theorem hostReduceAdd_r3_a02 {n0 n1 n2 : ℕ} (h : (⟨3, ![n0, n1, n2]⟩ : Shape).ReducesTo [0, 2] ⟨1, ![n1]⟩) (v : (⟨3, ![n0, n1, n2]⟩ : Shape).Idx → EReal)
    (init : EReal) (j1 : Fin n1) : Ideal.hostReduceAdd h v init (ix1 j1) = init + ∑ k0 : Fin n0, ∑ k2 : Fin n2, v (ix3 k0 j1 k2) := by
  refine congrArg (init + ·) ((Finset.sum_filter_eq_sum_of_fiber _ (fun k : Fin n0 × Fin n2 => (ix3 k.1 j1 k.2))
    (fun _ _ e => Prod.ext (congrFun e 0) (congrFun e 2)) (fun i => ?_) v).trans (by simp only [Fintype.sum_prod_type]))
  constructor
  · intro e
    refine ⟨(i 0, i 2), ?_⟩
    funext a; apply Fin.ext
    match a with
    | ⟨0, _⟩ => rfl
    | ⟨1, _⟩ => exact (congrArg Fin.val (congrFun e 0)).symm
    | ⟨2, _⟩ => rfl
  · rintro ⟨k, rfl⟩
    funext b; apply Fin.ext
    match b with
    | ⟨0, _⟩ => rfl

/-- A host sum over the axes [0, 1] of an array of rank 3, at an index. -/
theorem hostReduceAdd_r3_a01 {n0 n1 n2 : ℕ} (h : (⟨3, ![n0, n1, n2]⟩ : Shape).ReducesTo [0, 1] ⟨1, ![n2]⟩) (v : (⟨3, ![n0, n1, n2]⟩ : Shape).Idx → EReal)
    (init : EReal) (j2 : Fin n2) : Ideal.hostReduceAdd h v init (ix1 j2) = init + ∑ k0 : Fin n0, ∑ k1 : Fin n1, v (ix3 k0 k1 j2) := by
  refine congrArg (init + ·) ((Finset.sum_filter_eq_sum_of_fiber _ (fun k : Fin n0 × Fin n1 => (ix3 k.1 k.2 j2))
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

/-- A host sum over the axes [0, 1, 2] of an array of rank 4, at an index. -/
theorem hostReduceAdd_r4_a012 {n0 n1 n2 n3 : ℕ} (h : (⟨4, ![n0, n1, n2, n3]⟩ : Shape).ReducesTo [0, 1, 2] ⟨1, ![n3]⟩) (v : (⟨4, ![n0, n1, n2, n3]⟩ : Shape).Idx → EReal)
    (init : EReal) (j3 : Fin n3) : Ideal.hostReduceAdd h v init (ix1 j3) = init + ∑ k0 : Fin n0, ∑ k1 : Fin n1, ∑ k2 : Fin n2, v (ix4 k0 k1 k2 j3) := by
  refine congrArg (init + ·) ((Finset.sum_filter_eq_sum_of_fiber _ (fun k : Fin n0 × Fin n1 × Fin n2 => (ix4 k.1 k.2.1 k.2.2 j3))
    (fun _ _ e => Prod.ext (congrFun e 0) (Prod.ext (congrFun e 1) (congrFun e 2))) (fun i => ?_) v).trans (by simp only [Fintype.sum_prod_type]))
  constructor
  · intro e
    refine ⟨(i 0, i 1, i 2), ?_⟩
    funext a; apply Fin.ext
    match a with
    | ⟨0, _⟩ => rfl
    | ⟨1, _⟩ => rfl
    | ⟨2, _⟩ => rfl
    | ⟨3, _⟩ => exact (congrArg Fin.val (congrFun e 0)).symm
  · rintro ⟨k, rfl⟩
    funext b; apply Fin.ext
    match b with
    | ⟨0, _⟩ => rfl

/-- A host sum over the axes [0, 1] of an array of rank 4, at an index. -/
theorem hostReduceAdd_r4_a01 {n0 n1 n2 n3 : ℕ} (h : (⟨4, ![n0, n1, n2, n3]⟩ : Shape).ReducesTo [0, 1] ⟨2, ![n2, n3]⟩) (v : (⟨4, ![n0, n1, n2, n3]⟩ : Shape).Idx → EReal)
    (init : EReal) (j2 : Fin n2) (j3 : Fin n3) : Ideal.hostReduceAdd h v init (ix2 j2 j3) = init + ∑ k0 : Fin n0, ∑ k1 : Fin n1, v (ix4 k0 k1 j2 j3) := by
  refine congrArg (init + ·) ((Finset.sum_filter_eq_sum_of_fiber _ (fun k : Fin n0 × Fin n1 => (ix4 k.1 k.2 j2 j3))
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b; apply Fin.ext
    match b with
    | ⟨0, _⟩ => rfl
    | ⟨1, _⟩ => rfl

/-- A host sum over the axes [0, 3] of an array of rank 4, at an index. -/
theorem hostReduceAdd_r4_a03 {n0 n1 n2 n3 : ℕ} (h : (⟨4, ![n0, n1, n2, n3]⟩ : Shape).ReducesTo [0, 3] ⟨2, ![n1, n2]⟩) (v : (⟨4, ![n0, n1, n2, n3]⟩ : Shape).Idx → EReal)
    (init : EReal) (j1 : Fin n1) (j2 : Fin n2) : Ideal.hostReduceAdd h v init (ix2 j1 j2) = init + ∑ k0 : Fin n0, ∑ k3 : Fin n3, v (ix4 k0 j1 j2 k3) := by
  refine congrArg (init + ·) ((Finset.sum_filter_eq_sum_of_fiber _ (fun k : Fin n0 × Fin n3 => (ix4 k.1 j1 j2 k.2))
    (fun _ _ e => Prod.ext (congrFun e 0) (congrFun e 3)) (fun i => ?_) v).trans (by simp only [Fintype.sum_prod_type]))
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b; apply Fin.ext
    match b with
    | ⟨0, _⟩ => rfl
    | ⟨1, _⟩ => rfl

/-- A host sum over the axes [0, 4] of an array of rank 5, at an index. -/
theorem hostReduceAdd_r5_a04 {n0 n1 n2 n3 n4 : ℕ} (h : (⟨5, ![n0, n1, n2, n3, n4]⟩ : Shape).ReducesTo [0, 4] ⟨3, ![n1, n2, n3]⟩) (v : (⟨5, ![n0, n1, n2, n3, n4]⟩ : Shape).Idx → EReal)
    (init : EReal) (j1 : Fin n1) (j2 : Fin n2) (j3 : Fin n3) : Ideal.hostReduceAdd h v init (ix3 j1 j2 j3) = init + ∑ k0 : Fin n0, ∑ k4 : Fin n4, v (ix5 k0 j1 j2 j3 k4) := by
  refine congrArg (init + ·) ((Finset.sum_filter_eq_sum_of_fiber _ (fun k : Fin n0 × Fin n4 => (ix5 k.1 j1 j2 j3 k.2))
    (fun _ _ e => Prod.ext (congrFun e 0) (congrFun e 4)) (fun i => ?_) v).trans (by simp only [Fintype.sum_prod_type]))
  constructor
  · intro e
    refine ⟨(i 0, i 4), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => rfl
  · rintro ⟨k, rfl⟩
    funext b; apply Fin.ext
    match b with
    | ⟨0, _⟩ => rfl
    | ⟨1, _⟩ => rfl
    | ⟨2, _⟩ => rfl

/-- A host sum over the axes [0, 1, 3] of an array of rank 4, at an index. -/
theorem hostReduceAdd_r4_a013 {n0 n1 n2 n3 : ℕ} (h : (⟨4, ![n0, n1, n2, n3]⟩ : Shape).ReducesTo [0, 1, 3] ⟨1, ![n2]⟩) (v : (⟨4, ![n0, n1, n2, n3]⟩ : Shape).Idx → EReal)
    (init : EReal) (j2 : Fin n2) : Ideal.hostReduceAdd h v init (ix1 j2) = init + ∑ k0 : Fin n0, ∑ k1 : Fin n1, ∑ k3 : Fin n3, v (ix4 k0 k1 j2 k3) := by
  refine congrArg (init + ·) ((Finset.sum_filter_eq_sum_of_fiber _ (fun k : Fin n0 × Fin n1 × Fin n3 => (ix4 k.1 k.2.1 j2 k.2.2))
    (fun _ _ e => Prod.ext (congrFun e 0) (Prod.ext (congrFun e 1) (congrFun e 3))) (fun i => ?_) v).trans (by simp only [Fintype.sum_prod_type]))
  constructor
  · intro e
    refine ⟨(i 0, i 1, i 3), ?_⟩
    funext a; apply Fin.ext
    match a with
    | ⟨0, _⟩ => rfl
    | ⟨1, _⟩ => rfl
    | ⟨2, _⟩ => exact (congrArg Fin.val (congrFun e 0)).symm
    | ⟨3, _⟩ => rfl
  · rintro ⟨k, rfl⟩
    funext b; apply Fin.ext
    match b with
    | ⟨0, _⟩ => rfl

end Cert.Lift

end
-- ==== Proof.NormMath.lean ====
module

public import proofs.«01_k».proof.Proof.Lift

/-! The gradient of RMSNorm over rows of 1024 entries, in the two forms in which the programs compute it. -/

@[expose] public section

set_option maxRecDepth 16384

noncomputable section

namespace Cert.Norm

open Cert.Lift

/-- One over the root mean square of a row. -/
def rstd (x : Fin 1024 → ℝ) : ℝ := (Real.sqrt ((∑ k, x k * x k) / 1024 + eps))⁻¹

theorem mean_sq_pos (x : Fin 1024 → ℝ) : 0 < (∑ k, x k * x k) / 1024 + eps :=
  add_pos_of_nonneg_of_pos (div_nonneg (Finset.sum_nonneg fun k _ => mul_self_nonneg _) (by norm_num)) eps_pos

/-- The gradient of the row `x` of RMSNorm with gain `g`, for the cotangent row `dy`. -/
def dxRow (x g dy : Fin 1024 → ℝ) (l : Fin 1024) : ℝ :=
  rstd x * (dy l * g l - x l * rstd x * ((∑ k, dy k * g k * (x k * rstd x)) / 1024))

/-- The gradient of the gain, at one column. -/
def dg {n : ℕ} (x dy : Fin n → Fin 1024 → ℝ) (l : Fin 1024) : ℝ := ∑ r, dy r l * (x r l * rstd (x r))

/-- The mean square of a row plus epsilon. -/
def ms (x : Fin 1024 → ℝ) : ℝ := (∑ k, x k * x k) / 1024 + eps

/-- The sum over a row of `x` times the cotangent times the gain. -/
def dot3 (x g dy : Fin 1024 → ℝ) : ℝ := ∑ k, x k * (dy k * g k)

/-- The derivative of the mean square's reciprocal root, times the row's sum, over the row's length. -/
def slope (x g dy : Fin 1024 → ℝ) : ℝ := dot3 x g dy * (-1 / 2 * (rstd x / ms x)) / 1024

theorem rstd_sq (x : Fin 1024 → ℝ) : rstd x * rstd x * ms x = 1 := by
  have h := mean_sq_pos x
  unfold rstd ms
  rw [← mul_inv, Real.mul_self_sqrt h.le, inv_mul_cancel₀ h.ne']

/-- The two forms of the row's gradient agree. -/
theorem dxRow_eq (x g dy : Fin 1024 → ℝ) (l : Fin 1024) :
    dy l * g l * rstd x + x l * slope x g dy + slope x g dy * x l = dxRow x g dy l := by
  have hm : ms x ≠ 0 := (mean_sq_pos x).ne'
  have hs : ∑ k, dy k * g k * (x k * rstd x) = rstd x * dot3 x g dy := by
    rw [dot3, Finset.mul_sum]; exact Finset.sum_congr rfl fun k _ => by ring
  have hr : rstd x / ms x = rstd x * rstd x * rstd x := by
    rw [div_eq_iff hm]; linear_combination (-rstd x) * rstd_sq x
  rw [dxRow, hs, slope, hr]
  ring

end Cert.Norm

end
-- ==== Proof.NormKernel.lean ====
module

public import proofs.«01_k».proof.Proof.Gen.KernelIdeal.Value
public import proofs.«01_k».proof.Proof.NormMath

/-! The gradient of the memory's RMSNorm: what the kernel leaves in its two result arrays, over real arguments. -/

@[expose] public section

set_option maxRecDepth 16384

noncomputable section

namespace Cert.Norm

open Idealize.ShloMosaic Idealize.ShloMosaic.TcCoe Idealize.SL.Sem
open Idealize.ShloMosaic.Pipeline (Dat)
open Cert.Lift

section
open Cert.KernelIdeal Cert.KernelIdeal.Gen

/-- The row gradient as an array. -/
def dxArr (xs ds : S1x256x1024.Idx → ℝ) (gs : S1x1024.Idx → ℝ) : S256x1024.Idx → EReal := fun i =>
  ((dxRow (fun k => xs (ix3 0 (i 0) k)) (fun k => gs (ix2 0 k)) (fun k => ds (ix3 0 (i 0) k)) (i 1) : ℝ) : EReal)

/-- The gain's gradient as an array. -/
def dgArr (xs ds : S1x256x1024.Idx → ℝ) : S1x1024.Idx → EReal := fun i =>
  ((dg (fun r k => xs (ix3 0 r k)) (fun r k => ds (ix3 0 r k)) (i 1) : ℝ) : EReal)

variable (x dy : Fin 256 → Fin 1024 → ℝ) (g : S1x1024.Idx → ℝ)

/-- A matrix of real numbers as an array. -/
abbrev arr (x : Fin 256 → Fin 1024 → ℝ) : FVec Ideal S256x1024 .f32 := fun i => ((x (i 0) (i 1) : ℝ) : EReal)

theorem pay3 (r : Fin 256) (l : Fin 1) : k0_pay3 (F := Ideal) (arr x) (ix2 r l) = ((rstd (x r) : ℝ) : EReal) := by
  pointwise [k0_pay3, k0_pay1]
  simp only [ofBits_1024, ofBits_eps, ← EReal.coe_mul, coe_sum, div_real _ (by norm_num : (1024 : ℝ) ≠ 0), ← EReal.coe_add]
  rw [rsqrt_real (mean_sq_pos _)]; rfl

theorem pay4 (r : Fin 256) (l : Fin 1024) : k0_pay4 (F := Ideal) (arr x) (ix2 r l) = ((x r l * rstd (x r) : ℝ) : EReal) := by
  pointwise [k0_pay4, k0_pay1]
  rw [pay3, ← EReal.coe_mul]; rfl

theorem pay5 (r : Fin 256) (l : Fin 1024) :
    k0_pay5 (F := Ideal) (arr x) (fun i => ((g i : ℝ) : EReal)) (arr dy) (ix2 r l)
      = ((dxRow (x r) (fun k => g (ix2 0 k)) (dy r) l : ℝ) : EReal) := by
  pointwise [k0_pay5, k0_pay2]
  simp only [pay3, pay4, ofBits_1024, ← EReal.coe_mul, coe_sum, div_real _ (by norm_num : (1024 : ℝ) ≠ 0), ← EReal.coe_sub]
  rfl

theorem pay7 (z : Fin 1) (l : Fin 1024) :
    k0_pay7 (F := Ideal) (arr x) (arr dy) (k0_pay6 (F := Ideal)) (ix2 z l) = ((dg x dy l : ℝ) : EReal) := by
  pointwise [k0_pay7, k0_pay6, k0_pay2]
  simp only [pay4, ← EReal.coe_mul, coe_sum, zero_add]
  rfl

variable (m : (ℓ : Loc nD τ sig) → Buf (Elt Ideal) ℓ) (c : Dev nD)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] := (by decide +kernel : ∀ t : Fin grid0.N, _)

theorem blk0 (t : Fin cfg0.N) :
    iblk m c 0 t = fun i : S256x1024.Idx => m ((c.tc : Thread nD τ).loc main_arg0) (ix3 0 (i 0) (i 1)) := by
  funext y
  idx_vars y
  blk_point [iblk, V, idx t]

theorem blk1 (t : Fin cfg0.N) : iblk m c 1 t = m ((c.tc : Thread nD τ).loc main_arg1) := by
  blk_ext! [iblk, V, idx t]

theorem blk2 (t : Fin cfg0.N) :
    iblk m c 2 t = fun i : S256x1024.Idx => m ((c.tc : Thread nD τ).loc main_arg2) (ix3 0 (i 0) (i 1)) := by
  funext y
  idx_vars y
  blk_point [iblk, V, idx t]

variable (xs ds : S1x256x1024.Idx → ℝ) (gs : S1x1024.Idx → ℝ)
  (hx : m ((c.tc : Thread nD τ).loc main_arg0) = fun i => ((xs i : ℝ) : EReal))
  (hg : m ((c.tc : Thread nD τ).loc main_arg1) = fun i => ((gs i : ℝ) : EReal))
  (hd : m ((c.tc : Thread nD τ).loc main_arg2) = fun i => ((ds i : ℝ) : EReal))
include hx hd

include hg in
theorem dx_final : (dats m 0 c).arrAt 3 cfg0.N = dxArr xs ds gs := by
  refine (dats m 0 c).arrAt_eq_of_covers 3 _ (by decide +kernel) fun t _ y => ?_
  rw [after0_3]
  unfold outsAt0
  frame_out
  blk_simp
  rw [blk0, blk1, blk2, hx, hg, hd]
  idx_vars y
  refine (pay5 (fun r k => xs (ix3 0 r k)) (fun r k => ds (ix3 0 r k)) gs y0 y1).trans ?_
  refine congrArg (dxArr xs ds gs) (a₁ := ix2 y0 y1) ?_
  blk_ext [idx t]

theorem dg_final : (dats m 0 c).arrAt 4 cfg0.N = dgArr xs ds := by
  refine (dats m 0 c).arrAt_eq_of_covers 4 _ (by decide +kernel) fun t _ y => ?_
  rw [after0_4]
  unfold outsAt0
  frame_out
  blk_simp
  rw [blk0, blk2, hx, hd]
  idx_vars y
  refine (pay7 (fun r k => xs (ix3 0 r k)) (fun r k => ds (ix3 0 r k)) y0 y1).trans ?_
  refine congrArg (dgArr xs ds) (a₁ := ix2 y0 y1) ?_
  blk_ext [idx t]

end

end Cert.Norm

end
-- ==== Proof.NormReference.lean ====
module

public import proofs.«01_k».proof.Proof.Gen.ReferenceIdeal.Read
public import proofs.«01_k».proof.Proof.NormKernel

/-! The gradient of the memory's RMSNorm: what the reference computes, over real arguments. -/

@[expose] public section

set_option maxRecDepth 16384

noncomputable section

namespace Cert.Norm

open Idealize.ShloMosaic Idealize.ShloMosaic.TcCoe Idealize.SL.Sem
open Cert.Lift
open Cert.ReferenceIdeal Cert.ReferenceIdeal.Gen Cert.ReferenceIdeal.Read

/-- An array of real numbers, read in the extended reals. -/
abbrev lift {s : Shape} (x : s.Idx → ℝ) : FVec Ideal s .f32 := fun i => ((x i : ℝ) : EReal)

variable (xs ds : S1x256x1024.Idx → ℝ) (gs : S1x1024.Idx → ℝ)

/-- Row `r` of a stack of one matrix. -/
abbrev rowOf (xs : S1x256x1024.Idx → ℝ) (r : Fin 256) : Fin 1024 → ℝ := fun k => xs (ix3 0 r k)

theorem v7 (z : Fin 1) (r : Fin 256) (l : Fin 1) :
    val_main_v7 (F := Ideal) (lift xs) (ix3 z r l) = ((ms (rowOf xs r) : ℝ) : EReal) := by
  obtain rfl : z = 0 := Subsingleton.elim _ _
  pointwise [val_main_v7, val_main_v6, val_main_v5, val_main_v4, val_main_v3, val_main_v2, val_main_v1, val_main_cst, val_main_cst_0, val_main_cst_1]
  simp only [ofBits_1024, ofBits_eps, ← EReal.coe_mul, coe_sum, zero_add, div_real _ (by norm_num : (1024 : ℝ) ≠ 0), ← EReal.coe_add]
  rfl

theorem v8 (z : Fin 1) (r : Fin 256) (l : Fin 1) :
    val_main_v8 (F := Ideal) (lift xs) (ix3 z r l) = ((rstd (rowOf xs r) : ℝ) : EReal) := by
  pointwise [val_main_v8]
  rw [v7]; exact rsqrt_real (mean_sq_pos _)

theorem v18 (z : Fin 1) (l : Fin 1024) :
    val_main_v18 (F := Ideal) (lift xs) (lift ds) (ix2 z l) = ((dg (rowOf xs) (rowOf ds) l : ℝ) : EReal) := by
  obtain rfl : z = 0 := Subsingleton.elim _ _
  pointwise [val_main_v18, val_main_v17, val_main_v13, val_main_v12, val_main_cst_3]
  simp only [v8, ← EReal.coe_mul, coe_sum, zero_add]
  exact congrArg _ (Finset.sum_congr rfl fun k _ => mul_comm _ _)

theorem v38 (z : Fin 1) (l : Fin 1024) :
    val_main_v38 (F := Ideal) (lift xs) (lift ds) (ix2 z l) = ((dg (rowOf xs) (rowOf ds) l : ℝ) : EReal) := by
  pointwise [val_main_v38, val_main_v22, val_main_v19, val_main_cst_4]
  rw [hostReduceAdd_r3_a01]
  pointwise []
  simp [v18]

theorem v30 (z : Fin 1) (r : Fin 256) (l : Fin 1) : val_main_v30 (F := Ideal) (lift xs) (lift gs) (lift ds) (ix3 z r l)
    = ((slope (rowOf xs r) (fun k => gs (ix2 0 k)) (rowOf ds r) : ℝ) : EReal) := by
  obtain rfl : z = 0 := Subsingleton.elim _ _
  pointwise [val_main_v30, val_main_v29, val_main_v28, val_main_v25, val_main_v24, val_main_v23, val_main_v21, val_main_v20,
    val_main_v14, val_main_v0, val_main_v11, val_main_v10, val_main_v9, val_main_cst_2, val_main_cst_5, val_main_cst_6]
  have hm : ms (rowOf xs r) ≠ 0 := (mean_sq_pos _).ne'
  simp only [v7, v8, ofBits_1024, ofBits_neg_half, ← EReal.coe_mul, coe_sum, zero_add, div_real _ hm,
    div_real _ (by norm_num : (1024 : ℝ) ≠ 0)]
  rfl

theorem v33 (z : Fin 1) (r : Fin 256) (l : Fin 1024) : val_main_v33 (F := Ideal) (lift xs) (lift gs) (lift ds) (ix3 z r l)
    = ((slope (rowOf xs r) (fun k => gs (ix2 0 k)) (rowOf ds r) : ℝ) : EReal) := by
  pointwise [val_main_v33, val_main_v32, val_main_v31, val_main_cst_7]
  rw [hostReduceAdd_r3_a02]
  simp [v30]

theorem v40 (r : Fin 256) (l : Fin 1024) : val_main_v40 (F := Ideal) (lift xs) (lift gs) (lift ds) (ix2 r l)
    = dxArr xs ds gs (ix2 r l) := by
  pointwise [val_main_v40, val_main_v39, val_main_v37, val_main_v36, val_main_v35, val_main_v34, val_main_v27, val_main_v26,
    val_main_v21, val_main_v20, val_main_v14, val_main_v0]
  simp only [v8, v33, ← EReal.coe_mul, ← EReal.coe_add]
  exact congrArg _ (dxRow_eq (rowOf xs r) (fun k => gs (ix2 0 k)) (rowOf ds r) l)

theorem dx_ref : val_main_v40 (F := Ideal) (lift xs) (lift gs) (lift ds) = dxArr xs ds gs := by
  funext i
  idx_vars i
  exact v40 xs ds gs i0 i1

theorem dg_ref : val_main_v38 (F := Ideal) (lift xs) (lift ds) = dgArr xs ds := by
  funext i
  idx_vars i
  exact v38 xs ds i0 i1

end Cert.Norm

end
-- ==== Proof.NormClaim.lean ====
/- The statement about the memory norm's backward call: from finite arguments the kernel and the
   reference end holding the same two gradients. -/
module

public import proofs.«01_k».proof.Defs
public import proofs.«01_k».proof.Proof.NormReference
public import proofs.«01_k».proof.Proof.Gen.ReferenceIdeal.Run
public import Idealize.ShloMosaic.Lib.Claim

@[expose] public section

noncomputable section

namespace Cert.Norm

open Idealize.ShloMosaic Idealize.SL.Sem Cert.Lift

/-- The side conditions of the precondition's printed text. -/
instance pre_facts : Cert.Pre_finite.Facts := ⟨by decide, by decide⟩

/-- Under the precondition each argument is an array of reals. -/
theorem args_real (m : (ℓ : Loc Cert.KernelIdeal.nD Cert.KernelIdeal.τ Cert.KernelIdeal.sig) → Buf (Elt Ideal) ℓ)
    (h : Cert.Pre_KernelIdeal_finite m) (c : Dev Cert.KernelIdeal.nD) :
    ∃ xs gs ds, m ((c.tc : Thread Cert.KernelIdeal.nD Cert.KernelIdeal.τ).loc Cert.KernelIdeal.main_arg0) = lift xs
      ∧ m ((c.tc : Thread Cert.KernelIdeal.nD Cert.KernelIdeal.τ).loc Cert.KernelIdeal.main_arg1) = lift gs
      ∧ m ((c.tc : Thread Cert.KernelIdeal.nD Cert.KernelIdeal.τ).loc Cert.KernelIdeal.main_arg2) = lift ds := by
  obtain ⟨hx, hg, hd⟩ := h c
  obtain ⟨xs, hxs⟩ := exists_real _ _ hx
  obtain ⟨gs, hgs⟩ := exists_real _ _ hg
  obtain ⟨ds, hds⟩ := exists_real _ _ hd
  exact ⟨xs, gs, ds, hxs, hgs, hds⟩

theorem frame_reference : Cert.quiescent_ReferenceIdeal := by
  intro m ρ _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem algebraic : Cert.algebraic_KernelIdeal_ReferenceIdeal_pre_finite := by
  intro m g m' g' hpre hagree
  choose xs gs ds hx hg hd using args_real m hpre
  refine ⟨fun c => dxArr (xs c) (ds c) (gs c), fun c => dgArr (xs c) (ds c), ?_, ?_⟩
  · refine (θ_run Cert.KernelIdeal.defs _ _).mono (fun r h c => ?_) (Cert.KernelIdeal.Value.run_blocks (F := Ideal) m g)
    obtain ⟨h0, h1, h2⟩ := h c
    exact ⟨h0.trans (dx_final m c _ _ _ (hx c) (hg c) (hd c)), h1.trans (dg_final m c _ _ (hx c) (hd c)), h2⟩
  · refine (θ_run Cert.ReferenceIdeal.defs _ _).mono (fun r h c => ?_) (Cert.ReferenceIdeal.Value.run (F := Ideal) m' g')
    obtain ⟨h0, h1, h2⟩ := h c
    obtain ⟨a0, a1, a2⟩ := hagree c
    refine ⟨h0.trans ?_, h1.trans ?_, h2⟩
    · refine (Cert.ReferenceIdeal.Read.val_main_v40_eq m' c).trans ?_
      rw [a0, a1, a2, hx, hg, hd]
      exact dx_ref _ _ _
    · refine (Cert.ReferenceIdeal.Read.val_main_v38_eq _ _).trans ?_
      rw [a0, a2, hx, hd]
      exact dg_ref _ _

end Cert.Norm

end
-- ==== Proof.Softmax.lean ====
/- The row softmax and its derivative over the reals: what one query's scores become. -/
module

public import proofs.«01_k».proof.Proof.Lift

@[expose] public section

noncomputable section

namespace Cert.Softmax

variable {n : ℕ} [NeZero n]

/-- The largest score of a row. -/
def top (s : Fin n → ℝ) : ℝ := Finset.univ.sup' ⟨0, Finset.mem_univ _⟩ s

/-- A score's exponential, shifted by the row's largest score. -/
def ex (s : Fin n → ℝ) (j : Fin n) : ℝ := Real.exp (s j - top s)

/-- The row's sum of exponentials. -/
def den (s : Fin n → ℝ) : ℝ := ∑ j, ex s j

/-- The row's weights. -/
def prob (s : Fin n → ℝ) (j : Fin n) : ℝ := ex s j / den s

/-- The gradient of the scores, from the gradient `dp` of the weights. -/
def tilt (s dp : Fin n → ℝ) (j : Fin n) : ℝ := prob s j * (dp j - ∑ k, prob s k * dp k)

theorem den_pos (s : Fin n → ℝ) : 0 < den s :=
  Finset.sum_pos (fun _ _ => Real.exp_pos _) ⟨0, Finset.mem_univ _⟩

theorem den_ne (s : Fin n → ℝ) : den s ≠ 0 := (den_pos s).ne'

/-- The gradient of the scores as the quotient's two terms: through the exponential, and through the sum below. -/
theorem tilt_eq (s dp : Fin n → ℝ) (j : Fin n) :
    (dp j / den s + -(∑ k, dp k * (1 / (den s * den s)) * ex s k)) * ex s j = tilt s dp j := by
  have h := den_ne s
  have e : ∑ k, dp k * (1 / (den s * den s)) * ex s k = (∑ k, prob s k * dp k) / den s := by
    rw [Finset.sum_div]
    refine Finset.sum_congr rfl fun k _ => ?_
    rw [prob]
    field_simp
  rw [e, tilt, prob]
  field_simp
  ring

open Idealize.ShloMosaic in
theorem ofBits_bot : Ideal.ofBits .f32 0xFF800000#32 = ⊥ := by
  simp [Ideal.ofBits, Ideal.ieee]

open Idealize.ShloMosaic in
/-- The largest of a row of reals, folded from minus infinity, is the row's largest score. -/
theorem fold_max (s : Fin n → ℝ) :
    Finset.fold max (Ideal.ofBits .f32 0xFF800000#32) (fun x => ((s x : ℝ) : EReal)) Finset.univ = ((top s : ℝ) : EReal) := by
  have h : (Finset.univ : Finset (Fin n)).Nonempty := ⟨0, Finset.mem_univ _⟩
  rw [ofBits_bot]
  refine (Finset.sup'_eq_sup h (fun x => ((s x : ℝ) : EReal))).symm.trans ?_
  exact (Finset.comp_sup'_eq_sup'_comp h (fun x : ℝ => (x : EReal)) fun x y => EReal.coe_strictMono.monotone.map_max).symm

open Idealize.ShloMosaic in
theorem exp_real (x : ℝ) : Ideal.exp ((x : ℝ) : EReal) = ((Real.exp x : ℝ) : EReal) := Ideal.exp_coe x

end Cert.Softmax

end
-- ==== Proof.AttnMath.lean ====
/- One query row of the attention and its derivative, over the reals. -/
module

public import proofs.«01_k».proof.Proof.Softmax

@[expose] public section

noncomputable section

namespace Cert.Attn

open Cert.Softmax

/-- One query's scores: the scaled products with every key. -/
def score (q : Fin 64 → ℝ) (K : Fin 2048 → Fin 64 → ℝ) (j : Fin 2048) : ℝ := ∑ d, q d * (1 / 8) * K j d

variable (q dy : Fin 64 → ℝ) (K V : Fin 2048 → Fin 64 → ℝ)

/-- The row of the attention's output. -/
def out (x : Fin 64) : ℝ := ∑ j, prob (score q K) j * V j x

/-- The gradient of the row's scores. -/
def dscore (j : Fin 2048) : ℝ := tilt (score q K) (fun j => ∑ x, dy x * V j x) j * (1 / 8)

/-- The gradient of the row's query. -/
def dqRow (x : Fin 64) : ℝ := ∑ j, dscore q dy K V j * K j x

/-- The row's share of the gradient of the keys. -/
def dkRow (x : Fin 64) (j : Fin 2048) : ℝ := dscore q dy K V j * q x

/-- The row's share of the gradient of the values. -/
def dvRow (x : Fin 64) (j : Fin 2048) : ℝ := dy x * prob (score q K) j

/-- The scores' gradient before the division by the row's sum, from the row's output `o`. -/
def rawSlope (o : Fin 64 → ℝ) (j : Fin 2048) : ℝ := ex (score q K) j * ((∑ x, dy x * V j x) - ∑ x, dy x * o x)

/-- The cotangent's product with the output is the weighted sum of its products with the values. -/
theorem delta_out : ∑ x, dy x * out q K V x = ∑ j, prob (score q K) j * ∑ x, dy x * V j x := by
  simp only [out, Finset.mul_sum]
  rw [Finset.sum_comm]
  exact Finset.sum_congr rfl fun j _ => Finset.sum_congr rfl fun x _ => by ring

theorem rawSlope_out (j : Fin 2048) :
    rawSlope q dy K V (out q K V) j * (1 / den (score q K)) = tilt (score q K) (fun j => ∑ x, dy x * V j x) j := by
  rw [rawSlope, delta_out, tilt, prob]
  ring

theorem dqRow_eq (x : Fin 64) :
    (∑ j, rawSlope q dy K V (out q K V) j * K j x) * (1 / den (score q K) * (1 / 8)) = dqRow q dy K V x := by
  rw [dqRow, Finset.sum_mul]
  refine Finset.sum_congr rfl fun j _ => ?_
  rw [dscore, ← rawSlope_out]
  ring

theorem dkRow_eq (x : Fin 64) (j : Fin 2048) :
    q x * (1 / 8) * (1 / den (score q K)) * rawSlope q dy K V (out q K V) j = dkRow q dy K V x j := by
  rw [dkRow, dscore, ← rawSlope_out]
  ring

theorem dvRow_eq (x : Fin 64) (j : Fin 2048) :
    dy x * (1 / den (score q K)) * ex (score q K) j = dvRow q dy K x j := by
  rw [dvRow, prob]
  ring

/-- The weighted sum of the values, divided last by the weights' sum. -/
theorem out_eq (x : Fin 64) : (∑ j, ex (score q K) j * V j x) / (∑ j, ex (score q K) j * 1) = out q K V x := by
  simp only [out, prob, mul_one, Finset.sum_div]
  exact Finset.sum_congr rfl fun j _ => by rw [den]; ring

/-- A sum over eight points of two heads and 512 rows each is the sum over four heads and 2048 rows. -/
theorem sum_points (f : Fin 4 → Fin 2048 → ℝ) :
    ∑ s : Fin 8, ((∑ r : Fin 512, f ⟨s.val % 2 * 2, by omega⟩ ⟨s.val / 2 * 512 + r.val, by omega⟩)
      + ∑ r : Fin 512, f ⟨s.val % 2 * 2 + 1, by omega⟩ ⟨s.val / 2 * 512 + r.val, by omega⟩) = ∑ g, ∑ R, f g R := by
  have h : ∀ g, ∑ R, f g R = ∑ i : Fin 4, ∑ r : Fin 512, f g ⟨i.val * 512 + r.val, by omega⟩ := fun g => by
    rw [← Fintype.sum_prod_type', ← (finProdFinEquiv (m := 4) (n := 512)).sum_comp]
    exact Finset.sum_congr rfl fun p _ => congrArg (f g) (Fin.ext (by simp [finProdFinEquiv]; ring))
  simp only [h]
  simp only [Fin.sum_univ_eight, Fin.sum_univ_four]
  norm_num
  simp only [show (⟨2, by omega⟩ : Fin 4) = 2 from rfl, show (⟨3, by omega⟩ : Fin 4) = 3 from rfl]
  ring

end Cert.Attn
end
-- ==== Proof.AttnBwdRow.lean ====
/- The scores, their exponentials and row sums of one block of the backward body, over real numbers. -/
module

public import proofs.«01_k».proof.Proof.Gen.Kernel2Ideal.Frame
public import proofs.«01_k».proof.Proof.AttnMath
public import Idealize.ShloMosaic.Lib.Pointwise

@[expose] public section

set_option maxRecDepth 16384

noncomputable section

namespace Cert.Attn

open Idealize.ShloMosaic Idealize.ShloMosaic.TcCoe Idealize.SL.Sem
open Idealize.ShloMosaic.Pipeline (Dat)
open Cert.Lift Cert.Softmax
open Cert.Kernel2Ideal Cert.Kernel2Ideal.Gen

/-- One head's keys or values as a matrix. -/
def mat (k : S1x2048x64.Idx → ℝ) (j : Fin 2048) (d : Fin 64) : ℝ := k (ix3 0 j d)

/-- One query of a block of 512. -/
def row (q : S512x64.Idx → ℝ) (r : Fin 512) (d : Fin 64) : ℝ := q (ix2 r d)

variable (k v : S1x2048x64.Idx → ℝ) (q o d : S512x64.Idx → ℝ)

/-- The scores' exponentials of a block. -/
def expo (i : S512x2048.Idx) : ℝ := ex (score (row q (i 0)) (mat k)) (i 1)

/-- The reciprocals of the rows' sums. -/
def recip (r : Fin 512) : ℝ := 1 / den (score (row q r) (mat k))

/-- The products of the cotangent with the output, one per row. -/
def delta (r : Fin 512) : ℝ := ∑ x : Fin 64, d (ix2 r x) * o (ix2 r x)

/-- The scores' gradient before the division by the row's sum. -/
def slopes (i : S512x2048.Idx) : ℝ := expo k q i * ((∑ x : Fin 64, d (ix2 (i 0) x) * v (ix3 0 (i 1) x)) - delta o d (i 0))

theorem pay10 : k1_pay10 (F := Ideal) (lift k) (lift q) = lift (expo k q) := by
  funext i; idx_vars i
  pointwise [k1_pay10, k1_pay8, k1_pay4, lift]
  simp only [ofBits_bf16_eighth, ← EReal.coe_mul, coe_sum, fold_max, ← EReal.coe_sub, exp_real]
  rfl

theorem pay11 : k1_pay11 (F := Ideal) (lift k) (lift q) = lift (fun i : S512x1.Idx => recip k q (i 0)) := by
  funext i; idx_vars i
  pointwise [k1_pay11, pay10, lift]
  simp only [ofBits_one, coe_sum]
  exact div_real _ (den_ne _)

theorem pay12 : k1_pay12 (F := Ideal) (lift d) (lift o) = lift (fun i : S512.Idx => delta o d (i 0)) := by
  funext i; idx_vars i
  pointwise [k1_pay12, k1_pay9, lift]
  simp only [← EReal.coe_mul, coe_sum]
  rfl

end Cert.Attn
end
-- ==== Proof.AttnBwdHead.lean ====
/- What the backward body computes for each of its two heads, over a block of real numbers. -/
module

public import proofs.«01_k».proof.Proof.AttnBwdRow

@[expose] public section

set_option maxRecDepth 16384

noncomputable section

namespace Cert.Attn

open Idealize.ShloMosaic Idealize.ShloMosaic.TcCoe Idealize.SL.Sem
open Cert.Lift Cert.Softmax
open Cert.Kernel2Ideal Cert.Kernel2Ideal.Gen

variable (k v : S1x2048x64.Idx → ℝ) (q o d : S512x64.Idx → ℝ)

/-- One head's gradient of the queries. -/
def dqHead (i : S512x64.Idx) : ℝ := (∑ j : Fin 2048, slopes k v q o d (ix2 (i 0) j) * k (ix3 0 j (i 1))) * (recip k q (i 0) * (1 / 8))

/-- One head's share of the gradient of the keys. -/
def dkHead (i : S64x2048.Idx) : ℝ := ∑ r : Fin 512, q (ix2 r (i 0)) * (1 / 8) * recip k q r * slopes k v q o d (ix2 r (i 1))

/-- One head's share of the gradient of the values. -/
def dvHead (i : S64x2048.Idx) : ℝ := ∑ r : Fin 512, d (ix2 r (i 0)) * recip k q r * expo k q (ix2 r (i 1))

theorem pay13 : k1_pay13 (F := Ideal) (k1_pay5 (lift v)) (k1_pay9 (lift d)) (k1_pay10 (lift k) (lift q)) (k1_pay12 (lift d) (lift o))
    = lift (slopes k v q o d) := by
  rw [pay10, pay12]
  funext i; idx_vars i
  pointwise [k1_pay13, k1_pay5, k1_pay9, lift]
  simp only [← EReal.coe_mul, coe_sum, ← EReal.coe_sub]
  rfl

theorem pay14 : k1_pay14 (F := Ideal) (k1_pay4 (lift k)) (k1_pay5 (lift v)) (k1_pay9 (lift d)) (k1_pay10 (lift k) (lift q)) (k1_pay11 (lift k) (lift q))
    (k1_pay12 (lift d) (lift o)) = lift (dqHead k v q o d) := by
  funext i; idx_vars i
  pointwise [k1_pay14, pay13, pay11, k1_pay4, lift]
  simp only [ofBits_eighth, ← EReal.coe_mul, coe_sum]
  rfl

theorem pay15 : k1_pay15 (F := Ideal) (k1_pay5 (lift v)) k1_pay6 (k1_pay8 (lift q)) (k1_pay9 (lift d)) (k1_pay10 (lift k) (lift q))
    (k1_pay11 (lift k) (lift q)) (k1_pay12 (lift d) (lift o)) = lift (dkHead k v q o d) := by
  funext i; idx_vars i
  pointwise [k1_pay15, k1_pay6, k1_pay8, pay13, pay11, lift]
  simp only [ofBits_bf16_eighth, ← EReal.coe_mul, coe_sum]
  rfl

theorem pay16 : k1_pay16 (F := Ideal) k1_pay7 (k1_pay9 (lift d)) (k1_pay10 (lift k) (lift q)) (k1_pay11 (lift k) (lift q)) = lift (dvHead k q d) := by
  funext i; idx_vars i
  pointwise [k1_pay16, k1_pay7, k1_pay9, pay10, pay11, lift]
  simp only [← EReal.coe_mul, coe_sum]
  rfl

/- The second head repeats the first head's computation over its own columns. -/

theorem pay19 : k1_pay19 (F := Ideal) (k1_pay4 (lift k)) (lift q) = lift (expo k q) := (pay10 k q : _)

theorem pay20 : k1_pay20 (F := Ideal) (k1_pay4 (lift k)) (lift q) = lift (fun i : S512x1.Idx => recip k q (i 0)) := (pay11 k q : _)

theorem pay22 : k1_pay22 (F := Ideal) (k1_pay5 (lift v)) (k1_pay18 (lift d)) (k1_pay19 (k1_pay4 (lift k)) (lift q)) (k1_pay21 (lift o))
    = lift (slopes k v q o d) := (pay13 k v q o d : _)

theorem pay23 (x : S512x64.Idx → ℝ) (r : Fin 512) (l : Fin 128) : k1_pay23 (F := Ideal) (k1_pay4 (lift k)) (k1_pay5 (lift v)) (lift x) (k1_pay18 (lift d))
    (k1_pay19 (k1_pay4 (lift k)) (lift q)) (k1_pay20 (k1_pay4 (lift k)) (lift q)) (k1_pay21 (lift o)) (ix2 r l)
    = (((if h : l.val < 64 then x (ix2 r ⟨l.val, h⟩) else dqHead k v q o d (ix2 r ⟨l.val - 64, by omega⟩)) : ℝ) : EReal) := by
  pointwise [k1_pay23]
  rw [pay22, pay20]
  split
  · rfl
  · pointwise [k1_pay4, lift]
    simp only [ofBits_eighth, ← EReal.coe_mul, coe_sum]
    rfl

theorem pay24 (acc : Vec Ideal S1x64x2048 .f32) (x : S64x2048.Idx → ℝ) : k1_pay24 (F := Ideal) (k1_pay5 (lift v)) (lift x) (k1_pay17 (lift q)) (k1_pay18 (lift d))
    (k1_pay19 (k1_pay4 (lift k)) (lift q)) (k1_pay20 (k1_pay4 (lift k)) (lift q)) (k1_pay21 (lift o)) acc
    = fun i => acc i + ((x (ix2 (i 1) (i 2)) + dkHead k v q o d (ix2 (i 1) (i 2)) : ℝ) : EReal) := by
  funext i; idx_vars i
  pointwise [k1_pay24, k1_pay17, pay22, pay20, lift]
  simp only [ofBits_bf16_eighth, ← EReal.coe_mul, coe_sum, ← EReal.coe_add]
  obtain rfl := Subsingleton.elim i0 0
  rfl

theorem pay25 (acc : Vec Ideal S1x64x2048 .f32) (x : S64x2048.Idx → ℝ) : k1_pay1 (F := Ideal) (k1_pay25 (lift x) (k1_pay18 (lift d))
    (k1_pay19 (k1_pay4 (lift k)) (lift q)) (k1_pay20 (k1_pay4 (lift k)) (lift q)) acc)
    = fun i => acc i + ((x (ix2 (i 1) (i 2)) + dvHead k q d (ix2 (i 1) (i 2)) : ℝ) : EReal) := by
  funext i; idx_vars i
  pointwise [k1_pay1, k1_pay25, k1_pay18, pay19, pay20, lift]
  simp only [← EReal.coe_mul, coe_sum, ← EReal.coe_add]
  obtain rfl := Subsingleton.elim i0 0
  rfl

theorem pay2 (i : S1x64x2048.Idx) : k1_pay2 (F := Ideal) i = 0 := by
  idx_vars i; pointwise [k1_pay2]

theorem pay3 (i : S1x64x2048.Idx) : k1_pay3 (F := Ideal) i = 0 := by
  idx_vars i; pointwise [k1_pay3]

end Cert.Attn
end
-- ==== Proof.AttnBwd.lean ====
/- The arrays the backward call leaves, from arrays of real numbers. -/
module

public import proofs.«01_k».proof.Proof.AttnBwdHead

@[expose] public section

set_option maxRecDepth 16384

noncomputable section

namespace Cert.Attn

open Idealize.ShloMosaic Idealize.ShloMosaic.TcCoe Idealize.SL.Sem
open Idealize.ShloMosaic.Pipeline (Dat)
open Cert.Lift Cert.Softmax
open Cert.Kernel2Ideal Cert.Kernel2Ideal.Gen

/-- Column `d` of head `h` among the eight heads' columns. -/
def col (h : Fin 8) (d : Fin 64) : Fin 512 := ⟨h.val * 64 + d.val, by omega⟩

/-- Query row `r` of head `h`, in an array of eight heads' columns. -/
def qrow (x : S2048x512.Idx → ℝ) (h : Fin 8) (r : Fin 2048) (d : Fin 64) : ℝ := x (ix2 r (col h d))

/-- Head `h` of the keys or values. -/
def kmat (x : S2x2048x64.Idx → ℝ) (h : Fin 2) (j : Fin 2048) (d : Fin 64) : ℝ := x (ix3 h j d)

/-- The key head of a query head. -/
def group (h : Fin 8) : Fin 2 := ⟨h.val / 4, by omega⟩

/-- The query head of position `g` in key head `h`. -/
def member (h : Fin 2) (g : Fin 4) : Fin 8 := ⟨h.val * 4 + g.val, by omega⟩

def headOf (c : Fin 512) : Fin 8 := ⟨c.val / 64, by omega⟩
def lane (c : Fin 512) : Fin 64 := ⟨c.val % 64, by omega⟩

variable (xq xd : S2048x512.Idx → ℝ) (xk xv : S2x2048x64.Idx → ℝ)

/-- The attention's output. -/
def outArr (i : S2048x512.Idx) : ℝ :=
  out (qrow xq (headOf (i 1)) (i 0)) (kmat xk (group (headOf (i 1)))) (kmat xv (group (headOf (i 1)))) (lane (i 1))

/-- The gradient of the queries. -/
def dqArr (i : S2048x512.Idx) : ℝ :=
  dqRow (qrow xq (headOf (i 1)) (i 0)) (qrow xd (headOf (i 1)) (i 0)) (kmat xk (group (headOf (i 1)))) (kmat xv (group (headOf (i 1)))) (lane (i 1))

/-- The gradient of the keys: a sum over the query heads that share them and all rows. -/
def dkArr (i : S2x64x2048.Idx) : ℝ :=
  ∑ g : Fin 4, ∑ r : Fin 2048, dkRow (qrow xq (member (i 0) g) r) (qrow xd (member (i 0) g) r) (kmat xk (i 0)) (kmat xv (i 0)) (i 1) (i 2)

/-- The gradient of the values. -/
def dvArr (i : S2x64x2048.Idx) : ℝ :=
  ∑ g : Fin 4, ∑ r : Fin 2048, dvRow (qrow xq (member (i 0) g) r) (qrow xd (member (i 0) g) r) (kmat xk (i 0)) (i 1) (i 2)

/-! ## One grid point -/

/-- The query head of half `b` of point `t`'s block. -/
def head (t : Fin 16) (b : Fin 2) : Fin 8 := ⟨(t.val / 8 * 2 + t.val % 2) * 2 + b.val, by omega⟩

/-- Row `r` of point `t`'s block, in the whole array. -/
def line (t : Fin 16) (r : Fin 512) : Fin 2048 := ⟨t.val % 8 / 2 * 512 + r.val, by omega⟩

/-- Column `l` of point `t`'s block, in the whole array. -/
def wide (t : Fin 16) (l : Fin 128) : Fin 512 := ⟨(t.val / 8 * 2 + t.val % 2) * 128 + l.val, by omega⟩

/-- Half `b` of point `t`'s block. -/
def cut (x : S2048x512.Idx → ℝ) (t : Fin 16) (b : Fin 2) (y : S512x64.Idx) : ℝ := qrow x (head t b) (line t (y 0)) (y 1)

/-- The key head of point `t`. -/
def kv (t : Fin 16) : Fin 2 := ⟨t.val / 8, by omega⟩

/-- Point `t`'s keys or values. -/
def keys (x : S2x2048x64.Idx → ℝ) (t : Fin 16) (y : S1x2048x64.Idx) : ℝ := kmat x (kv t) (y 1) (y 2)

theorem headOf_col (h : Fin 8) (d : Fin 64) : headOf (col h d) = h := Fin.ext (by simp only [headOf, col]; omega)

theorem lane_col (h : Fin 8) (d : Fin 64) : lane (col h d) = d := Fin.ext (by simp only [lane, col]; omega)

theorem group_head (t : Fin 16) (b : Fin 2) : group (head t b) = kv t := Fin.ext (by simp only [group, head, kv]; omega)

/-- A row of the output array is the row of the output. -/
theorem qrow_out (t : Fin 16) (b : Fin 2) (r : Fin 2048) :
    qrow (outArr xq xk xv) (head t b) r = out (qrow xq (head t b) r) (kmat xk (kv t)) (kmat xv (kv t)) := by
  funext d
  show out (qrow xq (headOf (col _ d)) r) (kmat xk (group (headOf (col _ d)))) (kmat xv (group (headOf (col _ d)))) (lane (col _ d)) = _
  rw [headOf_col, lane_col, group_head]

theorem dqHead_cut (t : Fin 16) (b : Fin 2) (r : Fin 512) (x : Fin 64) :
    dqHead (keys xk t) (keys xv t) (cut xq t b) (cut (outArr xq xk xv) t b) (cut xd t b) (ix2 r x)
      = dqRow (qrow xq (head t b) (line t r)) (qrow xd (head t b) (line t r)) (kmat xk (kv t)) (kmat xv (kv t)) x := by
  rw [← dqRow_eq, ← qrow_out]
  rfl

theorem dkHead_cut (t : Fin 16) (b : Fin 2) (x : Fin 64) (j : Fin 2048) :
    dkHead (keys xk t) (keys xv t) (cut xq t b) (cut (outArr xq xk xv) t b) (cut xd t b) (ix2 x j)
      = ∑ r : Fin 512, dkRow (qrow xq (head t b) (line t r)) (qrow xd (head t b) (line t r)) (kmat xk (kv t)) (kmat xv (kv t)) x j := by
  refine Finset.sum_congr rfl fun r _ => ?_
  rw [← dkRow_eq, ← qrow_out]
  rfl

theorem dvHead_cut (t : Fin 16) (b : Fin 2) (x : Fin 64) (j : Fin 2048) :
    dvHead (keys xk t) (cut xq t b) (cut xd t b) (ix2 x j)
      = ∑ r : Fin 512, dvRow (qrow xq (head t b) (line t r)) (qrow xd (head t b) (line t r)) (kmat xk (kv t)) x j := by
  refine Finset.sum_congr rfl fun r _ => ?_
  rw [← dvRow_eq]
  rfl

section
variable (V : (c : Dev nD) → (b : Ref sig .tc) → Buf (Elt Ideal) ((c : Thread nD τ).loc b)) (c : Dev nD) (xo : S2048x512.Idx → ℝ)

theorem idx1 : ∀ t : Fin cfg1.N, win1_0.index t = ![t.val % 8 / 2, t.val / 8 * 2 + t.val % 2] ∧ win1_1.index t = ![t.val / 8, 0, 0]
    ∧ win1_2.index t = ![t.val / 8, 0, 0] ∧ win1_3.index t = ![t.val % 8 / 2, t.val / 8 * 2 + t.val % 2]
    ∧ win1_4.index t = ![t.val % 8 / 2, t.val / 8 * 2 + t.val % 2] ∧ win1_5.index t = ![t.val % 8 / 2, t.val / 8 * 2 + t.val % 2]
    ∧ win1_6.index t = ![t.val / 8, 0, 0] ∧ win1_7.index t = ![t.val / 8, 0, 0] := (by decide +kernel : ∀ t : Fin grid1.N, _)

theorem keys1 (hk : V c main_v4 = lift xk) (t : Fin cfg1.N) : iblk1 V c 1 t = lift (keys xk t) := by
  have e : iblk1 V c 1 t = fun y : S1x2048x64.Idx => V c main_v4 (ix3 (kv t) (y 1) (y 2)) := by
    funext y
    idx_vars y
    blk_point [iblk1, idx1 t, kv]
  rw [e, hk]; rfl

theorem head_sum (h : Fin 2) (k : Fin 8) (b : Fin 2) : head ⟨8 * h.val + k.val, by omega⟩ b = member h ⟨k.val % 2 * 2 + b.val, by omega⟩ :=
  Fin.ext (by simp only [head, member]; omega)

theorem line_sum (h : Fin 2) (k : Fin 8) (r : Fin 512) : line ⟨8 * h.val + k.val, by omega⟩ r = ⟨k.val / 2 * 512 + r.val, by omega⟩ :=
  Fin.ext (by simp only [line]; omega)

theorem kv_sum (h : Fin 2) (k : Fin 8) : kv ⟨8 * h.val + k.val, by omega⟩ = h := Fin.ext (by simp only [kv]; omega)

/-- The eight points of a key head add up to the keys' gradient. -/
theorem dk_sum (h : Fin 2) (x : Fin 64) (j : Fin 2048) : ∑ k : Fin 8, (
      dkHead (keys xk ⟨8 * h.val + k.val, by omega⟩) (keys xv ⟨8 * h.val + k.val, by omega⟩) (cut xq ⟨8 * h.val + k.val, by omega⟩ 0)
        (cut (outArr xq xk xv) ⟨8 * h.val + k.val, by omega⟩ 0) (cut xd ⟨8 * h.val + k.val, by omega⟩ 0) (ix2 x j)
      + dkHead (keys xk ⟨8 * h.val + k.val, by omega⟩) (keys xv ⟨8 * h.val + k.val, by omega⟩) (cut xq ⟨8 * h.val + k.val, by omega⟩ 1)
        (cut (outArr xq xk xv) ⟨8 * h.val + k.val, by omega⟩ 1) (cut xd ⟨8 * h.val + k.val, by omega⟩ 1) (ix2 x j))
    = dkArr xq xd xk xv (ix3 h x j) := by
  refine Eq.trans (Finset.sum_congr rfl fun k _ => ?_)
    (sum_points fun g R => dkRow (qrow xq (member h g) R) (qrow xd (member h g) R) (kmat xk h) (kmat xv h) x j)
  simp only [dkHead_cut, head_sum, line_sum, kv_sum]
  rfl

/-- The eight points of a key head add up to the values' gradient. -/
theorem dv_sum (h : Fin 2) (x : Fin 64) (j : Fin 2048) : ∑ k : Fin 8, (
      dvHead (keys xk ⟨8 * h.val + k.val, by omega⟩) (cut xq ⟨8 * h.val + k.val, by omega⟩ 0) (cut xd ⟨8 * h.val + k.val, by omega⟩ 0) (ix2 x j)
      + dvHead (keys xk ⟨8 * h.val + k.val, by omega⟩) (cut xq ⟨8 * h.val + k.val, by omega⟩ 1) (cut xd ⟨8 * h.val + k.val, by omega⟩ 1) (ix2 x j))
    = dvArr xq xd xk (ix3 h x j) := by
  refine Eq.trans (Finset.sum_congr rfl fun k _ => ?_)
    (sum_points fun g R => dvRow (qrow xq (member h g) R) (qrow xd (member h g) R) (kmat xk h) x j)
  simp only [dvHead_cut, head_sum, line_sum, kv_sum]
  rfl

theorem headOf_wide (t : Fin 16) (l : Fin 128) (b : Fin 2) (h : b.val = l.val / 64) : headOf (wide t l) = head t b :=
  Fin.ext (by simp only [headOf, wide, head]; omega)

/-- Half `b` of a block's columns, in the gradient of the queries. -/
theorem dqArr_wide (t : Fin 16) (r : Fin 512) (l : Fin 128) (b : Fin 2) (h : b.val = l.val / 64) (x : Fin 64) (hx : x.val = l.val % 64) :
    dqHead (keys xk t) (keys xv t) (cut xq t b) (cut (outArr xq xk xv) t b) (cut xd t b) (ix2 r x) = dqArr xq xd xk xv (ix2 (line t r) (wide t l)) := by
  have e : lane (wide t l) = x := Fin.ext (by simp only [lane, wide]; omega)
  show _ = dqRow (qrow xq (headOf (wide t l)) (line t r)) (qrow xd (headOf (wide t l)) (line t r)) (kmat xk (group (headOf (wide t l))))
    (kmat xv (group (headOf (wide t l)))) (lane (wide t l))
  rw [dqHead_cut, headOf_wide t l b h, group_head, e]

/-- Point `t`'s block of an array of eight heads' columns. -/
def block (x : S2048x512.Idx → EReal) (t : Fin 16) (y : S512x128.Idx) : EReal := x (ix2 (line t (y 0)) (wide t (y 1)))

theorem ld_lo (x : S2048x512.Idx → ℝ) (t : Fin 16) :
    View.ld (Val := Elt Ideal) (S := S512x128) (e' := .bf16) (block (lift x) t) (Rect.unit ![0, 0] ![512, 64] inb_S512x128_S512x64_0_0) = lift (cut x t 0) := by
  funext y
  idx_vars y
  pointwise [block]
  refine congrArg (lift x) (a₂ := ix2 (line t y0) (col (head t 0) y1)) (congrArg (ix2 (line t y0)) (Fin.ext ?_))
  simp only [wide, col, head]
  omega

theorem ld_hi (x : S2048x512.Idx → ℝ) (t : Fin 16) :
    View.ld (Val := Elt Ideal) (S := S512x128) (e' := .bf16) (block (lift x) t) (Rect.unit ![0, 64] ![512, 64] inb_S512x128_S512x64_0_64) = lift (cut x t 1) := by
  funext y
  idx_vars y
  pointwise [block]
  refine congrArg (lift x) (a₂ := ix2 (line t y0) (col (head t 1) y1)) (congrArg (ix2 (line t y0)) (Fin.ext ?_))
  simp only [wide, col, head, Fin.val_one]
  omega

theorem vals1 (hv : V c main_v7 = lift xv) (t : Fin cfg1.N) : iblk1 V c 2 t = lift (keys xv t) := by
  have e : iblk1 V c 2 t = fun y : S1x2048x64.Idx => V c main_v7 (ix3 (kv t) (y 1) (y 2)) := by
    funext y
    idx_vars y
    blk_point [iblk1, idx1 t, kv]
  rw [e, hv]; rfl

theorem q1 (hq : V c main_v1 = lift xq) (t : Fin cfg1.N) : iblk1 V c 0 t = block (lift xq) t := by
  rw [← hq]
  funext y
  idx_vars y
  blk_point [iblk1, idx1 t, block, line, wide]

theorem o1 (ho : V c main_v8 = lift xo) (t : Fin cfg1.N) : iblk1 V c 3 t = block (lift xo) t := by
  rw [← ho]
  funext y
  idx_vars y
  blk_point [iblk1, idx1 t, block, line, wide]

theorem d1 (hd : V c main_v10 = lift xd) (t : Fin cfg1.N) : iblk1 V c 4 t = block (lift xd) t := by
  rw [← hd]
  funext y
  idx_vars y
  blk_point [iblk1, idx1 t, block, line, wide]

theorem lo_q (h : V c main_v1 = lift xq) (t : Fin cfg1.N) :
    View.ld (Val := Elt Ideal) (S := S512x128) (e' := .bf16) (iblk1 V c 0 t) (Rect.unit ![0, 0] ![512, 64] inb_S512x128_S512x64_0_0) = lift (cut xq t 0) :=
  (congrArg (fun X : Vec Ideal S512x128 .bf16 => View.ld X (Rect.unit ![0, 0] ![512, 64] inb_S512x128_S512x64_0_0)) (q1 xq V c h t)).trans (ld_lo xq t)

theorem hi_q (h : V c main_v1 = lift xq) (t : Fin cfg1.N) :
    View.ld (Val := Elt Ideal) (S := S512x128) (e' := .bf16) (iblk1 V c 0 t) (Rect.unit ![0, 64] ![512, 64] inb_S512x128_S512x64_0_64) = lift (cut xq t 1) :=
  (congrArg (fun X : Vec Ideal S512x128 .bf16 => View.ld X (Rect.unit ![0, 64] ![512, 64] inb_S512x128_S512x64_0_64)) (q1 xq V c h t)).trans (ld_hi xq t)

theorem lo_o (h : V c main_v8 = lift xo) (t : Fin cfg1.N) :
    View.ld (Val := Elt Ideal) (S := S512x128) (e' := .bf16) (iblk1 V c 3 t) (Rect.unit ![0, 0] ![512, 64] inb_S512x128_S512x64_0_0) = lift (cut xo t 0) :=
  (congrArg (fun X : Vec Ideal S512x128 .bf16 => View.ld X (Rect.unit ![0, 0] ![512, 64] inb_S512x128_S512x64_0_0)) (o1 V c xo h t)).trans (ld_lo xo t)

theorem hi_o (h : V c main_v8 = lift xo) (t : Fin cfg1.N) :
    View.ld (Val := Elt Ideal) (S := S512x128) (e' := .bf16) (iblk1 V c 3 t) (Rect.unit ![0, 64] ![512, 64] inb_S512x128_S512x64_0_64) = lift (cut xo t 1) :=
  (congrArg (fun X : Vec Ideal S512x128 .bf16 => View.ld X (Rect.unit ![0, 64] ![512, 64] inb_S512x128_S512x64_0_64)) (o1 V c xo h t)).trans (ld_hi xo t)

theorem lo_d (h : V c main_v10 = lift xd) (t : Fin cfg1.N) :
    View.ld (Val := Elt Ideal) (S := S512x128) (e' := .bf16) (iblk1 V c 4 t) (Rect.unit ![0, 0] ![512, 64] inb_S512x128_S512x64_0_0) = lift (cut xd t 0) :=
  (congrArg (fun X : Vec Ideal S512x128 .bf16 => View.ld X (Rect.unit ![0, 0] ![512, 64] inb_S512x128_S512x64_0_0)) (d1 xd V c h t)).trans (ld_lo xd t)

theorem hi_d (h : V c main_v10 = lift xd) (t : Fin cfg1.N) :
    View.ld (Val := Elt Ideal) (S := S512x128) (e' := .bf16) (iblk1 V c 4 t) (Rect.unit ![0, 64] ![512, 64] inb_S512x128_S512x64_0_64) = lift (cut xd t 1) :=
  (congrArg (fun X : Vec Ideal S512x128 .bf16 => View.ld X (Rect.unit ![0, 64] ![512, 64] inb_S512x128_S512x64_0_64)) (d1 xd V c h t)).trans (ld_hi xd t)

variable (hq : V c main_v1 = lift xq) (hk : V c main_v4 = lift xk) (hv : V c main_v7 = lift xv)
  (ho : V c main_v8 = lift (outArr xq xk xv)) (hd : V c main_v10 = lift xd)
include hq hk hv ho hd

/-- What the body stores for the queries' gradient at point `t`. -/
theorem dq_at (t : Fin cfg1.N) (r : Fin 512) (l : Fin 128) :
    (outsAt1 V c t.val t.isLt).1 (ix2 r l) = ((dqArr xq xd xk xv (ix2 (line t r) (wide t l)) : ℝ) : EReal) := by
  have e : (outsAt1 V c t.val t.isLt).1 (ix2 r l)
      = (((if h : l.val < 64 then dqHead (keys xk t) (keys xv t) (cut xq t 0) (cut (outArr xq xk xv) t 0) (cut xd t 0) (ix2 r ⟨l.val, h⟩)
          else dqHead (keys xk t) (keys xv t) (cut xq t 1) (cut (outArr xq xk xv) t 1) (cut xd t 1) (ix2 r ⟨l.val - 64, by omega⟩)) : ℝ) : EReal) := by
    by_cases h : t.val % 8 = 0
    · rw [outsAt1_A V c t h]
      frame_out
      rw [keys1 xk V c hk, vals1 xv V c hv, lo_q xq V c hq, lo_o V c _ ho, lo_d xd V c hd, hi_q xq V c hq, hi_o V c _ ho, hi_d xd V c hd, pay14, pay23]
    · rw [outsAt1_B V c t h]
      frame_out
      rw [keys1 xk V c hk, vals1 xv V c hv, lo_q xq V c hq, lo_o V c _ ho, lo_d xd V c hd, hi_q xq V c hq, hi_o V c _ ho, hi_d xd V c hd, pay14, pay23]
  rw [e]
  refine congrArg _ ?_
  split
  · exact dqArr_wide xq xd xk xv t r l 0 (by simp only [Fin.val_zero]; omega) _ (by simp only; omega)
  · exact dqArr_wide xq xd xk xv t r l 1 (by simp only [Fin.val_one]; omega) _ (by simp only; omega)

/-- One point's share of the keys' gradient. -/
def dkPoint (t : Fin cfg1.N) (i : S1x64x2048.Idx) : EReal :=
  ((dkHead (keys xk t) (keys xv t) (cut xq t 0) (cut (outArr xq xk xv) t 0) (cut xd t 0) (ix2 (i 1) (i 2))
    + dkHead (keys xk t) (keys xv t) (cut xq t 1) (cut (outArr xq xk xv) t 1) (cut xd t 1) (ix2 (i 1) (i 2)) : ℝ) : EReal)

theorem dk_first (t : Fin cfg1.N) (h : t.val % 8 = 0) (i : S1x64x2048.Idx) :
    (outsAt1 V c t.val t.isLt).2.1 i = 0 + dkPoint xq xd xk xv t i := by
  rw [outsAt1_A V c t h]
  frame_out
  rw [keys1 xk V c hk, vals1 xv V c hv, lo_q xq V c hq, lo_o V c _ ho, lo_d xd V c hd, hi_q xq V c hq, hi_o V c _ ho, hi_d xd V c hd, pay15, pay24]
  exact congrArg (· + _) (pay2 i)

theorem dk_next (t : Fin cfg1.N) (h : ¬ t.val % 8 = 0) (i : S1x64x2048.Idx) :
    (outsAt1 V c t.val t.isLt).2.1 i = (outsAt1 V c (t.val - 1) (Nat.lt_of_le_of_lt (Nat.sub_le _ _) t.isLt)).2.1 i + dkPoint xq xd xk xv t i := by
  rw [outsAt1_B V c t h]
  frame_out
  rw [keys1 xk V c hk, vals1 xv V c hv, lo_q xq V c hq, lo_o V c _ ho, lo_d xd V c hd, hi_q xq V c hq, hi_o V c _ ho, hi_d xd V c hd, pay15, pay24]
  rfl

/-- One point's share of the values' gradient. -/
def dvPoint (t : Fin cfg1.N) (i : S1x64x2048.Idx) : EReal :=
  ((dvHead (keys xk t) (cut xq t 0) (cut xd t 0) (ix2 (i 1) (i 2)) + dvHead (keys xk t) (cut xq t 1) (cut xd t 1) (ix2 (i 1) (i 2)) : ℝ) : EReal)

theorem dv_first (t : Fin cfg1.N) (h : t.val % 8 = 0) (i : S1x64x2048.Idx) :
    (outsAt1 V c t.val t.isLt).2.2 i = 0 + dvPoint xq xd xk t i := by
  rw [outsAt1_A V c t h]
  frame_out
  rw [keys1 xk V c hk, lo_q xq V c hq, lo_d xd V c hd, hi_q xq V c hq, hi_d xd V c hd, pay16, pay25]
  exact congrArg (· + _) (pay3 i)

theorem dv_next (t : Fin cfg1.N) (h : ¬ t.val % 8 = 0) (i : S1x64x2048.Idx) :
    (outsAt1 V c t.val t.isLt).2.2 i = (outsAt1 V c (t.val - 1) (Nat.lt_of_le_of_lt (Nat.sub_le _ _) t.isLt)).2.2 i + dvPoint xq xd xk t i := by
  rw [outsAt1_B V c t h]
  frame_out
  rw [keys1 xk V c hk, lo_q xq V c hq, lo_d xd V c hd, hi_q xq V c hq, hi_d xd V c hd, pay16, pay25]
  rfl

theorem dq_final : (dat1 V c).arrAt 5 cfg1.N = lift (dqArr xq xd xk xv) := by
  refine (dat1 V c).arrAt_eq_of_covers 5 _ (by decide +kernel) fun t _ y => ?_
  rw [after1_5]
  blk_simp
  idx_vars y
  refine (dq_at xq xd xk xv V c hq hk hv ho hd t y0 y1).trans ?_
  refine congrArg (lift (dqArr xq xd xk xv)) (a₁ := ix2 (line t y0) (wide t y1)) ?_
  blk_ext [idx1 t, line, wide]

theorem dk_final : (dat1 V c).arrAt 6 cfg1.N = lift (dkArr xq xd xk xv) := by
  refine (dat1 V c).arrAt_eq_of_covers 6 _ (by decide +kernel) fun t hf y => ?_
  rw [after1_6]
  blk_simp
  idx_vars y
  refine (Pipeline.eq_sum_fin_of_reset_step_apply_of_flush (f := fun n h => (outsAt1 V c n h).2.1) 8 (fun _ => 0) (dkPoint xq xd xk xv)
    (dk_first xq xd xk xv V c hq hk hv ho hd) (dk_next xq xd xk xv V c hq hk hv ho hd) t ((flush1_6 t).mp hf) (ix3 y0 y1 y2)).trans ?_
  simp only [dkPoint, coe_sum, zero_add]
  refine Eq.trans (b := lift (dkArr xq xd xk xv) (ix3 (kv t) y1 y2)) (congrArg _ ?_) ?_
  · exact dk_sum xq xd xk xv (kv t) y1 y2
  · refine congrArg (lift (dkArr xq xd xk xv)) ?_
    blk_ext [idx1 t, kv]

theorem dv_final : (dat1 V c).arrAt 7 cfg1.N = lift (dvArr xq xd xk) := by
  refine (dat1 V c).arrAt_eq_of_covers 7 _ (by decide +kernel) fun t hf y => ?_
  rw [after1_7]
  blk_simp
  idx_vars y
  refine (Pipeline.eq_sum_fin_of_reset_step_apply_of_flush (f := fun n h => (outsAt1 V c n h).2.2) 8 (fun _ => 0) (dvPoint xq xd xk)
    (dv_first xq xd xk xv V c hq hk hv ho hd) (dv_next xq xd xk xv V c hq hk hv ho hd) t ((flush1_7 t).mp hf) (ix3 y0 y1 y2)).trans ?_
  simp only [dvPoint, coe_sum, zero_add]
  refine Eq.trans (b := lift (dvArr xq xd xk) (ix3 (kv t) y1 y2)) (congrArg _ ?_) ?_
  · exact dv_sum xq xd xk (kv t) y1 y2
  · refine congrArg (lift (dvArr xq xd xk)) ?_
    blk_ext [idx1 t, kv]

end
end Cert.Attn
end
-- ==== Proof.AttnFwd.lean ====
/- The array the forward call leaves, from arrays of real numbers. -/
module

public import proofs.«01_k».proof.Proof.AttnBwd

@[expose] public section

set_option maxRecDepth 16384

noncomputable section

namespace Cert.Attn

open Idealize.ShloMosaic Idealize.ShloMosaic.TcCoe Idealize.SL.Sem
open Idealize.ShloMosaic.Pipeline (Dat)
open Cert.Lift Cert.Softmax
open Cert.Kernel2Ideal Cert.Kernel2Ideal.Gen

section
variable (k v : S1x2048x64.Idx → ℝ) (q : S256x64.Idx → ℝ) (Q : Fin 4 → S256x64.Idx → ℝ)

/-- One head's output over a block of 256 queries. -/
def outHead (i : S256x64.Idx) : ℝ := out (fun d => q (ix2 (i 0) d)) (mat k) (mat v) (i 1)

theorem fwd4 : k0_pay4 (F := Ideal) (lift k) (lift v) (lift q) = lift (outHead k v q) := by
  funext i; idx_vars i
  pointwise [k0_pay4, k0_pay2, k0_pay3, lift]
  simp only [ofBits_bf16_eighth, ofBits_bf16_one, ← EReal.coe_mul, coe_sum, fold_max, ← EReal.coe_sub, exp_real]
  refine (div_real _ (den_ne (score (fun d => q (ix2 i0 d)) (mat k)))).trans (congrArg _ ?_)
  refine Eq.trans ?_ (out_eq (fun d => q (ix2 i0 d)) (mat k) (mat v) i1)
  simp only [mul_one]
  rfl

/-- The block's four heads side by side. -/
theorem fwd1 (r : Fin 256) (l : Fin 256) :
    k0_pay1 (F := Ideal) (k0_pay2 (lift k)) (k0_pay3 (lift v)) (k0_pay4 (lift k) (lift v) (lift (Q 0))) (k0_pay5 (lift k) (lift v) (lift (Q 1))) (lift (Q 2)) (lift (Q 3)) (ix2 r l)
      = lift (outHead k v (Q ⟨l.val / 64, by omega⟩)) (ix2 r ⟨l.val % 64, by omega⟩) := by
  have e : k0_pay1 (F := Ideal) (k0_pay2 (lift k)) (k0_pay3 (lift v)) (k0_pay4 (lift k) (lift v) (lift (Q 0))) (k0_pay5 (lift k) (lift v) (lift (Q 1))) (lift (Q 2)) (lift (Q 3))
      = truncf .bf16 (concatenate S256x256 1 [⟨S256x64, k0_pay4 (F := Ideal) (lift k) (lift v) (lift (Q 0))⟩, ⟨S256x64, k0_pay4 (F := Ideal) (lift k) (lift v) (lift (Q 1))⟩,
          ⟨S256x64, k0_pay4 (F := Ideal) (lift k) (lift v) (lift (Q 2))⟩, ⟨S256x64, k0_pay4 (F := Ideal) (lift k) (lift v) (lift (Q 3))⟩]
          concatenates_S256x64_S256x64_S256x64_S256x64_S256x256_d1) bitsLt_bf16_f32 := rfl
  have part : ∀ (g : Fin 4) (x : Fin 64) (hg : g.val = l.val / 64) (hx : x.val = l.val % 64),
      lift (outHead k v (Q g)) (ix2 r x) = lift (outHead k v (Q ⟨l.val / 64, by omega⟩)) (ix2 r ⟨l.val % 64, by omega⟩) := fun g x hg hx => by
    have h1 : g = ⟨l.val / 64, by omega⟩ := Fin.ext hg
    have h2 : x = ⟨l.val % 64, by omega⟩ := Fin.ext hx
    exact congrArg₂ (fun g x => lift (outHead k v (Q g)) (ix2 r x)) h1 h2
  have hl := l.isLt
  rw [e, fwd4, fwd4, fwd4, fwd4]
  pointwise []
  split
  · exact part 0 _ (by simp only [Fin.val_zero]; omega) (by simp only; omega)
  split
  · exact part 1 _ (by simp only [Fin.val_one]; omega) (by simp only; omega)
  split
  · exact part 2 _ (by show 2 = _; omega) (by simp only; omega)
  · exact part 3 _ (by show 3 = _; omega) (by simp only; omega)
end

section
variable (xq : S2048x512.Idx → ℝ) (xk xv : S2x2048x64.Idx → ℝ)

/-- Row `r` of point `t`'s block, in the whole array. -/
def fline (t : Fin 16) (r : Fin 256) : Fin 2048 := ⟨t.val % 8 * 256 + r.val, by omega⟩

/-- Column `l` of point `t`'s block, in the whole array. -/
def fwide (t : Fin 16) (l : Fin 256) : Fin 512 := ⟨t.val / 8 * 256 + l.val, by omega⟩

/-- Head `g` of point `t`'s block. -/
def fcut (t : Fin 16) (g : Fin 4) (y : S256x64.Idx) : ℝ := qrow xq (member (kv t) g) (fline t (y 0)) (y 1)

theorem outArr_wide (t : Fin 16) (r : Fin 256) (l : Fin 256) :
    outHead (keys xk t) (keys xv t) (fcut xq t ⟨l.val / 64, by omega⟩) (ix2 r ⟨l.val % 64, by omega⟩) = outArr xq xk xv (ix2 (fline t r) (fwide t l)) := by
  have h : headOf (fwide t l) = member (kv t) ⟨l.val / 64, by omega⟩ := Fin.ext (by simp only [headOf, fwide, member, kv]; omega)
  have e : lane (fwide t l) = ⟨l.val % 64, by omega⟩ := Fin.ext (by simp only [lane, fwide]; omega)
  have hg : group (headOf (fwide t l)) = kv t := Fin.ext (by simp only [group, headOf, fwide, kv]; omega)
  show _ = out (qrow xq (headOf (fwide t l)) (fline t r)) (kmat xk (group (headOf (fwide t l)))) (kmat xv (group (headOf (fwide t l)))) (lane (fwide t l))
  rw [hg, h, e]
  rfl

/-- Point `t`'s block of the queries. -/
def fblock (x : S2048x512.Idx → EReal) (t : Fin 16) (y : S256x256.Idx) : EReal := x (ix2 (fline t (y 0)) (fwide t (y 1)))

variable (V : (c : Dev nD) → (b : Ref sig .tc) → Buf (Elt Ideal) ((c : Thread nD τ).loc b)) (c : Dev nD)

theorem idx0 : ∀ t : Fin cfg0.N, win0_0.index t = ![t.val % 8, t.val / 8] ∧ win0_1.index t = ![t.val / 8, 0, 0]
    ∧ win0_2.index t = ![t.val / 8, 0, 0] ∧ win0_3.index t = ![t.val % 8, t.val / 8] := (by decide +kernel : ∀ t : Fin grid0.N, _)

theorem ld_fblock (t : Fin 16) (g : Fin 4) (inb : ∀ a : Fin 2, ![0, g.val * 64] a + S256x64.size a ≤ S256x256.size a) :
    View.ld (Val := Elt Ideal) (S := S256x256) (e' := .bf16) (fblock (lift xq) t) (Rect.unit ![0, g.val * 64] ![256, 64] inb) = lift (fcut xq t g) := by
  funext y
  idx_vars y
  pointwise [fblock]
  refine congrArg (lift xq) (a₂ := ix2 (fline t y0) (col (member (kv t) g) y1)) (congrArg (ix2 (fline t y0)) (Fin.ext ?_))
  simp only [fwide, col, member, kv]
  omega

theorem fq (hq : V c main_v1 = lift xq) (t : Fin cfg0.N) : iblk0 V c 0 t = fblock (lift xq) t := by
  rw [← hq]
  funext y
  idx_vars y
  blk_point [iblk0, idx0 t, fblock, fline, fwide]

theorem fk (hk : V c main_v4 = lift xk) (t : Fin cfg0.N) : iblk0 V c 1 t = lift (keys xk t) := by
  have e : iblk0 V c 1 t = fun y : S1x2048x64.Idx => V c main_v4 (ix3 (kv t) (y 1) (y 2)) := by
    funext y
    idx_vars y
    blk_point [iblk0, idx0 t, kv]
  rw [e, hk]; rfl

theorem fv (hv : V c main_v7 = lift xv) (t : Fin cfg0.N) : iblk0 V c 2 t = lift (keys xv t) := by
  have e : iblk0 V c 2 t = fun y : S1x2048x64.Idx => V c main_v7 (ix3 (kv t) (y 1) (y 2)) := by
    funext y
    idx_vars y
    blk_point [iblk0, idx0 t, kv]
  rw [e, hv]; rfl

variable (hq : V c main_v1 = lift xq) (hk : V c main_v4 = lift xk) (hv : V c main_v7 = lift xv)
include hq hk hv

theorem out_final : (dat0 V c).arrAt 3 cfg0.N = lift (outArr xq xk xv) := by
  refine (dat0 V c).arrAt_eq_of_covers 3 _ (by decide +kernel) fun t _ y => ?_
  rw [after0_3]
  frame_out
  blk_simp
  idx_vars y
  have l0 : View.ld (Val := Elt Ideal) (S := S256x256) (e' := .bf16) (iblk0 V c 0 t) r0_1 = lift (fcut xq t 0) :=
    (congrArg (fun X : Vec Ideal S256x256 .bf16 => View.ld X r0_1) (fq xq V c hq t)).trans (ld_fblock xq t 0 inb_S256x256_S256x64_0_0)
  have l1 : View.ld (Val := Elt Ideal) (S := S256x256) (e' := .bf16) (iblk0 V c 0 t) r0_2 = lift (fcut xq t 1) :=
    (congrArg (fun X : Vec Ideal S256x256 .bf16 => View.ld X r0_2) (fq xq V c hq t)).trans (ld_fblock xq t 1 inb_S256x256_S256x64_0_64)
  have l2 : View.ld (Val := Elt Ideal) (S := S256x256) (e' := .bf16) (iblk0 V c 0 t) r0_3 = lift (fcut xq t 2) :=
    (congrArg (fun X : Vec Ideal S256x256 .bf16 => View.ld X r0_3) (fq xq V c hq t)).trans (ld_fblock xq t 2 inb_S256x256_S256x64_0_128)
  have l3 : View.ld (Val := Elt Ideal) (S := S256x256) (e' := .bf16) (iblk0 V c 0 t) r0_4 = lift (fcut xq t 3) :=
    (congrArg (fun X : Vec Ideal S256x256 .bf16 => View.ld X r0_4) (fq xq V c hq t)).trans (ld_fblock xq t 3 inb_S256x256_S256x64_0_192)
  rw [l0, l1, l2, l3, fk xk V c hk, fv xv V c hv]
  refine (fwd1 (keys xk t) (keys xv t) (fcut xq t) y0 y1).trans ((congrArg _ (outArr_wide xq xk xv t y0 y1)).trans ?_)
  refine congrArg (lift (outArr xq xk xv)) (a₁ := ix2 (fline t y0) (fwide t y1)) ?_
  blk_ext [idx0 t, fline, fwide]
end
end Cert.Attn
end
-- ==== Proof.AttnRun.lean ====
/- The kernel program's run: what its result buffers hold at the end, and what its regions find. -/
module

public import proofs.«01_k».proof.Proof.Gen.Kernel2Ideal.Frame
public import Idealize.ShloMosaic.Lib.Claim

@[expose] public section

set_option maxRecDepth 16384

noncomputable section

namespace Cert.Attn

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg) (c : Dev nD)

/-- The queries, as the regions find them. -/
theorem V1_q : V1 m ρ c main_v1 = truncf .bf16 (shapeCast S2048x512 (m ((c : Thread nD τ).loc main_arg0)) shapeCasts_S1x2048x8x64_S2048x512) bitsLt_bf16_f32 := by
  unfold_abbrev_sides
  after_results
  rfl

/-- The keys. -/
theorem V1_k : V1 m ρ c main_v4 = transpose S2x2048x64 [1, 0, 2] (truncf .bf16 (shapeCast S2048x2x64 (m ((c : Thread nD τ).loc main_arg1))
    shapeCasts_S1x2048x2x64_S2048x2x64) bitsLt_bf16_f32) transposes_S2048x2x64_S2x2048x64_1_0_2 := by
  unfold_abbrev_sides
  after_results
  rfl

/-- The values. -/
theorem V1_v : V1 m ρ c main_v7 = transpose S2x2048x64 [1, 0, 2] (truncf .bf16 (shapeCast S2048x2x64 (m ((c : Thread nD τ).loc main_arg2))
    shapeCasts_S1x2048x2x64_S2048x2x64) bitsLt_bf16_f32) transposes_S2048x2x64_S2x2048x64_1_0_2 := by
  unfold_abbrev_sides
  after_results
  rfl

/-- The output's cotangent, as the second region finds it. -/
theorem V3_d : V3 m ρ c main_v10 = truncf .bf16 (shapeCast S2048x512 (m ((c : Thread nD τ).loc main_arg3)) shapeCasts_S1x2048x512_S2048x512) bitsLt_bf16_f32 := by
  refine Eq.trans (b := truncf .bf16 (shapeCast S2048x512 (V2 m ρ c main_arg3) shapeCasts_S1x2048x512_S2048x512) bitsLt_bf16_f32) ?_ ?_
  · unfold_abbrev_sides
    after_results
    rfl
  · rw [show V2 m ρ c main_arg3 = m ((c : Thread nD τ).loc main_arg3) from W2_args m ρ c main_arg3 (by decide)]

theorem V3_q : V3 m ρ c main_v1 = V1 m ρ c main_v1 := (W3_of m ρ c main_v1 (by decide)).trans (W2_of m ρ c main_v1 (by decide))
theorem V3_k : V3 m ρ c main_v4 = V1 m ρ c main_v4 := (W3_of m ρ c main_v4 (by decide)).trans (W2_of m ρ c main_v4 (by decide))
theorem V3_v : V3 m ρ c main_v7 = V1 m ρ c main_v7 := (W3_of m ρ c main_v7 (by decide)).trans (W2_of m ρ c main_v7 (by decide))

/-- The forward call's output, as the second region finds it. -/
theorem V3_o : V3 m ρ c main_v8 = (dat0 (V1 m ρ) c).arrAt 3 cfg0.N := (W3_of m ρ c main_v8 (by decide)).trans (W2_arr m ρ c 3)

/-- Every buffer of the TensorCores at the end of the run: the arguments as launched, the results as the two regions leave them. -/
theorem W4_out : W4 m ρ c (Proc.devRef .tc main_v8) = (dat0 (V1 m ρ) c).arrAt 3 cfg0.N :=
  (W4_of m ρ c main_v8 (by decide)).trans (V3_o m ρ c)

-- the launch theorem's implicit arguments are found by unfolding plain definitions
set_option backward.isDefEq.respectTransparency.types false in
/-- The run: it ends, and every result buffer holds what its region left. -/
theorem run_results : θ_run defs (onTc (τ := τ) (main (F := F))) ⟨m, fun _ => 0, ρ⟩ (fun r => ∀ c : Dev nD,
      r.2.mem ((c.tc : Thread nD τ).loc main_v8) = (dat0 (V1 m ρ) c).arrAt 3 cfg0.N
      ∧ r.2.mem ((c.tc : Thread nD τ).loc main_v11_0) = (dat1 (V3 m ρ) c).arrAt 5 cfg1.N
      ∧ r.2.mem ((c.tc : Thread nD τ).loc main_v11_1) = (dat1 (V3 m ρ) c).arrAt 6 cfg1.N
      ∧ r.2.mem ((c.tc : Thread nD τ).loc main_v11_2) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v8 (by decide))).trans (W4_out m ρ c),
       (h c _ (mem_uc main_v11_0 (by decide))).trans (W4_arr m ρ c 5),
       (h c _ (mem_uc main_v11_1 (by decide))).trans (W4_arr m ρ c 6),
       (h c _ (mem_uc main_v11_2 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Attn
end
-- ==== Proof.AttnScores.lean ====
/- The attention's derivative: the reference's scores and their exponentials, over real arguments. -/
module

public import proofs.«01_k».proof.Proof.Gen.Reference2Ideal.Read
public import proofs.«01_k».proof.Proof.AttnBwd

@[expose] public section

set_option maxRecDepth 16384

noncomputable section

namespace Cert.Attn

open Idealize.ShloMosaic Idealize.ShloMosaic.TcCoe Idealize.SL.Sem
open Cert.Lift Cert.Softmax
open Cert.Reference2Ideal Cert.Reference2Ideal.Gen Cert.Reference2Ideal.Read

variable (q4 : S1x2048x8x64.Idx → ℝ) (k4 v4 : S1x2048x2x64.Idx → ℝ) (d3 : S1x2048x512.Idx → ℝ)

/-- The queries with the heads' columns side by side. -/
def flatQ (i : S2048x512.Idx) : ℝ := q4 (ix4 0 (i 0) (headOf (i 1)) (lane (i 1)))

/-- The keys or values, one matrix per head. -/
def flatK (i : Cert.Kernel2Ideal.S2x2048x64.Idx) : ℝ := k4 (ix4 0 (i 1) (i 0) (i 2))

/-- The cotangent without its batch axis. -/
def flatD (i : S2048x512.Idx) : ℝ := d3 (ix3 0 (i 0) (i 1))

theorem qrow_flatQ (h : Fin 8) (r : Fin 2048) (d : Fin 64) : qrow (flatQ q4) h r d = q4 (ix4 0 r h d) := by
  show q4 (ix4 0 r (headOf (col h d)) (lane (col h d))) = _
  rw [headOf_col, lane_col]

/-- The scores of query head `(h, g)`'s row `r`. -/
abbrev sc (h : Fin 2) (g : Fin 4) (r : Fin 2048) : Fin 2048 → ℝ := score (qrow (flatQ q4) (member h g) r) (kmat (flatK k4) h)

theorem ref_q (z : Fin 1) (r : Fin 2048) (h : Fin 2) (g : Fin 4) (d : Fin 64) :
    val_main_v0 (F := Ideal) (lift q4) (ix5 z r h g d) = ((qrow (flatQ q4) (member h g) r d : ℝ) : EReal) := by
  obtain rfl : z = 0 := Subsingleton.elim _ _
  rw [val_main_v0_apply, qrow_flatQ]
  refine congrArg (lift q4) (a₂ := ix4 0 r (member h g) d) ?_
  funext a; apply Fin.ext
  match a with
  | ⟨0, _⟩ => rfl
  | ⟨1, _⟩ => simp only [idx_main_v0, ix4, ix5, member]; dsimp; omega
  | ⟨2, _⟩ => simp only [idx_main_v0, ix4, ix5, member]; dsimp; omega
  | ⟨3, _⟩ => simp only [idx_main_v0, ix4, ix5, member]; dsimp; omega

theorem ref_k (z : Fin 1) (j : Fin 2048) (h : Fin 2) (d : Fin 64) :
    lift k4 (ix4 z j h d) = ((kmat (flatK k4) h j d : ℝ) : EReal) := by
  obtain rfl : z = 0 := Subsingleton.elim _ _
  rfl

theorem ref_score (z : Fin 1) (h : Fin 2) (g : Fin 4) (r j : Fin 2048) :
    val_main_v4 (F := Ideal) (lift q4) (lift k4) (ix5 z h g r j) = ((sc q4 k4 h g r j : ℝ) : EReal) := by
  pointwise [val_main_v4, val_main_v3, val_main_v2, val_main_v1, val_main_cst]
  simp only [ref_q, ref_k, ofBits_eighth, ← EReal.coe_mul, coe_sum]
  refine congrArg _ ?_
  rw [sc, score, Finset.sum_mul]
  exact Finset.sum_congr rfl fun d _ => by ring

theorem ref_top (z : Fin 1) (h : Fin 2) (g : Fin 4) (r : Fin 2048) :
    val_main_v5 (F := Ideal) (lift q4) (lift k4) (ix4 z h g r) = ((top (sc q4 k4 h g r) : ℝ) : EReal) := by
  pointwise [val_main_v5, val_main_cst_0]
  simp only [ref_score]
  exact fold_max _

/-- The row maximum once more compared with the bottom. -/
theorem ref_top' (z : Fin 1) (h : Fin 2) (g : Fin 4) (r : Fin 2048) :
    val_main_v12 (F := Ideal) (lift q4) (lift k4) (ix4 z h g r) = ((top (sc q4 k4 h g r) : ℝ) : EReal) := by
  have hb : val_main_v11 (F := Ideal) (ix4 z h g r) = ⊥ := by
    rw [val_main_v11_apply]
    exact ofBits_bot
  rw [val_main_v12_apply, ref_top, hb]
  exact max_eq_right bot_le

/-- The place in the row maxima that an entry of the scores reads. -/
theorem idx_top (z : Fin 1) (h : Fin 2) (g : Fin 4) (r j : Fin 2048) : idx_main_v22 (idx_main_v23 (ix5 z h g r j)) = ix4 z h g r := by
  obtain rfl : z = 0 := Subsingleton.elim _ _
  funext a; apply Fin.ext
  match a with
  | ⟨0, _⟩ => rfl
  | ⟨1, _⟩ => rfl
  | ⟨2, _⟩ => rfl
  | ⟨3, _⟩ => rfl

theorem ref_ex (z : Fin 1) (h : Fin 2) (g : Fin 4) (r j : Fin 2048) :
    val_main_v25 (F := Ideal) (lift q4) (lift k4) (ix5 z h g r j) = ((ex (sc q4 k4 h g r) j : ℝ) : EReal) := by
  rw [val_main_v25_apply, val_main_v24_apply, val_main_v23_apply, val_main_v22_apply, idx_top, ref_score, ref_top', ex, ← exp_real, EReal.coe_sub]
  rfl

end Cert.Attn
end
-- ==== Proof.AttnReference.lean ====
/- The attention's derivative: what the reference computes, over real arguments. -/
module

public import proofs.«01_k».proof.Proof.AttnScores
public import Idealize.ShloMosaic.Lib.TwoAxisContraction

@[expose] public section

set_option maxRecDepth 16384

noncomputable section

namespace Cert.Attn

open Idealize.ShloMosaic Idealize.ShloMosaic.TcCoe Idealize.SL.Sem
open Cert.Lift Cert.Softmax
open Cert.Reference2Ideal Cert.Reference2Ideal.Gen Cert.Reference2Ideal.Read

variable (q4 : S1x2048x8x64.Idx → ℝ) (k4 v4 : S1x2048x2x64.Idx → ℝ) (d3 : S1x2048x512.Idx → ℝ)

theorem ref_den (z : Fin 1) (h : Fin 2) (g : Fin 4) (r : Fin 2048) (l : Fin 1) :
    val_main_v27 (F := Ideal) (lift q4) (lift k4) (ix5 z h g r l) = ((den (sc q4 k4 h g r) : ℝ) : EReal) := by
  pointwise [val_main_v27, val_main_v26, val_main_cst_8]
  simp only [ref_ex, coe_sum, zero_add]
  rfl

theorem ref_prob (z : Fin 1) (h : Fin 2) (g : Fin 4) (r j : Fin 2048) :
    val_main_v29 (F := Ideal) (lift q4) (lift k4) (ix5 z h g r j) = ((prob (sc q4 k4 h g r) j : ℝ) : EReal) := by
  pointwise [val_main_v29, val_main_v28]
  rw [ref_ex, ref_den, div_real _ (den_ne _)]
  rfl

theorem ref_out (z : Fin 1) (r : Fin 2048) (h : Fin 2) (g : Fin 4) (d : Fin 64) :
    val_main_v34 (F := Ideal) (lift q4) (lift k4) (lift v4) (ix5 z r h g d)
      = ((out (qrow (flatQ q4) (member h g) r) (kmat (flatK k4) h) (kmat (flatK v4) h) d : ℝ) : EReal) := by
  obtain rfl : z = 0 := Subsingleton.elim _ _
  pointwise [val_main_v34, val_main_v33]
  simp only [ref_prob, ref_k, ← EReal.coe_mul, coe_sum]
  exact congrArg _ (Finset.sum_congr rfl fun j _ => mul_comm _ _)

theorem ref_dy (z : Fin 1) (h : Fin 2) (d : Fin 64) (g : Fin 4) (r : Fin 2048) :
    val_main_v37 (F := Ideal) (lift d3) (ix5 z h d g r) = ((qrow (flatD d3) (member h g) r d : ℝ) : EReal) := by
  obtain rfl : z = 0 := Subsingleton.elim _ _
  pointwise [val_main_v37]
  rw [val_main_v36_apply]
  refine congrArg (lift d3) (a₂ := ix3 0 r (col (member h g) d)) ?_
  funext a; apply Fin.ext
  match a with
  | ⟨0, _⟩ => rfl
  | ⟨1, _⟩ => simp only [idx_main_v36, ix3, ix5, member, col]; dsimp; omega
  | ⟨2, _⟩ => simp only [idx_main_v36, ix3, ix5, member, col]; dsimp; omega

/-- The gradient of the weights. -/
abbrev dp (h : Fin 2) (g : Fin 4) (r j : Fin 2048) : ℝ := ∑ x, qrow (flatD d3) (member h g) r x * kmat (flatK v4) h j x

theorem ref_dp (z : Fin 1) (h : Fin 2) (g : Fin 4) (r j : Fin 2048) :
    val_main_v38 (F := Ideal) (lift v4) (lift d3) (ix5 z h g r j) = ((dp v4 d3 h g r j : ℝ) : EReal) := by
  pointwise [val_main_v38]
  simp only [ref_dy, ref_k, ← EReal.coe_mul, coe_sum]

/-- The row's correction: minus the weighted sum of the weights' gradient, over the row's sum of exponentials. -/
theorem ref_fix (h : Fin 2) (g : Fin 4) (r : Fin 2048) :
    val_main_v49 (F := Ideal) (lift q4) (lift k4) (lift v4) (lift d3) (ix3 h g r)
      = ((-(∑ j, dp v4 d3 h g r j * (1 / (den (sc q4 k4 h g r) * den (sc q4 k4 h g r))) * ex (sc q4 k4 h g r) j) : ℝ) : EReal) := by
  pointwise [val_main_v49, val_main_cst_11]
  rw [hostReduceAdd_r5_a04]
  simp only [Fin.sum_univ_one, zero_add]
  pointwise [val_main_v46, val_main_v45, val_main_v44, val_main_cst_10, val_main_v43, val_main_v42, val_main_v41, val_main_v32, val_main_v31, val_main_v30, val_main_cst_9]
  simp only [ref_den, ref_dp, ref_ex, ofBits_one, ← EReal.coe_one, ← EReal.coe_mul, div_real _ (mul_ne_zero (den_ne _) (den_ne _)), coe_sum, zero_add, ← EReal.coe_neg]

theorem ref_dscore (z : Fin 1) (h : Fin 2) (j r : Fin 2048) (g : Fin 4) :
    val_main_v56 (F := Ideal) (lift q4) (lift k4) (lift v4) (lift d3) (ix5 z h j r g)
      = ((dscore (qrow (flatQ q4) (member h g) r) (qrow (flatD d3) (member h g) r) (kmat (flatK k4) h) (kmat (flatK v4) h) j : ℝ) : EReal) := by
  pointwise [val_main_v56, val_main_v55, val_main_v54, val_main_cst_12, val_main_v53, val_main_v52, val_main_v51, val_main_v50, val_main_v48, val_main_v47]
  simp only [ref_den, ref_dp, ref_ex, ref_fix, ofBits_eighth, div_real _ (den_ne _), ← EReal.coe_mul, ← EReal.coe_add]
  exact congrArg (fun x : ℝ => ((x * (1 / 8) : ℝ) : EReal)) (tilt_eq (sc q4 k4 h g r) (dp v4 d3 h g r) j)

theorem ref_dq (z : Fin 1) (r : Fin 2048) (h : Fin 2) (g : Fin 4) (d : Fin 64) :
    val_main_v58 (F := Ideal) (lift q4) (lift k4) (lift v4) (lift d3) (ix5 z r h g d)
      = ((dqRow (qrow (flatQ q4) (member h g) r) (qrow (flatD d3) (member h g) r) (kmat (flatK k4) h) (kmat (flatK v4) h) d : ℝ) : EReal) := by
  pointwise [val_main_v58, val_main_v57]
  simp only [ref_dscore, ref_k, ← EReal.coe_mul, coe_sum]
  rfl

section TwoAxes

/-- The contraction of the keys' gradient: over the query rows and the query heads of the group. -/
abbrev Dk : DotDims S1x2x2048x2048x4 S1x2048x2x4x64 S1x2x2048x64 := dot_S1x2x2048x2048x4_S1x2048x2x4x64_S1x2x2048x64_34_13_2_4_01_02

/-- The contraction of the values' gradient: over the query heads of the group and the query rows. -/
abbrev Dv : DotDims S1x2x64x4x2048 S1x2x4x2048x2048 S1x2x64x2048 := dot_S1x2x64x4x2048_S1x2x4x2048x2048_S1x2x64x2048_34_23_2_4_01_01

variable (h : Fin 2) (j : Fin 2048) (d : Fin 64)

theorem lhs_k (r : Fin 2048) (g : Fin 4) :
    Dk.lhsIdx (ix4 0 h j d) ((ValueIdx.contrEquiv2 Dk 2048 4 rfl rfl rfl).symm (r, g)) = ix5 0 h j r g := by
  funext a; apply Fin.ext
  match a with
  | ⟨0, _⟩ => rfl
  | ⟨1, _⟩ => rfl
  | ⟨2, _⟩ => rfl
  | ⟨3, _⟩ => rfl
  | ⟨4, _⟩ => rfl

theorem rhs_k (r : Fin 2048) (g : Fin 4) :
    Dk.rhsIdx (ix4 0 h j d) ((ValueIdx.contrEquiv2 Dk 2048 4 rfl rfl rfl).symm (r, g)) = ix5 0 r h g d := by
  funext a; apply Fin.ext
  match a with
  | ⟨0, _⟩ => rfl
  | ⟨1, _⟩ => rfl
  | ⟨2, _⟩ => rfl
  | ⟨3, _⟩ => rfl
  | ⟨4, _⟩ => rfl

theorem lhs_v (g : Fin 4) (r : Fin 2048) :
    Dv.lhsIdx (ix4 0 h d j) ((ValueIdx.contrEquiv2 Dv 4 2048 rfl rfl rfl).symm (g, r)) = ix5 0 h d g r := by
  funext a; apply Fin.ext
  match a with
  | ⟨0, _⟩ => rfl
  | ⟨1, _⟩ => rfl
  | ⟨2, _⟩ => rfl
  | ⟨3, _⟩ => rfl
  | ⟨4, _⟩ => rfl

theorem rhs_v (g : Fin 4) (r : Fin 2048) :
    Dv.rhsIdx (ix4 0 h d j) ((ValueIdx.contrEquiv2 Dv 4 2048 rfl rfl rfl).symm (g, r)) = ix5 0 h g r j := by
  funext a; apply Fin.ext
  match a with
  | ⟨0, _⟩ => rfl
  | ⟨1, _⟩ => rfl
  | ⟨2, _⟩ => rfl
  | ⟨3, _⟩ => rfl
  | ⟨4, _⟩ => rfl

theorem ref_dk (z : Fin 1) :
    val_main_v59 (F := Ideal) (lift q4) (lift k4) (lift v4) (lift d3) (ix4 z h j d)
      = ((dkArr (flatQ q4) (flatD d3) (flatK k4) (flatK v4) (ix3 h d j) : ℝ) : EReal) := by
  obtain rfl : z = 0 := Subsingleton.elim _ _
  unfold val_main_v59
  simp only [Host.dotGeneral]
  rw [Ideal.dotGeneral_apply, ValueIdx.sum_contr2 Dk 2048 4 rfl rfl rfl]
  simp only [lhs_k, rhs_k, ref_dscore, ref_q, ← EReal.coe_mul, coe_sum]
  exact congrArg _ Finset.sum_comm

theorem ref_dv (z : Fin 1) :
    val_main_v39 (F := Ideal) (lift q4) (lift k4) (lift d3) (ix4 z h d j)
      = ((dvArr (flatQ q4) (flatD d3) (flatK k4) (ix3 h d j) : ℝ) : EReal) := by
  obtain rfl : z = 0 := Subsingleton.elim _ _
  unfold val_main_v39
  simp only [Host.dotGeneral]
  rw [Ideal.dotGeneral_apply, ValueIdx.sum_contr2 Dv 4 2048 rfl rfl rfl]
  simp only [lhs_v, rhs_v, ref_dy, ref_prob, ← EReal.coe_mul, coe_sum]
  rfl

end TwoAxes

/-- Column `c` of the flat arrays as a group's head, its place in the group, and the lane. -/
def place (c : Fin 512) : Fin 4 := ⟨c.val / 64 % 4, by omega⟩

theorem member_place (c : Fin 512) : member (group (headOf c)) (place c) = headOf c :=
  Fin.ext (by simp only [member, group, headOf, place]; omega)

/-- The reference's output. -/
theorem out_ref : val_main_v63 (F := Ideal) (lift q4) (lift k4) (lift v4) = lift (outArr (flatQ q4) (flatK k4) (flatK v4)) := by
  funext i
  idx_vars i
  pointwise [val_main_v63]
  rw [val_main_v62_apply, val_main_v35_apply]
  refine (congrArg _ (?_ : _ = ix5 0 i0 (group (headOf i1)) (place i1) (lane i1))).trans
    ((ref_out q4 k4 v4 0 i0 (group (headOf i1)) (place i1) (lane i1)).trans ?_)
  · funext a; apply Fin.ext
    match a with
    | ⟨0, _⟩ => rfl
    | ⟨1, _⟩ => simp only [idx_main_v35, idx_main_v62, ix5, ix2]; dsimp; omega
    | ⟨2, _⟩ => simp only [idx_main_v35, idx_main_v62, ix5, ix2, group, headOf]; dsimp; omega
    | ⟨3, _⟩ => simp only [idx_main_v35, idx_main_v62, ix5, ix2, place]; dsimp; omega
    | ⟨4, _⟩ => simp only [idx_main_v35, idx_main_v62, ix5, ix2, lane]; dsimp; omega
  · rw [member_place]; rfl

/-- The reference's gradient of the queries. -/
theorem dq_ref : val_main_v65 (F := Ideal) (lift q4) (lift k4) (lift v4) (lift d3)
    = lift (dqArr (flatQ q4) (flatD d3) (flatK k4) (flatK v4)) := by
  funext i
  idx_vars i
  rw [val_main_v65_apply, val_main_v64_apply, val_main_v61_apply]
  refine (congrArg _ (?_ : _ = ix5 0 i0 (group (headOf i1)) (place i1) (lane i1))).trans
    ((ref_dq q4 k4 v4 d3 0 i0 (group (headOf i1)) (place i1) (lane i1)).trans ?_)
  · funext a; apply Fin.ext
    match a with
    | ⟨0, _⟩ => rfl
    | ⟨1, _⟩ => simp only [idx_main_v61, idx_main_v64, idx_main_v65, ix5, ix2]; dsimp; omega
    | ⟨2, _⟩ => simp only [idx_main_v61, idx_main_v64, idx_main_v65, ix5, ix2, group, headOf]; dsimp; omega
    | ⟨3, _⟩ => simp only [idx_main_v61, idx_main_v64, idx_main_v65, ix5, ix2, place]; dsimp; omega
    | ⟨4, _⟩ => simp only [idx_main_v61, idx_main_v64, idx_main_v65, ix5, ix2, lane]; dsimp; omega
  · rw [member_place]; rfl

/-- The reference's gradient of the keys. -/
theorem dk_ref : val_main_v67 (F := Ideal) (lift q4) (lift k4) (lift v4) (lift d3)
    = lift (dkArr (flatQ q4) (flatD d3) (flatK k4) (flatK v4)) := by
  funext i
  idx_vars i
  pointwise [val_main_v67]
  rw [val_main_v66_apply, val_main_v60_apply]
  refine (congrArg _ (?_ : _ = ix4 0 i0 i2 i1)).trans (ref_dk q4 k4 v4 d3 i0 i2 i1 0)
  funext a; apply Fin.ext
  match a with
  | ⟨0, _⟩ => rfl
  | ⟨1, _⟩ => simp only [idx_main_v60, idx_main_v66, ix4, ix3]; dsimp; omega
  | ⟨2, _⟩ => simp only [idx_main_v60, idx_main_v66, ix4, ix3]; dsimp; omega
  | ⟨3, _⟩ => simp only [idx_main_v60, idx_main_v66, ix4, ix3]; dsimp; omega

/-- The reference's gradient of the values. -/
theorem dv_ref : val_main_v69 (F := Ideal) (lift q4) (lift k4) (lift d3)
    = lift (dvArr (flatQ q4) (flatD d3) (flatK k4)) := by
  funext i
  idx_vars i
  pointwise [val_main_v69]
  rw [val_main_v68_apply, val_main_v40_apply]
  refine (congrArg _ (?_ : _ = ix4 0 i0 i1 i2)).trans (ref_dv q4 k4 d3 i0 i2 i1 0)
  funext a; apply Fin.ext
  match a with
  | ⟨0, _⟩ => rfl
  | ⟨1, _⟩ => simp only [idx_main_v40, idx_main_v68, ix4, ix3]; dsimp; omega
  | ⟨2, _⟩ => simp only [idx_main_v40, idx_main_v68, ix4, ix3]; dsimp; omega
  | ⟨3, _⟩ => simp only [idx_main_v40, idx_main_v68, ix4, ix3]; dsimp; omega

end Cert.Attn
end
-- ==== Proof.AttnClaim.lean ====
/- The statement about the grouped-query attention: from finite arguments the forward and backward calls
   and the reference end holding the same output and gradients. -/
module

public import proofs.«01_k».proof.Defs
public import proofs.«01_k».proof.Proof.AttnFwd
public import proofs.«01_k».proof.Proof.AttnRun
public import proofs.«01_k».proof.Proof.AttnReference
public import proofs.«01_k».proof.Proof.Gen.Reference2Ideal.Run
public import proofs.«01_k».proof.Proof.Gen.Pre_finite2
public import Idealize.ShloMosaic.Lib.Claim

@[expose] public section

noncomputable section

namespace Cert.Attn

open Idealize.ShloMosaic Idealize.ShloMosaic.TcCoe Idealize.SL.Sem Cert.Lift

section Arrays
open Cert.Kernel2Ideal Cert.Kernel2Ideal.Gen

/-- The queries' columns side by side. -/
theorem flat_q (q4 : S1x2048x8x64.Idx → ℝ) :
    (truncf .bf16 (shapeCast S2048x512 (lift q4 : Vec Ideal S1x2048x8x64 .f32) shapeCasts_S1x2048x8x64_S2048x512) bitsLt_bf16_f32 : FVec Ideal S2048x512 .bf16) = lift (flatQ q4) := by
  funext i
  idx_vars i
  show shapeCast S2048x512 (lift q4) shapeCasts_S1x2048x8x64_S2048x512 (ix2 i0 i1) = lift q4 (ix4 0 i0 (headOf i1) (lane i1))
  refine shapeCast_apply _ _ _ _ ?_
  rw [Shape.rowMajor_val_four, Shape.rowMajor_val_two]
  simp only [ix2, ix4, headOf, lane]; dsimp; omega

/-- The keys or values, one matrix per head. -/
theorem flat_k (k4 : S1x2048x2x64.Idx → ℝ) :
    (transpose S2x2048x64 [1, 0, 2] (truncf .bf16 (shapeCast S2048x2x64 (lift k4 : Vec Ideal S1x2048x2x64 .f32)
      shapeCasts_S1x2048x2x64_S2048x2x64) bitsLt_bf16_f32 : FVec Ideal S2048x2x64 .bf16) transposes_S2048x2x64_S2x2048x64_1_0_2 : FVec Ideal S2x2048x64 .bf16) = lift (flatK k4) := by
  funext i
  idx_vars i
  refine (transpose_apply [1, 0, 2] _ transposes_S2048x2x64_S2x2048x64_1_0_2 (ix3 i0 i1 i2) (ix3 i1 i0 i2) (fun b => match b with
    | ⟨0, _⟩ => rfl
    | ⟨1, _⟩ => rfl
    | ⟨2, _⟩ => rfl)).trans ?_
  show shapeCast S2048x2x64 (lift k4) shapeCasts_S1x2048x2x64_S2048x2x64 (ix3 i1 i0 i2) = lift k4 (ix4 0 i1 i0 i2)
  refine shapeCast_apply _ _ _ _ ?_
  rw [Shape.rowMajor_val_four, Shape.rowMajor_val_three]
  simp only [ix3, ix4]; dsimp; omega

/-- The cotangent without its batch axis. -/
theorem flat_d (d3 : S1x2048x512.Idx → ℝ) :
    (truncf .bf16 (shapeCast S2048x512 (lift d3 : Vec Ideal S1x2048x512 .f32) shapeCasts_S1x2048x512_S2048x512) bitsLt_bf16_f32 : FVec Ideal S2048x512 .bf16) = lift (flatD d3) := by
  funext i
  idx_vars i
  show shapeCast S2048x512 (lift d3) shapeCasts_S1x2048x512_S2048x512 (ix2 i0 i1) = lift d3 (ix3 0 i0 i1)
  refine shapeCast_apply _ _ _ _ ?_
  rw [Shape.rowMajor_val_three, Shape.rowMajor_val_two]
  simp only [ix2, ix3]; dsimp; omega

end Arrays

/-- Under the precondition each argument is an array of reals. -/
theorem args_real (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    ∃ qs ks vs ds, m ((c.tc : Thread Cert.Kernel2Ideal.nD Cert.Kernel2Ideal.τ).loc Cert.Kernel2Ideal.main_arg0) = lift qs
      ∧ m ((c.tc : Thread Cert.Kernel2Ideal.nD Cert.Kernel2Ideal.τ).loc Cert.Kernel2Ideal.main_arg1) = lift ks
      ∧ m ((c.tc : Thread Cert.Kernel2Ideal.nD Cert.Kernel2Ideal.τ).loc Cert.Kernel2Ideal.main_arg2) = lift vs
      ∧ m ((c.tc : Thread Cert.Kernel2Ideal.nD Cert.Kernel2Ideal.τ).loc Cert.Kernel2Ideal.main_arg3) = lift ds := by
  obtain ⟨hq, hk, hv, hd⟩ := h c
  obtain ⟨qs, hqs⟩ := exists_real _ _ hq
  obtain ⟨ks, hks⟩ := exists_real _ _ hk
  obtain ⟨vs, hvs⟩ := exists_real _ _ hv
  obtain ⟨ds, hds⟩ := exists_real _ _ hd
  exact ⟨qs, ks, vs, ds, hqs, hks, hvs, hds⟩

theorem frame_reference : Cert.quiescent_Reference2Ideal := by
  intro m ρ _
  exact (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

section Kernel
open Cert.Kernel2Ideal Cert.Kernel2Ideal.Gen

variable (m : (ℓ : Loc nD τ sig) → Buf (Elt Ideal) ℓ) (g : Dev nD → PrngReg) (c : Dev nD)
variable (qs : S1x2048x8x64.Idx → ℝ) (ks vs : S1x2048x2x64.Idx → ℝ) (ds : S1x2048x512.Idx → ℝ)

/-- What the regions' arrays hold at the end of the run, from real arguments. -/
theorem finals (hq : m ((c.tc : Thread nD τ).loc main_arg0) = lift qs) (hk : m ((c.tc : Thread nD τ).loc main_arg1) = lift ks)
    (hv : m ((c.tc : Thread nD τ).loc main_arg2) = lift vs) (hd : m ((c.tc : Thread nD τ).loc main_arg3) = lift ds) :
    (dat0 (V1 m g) c).arrAt 3 cfg0.N = lift (outArr (flatQ qs) (flatK ks) (flatK vs))
    ∧ (dat1 (V3 m g) c).arrAt 5 cfg1.N = lift (dqArr (flatQ qs) (flatD ds) (flatK ks) (flatK vs))
    ∧ (dat1 (V3 m g) c).arrAt 6 cfg1.N = lift (dkArr (flatQ qs) (flatD ds) (flatK ks) (flatK vs))
    ∧ (dat1 (V3 m g) c).arrAt 7 cfg1.N = lift (dvArr (flatQ qs) (flatD ds) (flatK ks)) := by
  have eq : V1 m g c main_v1 = lift (flatQ qs) := (V1_q m g c).trans (by rw [hq]; exact flat_q qs)
  have ek : V1 m g c main_v4 = lift (flatK ks) := (V1_k m g c).trans (by rw [hk]; exact flat_k ks)
  have ev : V1 m g c main_v7 = lift (flatK vs) := (V1_v m g c).trans (by rw [hv]; exact flat_k vs)
  have ed : V3 m g c main_v10 = lift (flatD ds) := (V3_d m g c).trans (by rw [hd]; exact flat_d ds)
  have eo := out_final _ _ _ (V1 m g) c eq ek ev
  have fq := (V3_q m g c).trans eq
  have fk := (V3_k m g c).trans ek
  have fv := (V3_v m g c).trans ev
  have fo := (V3_o m g c).trans eo
  exact ⟨eo, dq_final _ _ _ _ (V3 m g) c fq fk fv fo ed, dk_final _ _ _ _ (V3 m g) c fq fk fv fo ed,
    dv_final _ _ _ _ (V3 m g) c fq fk fv fo ed⟩

end Kernel

theorem algebraic : Cert.algebraic_Kernel2Ideal_Reference2Ideal_pre_finite2 := by
  intro m g m' g' hpre hagree
  choose qs ks vs ds hq hk hv hd using args_real m hpre
  refine ⟨fun c => lift (outArr (flatQ (qs c)) (flatK (ks c)) (flatK (vs c))),
    fun c => lift (dqArr (flatQ (qs c)) (flatD (ds c)) (flatK (ks c)) (flatK (vs c))),
    fun c => lift (dkArr (flatQ (qs c)) (flatD (ds c)) (flatK (ks c)) (flatK (vs c))),
    fun c => lift (dvArr (flatQ (qs c)) (flatD (ds c)) (flatK (ks c))), ?_, ?_⟩
  · refine (θ_run Cert.Kernel2Ideal.defs _ _).mono (fun r h c => ?_) (run_results (F := Ideal) m g)
    obtain ⟨h0, h1, h2, h3, h4⟩ := h c
    obtain ⟨f0, f1, f2, f3⟩ := finals m g c _ _ _ _ (hq c) (hk c) (hv c) (hd c)
    exact ⟨h0.trans f0, h1.trans f1, h2.trans f2, h3.trans f3, h4⟩
  · refine (θ_run Cert.Reference2Ideal.defs _ _).mono (fun r h c => ?_) (Cert.Reference2Ideal.Value.run (F := Ideal) m' g')
    obtain ⟨h0, h1, h2, h3, h4⟩ := h c
    obtain ⟨a0, a1, a2, a3⟩ := hagree c
    refine ⟨h0.trans ?_, h1.trans ?_, h2.trans ?_, h3.trans ?_, h4⟩
    · refine (Cert.Reference2Ideal.Read.val_main_v63_eq _ _ _).trans ?_
      rw [a0, a1, a2, hq, hk, hv]
      exact out_ref _ _ _
    · refine (Cert.Reference2Ideal.Read.val_main_v65_eq m' c).trans ?_
      rw [a0, a1, a2, a3, hq, hk, hv, hd]
      exact dq_ref _ _ _ _
    · refine (Cert.Reference2Ideal.Read.val_main_v67_eq m' c).trans ?_
      rw [a0, a1, a2, a3, hq, hk, hv, hd]
      exact dk_ref _ _ _ _
    · refine (Cert.Reference2Ideal.Read.val_main_v69_eq _ _ _).trans ?_
      rw [a0, a1, a3, hq, hk, hd]
      exact dv_ref _ _ _

end Cert.Attn

end
-- ==== Proof.XattnMath.lean ====
/- The attention over the memory and its derivative, over the reals. -/
module

public import proofs.«01_k».proof.Proof.Softmax

@[expose] public section

noncomputable section

namespace Cert.Xattn

open Cert.Softmax

/-- One query's scores: its products with every memory key, scaled. -/
def score (q : Fin 256 → ℝ) (K : Fin 256 → Fin 256 → ℝ) (j : Fin 256) : ℝ := (∑ d, q d * K j d) * (1 / 16)

section
variable (q dy : Fin 256 → ℝ) (K V : Fin 256 → Fin 256 → ℝ)

/-- The row of the attention's output. -/
def out (x : Fin 256) : ℝ := ∑ j, prob (score q K) j * V j x

/-- The gradient of the row's scores, before the scale. -/
def dscore (j : Fin 256) : ℝ := tilt (score q K) (fun j => ∑ x, dy x * V j x) j * (1 / 16)

/-- The gradient of the row's query. -/
def dqRow (x : Fin 256) : ℝ := ∑ j, dscore q dy K V j * K j x

end

/-- Column `d` of head `h`, among the four heads' columns. -/
def col (h : Fin 4) (d : Fin 256) : Fin 1024 := ⟨h.val * 256 + d.val, by omega⟩

def headOf (c : Fin 1024) : Fin 4 := ⟨c.val / 256, by omega⟩
def lane (c : Fin 1024) : Fin 256 := ⟨c.val % 256, by omega⟩

theorem headOf_col (h : Fin 4) (d : Fin 256) : headOf (col h d) = h := Fin.ext (by simp only [headOf, col]; omega)

theorem lane_col (h : Fin 4) (d : Fin 256) : lane (col h d) = d := Fin.ext (by simp only [lane, col]; omega)

theorem col_lane (c : Fin 1024) : col (headOf c) (lane c) = c := Fin.ext (by simp only [headOf, lane, col]; omega)

/-- A column of the keys' half of the memory's projection. -/
def keyCol (c : Fin 1024) : Fin 2048 := ⟨c.val, by omega⟩

/-- A column of the values' half. -/
def valCol (c : Fin 1024) : Fin 2048 := ⟨1024 + c.val, by omega⟩

variable (Q D : Fin 2048 → Fin 1024 → ℝ) (M : Fin 256 → Fin 2048 → ℝ)

/-- Row `r` of head `h`. -/
def qrow (h : Fin 4) (r : Fin 2048) (d : Fin 256) : ℝ := Q r (col h d)

/-- Head `h`'s keys. -/
def kmat (h : Fin 4) (j d : Fin 256) : ℝ := M j (keyCol (col h d))

/-- Head `h`'s values. -/
def vmat (h : Fin 4) (j d : Fin 256) : ℝ := M j (valCol (col h d))

/-- The attention's output for head `h`. -/
def outHead (h : Fin 4) (r : Fin 2048) (x : Fin 256) : ℝ := out (qrow Q h r) (kmat M h) (vmat M h) x

/-- The gradient of the scores of head `h`'s row `r`. -/
def dsHead (h : Fin 4) (r : Fin 2048) (j : Fin 256) : ℝ := dscore (qrow Q h r) (qrow D h r) (kmat M h) (vmat M h) j

/-- The gradient of head `h`'s queries. -/
def dqHead (h : Fin 4) (r : Fin 2048) (x : Fin 256) : ℝ := dqRow (qrow Q h r) (qrow D h r) (kmat M h) (vmat M h) x

/-- The gradient of head `h`'s keys: a sum over all query rows. -/
def dkHead (h : Fin 4) (j x : Fin 256) : ℝ := ∑ r, dsHead Q D M h r j * qrow Q h r x

/-- The gradient of head `h`'s values. -/
def dvHead (h : Fin 4) (j x : Fin 256) : ℝ := ∑ r, prob (score (qrow Q h r) (kmat M h)) j * qrow D h r x

/-- Row `r` of block `i` of 512 rows. -/
def line (i : Fin 4) (r : Fin 512) : Fin 2048 := ⟨i.val * 512 + r.val, by omega⟩

/-- A sum over the rows is a sum over four blocks of 512. -/
theorem sum_blocks (f : Fin 2048 → ℝ) : ∑ i : Fin 4, ∑ r : Fin 512, f (line i r) = ∑ R, f R := by
  rw [← Fintype.sum_prod_type', ← (finProdFinEquiv (m := 4) (n := 512)).sum_comp]
  exact Finset.sum_congr rfl fun p _ => congrArg f (Fin.ext (by simp [line, finProdFinEquiv]; ring))

end Cert.Xattn
end
-- ==== Proof.XattnFwd.lean ====
/- The attention over the memory: what the forward call computes. -/
module

public import proofs.«01_k».proof.Proof.Gen.Kernel4Ideal.Value
public import proofs.«01_k».proof.Proof.XattnMath

@[expose] public section

set_option maxRecDepth 16384

noncomputable section

namespace Cert.Xattn.Fwd

open Idealize.ShloMosaic Idealize.ShloMosaic.TcCoe Idealize.SL.Sem
open Idealize.ShloMosaic.Pipeline (Dat)
open Cert.Lift Cert.Softmax Cert.Xattn
open Cert.Kernel4Ideal Cert.Kernel4Ideal.Gen

/-- A block of rows and a head's keys and values: the block of the output. -/
theorem pay1 (q : S512x256.Idx → ℝ) (k v : S256x256.Idx → ℝ) (r : Fin 512) (l : Fin 256) :
    k0_pay1 (F := Ideal) (lift q) (lift k) (lift v) (ix2 r l)
      = ((out (fun d => q (ix2 r d)) (fun j d => k (ix2 j d)) (fun j d => v (ix2 j d)) l : ℝ) : EReal) := by
  pointwise [k0_pay1, lift]
  simp only [ofBits_sixteenth, ← EReal.coe_mul, coe_sum, zero_add, fold_max, ← EReal.coe_sub, exp_real]
  refine Eq.trans (Finset.sum_congr rfl fun j _ => ?_) (coe_sum _ _)
  refine Eq.trans (congrArg (· * _) (div_real _ (den_ne (score (fun d => q (ix2 r d)) fun j d => k (ix2 j d))))) ?_
  exact (EReal.coe_mul _ _).symm

variable (q3 : S1x2048x1024.Idx → ℝ) (m3 : S1x256x2048.Idx → ℝ)

/-- The queries without their batch axis. -/
def rows (r : Fin 2048) (l : Fin 1024) : ℝ := q3 (ix3 0 r l)

/-- The memory's projection without its batch axis. -/
def mem (j : Fin 256) (l : Fin 2048) : ℝ := m3 (ix3 0 j l)

/-- The attention's output. -/
def outArr (i : S2048x1024.Idx) : ℝ := outHead (rows q3) (mem m3) (headOf (i 1)) (i 0) (lane (i 1))

variable (m : (ℓ : Loc nD τ sig) → Buf (Elt Ideal) ℓ) (c : Dev nD)

/-- The head of point `t`, and its block of rows. -/
def head (t : Fin 16) : Fin 4 := ⟨t.val / 4, by omega⟩
def part (t : Fin 16) : Fin 4 := ⟨t.val % 4, by omega⟩

theorem idx : ∀ t : Fin cfg0.N, win0_0.index t = ![t.val % 4, t.val / 4] ∧ win0_1.index t = ![0, t.val / 4]
    ∧ win0_2.index t = ![0, 4 + t.val / 4] ∧ win0_3.index t = ![t.val % 4, t.val / 4] := (by decide +kernel : ∀ t : Fin grid0.N, _)

theorem blk_q (hq : m ((c.tc : Thread nD τ).loc main_arg0) = lift q3) (t : Fin cfg0.N) :
    iblk m c 0 t = lift fun i : S512x256.Idx => qrow (rows q3) (head t) (line (part t) (i 0)) (i 1) := by
  have e : iblk m c 0 t = fun i : S512x256.Idx => m ((c.tc : Thread nD τ).loc main_arg0) (ix3 0 (line (part t) (i 0)) (col (head t) (i 1))) := by
    funext y
    idx_vars y
    blk_point [iblk, V, idx t, line, part, col, head]
  rw [e, hq]; rfl

theorem blk_k (hm : m ((c.tc : Thread nD τ).loc main_arg1) = lift m3) (t : Fin cfg0.N) :
    iblk m c 1 t = lift fun i : S256x256.Idx => kmat (mem m3) (head t) (i 0) (i 1) := by
  have e : iblk m c 1 t = fun i : S256x256.Idx => m ((c.tc : Thread nD τ).loc main_arg1) (ix3 0 (i 0) (keyCol (col (head t) (i 1)))) := by
    funext y
    idx_vars y
    blk_point [iblk, V, idx t, keyCol, col, head]
  rw [e, hm]; rfl

theorem blk_v (hm : m ((c.tc : Thread nD τ).loc main_arg1) = lift m3) (t : Fin cfg0.N) :
    iblk m c 2 t = lift fun i : S256x256.Idx => vmat (mem m3) (head t) (i 0) (i 1) := by
  have e : iblk m c 2 t = fun i : S256x256.Idx => m ((c.tc : Thread nD τ).loc main_arg1) (ix3 0 (i 0) (valCol (col (head t) (i 1)))) := by
    funext y
    idx_vars y
    blk_point [iblk, V, idx t, valCol, col, head]
  rw [e, hm]; rfl

theorem out_final (hq : m ((c.tc : Thread nD τ).loc main_arg0) = lift q3) (hm : m ((c.tc : Thread nD τ).loc main_arg1) = lift m3) :
    (dats m 0 c).arrAt 3 cfg0.N = lift (outArr q3 m3) := by
  refine (dats m 0 c).arrAt_eq_of_covers 3 _ (by decide +kernel) fun t _ y => ?_
  rw [after0_3]
  unfold out0_3
  frame_out
  blk_simp
  rw [blk_q q3 m c hq, blk_k m3 m c hm, blk_v m3 m c hm]
  idx_vars y
  refine (pay1 _ _ _ y0 y1).trans ?_
  refine Eq.trans (b := lift (outArr q3 m3) (ix2 (line (part t) y0) (col (head t) y1))) ?_ (congrArg (lift (outArr q3 m3)) ?_)
  · show _ = ((outHead (rows q3) (mem m3) (headOf (col (head t) y1)) (line (part t) y0) (lane (col (head t) y1)) : ℝ) : EReal)
    rw [headOf_col, lane_col]; rfl
  · blk_ext [idx t, line, part, col, head]

end Cert.Xattn.Fwd
end
-- ==== Proof.XattnBwd.lean ====
/- The gradient of the attention over the memory: what the backward call computes. -/
module

public import proofs.«01_k».proof.Proof.Gen.Kernel3Ideal.Value
public import proofs.«01_k».proof.Proof.XattnMath
public import Idealize.ShloMosaic.Lib.Pipeline.ValueKit.Acc

@[expose] public section

set_option maxRecDepth 16384

noncomputable section

namespace Cert.Xattn.Bwd

open Idealize.ShloMosaic Idealize.ShloMosaic.TcCoe Idealize.SL.Sem
open Idealize.ShloMosaic.Pipeline (Dat)
open Cert.Lift Cert.Softmax Cert.Xattn
open Cert.Kernel3Ideal Cert.Kernel3Ideal.Gen

/-! ## One block of rows of one head -/

section
variable (q d : S512x256.Idx → ℝ) (k v : S256x256.Idx → ℝ)

/-- Row `r` of a block. -/
abbrev row (q : S512x256.Idx → ℝ) (r : Fin 512) (x : Fin 256) : ℝ := q (ix2 r x)
/-- A head's keys or values as a matrix. -/
abbrev mat (k : S256x256.Idx → ℝ) (j x : Fin 256) : ℝ := k (ix2 j x)

/-- The weights. -/
def probs (i : S512x256.Idx) : ℝ := prob (score (row q (i 0)) (mat k)) (i 1)

/-- The gradient of the scores. -/
def dscores (i : S512x256.Idx) : ℝ := dscore (row q (i 0)) (row d (i 0)) (mat k) (mat v) (i 1)

theorem pay7 : k0_pay7 (F := Ideal) (lift q) (lift k) = lift (probs q k) := by
  funext i
  idx_vars i
  pointwise [k0_pay7, k0_pay5, lift]
  simp only [ofBits_sixteenth, ← EReal.coe_mul, coe_sum, zero_add, fold_max, ← EReal.coe_sub, exp_real]
  exact div_real _ (den_ne (score (row q i0) (mat k)))

theorem pay8 : k0_pay8 (F := Ideal) (lift q) (lift d) (lift k) (lift v) = lift (dscores q d k v) := by
  funext i
  idx_vars i
  pointwise [k0_pay8, k0_pay6, pay7, lift]
  simp only [ofBits_sixteenth, ← EReal.coe_mul, coe_sum, zero_add, ← EReal.coe_sub]
  rfl

theorem pay9 (r : Fin 512) (x : Fin 256) : k0_pay9 (F := Ideal) (lift q) (lift d) (lift k) (lift v) (lift k) (ix2 r x)
    = ((dqRow (row q r) (row d r) (mat k) (mat v) x : ℝ) : EReal) := by
  pointwise [k0_pay9, pay8, lift]
  simp only [← EReal.coe_mul, coe_sum, zero_add]
  rfl

/-- The block's share of the keys' gradient. -/
def dkPart (i : S256x256.Idx) : ℝ := ∑ r, dscores q d k v (ix2 r (i 0)) * q (ix2 r (i 1))

/-- The block's share of the values' gradient. -/
def dvPart (i : S256x256.Idx) : ℝ := ∑ r, probs q k (ix2 r (i 0)) * d (ix2 r (i 1))

theorem pay1 (p : FVec Ideal S256x256 .f32) (i : S256x256.Idx) :
    k0_pay1 (F := Ideal) (k0_pay5 (F := Ideal) (lift q)) (k0_pay8 (F := Ideal) (lift q) (lift d) (lift k) (lift v)) p i
      = p i + ((dkPart q d k v i : ℝ) : EReal) := by
  idx_vars i
  pointwise [k0_pay1, k0_pay5, pay8, lift]
  simp only [← EReal.coe_mul, coe_sum, zero_add]
  rfl

theorem pay2 (p : FVec Ideal S256x256 .f32) (i : S256x256.Idx) :
    k0_pay2 (F := Ideal) (k0_pay6 (F := Ideal) (lift d)) (k0_pay7 (F := Ideal) (lift q) (lift k)) p i
      = p i + ((dvPart q d k i : ℝ) : EReal) := by
  idx_vars i
  pointwise [k0_pay2, k0_pay6, pay7, lift]
  simp only [← EReal.coe_mul, coe_sum, zero_add]
  rfl

theorem pay3 (i : S256x256.Idx) : k0_pay3 (F := Ideal) i = 0 := by
  idx_vars i
  pointwise [k0_pay3]

theorem pay4 (i : S256x256.Idx) : k0_pay4 (F := Ideal) i = 0 := by
  idx_vars i
  pointwise [k0_pay4]

end

variable (q3 d3 : S1x2048x1024.Idx → ℝ) (m3 : S1x256x2048.Idx → ℝ)

/-- An array of queries, or its cotangent, without the batch axis. -/
def rows (q3 : S1x2048x1024.Idx → ℝ) (r : Fin 2048) (l : Fin 1024) : ℝ := q3 (ix3 0 r l)

/-- The memory's projection without its batch axis. -/
def mem (j : Fin 256) (l : Fin 2048) : ℝ := m3 (ix3 0 j l)

/-- The gradient of the queries. -/
def dqArr (i : S2048x1024.Idx) : ℝ := dqHead (rows q3) (rows d3) (mem m3) (headOf (i 1)) (i 0) (lane (i 1))

/-- The gradient of the keys. -/
def dkArr (i : S256x1024.Idx) : ℝ := dkHead (rows q3) (rows d3) (mem m3) (headOf (i 1)) (i 0) (lane (i 1))

/-- The gradient of the values. -/
def dvArr (i : S256x1024.Idx) : ℝ := dvHead (rows q3) (rows d3) (mem m3) (headOf (i 1)) (i 0) (lane (i 1))

/-- The head of point `t`, and its block of rows. -/
def head (t : Fin 16) : Fin 4 := ⟨t.val / 4, by omega⟩
def part (t : Fin 16) : Fin 4 := ⟨t.val % 4, by omega⟩

/-- Point `t`'s rows of an array of four heads' columns. -/
def cut (q3 : S1x2048x1024.Idx → ℝ) (t : Fin 16) (i : S512x256.Idx) : ℝ := qrow (rows q3) (head t) (line (part t) (i 0)) (i 1)

/-- Point `t`'s keys, and its values. -/
def keys (t : Fin 16) (i : S256x256.Idx) : ℝ := kmat (mem m3) (head t) (i 0) (i 1)
def vals (t : Fin 16) (i : S256x256.Idx) : ℝ := vmat (mem m3) (head t) (i 0) (i 1)

variable (m : (ℓ : Loc nD τ sig) → Buf (Elt Ideal) ℓ) (c : Dev nD)

theorem idx : ∀ t : Fin cfg0.N, win0_0.index t = ![t.val % 4, t.val / 4] ∧ win0_1.index t = ![0, t.val / 4]
    ∧ win0_2.index t = ![0, 4 + t.val / 4] ∧ win0_3.index t = ![t.val % 4, t.val / 4] ∧ win0_4.index t = ![t.val % 4, t.val / 4]
    ∧ win0_5.index t = ![0, t.val / 4] ∧ win0_6.index t = ![0, t.val / 4] := (by decide +kernel : ∀ t : Fin grid0.N, _)

theorem blk_q (hq : m ((c.tc : Thread nD τ).loc main_arg0) = lift q3) (t : Fin cfg0.N) : iblk m c 0 t = lift (cut q3 t) := by
  have e : iblk m c 0 t = fun i : S512x256.Idx => m ((c.tc : Thread nD τ).loc main_arg0) (ix3 0 (line (part t) (i 0)) (col (head t) (i 1))) := by
    funext y
    idx_vars y
    blk_point [iblk, V, idx t, line, part, col, head]
  rw [e, hq]; rfl

theorem blk_k (hm : m ((c.tc : Thread nD τ).loc main_arg1) = lift m3) (t : Fin cfg0.N) : iblk m c 1 t = lift (keys m3 t) := by
  have e : iblk m c 1 t = fun i : S256x256.Idx => m ((c.tc : Thread nD τ).loc main_arg1) (ix3 0 (i 0) (keyCol (col (head t) (i 1)))) := by
    funext y
    idx_vars y
    blk_point [iblk, V, idx t, keyCol, col, head]
  rw [e, hm]; rfl

theorem blk_v (hm : m ((c.tc : Thread nD τ).loc main_arg1) = lift m3) (t : Fin cfg0.N) : iblk m c 2 t = lift (vals m3 t) := by
  have e : iblk m c 2 t = fun i : S256x256.Idx => m ((c.tc : Thread nD τ).loc main_arg1) (ix3 0 (i 0) (valCol (col (head t) (i 1)))) := by
    funext y
    idx_vars y
    blk_point [iblk, V, idx t, valCol, col, head]
  rw [e, hm]; rfl

theorem blk_d (hd : m ((c.tc : Thread nD τ).loc main_arg2) = lift d3) (t : Fin cfg0.N) : iblk m c 3 t = lift (cut d3 t) := by
  have e : iblk m c 3 t = fun i : S512x256.Idx => m ((c.tc : Thread nD τ).loc main_arg2) (ix3 0 (line (part t) (i 0)) (col (head t) (i 1))) := by
    funext y
    idx_vars y
    blk_point [iblk, V, idx t, line, part, col, head]
  rw [e, hd]; rfl

variable (hq : m ((c.tc : Thread nD τ).loc main_arg0) = lift q3) (hm : m ((c.tc : Thread nD τ).loc main_arg1) = lift m3)
  (hd : m ((c.tc : Thread nD τ).loc main_arg2) = lift d3)
include hq hm hd

theorem dq_at (t : Fin cfg0.N) (r : Fin 512) (x : Fin 256) :
    (outsAt0 m c t.val t.isLt).1 (ix2 r x) = ((dqHead (rows q3) (rows d3) (mem m3) (head t) (line (part t) r) x : ℝ) : EReal) := by
  by_cases h : t.val % 4 = 0
  · rw [outsAt0_A m c t h]
    frame_out
    rw [blk_q q3 m c hq, blk_k m3 m c hm, blk_v m3 m c hm, blk_d d3 m c hd]
    exact pay9 _ _ _ _ r x
  · rw [outsAt0_B m c t h]
    frame_out
    rw [blk_q q3 m c hq, blk_k m3 m c hm, blk_v m3 m c hm, blk_d d3 m c hd]
    exact pay9 _ _ _ _ r x

/-- One point's share of the keys' gradient. -/
def dkPoint (t : Fin cfg0.N) (i : S256x256.Idx) : EReal := ((dkPart (cut q3 t) (cut d3 t) (keys m3 t) (vals m3 t) i : ℝ) : EReal)

/-- One point's share of the values' gradient. -/
def dvPoint (t : Fin cfg0.N) (i : S256x256.Idx) : EReal := ((dvPart (cut q3 t) (cut d3 t) (keys m3 t) i : ℝ) : EReal)

theorem dk_first (t : Fin cfg0.N) (h : t.val % 4 = 0) (i : S256x256.Idx) : (outsAt0 m c t.val t.isLt).2.1 i = 0 + dkPoint q3 d3 m3 t i := by
  rw [outsAt0_A m c t h]
  frame_out
  rw [blk_q q3 m c hq, blk_k m3 m c hm, blk_v m3 m c hm, blk_d d3 m c hd]
  exact (pay1 _ _ _ _ _ i).trans (congrArg (· + _) (pay3 i))

theorem dk_next (t : Fin cfg0.N) (h : ¬ t.val % 4 = 0) (i : S256x256.Idx) : (outsAt0 m c t.val t.isLt).2.1 i
    = (outsAt0 m c (t.val - 1) (Nat.lt_of_le_of_lt (Nat.sub_le _ _) t.isLt)).2.1 i + dkPoint q3 d3 m3 t i := by
  rw [outsAt0_B m c t h]
  frame_out
  rw [blk_q q3 m c hq, blk_k m3 m c hm, blk_v m3 m c hm, blk_d d3 m c hd]
  exact pay1 _ _ _ _ _ i

theorem dv_first (t : Fin cfg0.N) (h : t.val % 4 = 0) (i : S256x256.Idx) : (outsAt0 m c t.val t.isLt).2.2 i = 0 + dvPoint q3 d3 m3 t i := by
  rw [outsAt0_A m c t h]
  frame_out
  rw [blk_q q3 m c hq, blk_k m3 m c hm, blk_d d3 m c hd]
  exact (pay2 _ _ _ _ i).trans (congrArg (· + _) (pay4 i))

theorem dv_next (t : Fin cfg0.N) (h : ¬ t.val % 4 = 0) (i : S256x256.Idx) : (outsAt0 m c t.val t.isLt).2.2 i
    = (outsAt0 m c (t.val - 1) (Nat.lt_of_le_of_lt (Nat.sub_le _ _) t.isLt)).2.2 i + dvPoint q3 d3 m3 t i := by
  rw [outsAt0_B m c t h]
  frame_out
  rw [blk_q q3 m c hq, blk_k m3 m c hm, blk_d d3 m c hd]
  exact pay2 _ _ _ _ i

omit hq hm hd in
/-- A row of a block is a row of the array. -/
theorem row_cut (h k : Fin 4) (r : Fin 512) : row (cut q3 ⟨4 * h.val + k.val, by omega⟩) r = qrow (rows q3) h (line k r) := by
  have eh : head ⟨4 * h.val + k.val, by omega⟩ = h := Fin.ext (by simp only [head]; omega)
  have ep : part ⟨4 * h.val + k.val, by omega⟩ = k := Fin.ext (by simp only [part]; omega)
  funext x
  show qrow (rows q3) (head _) (line (part _) r) x = _
  rw [eh, ep]

omit hq hm hd in
theorem mat_keys (h k : Fin 4) : mat (keys m3 ⟨4 * h.val + k.val, by omega⟩) = kmat (mem m3) h := by
  have eh : head ⟨4 * h.val + k.val, by omega⟩ = h := Fin.ext (by simp only [head]; omega)
  funext j x
  show kmat (mem m3) (head _) j x = _
  rw [eh]

omit hq hm hd in
theorem mat_vals (h k : Fin 4) : mat (vals m3 ⟨4 * h.val + k.val, by omega⟩) = vmat (mem m3) h := by
  have eh : head ⟨4 * h.val + k.val, by omega⟩ = h := Fin.ext (by simp only [head]; omega)
  funext j x
  show vmat (mem m3) (head _) j x = _
  rw [eh]

omit hq hm hd in
theorem dk_sum (h : Fin 4) (i : S256x256.Idx) : ∑ k : Fin 4, dkPart (cut q3 ⟨4 * h.val + k.val, by omega⟩) (cut d3 ⟨4 * h.val + k.val, by omega⟩)
    (keys m3 ⟨4 * h.val + k.val, by omega⟩) (vals m3 ⟨4 * h.val + k.val, by omega⟩) i = dkHead (rows q3) (rows d3) (mem m3) h (i 0) (i 1) := by
  refine Eq.trans (Finset.sum_congr rfl fun k _ => Finset.sum_congr rfl fun r _ => ?_) (sum_blocks fun R => dsHead (rows q3) (rows d3) (mem m3) h R (i 0) * qrow (rows q3) h R (i 1))
  show dscore (row (cut q3 _) r) (row (cut d3 _) r) (mat (keys m3 _)) (mat (vals m3 _)) (i 0) * row (cut q3 _) r (i 1) = _
  rw [row_cut, row_cut, mat_keys, mat_vals]
  rfl

omit hq hm hd in
theorem dv_sum (h : Fin 4) (i : S256x256.Idx) : ∑ k : Fin 4, dvPart (cut q3 ⟨4 * h.val + k.val, by omega⟩) (cut d3 ⟨4 * h.val + k.val, by omega⟩)
    (keys m3 ⟨4 * h.val + k.val, by omega⟩) i = dvHead (rows q3) (rows d3) (mem m3) h (i 0) (i 1) := by
  refine Eq.trans (Finset.sum_congr rfl fun k _ => Finset.sum_congr rfl fun r _ => ?_) (sum_blocks fun R => prob (score (qrow (rows q3) h R) (kmat (mem m3) h)) (i 0) * qrow (rows d3) h R (i 1))
  show prob (score (row (cut q3 _) r) (mat (keys m3 _))) (i 0) * row (cut d3 _) r (i 1) = _
  rw [row_cut, row_cut, mat_keys]

theorem dq_final : (dats m 0 c).arrAt 4 cfg0.N = lift (dqArr q3 d3 m3) := by
  refine (dats m 0 c).arrAt_eq_of_covers 4 _ (by decide +kernel) fun t _ y => ?_
  rw [after0_4]
  blk_simp
  idx_vars y
  refine (dq_at q3 d3 m3 m c hq hm hd t y0 y1).trans ?_
  refine Eq.trans (b := lift (dqArr q3 d3 m3) (ix2 (line (part t) y0) (col (head t) y1))) ?_ (congrArg (lift (dqArr q3 d3 m3)) ?_)
  · show _ = ((dqHead (rows q3) (rows d3) (mem m3) (headOf (col (head t) y1)) (line (part t) y0) (lane (col (head t) y1)) : ℝ) : EReal)
    rw [headOf_col, lane_col]
  · blk_ext [idx t, line, part, col, head]

theorem dk_final : (dats m 0 c).arrAt 5 cfg0.N = lift (dkArr q3 d3 m3) := by
  refine (dats m 0 c).arrAt_eq_of_covers 5 _ (by decide +kernel) fun t hf y => ?_
  rw [after0_5]
  blk_simp
  idx_vars y
  refine (Pipeline.eq_sum_fin_of_reset_step_apply_of_flush (f := fun n h => (outsAt0 m c n h).2.1) 4 (fun _ => 0) (dkPoint q3 d3 m3)
    (dk_first q3 d3 m3 m c hq hm hd) (dk_next q3 d3 m3 m c hq hm hd) t ((flush0_5 t).mp hf) (ix2 y0 y1)).trans ?_
  simp only [dkPoint, coe_sum, zero_add]
  refine (congrArg _ (dk_sum q3 d3 m3 (head t) (ix2 y0 y1))).trans ?_
  refine Eq.trans (b := lift (dkArr q3 d3 m3) (ix2 y0 (col (head t) y1))) ?_ (congrArg (lift (dkArr q3 d3 m3)) ?_)
  · show _ = ((dkHead (rows q3) (rows d3) (mem m3) (headOf (col (head t) y1)) y0 (lane (col (head t) y1)) : ℝ) : EReal)
    rw [headOf_col, lane_col]; rfl
  · blk_ext [idx t, col, head]

theorem dv_final : (dats m 0 c).arrAt 6 cfg0.N = lift (dvArr q3 d3 m3) := by
  refine (dats m 0 c).arrAt_eq_of_covers 6 _ (by decide +kernel) fun t hf y => ?_
  rw [after0_6]
  blk_simp
  idx_vars y
  refine (Pipeline.eq_sum_fin_of_reset_step_apply_of_flush (f := fun n h => (outsAt0 m c n h).2.2) 4 (fun _ => 0) (dvPoint q3 d3 m3)
    (dv_first q3 d3 m3 m c hq hm hd) (dv_next q3 d3 m3 m c hq hm hd) t ((flush0_6 t).mp hf) (ix2 y0 y1)).trans ?_
  simp only [dvPoint, coe_sum, zero_add]
  refine (congrArg _ (dv_sum q3 d3 m3 (head t) (ix2 y0 y1))).trans ?_
  refine Eq.trans (b := lift (dvArr q3 d3 m3) (ix2 y0 (col (head t) y1))) ?_ (congrArg (lift (dvArr q3 d3 m3)) ?_)
  · show _ = ((dvHead (rows q3) (rows d3) (mem m3) (headOf (col (head t) y1)) y0 (lane (col (head t) y1)) : ℝ) : EReal)
    rw [headOf_col, lane_col]; rfl
  · blk_ext [idx t, col, head]

end Cert.Xattn.Bwd
end
-- ==== Proof.XattnReference.lean ====
/- The attention over the memory and its derivative: what the reference computes, over real arguments. -/
module

public import proofs.«01_k».proof.Proof.Gen.Reference3Ideal.Read
public import proofs.«01_k».proof.Proof.XattnBwd
public import Idealize.ShloMosaic.Lib.Pointwise

@[expose] public section

set_option maxRecDepth 16384

noncomputable section

namespace Cert.Xattn

open Idealize.ShloMosaic Idealize.ShloMosaic.TcCoe Idealize.SL.Sem
open Cert.Lift Cert.Softmax Cert.Xattn.Bwd

open Cert.Reference3Ideal Cert.Reference3Ideal.Gen Cert.Reference3Ideal.Read

variable (q3 d3 : S1x2048x1024.Idx → ℝ) (m3 : S1x256x2048.Idx → ℝ)

/-- The scores of head `h`'s row `r`. -/
abbrev sc (h : Fin 4) (r : Fin 2048) : Fin 256 → ℝ := score (qrow (rows q3) h r) (kmat (mem m3) h)

theorem ref_q (z : Fin 1) (r : Fin 2048) (h : Fin 4) (d : Fin 256) :
    val_main_v5 (F := Ideal) (lift q3) (ix4 z r h d) = ((qrow (rows q3) h r d : ℝ) : EReal) := by
  obtain rfl : z = 0 := Subsingleton.elim _ _
  rw [val_main_v5_apply]
  refine congrArg (lift q3) (a₂ := ix3 0 r (col h d)) ?_
  funext a; apply Fin.ext
  match a with
  | ⟨0, _⟩ => rfl
  | ⟨1, _⟩ => simp only [idx_main_v5, ix3, ix4, col]; dsimp; omega
  | ⟨2, _⟩ => simp only [idx_main_v5, ix3, ix4, col]; dsimp; omega

theorem ref_k (z : Fin 1) (j : Fin 256) (h : Fin 4) (d : Fin 256) :
    val_main_v2 (F := Ideal) (lift m3) (ix4 z j h d) = ((kmat (mem m3) h j d : ℝ) : EReal) := by
  obtain rfl : z = 0 := Subsingleton.elim _ _
  pointwise [val_main_v2, val_main_v1]
  rw [val_main_v0_apply]
  refine congrArg (lift m3) (a₂ := ix3 0 j (keyCol (col h d))) ?_
  funext a; apply Fin.ext
  match a with
  | ⟨0, _⟩ => rfl
  | ⟨1, _⟩ => simp only [idx_main_v0, ix3, ix5, col, keyCol]; dsimp; omega
  | ⟨2, _⟩ => simp only [idx_main_v0, ix3, ix5, col, keyCol]; dsimp; omega

theorem ref_v (z : Fin 1) (j : Fin 256) (h : Fin 4) (d : Fin 256) :
    val_main_v4 (F := Ideal) (lift m3) (ix4 z j h d) = ((vmat (mem m3) h j d : ℝ) : EReal) := by
  obtain rfl : z = 0 := Subsingleton.elim _ _
  pointwise [val_main_v4, val_main_v3]
  rw [val_main_v0_apply]
  refine congrArg (lift m3) (a₂ := ix3 0 j (valCol (col h d))) ?_
  funext a; apply Fin.ext
  match a with
  | ⟨0, _⟩ => rfl
  | ⟨1, _⟩ => simp only [idx_main_v0, ix3, ix5, col, valCol]; dsimp; omega
  | ⟨2, _⟩ => simp only [idx_main_v0, ix3, ix5, col, valCol]; dsimp; omega

theorem ref_score (z : Fin 1) (h : Fin 4) (r : Fin 2048) (j : Fin 256) :
    val_main_v8 (F := Ideal) (lift q3) (lift m3) (ix4 z h r j) = ((sc q3 m3 h r j : ℝ) : EReal) := by
  pointwise [val_main_v8, val_main_v7, val_main_v6, val_main_cst]
  simp only [ref_q, ref_k, ofBits_sixteenth, ← EReal.coe_mul, coe_sum]
  rfl

theorem ref_top (z : Fin 1) (h : Fin 4) (r : Fin 2048) :
    val_main_v9 (F := Ideal) (lift q3) (lift m3) (ix3 z h r) = ((top (sc q3 m3 h r) : ℝ) : EReal) := by
  pointwise [val_main_v9, val_main_cst_0]
  simp only [ref_score]
  exact fold_max _

theorem ref_ex (z : Fin 1) (h : Fin 4) (r : Fin 2048) (j : Fin 256) :
    val_main_v29 (F := Ideal) (lift q3) (lift m3) (ix4 z h r j) = ((ex (sc q3 m3 h r) j : ℝ) : EReal) := by
  pointwise [val_main_v29, val_main_v28, val_main_v27, val_main_v26, val_main_v16, val_main_v15, val_main_cst_2]
  rw [ref_score, ref_top, ofBits_bot, max_eq_right bot_le, ← EReal.coe_sub, exp_real]
  rfl

theorem ref_den (z : Fin 1) (h : Fin 4) (r : Fin 2048) (l : Fin 1) :
    val_main_v31 (F := Ideal) (lift q3) (lift m3) (ix4 z h r l) = ((den (sc q3 m3 h r) : ℝ) : EReal) := by
  pointwise [val_main_v31, val_main_v30, val_main_cst_8]
  simp only [ref_ex, coe_sum, zero_add]
  rfl

theorem ref_prob (z : Fin 1) (h : Fin 4) (r : Fin 2048) (j : Fin 256) :
    val_main_v33 (F := Ideal) (lift q3) (lift m3) (ix4 z h r j) = ((prob (sc q3 m3 h r) j : ℝ) : EReal) := by
  pointwise [val_main_v33, val_main_v32]
  rw [ref_ex, ref_den, div_real _ (den_ne _)]
  rfl

theorem ref_out (z : Fin 1) (r : Fin 2048) (h : Fin 4) (x : Fin 256) :
    val_main_v38 (F := Ideal) (lift q3) (lift m3) (ix4 z r h x) = ((outHead (rows q3) (mem m3) h r x : ℝ) : EReal) := by
  pointwise [val_main_v38, val_main_v37]
  simp only [ref_v, ref_prob, ← EReal.coe_mul, coe_sum]
  exact congrArg _ (Finset.sum_congr rfl fun j _ => mul_comm _ _)

theorem ref_ct (z : Fin 1) (r : Fin 2048) (h : Fin 4) (d : Fin 256) :
    val_main_v40 (F := Ideal) (lift d3) (ix4 z r h d) = ((qrow (rows d3) h r d : ℝ) : EReal) := by
  obtain rfl : z = 0 := Subsingleton.elim _ _
  rw [val_main_v40_apply]
  refine congrArg (lift d3) (a₂ := ix3 0 r (col h d)) ?_
  funext a; apply Fin.ext
  match a with
  | ⟨0, _⟩ => rfl
  | ⟨1, _⟩ => simp only [idx_main_v40, ix3, ix4, col]; dsimp; omega
  | ⟨2, _⟩ => simp only [idx_main_v40, ix3, ix4, col]; dsimp; omega

theorem ref_dy (z : Fin 1) (h : Fin 4) (x : Fin 256) (r : Fin 2048) :
    val_main_v41 (F := Ideal) (lift d3) (ix4 z h x r) = ((qrow (rows d3) h r x : ℝ) : EReal) := by
  pointwise [val_main_v41]
  rw [ref_ct]

/-- The gradient of the weights. -/
abbrev dp (h : Fin 4) (r : Fin 2048) (j : Fin 256) : ℝ := ∑ x, qrow (rows d3) h r x * vmat (mem m3) h j x

theorem ref_dp (z : Fin 1) (h : Fin 4) (r : Fin 2048) (j : Fin 256) :
    val_main_v42 (F := Ideal) (lift m3) (lift d3) (ix4 z h r j) = ((dp d3 m3 h r j : ℝ) : EReal) := by
  pointwise [val_main_v42]
  simp only [ref_dy, ref_v, ← EReal.coe_mul, coe_sum]

/-- The row's correction, the second term of the quotient's derivative. -/
theorem ref_fix (h : Fin 4) (r : Fin 2048) :
    val_main_v53 (F := Ideal) (lift q3) (lift m3) (lift d3) (ix2 h r)
      = ((-(∑ j, dp d3 m3 h r j * (1 / (den (sc q3 m3 h r) * den (sc q3 m3 h r))) * ex (sc q3 m3 h r) j) : ℝ) : EReal) := by
  pointwise [val_main_v53, val_main_cst_11]
  rw [hostReduceAdd_r4_a03]
  simp only [Fin.sum_univ_one, zero_add]
  pointwise [val_main_v50, val_main_v49, val_main_v48, val_main_cst_10, val_main_v47, val_main_v46, val_main_v45, val_main_v36, val_main_v35, val_main_v34, val_main_cst_9]
  simp only [ref_den, ref_dp, ref_ex, ofBits_one, ← EReal.coe_one, ← EReal.coe_mul, div_real _ (mul_ne_zero (den_ne _) (den_ne _)), coe_sum, zero_add, ← EReal.coe_neg]

theorem ref_dscore (z : Fin 1) (h : Fin 4) (r : Fin 2048) (j : Fin 256) :
    val_main_v59 (F := Ideal) (lift q3) (lift m3) (lift d3) (ix4 z h r j) = ((dsHead (rows q3) (rows d3) (mem m3) h r j : ℝ) : EReal) := by
  pointwise [val_main_v59, val_main_v58, val_main_cst_12, val_main_v57, val_main_v56, val_main_v55, val_main_v54, val_main_v52, val_main_v51]
  simp only [ref_den, ref_dp, ref_ex, ref_fix, ofBits_sixteenth, div_real _ (den_ne _), ← EReal.coe_mul, ← EReal.coe_add]
  exact congrArg (fun x : ℝ => ((x * (1 / 16) : ℝ) : EReal)) (tilt_eq (sc q3 m3 h r) (dp d3 m3 h r) j)

theorem ref_dq (z : Fin 1) (r : Fin 2048) (h : Fin 4) (x : Fin 256) :
    val_main_v63 (F := Ideal) (lift q3) (lift m3) (lift d3) (ix4 z r h x) = ((dqHead (rows q3) (rows d3) (mem m3) h r x : ℝ) : EReal) := by
  pointwise [val_main_v63, val_main_v62]
  simp only [ref_dscore, ref_k, ← EReal.coe_mul, coe_sum]
  rfl

theorem ref_dk (z : Fin 1) (j : Fin 256) (h : Fin 4) (x : Fin 256) :
    val_main_v61 (F := Ideal) (lift q3) (lift m3) (lift d3) (ix4 z j h x) = ((dkHead (rows q3) (rows d3) (mem m3) h j x : ℝ) : EReal) := by
  pointwise [val_main_v61, val_main_v60]
  simp only [ref_dscore, ref_q, ← EReal.coe_mul, coe_sum]
  rfl

theorem ref_dv (z : Fin 1) (j : Fin 256) (h : Fin 4) (x : Fin 256) :
    val_main_v44 (F := Ideal) (lift q3) (lift m3) (lift d3) (ix4 z j h x) = ((dvHead (rows q3) (rows d3) (mem m3) h j x : ℝ) : EReal) := by
  pointwise [val_main_v44, val_main_v43]
  simp only [ref_dy, ref_prob, ← EReal.coe_mul, coe_sum]
  exact congrArg _ (Finset.sum_congr rfl fun r _ => mul_comm _ _)

/-- The reference's gradient of the queries. -/
theorem dq_ref : val_main_v66 (F := Ideal) (lift q3) (lift m3) (lift d3) = lift (dqArr q3 d3 m3) := by
  funext i
  idx_vars i
  pointwise [val_main_v66, val_main_v65]
  rw [val_main_v64_apply]
  exact (congrArg _ (by
    funext a; apply Fin.ext
    match a with
    | ⟨0, _⟩ => rfl
    | ⟨1, _⟩ => simp only [idx_main_v64, ix3, ix4, headOf, lane]; dsimp; omega
    | ⟨2, _⟩ => simp only [idx_main_v64, ix3, ix4, headOf, lane]; dsimp; omega
    | ⟨3, _⟩ => simp only [idx_main_v64, ix3, ix4, headOf, lane]; dsimp; omega)).trans (ref_dq q3 d3 m3 0 i0 (headOf i1) (lane i1))

/-- The reference's gradient of the keys. -/
theorem dk_ref : val_main_v67 (F := Ideal) (lift q3) (lift m3) (lift d3) = lift (dkArr q3 d3 m3) := by
  funext i
  idx_vars i
  rw [val_main_v67_apply]
  exact (congrArg _ (by
    funext a; apply Fin.ext
    match a with
    | ⟨0, _⟩ => rfl
    | ⟨1, _⟩ => simp only [idx_main_v67, ix2, ix4, headOf, lane]; dsimp; omega
    | ⟨2, _⟩ => simp only [idx_main_v67, ix2, ix4, headOf, lane]; dsimp; omega
    | ⟨3, _⟩ => simp only [idx_main_v67, ix2, ix4, headOf, lane]; dsimp; omega)).trans (ref_dk q3 d3 m3 0 i0 (headOf i1) (lane i1))

/-- The reference's gradient of the values. -/
theorem dv_ref : val_main_v68 (F := Ideal) (lift q3) (lift m3) (lift d3) = lift (dvArr q3 d3 m3) := by
  funext i
  idx_vars i
  rw [val_main_v68_apply]
  exact (congrArg _ (by
    funext a; apply Fin.ext
    match a with
    | ⟨0, _⟩ => rfl
    | ⟨1, _⟩ => simp only [idx_main_v68, ix2, ix4, headOf, lane]; dsimp; omega
    | ⟨2, _⟩ => simp only [idx_main_v68, ix2, ix4, headOf, lane]; dsimp; omega
    | ⟨3, _⟩ => simp only [idx_main_v68, ix2, ix4, headOf, lane]; dsimp; omega)).trans (ref_dv q3 d3 m3 0 i0 (headOf i1) (lane i1))

end Cert.Xattn
end
-- ==== Proof.XattnFwdReference.lean ====
/- The attention over the memory: what the forward call's reference computes, over real arguments. Its
   stages are the same operations as the first stages of the derivative's reference. -/
module

public import proofs.«01_k».proof.Proof.Gen.Reference4Ideal.Read
public import proofs.«01_k».proof.Proof.XattnFwd
public import proofs.«01_k».proof.Proof.XattnReference

@[expose] public section

set_option maxRecDepth 16384

noncomputable section

namespace Cert.Xattn

open Idealize.ShloMosaic Idealize.ShloMosaic.TcCoe Idealize.SL.Sem
open Cert.Lift
open Cert.Reference4Ideal Cert.Reference4Ideal.Gen Cert.Reference4Ideal.Read

variable (q3 : S1x2048x1024.Idx → ℝ) (m3 : S1x256x2048.Idx → ℝ)

theorem same_prob (x0 : (⟨S1x2048x1024, .f32⟩ : BufTy).Contents (Elt Ideal)) (x1 : (⟨S1x256x2048, .f32⟩ : BufTy).Contents (Elt Ideal)) :
    val_main_v19 (F := Ideal) x0 x1 = Cert.Reference3Ideal.Read.val_main_v33 (F := Ideal) x0 x1 := rfl

theorem same_values (x1 : (⟨S1x256x2048, .f32⟩ : BufTy).Contents (Elt Ideal)) :
    val_main_v4 (F := Ideal) x1 = Cert.Reference3Ideal.Read.val_main_v4 (F := Ideal) x1 := rfl

theorem ref_out4 (z : Fin 1) (r : Fin 2048) (h : Fin 4) (x : Fin 256) :
    val_main_v21 (F := Ideal) (lift q3) (lift m3) (ix4 z r h x) = ((outHead (Bwd.rows q3) (Bwd.mem m3) h r x : ℝ) : EReal) := by
  pointwise [val_main_v21, val_main_v20]
  rw [same_prob, same_values]
  simp only [ref_v, ref_prob, ← EReal.coe_mul, coe_sum]
  exact congrArg _ (Finset.sum_congr rfl fun j _ => mul_comm _ _)

/-- The reference's output. -/
theorem out_ref : val_main_v24 (F := Ideal) (lift q3) (lift m3) = lift (Fwd.outArr q3 m3) := by
  funext i
  idx_vars i
  pointwise [val_main_v24]
  rw [val_main_v23_apply, val_main_v22_apply]
  refine (congrArg _ (?_ : _ = ix4 0 i0 (headOf i1) (lane i1))).trans (ref_out4 q3 m3 0 i0 (headOf i1) (lane i1))
  funext a; apply Fin.ext
  match a with
  | ⟨0, _⟩ => rfl
  | ⟨1, _⟩ => simp only [idx_main_v22, idx_main_v23, ix2, ix4, headOf, lane]; dsimp; omega
  | ⟨2, _⟩ => simp only [idx_main_v22, idx_main_v23, ix2, ix4, headOf, lane]; dsimp; omega
  | ⟨3, _⟩ => simp only [idx_main_v22, idx_main_v23, ix2, ix4, headOf, lane]; dsimp; omega

end Cert.Xattn
end
-- ==== Proof.XattnClaim.lean ====
/- The statements about the attention over the memory: from finite arguments the kernels and their
   references end holding the same gradients, and the same output. -/
module

public import proofs.«01_k».proof.Defs
public import proofs.«01_k».proof.Proof.XattnFwdReference
public import proofs.«01_k».proof.Proof.Gen.Reference3Ideal.Run
public import proofs.«01_k».proof.Proof.Gen.Reference4Ideal.Run
public import proofs.«01_k».proof.Proof.Gen.Pre_finite3
public import proofs.«01_k».proof.Proof.Gen.Pre_finite4
public import Idealize.ShloMosaic.Lib.Claim

@[expose] public section

noncomputable section

namespace Cert.Xattn

open Idealize.ShloMosaic Idealize.SL.Sem Cert.Lift

/-- Under the precondition each argument of the backward call is an array of reals. -/
theorem args_real3 (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) :
    ∃ qs ms ds, m ((c.tc : Thread Cert.Kernel3Ideal.nD Cert.Kernel3Ideal.τ).loc Cert.Kernel3Ideal.main_arg0) = lift qs
      ∧ m ((c.tc : Thread Cert.Kernel3Ideal.nD Cert.Kernel3Ideal.τ).loc Cert.Kernel3Ideal.main_arg1) = lift ms
      ∧ m ((c.tc : Thread Cert.Kernel3Ideal.nD Cert.Kernel3Ideal.τ).loc Cert.Kernel3Ideal.main_arg2) = lift ds := by
  obtain ⟨hx, hg, hd⟩ := h c
  obtain ⟨qs, hqs⟩ := exists_real _ _ hx
  obtain ⟨ms, hms⟩ := exists_real _ _ hg
  obtain ⟨ds, hds⟩ := exists_real _ _ hd
  exact ⟨qs, ms, ds, hqs, hms, hds⟩

/-- The same of the forward call. -/
theorem args_real4 (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) :
    ∃ qs ms, m ((c.tc : Thread Cert.Kernel4Ideal.nD Cert.Kernel4Ideal.τ).loc Cert.Kernel4Ideal.main_arg0) = lift qs
      ∧ m ((c.tc : Thread Cert.Kernel4Ideal.nD Cert.Kernel4Ideal.τ).loc Cert.Kernel4Ideal.main_arg1) = lift ms := by
  obtain ⟨hx, hg⟩ := h c
  obtain ⟨qs, hqs⟩ := exists_real _ _ hx
  obtain ⟨ms, hms⟩ := exists_real _ _ hg
  exact ⟨qs, ms, hqs, hms⟩

theorem frame_reference3 : Cert.quiescent_Reference3Ideal := by
  intro m ρ _
  exact (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

theorem frame_reference4 : Cert.quiescent_Reference4Ideal := by
  intro m ρ _
  exact (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem algebraic3 : Cert.algebraic_Kernel3Ideal_Reference3Ideal_pre_finite3 := by
  intro m g m' g' hpre hagree
  choose qs ms ds hq hm hd using args_real3 m hpre
  refine ⟨fun c => lift (Bwd.dqArr (qs c) (ds c) (ms c)), fun c => lift (Bwd.dkArr (qs c) (ds c) (ms c)),
    fun c => lift (Bwd.dvArr (qs c) (ds c) (ms c)), ?_, ?_⟩
  · refine (θ_run Cert.Kernel3Ideal.defs _ _).mono (fun r h c => ?_) (Cert.Kernel3Ideal.Value.run_blocks (F := Ideal) m g)
    obtain ⟨h0, h1, h2, h3⟩ := h c
    exact ⟨h0.trans (Bwd.dq_final _ _ _ m c (hq c) (hm c) (hd c)), h1.trans (Bwd.dk_final _ _ _ m c (hq c) (hm c) (hd c)),
      h2.trans (Bwd.dv_final _ _ _ m c (hq c) (hm c) (hd c)), h3⟩
  · refine (θ_run Cert.Reference3Ideal.defs _ _).mono (fun r h c => ?_) (Cert.Reference3Ideal.Value.run (F := Ideal) m' g')
    obtain ⟨h0, h1, h2, h3⟩ := h c
    obtain ⟨a0, a1, a2⟩ := hagree c
    refine ⟨h0.trans ?_, h1.trans ?_, h2.trans ?_, h3⟩
    · refine (Cert.Reference3Ideal.Read.val_main_v66_eq m' c).trans ?_
      rw [a0, a1, a2, hq, hm, hd]
      exact dq_ref _ _ _
    · refine (Cert.Reference3Ideal.Read.val_main_v67_eq m' c).trans ?_
      rw [a0, a1, a2, hq, hm, hd]
      exact dk_ref _ _ _
    · refine (Cert.Reference3Ideal.Read.val_main_v68_eq _ _ _).trans ?_
      rw [a0, a1, a2, hq, hm, hd]
      exact dv_ref _ _ _

theorem algebraic4 : Cert.algebraic_Kernel4Ideal_Reference4Ideal_pre_finite4 := by
  intro m g m' g' hpre hagree
  choose qs ms hq hm using args_real4 m hpre
  refine ⟨fun c => lift (Fwd.outArr (qs c) (ms c)), ?_, ?_⟩
  · refine (θ_run Cert.Kernel4Ideal.defs _ _).mono (fun r h c => ?_) (Cert.Kernel4Ideal.Value.run_blocks (F := Ideal) m g)
    obtain ⟨h0, h1⟩ := h c
    exact ⟨h0.trans (Fwd.out_final _ _ m c (hq c) (hm c)), h1⟩
  · refine (θ_run Cert.Reference4Ideal.defs _ _).mono (fun r h c => ?_) (Cert.Reference4Ideal.Value.run (F := Ideal) m' g')
    obtain ⟨h0, h1⟩ := h c
    obtain ⟨a0, a1⟩ := hagree c
    refine ⟨h0.trans ?_, h1⟩
    refine (Cert.Reference4Ideal.Read.val_main_v24_eq _ _).trans ?_
    rw [a0, a1, hq, hm]
    exact out_ref _ _

end Cert.Xattn

end
-- ==== Proof.UpNormRows.lean ====
module

public import proofs.«01_k».proof.Proof.Gen.Kernel5Ideal.Value
public import proofs.«01_k».proof.Proof.NormMath

/-! The gradient of the feed-forward's RMSNorm: what one block of rows gives, over real arguments. -/

@[expose] public section

set_option maxRecDepth 16384

noncomputable section

namespace Cert.UpNorm

open Idealize.ShloMosaic Idealize.ShloMosaic.TcCoe Idealize.SL.Sem
open Cert.Lift Cert.Norm
open Cert.Kernel5Ideal Cert.Kernel5Ideal.Gen

/-- A row of the block, among all the rows. -/
def line (t : ℕ) (r : Fin 512) : Fin 2048 := ⟨t % 4 * 512 + r.val, by omega⟩

/-- The rows of the four blocks are all the rows. -/
theorem sum_lines (f : Fin 2048 → ℝ) : ∑ k : Fin 4, ∑ r : Fin 512, f (line k.val r) = ∑ r, f r := by
  rw [← Fintype.sum_prod_type', ← (finProdFinEquiv (m := 4) (n := 512)).sum_comp]
  exact Finset.sum_congr rfl fun p _ => congrArg f (Fin.ext (by simp [line, finProdFinEquiv]; omega))

/-- A column of one of the four parts, among all the columns of the up projection. -/
def part (s : Fin 4) (k : Fin 1408) : Fin 5632 := ⟨s.val * 1408 + k.val, by omega⟩

/-- The columns of the four parts are all the columns. -/
theorem sum_parts (f : Fin 5632 → ℝ) : ∑ k, f (part 0 k) + ∑ k, f (part 1 k) + ∑ k, f (part 2 k) + ∑ k, f (part 3 k) = ∑ j, f j := by
  have e : ∑ s : Fin 4, ∑ k : Fin 1408, f (part s k) = ∑ j, f j := by
    rw [← Fintype.sum_prod_type', ← (finProdFinEquiv (m := 4) (n := 1408)).sum_comp]
    exact Finset.sum_congr rfl fun p _ => congrArg f (Fin.ext (by simp [part, finProdFinEquiv]; omega))
  exact (Fin.sum_univ_four fun s => ∑ k, f (part s k)).symm.trans e

variable (w3 : S1x1024x5632.Idx → ℝ) (d3 : S1x2048x5632.Idx → ℝ)

/-- The cotangent of the norm: the cotangent of the up projection times the transposed weight. -/
def dh (r : Fin 2048) (l : Fin 1024) : ℝ := ∑ j, d3 (ix3 0 r j) * w3 (ix3 0 l j)

section
variable (a0 a1 a2 a3 : Vec Ideal S512x1408 .bf16) (b0 b1 b2 b3 : Vec Ideal S1x1024x1408 .bf16)

theorem pay6 (q : Fin 2048) (r : Fin 512) (l : Fin 1024)
    (h0 : ∀ k, a0 (ix2 r k) = ((d3 (ix3 0 q (part 0 k)) : ℝ) : EReal)) (h1 : ∀ k, a1 (ix2 r k) = ((d3 (ix3 0 q (part 1 k)) : ℝ) : EReal))
    (h2 : ∀ k, a2 (ix2 r k) = ((d3 (ix3 0 q (part 2 k)) : ℝ) : EReal)) (h3 : ∀ k, a3 (ix2 r k) = ((d3 (ix3 0 q (part 3 k)) : ℝ) : EReal))
    (g0 : ∀ l k, b0 (ix3 0 l k) = ((w3 (ix3 0 l (part 0 k)) : ℝ) : EReal)) (g1 : ∀ l k, b1 (ix3 0 l k) = ((w3 (ix3 0 l (part 1 k)) : ℝ) : EReal))
    (g2 : ∀ l k, b2 (ix3 0 l k) = ((w3 (ix3 0 l (part 2 k)) : ℝ) : EReal)) (g3 : ∀ l k, b3 (ix3 0 l k) = ((w3 (ix3 0 l (part 3 k)) : ℝ) : EReal)) :
    k0_pay6 (F := Ideal) a0 b0 a1 b1 a2 b2 a3 b3 (ix2 r l) = ((dh w3 d3 q l : ℝ) : EReal) := by
  pointwise [k0_pay6]
  simp only [h0, h1, h2, h3, g0, g1, g2, g3, ← EReal.coe_mul, coe_sum, zero_add, ← EReal.coe_add]
  exact congrArg _ (sum_parts fun j => d3 (ix3 0 q j) * w3 (ix3 0 l j))
end

section
variable (v x res : Vec Ideal S512x1024 .f32) (g : Vec Ideal S1x1024 .f32)

theorem pay3 (rv rx rg rr : Fin 1024 → ℝ) (r : Fin 512) (l : Fin 1024) (hv : ∀ k, v (ix2 r k) = ((rv k : ℝ) : EReal)) (hx : ∀ k, x (ix2 r k) = ((rx k : ℝ) : EReal))
    (hg : ∀ k, g (ix2 0 k) = ((rg k : ℝ) : EReal)) (hr : ∀ k, res (ix2 r k) = ((rr k : ℝ) : EReal)) :
    k0_pay3 (F := Ideal) v (k0_pay7 (F := Ideal) x) g (k0_pay8 (F := Ideal) x) (Scalar.ofBits .f32 0x44800000#32) res (ix2 r l)
      = ((dxRow rx rg rv l + rr l : ℝ) : EReal) := by
  pointwise [k0_pay3, k0_pay1, k0_pay2, k0_pay7, k0_pay8]
  simp only [hv, hx, hg, hr, ofBits_1024, ofBits_eps, ← EReal.coe_mul, coe_sum, div_real _ (by norm_num : (1024 : ℝ) ≠ 0), ← EReal.coe_add, ← EReal.coe_sub,
    rsqrt_real (mean_sq_pos rx)]
  rfl

theorem pay5 (acc : Vec Ideal S1x1024 .f32) (rv rx : Fin 512 → Fin 1024 → ℝ) (l : Fin 1024) (hv : ∀ r k, v (ix2 r k) = ((rv r k : ℝ) : EReal))
    (hx : ∀ r k, x (ix2 r k) = ((rx r k : ℝ) : EReal)) :
    k0_pay5 (F := Ideal) v (k0_pay7 (F := Ideal) x) (k0_pay8 (F := Ideal) x) (Scalar.ofBits .f32 0x44800000#32) acc (ix2 0 l)
      = acc (ix2 0 l) + ((dg rx rv l : ℝ) : EReal) := by
  have e : ∀ r, _ := fun r => rsqrt_real (mean_sq_pos (rx r))
  pointwise [k0_pay5, k0_pay1, k0_pay2, k0_pay7, k0_pay8]
  simp only [hv, hx, ofBits_1024, ofBits_eps, ← EReal.coe_mul, coe_sum, div_real _ (by norm_num : (1024 : ℝ) ≠ 0), ← EReal.coe_add, e]
  rfl
end

end Cert.UpNorm

end
-- ==== Proof.UpNorm.lean ====
module

public import proofs.«01_k».proof.Proof.UpNormRows
public import Idealize.ShloMosaic.Lib.Pipeline.ValueKit.Acc

/-! The gradient of the feed-forward's RMSNorm: what the kernel leaves in its two result arrays, over real arguments. -/

@[expose] public section

set_option maxRecDepth 16384

noncomputable section

namespace Cert.UpNorm

open Idealize.ShloMosaic Idealize.ShloMosaic.TcCoe Idealize.SL.Sem
open Idealize.ShloMosaic.Pipeline (Dat)
open Cert.Lift Cert.Norm
open Cert.Kernel5Ideal Cert.Kernel5Ideal.Gen

section Arrays
variable (x3 r3 : S1x2048x1024.Idx → ℝ) (gs : S1x1024.Idx → ℝ) (w3 : S1x1024x5632.Idx → ℝ) (d3 : S1x2048x5632.Idx → ℝ)

/-- A row of the norm's argument, and the gain. -/
def rowX (r : Fin 2048) (k : Fin 1024) : ℝ := x3 (ix3 0 r k)
def rowG (k : Fin 1024) : ℝ := gs (ix2 0 k)

/-- The gradient of the norm's argument, with the residual's cotangent added. -/
def dX (i : S2048x1024.Idx) : ℝ := dxRow (rowX x3 (i 0)) (rowG gs) (dh w3 d3 (i 0)) (i 1) + r3 (ix3 0 (i 0) (i 1))

/-- The gradient of the gain. -/
def dG (i : S1x1024.Idx) : ℝ := dg (rowX x3) (dh w3 d3) (i 1)

/-- One block's share of the gradient of the gain. -/
def dgTile (t : Fin cfg0.N) (i : S1x1024.Idx) : EReal := ((dg (fun r => rowX x3 (line t.val r)) (fun r => dh w3 d3 (line t.val r)) (i 1) : ℝ) : EReal)

theorem sum_points (l : Fin 1024) : ∑ k : Fin 4, dg (fun r => rowX x3 (line k.val r)) (fun r => dh w3 d3 (line k.val r)) l = dG x3 w3 d3 (ix2 0 l) :=
  sum_lines fun r => dh w3 d3 r l * (rowX x3 r l * rstd (rowX x3 r))
end Arrays

variable (m : (ℓ : Loc nD τ sig) → Buf (Elt Ideal) ℓ) (c : Dev nD)

theorem idx : ∀ t : Fin cfg0.N, win0_0.index t = ![t.val % 4, 0] ∧ win0_1.index t = ![t.val % 4, 1] ∧ win0_2.index t = ![t.val % 4, 0] ∧ win0_3.index t = ![t.val % 4, 1]
    ∧ win0_4.index t = ![0, 0, 0] ∧ win0_5.index t = ![1, 0, 0] ∧ win0_6.index t = ![2, 0, 0] ∧ win0_7.index t = ![3, 0, 0]
    ∧ win0_8.index t = ![t.val % 4, 0] ∧ win0_9.index t = ![0, 0] ∧ win0_10.index t = ![t.val % 4, 0] ∧ win0_11.index t = ![t.val % 4, 0] ∧ win0_12.index t = ![0, 0] :=
  (by decide +kernel : ∀ t : Fin grid0.N, _)

variable (x3 r3 : S1x2048x1024.Idx → ℝ) (gs : S1x1024.Idx → ℝ) (w3 : S1x1024x5632.Idx → ℝ) (d3 : S1x2048x5632.Idx → ℝ)

/-- The arguments are real arrays. -/
structure Args : Prop where
  x : m ((c.tc : Thread nD τ).loc main_arg0) = lift x3
  g : m ((c.tc : Thread nD τ).loc main_arg1) = lift gs
  w : m ((c.tc : Thread nD τ).loc main_arg2) = lift w3
  d : m ((c.tc : Thread nD τ).loc main_arg3) = lift d3
  r : m ((c.tc : Thread nD τ).loc main_arg4) = lift r3

variable {x3 r3 gs w3 d3}
variable (hm : Args m c x3 r3 gs w3 d3)
include hm

theorem blk0 (t : Fin cfg0.N) (r : Fin 512) (k : Fin 1408) : iblk m c 0 t (ix2 r k) = ((d3 (ix3 0 (line t.val r) (part 0 k)) : ℝ) : EReal) := by
  have e : iblk m c 0 t (ix2 r k) = m ((c.tc : Thread nD τ).loc main_arg3) (ix3 0 (line t.val r) (part 0 k)) := by
    blk_point [iblk, V, idx t, line, part]
  rw [e, hm.d]; rfl

theorem blk1 (t : Fin cfg0.N) (r : Fin 512) (k : Fin 1408) : iblk m c 1 t (ix2 r k) = ((d3 (ix3 0 (line t.val r) (part 1 k)) : ℝ) : EReal) := by
  have e : iblk m c 1 t (ix2 r k) = m ((c.tc : Thread nD τ).loc main_arg3) (ix3 0 (line t.val r) (part 1 k)) := by
    blk_point [iblk, V, idx t, line, part]
  rw [e, hm.d]; rfl

theorem blk2 (t : Fin cfg0.N) (r : Fin 512) (k : Fin 1408) : iblk m c 2 t (ix2 r k) = ((d3 (ix3 0 (line t.val r) (part 2 k)) : ℝ) : EReal) := by
  have e : iblk m c 2 t (ix2 r k) = m ((c.tc : Thread nD τ).loc main_arg3) (ix3 0 (line t.val r) (part 2 k)) := by
    blk_point [iblk, V, idx t, line, part]
  rw [e, hm.d]; rfl

theorem blk3 (t : Fin cfg0.N) (r : Fin 512) (k : Fin 1408) : iblk m c 3 t (ix2 r k) = ((d3 (ix3 0 (line t.val r) (part 3 k)) : ℝ) : EReal) := by
  have e : iblk m c 3 t (ix2 r k) = m ((c.tc : Thread nD τ).loc main_arg3) (ix3 0 (line t.val r) (part 3 k)) := by
    blk_point [iblk, V, idx t, line, part]
  rw [e, hm.d]; rfl

theorem blk4 (t : Fin cfg0.N) (l : Fin 1024) (k : Fin 1408) : iblk m c 4 t (ix3 0 l k) = ((w3 (ix3 0 l (part 0 k)) : ℝ) : EReal) := by
  have e : iblk m c 4 t (ix3 0 l k) = m ((c.tc : Thread nD τ).loc main_arg2) (ix3 0 l (part 0 k)) := by
    blk_point [iblk, V, idx t, part]
  rw [e, hm.w]; rfl

theorem blk5 (t : Fin cfg0.N) (l : Fin 1024) (k : Fin 1408) : iblk m c 5 t (ix3 0 l k) = ((w3 (ix3 0 l (part 1 k)) : ℝ) : EReal) := by
  have e : iblk m c 5 t (ix3 0 l k) = m ((c.tc : Thread nD τ).loc main_arg2) (ix3 0 l (part 1 k)) := by
    blk_point [iblk, V, idx t, part]
  rw [e, hm.w]; rfl

theorem blk6 (t : Fin cfg0.N) (l : Fin 1024) (k : Fin 1408) : iblk m c 6 t (ix3 0 l k) = ((w3 (ix3 0 l (part 2 k)) : ℝ) : EReal) := by
  have e : iblk m c 6 t (ix3 0 l k) = m ((c.tc : Thread nD τ).loc main_arg2) (ix3 0 l (part 2 k)) := by
    blk_point [iblk, V, idx t, part]
  rw [e, hm.w]; rfl

theorem blk7 (t : Fin cfg0.N) (l : Fin 1024) (k : Fin 1408) : iblk m c 7 t (ix3 0 l k) = ((w3 (ix3 0 l (part 3 k)) : ℝ) : EReal) := by
  have e : iblk m c 7 t (ix3 0 l k) = m ((c.tc : Thread nD τ).loc main_arg2) (ix3 0 l (part 3 k)) := by
    blk_point [iblk, V, idx t, part]
  rw [e, hm.w]; rfl

theorem blk8 (t : Fin cfg0.N) (r : Fin 512) (k : Fin 1024) : iblk m c 8 t (ix2 r k) = ((rowX x3 (line t.val r) k : ℝ) : EReal) := by
  have e : iblk m c 8 t (ix2 r k) = m ((c.tc : Thread nD τ).loc main_arg0) (ix3 0 (line t.val r) k) := by
    blk_point [iblk, V, idx t, line]
  rw [e, hm.x]; rfl

theorem blk9 (t : Fin cfg0.N) (k : Fin 1024) : iblk m c 9 t (ix2 0 k) = ((rowG gs k : ℝ) : EReal) := by
  have e : iblk m c 9 t = m ((c.tc : Thread nD τ).loc main_arg1) := by
    blk_ext! [iblk, V, idx t]
  rw [e, hm.g]; rfl

theorem blk10 (t : Fin cfg0.N) (r : Fin 512) (k : Fin 1024) : iblk m c 10 t (ix2 r k) = ((r3 (ix3 0 (line t.val r) k) : ℝ) : EReal) := by
  have e : iblk m c 10 t (ix2 r k) = m ((c.tc : Thread nD τ).loc main_arg4) (ix3 0 (line t.val r) k) := by
    blk_point [iblk, V, idx t, line]
  rw [e, hm.r]; rfl

/-- The block's cotangent of the norm. -/
theorem dh_blk (t : Fin cfg0.N) (r : Fin 512) (l : Fin 1024) :
    k0_pay6 (F := Ideal) (iblk m c 0 t) (iblk m c 4 t) (iblk m c 1 t) (iblk m c 5 t) (iblk m c 2 t) (iblk m c 6 t) (iblk m c 3 t) (iblk m c 7 t) (ix2 r l)
      = ((dh w3 d3 (line t.val r) l : ℝ) : EReal) :=
  pay6 w3 d3 _ _ _ _ _ _ _ _ (line t.val r) r l (blk0 m c hm t r) (blk1 m c hm t r) (blk2 m c hm t r) (blk3 m c hm t r)
    (blk4 m c hm t) (blk5 m c hm t) (blk6 m c hm t) (blk7 m c hm t)

theorem out11 (t : Fin cfg0.N) (r : Fin 512) (l : Fin 1024) :
    (outsAt0 m c t.val t.isLt).1 (ix2 r l) = ((dX x3 r3 gs w3 d3 (ix2 (line t.val r) l) : ℝ) : EReal) := by
  by_cases h : t.val % 4 = 0
  · rw [outsAt0_A m c t h]
    frame_out
    exact pay3 _ _ _ _ _ _ _ _ r l (dh_blk m c hm t r) (blk8 m c hm t r) (blk9 m c hm t) (blk10 m c hm t r)
  · rw [outsAt0_B m c t h]
    frame_out
    exact pay3 _ _ _ _ _ _ _ _ r l (dh_blk m c hm t r) (blk8 m c hm t r) (blk9 m c hm t) (blk10 m c hm t r)

theorem first12 (t : Fin cfg0.N) (h : t.val % 4 = 0) (i : S1x1024.Idx) : (outsAt0 m c t.val t.isLt).2 i = 0 + dgTile x3 w3 d3 t i := by
  idx_vars i
  obtain rfl : i0 = 0 := Subsingleton.elim _ _
  rw [outsAt0_A m c t h]
  frame_out
  refine (pay5 _ _ (k0_pay4 (F := Ideal)) _ _ i1 (dh_blk m c hm t) (blk8 m c hm t)).trans (congrArg (· + _) ?_)
  pointwise [k0_pay4]

theorem next12 (t : Fin cfg0.N) (h : ¬ t.val % 4 = 0) (i : S1x1024.Idx) : (outsAt0 m c t.val t.isLt).2 i
    = (outsAt0 m c (t.val - 1) (Nat.lt_of_le_of_lt (Nat.sub_le _ _) t.isLt)).2 i + dgTile x3 w3 d3 t i := by
  idx_vars i
  obtain rfl : i0 = 0 := Subsingleton.elim _ _
  rw [outsAt0_B m c t h]
  frame_out
  exact pay5 _ _ _ _ _ i1 (dh_blk m c hm t) (blk8 m c hm t)

theorem x_final : (dats m 0 c).arrAt 11 cfg0.N = lift (dX x3 r3 gs w3 d3) := by
  refine (dats m 0 c).arrAt_eq_of_covers 11 _ (by decide +kernel) fun t _ y => ?_
  rw [after0_11]
  idx_vars y
  blk_simp
  refine (out11 m c hm t y0 y1).trans (congrArg (lift (dX x3 r3 gs w3 d3)) ?_)
  blk_ext [idx t, line]

theorem g_final : (dats m 0 c).arrAt 12 cfg0.N = lift (dG x3 w3 d3) := by
  refine (dats m 0 c).arrAt_eq_of_covers 12 _ (by decide +kernel) fun t hf y => ?_
  rw [after0_12]
  idx_vars y
  obtain rfl : y0 = 0 := Subsingleton.elim _ _
  blk_simp
  refine (Pipeline.eq_sum_fin_of_reset_step_apply_of_flush (f := fun n h => (outsAt0 m c n h).2) 4 (fun _ => 0) (dgTile x3 w3 d3)
    (first12 m c hm) (next12 m c hm) t ((flush0_12 t).mp hf) (ix2 0 y1)).trans ?_
  simp only [dgTile, coe_sum, zero_add]
  have ht : t.val < 4 := t.isLt
  refine (congrArg (fun z : ℝ => (z : EReal)) (Eq.trans (Finset.sum_congr rfl fun k _ => ?_) (sum_points x3 w3 d3 y1))).trans ?_
  · have e : ∀ r, line (4 * (t.val / 4) + k.val) r = line k.val r := fun r => Fin.ext (by simp only [line]; omega)
    simp only [e]
    rfl
  · refine congrArg (lift (dG x3 w3 d3)) (a₁ := ix2 0 y1) ?_
    blk_ext [idx t]

end Cert.UpNorm

end
-- ==== Proof.UpNormReference.lean ====
module

public import proofs.«01_k».proof.Proof.Gen.Reference5Ideal.Read
public import proofs.«01_k».proof.Proof.UpNorm

/-! The gradient of the feed-forward's RMSNorm: what the reference computes, over real arguments. -/

@[expose] public section

set_option maxRecDepth 16384

noncomputable section

namespace Cert.UpNorm

open Idealize.ShloMosaic Idealize.ShloMosaic.TcCoe Idealize.SL.Sem
open Cert.Lift Cert.Norm
open Cert.Reference5Ideal Cert.Reference5Ideal.Gen Cert.Reference5Ideal.Read

variable (x3 r3 : S1x2048x1024.Idx → ℝ) (gs : S1x1024.Idx → ℝ) (w3 : S1x1024x5632.Idx → ℝ) (d3 : S1x2048x5632.Idx → ℝ)

theorem v7 (z : Fin 1) (r : Fin 2048) (l : Fin 1) : val_main_v7 (F := Ideal) (lift x3) (ix3 z r l) = ((ms (rowX x3 r) : ℝ) : EReal) := by
  obtain rfl : z = 0 := Subsingleton.elim _ _
  pointwise [val_main_v7, val_main_v6, val_main_v5, val_main_v4, val_main_v3, val_main_v2, val_main_v1, val_main_cst, val_main_cst_0, val_main_cst_1]
  simp only [lift, ofBits_1024, ofBits_eps, ← EReal.coe_mul, coe_sum, zero_add, div_real _ (by norm_num : (1024 : ℝ) ≠ 0), ← EReal.coe_add]
  rfl

theorem v8 (z : Fin 1) (r : Fin 2048) (l : Fin 1) : val_main_v8 (F := Ideal) (lift x3) (ix3 z r l) = ((rstd (rowX x3 r) : ℝ) : EReal) := by
  pointwise [val_main_v8]
  rw [v7]; exact rsqrt_real (mean_sq_pos _)

theorem v19 (r : Fin 2048) (l : Fin 1024) : val_main_v19 (F := Ideal) (lift w3) (lift d3) (ix3 0 r l) = ((dh w3 d3 r l : ℝ) : EReal) := by
  pointwise [val_main_v19, val_main_v17]
  simp only [lift, ← EReal.coe_mul, coe_sum]
  rfl

theorem v21 (z : Fin 1) (l : Fin 1024) : val_main_v21 (F := Ideal) (lift x3) (lift w3) (lift d3) (ix2 z l)
    = ((dg (rowX x3) (dh w3 d3) l : ℝ) : EReal) := by
  obtain rfl : z = 0 := Subsingleton.elim _ _
  pointwise [val_main_v21, val_main_v20, val_main_v13, val_main_v12, val_main_cst_3]
  simp only [lift, v8, v19, ← EReal.coe_mul, coe_sum, zero_add]
  exact congrArg _ (Finset.sum_congr rfl fun k _ => mul_comm _ _)

theorem v42 (z : Fin 1) (l : Fin 1024) : val_main_v42 (F := Ideal) (lift x3) (lift w3) (lift d3) (ix2 z l)
    = ((dg (rowX x3) (dh w3 d3) l : ℝ) : EReal) := by
  pointwise [val_main_v42, val_main_v25, val_main_v22, val_main_cst_4]
  rw [hostReduceAdd_r3_a01]
  pointwise []
  simp [v21]

theorem v34 (z : Fin 1) (r : Fin 2048) (l : Fin 1) : val_main_v34 (F := Ideal) (lift x3) (lift gs) (lift w3) (lift d3) (ix3 z r l)
    = ((slope (rowX x3 r) (rowG gs) (dh w3 d3 r) : ℝ) : EReal) := by
  obtain rfl : z = 0 := Subsingleton.elim _ _
  pointwise [val_main_v34, val_main_v33, val_main_v32, val_main_v28, val_main_v27, val_main_v26, val_main_v24, val_main_v23,
    val_main_v14, val_main_v0, val_main_v11, val_main_v10, val_main_v9, val_main_cst_2, val_main_cst_5, val_main_cst_6]
  have hm : ms (rowX x3 r) ≠ 0 := (mean_sq_pos _).ne'
  simp only [lift, v7, v8, v19, ofBits_1024, ofBits_neg_half, ← EReal.coe_mul, coe_sum, zero_add, div_real _ hm,
    div_real _ (by norm_num : (1024 : ℝ) ≠ 0)]
  rfl

theorem v37 (r : Fin 2048) (l : Fin 1024) : val_main_v37 (F := Ideal) (lift x3) (lift gs) (lift w3) (lift d3) (ix3 0 r l)
    = ((slope (rowX x3 r) (rowG gs) (dh w3 d3 r) : ℝ) : EReal) := by
  pointwise [val_main_v37, val_main_v36, val_main_v35, val_main_cst_7]
  rw [hostReduceAdd_r3_a02]
  simp [v34]

theorem v43 (r : Fin 2048) (l : Fin 1024) : val_main_v43 (F := Ideal) (lift x3) (lift gs) (lift w3) (lift d3) (lift r3) (ix2 r l)
    = ((dX x3 r3 gs w3 d3 (ix2 r l) : ℝ) : EReal) := by
  pointwise [val_main_v43, val_main_v41, val_main_v40, val_main_v39, val_main_v38, val_main_v31, val_main_v30, val_main_v29, val_main_v24, val_main_v23,
    val_main_v14, val_main_v0]
  simp only [lift, v8, v19, v37, ← EReal.coe_mul, ← EReal.coe_add]
  refine congrArg (fun z : ℝ => (z : EReal)) (Eq.trans ?_ (congrArg (· + r3 (ix3 0 r l)) (dxRow_eq (rowX x3 r) (rowG gs) (dh w3 d3 r) l)))
  simp only [rowX, rowG]
  ring

theorem x_ref : val_main_v43 (F := Ideal) (lift x3) (lift gs) (lift w3) (lift d3) (lift r3) = lift (dX x3 r3 gs w3 d3) := by
  funext i
  idx_vars i
  exact v43 x3 r3 gs w3 d3 i0 i1

theorem g_ref : val_main_v42 (F := Ideal) (lift x3) (lift w3) (lift d3) = lift (dG x3 w3 d3) := by
  funext i
  idx_vars i
  exact v42 x3 w3 d3 i0 i1

end Cert.UpNorm

end
-- ==== Proof.UpNormClaim.lean ====
/- The statement about the gradient of the feed-forward's RMSNorm: from finite arguments the kernel and the reference
   end holding the same arrays. -/
module

public import proofs.«01_k».proof.Defs
public import proofs.«01_k».proof.Proof.UpNormReference
public import proofs.«01_k».proof.Proof.Gen.Reference5Ideal.Run
public import proofs.«01_k».proof.Proof.Gen.Pre_finite5
public import Idealize.ShloMosaic.Lib.Claim

@[expose] public section

noncomputable section

namespace Cert.UpNorm

open Idealize.ShloMosaic Idealize.SL.Sem Cert.Lift

/-- Under the precondition each argument is an array of reals. -/
theorem args_real (m : (ℓ : Loc Cert.Kernel5Ideal.nD Cert.Kernel5Ideal.τ Cert.Kernel5Ideal.sig) → Buf (Elt Ideal) ℓ)
    (h : Cert.Pre_Kernel5Ideal_finite5 m) (c : Dev Cert.Kernel5Ideal.nD) : ∃ xs gs ws ds rs, Args m c xs rs gs ws ds := by
  obtain ⟨hx, hg, hw, hd, hr⟩ := h c
  obtain ⟨xs, hxs⟩ := exists_real _ _ hx
  obtain ⟨gs, hgs⟩ := exists_real _ _ hg
  obtain ⟨ws, hws⟩ := exists_real _ _ hw
  obtain ⟨ds, hds⟩ := exists_real _ _ hd
  obtain ⟨rs, hrs⟩ := exists_real _ _ hr
  exact ⟨xs, gs, ws, ds, rs, hxs, hgs, hws, hds, hrs⟩

theorem frame_reference : Cert.quiescent_Reference5Ideal := by
  intro m ρ _
  exact (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem algebraic : Cert.algebraic_Kernel5Ideal_Reference5Ideal_pre_finite5 := by
  intro m g m' g' hpre hagree
  choose xs gs ws ds rs hm using args_real m hpre
  refine ⟨fun c => lift (dX (xs c) (rs c) (gs c) (ws c) (ds c)), fun c => lift (dG (xs c) (ws c) (ds c)), ?_, ?_⟩
  · refine (θ_run Cert.Kernel5Ideal.defs _ _).mono (fun r h c => ?_) (Cert.Kernel5Ideal.Value.run_blocks (F := Ideal) m g)
    obtain ⟨h0, h1, h2⟩ := h c
    exact ⟨h0.trans (x_final m c (hm c)), h1.trans (g_final m c (hm c)), h2⟩
  · refine (θ_run Cert.Reference5Ideal.defs _ _).mono (fun r h c => ?_) (Cert.Reference5Ideal.Value.run (F := Ideal) m' g')
    obtain ⟨h0, h1, h2⟩ := h c
    obtain ⟨a0, a1, a2, a3, a4⟩ := hagree c
    refine ⟨h0.trans ?_, h1.trans ?_, h2⟩
    · refine (Cert.Reference5Ideal.Read.val_main_v43_eq m' c).trans ?_
      rw [a0, a1, a2, a3, a4, (hm c).x, (hm c).g, (hm c).w, (hm c).d, (hm c).r]
      exact x_ref _ _ _ _ _
    · refine (Cert.Reference5Ideal.Read.val_main_v42_eq _ _ _).trans ?_
      rw [a0, a2, a3, (hm c).x, (hm c).w, (hm c).d]
      exact g_ref _ _ _

end Cert.UpNorm

end
-- ==== Proof.GateNorm.lean ====
module

public import proofs.«01_k».proof.Proof.Lift

/-! The recurrence's RMSNorm of one head and its output gate, over real numbers. -/

@[expose] public section

noncomputable section

namespace Cert.GateNorm

open Idealize.ShloMosaic Cert.Lift

/-- The mean square of a head's row plus epsilon. -/
def ms (o : Fin 128 → ℝ) : ℝ := (∑ k, o k * o k) / 128 + eps

theorem ms_pos (o : Fin 128 → ℝ) : 0 < ms o :=
  add_pos_of_nonneg_of_pos (div_nonneg (Finset.sum_nonneg fun k _ => mul_self_nonneg _) (by norm_num)) eps_pos

/-- One over the root mean square of a head's row. -/
def rstd (o : Fin 128 → ℝ) : ℝ := (Real.sqrt (ms o))⁻¹

theorem rsqrt_ms (o : Fin 128 → ℝ) : Ideal.rsqrt (((∑ k, o k * o k) / 128 + eps : ℝ) : EReal) = ((rstd o : ℝ) : EReal) := rsqrt_real (ms_pos o)

/-- The logistic function. -/
def sig (z : ℝ) : ℝ := 1 / (1 + Real.exp (-z))

theorem one_add_exp_ne (z : ℝ) : 1 + Real.exp (-z) ≠ 0 := (add_pos one_pos (Real.exp_pos _)).ne'

theorem sigmoid_real (z : ℝ) : Ideal.div 1 (1 + Ideal.exp (0 - (z : EReal))) = ((sig z : ℝ) : EReal) := by
  rw [← EReal.coe_zero, ← EReal.coe_sub, zero_sub, Ideal.exp_coe, ← EReal.coe_one, ← EReal.coe_add, div_real _ (one_add_exp_ne z)]
  rfl

theorem sigmoid_real' (z : ℝ) : Ideal.div 1 (1 + Ideal.exp (-(z : EReal))) = ((sig z : ℝ) : EReal) := by
  rw [← EReal.coe_neg, Ideal.exp_coe, ← EReal.coe_one, ← EReal.coe_add, div_real _ (one_add_exp_ne z)]
  rfl

/-- The gated norm of a head's row. -/
def gated (o g h : Fin 128 → ℝ) (l : Fin 128) : ℝ := o l * rstd o * g l * (h l * sig (h l))

/-- The gradient of the row `x` of the norm with gain `g`, for the cotangent row `dy`. -/
def dxRow (x g dy : Fin 128 → ℝ) (l : Fin 128) : ℝ :=
  rstd x * (dy l * g l - x l * rstd x * ((∑ k, dy k * g k * (x k * rstd x)) / 128))

/-- The cotangent of the norm behind the gate. -/
def passed (h d : Fin 128 → ℝ) (k : Fin 128) : ℝ := d k * h k * sig (h k)

/-- The gradient of the gate's argument. -/
def dGate (o g h d : Fin 128 → ℝ) (l : Fin 128) : ℝ := d l * (o l * rstd o * g l) * sig (h l) * (1 + h l * (1 - sig (h l)))

/-- One row's share of the gain's gradient. -/
def dgTerm (o h d : Fin 128 → ℝ) (l : Fin 128) : ℝ := passed h d l * (o l * rstd o)

/-- The sum over a row of `x` times the cotangent times the gain. -/
def dot3 (x g dy : Fin 128 → ℝ) : ℝ := ∑ k, x k * (dy k * g k)

/-- The derivative of the mean square's reciprocal root, times the row's sum, over the row's length. -/
def slope (x g dy : Fin 128 → ℝ) : ℝ := dot3 x g dy * (-1 / 2 * (rstd x / ms x)) / 128

theorem rstd_sq (x : Fin 128 → ℝ) : rstd x * rstd x * ms x = 1 := by
  have h := ms_pos x
  unfold rstd
  rw [← mul_inv, Real.mul_self_sqrt h.le, inv_mul_cancel₀ h.ne']

/-- The two forms of the row's gradient agree. -/
theorem dxRow_eq (x g dy : Fin 128 → ℝ) (l : Fin 128) :
    dy l * g l * rstd x + x l * slope x g dy + slope x g dy * x l = dxRow x g dy l := by
  have hm : ms x ≠ 0 := (ms_pos x).ne'
  have hs : ∑ k, dy k * g k * (x k * rstd x) = rstd x * dot3 x g dy := by
    rw [dot3, Finset.mul_sum]; exact Finset.sum_congr rfl fun k _ => by ring
  have hr : rstd x / ms x = rstd x * rstd x * rstd x := by
    rw [div_eq_iff hm]; linear_combination (-rstd x) * rstd_sq x
  rw [dxRow, hs, slope, hr]
  ring

/-- Column `k` of the head that column `l` belongs to. -/
def inHead {n : ℕ} (l : Fin (n * 128)) (k : Fin 128) : Fin (n * 128) := ⟨l.val / 128 * 128 + k.val, by omega⟩

/-- A column's place in its head. -/
def lane {n : ℕ} (l : Fin n) : Fin 128 := ⟨l.val % 128, by omega⟩

/-- Column `k` of head `h`. -/
def headCol (h : Fin 4) (k : Fin 128) : Fin (4 * 128) := ⟨h.val * 128 + k.val, by omega⟩

/-- The head of a column. -/
def headOf (l : Fin (4 * 128)) : Fin 4 := ⟨l.val / 128, by omega⟩

theorem headCol_headOf (l : Fin (4 * 128)) (k : Fin 128) : headCol (headOf l) k = inHead (n := 4) l k := rfl

theorem inHead_lane (l : Fin (4 * 128)) : inHead (n := 4) l (lane l) = l := Fin.ext (by simp only [inHead, lane]; omega)

theorem headCol_lane (l : Fin (4 * 128)) : headCol (headOf l) (lane l) = l := inHead_lane l

/-- Row `r` of a block of 512 rows and column `q` of a block of two heads, in the whole arrays. -/
def line (t : ℕ) (r : Fin 512) : Fin 2048 := ⟨t % 4 * 512 + r.val, by omega⟩
def col (t : ℕ) (q : Fin (2 * 128)) : Fin (4 * 128) := ⟨t % 2 * 256 + q.val, by omega⟩

/-- The rows of the four blocks are all the rows. -/
theorem sum_lines (f : Fin 2048 → ℝ) : ∑ k : Fin 4, ∑ r : Fin 512, f (line k.val r) = ∑ r, f r := by
  rw [← Fintype.sum_prod_type', ← (finProdFinEquiv (m := 4) (n := 512)).sum_comp]
  exact Finset.sum_congr rfl fun p _ => congrArg f (Fin.ext (by simp [line, finProdFinEquiv]; omega))

theorem col_inHead (t : ℕ) (q : Fin (2 * 128)) (k : Fin 128) : col t (inHead (n := 2) q k) = inHead (n := 4) (col t q) k :=
  Fin.ext (by simp only [col, inHead]; omega)

theorem lane_col (t : ℕ) (q : Fin (2 * 128)) : lane (col t q) = lane q := Fin.ext (by simp only [col, lane]; omega)

/-- The gate's column among the columns of the input projection. -/
def gateCol (l : Fin (4 * 128)) : Fin 3328 := ⟨2816 + l.val, by omega⟩

/-- The two directions' outputs added. -/
def oSum (o2 : (⟨3, ![2, 2048, 512]⟩ : Shape).Idx → ℝ) (r : Fin 2048) (l : Fin (4 * 128)) : ℝ := o2 (ix3 0 r l) + o2 (ix3 1 r l)

theorem ofBits_128 : Ideal.ofBits .f32 0x43000000#32 = ((128 : ℝ) : EReal) := by
  simp [Ideal.ofBits, Ideal.ieee, -EReal.coe_mul]; norm_num

end Cert.GateNorm

end
-- ==== Proof.GateBwd.lean ====
module

public import proofs.«01_k».proof.Proof.Gen.Kernel6Ideal.Value
public import proofs.«01_k».proof.Proof.GateNorm
public import Idealize.ShloMosaic.Lib.Pipeline.ValueKit.Acc
public import Idealize.ShloMosaic.Lib.Pipeline.ReadBack

/-! The recurrence's norm and output gate, backward: what the kernel leaves in its result arrays, over real arguments. -/

@[expose] public section

set_option maxRecDepth 16384

noncomputable section

namespace Cert.GateBwd

open Idealize.ShloMosaic Idealize.ShloMosaic.TcCoe Idealize.SL.Sem
open Idealize.ShloMosaic.Pipeline (Dat)
open Cert.Lift Cert.GateNorm
open Cert.Kernel6Ideal Cert.Kernel6Ideal.Gen

section
variable (a b : Vec Ideal S1x512x128 .f32) (h d : Vec Ideal S512x128 .f32) (g : Vec Ideal S1x128 .f32)

theorem half5 : k0_pay15 (F := Ideal) (k0_pay7 (F := Ideal) a b) h d (k0_pay8 (F := Ideal) h) g
    = k0_pay4 (F := Ideal) (k0_pay17 (F := Ideal) a b) h d (k0_pay18 (F := Ideal) h) g := rfl

theorem half6 : k0_pay11 (F := Ideal) (k0_pay9 (F := Ideal) a b h d g) (k0_pay10 (F := Ideal) h) (FloatOps.ofBits .f32 0x3F800000#32)
    = k0_pay19 (F := Ideal) a b h d g := rfl

theorem half7 (acc : Vec Ideal S1x1x128 .f32) : k0_pay16 (F := Ideal) (k0_pay7 (F := Ideal) a b) h d (k0_pay8 (F := Ideal) h) acc
    = k0_pay5 (F := Ideal) (k0_pay17 (F := Ideal) a b) h d (k0_pay18 (F := Ideal) h) acc := rfl

variable (ra rb rh rd rg : Fin 128 → ℝ) (r : Fin 512) (l : Fin 128)

theorem pay4 (ha : ∀ k, a (ix3 0 r k) = ((ra k : ℝ) : EReal)) (hb : ∀ k, b (ix3 0 r k) = ((rb k : ℝ) : EReal))
    (hh : ∀ k, h (ix2 r k) = ((rh k : ℝ) : EReal)) (hd : ∀ k, d (ix2 r k) = ((rd k : ℝ) : EReal)) (hg : ∀ k, g (ix2 0 k) = ((rg k : ℝ) : EReal)) :
    k0_pay4 (F := Ideal) (k0_pay17 (F := Ideal) a b) h d (k0_pay18 (F := Ideal) h) g (ix2 r l)
      = ((dxRow (fun k => ra k + rb k) rg (passed rh rd) l : ℝ) : EReal) := by
  have e := rsqrt_ms fun k => ra k + rb k
  beta_reduce at e
  pointwise [k0_pay4, k0_pay1, k0_pay2, k0_pay3, k0_pay17, k0_pay18]
  simp only [ha, hb, hh, hd, hg, ofBits_128, ofBits_eps, ofBits_one, sigmoid_real, ← EReal.coe_add, ← EReal.coe_mul, ← EReal.coe_sub, coe_sum,
    div_real _ (by norm_num : (128 : ℝ) ≠ 0), e]
  rfl

theorem pay19 (ha : ∀ k, a (ix3 0 r k) = ((ra k : ℝ) : EReal)) (hb : ∀ k, b (ix3 0 r k) = ((rb k : ℝ) : EReal))
    (hh : ∀ k, h (ix2 r k) = ((rh k : ℝ) : EReal)) (hd : ∀ k, d (ix2 r k) = ((rd k : ℝ) : EReal)) (hg : ∀ k, g (ix2 0 k) = ((rg k : ℝ) : EReal)) :
    k0_pay19 (F := Ideal) a b h d g (ix2 r l) = ((dGate (fun k => ra k + rb k) rg rh rd l : ℝ) : EReal) := by
  have e := rsqrt_ms fun k => ra k + rb k
  beta_reduce at e
  pointwise [k0_pay19, k0_pay17, k0_pay18]
  simp only [ha, hb, hh, hd, hg, ofBits_128, ofBits_eps, ofBits_one, sigmoid_real, ← EReal.coe_add, ← EReal.coe_mul, ← EReal.coe_sub, coe_sum,
    div_real _ (by norm_num : (128 : ℝ) ≠ 0), e]
  simp only [← EReal.coe_one, ← EReal.coe_add, ← EReal.coe_mul, ← EReal.coe_sub]
  rfl
end

theorem pay5 (a b : Vec Ideal S1x512x128 .f32) (h d : Vec Ideal S512x128 .f32) (acc : Vec Ideal S1x1x128 .f32) (ra rb rh rd : Fin 512 → Fin 128 → ℝ) (l : Fin 128)
    (ha : ∀ r k, a (ix3 0 r k) = ((ra r k : ℝ) : EReal)) (hb : ∀ r k, b (ix3 0 r k) = ((rb r k : ℝ) : EReal))
    (hh : ∀ r k, h (ix2 r k) = ((rh r k : ℝ) : EReal)) (hd : ∀ r k, d (ix2 r k) = ((rd r k : ℝ) : EReal)) :
    k0_pay5 (F := Ideal) (k0_pay17 (F := Ideal) a b) h d (k0_pay18 (F := Ideal) h) acc (ix3 0 0 l)
      = acc (ix3 0 0 l) + ((∑ r, dgTerm (fun k => ra r k + rb r k) (rh r) (rd r) l : ℝ) : EReal) := by
  have e : ∀ r, _ := fun r => rsqrt_ms fun k => ra r k + rb r k
  beta_reduce at e
  pointwise [k0_pay5, k0_pay1, k0_pay2, k0_pay3, k0_pay17, k0_pay18]
  simp only [ha, hb, hh, hd, ofBits_128, ofBits_eps, ofBits_one, sigmoid_real, ← EReal.coe_add, ← EReal.coe_mul, ← EReal.coe_sub, coe_sum,
    div_real _ (by norm_num : (128 : ℝ) ≠ 0), e]
  rfl

/-- The cotangent's column among the columns of the concatenated heads. -/
def catCol (l : Fin (4 * 128)) : Fin 1024 := ⟨512 + l.val, by omega⟩

section Arrays
variable (o2 : S2x2048x512.Idx → ℝ) (p : S2048x3328.Idx → ℝ) (g : S1x128.Idx → ℝ) (d : S2048x1024.Idx → ℝ)

/-- A row's entries in the head that column `l` belongs to: the sum of the directions, the gate's argument, the cotangent; and the gain. -/
def rowO (r : Fin 2048) (l : Fin (4 * 128)) (k : Fin 128) : ℝ := oSum o2 r (inHead (n := 4) l k)
def rowH (r : Fin 2048) (l : Fin (4 * 128)) (k : Fin 128) : ℝ := p (ix2 r (gateCol (inHead (n := 4) l k)))
def rowD (r : Fin 2048) (l : Fin (4 * 128)) (k : Fin 128) : ℝ := d (ix2 r (catCol (inHead (n := 4) l k)))
def rowG (k : Fin 128) : ℝ := g (ix2 0 k)

/-- The gradient of the sum of the two directions. -/
def dO (i : S2048x512.Idx) : ℝ := dxRow (rowO o2 (i 0) (i 1)) (rowG g) (passed (rowH p (i 0) (i 1)) (rowD d (i 0) (i 1))) (lane (i 1))

/-- The gradient of the gate's argument. -/
def dHg (i : S2048x512.Idx) : ℝ := dGate (rowO o2 (i 0) (i 1)) (rowG g) (rowH p (i 0) (i 1)) (rowD d (i 0) (i 1)) (lane (i 1))

/-- One row's share of the gradient of each head's gain. -/
def dgAt (r : Fin 2048) (l : Fin (4 * 128)) : ℝ := dgTerm (rowO o2 r l) (rowH p r l) (rowD d r l) (lane l)

/-- The column of entry `q` of the pair `j` of heads. -/
def pairCol (j : Fin 2) (q : Fin (2 * 128)) : Fin (4 * 128) := ⟨j.val * 256 + q.val, by omega⟩

/-- The gradient of each head's gain, two heads in each row. -/
def dG (i : S2x1x256.Idx) : ℝ := ∑ r, dgAt o2 p d r (pairCol (i 0) (i 2))
end Arrays

variable (m : (ℓ : Loc nD τ sig) → Buf (Elt Ideal) ℓ) (c : Dev nD)

theorem idx : ∀ t : Fin cfg0.N, win0_0.index t = ![0, t.val % 4, t.val / 4 % 2] ∧ win0_1.index t = ![1, t.val % 4, t.val / 4 % 2]
    ∧ win0_2.index t = ![t.val % 4, 11 + t.val / 4 % 2] ∧ win0_3.index t = ![0, 0] ∧ win0_4.index t = ![t.val % 4, 2 + t.val / 4 % 2]
    ∧ win0_5.index t = ![t.val % 4, t.val / 4 % 2] ∧ win0_6.index t = ![t.val % 4, t.val / 4 % 2] ∧ win0_7.index t = ![t.val / 4 % 2, 0, 0] :=
  (by decide +kernel : ∀ t : Fin grid0.N, _)

variable (o2 : S2x2048x512.Idx → ℝ) (p : S2048x3328.Idx → ℝ) (g : S1x128.Idx → ℝ) (d : S2048x1024.Idx → ℝ)

/-- The arguments are the real arrays `o2`, `p`, `g`, `d`. -/
structure Args : Prop where
  o : m ((c.tc : Thread nD τ).loc main_arg0) = lift o2
  p : m ((c.tc : Thread nD τ).loc main_arg1) = lift p
  g : m ((c.tc : Thread nD τ).loc main_arg2) = lift g
  d : m ((c.tc : Thread nD τ).loc main_arg3) = lift d

variable {o2 p g d}
variable (hm : Args m c o2 p g d)
include hm

theorem blk0 (t : Fin cfg0.N) : iblk m c 0 t = lift fun i : S1x512x256.Idx => o2 (ix3 0 (line t.val (i 1)) (col (t.val / 4) (i 2))) := by
  have e : iblk m c 0 t = fun i : S1x512x256.Idx => m ((c.tc : Thread nD τ).loc main_arg0) (ix3 0 (line t.val (i 1)) (col (t.val / 4) (i 2))) := by
    funext y
    idx_vars y
    blk_point [iblk, V, idx t, line, col]
  rw [e, hm.o]; rfl

theorem blk1 (t : Fin cfg0.N) : iblk m c 1 t = lift fun i : S1x512x256.Idx => o2 (ix3 1 (line t.val (i 1)) (col (t.val / 4) (i 2))) := by
  have e : iblk m c 1 t = fun i : S1x512x256.Idx => m ((c.tc : Thread nD τ).loc main_arg0) (ix3 1 (line t.val (i 1)) (col (t.val / 4) (i 2))) := by
    funext y
    idx_vars y
    blk_point [iblk, V, idx t, line, col]
  rw [e, hm.o]; rfl

theorem blk2 (t : Fin cfg0.N) : iblk m c 2 t = lift fun i : S512x256.Idx => p (ix2 (line t.val (i 0)) (gateCol (col (t.val / 4) (i 1)))) := by
  have e : iblk m c 2 t = fun i : S512x256.Idx => m ((c.tc : Thread nD τ).loc main_arg1) (ix2 (line t.val (i 0)) (gateCol (col (t.val / 4) (i 1)))) := by
    funext y
    idx_vars y
    blk_point [iblk, V, idx t, line, col, gateCol]
  rw [e, hm.p]; rfl

theorem blk3 (t : Fin cfg0.N) : iblk m c 3 t = lift g := by
  have e : iblk m c 3 t = m ((c.tc : Thread nD τ).loc main_arg2) := by
    blk_ext! [iblk, V, idx t]
  rw [e, hm.g]

theorem blk4 (t : Fin cfg0.N) : iblk m c 4 t = lift fun i : S512x256.Idx => d (ix2 (line t.val (i 0)) (catCol (col (t.val / 4) (i 1)))) := by
  have e : iblk m c 4 t = fun i : S512x256.Idx => m ((c.tc : Thread nD τ).loc main_arg3) (ix2 (line t.val (i 0)) (catCol (col (t.val / 4) (i 1)))) := by
    funext y
    idx_vars y
    blk_point [iblk, V, idx t, line, col, catCol]
  rw [e, hm.d]; rfl

/-- The blocks' entries at the columns of one of the block's two heads. -/
theorem ld0 (t : Fin cfg0.N) (e : ℕ) (inb : ∀ a, (![0, 0, e] : Fin 3 → ℕ) a + (![1, 512, 128] : Fin 3 → ℕ) a ≤ S1x512x256.size a) (r : Fin 512)
    (k : Fin 128) (q : Fin (2 * 128)) (hq : e = q.val / 128 * 128) : View.ld (iblk m c 0 t) (Rect.unit ![0, 0, e] ![1, 512, 128] inb) (ix3 0 r k)
      = ((o2 (ix3 0 (line t.val r) (inHead (n := 4) (col (t.val / 4) q) k)) : ℝ) : EReal) := by
  rw [blk0 m c hm, ← col_inHead]
  refine congrArg (lift o2) ?_
  subst hq
  blk_ext [line, col, inHead] <;>
    ((repeat with_reducible refine Nat.add_left_cancel_iff.mpr ?_); refine (Rect.idx_unit_val _ _ _ _ _).trans ?_; dsimp [ix3]; try omega)

theorem ld1 (t : Fin cfg0.N) (e : ℕ) (inb : ∀ a, (![0, 0, e] : Fin 3 → ℕ) a + (![1, 512, 128] : Fin 3 → ℕ) a ≤ S1x512x256.size a) (r : Fin 512)
    (k : Fin 128) (q : Fin (2 * 128)) (hq : e = q.val / 128 * 128) : View.ld (iblk m c 1 t) (Rect.unit ![0, 0, e] ![1, 512, 128] inb) (ix3 0 r k)
      = ((o2 (ix3 1 (line t.val r) (inHead (n := 4) (col (t.val / 4) q) k)) : ℝ) : EReal) := by
  rw [blk1 m c hm, ← col_inHead]
  refine congrArg (lift o2) ?_
  subst hq
  blk_ext [line, col, inHead] <;>
    ((repeat with_reducible refine Nat.add_left_cancel_iff.mpr ?_); refine (Rect.idx_unit_val _ _ _ _ _).trans ?_; dsimp [ix3]; try omega)

theorem ld2 (t : Fin cfg0.N) (e : ℕ) (inb : ∀ a, (![0, e] : Fin 2 → ℕ) a + (![512, 128] : Fin 2 → ℕ) a ≤ S512x256.size a) (r : Fin 512)
    (k : Fin 128) (q : Fin (2 * 128)) (hq : e = q.val / 128 * 128) : View.ld (iblk m c 2 t) (Rect.unit ![0, e] ![512, 128] inb) (ix2 r k)
      = ((rowH p (line t.val r) (col (t.val / 4) q) k : ℝ) : EReal) := by
  rw [blk2 m c hm, rowH, ← col_inHead]
  refine congrArg (lift p) ?_
  subst hq
  blk_ext [line, col, inHead, gateCol] <;>
    ((repeat with_reducible refine Nat.add_left_cancel_iff.mpr ?_); refine (Rect.idx_unit_val _ _ _ _ _).trans ?_; dsimp [ix2]; try omega)

theorem ld4 (t : Fin cfg0.N) (e : ℕ) (inb : ∀ a, (![0, e] : Fin 2 → ℕ) a + (![512, 128] : Fin 2 → ℕ) a ≤ S512x256.size a) (r : Fin 512)
    (k : Fin 128) (q : Fin (2 * 128)) (hq : e = q.val / 128 * 128) : View.ld (iblk m c 4 t) (Rect.unit ![0, e] ![512, 128] inb) (ix2 r k)
      = ((rowD d (line t.val r) (col (t.val / 4) q) k : ℝ) : EReal) := by
  rw [blk4 m c hm, rowD, ← col_inHead]
  refine congrArg (lift d) ?_
  subst hq
  blk_ext [line, col, inHead, catCol] <;>
    ((repeat with_reducible refine Nat.add_left_cancel_iff.mpr ?_); refine (Rect.idx_unit_val _ _ _ _ _).trans ?_; dsimp [ix2]; try omega)

theorem ld3 (t : Fin cfg0.N) (k : Fin 128) : iblk m c 3 t (ix2 0 k) = ((rowG g k : ℝ) : EReal) := by
  rw [blk3 m c hm]; rfl

theorem o_at (t : Fin cfg0.N) (r : Fin 512) (q : Fin (2 * 128)) : dO o2 p g d (ix2 (line t.val r) (col (t.val / 4) q))
    = dxRow (fun k => o2 (ix3 0 (line t.val r) (inHead (n := 4) (col (t.val / 4) q) k)) + o2 (ix3 1 (line t.val r) (inHead (n := 4) (col (t.val / 4) q) k)))
      (rowG g) (passed (rowH p (line t.val r) (col (t.val / 4) q)) (rowD d (line t.val r) (col (t.val / 4) q))) (lane q) :=
  congrArg (dxRow _ _ _) (lane_col _ q)

theorem hg_at (t : Fin cfg0.N) (r : Fin 512) (q : Fin (2 * 128)) : dHg o2 p g d (ix2 (line t.val r) (col (t.val / 4) q))
    = dGate (fun k => o2 (ix3 0 (line t.val r) (inHead (n := 4) (col (t.val / 4) q) k)) + o2 (ix3 1 (line t.val r) (inHead (n := 4) (col (t.val / 4) q) k)))
      (rowG g) (rowH p (line t.val r) (col (t.val / 4) q)) (rowD d (line t.val r) (col (t.val / 4) q)) (lane q) :=
  congrArg (dGate _ _ _ _) (lane_col _ q)

theorem out5 (t : Fin cfg0.N) (r : Fin 512) (q : Fin (2 * 128)) :
    (outsAt0 m c t.val t.isLt).1 (ix2 r q) = ((dO o2 p g d (ix2 (line t.val r) (col (t.val / 4) q)) : ℝ) : EReal) := by
  rw [o_at m c hm]
  by_cases h : t.val % 4 = 0
  · rw [outsAt0_A m c t h]
    frame_out
    canon_tiles x h
    all_goals
      idx_vars x
      have hp : r = x0 := Fin.ext h0
      subst hp
      change (q : ℕ) = _ at h1
      have hl : lane q = x1 := Fin.ext (by simp only [lane]; omega)
      try rw [half5]
      rw [hl]
      exact pay4 _ _ _ _ _ _ _ _ _ _ _ _ (fun k => ld0 m c hm t _ _ _ k q (by omega)) (fun k => ld1 m c hm t _ _ _ k q (by omega))
        (fun k => ld2 m c hm t _ _ _ k q (by omega)) (fun k => ld4 m c hm t _ _ _ k q (by omega)) (ld3 m c hm t)
  · rw [outsAt0_B m c t h]
    frame_out
    canon_tiles x h
    all_goals
      idx_vars x
      have hp : r = x0 := Fin.ext h0
      subst hp
      change (q : ℕ) = _ at h1
      have hl : lane q = x1 := Fin.ext (by simp only [lane]; omega)
      try rw [half5]
      rw [hl]
      exact pay4 _ _ _ _ _ _ _ _ _ _ _ _ (fun k => ld0 m c hm t _ _ _ k q (by omega)) (fun k => ld1 m c hm t _ _ _ k q (by omega))
        (fun k => ld2 m c hm t _ _ _ k q (by omega)) (fun k => ld4 m c hm t _ _ _ k q (by omega)) (ld3 m c hm t)

theorem out6 (t : Fin cfg0.N) (r : Fin 512) (q : Fin (2 * 128)) :
    (outsAt0 m c t.val t.isLt).2.1 (ix2 r q) = ((dHg o2 p g d (ix2 (line t.val r) (col (t.val / 4) q)) : ℝ) : EReal) := by
  rw [hg_at m c hm]
  by_cases h : t.val % 4 = 0
  · rw [outsAt0_A m c t h]
    frame_out
    canon_tiles x h
    all_goals
      idx_vars x
      have hp : r = x0 := Fin.ext h0
      subst hp
      change (q : ℕ) = _ at h1
      have hl : lane q = x1 := Fin.ext (by simp only [lane]; omega)
      try rw [half6]
      rw [hl]
      exact pay19 _ _ _ _ _ _ _ _ _ _ _ _ (fun k => ld0 m c hm t _ _ _ k q (by omega)) (fun k => ld1 m c hm t _ _ _ k q (by omega))
        (fun k => ld2 m c hm t _ _ _ k q (by omega)) (fun k => ld4 m c hm t _ _ _ k q (by omega)) (ld3 m c hm t)
  · rw [outsAt0_B m c t h]
    frame_out
    canon_tiles x h
    all_goals
      idx_vars x
      have hp : r = x0 := Fin.ext h0
      subst hp
      change (q : ℕ) = _ at h1
      have hl : lane q = x1 := Fin.ext (by simp only [lane]; omega)
      try rw [half6]
      rw [hl]
      exact pay19 _ _ _ _ _ _ _ _ _ _ _ _ (fun k => ld0 m c hm t _ _ _ k q (by omega)) (fun k => ld1 m c hm t _ _ _ k q (by omega))
        (fun k => ld2 m c hm t _ _ _ k q (by omega)) (fun k => ld4 m c hm t _ _ _ k q (by omega)) (ld3 m c hm t)

/-- One point's share of the gain's gradient. -/
def dgPoint (o2 : S2x2048x512.Idx → ℝ) (p : S2048x3328.Idx → ℝ) (d : S2048x1024.Idx → ℝ) (t : Fin cfg0.N) (q : Fin (2 * 128)) : ℝ :=
  ∑ r, dgAt o2 p d (line t.val r) (col (t.val / 4) q)

omit hm in
/-- Stores that cover an entry hide what was stored before them. -/
theorem canon_hide (p₁ p₂ : View.Piece (Elt Ideal) S1x1x256 .f32) (L : List (View.Piece (Elt Ideal) S1x1x256 .f32)) (y : S1x1x256.Idx)
    (h : y ∈ p₁.1.set ∨ y ∈ p₂.1.set) : View.canon (p₁ :: p₂ :: L) y = View.canon [p₁, p₂] y := by
  by_cases h1 : y ∈ p₁.1.set
  · obtain ⟨r, w⟩ := p₁
    obtain ⟨x, rfl⟩ := r.exists_idx_of_mem h1
    exact (View.canon_cons_emb r w _ x).trans (View.canon_cons_emb r w _ x).symm
  · rw [View.canon_cons_of_not_mem _ _ h1, View.canon_cons_of_not_mem _ _ h1]
    obtain ⟨r, w⟩ := p₂
    obtain ⟨x, rfl⟩ := r.exists_idx_of_mem (h.resolve_left h1)
    exact (View.canon_cons_emb r w _ x).trans (View.canon_cons_emb r w _ x).symm

omit hm in
theorem ld_acc (X : Vec Ideal S1x1x256 .f32) (e : ℕ) (inb : ∀ a, (![0, 0, e] : Fin 3 → ℕ) a + (![1, 1, 128] : Fin 3 → ℕ) a ≤ S1x1x256.size a) (k : Fin 128)
    (q : Fin (2 * 128)) (hq : q.val = e + k.val) : View.ld X (Rect.unit ![0, 0, e] ![1, 1, 128] inb) (ix3 0 0 k) = X (ix3 0 0 q) := by
  refine congrArg X ?_
  blk_ext [] <;> (refine (Rect.idx_unit_val _ _ _ _ _).trans ?_; dsimp [ix3]; try omega)

/-- One piece of the accumulator after a point. -/
theorem piece7 (t : Fin cfg0.N) (X : Vec Ideal S1x1x256 .f32) (e : ℕ) (k : Fin 128) (q : Fin (2 * 128)) (hq : q.val = e + k.val) (he : e = q.val / 128 * 128)
    (inb0 inb1 inb2 inb4 inb7) :
    k0_pay5 (F := Ideal) (k0_pay17 (F := Ideal) (View.ld (iblk m c 0 t) (Rect.unit ![0, 0, e] ![1, 512, 128] inb0)) (View.ld (iblk m c 1 t) (Rect.unit ![0, 0, e] ![1, 512, 128] inb1)))
      (View.ld (iblk m c 2 t) (Rect.unit ![0, e] ![512, 128] inb2)) (View.ld (iblk m c 4 t) (Rect.unit ![0, e] ![512, 128] inb4))
      (k0_pay18 (F := Ideal) (View.ld (iblk m c 2 t) (Rect.unit ![0, e] ![512, 128] inb2)))
      (View.ld X (Rect.unit ![0, 0, e] ![1, 1, 128] inb7)) (ix3 0 0 k) = X (ix3 0 0 q) + ((dgPoint o2 p d t q : ℝ) : EReal) := by
  rw [pay5 _ _ _ _ _ _ _ _ _ k (fun r k => ld0 m c hm t _ _ r k q he) (fun r k => ld1 m c hm t _ _ r k q he)
    (fun r k => ld2 m c hm t _ _ r k q he) (fun r k => ld4 m c hm t _ _ r k q he), ld_acc X e inb7 k q hq]
  have hl : lane q = k := Fin.ext (by simp only [lane]; omega)
  refine congrArg (fun z : ℝ => X (ix3 0 0 q) + (z : EReal)) (Finset.sum_congr rfl fun r _ => ?_)
  rw [dgAt, lane_col, hl]
  rfl

theorem first7 (t : Fin cfg0.N) (h : t.val % 4 = 0) (q : Fin (2 * 128)) : (outsAt0 m c t.val t.isLt).2.2 (ix3 0 0 q) = 0 + ((dgPoint o2 p d t q : ℝ) : EReal) := by
  rw [outsAt0_A m c t h]
  frame_out
  simp (disch := first | rfl | decide | (intro a; fin_cases a <;> rfl)) only [View.readCov_skip, View.readCov_fill]
  refine (canon_hide _ _ _ _ ?_).trans ?_
  · have := q.isLt
    rcases Nat.lt_or_ge q.val 128 with hq | hq
    · right
      dsimp only
      rw [Rect.mem_set_unit]
      intro a
      fin_cases a <;> (dsimp [ix3]; omega)
    · left
      dsimp only
      rw [Rect.mem_set_unit]
      intro a
      fin_cases a <;> (dsimp [ix3]; omega)
  canon_tiles x h
  all_goals
    idx_vars x
    obtain rfl : x0 = 0 := Subsingleton.elim _ _
    obtain rfl : x1 = 0 := Subsingleton.elim _ _
    change (q : ℕ) = _ at h2
    try rw [half7]
    refine (piece7 m c hm t (k0_pay6 (F := Ideal)) _ x2 q (by omega) (by omega) _ _ _ _ _).trans (congrArg (· + _) ?_)
    pointwise [k0_pay6]

theorem next7 (t : Fin cfg0.N) (h : ¬ t.val % 4 = 0) (q : Fin (2 * 128)) : (outsAt0 m c t.val t.isLt).2.2 (ix3 0 0 q)
    = (outsAt0 m c (t.val - 1) (Nat.lt_of_le_of_lt (Nat.sub_le _ _) t.isLt)).2.2 (ix3 0 0 q) + ((dgPoint o2 p d t q : ℝ) : EReal) := by
  rw [outsAt0_B m c t h]
  frame_out
  canon_tiles x h
  all_goals
    idx_vars x
    obtain rfl : x0 = 0 := Subsingleton.elim _ _
    obtain rfl : x1 = 0 := Subsingleton.elim _ _
    change (q : ℕ) = _ at h2
    try rw [half7]
    exact piece7 m c hm t _ _ x2 q (by omega) (by omega) _ _ _ _ _

theorem o_final : (dats m 0 c).arrAt 5 cfg0.N = lift (dO o2 p g d) := by
  refine (dats m 0 c).arrAt_eq_of_covers 5 _ (by decide +kernel) fun t _ y => ?_
  rw [after0_5]
  idx_vars y
  blk_simp
  refine (out5 m c hm t y0 y1).trans (congrArg (lift (dO o2 p g d)) ?_)
  blk_ext [idx t, line, col]

theorem hg_final : (dats m 0 c).arrAt 6 cfg0.N = lift (dHg o2 p g d) := by
  refine (dats m 0 c).arrAt_eq_of_covers 6 _ (by decide +kernel) fun t _ y => ?_
  rw [after0_6]
  idx_vars y
  blk_simp
  refine (out6 m c hm t y0 y1).trans (congrArg (lift (dHg o2 p g d)) ?_)
  blk_ext [idx t, line, col]

/-- One point's share of the gain's gradient, as an array. -/
def dgTile (o2 : S2x2048x512.Idx → ℝ) (p : S2048x3328.Idx → ℝ) (d : S2048x1024.Idx → ℝ) (t : Fin cfg0.N) (i : S1x1x256.Idx) : EReal :=
  ((dgPoint o2 p d t (i 2) : ℝ) : EReal)

theorem first7' (t : Fin cfg0.N) (h : t.val % 4 = 0) (i : S1x1x256.Idx) : (outsAt0 m c t.val t.isLt).2.2 i = 0 + dgTile o2 p d t i := by
  idx_vars i
  obtain rfl : i0 = 0 := Subsingleton.elim _ _
  obtain rfl : i1 = 0 := Subsingleton.elim _ _
  exact first7 m c hm t h i2

theorem next7' (t : Fin cfg0.N) (h : ¬ t.val % 4 = 0) (i : S1x1x256.Idx) : (outsAt0 m c t.val t.isLt).2.2 i
    = (outsAt0 m c (t.val - 1) (Nat.lt_of_le_of_lt (Nat.sub_le _ _) t.isLt)).2.2 i + dgTile o2 p d t i := by
  idx_vars i
  obtain rfl : i0 = 0 := Subsingleton.elim _ _
  obtain rfl : i1 = 0 := Subsingleton.elim _ _
  exact next7 m c hm t h i2

omit hm in
theorem sum_points (j : Fin 2) (q : Fin (2 * 128)) :
    ∑ k : Fin 4, dgPoint o2 p d ⟨4 * j.val + k.val, by show _ < 8; omega⟩ q = dG o2 p d (ix3 j 0 q) := by
  refine Eq.trans ?_ (sum_lines fun r => dgAt o2 p d r (pairCol j q))
  refine Finset.sum_congr rfl fun k _ => Finset.sum_congr rfl fun r _ => ?_
  refine congrArg₂ (dgAt o2 p d) (Fin.ext ?_) (Fin.ext ?_)
  · simp only [line]; omega
  · simp only [col, pairCol]; omega

theorem g_final : (dats m 0 c).arrAt 7 cfg0.N = lift (dG o2 p d) := by
  refine (dats m 0 c).arrAt_eq_of_covers 7 _ (by decide +kernel) fun t hf y => ?_
  rw [after0_7]
  idx_vars y
  obtain rfl : y0 = 0 := Subsingleton.elim _ _
  obtain rfl : y1 = 0 := Subsingleton.elim _ _
  blk_simp
  refine (Pipeline.eq_sum_fin_of_reset_step_apply_of_flush (f := fun n h => (outsAt0 m c n h).2.2) 4 (fun _ => 0) (dgTile o2 p d)
    (first7' m c hm) (next7' m c hm) t ((flush0_7 t).mp hf) (ix3 0 0 y2)).trans ?_
  simp only [dgTile, coe_sum, zero_add]
  have ht : t.val < 8 := t.isLt
  refine (congrArg (fun z : ℝ => (z : EReal)) (sum_points (⟨t.val / 4, by omega⟩ : Fin 2) y2)).trans ?_
  refine congrArg (lift (dG o2 p d)) (a₁ := ix3 ⟨t.val / 4, by omega⟩ 0 y2) ?_
  blk_ext [idx t]

end Cert.GateBwd

end
-- ==== Proof.GateBwdReference.lean ====
module

public import proofs.«01_k».proof.Proof.Gen.Reference6Ideal.Read
public import proofs.«01_k».proof.Proof.GateBwd

/-! The recurrence's norm and output gate, backward: what the reference computes, over real arguments. -/

@[expose] public section

set_option maxRecDepth 16384

noncomputable section

namespace Cert.GateBwd

open Idealize.ShloMosaic Idealize.ShloMosaic.TcCoe Idealize.SL.Sem
open Cert.Lift Cert.GateNorm
open Cert.Reference6Ideal Cert.Reference6Ideal.Gen Cert.Reference6Ideal.Read

variable (o2 : S2x2048x512.Idx → ℝ) (p : S2048x3328.Idx → ℝ) (g : S1x128.Idx → ℝ) (d : S2048x1024.Idx → ℝ)

/-- A head's row: the sum of the directions, the gate's argument, the cotangent. -/
def headO (r : Fin 2048) (h : Fin 4) (k : Fin 128) : ℝ := oSum o2 r (headCol h k)
def headH (r : Fin 2048) (h : Fin 4) (k : Fin 128) : ℝ := p (ix2 r (gateCol (headCol h k)))
def headD (r : Fin 2048) (h : Fin 4) (k : Fin 128) : ℝ := d (ix2 r (catCol (headCol h k)))

theorem ref_sum (r : Fin 2048) (l : Fin 512) : val_main_v5 (F := Ideal) (lift o2) (ix2 r l) = ((oSum o2 r l : ℝ) : EReal) := by
  pointwise [val_main_v5, val_main_v4, val_main_v3, val_main_v2, val_main_v1]
  simp only [lift, ← EReal.coe_add]
  rfl

theorem ref_row (r : Fin 2048) (h : Fin 4) (k : Fin 128) : val_main_v7 (F := Ideal) (lift o2) (ix3 r h k) = ((headO o2 r h k : ℝ) : EReal) := by
  rw [val_main_v7_apply]
  refine (congrArg (val_main_v5 (F := Ideal) (lift o2)) (?_ : _ = ix2 r (headCol h k))).trans (ref_sum o2 r (headCol h k))
  funext a; apply Fin.ext
  match a with
  | ⟨0, _⟩ => simp only [idx_main_v7, ix2, ix3, headCol]; dsimp; omega
  | ⟨1, _⟩ => simp only [idx_main_v7, ix2, ix3, headCol]; dsimp; omega

theorem ref_ms (r : Fin 2048) (h : Fin 4) (l : Fin 1) : val_main_v14 (F := Ideal) (lift o2) (ix3 r h l) = ((ms (headO o2 r h) : ℝ) : EReal) := by
  pointwise [val_main_v14, val_main_v13, val_main_v12, val_main_v11, val_main_v10, val_main_v9, val_main_v8, val_main_cst, val_main_cst_0, val_main_cst_1]
  simp only [ref_row, ofBits_128, ofBits_eps, ← EReal.coe_mul, coe_sum, zero_add, div_real _ (by norm_num : (128 : ℝ) ≠ 0), ← EReal.coe_add]
  rfl

theorem ref_rstd (r : Fin 2048) (h : Fin 4) (l : Fin 1) : val_main_v15 (F := Ideal) (lift o2) (ix3 r h l) = ((rstd (headO o2 r h) : ℝ) : EReal) := by
  pointwise [val_main_v15]
  rw [ref_ms]; exact rsqrt_real (ms_pos _)

theorem ref_unit (r : Fin 2048) (h : Fin 4) (k : Fin 128) :
    val_main_v20 (F := Ideal) (lift o2) (ix3 r h k) = ((headO o2 r h k * rstd (headO o2 r h) : ℝ) : EReal) := by
  pointwise [val_main_v20, val_main_v19]
  simp only [ref_row, ref_rstd, ← EReal.coe_mul]

theorem ref_gain (r : Fin 2048) (h : Fin 4) (k : Fin 128) : val_main_v22 (F := Ideal) (lift g) (ix3 r h k) = ((rowG g k : ℝ) : EReal) := by
  pointwise [val_main_v22, val_main_v21, val_main_v0]
  rfl

theorem ref_norm (r : Fin 2048) (l : Fin (4 * 128)) : val_main_v24 (F := Ideal) (lift o2) (lift g) (ix2 r l)
    = ((rowO o2 r l (lane l) * rstd (rowO o2 r l) * rowG g (lane l) : ℝ) : EReal) := by
  rw [val_main_v24_apply]
  refine (congrArg (val_main_v23 (F := Ideal) (lift o2) (lift g)) (?_ : _ = ix3 r (headOf l) (lane l))).trans ?_
  · funext a; apply Fin.ext
    match a with
    | ⟨0, _⟩ => simp only [idx_main_v24, ix2, ix3, headOf, lane]; dsimp; omega
    | ⟨1, _⟩ => simp only [idx_main_v24, ix2, ix3, headOf, lane]; dsimp; omega
    | ⟨2, _⟩ => simp only [idx_main_v24, ix2, ix3, headOf, lane]; dsimp; omega
  · pointwise [val_main_v23]
    rw [ref_unit, ref_gain, ← EReal.coe_mul]
    rfl

theorem ref_sig (r : Fin 2048) (l : Fin (4 * 128)) :
    val_main_v25_2 (F := Ideal) (lift p) (ix2 r l) = ((GateNorm.sig (p (ix2 r (gateCol l))) : ℝ) : EReal) := by
  pointwise [val_main_v25_2, val_main_v6, val_main_call0_v4, val_main_call0_v3, val_main_call0_v2, val_main_call0_v1, val_main_call0_v0,
    val_main_call0_cst, val_main_call0_cst_0]
  simp only [lift, sigmoid_real']
  rfl

theorem ref_silu (r : Fin 2048) (l : Fin (4 * 128)) :
    val_main_v25_0 (F := Ideal) (lift p) (ix2 r l) = ((p (ix2 r (gateCol l)) * GateNorm.sig (p (ix2 r (gateCol l))) : ℝ) : EReal) := by
  pointwise [val_main_v25_0, val_main_v6]
  rw [ref_sig, lift, ← EReal.coe_mul]
  rfl

theorem ref_sig' (r : Fin 2048) (l : Fin (4 * 128)) : val_main_v25_1 (F := Ideal) (lift p) (ix2 r l)
    = ((GateNorm.sig (p (ix2 r (gateCol l))) * (1 - GateNorm.sig (p (ix2 r (gateCol l)))) : ℝ) : EReal) := by
  pointwise [val_main_v25_1, val_main_call0_v7, val_main_call0_v6, val_main_call0_cst_1]
  rw [ref_sig, ← EReal.coe_one, ← EReal.coe_sub, ← EReal.coe_mul]

theorem ref_hg (r : Fin 2048) (l : Fin (4 * 128)) :
    val_main_v53 (F := Ideal) (lift o2) (lift p) (lift g) (lift d) (ix2 r l) = ((dHg o2 p g d (ix2 r l) : ℝ) : EReal) := by
  pointwise [val_main_v53, val_main_v30, val_main_call1_v2, val_main_call1_v1, val_main_call1_v0, val_main_v28, val_main_v27, val_main_v6]
  rw [ref_norm, ref_sig, ref_sig']
  simp only [lift, ← EReal.coe_mul, ← EReal.coe_add]
  refine congrArg (fun z : ℝ => (z : EReal)) ?_
  have e : dHg o2 p g d (ix2 r l) = d (ix2 r (catCol l)) * (rowO o2 r l (lane l) * rstd (rowO o2 r l) * rowG g (lane l))
      * GateNorm.sig (p (ix2 r (gateCol l))) * (1 + p (ix2 r (gateCol l)) * (1 - GateNorm.sig (p (ix2 r (gateCol l))))) := by
    show dGate (rowO o2 r l) (rowG g) (rowH p r l) (rowD d r l) (lane l) = _
    simp only [dGate, rowH, rowD, inHead_lane]
  rw [e]
  set A := rowO o2 r l (lane l) * rstd (rowO o2 r l) * rowG g (lane l)
  set h := p (ix2 r (gateCol l))
  show A * d (ix2 r (catCol l)) * GateNorm.sig h + h * (A * d (ix2 r (catCol l))) * (GateNorm.sig h * (1 - GateNorm.sig h)) = _
  ring

theorem ref_passed (r : Fin 2048) (h : Fin 4) (k : Fin 128) :
    val_main_v31 (F := Ideal) (lift p) (lift d) (ix3 r h k) = ((passed (headH p r h) (headD d r h) k : ℝ) : EReal) := by
  rw [val_main_v31_apply]
  refine (congrArg (val_main_v29 (F := Ideal) (lift p) (lift d)) (?_ : _ = ix2 r (headCol h k))).trans ?_
  · funext a; apply Fin.ext
    match a with
    | ⟨0, _⟩ => simp only [idx_main_v31, ix2, ix3, headCol]; dsimp; omega
    | ⟨1, _⟩ => simp only [idx_main_v31, ix2, ix3, headCol]; dsimp; omega
  · pointwise [val_main_v29, val_main_v27]
    rw [ref_silu, lift, ← EReal.coe_mul]
    refine congrArg (fun z : ℝ => (z : EReal)) ?_
    rw [passed, mul_assoc]
    rfl

theorem ref_slope (r : Fin 2048) (h : Fin 4) : val_main_v46 (F := Ideal) (lift o2) (lift p) (lift g) (lift d) (ix2 r h)
    = ((slope (headO o2 r h) (rowG g) (passed (headH p r h) (headD d r h)) : ℝ) : EReal) := by
  pointwise [val_main_v46, val_main_v45, val_main_v44, val_main_v43, val_main_v40, val_main_v39, val_main_v38, val_main_v36, val_main_v35,
    val_main_v21, val_main_v0, val_main_v18, val_main_v17, val_main_v16, val_main_cst_2, val_main_cst_5, val_main_cst_6, val_main_cst_7]
  have hm : ms (headO o2 r h) ≠ 0 := (ms_pos _).ne'
  simp only [ref_ms, ref_rstd, ref_row, ref_passed, lift, ofBits_128, ofBits_neg_half, ← EReal.coe_mul, coe_sum, zero_add, div_real _ hm,
    div_real _ (by norm_num : (128 : ℝ) ≠ 0)]
  rw [Fin.sum_univ_one]
  rfl

theorem ref_dx (r : Fin 2048) (h : Fin 4) (k : Fin 128) : val_main_v51 (F := Ideal) (lift o2) (lift p) (lift g) (lift d) (ix3 r h k)
    = ((dxRow (headO o2 r h) (rowG g) (passed (headH p r h) (headD d r h)) k : ℝ) : EReal) := by
  pointwise [val_main_v51, val_main_v50, val_main_v49, val_main_v48, val_main_v47, val_main_v42, val_main_v41, val_main_v36, val_main_v35,
    val_main_v21, val_main_v0]
  simp only [ref_rstd, ref_row, ref_passed, ref_slope, lift, ← EReal.coe_mul, ← EReal.coe_add]
  exact congrArg (fun z : ℝ => (z : EReal)) (dxRow_eq (headO o2 r h) (rowG g) (passed (headH p r h) (headD d r h)) k)

theorem ref_o (r : Fin 2048) (l : Fin (4 * 128)) :
    val_main_v52 (F := Ideal) (lift o2) (lift p) (lift g) (lift d) (ix2 r l) = ((dO o2 p g d (ix2 r l) : ℝ) : EReal) := by
  rw [val_main_v52_apply]
  refine (congrArg (val_main_v51 (F := Ideal) (lift o2) (lift p) (lift g) (lift d)) (?_ : _ = ix3 r (headOf l) (lane l))).trans (ref_dx o2 p g d r (headOf l) (lane l))
  funext a; apply Fin.ext
  match a with
  | ⟨0, _⟩ => simp only [idx_main_v52, ix2, ix3, headOf, lane]; dsimp; omega
  | ⟨1, _⟩ => simp only [idx_main_v52, ix2, ix3, headOf, lane]; dsimp; omega
  | ⟨2, _⟩ => simp only [idx_main_v52, ix2, ix3, headOf, lane]; dsimp; omega

theorem ref_dg (h : Fin 4) (k : Fin 128) : val_main_v37 (F := Ideal) (lift o2) (lift p) (lift d) (ix2 h k)
    = ((∑ r, dgTerm (headO o2 r h) (headH p r h) (headD d r h) k : ℝ) : EReal) := by
  pointwise [val_main_v37, val_main_v34, val_main_v33, val_main_v32, val_main_cst_3, val_main_cst_4]
  simp only [ref_unit, ref_passed, ← EReal.coe_mul, coe_sum, zero_add]
  rw [Fin.sum_univ_one]
  exact congrArg (fun z : ℝ => (z : EReal)) (Finset.sum_congr rfl fun r _ => mul_comm _ _)

theorem ref_g (j : Fin 2) (z : Fin 1) (q : Fin (2 * 128)) :
    val_main_v54 (F := Ideal) (lift o2) (lift p) (lift d) (ix3 j z q) = ((dG o2 p d (ix3 j z q) : ℝ) : EReal) := by
  obtain rfl : z = 0 := Subsingleton.elim _ _
  rw [val_main_v54_apply]
  refine (congrArg (val_main_v37 (F := Ideal) (lift o2) (lift p) (lift d)) (?_ : _ = ix2 (headOf (pairCol j q)) (lane (pairCol j q)))).trans
    (ref_dg o2 p d (headOf (pairCol j q)) (lane (pairCol j q)))
  funext a; apply Fin.ext
  match a with
  | ⟨0, _⟩ => simp only [idx_main_v54, ix2, ix3, headOf, lane, pairCol]; dsimp; omega
  | ⟨1, _⟩ => simp only [idx_main_v54, ix2, ix3, headOf, lane, pairCol]; dsimp; omega

theorem o_ref : val_main_v52 (F := Ideal) (lift o2) (lift p) (lift g) (lift d) = lift (dO o2 p g d) := by
  funext i
  idx_vars i
  exact ref_o o2 p g d i0 i1

theorem hg_ref : val_main_v53 (F := Ideal) (lift o2) (lift p) (lift g) (lift d) = lift (dHg o2 p g d) := by
  funext i
  idx_vars i
  exact ref_hg o2 p g d i0 i1

theorem g_ref : val_main_v54 (F := Ideal) (lift o2) (lift p) (lift d) = lift (dG o2 p d) := by
  funext i
  idx_vars i
  exact ref_g o2 p d i0 i1 i2

end Cert.GateBwd

end
-- ==== Proof.GateBwdClaim.lean ====
/- The statement about the recurrence's norm and output gate, backward: from finite arguments the kernel and the
   reference end holding the same arrays. -/
module

public import proofs.«01_k».proof.Defs
public import proofs.«01_k».proof.Proof.GateBwdReference
public import proofs.«01_k».proof.Proof.Gen.Reference6Ideal.Run
public import proofs.«01_k».proof.Proof.Gen.Pre_finite6
public import Idealize.ShloMosaic.Lib.Claim

@[expose] public section

noncomputable section

namespace Cert.GateBwd

open Idealize.ShloMosaic Idealize.SL.Sem Cert.Lift

/-- Under the precondition each argument is an array of reals. -/
theorem args_real (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) :
    ∃ os ps gs ds, m ((c.tc : Thread Cert.Kernel6Ideal.nD Cert.Kernel6Ideal.τ).loc Cert.Kernel6Ideal.main_arg0) = lift os
      ∧ m ((c.tc : Thread Cert.Kernel6Ideal.nD Cert.Kernel6Ideal.τ).loc Cert.Kernel6Ideal.main_arg1) = lift ps
      ∧ m ((c.tc : Thread Cert.Kernel6Ideal.nD Cert.Kernel6Ideal.τ).loc Cert.Kernel6Ideal.main_arg2) = lift gs
      ∧ m ((c.tc : Thread Cert.Kernel6Ideal.nD Cert.Kernel6Ideal.τ).loc Cert.Kernel6Ideal.main_arg3) = lift ds := by
  obtain ⟨ho, hp, hg, hd⟩ := h c
  obtain ⟨os, hos⟩ := exists_real _ _ ho
  obtain ⟨ps, hps⟩ := exists_real _ _ hp
  obtain ⟨gs, hgs⟩ := exists_real _ _ hg
  obtain ⟨ds, hds⟩ := exists_real _ _ hd
  exact ⟨os, ps, gs, ds, hos, hps, hgs, hds⟩

theorem frame_reference : Cert.quiescent_Reference6Ideal := by
  intro m ρ _
  exact (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

theorem algebraic : Cert.algebraic_Kernel6Ideal_Reference6Ideal_pre_finite6 := by
  intro m g m' g' hpre hagree
  choose os ps gs ds ho hp hg hd using args_real m hpre
  refine ⟨fun c => lift (dO (os c) (ps c) (gs c) (ds c)), fun c => lift (dHg (os c) (ps c) (gs c) (ds c)), fun c => lift (dG (os c) (ps c) (ds c)), ?_, ?_⟩
  · refine (θ_run Cert.Kernel6Ideal.defs _ _).mono (fun r h c => ?_) (Cert.Kernel6Ideal.Value.run_blocks (F := Ideal) m g)
    obtain ⟨h0, h1, h2, h3⟩ := h c
    have hm : Args m c (os c) (ps c) (gs c) (ds c) := ⟨ho c, hp c, hg c, hd c⟩
    exact ⟨h0.trans (o_final m c hm), h1.trans (hg_final m c hm), h2.trans (g_final m c hm), h3⟩
  · refine (θ_run Cert.Reference6Ideal.defs _ _).mono (fun r h c => ?_) (Cert.Reference6Ideal.Value.run (F := Ideal) m' g')
    obtain ⟨h0, h1, h2, h3⟩ := h c
    obtain ⟨a0, a1, a2, a3⟩ := hagree c
    refine ⟨h0.trans ?_, h1.trans ?_, h2.trans ?_, h3⟩
    · refine (Cert.Reference6Ideal.Read.val_main_v52_eq m' c).trans ?_
      rw [a0, a1, a2, a3, ho, hp, hg, hd]
      exact o_ref _ _ _ _
    · refine (Cert.Reference6Ideal.Read.val_main_v53_eq m' c).trans ?_
      rw [a0, a1, a2, a3, ho, hp, hg, hd]
      exact hg_ref _ _ _ _
    · refine (Cert.Reference6Ideal.Read.val_main_v54_eq _ _ _).trans ?_
      rw [a0, a1, a3, ho, hp, hd]
      exact g_ref _ _ _

end Cert.GateBwd

end
-- ==== Proof.ConvBwdRun.lean ====
module

public import proofs.«01_k».proof.Proof.Gen.Kernel7Ideal.Frame
public import Idealize.ShloMosaic.Lib.Pipeline.Value

@[expose] public section

noncomputable section

/-! The run of the convolution's backward call, with its six result arrays named. -/

namespace Cert.ConvBwd

open Cert.Kernel7Ideal Cert.Kernel7Ideal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- After the run the six results are the arrays that the pipeline's windows have written back, and
    the four arguments are as they were. -/
theorem run_named : θ_run defs (onTc (τ := τ) (main (F := F))) ⟨m, fun _ => 0, ρ⟩ fun r => ∀ c : Dev nD,
      (r.2.mem ((c : Thread nD τ).loc main_v3_0) = (dats m 0 c).arrAt 7 cfg0.N
      ∧ r.2.mem ((c : Thread nD τ).loc main_v3_1) = (dats m 0 c).arrAt 8 cfg0.N
      ∧ r.2.mem ((c : Thread nD τ).loc main_v3_2) = (dats m 0 c).arrAt 9 cfg0.N
      ∧ r.2.mem ((c : Thread nD τ).loc main_v3_3) = (dats m 0 c).arrAt 10 cfg0.N
      ∧ r.2.mem ((c : Thread nD τ).loc main_v3_4) = (dats m 0 c).arrAt 11 cfg0.N
      ∧ r.2.mem ((c : Thread nD τ).loc main_v3_5) = (dats m 0 c).arrAt 12 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_main m ρ)
  refine ⟨⟨(h c).1 7, (h c).1 8, (h c).1 9, (h c).1 10, (h c).1 11, (h c).1 12⟩, ?_, ?_, ?_, ?_⟩
  · exact ((h c).2 main_arg0 (Pipeline.mem_restRefs_of main_arg0 (by decide) (by decide))).trans
      (V_main_arg0 m c)
  · exact ((h c).2 main_arg1 (Pipeline.mem_restRefs_of main_arg1 (by decide) (by decide))).trans
      (V_main_arg1 m c)
  · exact ((h c).1 5).trans (((dats m 0 c).arrAt_in 5 rfl _).trans
      ((A_eq m c 5).trans (V_main_arg2 m c)))
  · exact ((h c).2 main_arg3 (Pipeline.mem_restRefs_of main_arg3 (by decide) (by decide))).trans
      (V_main_arg3 m c)

end Cert.ConvBwd
-- ==== Proof.ConvMath.lean ====
module

public import proofs.«01_k».proof.Proof.Lift

/-! One column of the width-3 convolution over 2048 positions, the gate's activation, and their gradients, over the reals. -/

@[expose] public section

set_option maxRecDepth 16384

noncomputable section

namespace Cert.Conv

open Idealize.ShloMosaic Idealize.ShloMosaic.TcCoe Idealize.SL.Sem
open Cert.Lift

/-- The column's entry one position earlier, zero before the first. -/
def prev (u : Fin 2048 → ℝ) (r : Fin 2048) : ℝ := if r.val = 0 then 0 else u ⟨(r.val + 2048 - 1) % 2048, Nat.mod_lt _ (by norm_num)⟩

/-- The column's entry one position later, zero after the last. -/
def next (u : Fin 2048 → ℝ) (r : Fin 2048) : ℝ := if r.val = 2047 then 0 else u ⟨(r.val + 2048 - 2047) % 2048, Nat.mod_lt _ (by norm_num)⟩

/-- The convolution of one column: bias and three taps. -/
def conv (u : Fin 2048 → ℝ) (w : Fin 3 → ℝ) (b : ℝ) (r : Fin 2048) : ℝ := b + prev u r * w 0 + u r * w 1 + next u r * w 2

/-- The logistic function. -/
def sig (x : ℝ) : ℝ := 1 / (1 + Real.exp (-x))

/-- The gate's activation times the value. -/
def act (g v : ℝ) : ℝ := g * sig g * v

theorem one_add_exp_ne (x : ℝ) : (1 + Real.exp (-x) : ℝ) ≠ 0 := (by have := Real.exp_pos (-x); positivity)

theorem sigmoid_real (z : ℝ) : Ideal.div 1 (1 + Ideal.exp (0 - (z : EReal))) = ((sig z : ℝ) : EReal) := by
  rw [← EReal.coe_zero, ← EReal.coe_sub, zero_sub, Ideal.exp_coe, ← EReal.coe_one, ← EReal.coe_add, div_real _ (one_add_exp_ne z)]
  rfl

theorem sigmoid_real' (z : ℝ) : Ideal.div 1 (1 + Ideal.exp (-(z : EReal))) = ((sig z : ℝ) : EReal) := by
  rw [← EReal.coe_neg, Ideal.exp_coe, ← EReal.coe_one, ← EReal.coe_add, div_real _ (one_add_exp_ne z)]
  rfl

/-- A choice by "this is position `n`". -/
theorem select_at (r : Fin 2048) (n : ℕ) (hn : n < 2048) (a b : EReal) :
    Scalar.select (IntOp.cmpi .eq (BitVec.ofNat 32 r.val) (BitVec.ofNat 32 n)) a b = if r.val = n then a else b := by
  have h : BitVec.ofNat 32 r.val = BitVec.ofNat 32 n ↔ r.val = n := by
    rw [← BitVec.toNat_inj, BitVec.toNat_ofNat, BitVec.toNat_ofNat]
    omega
  by_cases e : r.val = n
  · simp [Scalar.select, IntOp.cmpi, e]
  · have e' : (BitVec.ofNat 32 r.val == BitVec.ofNat 32 n) = false := beq_eq_false_iff_ne.mpr fun x => e (h.mp x)
    simp only [Scalar.select, IntOp.cmpi, e', if_neg e]
    rfl

theorem select_prev (r : Fin 2048) (U : Fin 2048 → ℝ) (w : ℝ) :
    Scalar.select (IntOp.cmpi .eq (BitVec.ofNat 32 r.val) 0#32) 0
      (((U ⟨(r.val + 2048 - 1) % 2048, Nat.mod_lt _ (by norm_num)⟩ * w : ℝ) : EReal)) = ((prev U r * w : ℝ) : EReal) := by
  rw [select_at r 0 (by norm_num), prev]
  split <;> simp

theorem select_next (r : Fin 2048) (U : Fin 2048 → ℝ) (w : ℝ) :
    Scalar.select (IntOp.cmpi .eq (BitVec.ofNat 32 r.val) 2047#32) 0
      (((U ⟨(r.val + 2048 - 2047) % 2048, Nat.mod_lt _ (by norm_num)⟩ * w : ℝ) : EReal)) = ((next U r * w : ℝ) : EReal) := by
  rw [select_at r 2047 (by norm_num), next]
  split <;> simp

theorem select_prev1 (r : Fin 2048) (U : Fin 2048 → ℝ) :
    Scalar.select (IntOp.cmpi .eq (BitVec.ofNat 32 r.val) 0#32) 0
      (((U ⟨(r.val + 2048 - 1) % 2048, Nat.mod_lt _ (by norm_num)⟩ : ℝ) : EReal)) = ((prev U r : ℝ) : EReal) := by
  rw [select_at r 0 (by norm_num), prev]
  split <;> simp

theorem select_next1 (r : Fin 2048) (U : Fin 2048 → ℝ) :
    Scalar.select (IntOp.cmpi .eq (BitVec.ofNat 32 r.val) 2047#32) 0
      (((U ⟨(r.val + 2048 - 2047) % 2048, Nat.mod_lt _ (by norm_num)⟩ : ℝ) : EReal)) = ((next U r : ℝ) : EReal) := by
  rw [select_at r 2047 (by norm_num), next]
  split <;> simp

/-- A column of the first half (the gate's) and of the second half (the value's). -/
def gateLane (l : Fin 2816) : Fin 5632 := ⟨l.val, by omega⟩
def valLane (l : Fin 2816) : Fin 5632 := ⟨2816 + l.val, by omega⟩

/-- Column `q` of block `t` of 256 columns. -/
def col (t : ℕ) (q : Fin 256) : Fin 2816 := ⟨t % 11 * 256 + q.val, by omega⟩

section
variable (u3 : Shape.Idx ⟨3, ![1, 2048, 5632]⟩ → ℝ) (w3 : Shape.Idx ⟨3, ![1, 3, 5632]⟩ → ℝ) (b2 : Shape.Idx ⟨2, ![1, 5632]⟩ → ℝ)

/-- The convolution's column `l`. -/
def convAt (l : Fin 5632) (r : Fin 2048) : ℝ := conv (fun k => u3 (ix3 0 k l)) (fun j => w3 (ix3 0 j l)) (b2 (ix2 0 l)) r

/-- The array with a row of zeros on each side, read at rows `r` and `r + 2`. -/
theorem padded_prev (r : Fin 2048) (l : Fin 5632) :
    (if _ : r.val < 1 then 0 else if h : r.val - 1 < 2048 then lift u3 (ix3 0 ⟨r.val - 1, h⟩ l) else 0)
      = ((prev (fun k => u3 (ix3 0 k l)) r : ℝ) : EReal) := by
  by_cases h : r.val = 0
  · rw [dif_pos (by omega), prev, if_pos h]; rfl
  · rw [dif_neg (by omega), dif_pos (by omega), prev, if_neg h]
    exact congrArg (lift u3) (congrArg (fun k => ix3 0 k l) (Fin.ext (by show r.val - 1 = (r.val + 2048 - 1) % 2048; omega)))

theorem padded_next (r : Fin 2048) (l : Fin 5632) :
    (if _ : 2 + r.val < 1 then 0 else if h : 2 + r.val - 1 < 2048 then lift u3 (ix3 0 ⟨2 + r.val - 1, h⟩ l) else 0)
      = ((next (fun k => u3 (ix3 0 k l)) r : ℝ) : EReal) := by
  rw [dif_neg (by omega)]
  by_cases h : r.val = 2047
  · rw [dif_neg (by omega), next, if_pos h]; rfl
  · rw [dif_pos (by omega), next, if_neg h]
    exact congrArg (lift u3) (congrArg (fun k => ix3 0 k l) (Fin.ext (by show 2 + r.val - 1 = (r.val + 2048 - 2047) % 2048; omega)))
end

/-! The gradient. -/

/-- The cotangents of the gate's and of the value's convolution, from the activation's. -/
def dGate (g v d : ℝ) : ℝ := d * v * sig g * (1 + g * (1 - sig g))
def dVal (g d : ℝ) : ℝ := d * g * sig g

/-- The gradients of a column, of its taps, of its bias, for the column `D` of cotangents. -/
def du (D : Fin 2048 → ℝ) (w : Fin 3 → ℝ) (r : Fin 2048) : ℝ := next D r * w 0 + D r * w 1 + prev D r * w 2
def tap0 (D u : Fin 2048 → ℝ) : ℝ := ∑ r, next D r * u r
def tap1 (D u : Fin 2048 → ℝ) : ℝ := ∑ r, D r * u r
def tap2 (D u : Fin 2048 → ℝ) : ℝ := ∑ r, prev D r * u r
def dw (D u : Fin 2048 → ℝ) (j : Fin 3) : ℝ := match j with | 0 => tap0 D u | 1 => tap1 D u | 2 => tap2 D u

/-- Shifting one factor back is shifting the other forward. -/
theorem sum_shift (a b : Fin 2048 → ℝ) : ∑ r, prev a r * b r = ∑ r, next b r * a r := by
  rw [Fin.sum_univ_succ (n := 2047), Fin.sum_univ_castSucc (n := 2047)]
  have h0 : prev a 0 = 0 := if_pos rfl
  have h1 : next b (Fin.last 2047) = 0 := if_pos rfl
  rw [h0, h1, zero_mul, zero_mul, zero_add, add_zero]
  refine Finset.sum_congr rfl fun i _ => ?_
  have hp : prev a i.succ = a i.castSucc := by
    rw [prev, if_neg (by simp)]
    exact congrArg a (Fin.ext (by show (i.succ.val + 2048 - 1) % 2048 = i.val; rw [Fin.val_succ]; omega))
  have hn : next b i.castSucc = b i.succ := by
    rw [next, if_neg (by show ¬ i.val = 2047; omega)]
    exact congrArg b (Fin.ext (by show (i.val + 2048 - 2047) % 2048 = i.succ.val; rw [Fin.val_succ]; omega))
  rw [hp, hn, mul_comm]

section
variable (u3 : Shape.Idx ⟨3, ![1, 2048, 5632]⟩ → ℝ) (w3 : Shape.Idx ⟨3, ![1, 3, 5632]⟩ → ℝ) (b2 : Shape.Idx ⟨2, ![1, 5632]⟩ → ℝ)
  (d3 : Shape.Idx ⟨3, ![1, 2048, 2816]⟩ → ℝ)

/-- The cotangent of column `l` of the gate's half and of the value's half of the convolution. -/
def dGateAt (l : Fin 2816) (r : Fin 2048) : ℝ := dGate (convAt u3 w3 b2 (gateLane l) r) (convAt u3 w3 b2 (valLane l) r) (d3 (ix3 0 r l))
def dValAt (l : Fin 2816) (r : Fin 2048) : ℝ := dVal (convAt u3 w3 b2 (gateLane l) r) (d3 (ix3 0 r l))

/-- The gradients of the two halves: of the activation's argument, of the taps, of the bias. -/
def duGate (i : Shape.Idx ⟨2, ![2048, 2816]⟩) : ℝ := du (dGateAt u3 w3 b2 d3 (i 1)) (fun j => w3 (ix3 0 j (gateLane (i 1)))) (i 0)
def duVal (i : Shape.Idx ⟨2, ![2048, 2816]⟩) : ℝ := du (dValAt u3 w3 b2 d3 (i 1)) (fun j => w3 (ix3 0 j (valLane (i 1)))) (i 0)
def dwGate (i : Shape.Idx ⟨2, ![3, 2816]⟩) : ℝ := dw (dGateAt u3 w3 b2 d3 (i 1)) (fun r => u3 (ix3 0 r (gateLane (i 1)))) (i 0)
def dwVal (i : Shape.Idx ⟨2, ![3, 2816]⟩) : ℝ := dw (dValAt u3 w3 b2 d3 (i 1)) (fun r => u3 (ix3 0 r (valLane (i 1)))) (i 0)
def dbGate (i : Shape.Idx ⟨2, ![1, 2816]⟩) : ℝ := ∑ r, dGateAt u3 w3 b2 d3 (i 1) r
def dbVal (i : Shape.Idx ⟨2, ![1, 2816]⟩) : ℝ := ∑ r, dValAt u3 w3 b2 d3 (i 1) r
end

end Cert.Conv

end
-- ==== Proof.ConvBwd.lean ====
module

public import proofs.«01_k».proof.Proof.Gen.Kernel7Ideal.Frame
public import proofs.«01_k».proof.Proof.ConvMath

/-! The feed-forward's convolution and gate, backward: what the kernel leaves in its results, over real arguments. -/

@[expose] public section

set_option maxRecDepth 16384

noncomputable section

namespace Cert.ConvBwd

open Idealize.ShloMosaic Idealize.ShloMosaic.TcCoe Idealize.SL.Sem
open Idealize.ShloMosaic.Pipeline (Dat)
open Cert.Lift Cert.Conv
open Cert.Kernel7Ideal Cert.Kernel7Ideal.Gen

section
variable (u : Vec Ideal S2048x256 .f32) (w : Vec Ideal S3x256 .f32) (b : Vec Ideal S1x256 .f32) (U : Fin 2048 → ℝ) (W : Fin 3 → ℝ) (B : ℝ)
  (r : Fin 2048) (q : Fin 256)

theorem pay10 (hu : ∀ k, u (ix2 k q) = ((U k : ℝ) : EReal)) (hw : ∀ j, w (ix2 j q) = ((W j : ℝ) : EReal)) (hb : b (ix2 0 q) = ((B : ℝ) : EReal)) :
    k0_pay10 (F := Ideal) u w b (ix2 r q) = ((conv U W B r : ℝ) : EReal) := by
  pointwise [k0_pay10, k0_pay6, k0_pay8, k0_pay9]
  simp only [hu, hw, hb, ← EReal.coe_mul, select_prev, select_next, ← EReal.coe_add]
  rfl

theorem pay16 (g d : Vec Ideal S2048x256 .f32) (G D : ℝ) (hg : g (ix2 r q) = ((G : ℝ) : EReal)) (hd : d (ix2 r q) = ((D : ℝ) : EReal))
    (hu : ∀ k, u (ix2 k q) = ((U k : ℝ) : EReal)) (hw : ∀ j, w (ix2 j q) = ((W j : ℝ) : EReal)) (hb : b (ix2 0 q) = ((B : ℝ) : EReal)) :
    k0_pay16 (F := Ideal) (k0_pay7 (F := Ideal) u) k0_pay9 g (k0_pay11 (F := Ideal) w) b (k0_pay12 (F := Ideal) u) (k0_pay13 (F := Ideal) w) d (ix2 r q)
      = ((dGate G (conv U W B r) D : ℝ) : EReal) := by
  pointwise [k0_pay16, k0_pay7, k0_pay9, k0_pay11, k0_pay12, k0_pay13, k0_pay14, k0_pay15, k0_pay8]
  simp only [hg, hd, hu, hw, hb, ofBits_one, sigmoid_real, ← EReal.coe_mul, select_prev, select_next, ← EReal.coe_add]
  simp only [← EReal.coe_one, ← EReal.coe_sub, ← EReal.coe_mul, ← EReal.coe_add]
  rfl
end

section
variable (v3 : FVec Ideal S2048x256 .f32) (g : FVec Ideal S2048x256 .f32) (v32 : FVec Ideal S3x256 .f32) (b : Vec Ideal S1x256 .f32) (v36 v38 : FVec Ideal S2048x256 .f32) (d : Vec Ideal S2048x256 .f32) (D : Fin 2048 → ℝ) (r : Fin 2048) (q : Fin 256)
  (h : ∀ k, k0_pay16 (F := Ideal) v3 k0_pay9 g v32 b v36 v38 d (ix2 k q) = ((D k : ℝ) : EReal))
include h

theorem pay18 : k0_pay18 (F := Ideal) v3 k0_pay9 g v32 b v36 v38 d (ix2 r q) = ((next D r : ℝ) : EReal) := by
  pointwise [k0_pay18, k0_pay9]
  change Scalar.select _ _ (k0_pay16 (F := Ideal) v3 k0_pay9 g v32 b v36 v38 d _) = _
  rw [h, select_next1]

theorem pay19 : k0_pay19 (F := Ideal) v3 k0_pay8 k0_pay9 g v32 b v36 v38 d (ix2 r q) = ((prev D r : ℝ) : EReal) := by
  pointwise [k0_pay19, k0_pay8]
  change Scalar.select _ _ (k0_pay16 (F := Ideal) v3 k0_pay9 g v32 b v36 v38 d _) = _
  rw [h, select_prev1]

theorem pay22 (w : Vec Ideal S3x256 .f32) (W : Fin 3 → ℝ) (hw : ∀ j, w (ix2 j q) = ((W j : ℝ) : EReal)) :
    k0_pay22 (F := Ideal) (k0_pay17 (F := Ideal) w) (k0_pay19 (F := Ideal) v3 k0_pay8 k0_pay9 g v32 b v36 v38 d) (k0_pay20 (F := Ideal) v3 k0_pay9 g v32 b v36 v38 d w) (k0_pay21 (F := Ideal) v3 k0_pay9 g v32 b v36 v38 d w) (ix2 r q)
      = ((du D W r : ℝ) : EReal) := by
  pointwise [k0_pay22, k0_pay20, k0_pay21, k0_pay17]
  simp only [pay18 _ _ _ _ _ _ _ D _ q h, pay19 _ _ _ _ _ _ _ D _ q h, h, hw, ← EReal.coe_mul, ← EReal.coe_add]
  rfl

variable (u : Vec Ideal S2048x256 .f32) (U : Fin 2048 → ℝ) (hu : ∀ k, u (ix2 k q) = ((U k : ℝ) : EReal))

omit h in
theorem pay23 (x : FVec Ideal S2048x256 .f32) (hx : ∀ k, x (ix2 k q) = ((D k : ℝ) : EReal)) :
    k0_pay23 (F := Ideal) x (ix2 0 q) = ((∑ r, D r : ℝ) : EReal) := by
  pointwise [k0_pay23]
  simp only [hx, coe_sum]

omit h in
include hu in
theorem pay24 (x : FVec Ideal S2048x256 .f32) (hx : ∀ k, x (ix2 k q) = ((D k : ℝ) : EReal)) :
    k0_pay24 (F := Ideal) (k0_pay6 (F := Ideal) u) x (ix2 0 q) = ((∑ r, D r * U r : ℝ) : EReal) := by
  pointwise [k0_pay24, k0_pay6]
  simp only [hx, hu, ← EReal.coe_mul, coe_sum]
end

section
variable (v30 v59 v61 : FVec Ideal S2048x256 .f32) (D : Fin 2048 → ℝ) (r : Fin 2048) (q : Fin 256)
  (h : ∀ k, k0_pay27 (F := Ideal) v30 v59 v61 (ix2 k q) = ((D k : ℝ) : EReal))

theorem pay27 (g d : Vec Ideal S2048x256 .f32) (G D : ℝ) (hg : g (ix2 r q) = ((G : ℝ) : EReal)) (hd : d (ix2 r q) = ((D : ℝ) : EReal)) :
    k0_pay27 (F := Ideal) g (k0_pay14 (F := Ideal) g) (k0_pay15 (F := Ideal) d) (ix2 r q) = ((dVal G D : ℝ) : EReal) := by
  pointwise [k0_pay27, k0_pay14, k0_pay15]
  simp only [hg, hd, ofBits_one, sigmoid_real, ← EReal.coe_mul]
  rfl

include h

theorem pay29 : k0_pay29 (F := Ideal) k0_pay9 v30 v59 v61 (ix2 r q) = ((next D r : ℝ) : EReal) := by
  pointwise [k0_pay29, k0_pay9]
  change Scalar.select _ _ (k0_pay27 (F := Ideal) v30 v59 v61 _) = _
  rw [h, select_next1]

theorem pay30 : k0_pay30 (F := Ideal) k0_pay8 v30 v59 v61 (ix2 r q) = ((prev D r : ℝ) : EReal) := by
  pointwise [k0_pay30, k0_pay8]
  change Scalar.select _ _ (k0_pay27 (F := Ideal) v30 v59 v61 _) = _
  rw [h, select_prev1]

theorem pay1 (w : Vec Ideal S3x256 .f32) (W : Fin 3 → ℝ) (hw : ∀ j, w (ix2 j q) = ((W j : ℝ) : EReal)) :
    k0_pay1 (F := Ideal) (k0_pay27 (F := Ideal) v30 v59 v61) (k0_pay28 (F := Ideal) w) (k0_pay30 (F := Ideal) k0_pay8 v30 v59 v61)
      (k0_pay31 (F := Ideal) k0_pay9 v30 v59 v61 w) (ix2 r q) = ((du D W r : ℝ) : EReal) := by
  pointwise [k0_pay1, k0_pay28, k0_pay31]
  simp only [pay29 _ _ _ D _ q h, pay30 _ _ _ D _ q h, h, hw, ← EReal.coe_mul, ← EReal.coe_add]
  rfl
end

variable (a0 a1 : S2048x256.Idx → ℝ) (a2 a3 : S3x256.Idx → ℝ) (a4 a5 : S1x256.Idx → ℝ) (a6 : S2048x256.Idx → ℝ)

/-- The blocks' convolutions and the cotangents of the two halves, by column. -/
def gCol (q : Fin 256) (r : Fin 2048) : ℝ := conv (fun k => a0 (ix2 k q)) (fun j => a2 (ix2 j q)) (a4 (ix2 0 q)) r
def DG (q : Fin 256) (r : Fin 2048) : ℝ := dGate (gCol a0 a2 a4 q r) (gCol a1 a3 a5 q r) (a6 (ix2 r q))
def DV (q : Fin 256) (r : Fin 2048) : ℝ := dVal (gCol a0 a2 a4 q r) (a6 (ix2 r q))

theorem ld0 (X : Vec Ideal S2048x256 .f32) : View.ld X r0_0 = X := View.ld_unit_lit _ X (by decide)
theorem ld1 (X : Vec Ideal S3x256 .f32) : View.ld X r0_1 = X := View.ld_unit_lit _ X (by decide)
theorem ld2 (X : Vec Ideal S1x256 .f32) : View.ld X r0_2 = X := View.ld_unit_lit _ X (by decide)

section
variable (x0 x1 : Vec Ideal S2048x256 .f32) (x2 x3 : Vec Ideal S3x256 .f32) (x4 x5 : Vec Ideal S1x256 .f32) (x6 : Vec Ideal S2048x256 .f32)

/-- The gate half's convolution, and the cotangents of both halves, as the kernel computes them. -/
def kConv : FVec Ideal S2048x256 .f32 := k0_pay10 (F := Ideal) x0 x2 x4
def kDG : FVec Ideal S2048x256 .f32 :=
  k0_pay16 (F := Ideal) (k0_pay7 (F := Ideal) x1) k0_pay9 (kConv x0 x2 x4) (k0_pay11 (F := Ideal) x3) x5 (k0_pay12 (F := Ideal) x1)
    (k0_pay13 (F := Ideal) x3) x6
def kDV : FVec Ideal S2048x256 .f32 :=
  k0_pay27 (F := Ideal) (kConv x0 x2 x4) (k0_pay14 (F := Ideal) (kConv x0 x2 x4)) (k0_pay15 (F := Ideal) x6)

theorem pay36_eq : k0_pay36 (F := Ideal) x0 x1 x2 x3 x4 x5 x6 = kConv x0 x2 x4 := by
  unfold k0_pay36; rw [ld0, ld1, ld2]; rfl
theorem pay42_eq : k0_pay42 (F := Ideal) x0 x1 x2 x3 x4 x5 x6 = kDG x0 x1 x2 x3 x4 x5 x6 := by
  unfold k0_pay42 k0_pay33 k0_pay35 k0_pay37 k0_pay38 k0_pay39; rw [pay36_eq, ld0, ld1, ld2, ld0]; rfl
theorem pay44_eq : k0_pay44 (F := Ideal) x0 x1 x2 x3 x4 x5 x6 = kDV x0 x2 x4 x6 := by
  unfold k0_pay44 k0_pay40 k0_pay41; rw [pay36_eq, ld0]; rfl
end

theorem d16 (q : Fin 256) (k : Fin 2048) : kDG (lift a0) (lift a1) (lift a2) (lift a3) (lift a4) (lift a5) (lift a6) (ix2 k q)
    = ((DG a0 a1 a2 a3 a4 a5 a6 q k : ℝ) : EReal) :=
  pay16 _ _ _ (fun r => a1 (ix2 r q)) (fun j => a3 (ix2 j q)) (a5 (ix2 0 q)) k q _ _ (gCol a0 a2 a4 q k) (a6 (ix2 k q))
    (pay10 _ _ _ (fun r => a0 (ix2 r q)) (fun j => a2 (ix2 j q)) (a4 (ix2 0 q)) k q (fun _ => rfl) (fun _ => rfl) rfl) rfl (fun _ => rfl) (fun _ => rfl) rfl

theorem d27 (q : Fin 256) (k : Fin 2048) : kDV (lift a0) (lift a2) (lift a4) (lift a6) (ix2 k q)
    = ((DV a0 a2 a4 a6 q k : ℝ) : EReal) :=
  pay27 k q _ _ (gCol a0 a2 a4 q k) (a6 (ix2 k q))
    (pay10 _ _ _ (fun r => a0 (ix2 r q)) (fun j => a2 (ix2 j q)) (a4 (ix2 0 q)) k q (fun _ => rfl) (fun _ => rfl) rfl) rfl

theorem out7 (p : Fin 2048) (q : Fin 256) : out0_7 (F := Ideal) (lift a0) (lift a1) (lift a2) (lift a3) (lift a4) (lift a5) (lift a6) (ix2 p q)
    = ((du (DG a0 a1 a2 a3 a4 a5 a6 q) (fun j => a2 (ix2 j q)) p : ℝ) : EReal) := by
  frame_out
  simp only [k0_pay43, k0_pay33, k0_pay34, k0_pay35, k0_pay37, k0_pay38, k0_pay39, pay36_eq, ld0, ld1, ld2]
  exact pay22 _ _ _ _ _ _ _ _ p q (d16 a0 a1 a2 a3 a4 a5 a6 q) _ _ fun _ => rfl

theorem out8 (p : Fin 2048) (q : Fin 256) : out0_8 (F := Ideal) (lift a0) (lift a1) (lift a2) (lift a3) (lift a4) (lift a5) (lift a6) (ix2 p q)
    = ((du (DV a0 a2 a4 a6 q) (fun j => a3 (ix2 j q)) p : ℝ) : EReal) := by
  frame_out
  simp only [k0_pay45, k0_pay44, k0_pay34, k0_pay35, k0_pay40, k0_pay41, pay36_eq, ld0, ld1, ld2]
  exact pay1 _ _ _ _ p q (d27 a0 a2 a4 a6 q) _ _ fun _ => rfl

theorem out11 (q : Fin 256) : out0_11 (F := Ideal) (lift a0) (lift a1) (lift a2) (lift a3) (lift a4) (lift a5) (lift a6) (ix2 0 q)
    = ((∑ r, DG a0 a1 a2 a3 a4 a5 a6 q r : ℝ) : EReal) := by
  frame_out
  simp only [pay42_eq]
  exact pay23 _ q _ (d16 a0 a1 a2 a3 a4 a5 a6 q)

theorem out12 (q : Fin 256) : out0_12 (F := Ideal) (lift a0) (lift a1) (lift a2) (lift a3) (lift a4) (lift a5) (lift a6) (ix2 0 q)
    = ((∑ r, DV a0 a2 a4 a6 q r : ℝ) : EReal) := by
  frame_out
  simp only [pay44_eq]
  exact pay23 _ q _ (d27 a0 a2 a4 a6 q)

theorem out9 (j : Fin 3) (q : Fin 256) : out0_9 (F := Ideal) (lift a0) (lift a1) (lift a2) (lift a3) (lift a4) (lift a5) (lift a6) (ix2 j q)
    = ((dw (DG a0 a1 a2 a3 a4 a5 a6 q) (fun r => a0 (ix2 r q)) j : ℝ) : EReal) := by
  have h := d16 a0 a1 a2 a3 a4 a5 a6 q
  have e : ∀ x : S1x256.Idx, (q : ℕ) = (x 1 : ℕ) → x = ix2 0 q := fun x hx =>
    funext fun a => Fin.ext (match a with
      | ⟨0, _⟩ => Nat.lt_one_iff.mp (x 0).isLt
      | ⟨1, _⟩ => hx.symm)
  frame_out
  simp only [k0_pay32, k0_pay43, k0_pay33, k0_pay34, k0_pay35, k0_pay37, k0_pay38, k0_pay39, pay36_eq, pay42_eq, ld0, ld1, ld2]
  canon_tiles x h
  · obtain rfl : j = 2 := Fin.ext (by have : (j : ℕ) = 2 + (x 0 : ℕ) := h0; omega)
    rw [e x h1]
    exact pay24 _ q (lift a0) _ (fun _ => rfl) _ fun k => pay19 _ _ _ _ _ _ _ _ k q h
  · obtain rfl : j = 1 := Fin.ext (by have : (j : ℕ) = 1 + (x 0 : ℕ) := h0; omega)
    rw [e x h1]
    exact pay24 _ q (lift a0) _ (fun _ => rfl) _ h
  · obtain rfl : j = 0 := Fin.ext (by have : (j : ℕ) = (x 0 : ℕ) := h0; omega)
    rw [e x h1]
    exact pay24 _ q (lift a0) _ (fun _ => rfl) _ fun k => pay18 _ _ _ _ _ _ _ _ k q h

theorem out10 (j : Fin 3) (q : Fin 256) : out0_10 (F := Ideal) (lift a0) (lift a1) (lift a2) (lift a3) (lift a4) (lift a5) (lift a6) (ix2 j q)
    = ((dw (DV a0 a2 a4 a6 q) (fun r => a1 (ix2 r q)) j : ℝ) : EReal) := by
  have h := d27 a0 a2 a4 a6 q
  have e : ∀ x : S1x256.Idx, (q : ℕ) = (x 1 : ℕ) → x = ix2 0 q := fun x hx =>
    funext fun a => Fin.ext (match a with
      | ⟨0, _⟩ => Nat.lt_one_iff.mp (x 0).isLt
      | ⟨1, _⟩ => hx.symm)
  frame_out
  simp only [k0_pay33, k0_pay45, k0_pay34, k0_pay35, k0_pay40, k0_pay41, pay36_eq, pay44_eq, ld0, ld1, ld2]
  canon_tiles x h
  · obtain rfl : j = 2 := Fin.ext (by have : (j : ℕ) = 2 + (x 0 : ℕ) := h0; omega)
    rw [e x h1]
    exact pay24 _ q (lift a1) _ (fun _ => rfl) _ fun k => pay30 _ _ _ _ k q h
  · obtain rfl : j = 1 := Fin.ext (by have : (j : ℕ) = 1 + (x 0 : ℕ) := h0; omega)
    rw [e x h1]
    exact pay24 _ q (lift a1) _ (fun _ => rfl) _ h
  · obtain rfl : j = 0 := Fin.ext (by have : (j : ℕ) = (x 0 : ℕ) := h0; omega)
    rw [e x h1]
    exact pay24 _ q (lift a1) _ (fun _ => rfl) _ fun k => pay29 _ _ _ _ k q h

end Cert.ConvBwd

end
-- ==== Proof.ConvBwdArrays.lean ====
module

public import proofs.«01_k».proof.Proof.ConvBwd

/-! The feed-forward's convolution and gate, backward: the six arrays that the kernel leaves, over real arguments. -/

@[expose] public section

set_option maxRecDepth 16384

noncomputable section

namespace Cert.ConvBwd

open Idealize.ShloMosaic Idealize.ShloMosaic.TcCoe Idealize.SL.Sem
open Idealize.ShloMosaic.Pipeline (Dat)
open Cert.Lift Cert.Conv
open Cert.Kernel7Ideal Cert.Kernel7Ideal.Gen

variable (u3 : S1x2048x5632.Idx → ℝ) (w3 : S1x3x5632.Idx → ℝ) (b2 : S1x5632.Idx → ℝ) (d3 : S1x2048x2816.Idx → ℝ)
  (m : (ℓ : Loc nD τ sig) → Buf (Elt Ideal) ℓ) (c : Dev nD)

theorem idx : ∀ t : Fin cfg0.N, win0_0.index t = ![0, t.val] ∧ win0_1.index t = ![0, 11 + t.val] ∧ win0_2.index t = ![0, t.val]
    ∧ win0_3.index t = ![0, 11 + t.val] ∧ win0_4.index t = ![0, t.val] ∧ win0_5.index t = ![0, 11 + t.val] ∧ win0_6.index t = ![0, t.val]
    ∧ win0_7.index t = ![0, t.val] ∧ win0_8.index t = ![0, t.val] ∧ win0_9.index t = ![0, t.val] ∧ win0_10.index t = ![0, t.val]
    ∧ win0_11.index t = ![0, t.val] ∧ win0_12.index t = ![0, t.val] ∧ t.val < 11 :=
  (by decide +kernel : ∀ t : Fin grid0.N, _)

/-- The arguments are real arrays. -/
structure Args : Prop where
  u : m ((c.tc : Thread nD τ).loc main_arg0) = lift u3
  w : m ((c.tc : Thread nD τ).loc main_arg1) = lift w3
  b : m ((c.tc : Thread nD τ).loc main_arg2) = lift b2
  d : m ((c.tc : Thread nD τ).loc main_arg3) = lift d3

variable (hm : Args u3 w3 b2 d3 m c)
include hm

theorem blk0 (t : Fin cfg0.N) : iblk m c 0 t = lift fun i : S2048x256.Idx => u3 (ix3 0 (i 0) (gateLane (col t.val (i 1)))) := by
  have e : iblk m c 0 t = fun i : S2048x256.Idx => m ((c.tc : Thread nD τ).loc main_arg0) (ix3 0 (i 0) (gateLane (col t.val (i 1)))) := by
    funext y
    idx_vars y
    blk_point [iblk, V, idx t, col, gateLane]
  rw [e, hm.u]; rfl

theorem blk1 (t : Fin cfg0.N) : iblk m c 1 t = lift fun i : S2048x256.Idx => u3 (ix3 0 (i 0) (valLane (col t.val (i 1)))) := by
  have e : iblk m c 1 t = fun i : S2048x256.Idx => m ((c.tc : Thread nD τ).loc main_arg0) (ix3 0 (i 0) (valLane (col t.val (i 1)))) := by
    funext y
    idx_vars y
    blk_point [iblk, V, idx t, col, valLane]
  rw [e, hm.u]; rfl

theorem blk2 (t : Fin cfg0.N) : iblk m c 2 t = lift fun i : S3x256.Idx => w3 (ix3 0 (i 0) (gateLane (col t.val (i 1)))) := by
  have e : iblk m c 2 t = fun i : S3x256.Idx => m ((c.tc : Thread nD τ).loc main_arg1) (ix3 0 (i 0) (gateLane (col t.val (i 1)))) := by
    funext y
    idx_vars y
    blk_point [iblk, V, idx t, col, gateLane]
  rw [e, hm.w]; rfl

theorem blk3 (t : Fin cfg0.N) : iblk m c 3 t = lift fun i : S3x256.Idx => w3 (ix3 0 (i 0) (valLane (col t.val (i 1)))) := by
  have e : iblk m c 3 t = fun i : S3x256.Idx => m ((c.tc : Thread nD τ).loc main_arg1) (ix3 0 (i 0) (valLane (col t.val (i 1)))) := by
    funext y
    idx_vars y
    blk_point [iblk, V, idx t, col, valLane]
  rw [e, hm.w]; rfl

theorem blk4 (t : Fin cfg0.N) : iblk m c 4 t = lift fun i : S1x256.Idx => b2 (ix2 0 (gateLane (col t.val (i 1)))) := by
  have e : iblk m c 4 t = fun i : S1x256.Idx => m ((c.tc : Thread nD τ).loc main_arg2) (ix2 0 (gateLane (col t.val (i 1)))) := by
    funext y
    idx_vars y
    obtain rfl : y0 = 0 := Subsingleton.elim _ _
    blk_point [iblk, V, idx t, col, gateLane]
  rw [e, hm.b]; rfl

theorem blk5 (t : Fin cfg0.N) : iblk m c 5 t = lift fun i : S1x256.Idx => b2 (ix2 0 (valLane (col t.val (i 1)))) := by
  have e : iblk m c 5 t = fun i : S1x256.Idx => m ((c.tc : Thread nD τ).loc main_arg2) (ix2 0 (valLane (col t.val (i 1)))) := by
    funext y
    idx_vars y
    obtain rfl : y0 = 0 := Subsingleton.elim _ _
    blk_point [iblk, V, idx t, col, valLane]
  rw [e, hm.b]; rfl

theorem blk6 (t : Fin cfg0.N) : iblk m c 6 t = lift fun i : S2048x256.Idx => d3 (ix3 0 (i 0) (col t.val (i 1))) := by
  have e : iblk m c 6 t = fun i : S2048x256.Idx => m ((c.tc : Thread nD τ).loc main_arg3) (ix3 0 (i 0) (col t.val (i 1))) := by
    funext y
    idx_vars y
    blk_point [iblk, V, idx t, col]
  rw [e, hm.d]; rfl

theorem final7 : (dats m 0 c).arrAt 7 cfg0.N = lift (duGate u3 w3 b2 d3) := by
  refine (dats m 0 c).arrAt_eq_of_covers 7 _ (by decide +kernel) fun t _ y => ?_
  rw [after0_7, blk0 _ _ _ _ m c hm, blk1 _ _ _ _ m c hm, blk2 _ _ _ _ m c hm, blk3 _ _ _ _ m c hm, blk4 _ _ _ _ m c hm, blk5 _ _ _ _ m c hm,
    blk6 _ _ _ _ m c hm]
  idx_vars y
  blk_simp
  refine (out7 _ _ _ _ _ _ _ y0 y1).trans ?_
  refine congrArg (lift (duGate u3 w3 b2 d3)) (a₁ := ix2 y0 (col t.val y1)) ?_
  blk_ext [idx t, col]

theorem final8 : (dats m 0 c).arrAt 8 cfg0.N = lift (duVal u3 w3 b2 d3) := by
  refine (dats m 0 c).arrAt_eq_of_covers 8 _ (by decide +kernel) fun t _ y => ?_
  rw [after0_8, blk0 _ _ _ _ m c hm, blk1 _ _ _ _ m c hm, blk2 _ _ _ _ m c hm, blk3 _ _ _ _ m c hm, blk4 _ _ _ _ m c hm, blk5 _ _ _ _ m c hm,
    blk6 _ _ _ _ m c hm]
  idx_vars y
  blk_simp
  refine (out8 _ _ _ _ _ _ _ y0 y1).trans ?_
  refine congrArg (lift (duVal u3 w3 b2 d3)) (a₁ := ix2 y0 (col t.val y1)) ?_
  blk_ext [idx t, col]

theorem final9 : (dats m 0 c).arrAt 9 cfg0.N = lift (dwGate u3 w3 b2 d3) := by
  refine (dats m 0 c).arrAt_eq_of_covers 9 _ (by decide +kernel) fun t _ y => ?_
  rw [after0_9, blk0 _ _ _ _ m c hm, blk1 _ _ _ _ m c hm, blk2 _ _ _ _ m c hm, blk3 _ _ _ _ m c hm, blk4 _ _ _ _ m c hm, blk5 _ _ _ _ m c hm,
    blk6 _ _ _ _ m c hm]
  idx_vars y
  blk_simp
  refine (out9 _ _ _ _ _ _ _ y0 y1).trans ?_
  refine congrArg (lift (dwGate u3 w3 b2 d3)) (a₁ := ix2 y0 (col t.val y1)) ?_
  blk_ext [idx t, col]

theorem final10 : (dats m 0 c).arrAt 10 cfg0.N = lift (dwVal u3 w3 b2 d3) := by
  refine (dats m 0 c).arrAt_eq_of_covers 10 _ (by decide +kernel) fun t _ y => ?_
  rw [after0_10, blk0 _ _ _ _ m c hm, blk1 _ _ _ _ m c hm, blk2 _ _ _ _ m c hm, blk3 _ _ _ _ m c hm, blk4 _ _ _ _ m c hm, blk5 _ _ _ _ m c hm,
    blk6 _ _ _ _ m c hm]
  idx_vars y
  blk_simp
  refine (out10 _ _ _ _ _ _ _ y0 y1).trans ?_
  refine congrArg (lift (dwVal u3 w3 b2 d3)) (a₁ := ix2 y0 (col t.val y1)) ?_
  blk_ext [idx t, col]

theorem final11 : (dats m 0 c).arrAt 11 cfg0.N = lift (dbGate u3 w3 b2 d3) := by
  refine (dats m 0 c).arrAt_eq_of_covers 11 _ (by decide +kernel) fun t _ y => ?_
  rw [after0_11, blk0 _ _ _ _ m c hm, blk1 _ _ _ _ m c hm, blk2 _ _ _ _ m c hm, blk3 _ _ _ _ m c hm, blk4 _ _ _ _ m c hm, blk5 _ _ _ _ m c hm,
    blk6 _ _ _ _ m c hm]
  idx_vars y
  obtain rfl : y0 = 0 := Subsingleton.elim _ _
  blk_simp
  refine (out11 _ _ _ _ _ _ _ y1).trans ?_
  refine congrArg (lift (dbGate u3 w3 b2 d3)) (a₁ := ix2 0 (col t.val y1)) ?_
  blk_ext [idx t, col]

theorem final12 : (dats m 0 c).arrAt 12 cfg0.N = lift (dbVal u3 w3 b2 d3) := by
  refine (dats m 0 c).arrAt_eq_of_covers 12 _ (by decide +kernel) fun t _ y => ?_
  rw [after0_12, blk0 _ _ _ _ m c hm, blk1 _ _ _ _ m c hm, blk2 _ _ _ _ m c hm, blk3 _ _ _ _ m c hm, blk4 _ _ _ _ m c hm, blk5 _ _ _ _ m c hm,
    blk6 _ _ _ _ m c hm]
  idx_vars y
  obtain rfl : y0 = 0 := Subsingleton.elim _ _
  blk_simp
  refine (out12 _ _ _ _ _ _ _ y1).trans ?_
  refine congrArg (lift (dbVal u3 w3 b2 d3)) (a₁ := ix2 0 (col t.val y1)) ?_
  blk_ext [idx t, col]

end Cert.ConvBwd

end
-- ==== Proof.ConvBwdReference.lean ====
module

public import proofs.«01_k».proof.Proof.Gen.Reference7Ideal.Read
public import proofs.«01_k».proof.Proof.ConvMath

/-! The feed-forward's convolution and gate, backward: what the reference computes, over real arguments. -/

@[expose] public section

set_option maxRecDepth 16384

noncomputable section

namespace Cert.ConvBwd

open Idealize.ShloMosaic Idealize.ShloMosaic.TcCoe Idealize.SL.Sem
open Cert.Lift Cert.Conv
open Cert.Reference7Ideal Cert.Reference7Ideal.Gen Cert.Reference7Ideal.Read

variable (u3 : S1x2048x5632.Idx → ℝ) (w3 : S1x3x5632.Idx → ℝ) (b2 : S1x5632.Idx → ℝ) (d3 : S1x2048x2816.Idx → ℝ)

theorem ref_prev (z : Fin 1) (r : Fin 2048) (l : Fin 5632) :
    val_main_v6 (F := Ideal) (lift u3) (ix3 z r l) = ((prev (fun k => u3 (ix3 0 k l)) r : ℝ) : EReal) := by
  obtain rfl : z = 0 := Subsingleton.elim _ _
  pointwise [val_main_v6, val_main_v3, val_main_v2, val_main_cst]
  exact padded_prev u3 r l

theorem ref_same (z : Fin 1) (r : Fin 2048) (l : Fin 5632) : val_main_v15 (F := Ideal) (lift u3) (ix3 z r l) = ((u3 (ix3 0 r l) : ℝ) : EReal) := by
  obtain rfl : z = 0 := Subsingleton.elim _ _
  pointwise [val_main_v15, val_main_v3, val_main_v2, val_main_cst]
  rfl

theorem ref_next (z : Fin 1) (r : Fin 2048) (l : Fin 5632) :
    val_main_v22 (F := Ideal) (lift u3) (ix3 z r l) = ((next (fun k => u3 (ix3 0 k l)) r : ℝ) : EReal) := by
  obtain rfl : z = 0 := Subsingleton.elim _ _
  pointwise [val_main_v22, val_main_v3, val_main_v2, val_main_cst]
  exact padded_next u3 r l

/-- The three rows of taps, spread over the rows. -/
theorem ref_w0 (z : Fin 1) (r : Fin 2048) (l : Fin 5632) : val_main_v10 (F := Ideal) (lift w3) (ix3 z r l) = ((w3 (ix3 0 0 l) : ℝ) : EReal) := by
  pointwise [val_main_v10, val_main_v9, val_main_v8, val_main_v7, val_main_v0]
  rfl
theorem ref_w1 (z : Fin 1) (r : Fin 2048) (l : Fin 5632) : val_main_v19 (F := Ideal) (lift w3) (ix3 z r l) = ((w3 (ix3 0 1 l) : ℝ) : EReal) := by
  pointwise [val_main_v19, val_main_v18, val_main_v17, val_main_v16, val_main_v0]
  rfl
theorem ref_w2 (z : Fin 1) (r : Fin 2048) (l : Fin 5632) : val_main_v26 (F := Ideal) (lift w3) (ix3 z r l) = ((w3 (ix3 0 2 l) : ℝ) : EReal) := by
  pointwise [val_main_v26, val_main_v25, val_main_v24, val_main_v23, val_main_v0]
  rfl

theorem ref_conv (z : Fin 1) (r : Fin 2048) (l : Fin 5632) :
    val_main_v28 (F := Ideal) (lift u3) (lift w3) (lift b2) (ix3 z r l) = ((convAt u3 w3 b2 l r : ℝ) : EReal) := by
  pointwise [val_main_v28, val_main_v27, val_main_v21, val_main_v20, val_main_v14, val_main_v13, val_main_v12, val_main_v11, val_main_v1]
  rw [ref_prev, ref_same, ref_next, ref_w0, ref_w1, ref_w2]
  simp only [lift, ← EReal.coe_mul, ← EReal.coe_add]
  rfl

theorem ref_gate (z : Fin 1) (r : Fin 2048) (l : Fin 2816) :
    val_main_v29 (F := Ideal) (lift u3) (lift w3) (lift b2) (ix3 z r l) = ((convAt u3 w3 b2 (gateLane l) r : ℝ) : EReal) := by
  obtain rfl : z = 0 := Subsingleton.elim _ _
  pointwise [val_main_v29]
  exact ref_conv u3 w3 b2 0 r (gateLane l)

theorem ref_val (z : Fin 1) (r : Fin 2048) (l : Fin 2816) :
    val_main_v30 (F := Ideal) (lift u3) (lift w3) (lift b2) (ix3 z r l) = ((convAt u3 w3 b2 (valLane l) r : ℝ) : EReal) := by
  obtain rfl : z = 0 := Subsingleton.elim _ _
  pointwise [val_main_v30]
  exact ref_conv u3 w3 b2 0 r (valLane l)

theorem ref_sig (z : Fin 1) (r : Fin 2048) (l : Fin 2816) :
    val_main_v31_2 (F := Ideal) (lift u3) (lift w3) (lift b2) (ix3 z r l) = ((sig (convAt u3 w3 b2 (gateLane l) r) : ℝ) : EReal) := by
  pointwise [val_main_v31_2, val_main_call0_v4, val_main_call0_v3, val_main_call0_v2, val_main_call0_v1, val_main_call0_v0, val_main_call0_cst, val_main_call0_cst_0]
  simp only [ref_gate, ofBits_one, sigmoid_real']

theorem ref_dval (z : Fin 1) (r : Fin 2048) (l : Fin 2816) :
    val_main_v33 (F := Ideal) (lift u3) (lift w3) (lift b2) (lift d3) (ix3 z r l) = ((dValAt u3 w3 b2 d3 l r : ℝ) : EReal) := by
  obtain rfl : z = 0 := Subsingleton.elim _ _
  pointwise [val_main_v33, val_main_v31_0]
  simp only [ref_gate, ref_sig, lift, ← EReal.coe_mul]
  refine congrArg _ ?_
  rw [dValAt, dVal]; ring

theorem ref_dgate (z : Fin 1) (r : Fin 2048) (l : Fin 2816) :
    val_main_v35 (F := Ideal) (lift u3) (lift w3) (lift b2) (lift d3) (ix3 z r l) = ((dGateAt u3 w3 b2 d3 l r : ℝ) : EReal) := by
  obtain rfl : z = 0 := Subsingleton.elim _ _
  pointwise [val_main_v35, val_main_call1_v2, val_main_call1_v1, val_main_call1_v0, val_main_v34, val_main_v31_1, val_main_call0_v7, val_main_call0_v6, val_main_call0_cst_1]
  simp only [ref_gate, ref_sig, ref_val, lift, ofBits_one, ← EReal.coe_mul]
  simp only [← EReal.coe_one, ← EReal.coe_sub, ← EReal.coe_mul, ← EReal.coe_add]
  refine congrArg _ ?_
  rw [dGateAt, dGate]; ring

/-- The cotangent of the convolution's column `l`, from the two halves. -/
def dAt (l : Fin 5632) (r : Fin 2048) : ℝ :=
  if h : l.val < 2816 then dGateAt u3 w3 b2 d3 ⟨l.val, h⟩ r else dValAt u3 w3 b2 d3 ⟨l.val - 2816, by omega⟩ r

theorem dAt_gate (l : Fin 2816) : dAt u3 w3 b2 d3 (gateLane l) = dGateAt u3 w3 b2 d3 l := by
  funext r
  exact dif_pos l.isLt

theorem dAt_val (l : Fin 2816) : dAt u3 w3 b2 d3 (valLane l) = dValAt u3 w3 b2 d3 l := by
  funext r
  refine (dif_neg (by show ¬ 2816 + l.val < 2816; omega)).trans ?_
  exact congrArg (fun k => dValAt u3 w3 b2 d3 k r) (Fin.ext (Nat.add_sub_cancel_left ..))

theorem ref_d (z : Fin 1) (r : Fin 2048) (l : Fin 5632) :
    val_main_v36 (F := Ideal) (lift u3) (lift w3) (lift b2) (lift d3) (ix3 z r l) = ((dAt u3 w3 b2 d3 l r : ℝ) : EReal) := by
  pointwise [val_main_v36]
  rw [dAt]
  split
  · exact ref_dgate u3 w3 b2 d3 0 r _
  · exact ref_dval u3 w3 b2 d3 0 r _

/-- A column's sum, taken over the rows and then over two axes of size one. -/
theorem col_sum (x : FVec Ideal S1x2048x5632 .f32) (X : Fin 2048 → ℝ) (l : Fin 5632) (hx : ∀ k, x (ix3 0 k l) = ((X k : ℝ) : EReal)) :
    Ideal.hostReduceAdd reducesTo_S1x1x5632_S5632_d0_1 (shapeCast S1x1x5632 (Host.reduceAdd x (constant (F := Ideal) S_ .f32 0x00000000#32)
      reducesTo_S1x2048x5632_S1x5632_d1 h_S_) shapeCasts_S1x5632_S1x1x5632) (constant (F := Ideal) S_ .f32 0x00000000#32 (Shape.Idx.first h_S_)) (ix1 l)
      = ((∑ k, X k : ℝ) : EReal) := by
  rw [hostReduceAdd_r3_a01, Fin.sum_univ_one, Fin.sum_univ_one]
  pointwise []
  simp only [hx, coe_sum]

theorem ref_tap2 (l : Fin 5632) : val_main_v42 (F := Ideal) (lift u3) (lift w3) (lift b2) (lift d3) (ix1 l)
    = ((tap2 (dAt u3 w3 b2 d3 l) (fun r => u3 (ix3 0 r l)) : ℝ) : EReal) := by
  refine (col_sum (val_main_v37 (F := Ideal) (lift u3) (lift w3) (lift b2) (lift d3)) _ l fun k => ?_).trans
    (congrArg _ (sum_shift (dAt u3 w3 b2 d3 l) (fun r => u3 (ix3 0 r l))).symm)
  pointwise [val_main_v37]
  rw [ref_next, ref_d, ← EReal.coe_mul]

theorem ref_tap1 (l : Fin 5632) : val_main_v51 (F := Ideal) (lift u3) (lift w3) (lift b2) (lift d3) (ix1 l)
    = ((tap1 (dAt u3 w3 b2 d3 l) (fun r => u3 (ix3 0 r l)) : ℝ) : EReal) := by
  refine (col_sum (val_main_v46 (F := Ideal) (lift u3) (lift w3) (lift b2) (lift d3)) _ l fun k => ?_)
  pointwise [val_main_v46]
  rw [ref_same, ref_d, ← EReal.coe_mul, mul_comm]

theorem ref_tap0 (l : Fin 5632) : val_main_v65 (F := Ideal) (lift u3) (lift w3) (lift b2) (lift d3) (ix1 l)
    = ((tap0 (dAt u3 w3 b2 d3 l) (fun r => u3 (ix3 0 r l)) : ℝ) : EReal) := by
  refine (col_sum (val_main_v60 (F := Ideal) (lift u3) (lift w3) (lift b2) (lift d3)) _ l fun k => ?_).trans
    (congrArg _ (sum_shift (fun r => u3 (ix3 0 r l)) (dAt u3 w3 b2 d3 l)))
  pointwise [val_main_v60]
  rw [ref_prev, ref_d, ← EReal.coe_mul]

theorem ref_bias (l : Fin 5632) : val_main_v59 (F := Ideal) (lift u3) (lift w3) (lift b2) (lift d3) (ix1 l)
    = ((∑ r, dAt u3 w3 b2 d3 l r : ℝ) : EReal) :=
  col_sum (val_main_v36 (F := Ideal) (lift u3) (lift w3) (lift b2) (lift d3)) _ l fun k => ref_d u3 w3 b2 d3 0 k l

theorem ref_dw (j : Fin 3) (l : Fin 5632) : val_main_v68 (F := Ideal) (lift u3) (lift w3) (lift b2) (lift d3) (ix2 j l)
    = ((dw (dAt u3 w3 b2 d3 l) (fun r => u3 (ix3 0 r l)) j : ℝ) : EReal) := by
  have h0 := ref_tap0 u3 w3 b2 d3 l
  have h1 := ref_tap1 u3 w3 b2 d3 l
  have h2 := ref_tap2 u3 w3 b2 d3 l
  generalize e0 : val_main_v65 (F := Ideal) (lift u3) (lift w3) (lift b2) (lift d3) = t0 at h0
  generalize e1 : val_main_v51 (F := Ideal) (lift u3) (lift w3) (lift b2) (lift d3) = t1 at h1
  generalize e2 : val_main_v42 (F := Ideal) (lift u3) (lift w3) (lift b2) (lift d3) = t2 at h2
  unfold val_main_v68 val_main_v67 val_main_v66 val_main_v54 val_main_v53 val_main_v52 val_main_v44 val_main_v43
  rw [e0, e1, e2]
  pointwise [val_main_cst_4, val_main_cst_8, val_main_cst_14]
  rw [h0, h1, h2]
  match j with
  | 0 => simp [dw]
  | 1 => simp [dw]
  | 2 => simp [dw]

theorem ref_du (r : Fin 2048) (l : Fin 5632) : val_main_v77 (F := Ideal) (lift u3) (lift w3) (lift b2) (lift d3) (ix2 r l)
    = ((du (dAt u3 w3 b2 d3 l) (fun j => w3 (ix3 0 j l)) r : ℝ) : EReal) := by
  pointwise [val_main_v77, val_main_v76, val_main_v72, val_main_v70, val_main_v69, val_main_v64, val_main_v63, val_main_v56, val_main_v55, val_main_v50, val_main_v49,
    val_main_v45, val_main_v41, val_main_v40, val_main_v9, val_main_v8, val_main_v7, val_main_v18, val_main_v17, val_main_v16, val_main_v25, val_main_v24, val_main_v23,
    val_main_v0, val_main_cst_5, val_main_cst_15]
  simp only [ref_d]
  have hp : (if h : 2 ≤ 1 + (r : ℕ) ∧ 1 + (r : ℕ) - 2 < 2048 then
      ((dAt u3 w3 b2 d3 l ⟨1 + (r : ℕ) - 2, h.2⟩ : ℝ) : EReal) * lift w3 (ix3 0 2 l) else 0)
      = ((prev (dAt u3 w3 b2 d3 l) r * w3 (ix3 0 2 l) : ℝ) : EReal) := by
    by_cases h : r.val = 0
    · rw [dif_neg (by omega), prev, if_pos h, zero_mul]; rfl
    · rw [dif_pos (by omega), prev, if_neg h, EReal.coe_mul]
      exact congrArg (fun k => ((dAt u3 w3 b2 d3 l k : ℝ) : EReal) * lift w3 (ix3 0 2 l))
        (Fin.ext (by show 1 + r.val - 2 = (r.val + 2048 - 1) % 2048; omega))
  have hn : (if h : 1 + (r : ℕ) < 2048 then
      ((dAt u3 w3 b2 d3 l ⟨1 + (r : ℕ), h⟩ : ℝ) : EReal) * lift w3 (ix3 0 0 l) else 0)
      = ((next (dAt u3 w3 b2 d3 l) r * w3 (ix3 0 0 l) : ℝ) : EReal) := by
    by_cases h : r.val = 2047
    · rw [dif_neg (by omega), next, if_pos h, zero_mul]; rfl
    · rw [dif_pos (by omega), next, if_neg h, EReal.coe_mul]
      exact congrArg (fun k => ((dAt u3 w3 b2 d3 l k : ℝ) : EReal) * lift w3 (ix3 0 0 l))
        (Fin.ext (by show 1 + r.val = (r.val + 2048 - 2047) % 2048; omega))
  refine (congrArg₂ (· + ·) (congrArg (· + _) hp) hn).trans ?_
  simp only [lift, ← EReal.coe_mul, ← EReal.coe_add]
  refine congrArg _ ?_
  rw [du]; ring

theorem ref_db (z : Fin 1) (l : Fin 5632) : val_main_v74 (F := Ideal) (lift u3) (lift w3) (lift b2) (lift d3) (ix2 z l)
    = ((∑ r, dAt u3 w3 b2 d3 l r : ℝ) : EReal) := by
  have h := ref_bias u3 w3 b2 d3 l
  generalize e : val_main_v59 (F := Ideal) (lift u3) (lift w3) (lift b2) (lift d3) = t at h
  unfold val_main_v74
  rw [e]
  pointwise []
  exact h

/-! The six results. -/

theorem ref78 : val_main_v78 (F := Ideal) (lift u3) (lift w3) (lift b2) (lift d3) = lift (duGate u3 w3 b2 d3) := by
  funext i
  idx_vars i
  pointwise [val_main_v78]
  refine (ref_du u3 w3 b2 d3 i0 (gateLane i1)).trans ?_
  rw [dAt_gate]; rfl

theorem ref79 : val_main_v79 (F := Ideal) (lift u3) (lift w3) (lift b2) (lift d3) = lift (duVal u3 w3 b2 d3) := by
  funext i
  idx_vars i
  pointwise [val_main_v79]
  refine (ref_du u3 w3 b2 d3 i0 (valLane i1)).trans ?_
  rw [dAt_val]; rfl

theorem ref81 : val_main_v81 (F := Ideal) (lift u3) (lift w3) (lift b2) (lift d3) = lift (dwGate u3 w3 b2 d3) := by
  funext i
  idx_vars i
  pointwise [val_main_v81, val_main_v80, val_main_v75]
  refine (ref_dw u3 w3 b2 d3 i0 (gateLane i1)).trans ?_
  rw [dAt_gate]; rfl

theorem ref83 : val_main_v83 (F := Ideal) (lift u3) (lift w3) (lift b2) (lift d3) = lift (dwVal u3 w3 b2 d3) := by
  funext i
  idx_vars i
  pointwise [val_main_v83, val_main_v82, val_main_v75]
  refine (ref_dw u3 w3 b2 d3 i0 (valLane i1)).trans ?_
  rw [dAt_val]; rfl

theorem ref84 : val_main_v84 (F := Ideal) (lift u3) (lift w3) (lift b2) (lift d3) = lift (dbGate u3 w3 b2 d3) := by
  funext i
  idx_vars i
  obtain rfl : i0 = 0 := Subsingleton.elim _ _
  pointwise [val_main_v84]
  refine (ref_db u3 w3 b2 d3 0 (gateLane i1)).trans ?_
  rw [dAt_gate]; rfl

theorem ref85 : val_main_v85 (F := Ideal) (lift u3) (lift w3) (lift b2) (lift d3) = lift (dbVal u3 w3 b2 d3) := by
  funext i
  idx_vars i
  obtain rfl : i0 = 0 := Subsingleton.elim _ _
  pointwise [val_main_v85]
  refine (ref_db u3 w3 b2 d3 0 (valLane i1)).trans ?_
  rw [dAt_val]; rfl

end Cert.ConvBwd

end
-- ==== Proof.ConvBwdClaim.lean ====
/- The statement about the feed-forward's convolution and gate, backward: from finite arguments the kernel and the
   reference end holding the same arrays. -/
module

public import proofs.«01_k».proof.Defs
public import proofs.«01_k».proof.Proof.ConvBwdRun
public import proofs.«01_k».proof.Proof.ConvBwdArrays
public import proofs.«01_k».proof.Proof.ConvBwdReference
public import proofs.«01_k».proof.Proof.Gen.Reference7Ideal.Run
public import proofs.«01_k».proof.Proof.Gen.Pre_finite7
public import Idealize.ShloMosaic.Lib.Claim

@[expose] public section

noncomputable section

namespace Cert.ConvBwd

open Idealize.ShloMosaic Idealize.SL.Sem Cert.Lift Cert.Conv

/-- Under the precondition each argument is an array of reals. -/
theorem args_real (m : (ℓ : Loc Cert.Kernel7Ideal.nD Cert.Kernel7Ideal.τ Cert.Kernel7Ideal.sig) → Buf (Elt Ideal) ℓ)
    (h : Cert.Pre_Kernel7Ideal_finite7 m) (c : Dev Cert.Kernel7Ideal.nD) :
    ∃ us ws bs ds, m ((c.tc : Thread Cert.Kernel7Ideal.nD Cert.Kernel7Ideal.τ).loc Cert.Kernel7Ideal.main_arg0) = lift us
      ∧ m ((c.tc : Thread Cert.Kernel7Ideal.nD Cert.Kernel7Ideal.τ).loc Cert.Kernel7Ideal.main_arg1) = lift ws
      ∧ m ((c.tc : Thread Cert.Kernel7Ideal.nD Cert.Kernel7Ideal.τ).loc Cert.Kernel7Ideal.main_arg2) = lift bs
      ∧ m ((c.tc : Thread Cert.Kernel7Ideal.nD Cert.Kernel7Ideal.τ).loc Cert.Kernel7Ideal.main_arg3) = lift ds := by
  obtain ⟨hu, hw, hb, hd⟩ := h c
  obtain ⟨us, hus⟩ := exists_real _ _ hu
  obtain ⟨ws, hws⟩ := exists_real _ _ hw
  obtain ⟨bs, hbs⟩ := exists_real _ _ hb
  obtain ⟨ds, hds⟩ := exists_real _ _ hd
  exact ⟨us, ws, bs, ds, hus, hws, hbs, hds⟩

theorem frame_reference : Cert.quiescent_Reference7Ideal := by
  intro m ρ _
  exact (θ_run Cert.Reference7Ideal.defs _ _).mono (fun r h => ⟨fun c => (h c).2.2.2.2.2.2,
      Idealize.ShloMosaic.sem_eq_zero_of_no_sems (by decide) r.2⟩)
    (Cert.Reference7Ideal.Value.run (F := Ideal) m ρ)

set_option maxHeartbeats 1000000 in
theorem algebraic : Cert.algebraic_Kernel7Ideal_Reference7Ideal_pre_finite7 := by
  intro m g m' g' hpre hagree
  choose us ws bs ds hu hw hb hd using args_real m hpre
  refine ⟨fun c => lift (duGate (us c) (ws c) (bs c) (ds c)), fun c => lift (duVal (us c) (ws c) (bs c) (ds c)),
    fun c => lift (dwGate (us c) (ws c) (bs c) (ds c)), fun c => lift (dwVal (us c) (ws c) (bs c) (ds c)),
    fun c => lift (dbGate (us c) (ws c) (bs c) (ds c)), fun c => lift (dbVal (us c) (ws c) (bs c) (ds c)), ?_, ?_⟩
  · refine (θ_run Cert.Kernel7Ideal.defs _ _).mono (fun r h c => ?_) (run_named (F := Ideal) m g)
    obtain ⟨⟨h0, h1, h2, h3, h4, h5⟩, h6⟩ := h c
    have hm : Args (us c) (ws c) (bs c) (ds c) m c := ⟨hu c, hw c, hb c, hd c⟩
    exact ⟨h0.trans (final7 _ _ _ _ m c hm), h1.trans (final8 _ _ _ _ m c hm), h2.trans (final9 _ _ _ _ m c hm), h3.trans (final10 _ _ _ _ m c hm),
      h4.trans (final11 _ _ _ _ m c hm), h5.trans (final12 _ _ _ _ m c hm), h6⟩
  · refine (θ_run Cert.Reference7Ideal.defs _ _).mono (fun r h c => ?_) (Cert.Reference7Ideal.Value.run (F := Ideal) m' g')
    obtain ⟨h0, h1, h2, h3, h4, h5, h6⟩ := h c
    obtain ⟨a0, a1, a2, a3⟩ := hagree c
    refine ⟨h0.trans ?_, h1.trans ?_, h2.trans ?_, h3.trans ?_, h4.trans ?_, h5.trans ?_, h6⟩
    · refine (Cert.Reference7Ideal.Read.val_main_v78_eq m' c).trans ?_
      rw [a0, a1, a2, a3, hu, hw, hb, hd]
      exact ref78 _ _ _ _
    · refine (Cert.Reference7Ideal.Read.val_main_v79_eq m' c).trans ?_
      rw [a0, a1, a2, a3, hu, hw, hb, hd]
      exact ref79 _ _ _ _
    · refine (Cert.Reference7Ideal.Read.val_main_v81_eq m' c).trans ?_
      rw [a0, a1, a2, a3, hu, hw, hb, hd]
      exact ref81 _ _ _ _
    · refine (Cert.Reference7Ideal.Read.val_main_v83_eq m' c).trans ?_
      rw [a0, a1, a2, a3, hu, hw, hb, hd]
      exact ref83 _ _ _ _
    · refine (Cert.Reference7Ideal.Read.val_main_v84_eq m' c).trans ?_
      rw [a0, a1, a2, a3, hu, hw, hb, hd]
      exact ref84 _ _ _ _
    · refine (Cert.Reference7Ideal.Read.val_main_v85_eq m' c).trans ?_
      rw [a0, a1, a2, a3, hu, hw, hb, hd]
      exact ref85 _ _ _ _

end Cert.ConvBwd

end
-- ==== Proof.GateFwd.lean ====
module

public import proofs.«01_k».proof.Proof.Gen.Kernel8Ideal.Value
public import proofs.«01_k».proof.Proof.GateNorm

/-! The recurrence's norm and output gate: what the kernel leaves in its result, over real arguments. -/

@[expose] public section

set_option maxRecDepth 16384

noncomputable section

namespace Cert.GateFwd

open Idealize.ShloMosaic Idealize.ShloMosaic.TcCoe Idealize.SL.Sem
open Idealize.ShloMosaic.Pipeline (Dat)
open Cert.Lift Cert.GateNorm
open Cert.Kernel8Ideal Cert.Kernel8Ideal.Gen

theorem pay2 (a b : Vec Ideal S1x512x128 .f32) (h : Vec Ideal S512x128 .f32) (g : Vec Ideal S1x128 .f32) (ra rb rh rg : Fin 128 → ℝ)
    (r : Fin 512) (l : Fin 128) (ha : ∀ k, a (ix3 0 r k) = ((ra k : ℝ) : EReal)) (hb : ∀ k, b (ix3 0 r k) = ((rb k : ℝ) : EReal))
    (hh : ∀ k, h (ix2 r k) = ((rh k : ℝ) : EReal)) (hg : ∀ k, g (ix2 0 k) = ((rg k : ℝ) : EReal)) :
    k0_pay2 (F := Ideal) a b h g (ix2 r l) = ((gated (fun k => ra k + rb k) rg rh l : ℝ) : EReal) := by
  pointwise [k0_pay2]
  simp only [ha, hb, hh, hg, ofBits_128, ofBits_eps, ofBits_one, sigmoid_real, ← EReal.coe_add, ← EReal.coe_mul, coe_sum,
    div_real _ (by norm_num : (128 : ℝ) ≠ 0)]
  have e := rsqrt_ms fun k => ra k + rb k
  beta_reduce at e
  rw [e]
  simp only [← EReal.coe_mul]
  rfl

theorem pay1_eq (a b : Vec Ideal S1x512x128 .f32) (h : Vec Ideal S512x128 .f32) (g : Vec Ideal S1x128 .f32) :
    k0_pay1 (F := Ideal) (k0_pay3 (F := Ideal) a) b h g = k0_pay2 (F := Ideal) a b h g := rfl

variable (a0 a1 : S1x512x256.Idx → ℝ) (a2 : S512x256.Idx → ℝ) (a3 : S1x128.Idx → ℝ)

/-- The block of one grid point. -/
def blockArr (y : S512x256.Idx) : ℝ :=
  gated (fun k => a0 (ix3 0 (y 0) (inHead (n := 2) (y 1) k)) + a1 (ix3 0 (y 0) (inHead (n := 2) (y 1) k))) (fun k => a3 (ix2 0 k))
    (fun k => a2 (ix2 (y 0) (inHead (n := 2) (y 1) k))) (lane (y 1))

theorem out4 (p : Fin 512) (q : Fin 256) :
    out0_4 (F := Ideal) (lift a0) (lift a1) (lift a2) (lift a3) (ix2 p q) = ((blockArr a0 a1 a2 a3 (ix2 p q) : ℝ) : EReal) := by
  frame_out
  canon_tiles x h
  all_goals
    idx_vars x
    have hp : p = x0 := Fin.ext h0
    subst hp
    change (q : ℕ) = _ at h1
    have hl : lane q = x1 := Fin.ext (by simp only [lane]; omega)
    try rw [pay1_eq]
    rw [pay2 _ _ _ _ (fun k => a0 (ix3 0 p (inHead (n := 2) q k))) (fun k => a1 (ix3 0 p (inHead (n := 2) q k)))
      (fun k => a2 (ix2 p (inHead (n := 2) q k))) (fun k => a3 (ix2 0 k))]
    · rw [← hl]; rfl
    · intro k; refine congrArg (lift a0) ?_; blk_ext [inHead] <;> (refine (Rect.idx_unit_val _ _ _ _ _).trans ?_; dsimp [ix2, ix3]; omega)
    · intro k; refine congrArg (lift a1) ?_; blk_ext [inHead] <;> (refine (Rect.idx_unit_val _ _ _ _ _).trans ?_; dsimp [ix2, ix3]; omega)
    · intro k; refine congrArg (lift a2) ?_; blk_ext [inHead] <;> (refine (Rect.idx_unit_val _ _ _ _ _).trans ?_; dsimp [ix2, ix3]; omega)
    · intro k; rfl

variable (o2 : S2x2048x512.Idx → ℝ) (p : S2048x3328.Idx → ℝ) (g : S1x128.Idx → ℝ)

/-- The gated norm as an array. -/
def gatedArr (i : S2048x512.Idx) : ℝ :=
  gated (fun k => oSum o2 (i 0) (inHead (n := 4) (i 1) k)) (fun k => g (ix2 0 k)) (fun k => p (ix2 (i 0) (gateCol (inHead (n := 4) (i 1) k)))) (lane (i 1))

variable (m : (ℓ : Loc nD τ sig) → Buf (Elt Ideal) ℓ) (c : Dev nD)

theorem idx : ∀ t : Fin cfg0.N, win0_0.index t = ![0, t.val / 2 % 4, t.val % 2] ∧ win0_1.index t = ![1, t.val / 2 % 4, t.val % 2]
    ∧ win0_2.index t = ![t.val / 2 % 4, 11 + t.val % 2] ∧ win0_3.index t = ![0, 0] ∧ win0_4.index t = ![t.val / 2 % 4, t.val % 2] :=
  (by decide +kernel : ∀ t : Fin grid0.N, _)

section
variable (ho : m ((c.tc : Thread nD τ).loc main_arg0) = lift o2)
include ho

theorem blk0 (t : Fin cfg0.N) : iblk m c 0 t = lift fun i : S1x512x256.Idx => o2 (ix3 0 (line (t.val / 2) (i 1)) (col t.val (i 2))) := by
  have e : iblk m c 0 t = fun i : S1x512x256.Idx => m ((c.tc : Thread nD τ).loc main_arg0) (ix3 0 (line (t.val / 2) (i 1)) (col t.val (i 2))) := by
    funext y
    idx_vars y
    blk_point [iblk, V, idx t, line, col]
  rw [e, ho]; rfl

theorem blk1 (t : Fin cfg0.N) : iblk m c 1 t = lift fun i : S1x512x256.Idx => o2 (ix3 1 (line (t.val / 2) (i 1)) (col t.val (i 2))) := by
  have e : iblk m c 1 t = fun i : S1x512x256.Idx => m ((c.tc : Thread nD τ).loc main_arg0) (ix3 1 (line (t.val / 2) (i 1)) (col t.val (i 2))) := by
    funext y
    idx_vars y
    blk_point [iblk, V, idx t, line, col]
  rw [e, ho]; rfl
end

theorem blk2 (hp : m ((c.tc : Thread nD τ).loc main_arg1) = lift p) (t : Fin cfg0.N) :
    iblk m c 2 t = lift fun i : S512x256.Idx => p (ix2 (line (t.val / 2) (i 0)) (gateCol (col t.val (i 1)))) := by
  have e : iblk m c 2 t = fun i : S512x256.Idx => m ((c.tc : Thread nD τ).loc main_arg1) (ix2 (line (t.val / 2) (i 0)) (gateCol (col t.val (i 1)))) := by
    funext y
    idx_vars y
    blk_point [iblk, V, idx t, line, col, gateCol]
  rw [e, hp]; rfl

theorem blk3 (hg : m ((c.tc : Thread nD τ).loc main_arg2) = lift g) (t : Fin cfg0.N) : iblk m c 3 t = lift g := by
  have e : iblk m c 3 t = m ((c.tc : Thread nD τ).loc main_arg2) := by
    blk_ext! [iblk, V, idx t]
  rw [e, hg]

theorem out_final (ho : m ((c.tc : Thread nD τ).loc main_arg0) = lift o2) (hp : m ((c.tc : Thread nD τ).loc main_arg1) = lift p)
    (hg : m ((c.tc : Thread nD τ).loc main_arg2) = lift g) :
    (dats m 0 c).arrAt 4 cfg0.N = lift (gatedArr o2 p g) := by
  refine (dats m 0 c).arrAt_eq_of_covers 4 _ (by decide +kernel) fun t _ y => ?_
  rw [after0_4, blk0 o2 m c ho, blk1 o2 m c ho, blk2 p m c hp, blk3 g m c hg]
  idx_vars y
  blk_simp
  refine (out4 _ _ _ _ y0 y1).trans ?_
  refine Eq.trans (b := lift (gatedArr o2 p g) (ix2 (line (t.val / 2) y0) (col t.val y1))) ?_ (congrArg (lift (gatedArr o2 p g)) ?_)
  · refine congrArg (fun x : ℝ => (x : EReal)) ?_
    show gated (fun k => o2 (ix3 0 (line (t.val / 2) y0) (col t.val (inHead (n := 2) y1 k))) + o2 (ix3 1 (line (t.val / 2) y0) (col t.val (inHead (n := 2) y1 k))))
        (fun k => g (ix2 0 k)) (fun k => p (ix2 (line (t.val / 2) y0) (gateCol (col t.val (inHead (n := 2) y1 k))))) (lane y1)
      = gated (fun k => oSum o2 (line (t.val / 2) y0) (inHead (n := 4) (col t.val y1) k)) (fun k => g (ix2 0 k))
        (fun k => p (ix2 (line (t.val / 2) y0) (gateCol (inHead (n := 4) (col t.val y1) k)))) (lane (col t.val y1))
    simp only [lane_col, col_inHead, oSum]
  · blk_ext [idx t, line, col]

end Cert.GateFwd

end
-- ==== Proof.GateFwdReference.lean ====
module

public import proofs.«01_k».proof.Proof.Gen.Reference8Ideal.Read
public import proofs.«01_k».proof.Proof.GateFwd

/-! The recurrence's norm and output gate: what the reference computes, over real arguments. -/

@[expose] public section

set_option maxRecDepth 16384

noncomputable section

namespace Cert.GateFwd

open Idealize.ShloMosaic Idealize.ShloMosaic.TcCoe Idealize.SL.Sem
open Cert.Lift Cert.GateNorm
open Cert.Reference8Ideal Cert.Reference8Ideal.Gen Cert.Reference8Ideal.Read

variable (o2 : S2x2048x512.Idx → ℝ) (p : S2048x3328.Idx → ℝ) (g : S1x128.Idx → ℝ)

theorem ref_sum (r : Fin 2048) (l : Fin 512) : val_main_v4 (F := Ideal) (lift o2) (ix2 r l) = ((oSum o2 r l : ℝ) : EReal) := by
  pointwise [val_main_v4, val_main_v3, val_main_v2, val_main_v1, val_main_v0]
  simp only [lift, ← EReal.coe_add]
  rfl

theorem ref_row (r : Fin 2048) (h : Fin 4) (d : Fin 128) :
    val_main_v7 (F := Ideal) (lift o2) (ix3 r h d) = ((oSum o2 r (headCol h d) : ℝ) : EReal) := by
  rw [val_main_v7_apply, ← ref_sum]
  refine congrArg (val_main_v4 (F := Ideal) (lift o2)) ?_
  funext a; apply Fin.ext
  match a with
  | ⟨0, _⟩ => simp only [idx_main_v7, ix2, ix3, headCol]; dsimp; omega
  | ⟨1, _⟩ => simp only [idx_main_v7, ix2, ix3, headCol]; dsimp; omega

theorem ref_ms (r : Fin 2048) (h : Fin 4) (l : Fin 1) :
    val_main_v15 (F := Ideal) (lift o2) (ix3 r h l) = ((rstd (fun k => oSum o2 r (headCol h k)) : ℝ) : EReal) := by
  pointwise [val_main_v15, val_main_v14, val_main_v13, val_main_v12, val_main_v11, val_main_v10, val_main_v9, val_main_v8, val_main_cst, val_main_cst_0, val_main_cst_1]
  simp only [ref_row, ofBits_128, ofBits_eps, ← EReal.coe_mul, coe_sum, zero_add, div_real _ (by norm_num : (128 : ℝ) ≠ 0), ← EReal.coe_add]
  exact rsqrt_ms fun k => oSum o2 r (headCol h k)

theorem ref_norm (r : Fin 2048) (h : Fin 4) (d : Fin 128) : val_main_v20 (F := Ideal) (lift o2) (lift g) (ix3 r h d)
    = ((oSum o2 r (headCol h d) * rstd (fun k => oSum o2 r (headCol h k)) * g (ix2 0 d) : ℝ) : EReal) := by
  pointwise [val_main_v20, val_main_v19, val_main_v18, val_main_v17, val_main_v16, val_main_v6]
  simp only [ref_row, ref_ms, lift, ← EReal.coe_mul]

theorem ref_gate (r : Fin 2048) (l : Fin 512) :
    val_main_v22 (F := Ideal) (lift p) (ix2 r l) = ((p (ix2 r (gateCol l)) * GateNorm.sig (p (ix2 r (gateCol l))) : ℝ) : EReal) := by
  pointwise [val_main_v22, val_main_v5, val_main_call0_v5, val_main_call0_v4, val_main_call0_v3, val_main_call0_v2, val_main_call0_v1, val_main_call0_v0,
    val_main_call0_cst, val_main_call0_cst_0]
  simp only [lift, sigmoid_real', ← EReal.coe_mul]
  rfl

theorem out_ref : val_main_v24 (F := Ideal) (lift o2) (lift p) (lift g) = lift (gatedArr o2 p g) := by
  funext i
  idx_vars i
  pointwise [val_main_v24, val_main_v23]
  rw [val_main_v21_apply, ref_gate]
  have e : idx_main_v21 (ix2 i0 i1) = ix3 i0 (headOf i1) (lane i1) := by
    funext a; apply Fin.ext
    match a with
    | ⟨0, _⟩ => simp only [idx_main_v21, ix2, ix3, headOf, lane]; dsimp; omega
    | ⟨1, _⟩ => simp only [idx_main_v21, ix2, ix3, headOf, lane]; dsimp; omega
    | ⟨2, _⟩ => simp only [idx_main_v21, ix2, ix3, headOf, lane]; dsimp; omega
  rw [e, ref_norm, ← EReal.coe_mul]
  refine congrArg (fun x : ℝ => (x : EReal)) ?_
  show _ = gated (fun k => oSum o2 i0 (inHead (n := 4) i1 k)) (fun k => g (ix2 0 k)) (fun k => p (ix2 i0 (gateCol (inHead (n := 4) i1 k)))) (lane i1)
  simp only [gated, headCol_headOf, inHead_lane]

end Cert.GateFwd

end
-- ==== Proof.GateFwdClaim.lean ====
/- The statement about the recurrence's norm and output gate: from finite arguments the kernel and the
   reference end holding the same array. -/
module

public import proofs.«01_k».proof.Defs
public import proofs.«01_k».proof.Proof.GateFwdReference
public import proofs.«01_k».proof.Proof.Gen.Reference8Ideal.Run
public import proofs.«01_k».proof.Proof.Gen.Pre_finite8
public import Idealize.ShloMosaic.Lib.Claim

@[expose] public section

noncomputable section

namespace Cert.GateFwd

open Idealize.ShloMosaic Idealize.SL.Sem Cert.Lift

/-- Under the precondition each argument is an array of reals. -/
theorem args_real (m : (ℓ : Loc Cert.Kernel8Ideal.nD Cert.Kernel8Ideal.τ Cert.Kernel8Ideal.sig) → Buf (Elt Ideal) ℓ)
    (h : Cert.Pre_Kernel8Ideal_finite8 m) (c : Dev Cert.Kernel8Ideal.nD) :
    ∃ os ps gs, m ((c.tc : Thread Cert.Kernel8Ideal.nD Cert.Kernel8Ideal.τ).loc Cert.Kernel8Ideal.main_arg0) = lift os
      ∧ m ((c.tc : Thread Cert.Kernel8Ideal.nD Cert.Kernel8Ideal.τ).loc Cert.Kernel8Ideal.main_arg1) = lift ps
      ∧ m ((c.tc : Thread Cert.Kernel8Ideal.nD Cert.Kernel8Ideal.τ).loc Cert.Kernel8Ideal.main_arg2) = lift gs := by
  obtain ⟨ho, hp, hg⟩ := h c
  obtain ⟨os, hos⟩ := exists_real _ _ ho
  obtain ⟨ps, hps⟩ := exists_real _ _ hp
  obtain ⟨gs, hgs⟩ := exists_real _ _ hg
  exact ⟨os, ps, gs, hos, hps, hgs⟩

theorem frame_reference : Cert.quiescent_Reference8Ideal := by
  intro m ρ _
  exact (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem algebraic : Cert.algebraic_Kernel8Ideal_Reference8Ideal_pre_finite8 := by
  intro m g m' g' hpre hagree
  choose os ps gs ho hp hg using args_real m hpre
  refine ⟨fun c => lift (gatedArr (os c) (ps c) (gs c)), ?_, ?_⟩
  · refine (θ_run Cert.Kernel8Ideal.defs _ _).mono (fun r h c => ?_) (Cert.Kernel8Ideal.Value.run_blocks (F := Ideal) m g)
    obtain ⟨h0, h1⟩ := h c
    exact ⟨h0.trans (out_final _ _ _ m c (ho c) (hp c) (hg c)), h1⟩
  · refine (θ_run Cert.Reference8Ideal.defs _ _).mono (fun r h c => ?_) (Cert.Reference8Ideal.Value.run (F := Ideal) m' g')
    obtain ⟨h0, h1⟩ := h c
    obtain ⟨a0, a1, a2⟩ := hagree c
    refine ⟨h0.trans ?_, h1⟩
    refine (Cert.Reference8Ideal.Read.val_main_v24_eq _ _ _).trans ?_
    rw [a0, a1, a2, ho, hp, hg]
    exact out_ref _ _ _

end Cert.GateFwd

end
-- ==== Proof.ConvFwd.lean ====
module

public import proofs.«01_k».proof.Proof.Gen.Kernel9Ideal.Value
public import proofs.«01_k».proof.Proof.ConvMath

/-! The feed-forward's convolution and gate: what the kernel leaves in its result, over real arguments. -/

@[expose] public section

set_option maxRecDepth 16384

noncomputable section

namespace Cert.ConvFwd

open Idealize.ShloMosaic Idealize.ShloMosaic.TcCoe Idealize.SL.Sem
open Idealize.ShloMosaic.Pipeline (Dat)
open Cert.Lift Cert.Conv
open Cert.Kernel9Ideal Cert.Kernel9Ideal.Gen

theorem pay4 (u : Vec Ideal S2048x256 .f32) (w : Vec Ideal S3x256 .f32) (b : Vec Ideal S1x256 .f32) (U : Fin 2048 → ℝ) (W : Fin 3 → ℝ) (B : ℝ)
    (r : Fin 2048) (q : Fin 256) (hu : ∀ k, u (ix2 k q) = ((U k : ℝ) : EReal)) (hw : ∀ j, w (ix2 j q) = ((W j : ℝ) : EReal))
    (hb : b (ix2 0 q) = ((B : ℝ) : EReal)) : k0_pay4 (F := Ideal) u w b (ix2 r q) = ((conv U W B r : ℝ) : EReal) := by
  pointwise [k0_pay4, k0_pay2, k0_pay3]
  simp only [hu, hw, hb, ← EReal.coe_mul, select_prev, select_next, ← EReal.coe_add]
  rfl

theorem pay1 (g u : Vec Ideal S2048x256 .f32) (w : Vec Ideal S3x256 .f32) (b : Vec Ideal S1x256 .f32) (G : ℝ) (U : Fin 2048 → ℝ) (W : Fin 3 → ℝ)
    (B : ℝ) (r : Fin 2048) (q : Fin 256) (hg : g (ix2 r q) = ((G : ℝ) : EReal)) (hu : ∀ k, u (ix2 k q) = ((U k : ℝ) : EReal))
    (hw : ∀ j, w (ix2 j q) = ((W j : ℝ) : EReal)) (hb : b (ix2 0 q) = ((B : ℝ) : EReal)) :
    k0_pay1 (F := Ideal) k0_pay3 g (k0_pay5 (F := Ideal) u) (k0_pay6 (F := Ideal) w) b (k0_pay7 (F := Ideal) u) (k0_pay8 (F := Ideal) w) (ix2 r q)
      = ((act G (conv U W B r) : ℝ) : EReal) := by
  pointwise [k0_pay1, k0_pay2, k0_pay3, k0_pay5, k0_pay6, k0_pay7, k0_pay8]
  simp only [hg, hu, hw, hb, ofBits_one, sigmoid_real, ← EReal.coe_mul, select_prev, select_next, ← EReal.coe_add]
  rfl

variable (a0 a1 : S2048x256.Idx → ℝ) (a2 a3 : S3x256.Idx → ℝ) (a4 a5 : S1x256.Idx → ℝ)

theorem out6 (p : Fin 2048) (q : Fin 256) :
    out0_6 (F := Ideal) (lift a0) (lift a1) (lift a2) (lift a3) (lift a4) (lift a5) (ix2 p q)
      = ((act (conv (fun k => a0 (ix2 k q)) (fun j => a2 (ix2 j q)) (a4 (ix2 0 q)) p)
          (conv (fun k => a1 (ix2 k q)) (fun j => a3 (ix2 j q)) (a5 (ix2 0 q)) p) : ℝ) : EReal) := by
  frame_out
  exact pay1 _ _ _ _ _ _ _ _ p q (pay4 _ _ _ _ _ _ p q (fun _ => rfl) (fun _ => rfl) rfl) (fun _ => rfl) (fun _ => rfl) rfl

variable (u3 : S1x2048x5632.Idx → ℝ) (w3 : S1x3x5632.Idx → ℝ) (b2 : S1x5632.Idx → ℝ)

/-- The gated convolution as an array. -/
def outArr (i : S2048x2816.Idx) : ℝ := act (convAt u3 w3 b2 (gateLane (i 1)) (i 0)) (convAt u3 w3 b2 (valLane (i 1)) (i 0))

variable (m : (ℓ : Loc nD τ sig) → Buf (Elt Ideal) ℓ) (c : Dev nD)

theorem idx : ∀ t : Fin cfg0.N, win0_0.index t = ![0, t.val] ∧ win0_1.index t = ![0, 11 + t.val] ∧ win0_2.index t = ![0, t.val]
    ∧ win0_3.index t = ![0, 11 + t.val] ∧ win0_4.index t = ![0, t.val] ∧ win0_5.index t = ![0, 11 + t.val] ∧ win0_6.index t = ![0, t.val] ∧ t.val < 11 :=
  (by decide +kernel : ∀ t : Fin grid0.N, _)

/-- The arguments are real arrays. -/
structure Args : Prop where
  u : m ((c.tc : Thread nD τ).loc main_arg0) = lift u3
  w : m ((c.tc : Thread nD τ).loc main_arg1) = lift w3
  b : m ((c.tc : Thread nD τ).loc main_arg2) = lift b2

variable (hm : Args u3 w3 b2 m c)
include hm

theorem blk0 (t : Fin cfg0.N) : iblk m c 0 t = lift fun i : S2048x256.Idx => u3 (ix3 0 (i 0) (gateLane (col t.val (i 1)))) := by
  have e : iblk m c 0 t = fun i : S2048x256.Idx => m ((c.tc : Thread nD τ).loc main_arg0) (ix3 0 (i 0) (gateLane (col t.val (i 1)))) := by
    funext y
    idx_vars y
    blk_point [iblk, V, idx t, col, gateLane]
  rw [e, hm.u]; rfl

theorem blk1 (t : Fin cfg0.N) : iblk m c 1 t = lift fun i : S2048x256.Idx => u3 (ix3 0 (i 0) (valLane (col t.val (i 1)))) := by
  have e : iblk m c 1 t = fun i : S2048x256.Idx => m ((c.tc : Thread nD τ).loc main_arg0) (ix3 0 (i 0) (valLane (col t.val (i 1)))) := by
    funext y
    idx_vars y
    blk_point [iblk, V, idx t, col, valLane]
  rw [e, hm.u]; rfl

theorem blk2 (t : Fin cfg0.N) : iblk m c 2 t = lift fun i : S3x256.Idx => w3 (ix3 0 (i 0) (gateLane (col t.val (i 1)))) := by
  have e : iblk m c 2 t = fun i : S3x256.Idx => m ((c.tc : Thread nD τ).loc main_arg1) (ix3 0 (i 0) (gateLane (col t.val (i 1)))) := by
    funext y
    idx_vars y
    blk_point [iblk, V, idx t, col, gateLane]
  rw [e, hm.w]; rfl

theorem blk3 (t : Fin cfg0.N) : iblk m c 3 t = lift fun i : S3x256.Idx => w3 (ix3 0 (i 0) (valLane (col t.val (i 1)))) := by
  have e : iblk m c 3 t = fun i : S3x256.Idx => m ((c.tc : Thread nD τ).loc main_arg1) (ix3 0 (i 0) (valLane (col t.val (i 1)))) := by
    funext y
    idx_vars y
    blk_point [iblk, V, idx t, col, valLane]
  rw [e, hm.w]; rfl

theorem blk4 (t : Fin cfg0.N) : iblk m c 4 t = lift fun i : S1x256.Idx => b2 (ix2 0 (gateLane (col t.val (i 1)))) := by
  have e : iblk m c 4 t = fun i : S1x256.Idx => m ((c.tc : Thread nD τ).loc main_arg2) (ix2 0 (gateLane (col t.val (i 1)))) := by
    funext y
    idx_vars y
    obtain rfl : y0 = 0 := Subsingleton.elim _ _
    blk_point [iblk, V, idx t, col, gateLane]
  rw [e, hm.b]; rfl

theorem blk5 (t : Fin cfg0.N) : iblk m c 5 t = lift fun i : S1x256.Idx => b2 (ix2 0 (valLane (col t.val (i 1)))) := by
  have e : iblk m c 5 t = fun i : S1x256.Idx => m ((c.tc : Thread nD τ).loc main_arg2) (ix2 0 (valLane (col t.val (i 1)))) := by
    funext y
    idx_vars y
    obtain rfl : y0 = 0 := Subsingleton.elim _ _
    blk_point [iblk, V, idx t, col, valLane]
  rw [e, hm.b]; rfl

theorem out_final : (dats m 0 c).arrAt 6 cfg0.N = lift (outArr u3 w3 b2) := by
  refine (dats m 0 c).arrAt_eq_of_covers 6 _ (by decide +kernel) fun t _ y => ?_
  rw [after0_6, blk0 u3 w3 b2 m c hm, blk1 u3 w3 b2 m c hm, blk2 u3 w3 b2 m c hm, blk3 u3 w3 b2 m c hm, blk4 u3 w3 b2 m c hm, blk5 u3 w3 b2 m c hm]
  idx_vars y
  blk_simp
  refine (out6 _ _ _ _ _ _ y0 y1).trans ?_
  refine congrArg (lift (outArr u3 w3 b2)) (a₁ := ix2 y0 (col t.val y1)) ?_
  blk_ext [idx t, col]

end Cert.ConvFwd

end
-- ==== Proof.ConvFwdReference.lean ====
module

public import proofs.«01_k».proof.Proof.Gen.Reference9Ideal.Read
public import proofs.«01_k».proof.Proof.ConvFwd

/-! The feed-forward's convolution and gate: what the reference computes, over real arguments. -/

@[expose] public section

set_option maxRecDepth 16384

noncomputable section

namespace Cert.ConvFwd

open Idealize.ShloMosaic Idealize.ShloMosaic.TcCoe Idealize.SL.Sem
open Cert.Lift Cert.Conv
open Cert.Reference9Ideal Cert.Reference9Ideal.Gen Cert.Reference9Ideal.Read

variable (u3 : S1x2048x5632.Idx → ℝ) (w3 : S1x3x5632.Idx → ℝ) (b2 : S1x5632.Idx → ℝ)

theorem ref_prev (z : Fin 1) (r : Fin 2048) (l : Fin 5632) :
    val_main_v4 (F := Ideal) (lift u3) (ix3 z r l) = ((prev (fun k => u3 (ix3 0 k l)) r : ℝ) : EReal) := by
  obtain rfl : z = 0 := Subsingleton.elim _ _
  pointwise [val_main_v4, val_main_v3, val_main_v2, val_main_cst]
  exact padded_prev u3 r l

theorem ref_same (z : Fin 1) (r : Fin 2048) (l : Fin 5632) : val_main_v13 (F := Ideal) (lift u3) (ix3 z r l) = ((u3 (ix3 0 r l) : ℝ) : EReal) := by
  obtain rfl : z = 0 := Subsingleton.elim _ _
  pointwise [val_main_v13, val_main_v3, val_main_v2, val_main_cst]
  rfl

theorem ref_next (z : Fin 1) (r : Fin 2048) (l : Fin 5632) :
    val_main_v20 (F := Ideal) (lift u3) (ix3 z r l) = ((next (fun k => u3 (ix3 0 k l)) r : ℝ) : EReal) := by
  obtain rfl : z = 0 := Subsingleton.elim _ _
  pointwise [val_main_v20, val_main_v3, val_main_v2, val_main_cst]
  exact padded_next u3 r l

theorem ref_conv (z : Fin 1) (r : Fin 2048) (l : Fin 5632) :
    val_main_v26 (F := Ideal) (lift u3) (lift w3) (lift b2) (ix3 z r l) = ((convAt u3 w3 b2 l r : ℝ) : EReal) := by
  pointwise [val_main_v26, val_main_v25, val_main_v24, val_main_v23, val_main_v22, val_main_v21, val_main_v19, val_main_v18, val_main_v17, val_main_v16,
    val_main_v15, val_main_v14, val_main_v12, val_main_v11, val_main_v10, val_main_v9, val_main_v8, val_main_v7, val_main_v6, val_main_v5, val_main_v1, val_main_v0]
  rw [ref_prev, ref_same, ref_next]
  simp only [lift, ← EReal.coe_mul, ← EReal.coe_add]
  rfl

theorem ref_out (r : Fin 2048) (l : Fin 2816) :
    val_main_v32 (F := Ideal) (lift u3) (lift w3) (lift b2) (ix2 r l) = ((outArr u3 w3 b2 (ix2 r l) : ℝ) : EReal) := by
  pointwise [val_main_v32, val_main_v31, val_main_v30, val_main_v29, val_main_v28, val_main_v27, val_main_call0_v5, val_main_call0_v4, val_main_call0_v3,
    val_main_call0_v2, val_main_call0_v1, val_main_call0_v0, val_main_call0_cst, val_main_call0_cst_0]
  simp only [ref_conv, ofBits_one, sigmoid_real', ← EReal.coe_mul]
  rfl

theorem out_ref : val_main_v32 (F := Ideal) (lift u3) (lift w3) (lift b2) = lift (outArr u3 w3 b2) := by
  funext i
  idx_vars i
  exact ref_out u3 w3 b2 i0 i1

end Cert.ConvFwd

end
-- ==== Proof.ConvFwdClaim.lean ====
/- The statement about the feed-forward's convolution and gate: from finite arguments the kernel and the
   reference end holding the same array. -/
module

public import proofs.«01_k».proof.Defs
public import proofs.«01_k».proof.Proof.ConvFwdReference
public import proofs.«01_k».proof.Proof.Gen.Reference9Ideal.Run
public import proofs.«01_k».proof.Proof.Gen.Pre_finite9
public import Idealize.ShloMosaic.Lib.Claim

@[expose] public section

noncomputable section

namespace Cert.ConvFwd

open Idealize.ShloMosaic Idealize.SL.Sem Cert.Lift

/-- Under the precondition each argument is an array of reals. -/
theorem args_real (m : (ℓ : Loc Cert.Kernel9Ideal.nD Cert.Kernel9Ideal.τ Cert.Kernel9Ideal.sig) → Buf (Elt Ideal) ℓ)
    (h : Cert.Pre_Kernel9Ideal_finite9 m) (c : Dev Cert.Kernel9Ideal.nD) :
    ∃ os ps gs, m ((c.tc : Thread Cert.Kernel9Ideal.nD Cert.Kernel9Ideal.τ).loc Cert.Kernel9Ideal.main_arg0) = lift os
      ∧ m ((c.tc : Thread Cert.Kernel9Ideal.nD Cert.Kernel9Ideal.τ).loc Cert.Kernel9Ideal.main_arg1) = lift ps
      ∧ m ((c.tc : Thread Cert.Kernel9Ideal.nD Cert.Kernel9Ideal.τ).loc Cert.Kernel9Ideal.main_arg2) = lift gs := by
  obtain ⟨ho, hp, hg⟩ := h c
  obtain ⟨os, hos⟩ := exists_real _ _ ho
  obtain ⟨ps, hps⟩ := exists_real _ _ hp
  obtain ⟨gs, hgs⟩ := exists_real _ _ hg
  exact ⟨os, ps, gs, hos, hps, hgs⟩

theorem frame_reference : Cert.quiescent_Reference9Ideal := by
  intro m ρ _
  exact (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem algebraic : Cert.algebraic_Kernel9Ideal_Reference9Ideal_pre_finite9 := by
  intro m g m' g' hpre hagree
  choose os ps gs ho hp hg using args_real m hpre
  refine ⟨fun c => lift (outArr (os c) (ps c) (gs c)), ?_, ?_⟩
  · refine (θ_run Cert.Kernel9Ideal.defs _ _).mono (fun r h c => ?_) (Cert.Kernel9Ideal.Value.run_blocks (F := Ideal) m g)
    obtain ⟨h0, h1⟩ := h c
    exact ⟨h0.trans (out_final _ _ _ m c ⟨ho c, hp c, hg c⟩), h1⟩
  · refine (θ_run Cert.Reference9Ideal.defs _ _).mono (fun r h c => ?_) (Cert.Reference9Ideal.Value.run (F := Ideal) m' g')
    obtain ⟨h0, h1⟩ := h c
    obtain ⟨a0, a1, a2⟩ := hagree c
    refine ⟨h0.trans ?_, h1⟩
    refine (Cert.Reference9Ideal.Read.val_main_v32_eq m' c).trans ?_
    rw [a0, a1, a2, ho, hp, hg]
    exact out_ref _ _ _

end Cert.ConvFwd

end
-- ==== Proof.Rope.lean ====
module

public import proofs.«01_k».proof.Proof.Lift

/-! RMSNorm over a head's 64 entries and the rotary embedding: the row functions, and how a block of 128 lanes holds two heads. -/

@[expose] public section

set_option maxRecDepth 16384

noncomputable section

namespace Cert.Rope

open Idealize.ShloMosaic
open Cert.Lift

/-- One over the root mean square of a head's row. -/
def rstd (x : Fin 64 → ℝ) : ℝ := (Real.sqrt ((∑ k, x k * x k) / 64 + eps))⁻¹

theorem mean_sq_pos (x : Fin 64 → ℝ) : 0 < (∑ k, x k * x k) / 64 + eps :=
  add_pos_of_nonneg_of_pos (div_nonneg (Finset.sum_nonneg fun k _ => mul_self_nonneg _) (by norm_num)) eps_pos

/-- The normalised row times the gain. -/
def nrm (x g : Fin 64 → ℝ) (k : Fin 64) : ℝ := x k * rstd x * g k

/-- The pair an entry belongs to, and the other entry of that pair. -/
def half (k : Fin 64) : Fin 32 := ⟨k.val / 2, by omega⟩
def mate (k : Fin 64) : Fin 64 := ⟨if k.val % 2 = 0 then k.val + 1 else k.val - 1, by split <;> omega⟩

/-- The sine of an entry, with the sign of its place in the pair. -/
def sgn (s : Fin 32 → ℝ) (k : Fin 64) : ℝ := if k.val % 2 = 0 then -s (half k) else s (half k)

/-- The rotation of a row by the angles of the tables, and its transpose. -/
def rot (c s : Fin 32 → ℝ) (y : Fin 64 → ℝ) (k : Fin 64) : ℝ := y k * c (half k) + y (mate k) * sgn s k
def rotT (c s : Fin 32 → ℝ) (d : Fin 64 → ℝ) (k : Fin 64) : ℝ := d k * c (half k) + d (mate k) * sgn s (mate k)

/-- The gradient of the row `x` of RMSNorm with gain `g`, for the cotangent row `dy`. -/
def dxRow (x g dy : Fin 64 → ℝ) (k : Fin 64) : ℝ :=
  rstd x * (dy k * g k - x k * rstd x * ((∑ j, dy j * g j * (x j * rstd x)) / 64))

/-! ## Two heads in 128 lanes -/

/-- The lane of entry `k` of head `a`. -/
def lane (a : Fin 2) (k : Fin 64) : Fin 128 := ⟨a.val * 64 + k.val, by omega⟩

theorem lane_surj (l : Fin 128) : ∃ a k, l = lane a k :=
  ⟨⟨l.val / 64, by omega⟩, ⟨l.val % 64, by omega⟩, Fin.ext (by simp only [lane]; omega)⟩

theorem sel_low {α : Type} (l : Fin 128) (x y : α) :
    Scalar.select (IntOp.cmpi .slt (BitVec.ofNat 32 l.val) 64#32) x y = if l.val < 64 then x else y := by
  have h : ∀ l : Fin 128, IntOp.cmpi .slt (BitVec.ofNat 32 l.val) 64#32 = if l.val < 64 then 1#1 else 0#1 := by decide +kernel
  rw [h]; split <;> simp [Scalar.select]

theorem sel_even {α : Type} (l : Fin 128) (x y : α) :
    Scalar.select (IntOp.cmpi .eq (IntOp.andi (BitVec.ofNat 32 l.val) 1#32) 0#32) x y = if l.val % 2 = 0 then x else y := by
  have h : ∀ l : Fin 128, IntOp.cmpi .eq (IntOp.andi (BitVec.ofNat 32 l.val) 1#32) 0#32 = if l.val % 2 = 0 then 1#1 else 0#1 := by decide +kernel
  rw [h]; split <;> simp [Scalar.select]

theorem lane_split (f : Fin 128 → ℝ) : ∑ l, f l = ∑ k, f (lane 0 k) + ∑ k, f (lane 1 k) := by
  have e : ∑ a : Fin 2, ∑ k : Fin 64, f (lane a k) = ∑ l, f l := by
    rw [← Fintype.sum_prod_type', ← (finProdFinEquiv (m := 2) (n := 64)).sum_comp]
    exact Finset.sum_congr rfl fun p _ => congrArg f (Fin.ext (by simp [lane, finProdFinEquiv]; omega))
  rw [← e, Fin.sum_univ_two]

theorem lane0 (k : Fin 64) : (lane 0 k).val < 64 := by simp [lane]
theorem lane1 (k : Fin 64) : ¬ (lane 1 k).val < 64 := by simp [lane]

/-- A head's sum, as the block takes it: the lower lanes' sum, or the rest's. -/
theorem head_sum (a : Fin 2) (k : Fin 64) (v : Fin 128 → ℝ) :
    (if (lane a k).val < 64 then ∑ l, (if l.val < 64 then (v l : EReal) else 0) else ∑ l, ((v l : EReal) - if l.val < 64 then (v l : EReal) else 0))
      = ((∑ j, v (lane a j) : ℝ) : EReal) := by
  have e : ∀ l : Fin 128, (if l.val < 64 then (v l : EReal) else 0) = ((if l.val < 64 then v l else 0 : ℝ) : EReal) := fun l => by split <;> simp
  simp only [e, ← EReal.coe_sub, coe_sum, lane_split]
  fin_cases a <;> simp [lane0, lane1]

theorem even_swap {α : Type} (D D' : Fin 128 → α) (a : Fin 2) (k : Fin 64) (h : D = D')
    {p : ((lane a k).val + 128 - 127) % 128 < 128} {q : ((lane a k).val + 128 - 1) % 128 < 128} :
    (if (lane a k).val % 2 = 0 then D ⟨((lane a k).val + 128 - 127) % 128, p⟩ else D' ⟨((lane a k).val + 128 - 1) % 128, q⟩) = D (lane a (mate k)) := by
  subst h
  split <;> refine congrArg D (Fin.ext ?_) <;> simp only [lane, mate] at * <;> split <;> omega

theorem ofBits_64 : Ideal.ofBits .f32 0x42800000#32 = ((64 : ℝ) : EReal) := by
  simp [Ideal.ofBits, Ideal.ieee, -EReal.coe_mul]; norm_num

theorem ofBits_inv_64 : Ideal.ofBits .f32 0x3C800000#32 = ((1 / 64 : ℝ) : EReal) := by
  simp [Ideal.ofBits, Ideal.ieee, -EReal.coe_mul]; norm_num

theorem over_64 (x : ℝ) : x * (1 / 64) = x / 64 := by ring

/-- A row of the block, among all the rows. -/
def line (t : ℕ) (r : Fin 512) : Fin 2048 := ⟨t % 4 * 512 + r.val, by omega⟩

/-- An entry of the head that column `q` belongs to, among the columns; and the column's place in its head. -/
def inHead {n : ℕ} (q : Fin (n * 64)) (k : Fin 64) : Fin (n * 64) := ⟨q.val / 64 * 64 + k.val, by omega⟩
def ent {n : ℕ} (q : Fin (n * 64)) : Fin 64 := ⟨q.val % 64, by omega⟩

theorem sum_lines (f : Fin 2048 → ℝ) : ∑ k : Fin 4, ∑ r : Fin 512, f (line k.val r) = ∑ r, f r := by
  rw [← Fintype.sum_prod_type', ← (finProdFinEquiv (m := 4) (n := 512)).sum_comp]
  exact Finset.sum_congr rfl fun p _ => congrArg f (Fin.ext (by simp [line, finProdFinEquiv]; omega))

/-! ## The gradient's two forms -/

def ms (x : Fin 64 → ℝ) : ℝ := (∑ k, x k * x k) / 64 + eps
def dot3 (x g dy : Fin 64 → ℝ) : ℝ := ∑ k, x k * (dy k * g k)
def slope (x g dy : Fin 64 → ℝ) : ℝ := dot3 x g dy * (-1 / 2 * (rstd x / ms x)) / 64

theorem rstd_sq (x : Fin 64 → ℝ) : rstd x * rstd x * ms x = 1 := by
  have h := mean_sq_pos x
  unfold rstd ms
  rw [← mul_inv, Real.mul_self_sqrt h.le, inv_mul_cancel₀ h.ne']

theorem dxRow_eq (x g dy : Fin 64 → ℝ) (k : Fin 64) :
    dy k * g k * rstd x + x k * slope x g dy + slope x g dy * x k = dxRow x g dy k := by
  have hm : ms x ≠ 0 := (mean_sq_pos x).ne'
  have hs : ∑ j, dy j * g j * (x j * rstd x) = rstd x * dot3 x g dy := by
    rw [dot3, Finset.mul_sum]; exact Finset.sum_congr rfl fun k _ => by ring
  have hr : rstd x / ms x = rstd x * rstd x * rstd x := by
    rw [div_eq_iff hm]; linear_combination (-rstd x) * rstd_sq x
  rw [dxRow, hs, slope, hr]
  ring

end Cert.Rope

end
-- ==== Proof.QkBwdRow.lean ====
module

public import proofs.«01_k».proof.Proof.Gen.Kernel11Ideal.Value
public import proofs.«01_k».proof.Proof.Rope
public import Idealize.ShloMosaic.Lib.Pipeline.ValueKit.Acc
public import Idealize.ShloMosaic.Lib.Pipeline.ReadBack

/-! The gradient of the attention's query and key norms and rotary embedding: one pair of heads of a block, over real arguments. -/

@[expose] public section

set_option maxRecDepth 16384

noncomputable section

namespace Cert.QkBwd

open Idealize.ShloMosaic Idealize.ShloMosaic.TcCoe Idealize.SL.Sem
open Idealize.ShloMosaic.Pipeline (Dat)
open Cert.Lift Cert.Rope
open Cert.Kernel11Ideal Cert.Kernel11Ideal.Gen

/-- An entry's share of the gradient of its gain. -/
def gainTerm (x dy : Fin 64 → ℝ) (k : Fin 64) : ℝ := dy k * (x k * rstd x)

section Pieces
variable (x c s d : Vec Ideal S512x128 .f32) (g acc : Vec Ideal S1x128 .f32)

/-- One pair of heads: the gradient of its rows; and the gains' accumulator. -/
def dxPiece : Vec Ideal S512x128 .bf16 :=
  k0_pay14 (F := Ideal) (k0_pay5 (F := Ideal) x) g (k0_pay6 (F := Ideal) c s d) (k0_pay9 (F := Ideal) x) k0_pay10 (k0_pay11 (F := Ideal) x)
def dgPiece : Vec Ideal S1x128 .f32 :=
  k0_pay15 (F := Ideal) (k0_pay5 (F := Ideal) x) (k0_pay6 (F := Ideal) c s d) (k0_pay9 (F := Ideal) x) k0_pay10 (k0_pay11 (F := Ideal) x) acc

variable (rx rd : Fin 128 → ℝ) (rg : Fin 64 → ℝ) (rc rs : Fin 32 → ℝ) (r : Fin 512) (a : Fin 2) (k : Fin 64)

/-- The cotangent, rotated back. -/
theorem pay6 (hc : ∀ a k, c (ix2 r (lane a k)) = ((rc (half k) : ℝ) : EReal)) (hs : ∀ a k, s (ix2 r (lane a k)) = ((sgn rs k : ℝ) : EReal))
    (hd : ∀ l, d (ix2 r l) = ((rd l : ℝ) : EReal)) :
    k0_pay6 (F := Ideal) c s d (ix2 r (lane a k)) = ((rotT rc rs (fun j => rd (lane a j)) k : ℝ) : EReal) := by
  pointwise [k0_pay6, k0_pay3, k0_pay4]
  rw [sel_even, even_swap (fun l => d (ix2 r l) * s (ix2 r l)) (fun l => d (ix2 r l) * s (ix2 r l)) a k rfl]
  simp only [hc, hs, hd, ← EReal.coe_mul, ← EReal.coe_add]
  rfl

/-- The normalised row. -/
theorem pay12 (hx : ∀ l, x (ix2 r l) = ((rx l : ℝ) : EReal)) :
    k0_pay12 (F := Ideal) (k0_pay9 (F := Ideal) x) k0_pay10 (k0_pay11 (F := Ideal) x) (ix2 r (lane a k)) = ((rstd (fun j => rx (lane a j)) : ℝ) : EReal) := by
  have e := rsqrt_real (mean_sq_pos fun j => rx (lane a j))
  beta_reduce at e
  pointwise [k0_pay12, k0_pay9, k0_pay10, k0_pay11, k0_pay8, k0_pay7, k0_pay5]
  simp only [hx, sel_low, ← EReal.coe_mul]
  rw [head_sum a k fun l => rx l * rx l]
  simp only [ofBits_inv_64, ofBits_eps, ← EReal.coe_mul, over_64, ← EReal.coe_add, e]
  rfl

theorem pay13 (hx : ∀ l, x (ix2 r l) = ((rx l : ℝ) : EReal)) :
    k0_pay13 (F := Ideal) (k0_pay5 (F := Ideal) x) (k0_pay9 (F := Ideal) x) k0_pay10 (k0_pay11 (F := Ideal) x) (ix2 r (lane a k))
      = ((rx (lane a k) * rstd (fun j => rx (lane a j)) : ℝ) : EReal) := by
  pointwise [k0_pay13, k0_pay5]
  rw [pay12 x rx r a k hx, hx, ← EReal.coe_mul]

theorem dx_piece (hx : ∀ l, x (ix2 r l) = ((rx l : ℝ) : EReal)) (hg : ∀ a k, g (ix2 0 (lane a k)) = ((rg k : ℝ) : EReal))
    (hc : ∀ a k, c (ix2 r (lane a k)) = ((rc (half k) : ℝ) : EReal)) (hs : ∀ a k, s (ix2 r (lane a k)) = ((sgn rs k : ℝ) : EReal))
    (hd : ∀ l, d (ix2 r l) = ((rd l : ℝ) : EReal)) :
    dxPiece x c s d g (ix2 r (lane a k)) = ((dxRow (fun j => rx (lane a j)) rg (rotT rc rs fun j => rd (lane a j)) k : ℝ) : EReal) := by
  have hv : ∀ l, k0_pay6 (F := Ideal) c s d (ix2 r l) * g (ix2 0 l)
      * k0_pay13 (F := Ideal) (k0_pay5 (F := Ideal) x) (k0_pay9 (F := Ideal) x) k0_pay10 (k0_pay11 (F := Ideal) x) (ix2 r l)
      = ((rotT rc rs (fun j => rd (lane ⟨l.val / 64, by omega⟩ j)) ⟨l.val % 64, by omega⟩ * rg ⟨l.val % 64, by omega⟩
        * (rx l * rstd (fun j => rx (lane ⟨l.val / 64, by omega⟩ j))) : ℝ) : EReal) := fun l => by
    obtain ⟨b, j, rfl⟩ := lane_surj l
    have eb : (⟨(lane b j).val / 64, by omega⟩ : Fin 2) = b := Fin.ext (by simp only [lane]; omega)
    have ej : (⟨(lane b j).val % 64, by omega⟩ : Fin 64) = j := Fin.ext (by simp only [lane]; omega)
    rw [pay6 c s d rd rc rs r b j hc hs hd, pay13 x rx r b j hx, hg, eb, ej, ← EReal.coe_mul, ← EReal.coe_mul]
  unfold dxPiece
  pointwise [k0_pay14]
  simp only [hv, sel_low]
  rw [head_sum a k]
  rw [pay6 c s d rd rc rs r a k hc hs hd, pay13 x rx r a k hx, pay12 x rx r a k hx, hg]
  simp only [ofBits_inv_64, ← EReal.coe_mul, over_64, ← EReal.coe_sub]
  have eb : ∀ j h, (⟨(lane a j).val / 64, h⟩ : Fin 2) = a := fun j h => Fin.ext (by simp only [lane]; omega)
  have ej : ∀ j h, (⟨(lane a j).val % 64, h⟩ : Fin 64) = j := fun j h => Fin.ext (by simp only [lane]; omega)
  simp only [eb, ej]
  rfl
end Pieces

theorem dg_piece (x c s d : Vec Ideal S512x128 .f32) (acc : Vec Ideal S1x128 .f32) (rx rd : Fin 512 → Fin 128 → ℝ) (rc rs : Fin 512 → Fin 32 → ℝ)
    (a : Fin 2) (k : Fin 64) (hx : ∀ r l, x (ix2 r l) = ((rx r l : ℝ) : EReal)) (hc : ∀ r a k, c (ix2 r (lane a k)) = ((rc r (half k) : ℝ) : EReal))
    (hs : ∀ r a k, s (ix2 r (lane a k)) = ((sgn (rs r) k : ℝ) : EReal)) (hd : ∀ r l, d (ix2 r l) = ((rd r l : ℝ) : EReal)) :
    dgPiece x c s d acc (ix2 0 (lane a k)) = acc (ix2 0 (lane a k))
      + ((∑ r, gainTerm (fun j => rx r (lane a j)) (rotT (rc r) (rs r) fun j => rd r (lane a j)) k : ℝ) : EReal) := by
  unfold dgPiece
  pointwise [k0_pay15]
  have hv : ∀ r, k0_pay6 (F := Ideal) c s d (ix2 r (lane a k))
      * k0_pay13 (F := Ideal) (k0_pay5 (F := Ideal) x) (k0_pay9 (F := Ideal) x) k0_pay10 (k0_pay11 (F := Ideal) x) (ix2 r (lane a k))
      = ((gainTerm (fun j => rx r (lane a j)) (rotT (rc r) (rs r) fun j => rd r (lane a j)) k : ℝ) : EReal) := fun r => by
    rw [pay6 c s d _ _ _ r a k (hc r) (hs r) (hd r), pay13 x _ r a k (hx r), ← EReal.coe_mul]
    rfl
  simp only [hv, coe_sum, zero_add]

/-! ## The other pairs' texts are the first one's -/

section Texts
variable (x c s d : Vec Ideal S512x128 .f32) (g acc : Vec Ideal S1x128 .f32)

theorem dx1 : k0_pay22 (F := Ideal) (k0_pay18 (F := Ideal) x) (k0_pay19 (F := Ideal) x) (k0_pay20 (F := Ideal) (k0_pay3 (F := Ideal) c) (k0_pay4 (F := Ideal) s) g d)
    (k0_pay21 (F := Ideal) (k0_pay3 (F := Ideal) c) (k0_pay4 (F := Ideal) s) x g d) (iota .tc S512x128 32 [1] iota_S512x128_d1_w32) = dxPiece x c s d g := rfl

theorem dx2 : k0_pay37 (F := Ideal) (k0_pay29 (F := Ideal) (k0_pay24 (F := Ideal) x)) (k0_pay30 (F := Ideal) (k0_pay24 (F := Ideal) x))
    (k0_pay31 (F := Ideal) g (k0_pay25 (F := Ideal) (k0_pay3 (F := Ideal) c) d) (k0_pay26 (F := Ideal) (k0_pay4 (F := Ideal) s) d) (iota .tc S512x128 32 [1] iota_S512x128_d1_w32) k0_pay27)
    (iota .tc S512x128 32 [1] iota_S512x128_d1_w32)
    (k0_pay34 (F := Ideal) (k0_pay24 (F := Ideal) x) g (k0_pay25 (F := Ideal) (k0_pay3 (F := Ideal) c) d) (k0_pay26 (F := Ideal) (k0_pay4 (F := Ideal) s) d)
      (iota .tc S512x128 32 [1] iota_S512x128_d1_w32) k0_pay27)
    (k0_pay35 (F := Ideal) (k0_pay24 (F := Ideal) x) g (k0_pay25 (F := Ideal) (k0_pay3 (F := Ideal) c) d) (k0_pay26 (F := Ideal) (k0_pay4 (F := Ideal) s) d)
      (iota .tc S512x128 32 [1] iota_S512x128_d1_w32) k0_pay27) k0_pay36 = dxPiece x c s d g := rfl

theorem dx3 : k0_pay47 (F := Ideal) (k0_pay45 (F := Ideal) (k0_pay39 (F := Ideal) x) g (k0_pay40 (F := Ideal) (k0_pay3 (F := Ideal) c) (k0_pay4 (F := Ideal) s) d)
    (k0_pay41 (F := Ideal) x) (iota .tc S512x128 32 [1] iota_S512x128_d1_w32) k0_pay42) = dxPiece x c s d g := rfl

theorem dx4 : k0_pay58 (F := Ideal) (k0_pay49 (F := Ideal) x) g (k0_pay50 (F := Ideal) (k0_pay3 (F := Ideal) c) (k0_pay4 (F := Ideal) s) d)
    (k0_pay53 (F := Ideal) x) k0_pay54 (k0_pay55 (F := Ideal) x) = dxPiece x c s d g := rfl

theorem dg1 : k0_pay23 (F := Ideal) (k0_pay17 (F := Ideal) (k0_pay3 (F := Ideal) c) (k0_pay4 (F := Ideal) s) d) (k0_pay19 (F := Ideal) x) acc = dgPiece x c s d acc := rfl

theorem dg2 : k0_pay38 (F := Ideal) (k0_pay28 (F := Ideal) (k0_pay25 (F := Ideal) (k0_pay3 (F := Ideal) c) d) (k0_pay26 (F := Ideal) (k0_pay4 (F := Ideal) s) d)
    (iota .tc S512x128 32 [1] iota_S512x128_d1_w32) k0_pay27) (k0_pay30 (F := Ideal) (k0_pay24 (F := Ideal) x)) acc = dgPiece x c s d acc := rfl

theorem dg3 : k0_pay48 (F := Ideal) (k0_pay46 (F := Ideal) (k0_pay39 (F := Ideal) x) (k0_pay40 (F := Ideal) (k0_pay3 (F := Ideal) c) (k0_pay4 (F := Ideal) s) d)
    (k0_pay41 (F := Ideal) x) (iota .tc S512x128 32 [1] iota_S512x128_d1_w32) k0_pay42) acc = dgPiece x c s d acc := rfl

theorem dg4 : k0_pay59 (F := Ideal) (k0_pay49 (F := Ideal) x) (k0_pay50 (F := Ideal) (k0_pay3 (F := Ideal) c) (k0_pay4 (F := Ideal) s) d)
    (k0_pay53 (F := Ideal) x) k0_pay54 (k0_pay55 (F := Ideal) x) acc = dgPiece x c s d acc := rfl
end Texts

end Cert.QkBwd

end
-- ==== Proof.QkBwd.lean ====
module

public import proofs.«01_k».proof.Proof.QkBwdRow

/-! The gradient of the attention's query and key norms and rotary embedding: what the kernel leaves in its result arrays, over real arguments. -/

@[expose] public section

set_option maxRecDepth 16384

noncomputable section

namespace Cert.QkBwd

open Idealize.ShloMosaic Idealize.ShloMosaic.TcCoe Idealize.SL.Sem
open Idealize.ShloMosaic.Pipeline (Dat)
open Cert.Lift Cert.Rope
open Cert.Kernel11Ideal Cert.Kernel11Ideal.Gen

section Arrays
variable (p : S1x2048x3328.Idx → ℝ) (gq gk : S1x64.Idx → ℝ) (cs sn : S2048x32.Idx → ℝ) (dq : S2048x512.Idx → ℝ) (dk : S2048x128.Idx → ℝ)

/-- A head's row of the queries, the keys, and their cotangents; a row of a table; a gain. -/
def rowQ (r : Fin 2048) (q : Fin (8 * 64)) (k : Fin 64) : ℝ := p (ix3 0 r ⟨(inHead (n := 8) q k).val, by omega⟩)
def rowK (r : Fin 2048) (q : Fin (2 * 64)) (k : Fin 64) : ℝ := p (ix3 0 r ⟨512 + (inHead (n := 2) q k).val, by omega⟩)
def rowDq (r : Fin 2048) (q : Fin (8 * 64)) (k : Fin 64) : ℝ := dq (ix2 r (inHead (n := 8) q k))
def rowDk (r : Fin 2048) (q : Fin (2 * 64)) (k : Fin 64) : ℝ := dk (ix2 r (inHead (n := 2) q k))
def rowC (r : Fin 2048) (j : Fin 32) : ℝ := cs (ix2 r j)
def rowG (k : Fin 64) : ℝ := gq (ix2 0 k)

/-- The gradients of the queries and of the keys. -/
def dQ (i : S2048x512.Idx) : ℝ :=
  dxRow (rowQ p (i 0) (i 1)) (rowG gq) (rotT (rowC cs (i 0)) (rowC sn (i 0)) (rowDq dq (i 0) (i 1))) (ent (n := 8) (i 1))
def dK (i : S2048x128.Idx) : ℝ :=
  dxRow (rowK p (i 0) (i 1)) (rowG gk) (rotT (rowC cs (i 0)) (rowC sn (i 0)) (rowDk dk (i 0) (i 1))) (ent (n := 2) (i 1))

/-- One row's share of the gradients of the heads' gains; and the gradients. -/
def gqAt (r : Fin 2048) (q : Fin (8 * 64)) : ℝ := gainTerm (rowQ p r q) (rotT (rowC cs r) (rowC sn r) (rowDq dq r q)) (ent (n := 8) q)
def gkAt (r : Fin 2048) (q : Fin (2 * 64)) : ℝ := gainTerm (rowK p r q) (rotT (rowC cs r) (rowC sn r) (rowDk dk r q)) (ent (n := 2) q)
def dGq (i : S1x512.Idx) : ℝ := ∑ r, gqAt p cs sn dq r (i 1)
def dGk (i : S1x128.Idx) : ℝ := ∑ r, gkAt p cs sn dk r (i 1)

/-- A column of the queries, from the lanes of its pair of heads; and of the keys. -/
theorem rowQ_lane (r : Fin 2048) (q : Fin (8 * 64)) (a : Fin 2) (k : Fin 64) (e : ℕ) (h : ∀ l : Fin 128, e + l.val < 3328) (he : e % 128 = 0)
    (hq : q.val = e + (lane a k).val) : (fun j => p (ix3 0 r ⟨e + (lane a j).val, h _⟩)) = rowQ p r q := by
  funext j
  refine congrArg (fun z => p (ix3 0 r z)) (Fin.ext ?_)
  simp only [lane, inHead] at *
  omega

theorem rowDq_lane (r : Fin 2048) (q : Fin (8 * 64)) (a : Fin 2) (k : Fin 64) (e : ℕ) (h : ∀ l : Fin 128, e + l.val < 512) (he : e % 128 = 0)
    (hq : q.val = e + (lane a k).val) : (fun j => dq (ix2 r ⟨e + (lane a j).val, h _⟩)) = rowDq dq r q := by
  funext j
  refine congrArg (fun z => dq (ix2 r z)) (Fin.ext ?_)
  simp only [lane, inHead] at *
  omega

theorem ent_lane {n : ℕ} (q : Fin (n * 64)) (a : Fin 2) (k : Fin 64) (e : ℕ) (he : e % 128 = 0) (hq : q.val = e + (lane a k).val) : ent q = k :=
  Fin.ext (by simp only [ent]; simp only [lane] at hq; omega)

theorem rowK_lane (r : Fin 2048) (a : Fin 2) (k : Fin 64) (h : ∀ l : Fin 128, 512 + l.val < 3328) :
    (fun j => p (ix3 0 r ⟨512 + (lane a j).val, h _⟩)) = rowK p r (lane a k) := by
  funext j
  refine congrArg (fun z => p (ix3 0 r z)) (Fin.ext ?_)
  simp only [lane, inHead] at *
  omega

theorem rowDk_lane (r : Fin 2048) (a : Fin 2) (k : Fin 64) : (fun j => dk (ix2 r (lane a j))) = rowDk dk r (lane a k) := by
  funext j
  refine congrArg (fun z => dk (ix2 r z)) (Fin.ext ?_)
  simp only [lane, inHead] at *
  omega
end Arrays

variable (m : (ℓ : Loc nD τ sig) → Buf (Elt Ideal) ℓ) (c : Dev nD)

theorem idx : ∀ t : Fin cfg0.N, win0_0.index t = ![t.val % 4, 0] ∧ win0_1.index t = ![t.val % 4, 4] ∧ win0_2.index t = ![0, 0] ∧ win0_3.index t = ![0, 0]
    ∧ win0_4.index t = ![t.val % 4, 0] ∧ win0_5.index t = ![t.val % 4, 0] ∧ win0_6.index t = ![t.val % 4, 0] ∧ win0_7.index t = ![t.val % 4, 0]
    ∧ win0_8.index t = ![t.val % 4, 0] ∧ win0_9.index t = ![t.val % 4, 0] ∧ win0_10.index t = ![0, 0] ∧ win0_11.index t = ![0, 0] :=
  (by decide +kernel : ∀ t : Fin grid0.N, _)

variable (p : S1x2048x3328.Idx → ℝ) (gq gk : S1x64.Idx → ℝ) (cs sn : S2048x32.Idx → ℝ) (dq : S2048x512.Idx → ℝ) (dk : S2048x128.Idx → ℝ)

/-- The arguments are real arrays. -/
structure Args : Prop where
  p : m ((c.tc : Thread nD τ).loc main_arg0) = lift p
  gq : m ((c.tc : Thread nD τ).loc main_arg1) = lift gq
  gk : m ((c.tc : Thread nD τ).loc main_arg2) = lift gk
  co : m ((c.tc : Thread nD τ).loc main_arg3) = lift cs
  si : m ((c.tc : Thread nD τ).loc main_arg4) = lift sn
  dq : m ((c.tc : Thread nD τ).loc main_arg5) = lift dq
  dk : m ((c.tc : Thread nD τ).loc main_arg6) = lift dk

variable {p gq gk cs sn dq dk}
variable (hm : Args m c p gq gk cs sn dq dk)
include hm

theorem blk0 (t : Fin cfg0.N) (r : Fin 512) (q : Fin 512) : X0_0 m c t (ix2 r q) = ((p (ix3 0 (line t.val r) ⟨q.val, by omega⟩) : ℝ) : EReal) := by
  have e : X0_0 m c t (ix2 r q) = m ((c.tc : Thread nD τ).loc main_arg0) (ix3 0 (line t.val r) ⟨q.val, by omega⟩) := by
    unfold X0_0 Pipeline.Window.fill
    rw [dif_pos (moved0_0 t _)]
    blk_point [iblk, V, idx t, line]
  rw [e, hm.p]; rfl

theorem blk1 (t : Fin cfg0.N) (r : Fin 512) (q : Fin 128) : iblk m c 1 t (ix2 r q) = ((p (ix3 0 (line t.val r) ⟨512 + q.val, by omega⟩) : ℝ) : EReal) := by
  have e : iblk m c 1 t (ix2 r q) = m ((c.tc : Thread nD τ).loc main_arg0) (ix3 0 (line t.val r) ⟨512 + q.val, by omega⟩) := by
    blk_point [iblk, V, idx t, line]
  rw [e, hm.p]; rfl

theorem blk2 (t : Fin cfg0.N) (a : Fin 2) (k : Fin 64) : iblk m c 2 t (ix2 0 (lane a k)) = ((rowG gq k : ℝ) : EReal) := by
  have e : iblk m c 2 t (ix2 0 (lane a k)) = m ((c.tc : Thread nD τ).loc main_arg1) (ix2 0 k) := by
    blk_point [iblk, V, idx t, lane]
  rw [e, hm.gq]; rfl

theorem blk4 (t : Fin cfg0.N) (r : Fin 512) (a : Fin 2) (k : Fin 64) : iblk m c 4 t (ix2 r (lane a k)) = ((rowC cs (line t.val r) (half k) : ℝ) : EReal) := by
  have e : iblk m c 4 t (ix2 r (lane a k)) = m ((c.tc : Thread nD τ).loc main_arg3) (ix2 (line t.val r) (half k)) := by
    blk_point [iblk, V, idx t, lane, line, half]
  rw [e, hm.co]; rfl

omit hm in
theorem sin_even (t : Fin cfg0.N) (r : Fin 512) (a : Fin 2) (k : Fin 64) (h : k.val % 2 = 0) :
    iblk m c 5 t (ix2 r (lane a k)) = Neg.neg (α := EReal) (m ((c.tc : Thread nD τ).loc main_arg4) (ix2 (line t.val r) (half k))) := by
  blk_simp [iblk, V, idx t]
  entry_read
  pointwise
  blk_simp [idx t, lane]
  rw [dif_pos (by change (a.val * 64 + k.val) % 64 % 2 < 1; omega)]
  refine congrArg (fun z : EReal => -z) ?_
  blk_ext! [iblk, V, idx t, lane, line, half]

omit hm in
theorem sin_odd (t : Fin cfg0.N) (r : Fin 512) (a : Fin 2) (k : Fin 64) (h : ¬ k.val % 2 = 0) :
    iblk m c 5 t (ix2 r (lane a k)) = m ((c.tc : Thread nD τ).loc main_arg4) (ix2 (line t.val r) (half k)) := by
  blk_simp [iblk, V, idx t]
  entry_read
  pointwise
  blk_simp [idx t, lane]
  rw [dif_neg (by change ¬ (a.val * 64 + k.val) % 64 % 2 < 1; omega)]
  blk_ext! [iblk, V, idx t, lane, line, half]

theorem blk5 (t : Fin cfg0.N) (r : Fin 512) (a : Fin 2) (k : Fin 64) : iblk m c 5 t (ix2 r (lane a k)) = ((sgn (rowC sn (line t.val r)) k : ℝ) : EReal) := by
  by_cases h : k.val % 2 = 0
  · rw [sin_even m c t r a k h, hm.si, sgn, if_pos h]; rfl
  · rw [sin_odd m c t r a k h, hm.si, sgn, if_neg h]; rfl

theorem blk3 (t : Fin cfg0.N) (a : Fin 2) (k : Fin 64) : iblk m c 3 t (ix2 0 (lane a k)) = ((rowG gk k : ℝ) : EReal) := by
  have e : iblk m c 3 t (ix2 0 (lane a k)) = m ((c.tc : Thread nD τ).loc main_arg2) (ix2 0 k) := by
    blk_point [iblk, V, idx t, lane]
  rw [e, hm.gk]; rfl

theorem blk6 (t : Fin cfg0.N) (r : Fin 512) (q : Fin 512) : iblk m c 6 t (ix2 r q) = ((dq (ix2 (line t.val r) q) : ℝ) : EReal) := by
  have e : iblk m c 6 t (ix2 r q) = m ((c.tc : Thread nD τ).loc main_arg5) (ix2 (line t.val r) q) := by
    blk_point [iblk, V, idx t, line]
  rw [e, hm.dq]; rfl

theorem blk7 (t : Fin cfg0.N) (r : Fin 512) (q : Fin 128) : iblk m c 7 t (ix2 r q) = ((dk (ix2 (line t.val r) q) : ℝ) : EReal) := by
  have e : iblk m c 7 t (ix2 r q) = m ((c.tc : Thread nD τ).loc main_arg6) (ix2 (line t.val r) q) := by
    blk_point [iblk, V, idx t, line]
  rw [e, hm.dk]; rfl

/-- The queries' entries at the columns of one of the block's four pairs of heads. -/
theorem ld0 (t : Fin cfg0.N) (e : ℕ) (inb : ∀ a, (![0, e] : Fin 2 → ℕ) a + (![512, 128] : Fin 2 → ℕ) a ≤ S512x512.size a) (r : Fin 512) (l : Fin 128) :
    View.ld (X0_0 m c t) (Rect.unit ![0, e] ![512, 128] inb) (ix2 r l)
      = ((p (ix3 0 (line t.val r) ⟨e + l.val, by have := inb 1; simp at this; omega⟩) : ℝ) : EReal) := by
  have he : e + 128 ≤ 512 := by have := inb 1; simpa using this
  refine Eq.trans (congrArg (X0_0 m c t) (a₂ := ix2 r ⟨e + l.val, by omega⟩) ?_) (blk0 m c hm t r _)
  blk_ext <;> (refine (Rect.idx_unit_val _ _ _ _ _).trans ?_; dsimp [ix2]; try omega)

theorem ld6 (t : Fin cfg0.N) (e : ℕ) (inb : ∀ a, (![0, e] : Fin 2 → ℕ) a + (![512, 128] : Fin 2 → ℕ) a ≤ S512x512.size a) (r : Fin 512) (l : Fin 128) :
    View.ld (iblk m c 6 t) (Rect.unit ![0, e] ![512, 128] inb) (ix2 r l)
      = ((dq (ix2 (line t.val r) ⟨e + l.val, by have := inb 1; simp at this; omega⟩) : ℝ) : EReal) := by
  have he : e + 128 ≤ 512 := by have := inb 1; simpa using this
  refine Eq.trans (congrArg (iblk m c 6 t) (a₂ := ix2 r ⟨e + l.val, by omega⟩) ?_) (blk6 m c hm t r _)
  blk_ext <;> (refine (Rect.idx_unit_val _ _ _ _ _).trans ?_; dsimp [ix2]; try omega)

theorem at8 (t : Fin cfg0.N) (r : Fin 512) (q : Fin (8 * 64)) (e : ℕ) (a : Fin 2) (k : Fin 64) (he : e % 128 = 0) (hq : q.val = e + (lane a k).val) (inb0 inb6) :
    dxPiece (View.ld (X0_0 m c t) (Rect.unit ![0, e] ![512, 128] inb0)) (iblk m c 4 t) (iblk m c 5 t) (View.ld (iblk m c 6 t) (Rect.unit ![0, e] ![512, 128] inb6))
      (iblk m c 2 t) (ix2 r (lane a k)) = ((dQ p gq cs sn dq (ix2 (line t.val r) q) : ℝ) : EReal) := by
  refine (dx_piece _ _ _ _ _ _ _ _ _ _ r a k (fun l => ld0 m c hm t e inb0 r l) (blk2 m c hm t) (blk4 m c hm t r) (blk5 m c hm t r)
    (fun l => ld6 m c hm t e inb6 r l)).trans (congrArg (fun z : ℝ => (z : EReal)) ?_)
  rw [rowQ_lane p (line t.val r) q a k e _ he hq, rowDq_lane dq (line t.val r) q a k e _ he hq, ← ent_lane q a k e he hq]
  rfl

theorem at9 (t : Fin cfg0.N) (r : Fin 512) (a : Fin 2) (k : Fin 64) :
    dxPiece (iblk m c 1 t) (iblk m c 4 t) (iblk m c 5 t) (iblk m c 7 t) (iblk m c 3 t) (ix2 r (lane a k)) = ((dK p gk cs sn dk (ix2 (line t.val r) (lane a k)) : ℝ) : EReal) := by
  refine (dx_piece _ _ _ _ _ _ _ _ _ _ r a k (blk1 m c hm t r) (blk3 m c hm t) (blk4 m c hm t r) (blk5 m c hm t r)
    (blk7 m c hm t r)).trans (congrArg (fun z : ℝ => (z : EReal)) ?_)
  rw [rowK_lane p (line t.val r) a k, rowDk_lane dk (line t.val r) a k]
  exact congrArg (dxRow _ _ _) (ent_lane (n := 2) (lane a k) a k 0 rfl (by omega)).symm

theorem out8 (t : Fin cfg0.N) (r : Fin 512) (q : Fin (8 * 64)) :
    (outsAt0 m c t.val t.isLt).1 (ix2 r q) = ((dQ p gq cs sn dq (ix2 (line t.val r) q) : ℝ) : EReal) := by
  by_cases h : t.val % 4 = 0
  · rw [outsAt0_A m c t h]
    frame_out
    rw [dx1, dx2, dx3]
    canon_tiles x h
    all_goals
      idx_vars x
      have hp : r = x0 := Fin.ext h0
      subst hp
      change (q : ℕ) = _ at h1
      obtain ⟨a, k, rfl⟩ := lane_surj x1
      exact at8 m c hm t r q _ a k (by rfl) (by omega) _ _
  · rw [outsAt0_B m c t h]
    frame_out
    rw [dx1, dx2, dx3]
    canon_tiles x h
    all_goals
      idx_vars x
      have hp : r = x0 := Fin.ext h0
      subst hp
      change (q : ℕ) = _ at h1
      obtain ⟨a, k, rfl⟩ := lane_surj x1
      exact at8 m c hm t r q _ a k (by rfl) (by omega) _ _

theorem out9 (t : Fin cfg0.N) (r : Fin 512) (q : Fin (2 * 64)) :
    (outsAt0 m c t.val t.isLt).2.1 (ix2 r q) = ((dK p gk cs sn dk (ix2 (line t.val r) q) : ℝ) : EReal) := by
  obtain ⟨a, k, rfl⟩ := lane_surj q
  by_cases h : t.val % 4 = 0
  · rw [outsAt0_A m c t h]
    frame_out
    rw [dx4]
    exact at9 m c hm t r a k
  · rw [outsAt0_B m c t h]
    frame_out
    rw [dx4]
    exact at9 m c hm t r a k

/-- One point's shares of the gains' gradients. -/
def gqPoint (p : S1x2048x3328.Idx → ℝ) (cs sn : S2048x32.Idx → ℝ) (dq : S2048x512.Idx → ℝ) (t : Fin cfg0.N) (i : S1x512.Idx) : ℝ :=
  ∑ r, gqAt p cs sn dq (line t.val r) (i 1)
def gkPoint (p : S1x2048x3328.Idx → ℝ) (cs sn : S2048x32.Idx → ℝ) (dk : S2048x128.Idx → ℝ) (t : Fin cfg0.N) (i : S1x128.Idx) : ℝ :=
  ∑ r, gkAt p cs sn dk (line t.val r) (i 1)

omit hm in
theorem ld_acc (X : Vec Ideal S1x512 .f32) (e : ℕ) (inb : ∀ a, (![0, e] : Fin 2 → ℕ) a + (![1, 128] : Fin 2 → ℕ) a ≤ S1x512.size a) (l : Fin 128)
    (q : Fin (8 * 64)) (hq : q.val = e + l.val) : View.ld X (Rect.unit ![0, e] ![1, 128] inb) (ix2 0 l) = X (ix2 0 q) := by
  refine congrArg X ?_
  blk_ext [] <;> (refine (Rect.idx_unit_val _ _ _ _ _).trans ?_; dsimp [ix2]; try omega)

/-- One piece of the queries' accumulator after a point. -/
theorem at10 (t : Fin cfg0.N) (X : Vec Ideal S1x512 .f32) (q : Fin (8 * 64)) (e : ℕ) (a : Fin 2) (k : Fin 64) (he : e % 128 = 0) (hq : q.val = e + (lane a k).val)
    (inb0 inb6 inb10) :
    dgPiece (View.ld (X0_0 m c t) (Rect.unit ![0, e] ![512, 128] inb0)) (iblk m c 4 t) (iblk m c 5 t) (View.ld (iblk m c 6 t) (Rect.unit ![0, e] ![512, 128] inb6))
      (View.ld X (Rect.unit ![0, e] ![1, 128] inb10)) (ix2 0 (lane a k)) = X (ix2 0 q) + ((gqPoint p cs sn dq t (ix2 0 q) : ℝ) : EReal) := by
  refine (dg_piece _ _ _ _ _ _ _ _ _ a k (fun r l => ld0 m c hm t e inb0 r l) (blk4 m c hm t) (blk5 m c hm t) (fun r l => ld6 m c hm t e inb6 r l)).trans ?_
  rw [ld_acc X e inb10 _ q hq]
  refine congrArg (fun z : ℝ => X (ix2 0 q) + (z : EReal)) (Finset.sum_congr rfl fun r _ => ?_)
  rw [rowQ_lane p (line t.val r) q a k e _ he hq, rowDq_lane dq (line t.val r) q a k e _ he hq, ← ent_lane q a k e he hq]
  rfl

theorem at11 (t : Fin cfg0.N) (X : Vec Ideal S1x128 .f32) (a : Fin 2) (k : Fin 64) :
    dgPiece (iblk m c 1 t) (iblk m c 4 t) (iblk m c 5 t) (iblk m c 7 t) X (ix2 0 (lane a k))
      = X (ix2 0 (lane a k)) + ((gkPoint p cs sn dk t (ix2 0 (lane a k)) : ℝ) : EReal) := by
  refine (dg_piece _ _ _ _ _ _ _ _ _ a k (blk1 m c hm t) (blk4 m c hm t) (blk5 m c hm t) (blk7 m c hm t)).trans ?_
  refine congrArg (fun z : ℝ => X (ix2 0 (lane a k)) + (z : EReal)) (Finset.sum_congr rfl fun r _ => ?_)
  rw [rowK_lane p (line t.val r) a k, rowDk_lane dk (line t.val r) a k]
  exact congrArg (gainTerm _ _) (ent_lane (n := 2) (lane a k) a k 0 rfl (by omega)).symm

theorem first11 (t : Fin cfg0.N) (h : t.val % 4 = 0) (i : S1x128.Idx) : (outsAt0 m c t.val t.isLt).2.2.2 i = 0 + ((gkPoint p cs sn dk t i : ℝ) : EReal) := by
  idx_vars i
  obtain rfl : i0 = 0 := Subsingleton.elim _ _
  obtain ⟨a, k, rfl⟩ := lane_surj i1
  rw [outsAt0_A m c t h]
  frame_out
  rw [dg4]
  refine (at11 m c hm t _ a k).trans (congrArg (· + _) ?_)
  pointwise [k0_pay2]

theorem next11 (t : Fin cfg0.N) (h : ¬ t.val % 4 = 0) (i : S1x128.Idx) : (outsAt0 m c t.val t.isLt).2.2.2 i
    = (outsAt0 m c (t.val - 1) (Nat.lt_of_le_of_lt (Nat.sub_le _ _) t.isLt)).2.2.2 i + ((gkPoint p cs sn dk t i : ℝ) : EReal) := by
  idx_vars i
  obtain rfl : i0 = 0 := Subsingleton.elim _ _
  obtain ⟨a, k, rfl⟩ := lane_surj i1
  rw [outsAt0_B m c t h]
  frame_out
  rw [dg4]
  exact at11 m c hm t _ a k

theorem next10 (t : Fin cfg0.N) (h : ¬ t.val % 4 = 0) (i : S1x512.Idx) : (outsAt0 m c t.val t.isLt).2.2.1 i
    = (outsAt0 m c (t.val - 1) (Nat.lt_of_le_of_lt (Nat.sub_le _ _) t.isLt)).2.2.1 i + ((gqPoint p cs sn dq t i : ℝ) : EReal) := by
  idx_vars i
  obtain rfl : i0 = 0 := Subsingleton.elim _ _
  rw [outsAt0_B m c t h]
  frame_out
  rw [dg1, dg2, dg3]
  canon_tiles x h
  all_goals
    idx_vars x
    obtain rfl : x0 = 0 := Subsingleton.elim _ _
    change (i1 : ℕ) = _ at h1
    obtain ⟨a, k, rfl⟩ := lane_surj x1
    exact at10 m c hm t _ i1 _ a k (by rfl) (by omega) _ _ _

omit hm in
/-- Stores that cover an entry hide what was stored before them. -/
theorem canon_hide {p : View.Piece (Elt Ideal) S1x512 .f32} (y : S1x512.Idx) :
    ∀ L : List (View.Piece (Elt Ideal) S1x512 .f32), (∃ r ∈ L, y ∈ r.1.set) → View.canon (L ++ [p]) y = View.canon L y
  | [], h => by obtain ⟨r, hr, _⟩ := h; cases hr
  | r :: L, h => by
    by_cases h1 : y ∈ r.1.set
    · obtain ⟨u, w⟩ := r
      obtain ⟨x, rfl⟩ := u.exists_idx_of_mem h1
      exact (View.canon_cons_emb u w _ x).trans (View.canon_cons_emb u w _ x).symm
    · rw [List.cons_append, View.canon_cons_of_not_mem _ _ h1, View.canon_cons_of_not_mem _ _ h1]
      refine canon_hide y L ?_
      obtain ⟨s, hs, hy⟩ := h
      rcases List.mem_cons.mp hs with rfl | hs
      · exact absurd hy h1
      · exact ⟨s, hs, hy⟩

theorem first10 (t : Fin cfg0.N) (h : t.val % 4 = 0) (i : S1x512.Idx) : (outsAt0 m c t.val t.isLt).2.2.1 i = 0 + ((gqPoint p cs sn dq t i : ℝ) : EReal) := by
  idx_vars i
  obtain rfl : i0 = 0 := Subsingleton.elim _ _
  rw [outsAt0_A m c t h]
  frame_out
  simp (disch := first | rfl | decide | (intro a; fin_cases a <;> rfl)) only [View.readCov_skip, View.readCov_fill]
  rw [dg1, dg2, dg3]
  refine (canon_hide (ix2 0 i1) [_, _, _, _] ?_).trans ?_
  · have hi : i1.val < 512 := i1.isLt
    have hc : 384 ≤ i1.val ∨ (256 ≤ i1.val ∧ i1.val < 384) ∨ (128 ≤ i1.val ∧ i1.val < 256) ∨ i1.val < 128 := by omega
    rcases hc with hq | hq | hq | hq
    · refine ⟨_, .head _, ?_⟩
      rw [Rect.mem_set_unit]
      intro a
      fin_cases a <;> (dsimp [ix2]; omega)
    · refine ⟨_, .tail _ (.head _), ?_⟩
      rw [Rect.mem_set_unit]
      intro a
      fin_cases a <;> (dsimp [ix2]; omega)
    · refine ⟨_, .tail _ (.tail _ (.head _)), ?_⟩
      rw [Rect.mem_set_unit]
      intro a
      fin_cases a <;> (dsimp [ix2]; omega)
    · refine ⟨_, .tail _ (.tail _ (.tail _ (.head _))), ?_⟩
      rw [Rect.mem_set_unit]
      intro a
      fin_cases a <;> (dsimp [ix2]; omega)
  canon_tiles x h
  all_goals
    idx_vars x
    obtain rfl : x0 = 0 := Subsingleton.elim _ _
    change (i1 : ℕ) = _ at h1
    obtain ⟨a, k, rfl⟩ := lane_surj x1
    refine (at10 m c hm t (k0_pay1 (F := Ideal)) i1 _ a k (by rfl) (by omega) _ _ _).trans (congrArg (· + _) ?_)
    pointwise [k0_pay1]

theorem dq_final : (dats m 0 c).arrAt 8 cfg0.N = lift (dQ p gq cs sn dq) := by
  refine (dats m 0 c).arrAt_eq_of_covers 8 _ (by decide +kernel) fun t _ y => ?_
  rw [after0_8]
  idx_vars y
  blk_simp
  refine (out8 m c hm t y0 y1).trans (congrArg (lift (dQ p gq cs sn dq)) ?_)
  blk_ext [idx t, line]

theorem dk_final : (dats m 0 c).arrAt 9 cfg0.N = lift (dK p gk cs sn dk) := by
  refine (dats m 0 c).arrAt_eq_of_covers 9 _ (by decide +kernel) fun t _ y => ?_
  rw [after0_9]
  idx_vars y
  blk_simp
  refine (out9 m c hm t y0 y1).trans (congrArg (lift (dK p gk cs sn dk)) ?_)
  blk_ext [idx t, line]

theorem gq_final : (dats m 0 c).arrAt 10 cfg0.N = lift (dGq p cs sn dq) := by
  refine (dats m 0 c).arrAt_eq_of_covers 10 _ (by decide +kernel) fun t hf y => ?_
  rw [after0_10]
  idx_vars y
  obtain rfl : y0 = 0 := Subsingleton.elim _ _
  blk_simp
  refine (Pipeline.eq_sum_fin_of_reset_step_apply_of_flush (f := fun n h => (outsAt0 m c n h).2.2.1) 4 (fun _ => 0)
    (fun t i => ((gqPoint p cs sn dq t i : ℝ) : EReal)) (first10 m c hm) (next10 m c hm) t ((flush0_10 t).mp hf) (ix2 0 y1)).trans ?_
  simp only [coe_sum, zero_add]
  have ht : t.val < 4 := t.isLt
  have h0 : t.val / 4 = 0 := by omega
  refine (congrArg (fun z : ℝ => (z : EReal)) ((Finset.sum_congr rfl fun k _ => ?_).trans (sum_lines fun r => gqAt p cs sn dq r y1))).trans ?_
  · exact Finset.sum_congr rfl fun r _ => congrArg (gqAt p cs sn dq · y1) (Fin.ext (by simp only [line]; omega))
  · refine congrArg (lift (dGq p cs sn dq)) (a₁ := ix2 0 y1) ?_
    blk_ext [idx t]

theorem gk_final : (dats m 0 c).arrAt 11 cfg0.N = lift (dGk p cs sn dk) := by
  refine (dats m 0 c).arrAt_eq_of_covers 11 _ (by decide +kernel) fun t hf y => ?_
  rw [after0_11]
  idx_vars y
  obtain rfl : y0 = 0 := Subsingleton.elim _ _
  blk_simp
  refine (Pipeline.eq_sum_fin_of_reset_step_apply_of_flush (f := fun n h => (outsAt0 m c n h).2.2.2) 4 (fun _ => 0)
    (fun t i => ((gkPoint p cs sn dk t i : ℝ) : EReal)) (first11 m c hm) (next11 m c hm) t ((flush0_11 t).mp hf) (ix2 0 y1)).trans ?_
  simp only [coe_sum, zero_add]
  have ht : t.val < 4 := t.isLt
  have h0 : t.val / 4 = 0 := by omega
  refine (congrArg (fun z : ℝ => (z : EReal)) ((Finset.sum_congr rfl fun k _ => ?_).trans (sum_lines fun r => gkAt p cs sn dk r y1))).trans ?_
  · exact Finset.sum_congr rfl fun r _ => congrArg (gkAt p cs sn dk · y1) (Fin.ext (by simp only [line]; omega))
  · refine congrArg (lift (dGk p cs sn dk)) (a₁ := ix2 0 y1) ?_
    blk_ext [idx t]

end Cert.QkBwd

end
-- ==== Proof.QkBwdReference.lean ====
module

public import proofs.«01_k».proof.Proof.Gen.Reference11Ideal.Read
public import proofs.«01_k».proof.Proof.QkBwd

/-! The gradient of the attention's query and key norms and rotary embedding: what the reference computes, over real arguments. -/

@[expose] public section

set_option maxRecDepth 16384

noncomputable section

namespace Cert.QkBwd

open Idealize.ShloMosaic Idealize.ShloMosaic.TcCoe Idealize.SL.Sem
open Cert.Lift Cert.Rope
open Cert.Reference11Ideal Cert.Reference11Ideal.Gen Cert.Reference11Ideal.Read

theorem ofBits_mhalf : Ideal.ofBits .f32 0xBF000000#32 = ((-1 / 2 : ℝ) : EReal) := by
  simp [Ideal.ofBits, Ideal.ieee, -EReal.coe_mul]; norm_num

/-- A pair's two rotated-back entries, at the place of the entry in its pair. -/
theorem rotT_pairs (co si : Fin 32 → ℝ) (d : Fin 64 → ℝ) (k : Fin 64) (j : Fin 32) (k0 k1 : Fin 64) (hj : j.val = k.val / 2)
    (h0 : k0.val = k.val / 2 * 2) (h1 : k1.val = k.val / 2 * 2 + 1) :
    rotT co si d k = if k.val % 2 = 0 then d k1 * si j + d k0 * co j else d k1 * co j + -d k0 * si j := by
  have ej : half k = j := Fin.ext (by simp only [half]; omega)
  have em : half (mate k) = half k := Fin.ext (by simp only [half, mate]; split <;> omega)
  by_cases h : k.val % 2 = 0
  · have e0 : k = k0 := Fin.ext (by omega)
    have e1 : mate k = k1 := Fin.ext (by rw [show (mate k).val = k.val + 1 from if_pos h]; omega)
    have es : sgn si (mate k) = si j := by
      rw [sgn, if_neg (by rw [show (mate k).val = k.val + 1 from if_pos h]; omega), em, ej]
    rw [if_pos h, rotT, es, ej, e1, ← e0]
    ring
  · have e0 : mate k = k0 := Fin.ext (by rw [show (mate k).val = k.val - 1 from if_neg h]; omega)
    have e1 : k = k1 := Fin.ext (by omega)
    have es : sgn si (mate k) = -si j := by
      rw [sgn, if_pos (by rw [show (mate k).val = k.val - 1 from if_neg h]; omega), em, ej]
    rw [if_neg h, rotT, es, ej, e0, ← e1]
    ring

variable (p : S1x2048x3328.Idx → ℝ) (gq gk : S1x64.Idx → ℝ) (cs sn : S2048x32.Idx → ℝ) (dq : S2048x512.Idx → ℝ) (dk : S2048x128.Idx → ℝ)

theorem ms_ne (x : Fin 64 → ℝ) : ms x ≠ 0 := (mean_sq_pos x).ne'

/-- The same pair, as the sum of its two padded halves. -/
theorem rotT_pads (co si : Fin 32 → ℝ) (d : Fin 64 → ℝ) (k : Fin 64) (j : Fin 32) (k0 k1 : Fin 64) (hj : j.val = k.val / 2)
    (h0 : k0.val = k.val / 2 * 2) (h1 : k1.val = k.val / 2 * 2 + 1) :
    ((if _h : k.val / 2 < 32 ∧ 1 ≤ k.val % 2 ∧ k.val % 2 - 1 < 1 then ((d k1 * co j + -d k0 * si j : ℝ) : EReal) else 0)
      + if _h : k.val / 2 < 32 ∧ k.val % 2 < 1 then ((d k1 * si j + d k0 * co j : ℝ) : EReal) else 0) = ((rotT co si d k : ℝ) : EReal) := by
  rw [rotT_pairs co si d k j k0 k1 hj h0 h1]
  by_cases h : k.val % 2 = 0
  · rw [dif_neg (by omega), dif_pos (by omega), if_pos h, zero_add]
  · rw [dif_pos (by omega), dif_neg (by omega), if_neg h, add_zero]

/-- A head's row of the queries, the keys, and their cotangents. -/
def hdQ (r : Fin 2048) (h : Fin 8) (k : Fin 64) : ℝ := p (ix3 0 r ⟨h.val * 64 + k.val, by omega⟩)
def hdK (r : Fin 2048) (h : Fin 2) (k : Fin 64) : ℝ := p (ix3 0 r ⟨512 + (h.val * 64 + k.val), by omega⟩)
def hdDq (r : Fin 2048) (h : Fin 8) (k : Fin 64) : ℝ := dq (ix2 r ⟨h.val * 64 + k.val, by omega⟩)
def hdDk (r : Fin 2048) (h : Fin 2) (k : Fin 64) : ℝ := dk (ix2 r ⟨h.val * 64 + k.val, by omega⟩)

/-! ## The queries -/

theorem v8 (z : Fin 1) (r : Fin 2048) (h : Fin 8) (k : Fin 64) : val_main_v8 (F := Ideal) (lift p) (ix4 z r h k) = ((hdQ p r h k : ℝ) : EReal) := by
  pointwise [val_main_v8, val_main_v6]
  refine congrArg (lift p) ?_
  blk_ext

theorem v22 (z y : Fin 1) (h : Fin 8) (k : Fin 64) : val_main_v22 (F := Ideal) (lift gq) (ix4 z y h k) = ((rowG gq k : ℝ) : EReal) := by
  pointwise [val_main_v22, val_main_v2, val_main_v1, val_main_v0]
  refine congrArg (lift gq) ?_
  blk_ext

theorem v15 (z y : Fin 1) (r : Fin 2048) (h : Fin 8) : val_main_v15 (F := Ideal) (lift p) (ix4 z r h y) = ((ms (hdQ p r h) : ℝ) : EReal) := by
  pointwise [val_main_v15, val_main_v14, val_main_v13, val_main_v12, val_main_v11, val_main_v10, val_main_v9, val_main_cst, val_main_cst_0, val_main_cst_1]
  simp only [v8, ofBits_64, ofBits_eps, ← EReal.coe_mul, coe_sum, zero_add, div_real _ (by norm_num : (64 : ℝ) ≠ 0), ← EReal.coe_add]
  rfl

theorem v16 (z y : Fin 1) (r : Fin 2048) (h : Fin 8) : val_main_v16 (F := Ideal) (lift p) (ix4 z r h y) = ((rstd (hdQ p r h) : ℝ) : EReal) := by
  pointwise [val_main_v16]
  rw [v15]
  exact rsqrt_real (mean_sq_pos (hdQ p r h))

theorem v19 (z y : Fin 1) (r : Fin 2048) (h : Fin 8) : val_main_v19 (F := Ideal) (lift p) (ix4 z r h y)
    = ((-1 / 2 * (rstd (hdQ p r h) / ms (hdQ p r h)) : ℝ) : EReal) := by
  pointwise [val_main_v19, val_main_v18, val_main_v17, val_main_cst_2]
  rw [v16, v15, div_real _ (ms_ne (hdQ p r h)), ofBits_mhalf, ← EReal.coe_mul]

theorem v21 (z : Fin 1) (r : Fin 2048) (h : Fin 8) (k : Fin 64) : val_main_v21 (F := Ideal) (lift p) (ix4 z r h k)
    = ((hdQ p r h k * rstd (hdQ p r h) : ℝ) : EReal) := by
  pointwise [val_main_v21, val_main_v20]
  rw [v8, v16, ← EReal.coe_mul]

theorem v129 (z : Fin 1) (r : Fin 2048) (h : Fin 8) (k : Fin 64) : val_main_v129 (F := Ideal) (lift cs) (lift sn) (lift dq) (ix4 z r h k)
    = ((rotT (rowC cs r) (rowC sn r) (hdDq dq r h) k : ℝ) : EReal) := by
  pointwise [val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v84, val_main_v48, val_main_v47, val_main_cst_9, val_main_cst_10]
  simp only [lift, ← EReal.coe_neg, ← EReal.coe_mul, ← EReal.coe_add]
  exact rotT_pads (rowC cs r) (rowC sn r) (hdDq dq r h) k ⟨k.val / 2, by omega⟩ ⟨k.val / 2 * 2, by omega⟩ ⟨k.val / 2 * 2 + 1, by omega⟩ rfl rfl rfl

/-! ## The keys -/

theorem v25 (z : Fin 1) (r : Fin 2048) (h : Fin 2) (k : Fin 64) : val_main_v25 (F := Ideal) (lift p) (ix4 z r h k) = ((hdK p r h k : ℝ) : EReal) := by
  pointwise [val_main_v25, val_main_v7]
  refine congrArg (lift p) ?_
  blk_ext

theorem v39 (z y : Fin 1) (h : Fin 2) (k : Fin 64) : val_main_v39 (F := Ideal) (lift gk) (ix4 z y h k) = ((rowG gk k : ℝ) : EReal) := by
  pointwise [val_main_v39, val_main_v5, val_main_v4, val_main_v3]
  refine congrArg (lift gk) ?_
  blk_ext

theorem v32 (z y : Fin 1) (r : Fin 2048) (h : Fin 2) : val_main_v32 (F := Ideal) (lift p) (ix4 z r h y) = ((ms (hdK p r h) : ℝ) : EReal) := by
  pointwise [val_main_v32, val_main_v31, val_main_v30, val_main_v29, val_main_v28, val_main_v27, val_main_v26, val_main_cst_3, val_main_cst_4, val_main_cst_5]
  simp only [v25, ofBits_64, ofBits_eps, ← EReal.coe_mul, coe_sum, zero_add, div_real _ (by norm_num : (64 : ℝ) ≠ 0), ← EReal.coe_add]
  rfl

theorem v33 (z y : Fin 1) (r : Fin 2048) (h : Fin 2) : val_main_v33 (F := Ideal) (lift p) (ix4 z r h y) = ((rstd (hdK p r h) : ℝ) : EReal) := by
  pointwise [val_main_v33]
  rw [v32]
  exact rsqrt_real (mean_sq_pos (hdK p r h))

theorem v36 (z y : Fin 1) (r : Fin 2048) (h : Fin 2) : val_main_v36 (F := Ideal) (lift p) (ix4 z r h y)
    = ((-1 / 2 * (rstd (hdK p r h) / ms (hdK p r h)) : ℝ) : EReal) := by
  pointwise [val_main_v36, val_main_v35, val_main_v34, val_main_cst_6]
  rw [v33, v32, div_real _ (ms_ne (hdK p r h)), ofBits_mhalf, ← EReal.coe_mul]

theorem v38 (z : Fin 1) (r : Fin 2048) (h : Fin 2) (k : Fin 64) : val_main_v38 (F := Ideal) (lift p) (ix4 z r h k)
    = ((hdK p r h k * rstd (hdK p r h) : ℝ) : EReal) := by
  pointwise [val_main_v38, val_main_v37]
  rw [v25, v33, ← EReal.coe_mul]

theorem v107 (z : Fin 1) (r : Fin 2048) (h : Fin 2) (k : Fin 64) : val_main_v107 (F := Ideal) (lift cs) (lift sn) (lift dk) (ix4 z r h k)
    = ((rotT (rowC cs r) (rowC sn r) (hdDk dk r h) k : ℝ) : EReal) := by
  pointwise [val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v69, val_main_v68, val_main_cst_7, val_main_cst_8]
  simp only [lift, ← EReal.coe_neg, ← EReal.coe_mul, ← EReal.coe_add]
  exact rotT_pads (rowC cs r) (rowC sn r) (hdDk dk r h) k ⟨k.val / 2, by omega⟩ ⟨k.val / 2 * 2, by omega⟩ ⟨k.val / 2 * 2 + 1, by omega⟩ rfl rfl rfl

theorem v156 (z : Fin 1) (r : Fin 2048) (h : Fin 8) (k : Fin 64) : val_main_v156 (F := Ideal) (lift gq) (lift cs) (lift sn) (lift dq) (ix4 z r h k)
    = ((rotT (rowC cs r) (rowC sn r) (hdDq dq r h) k * rowG gq k : ℝ) : EReal) := by
  pointwise [val_main_v156, val_main_v155]
  rw [v129, v22, ← EReal.coe_mul]

theorem v168 (z : Fin 1) (r : Fin 2048) (h : Fin 8) (k : Fin 64) : val_main_v168 (F := Ideal) (lift p) (lift gq) (lift cs) (lift sn) (lift dq) (ix4 z r h k)
    = ((slope (hdQ p r h) (rowG gq) (rotT (rowC cs r) (rowC sn r) (hdDq dq r h)) : ℝ) : EReal) := by
  pointwise [val_main_v168, val_main_v167, val_main_v166, val_main_cst_20]
  rw [hostReduceAdd_r4_a03]
  simp only [Fin.sum_univ_one, zero_add]
  pointwise [val_main_v165, val_main_v164, val_main_v163, val_main_v160, val_main_v159, val_main_v158, val_main_cst_18, val_main_cst_19]
  simp only [v156, v8, v19, ofBits_64, ← EReal.coe_mul, coe_sum, zero_add, div_real _ (by norm_num : (64 : ℝ) ≠ 0)]
  rfl

theorem v172 (z : Fin 1) (r : Fin 2048) (h : Fin 8) (k : Fin 64) : val_main_v172 (F := Ideal) (lift p) (lift gq) (lift cs) (lift sn) (lift dq) (ix4 z r h k)
    = ((dxRow (hdQ p r h) (rowG gq) (rotT (rowC cs r) (rowC sn r) (hdDq dq r h)) k : ℝ) : EReal) := by
  pointwise [val_main_v172, val_main_v171, val_main_v170, val_main_v169, val_main_v162, val_main_v161]
  rw [v156, v8, v16, v168, ← EReal.coe_mul, ← EReal.coe_mul, ← EReal.coe_mul, ← EReal.coe_add, ← EReal.coe_add, dxRow_eq]

/-- The reference's gradient of the queries. -/
theorem dq_ref : val_main_v175 (F := Ideal) (lift p) (lift gq) (lift cs) (lift sn) (lift dq) = lift (dQ p gq cs sn dq) := by
  funext i
  idx_vars i
  pointwise [val_main_v175, val_main_v174, val_main_v173]
  rw [v172]
  rfl

theorem v157 (h : Fin 8) (k : Fin 64) : val_main_v157 (F := Ideal) (lift p) (lift cs) (lift sn) (lift dq) (ix2 h k)
    = ((∑ r, gainTerm (hdQ p r h) (rotT (rowC cs r) (rowC sn r) (hdDq dq r h)) k : ℝ) : EReal) := by
  pointwise [val_main_v157, val_main_cst_17]
  rw [hostReduceAdd_r4_a01]
  simp only [Fin.sum_univ_one, zero_add]
  pointwise [val_main_v154, val_main_v153, val_main_v152, val_main_cst_16]
  simp only [v21, v129, ← EReal.coe_mul, coe_sum, zero_add]
  exact congrArg (fun z : ℝ => (z : EReal)) (Finset.sum_congr rfl fun r _ => mul_comm _ _)

/-- And of their heads' gains. -/
theorem gq_ref : val_main_v178 (F := Ideal) (lift p) (lift cs) (lift sn) (lift dq) = lift (dGq p cs sn dq) := by
  funext i
  idx_vars i
  obtain rfl : i0 = 0 := Subsingleton.elim _ _
  pointwise [val_main_v178]
  rw [v157]
  rfl

theorem v134 (z : Fin 1) (r : Fin 2048) (h : Fin 2) (k : Fin 64) : val_main_v134 (F := Ideal) (lift gk) (lift cs) (lift sn) (lift dk) (ix4 z r h k)
    = ((rotT (rowC cs r) (rowC sn r) (hdDk dk r h) k * rowG gk k : ℝ) : EReal) := by
  pointwise [val_main_v134, val_main_v133]
  rw [v107, v39, ← EReal.coe_mul]

theorem v146 (z : Fin 1) (r : Fin 2048) (h : Fin 2) (k : Fin 64) : val_main_v146 (F := Ideal) (lift p) (lift gk) (lift cs) (lift sn) (lift dk) (ix4 z r h k)
    = ((slope (hdK p r h) (rowG gk) (rotT (rowC cs r) (rowC sn r) (hdDk dk r h)) : ℝ) : EReal) := by
  pointwise [val_main_v146, val_main_v145, val_main_v144, val_main_cst_15]
  rw [hostReduceAdd_r4_a03]
  simp only [Fin.sum_univ_one, zero_add]
  pointwise [val_main_v143, val_main_v142, val_main_v141, val_main_v138, val_main_v137, val_main_v136, val_main_cst_13, val_main_cst_14]
  simp only [v134, v25, v36, ofBits_64, ← EReal.coe_mul, coe_sum, zero_add, div_real _ (by norm_num : (64 : ℝ) ≠ 0)]
  rfl

theorem v150 (z : Fin 1) (r : Fin 2048) (h : Fin 2) (k : Fin 64) : val_main_v150 (F := Ideal) (lift p) (lift gk) (lift cs) (lift sn) (lift dk) (ix4 z r h k)
    = ((dxRow (hdK p r h) (rowG gk) (rotT (rowC cs r) (rowC sn r) (hdDk dk r h)) k : ℝ) : EReal) := by
  pointwise [val_main_v150, val_main_v149, val_main_v148, val_main_v147, val_main_v140, val_main_v139]
  rw [v134, v25, v33, v146, ← EReal.coe_mul, ← EReal.coe_mul, ← EReal.coe_mul, ← EReal.coe_add, ← EReal.coe_add, dxRow_eq]

/-- The reference's gradient of the keys. -/
theorem dk_ref : val_main_v177 (F := Ideal) (lift p) (lift gk) (lift cs) (lift sn) (lift dk) = lift (dK p gk cs sn dk) := by
  funext i
  idx_vars i
  pointwise [val_main_v177, val_main_v176, val_main_v151]
  rw [v150]
  rfl

theorem v135 (h : Fin 2) (k : Fin 64) : val_main_v135 (F := Ideal) (lift p) (lift cs) (lift sn) (lift dk) (ix2 h k)
    = ((∑ r, gainTerm (hdK p r h) (rotT (rowC cs r) (rowC sn r) (hdDk dk r h)) k : ℝ) : EReal) := by
  pointwise [val_main_v135, val_main_cst_12]
  rw [hostReduceAdd_r4_a01]
  simp only [Fin.sum_univ_one, zero_add]
  pointwise [val_main_v132, val_main_v131, val_main_v130, val_main_cst_11]
  simp only [v38, v107, ← EReal.coe_mul, coe_sum, zero_add]
  exact congrArg (fun z : ℝ => (z : EReal)) (Finset.sum_congr rfl fun r _ => mul_comm _ _)

/-- And of their heads' gains. -/
theorem gk_ref : val_main_v179 (F := Ideal) (lift p) (lift cs) (lift sn) (lift dk) = lift (dGk p cs sn dk) := by
  funext i
  idx_vars i
  obtain rfl : i0 = 0 := Subsingleton.elim _ _
  pointwise [val_main_v179]
  rw [v135]
  rfl

end Cert.QkBwd

end
-- ==== Proof.QkBwdClaim.lean ====
/- The statement about the gradient of the attention's query and key norms and rotary embedding: from finite arguments the kernel
   and the reference end holding the same arrays. -/
module

public import proofs.«01_k».proof.Defs
public import proofs.«01_k».proof.Proof.QkBwdReference
public import proofs.«01_k».proof.Proof.Gen.Reference11Ideal.Run
public import proofs.«01_k».proof.Proof.Gen.Pre_finite11
public import Idealize.ShloMosaic.Lib.Claim

@[expose] public section

noncomputable section

namespace Cert.QkBwd

open Idealize.ShloMosaic Idealize.SL.Sem Cert.Lift

/-- Under the precondition each argument is an array of reals. -/
theorem args_real (m : (ℓ : Loc Cert.Kernel11Ideal.nD Cert.Kernel11Ideal.τ Cert.Kernel11Ideal.sig) → Buf (Elt Ideal) ℓ)
    (h : Cert.Pre_Kernel11Ideal_finite11 m) (c : Dev Cert.Kernel11Ideal.nD) : ∃ p gq gk cs sn dq dk, Args m c p gq gk cs sn dq dk := by
  obtain ⟨hp, hq, hk, hc, hs, hd, he⟩ := h c
  obtain ⟨p, hp⟩ := exists_real _ _ hp
  obtain ⟨gq, hq⟩ := exists_real _ _ hq
  obtain ⟨gk, hk⟩ := exists_real _ _ hk
  obtain ⟨cs, hc⟩ := exists_real _ _ hc
  obtain ⟨sn, hs⟩ := exists_real _ _ hs
  obtain ⟨dq, hd⟩ := exists_real _ _ hd
  obtain ⟨dk, he⟩ := exists_real _ _ he
  exact ⟨p, gq, gk, cs, sn, dq, dk, hp, hq, hk, hc, hs, hd, he⟩

theorem frame_reference : Cert.quiescent_Reference11Ideal := by
  intro m ρ _
  exact (θ_run Cert.Reference11Ideal.defs _ _).mono (fun r h => ⟨fun c => (h c).2.2.2.2,
      Idealize.ShloMosaic.sem_eq_zero_of_no_sems (by decide) r.2⟩)
    (Cert.Reference11Ideal.Value.run (F := Ideal) m ρ)

theorem algebraic : Cert.algebraic_Kernel11Ideal_Reference11Ideal_pre_finite11 := by
  intro m g m' g' hpre hagree
  choose p gq gk cs sn dq dk hm using args_real m hpre
  refine ⟨fun c => lift (dQ (p c) (gq c) (cs c) (sn c) (dq c)), fun c => lift (dK (p c) (gk c) (cs c) (sn c) (dk c)),
    fun c => lift (dGq (p c) (cs c) (sn c) (dq c)), fun c => lift (dGk (p c) (cs c) (sn c) (dk c)), ?_, ?_⟩
  · refine (θ_run Cert.Kernel11Ideal.defs _ _).mono (fun r h c => ?_) (Cert.Kernel11Ideal.Value.run_blocks (F := Ideal) m g)
    obtain ⟨h0, h1, h2, h3, h4⟩ := h c
    exact ⟨h0.trans (dq_final m c (hm c)), h1.trans (dk_final m c (hm c)), h2.trans (gq_final m c (hm c)), h3.trans (gk_final m c (hm c)), h4⟩
  · refine (θ_run Cert.Reference11Ideal.defs _ _).mono (fun r h c => ?_) (Cert.Reference11Ideal.Value.run (F := Ideal) m' g')
    obtain ⟨h0, h1, h2, h3, h4⟩ := h c
    obtain ⟨a0, a1, a2, a3, a4, a5, a6⟩ := hagree c
    have e0 : StableHlo.launchContents m' c (Proc.tc.devRef Cert.Reference11Ideal.main_arg0) = lift (p c) := a0.trans (hm c).p
    have e1 : StableHlo.launchContents m' c (Proc.tc.devRef Cert.Reference11Ideal.main_arg1) = lift (gq c) := a1.trans (hm c).gq
    have e2 : StableHlo.launchContents m' c (Proc.tc.devRef Cert.Reference11Ideal.main_arg2) = lift (gk c) := a2.trans (hm c).gk
    have e3 : StableHlo.launchContents m' c (Proc.tc.devRef Cert.Reference11Ideal.main_arg3) = lift (cs c) := a3.trans (hm c).co
    have e4 : StableHlo.launchContents m' c (Proc.tc.devRef Cert.Reference11Ideal.main_arg4) = lift (sn c) := a4.trans (hm c).si
    have e5 : StableHlo.launchContents m' c (Proc.tc.devRef Cert.Reference11Ideal.main_arg5) = lift (dq c) := a5.trans (hm c).dq
    have e6 : StableHlo.launchContents m' c (Proc.tc.devRef Cert.Reference11Ideal.main_arg6) = lift (dk c) := a6.trans (hm c).dk
    refine ⟨h0.trans ?_, h1.trans ?_, h2.trans ?_, h3.trans ?_, h4⟩
    · refine (Cert.Reference11Ideal.Read.val_main_v175_eq _).trans ?_
      rw [e0, e1, e3, e4, e5]
      exact dq_ref _ _ _ _ _
    · refine (Cert.Reference11Ideal.Read.val_main_v177_eq _).trans ?_
      rw [e0, e2, e3, e4, e6]
      exact dk_ref _ _ _ _ _
    · refine (Cert.Reference11Ideal.Read.val_main_v178_eq _).trans ?_
      rw [e0, e3, e4, e5]
      exact gq_ref _ _ _ _
    · refine (Cert.Reference11Ideal.Read.val_main_v179_eq _).trans ?_
      rw [e0, e3, e4, e6]
      exact gk_ref _ _ _ _

end Cert.QkBwd

end
-- ==== Proof.QkFwd.lean ====
module

public import proofs.«01_k».proof.Proof.Gen.Kernel12Ideal.Value
public import proofs.«01_k».proof.Proof.Rope

/-! The attention's query and key norms and rotary embedding: what the kernel leaves in its two result arrays, over real arguments. -/

@[expose] public section

set_option maxRecDepth 16384

noncomputable section

namespace Cert.QkFwd

open Idealize.ShloMosaic Idealize.ShloMosaic.TcCoe Idealize.SL.Sem
open Idealize.ShloMosaic.Pipeline (Dat)
open Cert.Lift Cert.Rope
open Cert.Kernel12Ideal Cert.Kernel12Ideal.Gen

section Rows
variable (x c s : Vec Ideal S512x128 .f32) (g : Vec Ideal S1x128 .f32)

theorem pay4 (rx : Fin 128 → ℝ) (rg : Fin 64 → ℝ) (r : Fin 512) (a : Fin 2) (k : Fin 64) (hx : ∀ l, x (ix2 r l) = ((rx l : ℝ) : EReal))
    (hg : ∀ a k, g (ix2 0 (lane a k)) = ((rg k : ℝ) : EReal)) :
    k0_pay4 (F := Ideal) x g (ix2 r (lane a k)) = ((nrm (fun j => rx (lane a j)) rg k : ℝ) : EReal) := by
  have e := rsqrt_real (mean_sq_pos fun j => rx (lane a j))
  beta_reduce at e
  pointwise [k0_pay4]
  simp only [hx, hg, sel_low, ← EReal.coe_mul]
  rw [head_sum a k fun l => rx l * rx l]
  simp only [ofBits_inv_64, ofBits_eps, ← EReal.coe_mul, over_64, ← EReal.coe_add, e]
  rfl

theorem pay8 (rx : Fin 128 → ℝ) (rg : Fin 64 → ℝ) (rc rs : Fin 32 → ℝ) (r : Fin 512) (a : Fin 2) (k : Fin 64) (hx : ∀ l, x (ix2 r l) = ((rx l : ℝ) : EReal))
    (hg : ∀ a k, g (ix2 0 (lane a k)) = ((rg k : ℝ) : EReal)) (hc : ∀ a k, c (ix2 r (lane a k)) = ((rc (half k) : ℝ) : EReal))
    (hs : ∀ a k, s (ix2 r (lane a k)) = ((sgn rs k : ℝ) : EReal)) :
    k0_pay8 (F := Ideal) (k0_pay3 (F := Ideal) s) (k0_pay4 (F := Ideal) x g) (k0_pay5 (F := Ideal) c x g) k0_pay6 (k0_pay7 (F := Ideal) x g) 1#32 (ix2 r (lane a k))
      = ((rot rc rs (nrm (fun j => rx (lane a j)) rg) k : ℝ) : EReal) := by
  pointwise [k0_pay8, k0_pay3, k0_pay5, k0_pay2, k0_pay6, k0_pay7]
  rw [sel_even, even_swap (fun l => k0_pay4 (F := Ideal) x g (ix2 r l)) (fun l => k0_pay4 (F := Ideal) x g (ix2 r l)) a k rfl]
  simp only [pay4 x g rx rg r a _ hx hg, hc, hs, ← EReal.coe_mul, ← EReal.coe_add]
  rfl
end Rows

section Arrays
variable (p : S1x2048x3328.Idx → ℝ) (gq gk : S1x64.Idx → ℝ) (cs sn : S2048x32.Idx → ℝ)

def rowQ (r : Fin 2048) (q : Fin (8 * 64)) (k : Fin 64) : ℝ := p (ix3 0 r ⟨(inHead (n := 8) q k).val, by omega⟩)
def rowK (r : Fin 2048) (q : Fin (2 * 64)) (k : Fin 64) : ℝ := p (ix3 0 r ⟨512 + (inHead (n := 2) q k).val, by omega⟩)
def rowC (r : Fin 2048) (j : Fin 32) : ℝ := cs (ix2 r j)
def rowG (k : Fin 64) : ℝ := gq (ix2 0 k)

/-- The queries and the keys after their norms and the rotation. -/
def Q (i : S2048x512.Idx) : ℝ := rot (rowC cs (i 0)) (rowC sn (i 0)) (nrm (rowQ p (i 0) (i 1)) (rowG gq)) (ent (n := 8) (i 1))
def K (i : S2048x128.Idx) : ℝ := rot (rowC cs (i 0)) (rowC sn (i 0)) (nrm (rowK p (i 0) (i 1)) (rowG gk)) (ent (n := 2) (i 1))

/-- The queries at a column, from the lanes of its pair of heads; and the keys. -/
theorem Q_lane (r : Fin 2048) (q : Fin (8 * 64)) (a : Fin 2) (k : Fin 64) (e : ℕ) (h : ∀ l : Fin 128, e + l.val < 3328) (he : e % 128 = 0)
    (hq : q.val = e + (lane a k).val) : rot (rowC cs r) (rowC sn r) (nrm (fun j => p (ix3 0 r ⟨e + (lane a j).val, h _⟩)) (rowG gq)) k = Q p gq cs sn (ix2 r q) := by
  have ek : ent (n := 8) q = k := Fin.ext (by simp only [ent]; simp only [lane] at hq; omega)
  have er : (fun j => p (ix3 0 r ⟨e + (lane a j).val, h _⟩)) = rowQ p r q := by
    funext j
    refine congrArg (fun z => p (ix3 0 r z)) (Fin.ext ?_)
    simp only [lane, inHead] at *
    omega
  rw [er, ← ek]; rfl

theorem K_lane (r : Fin 2048) (q : Fin (2 * 64)) (a : Fin 2) (k : Fin 64) (h : ∀ l : Fin 128, 512 + l.val < 3328) (hq : q.val = (lane a k).val) :
    rot (rowC cs r) (rowC sn r) (nrm (fun j => p (ix3 0 r ⟨512 + (lane a j).val, h _⟩)) (rowG gk)) k = K p gk cs sn (ix2 r q) := by
  have ek : ent (n := 2) q = k := Fin.ext (by simp only [ent]; simp only [lane] at hq; omega)
  have er : (fun j => p (ix3 0 r ⟨512 + (lane a j).val, h _⟩)) = rowK p r q := by
    funext j
    refine congrArg (fun z => p (ix3 0 r z)) (Fin.ext ?_)
    simp only [lane, inHead] at *
    omega
  rw [er, ← ek]; rfl
end Arrays

variable (m : (ℓ : Loc nD τ sig) → Buf (Elt Ideal) ℓ) (c : Dev nD)

theorem idx : ∀ t : Fin cfg0.N, win0_0.index t = ![t.val % 4, 0] ∧ win0_1.index t = ![t.val % 4, 4] ∧ win0_2.index t = ![0, 0] ∧ win0_3.index t = ![0, 0]
    ∧ win0_4.index t = ![t.val % 4, 0] ∧ win0_5.index t = ![t.val % 4, 0] ∧ win0_6.index t = ![t.val % 4, 0] ∧ win0_7.index t = ![t.val % 4, 0] :=
  (by decide +kernel : ∀ t : Fin grid0.N, _)

variable (p : S1x2048x3328.Idx → ℝ) (gq gk : S1x64.Idx → ℝ) (cs sn : S2048x32.Idx → ℝ)

/-- The arguments are real arrays. -/
structure Args : Prop where
  p : m ((c.tc : Thread nD τ).loc main_arg0) = lift p
  gq : m ((c.tc : Thread nD τ).loc main_arg1) = lift gq
  gk : m ((c.tc : Thread nD τ).loc main_arg2) = lift gk
  co : m ((c.tc : Thread nD τ).loc main_arg3) = lift cs
  si : m ((c.tc : Thread nD τ).loc main_arg4) = lift sn

variable {p gq gk cs sn}
variable (hm : Args m c p gq gk cs sn)
include hm

theorem blk0 (t : Fin cfg0.N) (r : Fin 512) (q : Fin 512) : X0_0 m c t (ix2 r q) = ((p (ix3 0 (line t.val r) ⟨q.val, by omega⟩) : ℝ) : EReal) := by
  have e : X0_0 m c t (ix2 r q) = m ((c.tc : Thread nD τ).loc main_arg0) (ix3 0 (line t.val r) ⟨q.val, by omega⟩) := by
    unfold X0_0 Pipeline.Window.fill
    rw [dif_pos (moved0_0 t _)]
    blk_point [iblk, V, idx t, line]
  rw [e, hm.p]; rfl

theorem blk1 (t : Fin cfg0.N) (r : Fin 512) (q : Fin 128) : iblk m c 1 t (ix2 r q) = ((p (ix3 0 (line t.val r) ⟨512 + q.val, by omega⟩) : ℝ) : EReal) := by
  have e : iblk m c 1 t (ix2 r q) = m ((c.tc : Thread nD τ).loc main_arg0) (ix3 0 (line t.val r) ⟨512 + q.val, by omega⟩) := by
    blk_point [iblk, V, idx t, line]
  rw [e, hm.p]; rfl

theorem blk2 (t : Fin cfg0.N) (a : Fin 2) (k : Fin 64) : iblk m c 2 t (ix2 0 (lane a k)) = ((rowG gq k : ℝ) : EReal) := by
  have e : iblk m c 2 t (ix2 0 (lane a k)) = m ((c.tc : Thread nD τ).loc main_arg1) (ix2 0 k) := by
    blk_point [iblk, V, idx t, lane]
  rw [e, hm.gq]; rfl

theorem blk4 (t : Fin cfg0.N) (r : Fin 512) (a : Fin 2) (k : Fin 64) : iblk m c 4 t (ix2 r (lane a k)) = ((rowC cs (line t.val r) (half k) : ℝ) : EReal) := by
  have e : iblk m c 4 t (ix2 r (lane a k)) = m ((c.tc : Thread nD τ).loc main_arg3) (ix2 (line t.val r) (half k)) := by
    blk_point [iblk, V, idx t, lane, line, half]
  rw [e, hm.co]; rfl

omit hm in
theorem sin_even (t : Fin cfg0.N) (r : Fin 512) (a : Fin 2) (k : Fin 64) (h : k.val % 2 = 0) :
    iblk m c 5 t (ix2 r (lane a k)) = Neg.neg (α := EReal) (m ((c.tc : Thread nD τ).loc main_arg4) (ix2 (line t.val r) (half k))) := by
  blk_simp [iblk, V, idx t]
  entry_read
  pointwise
  blk_simp [idx t, lane]
  rw [dif_pos (by change (a.val * 64 + k.val) % 64 % 2 < 1; omega)]
  refine congrArg (fun z : EReal => -z) ?_
  blk_ext! [iblk, V, idx t, lane, line, half]

omit hm in
theorem sin_odd (t : Fin cfg0.N) (r : Fin 512) (a : Fin 2) (k : Fin 64) (h : ¬ k.val % 2 = 0) :
    iblk m c 5 t (ix2 r (lane a k)) = m ((c.tc : Thread nD τ).loc main_arg4) (ix2 (line t.val r) (half k)) := by
  blk_simp [iblk, V, idx t]
  entry_read
  pointwise
  blk_simp [idx t, lane]
  rw [dif_neg (by change ¬ (a.val * 64 + k.val) % 64 % 2 < 1; omega)]
  blk_ext! [iblk, V, idx t, lane, line, half]

theorem blk5 (t : Fin cfg0.N) (r : Fin 512) (a : Fin 2) (k : Fin 64) : iblk m c 5 t (ix2 r (lane a k)) = ((sgn (rowC sn (line t.val r)) k : ℝ) : EReal) := by
  by_cases h : k.val % 2 = 0
  · rw [sin_even m c t r a k h, hm.si, sgn, if_pos h]; rfl
  · rw [sin_odd m c t r a k h, hm.si, sgn, if_neg h]; rfl

theorem blk3 (t : Fin cfg0.N) (a : Fin 2) (k : Fin 64) : iblk m c 3 t (ix2 0 (lane a k)) = ((rowG gk k : ℝ) : EReal) := by
  have e : iblk m c 3 t (ix2 0 (lane a k)) = m ((c.tc : Thread nD τ).loc main_arg2) (ix2 0 k) := by
    blk_point [iblk, V, idx t, lane]
  rw [e, hm.gk]; rfl

/-- The queries' entries at the columns of one of the block's four pairs of heads. -/
theorem ld0 (t : Fin cfg0.N) (e : ℕ) (inb : ∀ a, (![0, e] : Fin 2 → ℕ) a + (![512, 128] : Fin 2 → ℕ) a ≤ S512x512.size a) (r : Fin 512) (l : Fin 128) :
    View.ld (X0_0 m c t) (Rect.unit ![0, e] ![512, 128] inb) (ix2 r l)
      = ((p (ix3 0 (line t.val r) ⟨e + l.val, by have := inb 1; simp at this; omega⟩) : ℝ) : EReal) := by
  have he : e + 128 ≤ 512 := by have := inb 1; simpa using this
  refine Eq.trans (congrArg (X0_0 m c t) (a₂ := ix2 r ⟨e + l.val, by omega⟩) ?_) (blk0 m c hm t r _)
  blk_ext <;> (refine (Rect.idx_unit_val _ _ _ _ _).trans ?_; dsimp [ix2]; try omega)

section
variable (x c s : Vec Ideal S512x128 .f32) (g : Vec Ideal S1x128 .f32)

/-- The text of the block's other pairs of heads is the first one's. -/
def piece : Vec Ideal S512x128 .bf16 :=
  k0_pay8 (F := Ideal) (k0_pay3 (F := Ideal) s) (k0_pay4 (F := Ideal) x g) (k0_pay5 (F := Ideal) c x g) k0_pay6 (k0_pay7 (F := Ideal) x g) 1#32

omit hm in
theorem piece1 : k0_pay13 (F := Ideal) (k0_pay3 (F := Ideal) s) (k0_pay9 (F := Ideal) x g) (k0_pay10 (F := Ideal) (k0_pay2 (F := Ideal) c) x g) k0_pay11
    (k0_pay12 (F := Ideal) x g) 1#32 = piece x c s g := rfl
omit hm in
theorem piece2 : k0_pay18 (F := Ideal) (k0_pay3 (F := Ideal) s) (k0_pay14 (F := Ideal) x g) (k0_pay15 (F := Ideal) (k0_pay2 (F := Ideal) c) x g) k0_pay16
    (k0_pay17 (F := Ideal) x g) 1#32 = piece x c s g := rfl
omit hm in
theorem piece4 : k0_pay1 (F := Ideal) (k0_pay3 (F := Ideal) s) (k0_pay24 (F := Ideal) x g) (k0_pay25 (F := Ideal) (k0_pay2 (F := Ideal) c) x g) k0_pay26
    (k0_pay27 (F := Ideal) x g) 1#32 = piece x c s g := rfl
omit hm in
theorem piece3 : k0_pay23 (F := Ideal) (k0_pay3 (F := Ideal) s) (k0_pay19 (F := Ideal) x g) (k0_pay20 (F := Ideal) (k0_pay2 (F := Ideal) c) x g) k0_pay21
    (k0_pay22 (F := Ideal) x g) 1#32 = piece x c s g := rfl
end

theorem out6 (t : Fin cfg0.N) (r : Fin 512) (q : Fin (8 * 64)) :
    (outsAt0 m c t).1 (ix2 r q) = ((Q p gq cs sn (ix2 (line t.val r) q) : ℝ) : EReal) := by
  unfold outsAt0
  frame_out
  canon_tiles x h
  all_goals
    idx_vars x
    have hp : r = x0 := Fin.ext h0
    subst hp
    change (q : ℕ) = _ at h1
    obtain ⟨a, k, rfl⟩ := lane_surj x1
    try rw [piece1]
    try rw [piece2]
    try rw [piece3]
    refine (pay8 _ _ _ _ _ _ _ _ r a k (fun l => ld0 m c hm t _ _ r l) (blk2 m c hm t) (blk4 m c hm t r) (blk5 m c hm t r)).trans ?_
    exact congrArg (fun z : ℝ => (z : EReal)) (Q_lane p gq cs sn (line t.val r) q a k _ (fun l => by omega) (by rfl) (by omega))

theorem out7 (t : Fin cfg0.N) (r : Fin 512) (q : Fin (2 * 64)) :
    (outsAt0 m c t).2 (ix2 r q) = ((K p gk cs sn (ix2 (line t.val r) q) : ℝ) : EReal) := by
  unfold outsAt0
  frame_out
  obtain ⟨a, k, rfl⟩ := lane_surj q
  rw [piece4]
  refine (pay8 _ _ _ _ _ _ _ _ r a k (blk1 m c hm t r) (blk3 m c hm t) (blk4 m c hm t r) (blk5 m c hm t r)).trans ?_
  exact congrArg (fun z : ℝ => (z : EReal)) (K_lane p gk cs sn (line t.val r) (lane a k) a k (fun l => by omega) rfl)

theorem q_final : (dats m 0 c).arrAt 6 cfg0.N = lift (Q p gq cs sn) := by
  refine (dats m 0 c).arrAt_eq_of_covers 6 _ (by decide +kernel) fun t _ y => ?_
  rw [after0_6]
  idx_vars y
  blk_simp
  refine (out6 m c hm t y0 y1).trans (congrArg (lift (Q p gq cs sn)) ?_)
  blk_ext [idx t, line]

theorem k_final : (dats m 0 c).arrAt 7 cfg0.N = lift (K p gk cs sn) := by
  refine (dats m 0 c).arrAt_eq_of_covers 7 _ (by decide +kernel) fun t _ y => ?_
  rw [after0_7]
  idx_vars y
  blk_simp
  refine (out7 m c hm t y0 y1).trans (congrArg (lift (K p gk cs sn)) ?_)
  blk_ext [idx t, line]

end Cert.QkFwd

end
-- ==== Proof.QkFwdReference.lean ====
module

public import proofs.«01_k».proof.Proof.Gen.Reference12Ideal.Read
public import proofs.«01_k».proof.Proof.QkFwd

/-! The attention's query and key norms and rotary embedding: what the reference computes, over real arguments. -/

@[expose] public section

set_option maxRecDepth 16384

noncomputable section

namespace Cert.QkFwd

open Idealize.ShloMosaic Idealize.ShloMosaic.TcCoe Idealize.SL.Sem
open Cert.Lift Cert.Rope
open Cert.Reference12Ideal Cert.Reference12Ideal.Gen Cert.Reference12Ideal.Read

variable (p : S1x2048x3328.Idx → ℝ) (gq gk : S1x64.Idx → ℝ) (cs sn : S2048x32.Idx → ℝ)

/-- A head's row of the queries, and of the keys. -/
def hdQ (r : Fin 2048) (h : Fin 8) (k : Fin 64) : ℝ := p (ix3 0 r ⟨h.val * 64 + k.val, by omega⟩)
def hdK (r : Fin 2048) (h : Fin 2) (k : Fin 64) : ℝ := p (ix3 0 r ⟨512 + (h.val * 64 + k.val), by omega⟩)

theorem v1 (z : Fin 1) (r : Fin 2048) (h : Fin 8) (k : Fin 64) : val_main_v1 (F := Ideal) (lift p) (ix4 z r h k) = ((hdQ p r h k : ℝ) : EReal) := by
  pointwise [val_main_v1, val_main_v0]
  refine congrArg (lift p) ?_
  blk_ext

theorem v17 (z : Fin 1) (r : Fin 2048) (h : Fin 2) (k : Fin 64) : val_main_v17 (F := Ideal) (lift p) (ix4 z r h k) = ((hdK p r h k : ℝ) : EReal) := by
  pointwise [val_main_v17, val_main_v16]
  refine congrArg (lift p) ?_
  blk_ext

theorem v15 (z : Fin 1) (r : Fin 2048) (h : Fin 8) (k : Fin 64) : val_main_v15 (F := Ideal) (lift p) (lift gq) (ix4 z r h k)
    = ((nrm (hdQ p r h) (rowG gq) k : ℝ) : EReal) := by
  have e := rsqrt_real (mean_sq_pos (hdQ p r h))
  pointwise [val_main_v15, val_main_v14, val_main_v13, val_main_v12, val_main_v11, val_main_v10, val_main_v9, val_main_v8, val_main_v7, val_main_v6,
    val_main_v5, val_main_v4, val_main_v3, val_main_v2, val_main_cst, val_main_cst_0, val_main_cst_1]
  simp only [v1, ofBits_64, ofBits_eps, ← EReal.coe_mul, coe_sum, zero_add, div_real _ (by norm_num : (64 : ℝ) ≠ 0), ← EReal.coe_add, e]
  simp only [lift, ← EReal.coe_mul]
  rfl

theorem v31 (z : Fin 1) (r : Fin 2048) (h : Fin 2) (k : Fin 64) : val_main_v31 (F := Ideal) (lift p) (lift gk) (ix4 z r h k)
    = ((nrm (hdK p r h) (rowG gk) k : ℝ) : EReal) := by
  have e := rsqrt_real (mean_sq_pos (hdK p r h))
  pointwise [val_main_v31, val_main_v30, val_main_v29, val_main_v28, val_main_v27, val_main_v26, val_main_v25, val_main_v24, val_main_v23, val_main_v22,
    val_main_v21, val_main_v20, val_main_v19, val_main_v18, val_main_cst_2, val_main_cst_3, val_main_cst_4]
  simp only [v17, ofBits_64, ofBits_eps, ← EReal.coe_mul, coe_sum, zero_add, div_real _ (by norm_num : (64 : ℝ) ≠ 0), ← EReal.coe_add, e]
  simp only [lift, ← EReal.coe_mul]
  rfl

/-- The two entries of a pair, rotated, at the place of the column in it. -/
theorem rot_pairs {n : ℕ} (co si : Fin 32 → ℝ) (y : Fin 64 → ℝ) (q : Fin (n * 64)) (j : Fin 32) (k0 k1 : Fin 64) (hj : j.val = q.val / 2 % 32)
    (h0 : k0.val = q.val / 2 % 32 * 2) (h1 : k1.val = q.val / 2 % 32 * 2 + 1) :
    (if _h : q.val % 2 < 1 then ((y k0 * co j - y k1 * si j : ℝ) : EReal) else ((y k0 * si j + y k1 * co j : ℝ) : EReal)) = ((rot co si y (ent q) : ℝ) : EReal) := by
  have ej : half (ent q) = j := Fin.ext (by simp only [half, ent]; omega)
  by_cases h : q.val % 2 < 1
  · have e0 : ent q = k0 := Fin.ext (by simp only [ent]; omega)
    have e1 : mate (ent q) = k1 := Fin.ext (by rw [show (mate (ent q)).val = (ent q).val + 1 from if_pos (by simp only [ent]; omega)]; simp only [ent]; omega)
    have es : sgn si (ent q) = -si j := by rw [sgn, if_pos (by simp only [ent]; omega), ej]
    rw [dif_pos h, rot, es, ej, e1, e0]
    exact congrArg _ (by ring)
  · have e0 : ent q = k1 := Fin.ext (by simp only [ent]; omega)
    have e1 : mate (ent q) = k0 := Fin.ext (by rw [show (mate (ent q)).val = (ent q).val - 1 from if_neg (by simp only [ent]; omega)]; simp only [ent]; omega)
    have es : sgn si (ent q) = si j := by rw [sgn, if_neg (by simp only [ent]; omega), ej]
    rw [dif_neg h, rot, es, ej, e1, e0]
    exact congrArg _ (by ring)

set_option maxHeartbeats 1000000 in
/-- The reference's queries. -/
theorem q_ref : val_main_v54 (F := Ideal) (lift p) (lift gq) (lift cs) (lift sn) = lift (Q p gq cs sn) := by
  funext i
  idx_vars i
  pointwise [val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35, val_main_v34,
    val_main_v33, val_main_v32]
  simp only [v15, lift, ← EReal.coe_mul, ← EReal.coe_add, ← EReal.coe_sub]
  have eh : ∀ h, hdQ p i0 ⟨i1.val / 64, h⟩ = rowQ p i0 i1 := fun _ => rfl
  simp only [eh]
  exact rot_pairs (n := 8) (rowC cs i0) (rowC sn i0) (nrm (rowQ p i0 i1) (rowG gq)) i1 ⟨i1.val / 2 % 32, by omega⟩ ⟨i1.val / 2 % 32 * 2, by omega⟩
    ⟨i1.val / 2 % 32 * 2 + 1, by omega⟩ rfl rfl rfl

set_option maxHeartbeats 1000000 in
/-- The reference's keys. -/
theorem k_ref : val_main_v77 (F := Ideal) (lift p) (lift gk) (lift cs) (lift sn) = lift (K p gk cs sn) := by
  funext i
  idx_vars i
  pointwise [val_main_v77, val_main_v76, val_main_v75, val_main_v74, val_main_v73, val_main_v72, val_main_v71, val_main_v70, val_main_v69, val_main_v68,
    val_main_v67, val_main_v66, val_main_v65, val_main_v64, val_main_v63, val_main_v62, val_main_v61, val_main_v60, val_main_v59, val_main_v58, val_main_v57,
    val_main_v56, val_main_v55]
  simp only [v31, lift, ← EReal.coe_mul, ← EReal.coe_add, ← EReal.coe_sub]
  have eh : ∀ h, hdK p i0 ⟨i1.val / 64, h⟩ = rowK p i0 i1 := fun _ => rfl
  simp only [eh]
  exact rot_pairs (n := 2) (rowC cs i0) (rowC sn i0) (nrm (rowK p i0 i1) (rowG gk)) i1 ⟨i1.val / 2 % 32, by omega⟩ ⟨i1.val / 2 % 32 * 2, by omega⟩
    ⟨i1.val / 2 % 32 * 2 + 1, by omega⟩ rfl rfl rfl

end Cert.QkFwd

end
-- ==== Proof.QkFwdClaim.lean ====
/- The statement about the attention's query and key norms and rotary embedding: from finite arguments the kernel and the
   reference end holding the same arrays. -/
module

public import proofs.«01_k».proof.Defs
public import proofs.«01_k».proof.Proof.QkFwdReference
public import proofs.«01_k».proof.Proof.Gen.Reference12Ideal.Run
public import proofs.«01_k».proof.Proof.Gen.Pre_finite12
public import Idealize.ShloMosaic.Lib.Claim

@[expose] public section

noncomputable section

namespace Cert.QkFwd

open Idealize.ShloMosaic Idealize.SL.Sem Cert.Lift

/-- Under the precondition each argument is an array of reals. -/
theorem args_real (m : (ℓ : Loc Cert.Kernel12Ideal.nD Cert.Kernel12Ideal.τ Cert.Kernel12Ideal.sig) → Buf (Elt Ideal) ℓ)
    (h : Cert.Pre_Kernel12Ideal_finite12 m) (c : Dev Cert.Kernel12Ideal.nD) : ∃ p gq gk cs sn, Args m c p gq gk cs sn := by
  obtain ⟨hp, hq, hk, hc, hs⟩ := h c
  obtain ⟨p, hp⟩ := exists_real _ _ hp
  obtain ⟨gq, hq⟩ := exists_real _ _ hq
  obtain ⟨gk, hk⟩ := exists_real _ _ hk
  obtain ⟨cs, hc⟩ := exists_real _ _ hc
  obtain ⟨sn, hs⟩ := exists_real _ _ hs
  exact ⟨p, gq, gk, cs, sn, hp, hq, hk, hc, hs⟩

theorem frame_reference : Cert.quiescent_Reference12Ideal := by
  intro m ρ _
  exact (θ_run Cert.Reference12Ideal.defs _ _).mono (fun r h => ⟨fun c => (h c).2.2,
      Idealize.ShloMosaic.sem_eq_zero_of_no_sems (by decide) r.2⟩)
    (Cert.Reference12Ideal.Value.run (F := Ideal) m ρ)

theorem algebraic : Cert.algebraic_Kernel12Ideal_Reference12Ideal_pre_finite12 := by
  intro m g m' g' hpre hagree
  choose p gq gk cs sn hm using args_real m hpre
  refine ⟨fun c => lift (Q (p c) (gq c) (cs c) (sn c)), fun c => lift (K (p c) (gk c) (cs c) (sn c)), ?_, ?_⟩
  · refine (θ_run Cert.Kernel12Ideal.defs _ _).mono (fun r h c => ?_) (Cert.Kernel12Ideal.Value.run_blocks (F := Ideal) m g)
    obtain ⟨h0, h1, h2⟩ := h c
    exact ⟨h0.trans (q_final m c (hm c)), h1.trans (k_final m c (hm c)), h2⟩
  · refine (θ_run Cert.Reference12Ideal.defs _ _).mono (fun r h c => ?_) (Cert.Reference12Ideal.Value.run (F := Ideal) m' g')
    obtain ⟨h0, h1, h2⟩ := h c
    obtain ⟨a0, a1, a2, a3, a4⟩ := hagree c
    refine ⟨h0.trans ?_, h1.trans ?_, h2⟩
    · refine (Cert.Reference12Ideal.Read.val_main_v54_eq _ _).trans ?_
      rw [a0, a1, a3, a4, (hm c).p, (hm c).gq, (hm c).co, (hm c).si]
      exact q_ref _ _ _ _
    · refine (Cert.Reference12Ideal.Read.val_main_v77_eq _ _).trans ?_
      rw [a0, a2, a3, a4, (hm c).p, (hm c).gk, (hm c).co, (hm c).si]
      exact k_ref _ _ _ _

end Cert.QkFwd

end
-- ==== Proof.MixBack.lean ====
module

public import proofs.«01_k».proof.Proof.Gen.Kernel13Ideal.Value
public import proofs.«01_k».proof.Proof.NormMath
public import proofs.«01_k».proof.Proof.Rope
public import Idealize.ShloMosaic.Lib.Pipeline.ValueKit.Acc

/-! The gradient of the mixer's output projection and of the RMSNorm over it: what the kernel leaves in its three
    result arrays, over real arguments. -/

@[expose] public section

set_option maxRecDepth 16384

noncomputable section

namespace Cert.MixBack

open Idealize.ShloMosaic Idealize.ShloMosaic.TcCoe Idealize.SL.Sem
open Idealize.ShloMosaic.Pipeline (Dat)
open Cert.Lift Cert.Norm
open Cert.Rope (line sum_lines)
open Cert.Kernel13Ideal Cert.Kernel13Ideal.Gen

section Rows
variable (x d : Vec Ideal S512x1024 .f32) (g : Vec Ideal S1x1024 .f32)

/-- A row of the norm's gradient. -/
theorem pay7 (rx rg rd : Fin 1024 → ℝ) (r : Fin 512) (l : Fin 1024) (hx : ∀ k, x (ix2 r k) = ((rx k : ℝ) : EReal)) (hg : ∀ k, g (ix2 0 k) = ((rg k : ℝ) : EReal))
    (hd : ∀ k, d (ix2 r k) = ((rd k : ℝ) : EReal)) : k0_pay7 (F := Ideal) x g d (ix2 r l) = ((dxRow rx rg rd l : ℝ) : EReal) := by
  pointwise [k0_pay7, k0_pay6, k0_pay5, k0_pay4, k0_pay3]
  simp only [hx, hg, hd, ofBits_1024, ofBits_eps, ← EReal.coe_mul, coe_sum, div_real _ (by norm_num : (1024 : ℝ) ≠ 0), ← EReal.coe_add, ← EReal.coe_sub,
    rsqrt_real (mean_sq_pos rx)]
  rfl

/-- A row of the norm's gradient times the transposed weight. -/
theorem pay2 (w : Vec Ideal S1024x1024 .bf16) (rw : Fin 1024 → Fin 1024 → ℝ) (rv : Fin 1024 → ℝ) (r : Fin 512) (l : Fin 1024)
    (hv : ∀ k, k0_pay7 (F := Ideal) x g d (ix2 r k) = ((rv k : ℝ) : EReal)) (hw : ∀ k l, w (ix2 k l) = ((rw k l : ℝ) : EReal)) :
    k0_pay2 (F := Ideal) (k0_pay8 (F := Ideal) x g d) w (ix2 r l) = ((∑ k, rv k * rw l k : ℝ) : EReal) := by
  pointwise [k0_pay2, k0_pay8]
  simp only [hv, hw, ← EReal.coe_mul, coe_sum, zero_add]

/-- The block's share of the gradient of the gain, added to what is there. -/
theorem pay9 (acc : Vec Ideal S1x1024 .f32) (rx rd : Fin 512 → Fin 1024 → ℝ) (l : Fin 1024) (hx : ∀ r k, x (ix2 r k) = ((rx r k : ℝ) : EReal))
    (hd : ∀ r k, d (ix2 r k) = ((rd r k : ℝ) : EReal)) : k0_pay9 (F := Ideal) x d acc (ix2 0 l) = acc (ix2 0 l) + ((dg rx rd l : ℝ) : EReal) := by
  have e : ∀ r, _ := fun r => rsqrt_real (mean_sq_pos (rx r))
  pointwise [k0_pay9, k0_pay6, k0_pay5, k0_pay4, k0_pay3]
  simp only [hx, hd, ofBits_1024, ofBits_eps, ← EReal.coe_mul, coe_sum, div_real _ (by norm_num : (1024 : ℝ) ≠ 0), ← EReal.coe_add, e]
  rfl
end Rows

section Arrays
variable (qs : S1x2048x1024.Idx → ℝ) (ws : S1x1024x1024.Idx → ℝ) (gs : S1x1024.Idx → ℝ) (ds : S1x2048x1024.Idx → ℝ)

/-- A row of the projection. -/
def mixed (r : Fin 2048) (l : Fin 1024) : ℝ := ∑ k, qs (ix3 0 r k) * ws (ix3 0 k l)

/-- The gain, and a row of the cotangent. -/
def gain (k : Fin 1024) : ℝ := gs (ix2 0 k)
def cot (r : Fin 2048) (k : Fin 1024) : ℝ := ds (ix3 0 r k)

/-- The gradient of the projection. -/
def M (i : S2048x1024.Idx) : ℝ := dxRow (mixed qs ws (i 0)) (gain gs) (cot ds (i 0)) (i 1)

/-- The gradient of the projection's argument. -/
def C (i : S2048x1024.Idx) : ℝ := ∑ k, M qs ws gs ds (ix2 (i 0) k) * ws (ix3 0 (i 1) k)

/-- The gradient of the gain. -/
def G (i : S1x1024.Idx) : ℝ := dg (mixed qs ws) (cot ds) (i 1)

/-- One block's share of it. -/
def gTile (t : Fin cfg0.N) (i : S1x1024.Idx) : EReal := ((dg (fun r => mixed qs ws (line t.val r)) (fun r => cot ds (line t.val r)) (i 1) : ℝ) : EReal)

theorem sum_points (l : Fin 1024) : ∑ k : Fin 4, dg (fun r => mixed qs ws (line k.val r)) (fun r => cot ds (line k.val r)) l = G qs ws ds (ix2 0 l) :=
  sum_lines fun r => cot ds r l * (mixed qs ws r l * rstd (mixed qs ws r))
end Arrays

variable (m : (ℓ : Loc nD τ sig) → Buf (Elt Ideal) ℓ) (c : Dev nD)

theorem idx : ∀ t : Fin cfg0.N, win0_0.index t = ![t.val % 4, 0] ∧ win0_1.index t = ![0, 0] ∧ win0_2.index t = ![t.val % 4, 0] ∧ win0_3.index t = ![0, 0]
    ∧ win0_4.index t = ![t.val % 4, 0] ∧ win0_5.index t = ![t.val % 4, 0] ∧ win0_6.index t = ![0, 0] :=
  (by decide +kernel : ∀ t : Fin grid0.N, _)

/-- The projection, as the host prepares it for the kernel. -/
theorem V_mixed : V m c main_v4 = Host.dotGeneral (F := Ideal) dot_S2048x1024_S1024x1024_S2048x1024_1_0_0_1_n_n none
    (truncf .bf16 (shapeCast S2048x1024 (m ((c.tc : Thread nD τ).loc main_arg0)) shapeCasts_S1x2048x1024_S2048x1024) bitsLt_bf16_f32)
    (truncf .bf16 (shapeCast S1024x1024 (m ((c.tc : Thread nD τ).loc main_arg1)) shapeCasts_S1x1024x1024_S1024x1024) bitsLt_bf16_f32) := by
  unfold_abbrev_sides
  after_results
  rfl

theorem prod_apply (a : FVec Ideal S2048x1024 .bf16) (b : FVec Ideal S1024x1024 .bf16) (r : Fin 2048) (l : Fin 1024) :
    (Host.dotGeneral (F := Ideal) dot_S2048x1024_S1024x1024_S2048x1024_1_0_0_1_n_n none a b : FVec Ideal S2048x1024 .f32) (ix2 r l) = ∑ k : Fin 1024, a (ix2 r k) * b (ix2 k l) := by
  pointwise

theorem rows_apply (qs : S1x2048x1024.Idx → ℝ) (r : Fin 2048) (k : Fin 1024) :
    (truncf .bf16 (shapeCast S2048x1024 (lift qs : FVec Ideal S1x2048x1024 .f32) shapeCasts_S1x2048x1024_S2048x1024) bitsLt_bf16_f32 : FVec Ideal S2048x1024 .bf16) (ix2 r k)
      = ((qs (ix3 0 r k) : ℝ) : EReal) := by
  pointwise
  rfl

theorem weight_apply (ws : S1x1024x1024.Idx → ℝ) (k l : Fin 1024) :
    (truncf .bf16 (shapeCast S1024x1024 (lift ws : FVec Ideal S1x1024x1024 .f32) shapeCasts_S1x1024x1024_S1024x1024) bitsLt_bf16_f32 : FVec Ideal S1024x1024 .bf16) (ix2 k l)
      = ((ws (ix3 0 k l) : ℝ) : EReal) := by
  pointwise
  rfl

variable (qs : S1x2048x1024.Idx → ℝ) (ws : S1x1024x1024.Idx → ℝ) (gs : S1x1024.Idx → ℝ) (ds : S1x2048x1024.Idx → ℝ)

/-- The arguments are real arrays. -/
structure Args : Prop where
  a : m ((c.tc : Thread nD τ).loc main_arg0) = lift qs
  w : m ((c.tc : Thread nD τ).loc main_arg1) = lift ws
  g : m ((c.tc : Thread nD τ).loc main_arg2) = lift gs
  d : m ((c.tc : Thread nD τ).loc main_arg3) = lift ds

variable {qs ws gs ds}
variable (hm : Args m c qs ws gs ds)
include hm

theorem V_mixed_apply (r : Fin 2048) (l : Fin 1024) : V m c main_v4 (ix2 r l) = ((mixed qs ws r l : ℝ) : EReal) := by
  rw [V_mixed, hm.a, hm.w, prod_apply]
  simp only [rows_apply, weight_apply, ← EReal.coe_mul, coe_sum]
  rfl

theorem blk0 (t : Fin cfg0.N) (r : Fin 512) (k : Fin 1024) : iblk m c 0 t (ix2 r k) = ((mixed qs ws (line t.val r) k : ℝ) : EReal) := by
  have e : iblk m c 0 t (ix2 r k) = V m c main_v4 (ix2 (line t.val r) k) := by
    blk_point [iblk, idx t, line]
  rw [e, V_mixed_apply m c hm]

theorem blk1 (t : Fin cfg0.N) (k : Fin 1024) : iblk m c 1 t (ix2 0 k) = ((gain gs k : ℝ) : EReal) := by
  have e : iblk m c 1 t = m ((c.tc : Thread nD τ).loc main_arg2) := by
    blk_ext! [iblk, V, idx t]
  rw [e, hm.g]; rfl

theorem blk2 (t : Fin cfg0.N) (r : Fin 512) (k : Fin 1024) : iblk m c 2 t (ix2 r k) = ((cot ds (line t.val r) k : ℝ) : EReal) := by
  have e : iblk m c 2 t (ix2 r k) = m ((c.tc : Thread nD τ).loc main_arg3) (ix3 0 (line t.val r) k) := by
    blk_point [iblk, V, idx t, line]
  rw [e, hm.d]; rfl

theorem blk3 (t : Fin cfg0.N) (k l : Fin 1024) : iblk m c 3 t (ix2 k l) = ((ws (ix3 0 k l) : ℝ) : EReal) := by
  have e : iblk m c 3 t (ix2 k l) = m ((c.tc : Thread nD τ).loc main_arg1) (ix3 0 k l) := by
    blk_point [iblk, V, idx t]
  rw [e, hm.w]; rfl

/-- The block's rows of the projection's gradient. -/
theorem dm_blk (t : Fin cfg0.N) (r : Fin 512) (l : Fin 1024) : k0_pay7 (F := Ideal) (iblk m c 0 t) (iblk m c 1 t) (iblk m c 2 t) (ix2 r l)
    = ((M qs ws gs ds (ix2 (line t.val r) l) : ℝ) : EReal) :=
  pay7 _ _ _ _ _ _ r l (blk0 m c hm t r) (blk1 m c hm t) (blk2 m c hm t r)

/-- The block's rows of the argument's gradient. -/
theorem dc_blk (t : Fin cfg0.N) (r : Fin 512) (l : Fin 1024) :
    k0_pay2 (F := Ideal) (k0_pay8 (F := Ideal) (iblk m c 0 t) (iblk m c 1 t) (iblk m c 2 t)) (iblk m c 3 t) (ix2 r l)
      = ((C qs ws gs ds (ix2 (line t.val r) l) : ℝ) : EReal) :=
  pay2 _ _ _ _ (fun k l => ws (ix3 0 k l)) _ r l (dm_blk m c hm t r) (blk3 m c hm t)

theorem out4 (t : Fin cfg0.N) (r : Fin 512) (l : Fin 1024) :
    (outsAt0 m c t.val t.isLt).1 (ix2 r l) = ((C qs ws gs ds (ix2 (line t.val r) l) : ℝ) : EReal) := by
  by_cases h : t.val % 4 = 0
  · rw [outsAt0_A m c t h]
    frame_out
    exact dc_blk m c hm t r l
  · rw [outsAt0_B m c t h]
    frame_out
    exact dc_blk m c hm t r l

theorem out5 (t : Fin cfg0.N) (r : Fin 512) (l : Fin 1024) :
    (outsAt0 m c t.val t.isLt).2.1 (ix2 r l) = ((M qs ws gs ds (ix2 (line t.val r) l) : ℝ) : EReal) := by
  by_cases h : t.val % 4 = 0
  · rw [outsAt0_A m c t h]
    frame_out
    exact dm_blk m c hm t r l
  · rw [outsAt0_B m c t h]
    frame_out
    exact dm_blk m c hm t r l

theorem first6 (t : Fin cfg0.N) (h : t.val % 4 = 0) (i : S1x1024.Idx) : (outsAt0 m c t.val t.isLt).2.2 i = 0 + gTile qs ws ds t i := by
  idx_vars i
  obtain rfl : i0 = 0 := Subsingleton.elim _ _
  rw [outsAt0_A m c t h]
  frame_out
  refine (pay9 _ _ (k0_pay1 (F := Ideal)) _ _ i1 (blk0 m c hm t) (blk2 m c hm t)).trans (congrArg (· + _) ?_)
  pointwise [k0_pay1]

theorem next6 (t : Fin cfg0.N) (h : ¬ t.val % 4 = 0) (i : S1x1024.Idx) : (outsAt0 m c t.val t.isLt).2.2 i
    = (outsAt0 m c (t.val - 1) (Nat.lt_of_le_of_lt (Nat.sub_le _ _) t.isLt)).2.2 i + gTile qs ws ds t i := by
  idx_vars i
  obtain rfl : i0 = 0 := Subsingleton.elim _ _
  rw [outsAt0_B m c t h]
  frame_out
  exact pay9 _ _ _ _ _ i1 (blk0 m c hm t) (blk2 m c hm t)

theorem c_final : (dats m 0 c).arrAt 4 cfg0.N = lift (C qs ws gs ds) := by
  refine (dats m 0 c).arrAt_eq_of_covers 4 _ (by decide +kernel) fun t _ y => ?_
  rw [after0_4]
  idx_vars y
  blk_simp
  refine (out4 m c hm t y0 y1).trans (congrArg (lift (C qs ws gs ds)) ?_)
  blk_ext [idx t, line]

theorem m_final : (dats m 0 c).arrAt 5 cfg0.N = lift (M qs ws gs ds) := by
  refine (dats m 0 c).arrAt_eq_of_covers 5 _ (by decide +kernel) fun t _ y => ?_
  rw [after0_5]
  idx_vars y
  blk_simp
  refine (out5 m c hm t y0 y1).trans (congrArg (lift (M qs ws gs ds)) ?_)
  blk_ext [idx t, line]

theorem g_final : (dats m 0 c).arrAt 6 cfg0.N = lift (G qs ws ds) := by
  refine (dats m 0 c).arrAt_eq_of_covers 6 _ (by decide +kernel) fun t hf y => ?_
  rw [after0_6]
  idx_vars y
  obtain rfl : y0 = 0 := Subsingleton.elim _ _
  blk_simp
  refine (Pipeline.eq_sum_fin_of_reset_step_apply_of_flush (f := fun n h => (outsAt0 m c n h).2.2) 4 (fun _ => 0) (gTile qs ws ds)
    (first6 m c hm) (next6 m c hm) t ((flush0_6 t).mp hf) (ix2 0 y1)).trans ?_
  simp only [gTile, coe_sum, zero_add]
  have ht : t.val < 4 := t.isLt
  refine (congrArg (fun z : ℝ => (z : EReal)) (Eq.trans (Finset.sum_congr rfl fun k _ => ?_) (sum_points qs ws ds y1))).trans ?_
  · have e : ∀ r, line (4 * (t.val / 4) + k.val) r = line k.val r := fun r => Fin.ext (by simp only [line]; omega)
    simp only [e]
    rfl
  · refine congrArg (lift (G qs ws ds)) (a₁ := ix2 0 y1) ?_
    blk_ext [idx t]

end Cert.MixBack

end
-- ==== Proof.MixBackReference.lean ====
module

public import proofs.«01_k».proof.Proof.Gen.Reference13Ideal.Read
public import proofs.«01_k».proof.Proof.MixBack

/-! The gradient of the mixer's output projection and of the RMSNorm over it: what the reference computes, over real
    arguments. -/

@[expose] public section

set_option maxRecDepth 16384

noncomputable section

namespace Cert.MixBack

open Idealize.ShloMosaic Idealize.ShloMosaic.TcCoe Idealize.SL.Sem
open Cert.Lift Cert.Norm
open Cert.Reference13Ideal Cert.Reference13Ideal.Gen Cert.Reference13Ideal.Read

variable (qs : S1x2048x1024.Idx → ℝ) (ws : S1x1024x1024.Idx → ℝ) (gs : S1x1024.Idx → ℝ) (ds : S1x2048x1024.Idx → ℝ)

theorem v0 (k l : Fin 1024) : val_main_v0 (F := Ideal) (lift ws) (ix2 k l) = ((ws (ix3 0 k l) : ℝ) : EReal) := by
  pointwise [val_main_v0]
  rfl

theorem v1 (z : Fin 1) (r : Fin 2048) (l : Fin 1024) : val_main_v1 (F := Ideal) (lift qs) (lift ws) (ix3 z r l) = ((mixed qs ws r l : ℝ) : EReal) := by
  obtain rfl : z = 0 := Subsingleton.elim _ _
  pointwise [val_main_v1]
  simp only [v0]
  simp only [lift, ← EReal.coe_mul, coe_sum]
  rfl

theorem v9 (z : Fin 1) (r : Fin 2048) (l : Fin 1) : val_main_v9 (F := Ideal) (lift qs) (lift ws) (ix3 z r l) = ((ms (mixed qs ws r) : ℝ) : EReal) := by
  obtain rfl : z = 0 := Subsingleton.elim _ _
  pointwise [val_main_v9, val_main_v8, val_main_v7, val_main_v6, val_main_v5, val_main_v4, val_main_v3, val_main_cst, val_main_cst_0, val_main_cst_1]
  simp only [v1, ofBits_1024, ofBits_eps, ← EReal.coe_mul, coe_sum, zero_add, div_real _ (by norm_num : (1024 : ℝ) ≠ 0), ← EReal.coe_add]
  rfl

theorem v10 (z : Fin 1) (r : Fin 2048) (l : Fin 1) : val_main_v10 (F := Ideal) (lift qs) (lift ws) (ix3 z r l) = ((rstd (mixed qs ws r) : ℝ) : EReal) := by
  pointwise [val_main_v10]
  rw [v9]; exact rsqrt_real (mean_sq_pos _)

theorem v23 (z : Fin 1) (r : Fin 2048) (l : Fin 1024) : val_main_v23 (F := Ideal) (lift gs) (lift ds) (ix3 z r l) = ((cot ds r l * gain gs l : ℝ) : EReal) := by
  obtain rfl : z = 0 := Subsingleton.elim _ _
  pointwise [val_main_v23, val_main_v22, val_main_v16, val_main_v2]
  simp only [lift, ← EReal.coe_mul]
  rfl

theorem v20 (z : Fin 1) (l : Fin 1024) : val_main_v20 (F := Ideal) (lift qs) (lift ws) (lift ds) (ix2 z l)
    = ((dg (mixed qs ws) (cot ds) l : ℝ) : EReal) := by
  obtain rfl : z = 0 := Subsingleton.elim _ _
  pointwise [val_main_v20, val_main_v19, val_main_v15, val_main_v14, val_main_cst_3]
  simp only [v1, v10]
  simp only [lift, ← EReal.coe_mul, coe_sum, zero_add]
  exact congrArg _ (Finset.sum_congr rfl fun k _ => mul_comm _ _)

theorem v40 (z : Fin 1) (l : Fin 1024) : val_main_v40 (F := Ideal) (lift qs) (lift ws) (lift ds) (ix2 z l)
    = ((dg (mixed qs ws) (cot ds) l : ℝ) : EReal) := by
  pointwise [val_main_v40, val_main_v24, val_main_v21, val_main_cst_4]
  rw [hostReduceAdd_r3_a01]
  pointwise []
  simp [v20]

theorem v32 (z : Fin 1) (r : Fin 2048) (l : Fin 1) : val_main_v32 (F := Ideal) (lift qs) (lift ws) (lift gs) (lift ds) (ix3 z r l)
    = ((slope (mixed qs ws r) (gain gs) (cot ds r) : ℝ) : EReal) := by
  obtain rfl : z = 0 := Subsingleton.elim _ _
  pointwise [val_main_v32, val_main_v31, val_main_v30, val_main_v27, val_main_v26, val_main_v25,
    val_main_v13, val_main_v12, val_main_v11, val_main_cst_2, val_main_cst_5, val_main_cst_6]
  have hm : ms (mixed qs ws r) ≠ 0 := (mean_sq_pos _).ne'
  simp only [v1, v9, v10, v23, ofBits_1024, ofBits_neg_half, ← EReal.coe_mul, coe_sum, zero_add, div_real _ hm,
    div_real _ (by norm_num : (1024 : ℝ) ≠ 0)]
  rfl

theorem v35 (z : Fin 1) (r : Fin 2048) (l : Fin 1024) : val_main_v35 (F := Ideal) (lift qs) (lift ws) (lift gs) (lift ds) (ix3 z r l)
    = ((slope (mixed qs ws r) (gain gs) (cot ds r) : ℝ) : EReal) := by
  obtain rfl : z = 0 := Subsingleton.elim _ _
  pointwise [val_main_v35, val_main_v34, val_main_v33, val_main_cst_7]
  rw [hostReduceAdd_r3_a02]
  simp [v32]

theorem v39 (z : Fin 1) (r : Fin 2048) (l : Fin 1024) : val_main_v39 (F := Ideal) (lift qs) (lift ws) (lift gs) (lift ds) (ix3 z r l)
    = ((M qs ws gs ds (ix2 r l) : ℝ) : EReal) := by
  obtain rfl : z = 0 := Subsingleton.elim _ _
  pointwise [val_main_v39, val_main_v38, val_main_v37, val_main_v36, val_main_v29, val_main_v28]
  simp only [v1, v10, v23, v35, ← EReal.coe_mul, ← EReal.coe_add]
  exact congrArg (fun z : ℝ => (z : EReal)) (dxRow_eq (mixed qs ws r) (gain gs) (cot ds r) l)

theorem c_ref : val_main_v43 (F := Ideal) (lift qs) (lift ws) (lift gs) (lift ds) = lift (C qs ws gs ds) := by
  funext i
  idx_vars i
  pointwise [val_main_v43, val_main_v42, val_main_v41]
  simp only [v0, v39, ← EReal.coe_mul, coe_sum]
  rfl

theorem m_ref : val_main_v45 (F := Ideal) (lift qs) (lift ws) (lift gs) (lift ds) = lift (M qs ws gs ds) := by
  funext i
  idx_vars i
  pointwise [val_main_v45, val_main_v44]
  exact v39 qs ws gs ds 0 i0 i1

theorem g_ref : val_main_v40 (F := Ideal) (lift qs) (lift ws) (lift ds) = lift (G qs ws ds) := by
  funext i
  idx_vars i
  exact v40 qs ws ds i0 i1

end Cert.MixBack

end
-- ==== Proof.MixBackClaim.lean ====
/- The statement about the gradient of the mixer's output projection and of the RMSNorm over it: from finite arguments the
   kernel and the reference end holding the same arrays. -/
module

public import proofs.«01_k».proof.Defs
public import proofs.«01_k».proof.Proof.MixBackReference
public import proofs.«01_k».proof.Proof.Gen.Reference13Ideal.Run
public import proofs.«01_k».proof.Proof.Gen.Pre_finite13
public import Idealize.ShloMosaic.Lib.Claim

@[expose] public section

noncomputable section

namespace Cert.MixBack

open Idealize.ShloMosaic Idealize.SL.Sem Cert.Lift

/-- Under the precondition each argument is an array of reals. -/
theorem args_real (m : (ℓ : Loc Cert.Kernel13Ideal.nD Cert.Kernel13Ideal.τ Cert.Kernel13Ideal.sig) → Buf (Elt Ideal) ℓ)
    (h : Cert.Pre_Kernel13Ideal_finite13 m) (c : Dev Cert.Kernel13Ideal.nD) : ∃ qs ws gs ds, Args m c qs ws gs ds := by
  obtain ⟨hq, hw, hg, hd⟩ := h c
  obtain ⟨qs, hqs⟩ := exists_real _ _ hq
  obtain ⟨ws, hws⟩ := exists_real _ _ hw
  obtain ⟨gs, hgs⟩ := exists_real _ _ hg
  obtain ⟨ds, hds⟩ := exists_real _ _ hd
  exact ⟨qs, ws, gs, ds, hqs, hws, hgs, hds⟩

theorem frame_reference : Cert.quiescent_Reference13Ideal := by
  intro m ρ _
  exact (θ_run Cert.Reference13Ideal.defs _ _).mono (fun r h => ⟨fun c => (h c).2.2.2,
      Idealize.ShloMosaic.sem_eq_zero_of_no_sems (by decide) r.2⟩)
    (Cert.Reference13Ideal.Value.run (F := Ideal) m ρ)

theorem algebraic : Cert.algebraic_Kernel13Ideal_Reference13Ideal_pre_finite13 := by
  intro m g m' g' hpre hagree
  choose qs ws gs ds hm using args_real m hpre
  refine ⟨fun c => lift (C (qs c) (ws c) (gs c) (ds c)), fun c => lift (M (qs c) (ws c) (gs c) (ds c)),
    fun c => lift (G (qs c) (ws c) (ds c)), ?_, ?_⟩
  · refine (θ_run Cert.Kernel13Ideal.defs _ _).mono (fun r h c => ?_) (Cert.Kernel13Ideal.Value.run_blocks (F := Ideal) m g)
    obtain ⟨h0, h1, h2, h3⟩ := h c
    exact ⟨h0.trans (c_final m c (hm c)), h1.trans (m_final m c (hm c)), h2.trans (g_final m c (hm c)), h3⟩
  · refine (θ_run Cert.Reference13Ideal.defs _ _).mono (fun r h c => ?_) (Cert.Reference13Ideal.Value.run (F := Ideal) m' g')
    obtain ⟨h0, h1, h2, h3⟩ := h c
    obtain ⟨a0, a1, a2, a3⟩ := hagree c
    refine ⟨h0.trans ?_, h1.trans ?_, h2.trans ?_, h3⟩
    · refine (Cert.Reference13Ideal.Read.val_main_v43_eq m' c).trans ?_
      rw [a0, a1, a2, a3, (hm c).a, (hm c).w, (hm c).g, (hm c).d]
      exact c_ref _ _ _ _
    · refine (Cert.Reference13Ideal.Read.val_main_v45_eq m' c).trans ?_
      rw [a0, a1, a2, a3, (hm c).a, (hm c).w, (hm c).g, (hm c).d]
      exact m_ref _ _ _ _
    · refine (Cert.Reference13Ideal.Read.val_main_v40_eq _ _ _).trans ?_
      rw [a0, a1, a3, (hm c).a, (hm c).w, (hm c).d]
      exact g_ref _ _ _

end Cert.MixBack

end
-- ==== Proof.Loss.lean ====
module

public import proofs.«01_k».proof.Proof.Gen.Kernel14Ideal.Value
public import proofs.«01_k».proof.Proof.NormMath
public import Idealize.ShloMosaic.Lib.Pipeline.ValueKit.Acc

/-! The last feed-forward's down projection with its norm, residual, loss and the loss's gradient: what the kernel
    leaves in its three result arrays, over real arguments. -/

@[expose] public section

set_option maxRecDepth 16384

noncomputable section

namespace Cert.Loss

open Idealize.ShloMosaic Idealize.ShloMosaic.TcCoe Idealize.SL.Sem
open Idealize.ShloMosaic.Pipeline (Dat)
open Cert.Lift Cert.Norm
open Cert.Kernel14Ideal Cert.Kernel14Ideal.Gen

theorem ofBits_half : Ideal.ofBits .f32 0x3F000000#32 = ((1 / 2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- A row of the block, among all the rows. -/
def line (t : ℕ) (r : Fin 512) : Fin 2048 := ⟨t % 4 * 512 + r.val, by omega⟩

/-- The rows of the four blocks are all the rows. -/
theorem sum_lines (f : Fin 2048 → ℝ) : ∑ k : Fin 4, ∑ r : Fin 512, f (line k.val r) = ∑ r, f r := by
  rw [← Fintype.sum_prod_type', ← (finProdFinEquiv (m := 4) (n := 512)).sum_comp]
  exact Finset.sum_congr rfl fun p _ => congrArg f (Fin.ext (by simp [line, finProdFinEquiv]; omega))

/-- A row's error: residual plus normalised row times gain, less the target. -/
def errRow (y x g t : Fin 1024 → ℝ) (l : Fin 1024) : ℝ := x l + y l * rstd y * g l - t l

/-- A row's mean squared error. -/
def mse (e : Fin 1024 → ℝ) : ℝ := (∑ k, e k * e k) / 1024

section Rows
variable (a : Vec Ideal S512x2816 .bf16) (w : Vec Ideal S2816x1024 .bf16) (x t : Vec Ideal S512x1024 .f32) (g : Vec Ideal S1x1024 .f32)

theorem pay2 (ra : Fin 2816 → ℝ) (rw : Fin 2816 → Fin 1024 → ℝ) (r : Fin 512) (l : Fin 1024) (ha : ∀ k, a (ix2 r k) = ((ra k : ℝ) : EReal))
    (hw : ∀ k l, w (ix2 k l) = ((rw k l : ℝ) : EReal)) : k0_pay2 (F := Ideal) a w (ix2 r l) = ((∑ k, ra k * rw k l : ℝ) : EReal) := by
  pointwise [k0_pay2]
  simp only [ha, hw, ← EReal.coe_mul, coe_sum, zero_add]

theorem pay3 (ry rx rg rt : Fin 1024 → ℝ) (r : Fin 512) (l : Fin 1024) (hy : ∀ k, k0_pay2 (F := Ideal) a w (ix2 r k) = ((ry k : ℝ) : EReal))
    (hx : ∀ k, x (ix2 r k) = ((rx k : ℝ) : EReal)) (hg : ∀ k, g (ix2 0 k) = ((rg k : ℝ) : EReal)) (ht : ∀ k, t (ix2 r k) = ((rt k : ℝ) : EReal)) :
    k0_pay3 (F := Ideal) a w x g t (ix2 r l) = ((errRow ry rx rg rt l : ℝ) : EReal) := by
  pointwise [k0_pay3]
  simp only [hy, hx, hg, ht, ofBits_1024, ofBits_eps, ← EReal.coe_mul, coe_sum, zero_add, div_real _ (by norm_num : (1024 : ℝ) ≠ 0), ← EReal.coe_add,
    ← EReal.coe_sub, rsqrt_real (mean_sq_pos ry)]
  rfl

theorem pay4 (re : Fin 1024 → ℝ) (r : Fin 512) (l : Fin 1024) (he : ∀ k, k0_pay3 (F := Ideal) a w x g t (ix2 r k) = ((re k : ℝ) : EReal)) :
    k0_pay4 (F := Ideal) a w x g t (ix2 r l) = ((re l / 1024 : ℝ) : EReal) := by
  pointwise [k0_pay4]
  simp only [he, ofBits_inv_1024, ← EReal.coe_mul]
  exact congrArg _ (by ring)

theorem pay1 (v : Vec Ideal S512x1024 .f32) (acc : Vec Ideal S1x1 .f32) (re : Fin 512 → Fin 1024 → ℝ) (he : ∀ r k, v (ix2 r k) = ((re r k : ℝ) : EReal)) :
    k0_pay1 (F := Ideal) v acc (ix2 0 0) = acc (ix2 0 0) + ((1 / 2 * ∑ r, mse (re r) : ℝ) : EReal) := by
  pointwise [k0_pay1]
  simp only [he, ofBits_1024, ofBits_half, ← EReal.coe_mul, coe_sum, zero_add, div_real _ (by norm_num : (1024 : ℝ) ≠ 0)]
  rfl
end Rows

section Arrays
variable (qs : S1x2048x2816.Idx → ℝ) (ws : S1x2816x1024.Idx → ℝ) (xs ts : S1x2048x1024.Idx → ℝ) (gs : S1x1024.Idx → ℝ)

/-- The down projection. -/
def prod (r : Fin 2048) (l : Fin 1024) : ℝ := ∑ k, qs (ix3 0 r k) * ws (ix3 0 k l)

/-- The error of one row. -/
def err (r : Fin 2048) : Fin 1024 → ℝ := errRow (prod qs ws r) (fun k => xs (ix3 0 r k)) (fun k => gs (ix2 0 k)) (fun k => ts (ix3 0 r k))

def Y (i : S2048x1024.Idx) : ℝ := prod qs ws (i 0) (i 1)

/-- The gradient of the loss. -/
def D (i : S2048x1024.Idx) : ℝ := err qs ws xs ts gs (i 0) (i 1) / 1024

/-- The loss: half the sum of the rows' mean squared errors. -/
def L : ℝ := 1 / 2 * ∑ r, mse (err qs ws xs ts gs r)

/-- One block's share of the loss. -/
def lTile (t : Fin cfg0.N) : S1x1.Idx → EReal := fun _ => ((1 / 2 * ∑ r, mse (err qs ws xs ts gs (line t.val r)) : ℝ) : EReal)

theorem sum_points : ∑ k : Fin 4, 1 / 2 * ∑ r, mse (err qs ws xs ts gs (line k.val r)) = L qs ws xs ts gs := by
  rw [← Finset.mul_sum, sum_lines fun r => mse (err qs ws xs ts gs r)]; rfl
end Arrays

variable (m : (ℓ : Loc nD τ sig) → Buf (Elt Ideal) ℓ) (c : Dev nD)

theorem idx : ∀ t : Fin cfg0.N, win0_0.index t = ![t.val % 4, 0] ∧ win0_1.index t = ![0, 0] ∧ win0_2.index t = ![t.val % 4, 0] ∧ win0_3.index t = ![0, 0]
    ∧ win0_4.index t = ![t.val % 4, 0] ∧ win0_5.index t = ![t.val % 4, 0] ∧ win0_6.index t = ![t.val % 4, 0] ∧ win0_7.index t = ![0, 0] :=
  (by decide +kernel : ∀ t : Fin grid0.N, _)

variable (qs : S1x2048x2816.Idx → ℝ) (ws : S1x2816x1024.Idx → ℝ) (xs ts : S1x2048x1024.Idx → ℝ) (gs : S1x1024.Idx → ℝ)

/-- The arguments are real arrays. -/
structure Args : Prop where
  a : m ((c.tc : Thread nD τ).loc main_arg0) = lift qs
  w : m ((c.tc : Thread nD τ).loc main_arg1) = lift ws
  x : m ((c.tc : Thread nD τ).loc main_arg2) = lift xs
  g : m ((c.tc : Thread nD τ).loc main_arg3) = lift gs
  t : m ((c.tc : Thread nD τ).loc main_arg4) = lift ts

variable {qs ws xs ts gs}
variable (hm : Args m c qs ws xs ts gs)
include hm

theorem blk0 (t : Fin cfg0.N) (r : Fin 512) (k : Fin 2816) : iblk m c 0 t (ix2 r k) = ((qs (ix3 0 (line t.val r) k) : ℝ) : EReal) := by
  have e : iblk m c 0 t (ix2 r k) = m ((c.tc : Thread nD τ).loc main_arg0) (ix3 0 (line t.val r) k) := by
    blk_point [iblk, V, idx t, line]
  rw [e, hm.a]; rfl

theorem blk1 (t : Fin cfg0.N) (k : Fin 2816) (l : Fin 1024) : iblk m c 1 t (ix2 k l) = ((ws (ix3 0 k l) : ℝ) : EReal) := by
  have e : iblk m c 1 t (ix2 k l) = m ((c.tc : Thread nD τ).loc main_arg1) (ix3 0 k l) := by
    blk_point [iblk, V, idx t]
  rw [e, hm.w]; rfl

theorem blk2 (t : Fin cfg0.N) (r : Fin 512) (k : Fin 1024) : iblk m c 2 t (ix2 r k) = ((xs (ix3 0 (line t.val r) k) : ℝ) : EReal) := by
  have e : iblk m c 2 t (ix2 r k) = m ((c.tc : Thread nD τ).loc main_arg2) (ix3 0 (line t.val r) k) := by
    blk_point [iblk, V, idx t, line]
  rw [e, hm.x]; rfl

theorem blk3 (t : Fin cfg0.N) (k : Fin 1024) : iblk m c 3 t (ix2 0 k) = ((gs (ix2 0 k) : ℝ) : EReal) := by
  have e : iblk m c 3 t = m ((c.tc : Thread nD τ).loc main_arg3) := by
    blk_ext! [iblk, V, idx t]
  rw [e, hm.g]; rfl

theorem blk4 (t : Fin cfg0.N) (r : Fin 512) (k : Fin 1024) : iblk m c 4 t (ix2 r k) = ((ts (ix3 0 (line t.val r) k) : ℝ) : EReal) := by
  have e : iblk m c 4 t (ix2 r k) = m ((c.tc : Thread nD τ).loc main_arg4) (ix3 0 (line t.val r) k) := by
    blk_point [iblk, V, idx t, line]
  rw [e, hm.t]; rfl

/-- The block's rows of the down projection. -/
theorem prod_blk (t : Fin cfg0.N) (r : Fin 512) (l : Fin 1024) :
    k0_pay2 (F := Ideal) (iblk m c 0 t) (iblk m c 1 t) (ix2 r l) = ((prod qs ws (line t.val r) l : ℝ) : EReal) :=
  pay2 _ _ _ (fun k l => ws (ix3 0 k l)) r l (blk0 m c hm t r) (blk1 m c hm t)

/-- The block's rows of the error. -/
theorem err_blk (t : Fin cfg0.N) (r : Fin 512) (l : Fin 1024) :
    k0_pay3 (F := Ideal) (iblk m c 0 t) (iblk m c 1 t) (iblk m c 2 t) (iblk m c 3 t) (iblk m c 4 t) (ix2 r l)
      = ((err qs ws xs ts gs (line t.val r) l : ℝ) : EReal) :=
  pay3 _ _ _ _ _ _ _ _ _ r l (prod_blk m c hm t r) (blk2 m c hm t r) (blk3 m c hm t) (blk4 m c hm t r)

theorem out5 (t : Fin cfg0.N) (r : Fin 512) (l : Fin 1024) :
    (outsAt0 m c t.val t.isLt).1 (ix2 r l) = ((Y qs ws (ix2 (line t.val r) l) : ℝ) : EReal) := by
  by_cases h : t.val % 4 = 0
  · rw [outsAt0_A m c t h]
    frame_out
    exact prod_blk m c hm t r l
  · rw [outsAt0_B m c t h]
    frame_out
    exact prod_blk m c hm t r l

theorem out6 (t : Fin cfg0.N) (r : Fin 512) (l : Fin 1024) :
    (outsAt0 m c t.val t.isLt).2.1 (ix2 r l) = ((D qs ws xs ts gs (ix2 (line t.val r) l) : ℝ) : EReal) := by
  by_cases h : t.val % 4 = 0
  · rw [outsAt0_A m c t h]
    frame_out
    exact pay4 _ _ _ _ _ _ r l (err_blk m c hm t r)
  · rw [outsAt0_B m c t h]
    frame_out
    exact pay4 _ _ _ _ _ _ r l (err_blk m c hm t r)

theorem first7 (t : Fin cfg0.N) (h : t.val % 4 = 0) (i : S1x1.Idx) : (outsAt0 m c t.val t.isLt).2.2 i = 0 + lTile qs ws xs ts gs t i := by
  idx_vars i
  obtain rfl : i0 = 0 := Subsingleton.elim _ _
  obtain rfl : i1 = 0 := Subsingleton.elim _ _
  rw [outsAt0_A m c t h]
  frame_out
  refine (pay1 _ (k0_pay6 (F := Ideal) (k0_pay5 (F := Ideal))) _ (err_blk m c hm t)).trans (congrArg (· + _) ?_)
  pointwise [k0_pay5, k0_pay6]

theorem next7 (t : Fin cfg0.N) (h : ¬ t.val % 4 = 0) (i : S1x1.Idx) : (outsAt0 m c t.val t.isLt).2.2 i
    = (outsAt0 m c (t.val - 1) (Nat.lt_of_le_of_lt (Nat.sub_le _ _) t.isLt)).2.2 i + lTile qs ws xs ts gs t i := by
  idx_vars i
  obtain rfl : i0 = 0 := Subsingleton.elim _ _
  obtain rfl : i1 = 0 := Subsingleton.elim _ _
  rw [outsAt0_B m c t h]
  frame_out
  refine (pay1 _ (k0_pay6 (F := Ideal) _) _ (err_blk m c hm t)).trans (congrArg (· + _) ?_)
  pointwise [k0_pay6]

theorem y_final : (dats m 0 c).arrAt 5 cfg0.N = lift (Y qs ws) := by
  refine (dats m 0 c).arrAt_eq_of_covers 5 _ (by decide +kernel) fun t _ y => ?_
  rw [after0_5]
  idx_vars y
  blk_simp
  refine (out5 m c hm t y0 y1).trans (congrArg (lift (Y qs ws)) ?_)
  blk_ext [idx t, line]

theorem d_final : (dats m 0 c).arrAt 6 cfg0.N = lift (D qs ws xs ts gs) := by
  refine (dats m 0 c).arrAt_eq_of_covers 6 _ (by decide +kernel) fun t _ y => ?_
  rw [after0_6]
  idx_vars y
  blk_simp
  refine (out6 m c hm t y0 y1).trans (congrArg (lift (D qs ws xs ts gs)) ?_)
  blk_ext [idx t, line]

theorem l_final : (dats m 0 c).arrAt 7 cfg0.N = lift fun _ => L qs ws xs ts gs := by
  refine (dats m 0 c).arrAt_eq_of_covers 7 _ (by decide +kernel) fun t hf y => ?_
  rw [after0_7]
  idx_vars y
  blk_simp
  refine (Pipeline.eq_sum_fin_of_reset_step_apply_of_flush (f := fun n h => (outsAt0 m c n h).2.2) 4 (fun _ => 0) (lTile qs ws xs ts gs)
    (first7 m c hm) (next7 m c hm) t ((flush0_7 t).mp hf) (ix2 y0 y1)).trans ?_
  simp only [lTile, coe_sum, zero_add]
  have ht : t.val < 4 := t.isLt
  refine congrArg (fun z : ℝ => (z : EReal)) (Eq.trans (Finset.sum_congr rfl fun k _ => ?_) (sum_points qs ws xs ts gs))
  have e : ∀ r, line (4 * (t.val / 4) + k.val) r = line k.val r := fun r => Fin.ext (by simp only [line]; omega)
  simp only [e]

end Cert.Loss

end
-- ==== Proof.LossReference.lean ====
module

public import proofs.«01_k».proof.Proof.Gen.Reference14Ideal.Read
public import proofs.«01_k».proof.Proof.Loss

/-! The last feed-forward's down projection with its norm, residual, loss and the loss's gradient: what the reference
    computes, over real arguments. -/

@[expose] public section

set_option maxRecDepth 16384

noncomputable section

namespace Cert.Loss

open Idealize.ShloMosaic Idealize.ShloMosaic.TcCoe Idealize.SL.Sem
open Cert.Lift Cert.Norm
open Cert.Reference14Ideal Cert.Reference14Ideal.Gen Cert.Reference14Ideal.Read

variable (qs : S1x2048x2816.Idx → ℝ) (ws : S1x2816x1024.Idx → ℝ) (xs ts : S1x2048x1024.Idx → ℝ) (gs : S1x1024.Idx → ℝ)

theorem v0 (k : Fin 2816) (l : Fin 1024) : val_main_v0 (F := Ideal) (lift ws) (ix2 k l) = ((ws (ix3 0 k l) : ℝ) : EReal) := by
  rw [val_main_v0_apply]
  refine congrArg (lift ws) ?_
  funext a; apply Fin.ext
  match a with
  | ⟨0, _⟩ => simp
  | ⟨1, _⟩ => (simp; try omega)
  | ⟨2, _⟩ => (simp; try omega)

theorem v1 (z : Fin 1) (r : Fin 2048) (l : Fin 1024) : val_main_v1 (F := Ideal) (lift qs) (lift ws) (ix3 z r l) = ((prod qs ws r l : ℝ) : EReal) := by
  obtain rfl : z = 0 := Subsingleton.elim _ _
  pointwise [val_main_v1]
  simp only [v0]
  simp only [lift, ← EReal.coe_mul, coe_sum]
  rfl

theorem v10 (z : Fin 1) (r : Fin 2048) (l : Fin 1) : val_main_v10 (F := Ideal) (lift qs) (lift ws) (ix3 z r l) = ((rstd (prod qs ws r) : ℝ) : EReal) := by
  obtain rfl : z = 0 := Subsingleton.elim _ _
  pointwise [val_main_v10, val_main_v9, val_main_v8, val_main_v7, val_main_v6, val_main_v5, val_main_v4, val_main_v3, val_main_cst, val_main_cst_0, val_main_cst_1]
  simp only [v1, ofBits_1024, ofBits_eps, ← EReal.coe_mul, coe_sum, zero_add, div_real _ (by norm_num : (1024 : ℝ) ≠ 0), ← EReal.coe_add,
    rsqrt_real (mean_sq_pos (prod qs ws r))]
  rfl

theorem v17 (z : Fin 1) (r : Fin 2048) (l : Fin 1024) : val_main_v17 (F := Ideal) (lift qs) (lift ws) (lift xs) (lift gs) (lift ts) (ix3 z r l)
    = ((err qs ws xs ts gs r l : ℝ) : EReal) := by
  obtain rfl : z = 0 := Subsingleton.elim _ _
  pointwise [val_main_v17, val_main_v16, val_main_v15, val_main_v14, val_main_v13, val_main_v12, val_main_v11, val_main_v2]
  simp only [v1, v10]
  simp only [lift, ← EReal.coe_mul, ← EReal.coe_add, ← EReal.coe_sub]
  rfl

theorem v23 (z : Fin 1) (r : Fin 2048) : val_main_v23 (F := Ideal) (lift qs) (lift ws) (lift xs) (lift gs) (lift ts) (ix2 z r)
    = ((mse (err qs ws xs ts gs r) : ℝ) : EReal) := by
  pointwise [val_main_v23, val_main_v22, val_main_v21, val_main_v18, val_main_cst_3, val_main_cst_4]
  simp only [v17, ofBits_1024, ← EReal.coe_mul, coe_sum, zero_add, div_real _ (by norm_num : (1024 : ℝ) ≠ 0)]
  rfl

theorem y_ref : val_main_v26 (F := Ideal) (lift qs) (lift ws) = lift (Y qs ws) := by
  funext i
  idx_vars i
  rw [val_main_v26_apply]
  refine Eq.trans (congrArg (val_main_v1 (F := Ideal) (lift qs) (lift ws)) ?_) (v1 qs ws 0 i0 i1)
  funext a; apply Fin.ext
  match a with
  | ⟨0, _⟩ => simp
  | ⟨1, _⟩ => (simp; try omega)
  | ⟨2, _⟩ => (simp; try omega)

theorem v32 (z : Fin 1) (r : Fin 2048) (l : Fin 1024) : val_main_v32 (F := Ideal) (lift qs) (lift ws) (lift xs) (lift gs) (lift ts) (ix3 z r l)
    = ((err qs ws xs ts gs r l / 1024 : ℝ) : EReal) := by
  pointwise [val_main_v32, val_main_v31, val_main_v30, val_main_v29, val_main_v28, val_main_v27, val_main_v20, val_main_v19, val_main_cst_2,
    val_main_cst_7, val_main_cst_8, val_main_cst_9]
  simp only [v17, ofBits_1024, ofBits_half, ofBits_one, ofBits_two, ← EReal.coe_mul, div_real _ (by norm_num : (1024 : ℝ) ≠ 0)]
  exact congrArg _ (by ring)

theorem d_ref : val_main_v33 (F := Ideal) (lift qs) (lift ws) (lift xs) (lift gs) (lift ts) = lift (D qs ws xs ts gs) := by
  funext i
  idx_vars i
  rw [val_main_v33_apply]
  refine Eq.trans (congrArg (val_main_v32 (F := Ideal) (lift qs) (lift ws) (lift xs) (lift gs) (lift ts)) ?_) (v32 qs ws xs ts gs 0 i0 i1)
  funext a; apply Fin.ext
  match a with
  | ⟨0, _⟩ => simp
  | ⟨1, _⟩ => (simp; try omega)
  | ⟨2, _⟩ => (simp; try omega)

theorem v25 (j : S_.Idx) : val_main_v25 (F := Ideal) (lift qs) (lift ws) (lift xs) (lift gs) (lift ts) j = ((L qs ws xs ts gs : ℝ) : EReal) := by
  pointwise [val_main_v25, val_main_v24, val_main_cst_5, val_main_cst_6]
  simp only [v23, ofBits_half, ← EReal.coe_mul, coe_sum, zero_add]
  rw [Fin.sum_univ_one]
  rfl

theorem l_ref : val_main_v34 (F := Ideal) (lift qs) (lift ws) (lift xs) (lift gs) (lift ts) = lift fun _ => L qs ws xs ts gs := by
  funext i
  exact v25 qs ws xs ts gs _

end Cert.Loss

end
-- ==== Proof.LossClaim.lean ====
/- The statement about the gradient of the loss, its gradient and the layers before it: from finite arguments the kernel and the reference
   end holding the same arrays. -/
module

public import proofs.«01_k».proof.Defs
public import proofs.«01_k».proof.Proof.LossReference
public import proofs.«01_k».proof.Proof.Gen.Reference14Ideal.Run
public import proofs.«01_k».proof.Proof.Gen.Pre_finite14
public import Idealize.ShloMosaic.Lib.Claim

@[expose] public section

noncomputable section

namespace Cert.Loss

open Idealize.ShloMosaic Idealize.SL.Sem Cert.Lift

/-- Under the precondition each argument is an array of reals. -/
theorem args_real (m : (ℓ : Loc Cert.Kernel14Ideal.nD Cert.Kernel14Ideal.τ Cert.Kernel14Ideal.sig) → Buf (Elt Ideal) ℓ)
    (h : Cert.Pre_Kernel14Ideal_finite14 m) (c : Dev Cert.Kernel14Ideal.nD) : ∃ qs ws xs ts gs, Args m c qs ws xs ts gs := by
  obtain ⟨hq, hw, hx, hg, ht⟩ := h c
  obtain ⟨qs, hqs⟩ := exists_real _ _ hq
  obtain ⟨ws, hws⟩ := exists_real _ _ hw
  obtain ⟨xs, hxs⟩ := exists_real _ _ hx
  obtain ⟨gs, hgs⟩ := exists_real _ _ hg
  obtain ⟨ts, hts⟩ := exists_real _ _ ht
  exact ⟨qs, ws, xs, ts, gs, hqs, hws, hxs, hgs, hts⟩

theorem frame_reference : Cert.quiescent_Reference14Ideal := by
  intro m ρ _
  exact (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)

theorem algebraic : Cert.algebraic_Kernel14Ideal_Reference14Ideal_pre_finite14 := by
  intro m g m' g' hpre hagree
  choose qs ws xs ts gs hm using args_real m hpre
  refine ⟨fun c => lift (Y (qs c) (ws c)), fun c => lift (D (qs c) (ws c) (xs c) (ts c) (gs c)),
    fun c => lift fun _ => L (qs c) (ws c) (xs c) (ts c) (gs c), ?_, ?_⟩
  · refine (θ_run Cert.Kernel14Ideal.defs _ _).mono (fun r h c => ?_) (Cert.Kernel14Ideal.Value.run_blocks (F := Ideal) m g)
    obtain ⟨h0, h1, h2, h3⟩ := h c
    exact ⟨h0.trans (y_final m c (hm c)), h1.trans (d_final m c (hm c)), h2.trans (l_final m c (hm c)), h3⟩
  · refine (θ_run Cert.Reference14Ideal.defs _ _).mono (fun r h c => ?_) (Cert.Reference14Ideal.Value.run (F := Ideal) m' g')
    obtain ⟨h0, h1, h2, h3⟩ := h c
    obtain ⟨a0, a1, a2, a3, a4⟩ := hagree c
    refine ⟨h0.trans ?_, h1.trans ?_, h2.trans ?_, h3⟩
    · refine (Cert.Reference14Ideal.Read.val_main_v26_eq _ _).trans ?_
      rw [a0, a1, (hm c).a, (hm c).w]
      exact y_ref _ _
    · refine (Cert.Reference14Ideal.Read.val_main_v33_eq _ _ _ _ _).trans ?_
      rw [a0, a1, a2, a3, a4, (hm c).a, (hm c).w, (hm c).x, (hm c).g, (hm c).t]
      exact d_ref _ _ _ _ _
    · refine (Cert.Reference14Ideal.Read.val_main_v34_eq _ _ _ _ _).trans ?_
      rw [a0, a1, a2, a3, a4, (hm c).a, (hm c).w, (hm c).x, (hm c).g, (hm c).t]
      exact l_ref _ _ _ _ _

end Cert.Loss

end
-- ==== Proof.MixFwd.lean ====
module

public import proofs.«01_k».proof.Proof.Gen.Kernel15Ideal.Value
public import proofs.«01_k».proof.Proof.NormMath
public import proofs.«01_k».proof.Proof.Rope

/-! The mixer's output projection with its norm and residual: what the kernel leaves in its two result arrays, over real
    arguments. -/

@[expose] public section

set_option maxRecDepth 16384

noncomputable section

namespace Cert.MixFwd

open Idealize.ShloMosaic Idealize.ShloMosaic.TcCoe Idealize.SL.Sem
open Idealize.ShloMosaic.Pipeline (Dat)
open Cert.Lift Cert.Norm
open Cert.Rope (line)
open Cert.Kernel15Ideal Cert.Kernel15Ideal.Gen

/-- A row of the residual plus the normalised row times the gain. -/
def postRow (y x g : Fin 1024 → ℝ) (l : Fin 1024) : ℝ := x l + y l * rstd y * g l

section Rows
variable (a : Vec Ideal S512x1024 .bf16) (w : Vec Ideal S1024x1024 .bf16) (x : Vec Ideal S512x1024 .f32) (g : Vec Ideal S1x1024 .f32)

theorem pay1 (ra : Fin 1024 → ℝ) (rw : Fin 1024 → Fin 1024 → ℝ) (r : Fin 512) (l : Fin 1024) (ha : ∀ k, a (ix2 r k) = ((ra k : ℝ) : EReal))
    (hw : ∀ k l, w (ix2 k l) = ((rw k l : ℝ) : EReal)) : k0_pay1 (F := Ideal) a w (ix2 r l) = ((∑ k, ra k * rw k l : ℝ) : EReal) := by
  pointwise [k0_pay1]
  simp only [ha, hw, ← EReal.coe_mul, coe_sum, zero_add]

theorem pay2 (ry rx rg : Fin 1024 → ℝ) (r : Fin 512) (l : Fin 1024) (hy : ∀ k, k0_pay1 (F := Ideal) a w (ix2 r k) = ((ry k : ℝ) : EReal))
    (hx : ∀ k, x (ix2 r k) = ((rx k : ℝ) : EReal)) (hg : ∀ k, g (ix2 0 k) = ((rg k : ℝ) : EReal)) :
    k0_pay2 (F := Ideal) a w x g (ix2 r l) = ((postRow ry rx rg l : ℝ) : EReal) := by
  pointwise [k0_pay2]
  simp only [hy, hx, hg, ofBits_1024, ofBits_eps, ← EReal.coe_mul, coe_sum, zero_add, div_real _ (by norm_num : (1024 : ℝ) ≠ 0), ← EReal.coe_add,
    rsqrt_real (mean_sq_pos ry)]
  rfl
end Rows

section Arrays
variable (qs : S1x2048x1024.Idx → ℝ) (ws : S1x1024x1024.Idx → ℝ) (xs : S1x2048x1024.Idx → ℝ) (gs : S1x1024.Idx → ℝ)

/-- A row of the projection. -/
def prod (r : Fin 2048) (l : Fin 1024) : ℝ := ∑ k, qs (ix3 0 r k) * ws (ix3 0 k l)

def Y (i : S2048x1024.Idx) : ℝ := prod qs ws (i 0) (i 1)

/-- The residual stream after the mixer. -/
def X (i : S2048x1024.Idx) : ℝ := postRow (prod qs ws (i 0)) (fun k => xs (ix3 0 (i 0) k)) (fun k => gs (ix2 0 k)) (i 1)
end Arrays

variable (m : (ℓ : Loc nD τ sig) → Buf (Elt Ideal) ℓ) (c : Dev nD)

theorem idx : ∀ t : Fin cfg0.N, win0_0.index t = ![t.val % 4, 0] ∧ win0_1.index t = ![0, 0] ∧ win0_2.index t = ![t.val % 4, 0] ∧ win0_3.index t = ![0, 0]
    ∧ win0_4.index t = ![t.val % 4, 0] ∧ win0_5.index t = ![t.val % 4, 0] :=
  (by decide +kernel : ∀ t : Fin grid0.N, _)

variable (qs : S1x2048x1024.Idx → ℝ) (ws : S1x1024x1024.Idx → ℝ) (xs : S1x2048x1024.Idx → ℝ) (gs : S1x1024.Idx → ℝ)

/-- The arguments are real arrays. -/
structure Args : Prop where
  a : m ((c.tc : Thread nD τ).loc main_arg0) = lift qs
  w : m ((c.tc : Thread nD τ).loc main_arg1) = lift ws
  x : m ((c.tc : Thread nD τ).loc main_arg2) = lift xs
  g : m ((c.tc : Thread nD τ).loc main_arg3) = lift gs

variable {qs ws xs gs}
variable (hm : Args m c qs ws xs gs)
include hm

theorem blk0 (t : Fin cfg0.N) (r : Fin 512) (k : Fin 1024) : iblk m c 0 t (ix2 r k) = ((qs (ix3 0 (line t.val r) k) : ℝ) : EReal) := by
  have e : iblk m c 0 t (ix2 r k) = m ((c.tc : Thread nD τ).loc main_arg0) (ix3 0 (line t.val r) k) := by
    blk_point [iblk, V, idx t, line]
  rw [e, hm.a]; rfl

theorem blk1 (t : Fin cfg0.N) (k l : Fin 1024) : iblk m c 1 t (ix2 k l) = ((ws (ix3 0 k l) : ℝ) : EReal) := by
  have e : iblk m c 1 t (ix2 k l) = m ((c.tc : Thread nD τ).loc main_arg1) (ix3 0 k l) := by
    blk_point [iblk, V, idx t]
  rw [e, hm.w]; rfl

theorem blk2 (t : Fin cfg0.N) (r : Fin 512) (k : Fin 1024) : iblk m c 2 t (ix2 r k) = ((xs (ix3 0 (line t.val r) k) : ℝ) : EReal) := by
  have e : iblk m c 2 t (ix2 r k) = m ((c.tc : Thread nD τ).loc main_arg2) (ix3 0 (line t.val r) k) := by
    blk_point [iblk, V, idx t, line]
  rw [e, hm.x]; rfl

theorem blk3 (t : Fin cfg0.N) (k : Fin 1024) : iblk m c 3 t (ix2 0 k) = ((gs (ix2 0 k) : ℝ) : EReal) := by
  have e : iblk m c 3 t = m ((c.tc : Thread nD τ).loc main_arg3) := by
    blk_ext! [iblk, V, idx t]
  rw [e, hm.g]; rfl

/-- The block's rows of the projection. -/
theorem prod_blk (t : Fin cfg0.N) (r : Fin 512) (l : Fin 1024) :
    k0_pay1 (F := Ideal) (iblk m c 0 t) (iblk m c 1 t) (ix2 r l) = ((prod qs ws (line t.val r) l : ℝ) : EReal) :=
  pay1 _ _ _ (fun k l => ws (ix3 0 k l)) r l (blk0 m c hm t r) (blk1 m c hm t)

theorem out4 (t : Fin cfg0.N) (r : Fin 512) (l : Fin 1024) :
    out0_4 (iblk m c 0 t) (iblk m c 1 t) (iblk m c 2 t) (iblk m c 3 t) (ix2 r l) = ((Y qs ws (ix2 (line t.val r) l) : ℝ) : EReal) := by
  frame_out
  exact prod_blk m c hm t r l

theorem out5 (t : Fin cfg0.N) (r : Fin 512) (l : Fin 1024) :
    out0_5 (iblk m c 0 t) (iblk m c 1 t) (iblk m c 2 t) (iblk m c 3 t) (ix2 r l) = ((X qs ws xs gs (ix2 (line t.val r) l) : ℝ) : EReal) := by
  frame_out
  exact pay2 _ _ _ _ _ _ _ r l (prod_blk m c hm t r) (blk2 m c hm t r) (blk3 m c hm t)

theorem y_final : (dats m 0 c).arrAt 4 cfg0.N = lift (Y qs ws) := by
  refine (dats m 0 c).arrAt_eq_of_covers 4 _ (by decide +kernel) fun t _ y => ?_
  rw [after0_4]
  idx_vars y
  blk_simp
  refine (out4 m c hm t y0 y1).trans (congrArg (lift (Y qs ws)) ?_)
  blk_ext [idx t, line]

theorem x_final : (dats m 0 c).arrAt 5 cfg0.N = lift (X qs ws xs gs) := by
  refine (dats m 0 c).arrAt_eq_of_covers 5 _ (by decide +kernel) fun t _ y => ?_
  rw [after0_5]
  idx_vars y
  blk_simp
  refine (out5 m c hm t y0 y1).trans (congrArg (lift (X qs ws xs gs)) ?_)
  blk_ext [idx t, line]

end Cert.MixFwd

end
-- ==== Proof.MixFwdClaim.lean ====
/- The mixer's output projection with its norm and residual: what the reference computes over real arguments, and the
   statement that from finite arguments the kernel and the reference end holding the same arrays. -/
module

public import proofs.«01_k».proof.Defs
public import proofs.«01_k».proof.Proof.MixFwd
public import proofs.«01_k».proof.Proof.Gen.Reference15Ideal.Read
public import proofs.«01_k».proof.Proof.Gen.Reference15Ideal.Run
public import proofs.«01_k».proof.Proof.Gen.Pre_finite15
public import Idealize.ShloMosaic.Lib.Claim

@[expose] public section

set_option maxRecDepth 16384

noncomputable section

namespace Cert.MixFwd

open Idealize.ShloMosaic Idealize.ShloMosaic.TcCoe Idealize.SL.Sem
open Cert.Lift Cert.Norm

section Reference
open Cert.Reference15Ideal Cert.Reference15Ideal.Gen Cert.Reference15Ideal.Read

variable (qs : S1x2048x1024.Idx → ℝ) (ws : S1x1024x1024.Idx → ℝ) (xs : S1x2048x1024.Idx → ℝ) (gs : S1x1024.Idx → ℝ)

theorem v0 (k l : Fin 1024) : val_main_v0 (F := Ideal) (lift ws) (ix2 k l) = ((ws (ix3 0 k l) : ℝ) : EReal) := by
  pointwise [val_main_v0]
  rfl

theorem v1 (z : Fin 1) (r : Fin 2048) (l : Fin 1024) : val_main_v1 (F := Ideal) (lift qs) (lift ws) (ix3 z r l) = ((prod qs ws r l : ℝ) : EReal) := by
  obtain rfl : z = 0 := Subsingleton.elim _ _
  pointwise [val_main_v1]
  simp only [v0]
  simp only [lift, ← EReal.coe_mul, coe_sum]
  rfl

theorem v11 (z : Fin 1) (r : Fin 2048) (l : Fin 1) : val_main_v11 (F := Ideal) (lift qs) (lift ws) (ix3 z r l) = ((rstd (prod qs ws r) : ℝ) : EReal) := by
  obtain rfl : z = 0 := Subsingleton.elim _ _
  pointwise [val_main_v11, val_main_v10, val_main_v9, val_main_v8, val_main_v7, val_main_v6, val_main_v5, val_main_v4, val_main_cst, val_main_cst_0, val_main_cst_1]
  simp only [v1, ofBits_1024, ofBits_eps, ← EReal.coe_mul, coe_sum, zero_add, div_real _ (by norm_num : (1024 : ℝ) ≠ 0), ← EReal.coe_add,
    rsqrt_real (mean_sq_pos (prod qs ws r))]
  rfl

theorem y_ref : val_main_v2 (F := Ideal) (lift qs) (lift ws) = lift (Y qs ws) := by
  funext i
  idx_vars i
  pointwise [val_main_v2]
  exact v1 qs ws 0 i0 i1

theorem x_ref : val_main_v18 (F := Ideal) (lift qs) (lift ws) (lift xs) (lift gs) = lift (X qs ws xs gs) := by
  funext i
  idx_vars i
  pointwise [val_main_v18, val_main_v17, val_main_v16, val_main_v15, val_main_v14, val_main_v13, val_main_v12, val_main_v3]
  simp only [v1, v11]
  simp only [lift, ← EReal.coe_mul, ← EReal.coe_add]
  rfl
end Reference

/-- Under the precondition each argument is an array of reals. -/
theorem args_real (m : (ℓ : Loc Cert.Kernel15Ideal.nD Cert.Kernel15Ideal.τ Cert.Kernel15Ideal.sig) → Buf (Elt Ideal) ℓ)
    (h : Cert.Pre_Kernel15Ideal_finite15 m) (c : Dev Cert.Kernel15Ideal.nD) : ∃ qs ws xs gs, Args m c qs ws xs gs := by
  obtain ⟨hq, hw, hx, hg⟩ := h c
  obtain ⟨qs, hqs⟩ := exists_real _ _ hq
  obtain ⟨ws, hws⟩ := exists_real _ _ hw
  obtain ⟨xs, hxs⟩ := exists_real _ _ hx
  obtain ⟨gs, hgs⟩ := exists_real _ _ hg
  exact ⟨qs, ws, xs, gs, hqs, hws, hxs, hgs⟩

theorem frame_reference : Cert.quiescent_Reference15Ideal := by
  intro m ρ _
  exact (θ_run Cert.Reference15Ideal.defs _ _).mono (fun r h => ⟨fun c => (h c).2.2,
      Idealize.ShloMosaic.sem_eq_zero_of_no_sems (by decide) r.2⟩)
    (Cert.Reference15Ideal.Value.run (F := Ideal) m ρ)

theorem algebraic : Cert.algebraic_Kernel15Ideal_Reference15Ideal_pre_finite15 := by
  intro m g m' g' hpre hagree
  choose qs ws xs gs hm using args_real m hpre
  refine ⟨fun c => lift (Y (qs c) (ws c)), fun c => lift (X (qs c) (ws c) (xs c) (gs c)), ?_, ?_⟩
  · refine (θ_run Cert.Kernel15Ideal.defs _ _).mono (fun r h c => ?_) (Cert.Kernel15Ideal.Value.run_blocks (F := Ideal) m g)
    obtain ⟨h0, h1, h2⟩ := h c
    exact ⟨h0.trans (y_final m c (hm c)), h1.trans (x_final m c (hm c)), h2⟩
  · refine (θ_run Cert.Reference15Ideal.defs _ _).mono (fun r h c => ?_) (Cert.Reference15Ideal.Value.run (F := Ideal) m' g')
    obtain ⟨h0, h1, h2⟩ := h c
    obtain ⟨a0, a1, a2, a3⟩ := hagree c
    refine ⟨h0.trans ?_, h1.trans ?_, h2⟩
    · refine (Cert.Reference15Ideal.Read.val_main_v2_eq _ _).trans ?_
      rw [a0, a1, (hm c).a, (hm c).w]
      exact y_ref _ _
    · refine (Cert.Reference15Ideal.Read.val_main_v18_eq _ _ _ _).trans ?_
      rw [a0, a1, a2, a3, (hm c).a, (hm c).w, (hm c).x, (hm c).g]
      exact x_ref _ _ _ _

end Cert.MixFwd

end
-- ==== Proof.QueryProj.lean ====
module

public import proofs.«01_k».proof.Proof.Gen.Kernel16Ideal.Value
public import proofs.«01_k».proof.Proof.NormMath

/-! The cross-attention's norm and query projection: what the kernel leaves in its two result arrays, over real arguments. -/

@[expose] public section

set_option maxRecDepth 16384

noncomputable section

namespace Cert.QueryProj

open Idealize.ShloMosaic Idealize.ShloMosaic.TcCoe Idealize.SL.Sem
open Idealize.ShloMosaic.Pipeline (Dat)
open Cert.Lift Cert.Norm
open Cert.Kernel16Ideal Cert.Kernel16Ideal.Gen

/-- A row of the block, among all the rows. -/
def line (t : ℕ) (r : Fin 1024) : Fin 2048 := ⟨t % 2 * 1024 + r.val, by omega⟩

section Rows
variable (x : Vec Ideal S1024x1024 .f32) (g : Vec Ideal S1x1024 .f32) (w : Vec Ideal S1024x1024 .bf16)

theorem pay1 (rx rg : Fin 1024 → ℝ) (r : Fin 1024) (l : Fin 1024) (hx : ∀ k, x (ix2 r k) = ((rx k : ℝ) : EReal)) (hg : ∀ k, g (ix2 0 k) = ((rg k : ℝ) : EReal)) :
    k0_pay1 (F := Ideal) x g (ix2 r l) = ((rx l * rstd rx * rg l : ℝ) : EReal) := by
  pointwise [k0_pay1]
  simp only [hx, hg, ofBits_1024, ofBits_eps, ← EReal.coe_mul, coe_sum, zero_add, div_real _ (by norm_num : (1024 : ℝ) ≠ 0), ← EReal.coe_add,
    rsqrt_real (mean_sq_pos rx)]
  rfl

theorem pay3 (rh : Fin 1024 → ℝ) (rw : Fin 1024 → Fin 1024 → ℝ) (r : Fin 1024) (l : Fin 1024) (hh : ∀ k, k0_pay1 (F := Ideal) x g (ix2 r k) = ((rh k : ℝ) : EReal))
    (hw : ∀ k l, w (ix2 k l) = ((rw k l : ℝ) : EReal)) : k0_pay3 (F := Ideal) (k0_pay2 (F := Ideal) x g) w (ix2 r l) = ((∑ k, rh k * rw k l : ℝ) : EReal) := by
  pointwise [k0_pay3, k0_pay2]
  simp only [hh, hw, ← EReal.coe_mul, coe_sum, zero_add]
end Rows

section Arrays
variable (xs : S1x2048x1024.Idx → ℝ) (gs : S1x1024.Idx → ℝ) (ws : S1x1024x1024.Idx → ℝ)

/-- A row of the norm's argument, and the gain. -/
def rowX (r : Fin 2048) (k : Fin 1024) : ℝ := xs (ix3 0 r k)
def rowG (k : Fin 1024) : ℝ := gs (ix2 0 k)

/-- The normalised rows times the gain. -/
def H (i : S2048x1024.Idx) : ℝ := rowX xs (i 0) (i 1) * rstd (rowX xs (i 0)) * rowG gs (i 1)

/-- The queries. -/
def Q (i : S2048x1024.Idx) : ℝ := ∑ k, H xs gs (ix2 (i 0) k) * ws (ix3 0 k (i 1))
end Arrays

variable (m : (ℓ : Loc nD τ sig) → Buf (Elt Ideal) ℓ) (c : Dev nD)

theorem idx : ∀ t : Fin cfg0.N, win0_0.index t = ![t.val % 2, 0] ∧ win0_1.index t = ![0, 0] ∧ win0_2.index t = ![0, 0]
    ∧ win0_3.index t = ![t.val % 2, 0] ∧ win0_4.index t = ![t.val % 2, 0] :=
  (by decide +kernel : ∀ t : Fin grid0.N, _)

variable (xs : S1x2048x1024.Idx → ℝ) (gs : S1x1024.Idx → ℝ) (ws : S1x1024x1024.Idx → ℝ)

/-- The arguments are real arrays. -/
structure Args : Prop where
  x : m ((c.tc : Thread nD τ).loc main_arg0) = lift xs
  g : m ((c.tc : Thread nD τ).loc main_arg1) = lift gs
  w : m ((c.tc : Thread nD τ).loc main_arg2) = lift ws

variable {xs gs ws}
variable (hm : Args m c xs gs ws)
include hm

theorem blk0 (t : Fin cfg0.N) (r k : Fin 1024) : iblk m c 0 t (ix2 r k) = ((rowX xs (line t.val r) k : ℝ) : EReal) := by
  have e : iblk m c 0 t (ix2 r k) = m ((c.tc : Thread nD τ).loc main_arg0) (ix3 0 (line t.val r) k) := by
    blk_point [iblk, V, idx t, line]
  rw [e, hm.x]; rfl

theorem blk1 (t : Fin cfg0.N) (k : Fin 1024) : iblk m c 1 t (ix2 0 k) = ((rowG gs k : ℝ) : EReal) := by
  have e : iblk m c 1 t = m ((c.tc : Thread nD τ).loc main_arg1) := by
    blk_ext! [iblk, V, idx t]
  rw [e, hm.g]; rfl

theorem blk2 (t : Fin cfg0.N) (k l : Fin 1024) : iblk m c 2 t (ix2 k l) = ((ws (ix3 0 k l) : ℝ) : EReal) := by
  have e : iblk m c 2 t (ix2 k l) = m ((c.tc : Thread nD τ).loc main_arg2) (ix3 0 k l) := by
    blk_point [iblk, V, idx t]
  rw [e, hm.w]; rfl

/-- The block's normalised rows. -/
theorem h_blk (t : Fin cfg0.N) (r l : Fin 1024) : k0_pay1 (F := Ideal) (iblk m c 0 t) (iblk m c 1 t) (ix2 r l) = ((H xs gs (ix2 (line t.val r) l) : ℝ) : EReal) :=
  pay1 _ _ _ _ r l (blk0 m c hm t r) (blk1 m c hm t)

theorem out3 (t : Fin cfg0.N) (r l : Fin 1024) : (outsAt0 m c t).1 (ix2 r l) = ((Q xs gs ws (ix2 (line t.val r) l) : ℝ) : EReal) := by
  unfold outsAt0
  frame_out
  exact pay3 _ _ _ _ (fun k l => ws (ix3 0 k l)) r l (h_blk m c hm t r) (blk2 m c hm t)

theorem out4 (t : Fin cfg0.N) (r l : Fin 1024) : (outsAt0 m c t).2 (ix2 r l) = ((H xs gs (ix2 (line t.val r) l) : ℝ) : EReal) := by
  unfold outsAt0
  frame_out
  exact h_blk m c hm t r l

theorem q_final : (dats m 0 c).arrAt 3 cfg0.N = lift (Q xs gs ws) := by
  refine (dats m 0 c).arrAt_eq_of_covers 3 _ (by decide +kernel) fun t _ y => ?_
  rw [after0_3]
  idx_vars y
  blk_simp
  refine (out3 m c hm t y0 y1).trans (congrArg (lift (Q xs gs ws)) ?_)
  blk_ext [idx t, line]

theorem h_final : (dats m 0 c).arrAt 4 cfg0.N = lift (H xs gs) := by
  refine (dats m 0 c).arrAt_eq_of_covers 4 _ (by decide +kernel) fun t _ y => ?_
  rw [after0_4]
  idx_vars y
  blk_simp
  refine (out4 m c hm t y0 y1).trans (congrArg (lift (H xs gs)) ?_)
  blk_ext [idx t, line]

end Cert.QueryProj

end
-- ==== Proof.QueryProjClaim.lean ====
/- The cross-attention's norm and query projection: what the reference computes over real arguments, and the statement
   that from finite arguments the kernel and the reference end holding the same arrays. -/
module

public import proofs.«01_k».proof.Defs
public import proofs.«01_k».proof.Proof.QueryProj
public import proofs.«01_k».proof.Proof.Gen.Reference16Ideal.Read
public import proofs.«01_k».proof.Proof.Gen.Reference16Ideal.Run
public import proofs.«01_k».proof.Proof.Gen.Pre_finite16
public import Idealize.ShloMosaic.Lib.Claim

@[expose] public section

set_option maxRecDepth 16384

noncomputable section

namespace Cert.QueryProj

open Idealize.ShloMosaic Idealize.ShloMosaic.TcCoe Idealize.SL.Sem
open Cert.Lift Cert.Norm

section Reference
open Cert.Reference16Ideal Cert.Reference16Ideal.Gen Cert.Reference16Ideal.Read

variable (xs : S1x2048x1024.Idx → ℝ) (gs : S1x1024.Idx → ℝ) (ws : S1x1024x1024.Idx → ℝ)

theorem v14 (k l : Fin 1024) : val_main_v14 (F := Ideal) (lift ws) (ix2 k l) = ((ws (ix3 0 k l) : ℝ) : EReal) := by
  pointwise [val_main_v14]
  rfl

theorem v8 (z : Fin 1) (r : Fin 2048) (l : Fin 1) : val_main_v8 (F := Ideal) (lift xs) (ix3 z r l) = ((rstd (rowX xs r) : ℝ) : EReal) := by
  obtain rfl : z = 0 := Subsingleton.elim _ _
  pointwise [val_main_v8, val_main_v7, val_main_v6, val_main_v5, val_main_v4, val_main_v3, val_main_v2, val_main_v1, val_main_cst, val_main_cst_0, val_main_cst_1]
  simp only [lift, ofBits_1024, ofBits_eps, ← EReal.coe_mul, coe_sum, zero_add, div_real _ (by norm_num : (1024 : ℝ) ≠ 0), ← EReal.coe_add]
  exact rsqrt_real (mean_sq_pos (rowX xs r))

theorem v13 (z : Fin 1) (r : Fin 2048) (l : Fin 1024) : val_main_v13 (F := Ideal) (lift xs) (lift gs) (ix3 z r l) = ((H xs gs (ix2 r l) : ℝ) : EReal) := by
  obtain rfl : z = 0 := Subsingleton.elim _ _
  pointwise [val_main_v13, val_main_v12, val_main_v11, val_main_v10, val_main_v9, val_main_v0]
  simp only [v8]
  simp only [lift, ← EReal.coe_mul]
  rfl

theorem q_ref : val_main_v17 (F := Ideal) (lift xs) (lift gs) (lift ws) = lift (Q xs gs ws) := by
  funext i
  idx_vars i
  pointwise [val_main_v17, val_main_v16, val_main_v15]
  simp only [v13, v14, ← EReal.coe_mul, coe_sum]
  rfl

theorem h_ref : val_main_v19 (F := Ideal) (lift xs) (lift gs) = lift (H xs gs) := by
  funext i
  idx_vars i
  pointwise [val_main_v19, val_main_v18]
  exact v13 xs gs 0 i0 i1
end Reference

/-- Under the precondition each argument is an array of reals. -/
theorem args_real (m : (ℓ : Loc Cert.Kernel16Ideal.nD Cert.Kernel16Ideal.τ Cert.Kernel16Ideal.sig) → Buf (Elt Ideal) ℓ)
    (h : Cert.Pre_Kernel16Ideal_finite16 m) (c : Dev Cert.Kernel16Ideal.nD) : ∃ xs gs ws, Args m c xs gs ws := by
  obtain ⟨hx, hg, hw⟩ := h c
  obtain ⟨xs, hxs⟩ := exists_real _ _ hx
  obtain ⟨gs, hgs⟩ := exists_real _ _ hg
  obtain ⟨ws, hws⟩ := exists_real _ _ hw
  exact ⟨xs, gs, ws, hxs, hgs, hws⟩

theorem frame_reference : Cert.quiescent_Reference16Ideal := by
  intro m ρ _
  exact (θ_run Cert.Reference16Ideal.defs _ _).mono (fun r h => ⟨fun c => (h c).2.2,
      Idealize.ShloMosaic.sem_eq_zero_of_no_sems (by decide) r.2⟩)
    (Cert.Reference16Ideal.Value.run (F := Ideal) m ρ)

theorem algebraic : Cert.algebraic_Kernel16Ideal_Reference16Ideal_pre_finite16 := by
  intro m g m' g' hpre hagree
  choose xs gs ws hm using args_real m hpre
  refine ⟨fun c => lift (Q (xs c) (gs c) (ws c)), fun c => lift (H (xs c) (gs c)), ?_, ?_⟩
  · refine (θ_run Cert.Kernel16Ideal.defs _ _).mono (fun r h c => ?_) (Cert.Kernel16Ideal.Value.run_blocks (F := Ideal) m g)
    obtain ⟨h0, h1, h2⟩ := h c
    exact ⟨h0.trans (q_final m c (hm c)), h1.trans (h_final m c (hm c)), h2⟩
  · refine (θ_run Cert.Reference16Ideal.defs _ _).mono (fun r h c => ?_) (Cert.Reference16Ideal.Value.run (F := Ideal) m' g')
    obtain ⟨h0, h1, h2⟩ := h c
    obtain ⟨a0, a1, a2⟩ := hagree c
    refine ⟨h0.trans ?_, h1.trans ?_, h2⟩
    · refine (Cert.Reference16Ideal.Read.val_main_v17_eq _ _ _).trans ?_
      rw [a0, a1, a2, (hm c).x, (hm c).g, (hm c).w]
      exact q_ref _ _ _
    · refine (Cert.Reference16Ideal.Read.val_main_v19_eq _ _).trans ?_
      rw [a0, a1, (hm c).x, (hm c).g]
      exact h_ref _ _

end Cert.QueryProj

end
-- ==== Proof.InNorm.lean ====
module

public import proofs.«01_k».proof.Proof.Gen.Kernel17Ideal.Value
public import proofs.«01_k».proof.Proof.NormMath
public import proofs.«01_k».proof.Proof.Rope
public import Idealize.ShloMosaic.Lib.Pipeline.ValueKit.Acc

/-! The gradient of the mixer's RMSNorm, through the first projection: what the kernel leaves in its two result arrays,
    over real arguments. -/

@[expose] public section

set_option maxRecDepth 16384

noncomputable section

namespace Cert.InNorm

open Idealize.ShloMosaic Idealize.ShloMosaic.TcCoe Idealize.SL.Sem
open Idealize.ShloMosaic.Pipeline (Dat)
open Cert.Lift Cert.Norm
open Cert.Rope (line sum_lines)
open Cert.Kernel17Ideal Cert.Kernel17Ideal.Gen

section Rows
variable (p : Vec Ideal S512x3328 .bf16) (w : Vec Ideal S1x3328x1024 .bf16) (x res : Vec Ideal S512x1024 .f32) (g acc : Vec Ideal S1x1024 .f32)

/-- The block's cotangent of the norm. -/
theorem pay3 (rp : Fin 3328 → ℝ) (rw : Fin 3328 → Fin 1024 → ℝ) (r : Fin 512) (l : Fin 1024) (hp : ∀ j, p (ix2 r j) = ((rp j : ℝ) : EReal))
    (hw : ∀ j l, w (ix3 0 j l) = ((rw j l : ℝ) : EReal)) : k0_pay3 (F := Ideal) p w (ix2 r l) = ((∑ j, rp j * rw j l : ℝ) : EReal) := by
  pointwise [k0_pay3]
  simp only [hp, hw, ← EReal.coe_mul, coe_sum, zero_add]

/-- A row of the norm's gradient, with the residual's cotangent. -/
theorem pay8 (rv rx rg rr : Fin 1024 → ℝ) (r : Fin 512) (l : Fin 1024) (hv : ∀ k, k0_pay3 (F := Ideal) p w (ix2 r k) = ((rv k : ℝ) : EReal))
    (hx : ∀ k, x (ix2 r k) = ((rx k : ℝ) : EReal)) (hg : ∀ k, g (ix2 0 k) = ((rg k : ℝ) : EReal)) (hr : ∀ k, res (ix2 r k) = ((rr k : ℝ) : EReal)) :
    k0_pay8 (F := Ideal) p w x g res (ix2 r l) = ((dxRow rx rg rv l + rr l : ℝ) : EReal) := by
  pointwise [k0_pay8, k0_pay6, k0_pay5, k0_pay4]
  simp only [hv, hx, hg, hr, ofBits_1024, ofBits_eps, ← EReal.coe_mul, coe_sum, div_real _ (by norm_num : (1024 : ℝ) ≠ 0), ← EReal.coe_add, ← EReal.coe_sub,
    rsqrt_real (mean_sq_pos rx)]
  rfl

/-- The block's share of the gradient of the gain, added to what is there. -/
theorem pay2 (rv rx : Fin 512 → Fin 1024 → ℝ) (l : Fin 1024) (hv : ∀ r k, k0_pay3 (F := Ideal) p w (ix2 r k) = ((rv r k : ℝ) : EReal))
    (hx : ∀ r k, x (ix2 r k) = ((rx r k : ℝ) : EReal)) :
    k0_pay2 (F := Ideal) (k0_pay7 (F := Ideal) p w x) acc (ix2 0 l) = acc (ix2 0 l) + ((dg rx rv l : ℝ) : EReal) := by
  have e : ∀ r, _ := fun r => rsqrt_real (mean_sq_pos (rx r))
  pointwise [k0_pay2, k0_pay7, k0_pay6, k0_pay5, k0_pay4]
  simp only [hv, hx, ofBits_1024, ofBits_eps, ← EReal.coe_mul, coe_sum, div_real _ (by norm_num : (1024 : ℝ) ≠ 0), ← EReal.coe_add, e]
  rfl
end Rows

section Arrays
variable (x3 r3 : S1x2048x1024.Idx → ℝ) (gs : S1x1024.Idx → ℝ) (w3 : S1x1024x3328.Idx → ℝ) (d3 : S1x2048x3328.Idx → ℝ)

/-- A row of the norm's argument, and the gain. -/
def rowX (r : Fin 2048) (k : Fin 1024) : ℝ := x3 (ix3 0 r k)
def rowG (k : Fin 1024) : ℝ := gs (ix2 0 k)

/-- The cotangent of the norm: the cotangent of the projection times the transposed weight. -/
def dh (r : Fin 2048) (l : Fin 1024) : ℝ := ∑ j, d3 (ix3 0 r j) * w3 (ix3 0 l j)

/-- The gradient of the norm's argument, with the residual's cotangent added. -/
def dX (i : S2048x1024.Idx) : ℝ := dxRow (rowX x3 (i 0)) (rowG gs) (dh w3 d3 (i 0)) (i 1) + r3 (ix3 0 (i 0) (i 1))

/-- The gradient of the gain. -/
def dG (i : S1x1024.Idx) : ℝ := dg (rowX x3) (dh w3 d3) (i 1)

/-- One block's share of the gradient of the gain. -/
def dgTile (t : Fin cfg0.N) (i : S1x1024.Idx) : EReal := ((dg (fun r => rowX x3 (line t.val r)) (fun r => dh w3 d3 (line t.val r)) (i 1) : ℝ) : EReal)

theorem sum_points (l : Fin 1024) : ∑ k : Fin 4, dg (fun r => rowX x3 (line k.val r)) (fun r => dh w3 d3 (line k.val r)) l = dG x3 w3 d3 (ix2 0 l) :=
  sum_lines fun r => dh w3 d3 r l * (rowX x3 r l * rstd (rowX x3 r))
end Arrays

variable (m : (ℓ : Loc nD τ sig) → Buf (Elt Ideal) ℓ) (c : Dev nD)

theorem idx : ∀ t : Fin cfg0.N, win0_0.index t = ![t.val % 4, 0] ∧ win0_1.index t = ![0, 0, 0] ∧ win0_2.index t = ![t.val % 4, 0] ∧ win0_3.index t = ![0, 0]
    ∧ win0_4.index t = ![t.val % 4, 0] ∧ win0_5.index t = ![t.val % 4, 0] ∧ win0_6.index t = ![0, 0] :=
  (by decide +kernel : ∀ t : Fin grid0.N, _)

variable (x3 r3 : S1x2048x1024.Idx → ℝ) (gs : S1x1024.Idx → ℝ) (w3 : S1x1024x3328.Idx → ℝ) (d3 : S1x2048x3328.Idx → ℝ)

/-- The arguments are real arrays. -/
structure Args : Prop where
  x : m ((c.tc : Thread nD τ).loc main_arg0) = lift x3
  g : m ((c.tc : Thread nD τ).loc main_arg1) = lift gs
  w : m ((c.tc : Thread nD τ).loc main_arg2) = lift w3
  d : m ((c.tc : Thread nD τ).loc main_arg3) = lift d3
  r : m ((c.tc : Thread nD τ).loc main_arg4) = lift r3

variable {x3 r3 gs w3 d3}
variable (hm : Args m c x3 r3 gs w3 d3)
include hm

theorem blk0 (t : Fin cfg0.N) (r : Fin 512) (j : Fin 3328) : iblk m c 0 t (ix2 r j) = ((d3 (ix3 0 (line t.val r) j) : ℝ) : EReal) := by
  have e : iblk m c 0 t (ix2 r j) = m ((c.tc : Thread nD τ).loc main_arg3) (ix3 0 (line t.val r) j) := by
    blk_point [iblk, V, idx t, line]
  rw [e, hm.d]; rfl

theorem blk1 (t : Fin cfg0.N) (j : Fin 3328) (l : Fin 1024) : iblk m c 1 t (ix3 0 j l) = ((w3 (ix3 0 l j) : ℝ) : EReal) := by
  have e : iblk m c 1 t (ix3 0 j l) = m ((c.tc : Thread nD τ).loc main_arg2) (ix3 0 l j) := by
    blk_point [iblk, V, idx t]
  rw [e, hm.w]; rfl

theorem blk2 (t : Fin cfg0.N) (r : Fin 512) (k : Fin 1024) : iblk m c 2 t (ix2 r k) = ((rowX x3 (line t.val r) k : ℝ) : EReal) := by
  have e : iblk m c 2 t (ix2 r k) = m ((c.tc : Thread nD τ).loc main_arg0) (ix3 0 (line t.val r) k) := by
    blk_point [iblk, V, idx t, line]
  rw [e, hm.x]; rfl

theorem blk3 (t : Fin cfg0.N) (k : Fin 1024) : iblk m c 3 t (ix2 0 k) = ((rowG gs k : ℝ) : EReal) := by
  have e : iblk m c 3 t = m ((c.tc : Thread nD τ).loc main_arg1) := by
    blk_ext! [iblk, V, idx t]
  rw [e, hm.g]; rfl

theorem blk4 (t : Fin cfg0.N) (r : Fin 512) (k : Fin 1024) : iblk m c 4 t (ix2 r k) = ((r3 (ix3 0 (line t.val r) k) : ℝ) : EReal) := by
  have e : iblk m c 4 t (ix2 r k) = m ((c.tc : Thread nD τ).loc main_arg4) (ix3 0 (line t.val r) k) := by
    blk_point [iblk, V, idx t, line]
  rw [e, hm.r]; rfl

/-- The block's cotangent of the norm. -/
theorem dh_blk (t : Fin cfg0.N) (r : Fin 512) (l : Fin 1024) :
    k0_pay3 (F := Ideal) (iblk m c 0 t) (iblk m c 1 t) (ix2 r l) = ((dh w3 d3 (line t.val r) l : ℝ) : EReal) :=
  pay3 _ _ _ (fun j l => w3 (ix3 0 l j)) r l (blk0 m c hm t r) (blk1 m c hm t)

theorem dx_blk (t : Fin cfg0.N) (r : Fin 512) (l : Fin 1024) :
    k0_pay8 (F := Ideal) (iblk m c 0 t) (iblk m c 1 t) (iblk m c 2 t) (iblk m c 3 t) (iblk m c 4 t) (ix2 r l)
      = ((dX x3 r3 gs w3 d3 (ix2 (line t.val r) l) : ℝ) : EReal) :=
  pay8 _ _ _ _ _ _ _ _ _ r l (dh_blk m c hm t r) (blk2 m c hm t r) (blk3 m c hm t) (blk4 m c hm t r)

theorem out5 (t : Fin cfg0.N) (r : Fin 512) (l : Fin 1024) :
    (outsAt0 m c t.val t.isLt).1 (ix2 r l) = ((dX x3 r3 gs w3 d3 (ix2 (line t.val r) l) : ℝ) : EReal) := by
  by_cases h : t.val % 4 = 0
  · rw [outsAt0_A m c t h]
    frame_out
    exact dx_blk m c hm t r l
  · rw [outsAt0_B m c t h]
    frame_out
    exact dx_blk m c hm t r l

theorem first6 (t : Fin cfg0.N) (h : t.val % 4 = 0) (i : S1x1024.Idx) : (outsAt0 m c t.val t.isLt).2 i = 0 + dgTile x3 w3 d3 t i := by
  idx_vars i
  obtain rfl : i0 = 0 := Subsingleton.elim _ _
  rw [outsAt0_A m c t h]
  frame_out
  refine (pay2 _ _ _ (k0_pay1 (F := Ideal)) _ _ i1 (dh_blk m c hm t) (blk2 m c hm t)).trans (congrArg (· + _) ?_)
  pointwise [k0_pay1]

theorem next6 (t : Fin cfg0.N) (h : ¬ t.val % 4 = 0) (i : S1x1024.Idx) : (outsAt0 m c t.val t.isLt).2 i
    = (outsAt0 m c (t.val - 1) (Nat.lt_of_le_of_lt (Nat.sub_le _ _) t.isLt)).2 i + dgTile x3 w3 d3 t i := by
  idx_vars i
  obtain rfl : i0 = 0 := Subsingleton.elim _ _
  rw [outsAt0_B m c t h]
  frame_out
  exact pay2 _ _ _ _ _ _ i1 (dh_blk m c hm t) (blk2 m c hm t)

theorem x_final : (dats m 0 c).arrAt 5 cfg0.N = lift (dX x3 r3 gs w3 d3) := by
  refine (dats m 0 c).arrAt_eq_of_covers 5 _ (by decide +kernel) fun t _ y => ?_
  rw [after0_5]
  idx_vars y
  blk_simp
  refine (out5 m c hm t y0 y1).trans (congrArg (lift (dX x3 r3 gs w3 d3)) ?_)
  blk_ext [idx t, line]

theorem g_final : (dats m 0 c).arrAt 6 cfg0.N = lift (dG x3 w3 d3) := by
  refine (dats m 0 c).arrAt_eq_of_covers 6 _ (by decide +kernel) fun t hf y => ?_
  rw [after0_6]
  idx_vars y
  obtain rfl : y0 = 0 := Subsingleton.elim _ _
  blk_simp
  refine (Pipeline.eq_sum_fin_of_reset_step_apply_of_flush (f := fun n h => (outsAt0 m c n h).2) 4 (fun _ => 0) (dgTile x3 w3 d3)
    (first6 m c hm) (next6 m c hm) t ((flush0_6 t).mp hf) (ix2 0 y1)).trans ?_
  simp only [dgTile, coe_sum, zero_add]
  have ht : t.val < 4 := t.isLt
  refine (congrArg (fun z : ℝ => (z : EReal)) (Eq.trans (Finset.sum_congr rfl fun k _ => ?_) (sum_points x3 w3 d3 y1))).trans ?_
  · have e : ∀ r, line (4 * (t.val / 4) + k.val) r = line k.val r := fun r => Fin.ext (by simp only [line]; omega)
    simp only [e]
    rfl
  · refine congrArg (lift (dG x3 w3 d3)) (a₁ := ix2 0 y1) ?_
    blk_ext [idx t]

end Cert.InNorm

end
-- ==== Proof.InNormReference.lean ====
module

public import proofs.«01_k».proof.Proof.Gen.Reference17Ideal.Read
public import proofs.«01_k».proof.Proof.InNorm

/-! The gradient of the mixer's RMSNorm, through the first projection: what the reference computes, over real arguments. -/

@[expose] public section

set_option maxRecDepth 16384

noncomputable section

namespace Cert.InNorm

open Idealize.ShloMosaic Idealize.ShloMosaic.TcCoe Idealize.SL.Sem
open Cert.Lift Cert.Norm
open Cert.Reference17Ideal Cert.Reference17Ideal.Gen Cert.Reference17Ideal.Read

variable (x3 r3 : S1x2048x1024.Idx → ℝ) (gs : S1x1024.Idx → ℝ) (w3 : S1x1024x3328.Idx → ℝ) (d3 : S1x2048x3328.Idx → ℝ)

theorem v7 (z : Fin 1) (r : Fin 2048) (l : Fin 1) : val_main_v7 (F := Ideal) (lift x3) (ix3 z r l) = ((ms (rowX x3 r) : ℝ) : EReal) := by
  obtain rfl : z = 0 := Subsingleton.elim _ _
  pointwise [val_main_v7, val_main_v6, val_main_v5, val_main_v4, val_main_v3, val_main_v2, val_main_v1, val_main_cst, val_main_cst_0, val_main_cst_1]
  simp only [lift, ofBits_1024, ofBits_eps, ← EReal.coe_mul, coe_sum, zero_add, div_real _ (by norm_num : (1024 : ℝ) ≠ 0), ← EReal.coe_add]
  rfl

theorem v8 (z : Fin 1) (r : Fin 2048) (l : Fin 1) : val_main_v8 (F := Ideal) (lift x3) (ix3 z r l) = ((rstd (rowX x3 r) : ℝ) : EReal) := by
  pointwise [val_main_v8]
  rw [v7]; exact rsqrt_real (mean_sq_pos _)

theorem v19 (r : Fin 2048) (l : Fin 1024) : val_main_v19 (F := Ideal) (lift w3) (lift d3) (ix3 0 r l) = ((dh w3 d3 r l : ℝ) : EReal) := by
  pointwise [val_main_v19, val_main_v17]
  simp only [lift, ← EReal.coe_mul, coe_sum]
  rfl

theorem v21 (z : Fin 1) (l : Fin 1024) : val_main_v21 (F := Ideal) (lift x3) (lift w3) (lift d3) (ix2 z l)
    = ((dg (rowX x3) (dh w3 d3) l : ℝ) : EReal) := by
  obtain rfl : z = 0 := Subsingleton.elim _ _
  pointwise [val_main_v21, val_main_v20, val_main_v13, val_main_v12, val_main_cst_3]
  simp only [lift, v8, v19, ← EReal.coe_mul, coe_sum, zero_add]
  exact congrArg _ (Finset.sum_congr rfl fun k _ => mul_comm _ _)

theorem v42 (z : Fin 1) (l : Fin 1024) : val_main_v42 (F := Ideal) (lift x3) (lift w3) (lift d3) (ix2 z l)
    = ((dg (rowX x3) (dh w3 d3) l : ℝ) : EReal) := by
  pointwise [val_main_v42, val_main_v25, val_main_v22, val_main_cst_4]
  rw [hostReduceAdd_r3_a01]
  pointwise []
  simp [v21]

theorem v34 (z : Fin 1) (r : Fin 2048) (l : Fin 1) : val_main_v34 (F := Ideal) (lift x3) (lift gs) (lift w3) (lift d3) (ix3 z r l)
    = ((slope (rowX x3 r) (rowG gs) (dh w3 d3 r) : ℝ) : EReal) := by
  obtain rfl : z = 0 := Subsingleton.elim _ _
  pointwise [val_main_v34, val_main_v33, val_main_v32, val_main_v28, val_main_v27, val_main_v26, val_main_v24, val_main_v23,
    val_main_v14, val_main_v0, val_main_v11, val_main_v10, val_main_v9, val_main_cst_2, val_main_cst_5, val_main_cst_6]
  have hm : ms (rowX x3 r) ≠ 0 := (mean_sq_pos _).ne'
  simp only [lift, v7, v8, v19, ofBits_1024, ofBits_neg_half, ← EReal.coe_mul, coe_sum, zero_add, div_real _ hm,
    div_real _ (by norm_num : (1024 : ℝ) ≠ 0)]
  rfl

theorem v37 (r : Fin 2048) (l : Fin 1024) : val_main_v37 (F := Ideal) (lift x3) (lift gs) (lift w3) (lift d3) (ix3 0 r l)
    = ((slope (rowX x3 r) (rowG gs) (dh w3 d3 r) : ℝ) : EReal) := by
  pointwise [val_main_v37, val_main_v36, val_main_v35, val_main_cst_7]
  rw [hostReduceAdd_r3_a02]
  simp [v34]

theorem v43 (r : Fin 2048) (l : Fin 1024) : val_main_v43 (F := Ideal) (lift x3) (lift gs) (lift w3) (lift d3) (lift r3) (ix2 r l)
    = ((dX x3 r3 gs w3 d3 (ix2 r l) : ℝ) : EReal) := by
  pointwise [val_main_v43, val_main_v41, val_main_v40, val_main_v39, val_main_v38, val_main_v31, val_main_v30, val_main_v29, val_main_v24, val_main_v23,
    val_main_v14, val_main_v0]
  simp only [lift, v8, v19, v37, ← EReal.coe_mul, ← EReal.coe_add]
  refine congrArg (fun z : ℝ => (z : EReal)) (Eq.trans ?_ (congrArg (· + r3 (ix3 0 r l)) (dxRow_eq (rowX x3 r) (rowG gs) (dh w3 d3 r) l)))
  simp only [rowX, rowG]
  ring

theorem x_ref : val_main_v43 (F := Ideal) (lift x3) (lift gs) (lift w3) (lift d3) (lift r3) = lift (dX x3 r3 gs w3 d3) := by
  funext i
  idx_vars i
  exact v43 x3 r3 gs w3 d3 i0 i1

theorem g_ref : val_main_v42 (F := Ideal) (lift x3) (lift w3) (lift d3) = lift (dG x3 w3 d3) := by
  funext i
  idx_vars i
  exact v42 x3 w3 d3 i0 i1

end Cert.InNorm

end
-- ==== Proof.InNormClaim.lean ====
/- The statement about the gradient of the mixer's RMSNorm, through the first projection: from finite arguments the kernel and the reference
   end holding the same arrays. -/
module

public import proofs.«01_k».proof.Defs
public import proofs.«01_k».proof.Proof.InNormReference
public import proofs.«01_k».proof.Proof.Gen.Reference17Ideal.Run
public import proofs.«01_k».proof.Proof.Gen.Pre_finite17
public import Idealize.ShloMosaic.Lib.Claim

@[expose] public section

noncomputable section

namespace Cert.InNorm

open Idealize.ShloMosaic Idealize.SL.Sem Cert.Lift

/-- Under the precondition each argument is an array of reals. -/
theorem args_real (m : (ℓ : Loc Cert.Kernel17Ideal.nD Cert.Kernel17Ideal.τ Cert.Kernel17Ideal.sig) → Buf (Elt Ideal) ℓ)
    (h : Cert.Pre_Kernel17Ideal_finite17 m) (c : Dev Cert.Kernel17Ideal.nD) : ∃ xs gs ws ds rs, Args m c xs rs gs ws ds := by
  obtain ⟨hx, hg, hw, hd, hr⟩ := h c
  obtain ⟨xs, hxs⟩ := exists_real _ _ hx
  obtain ⟨gs, hgs⟩ := exists_real _ _ hg
  obtain ⟨ws, hws⟩ := exists_real _ _ hw
  obtain ⟨ds, hds⟩ := exists_real _ _ hd
  obtain ⟨rs, hrs⟩ := exists_real _ _ hr
  exact ⟨xs, gs, ws, ds, rs, hxs, hgs, hws, hds, hrs⟩

theorem frame_reference : Cert.quiescent_Reference17Ideal := by
  intro m ρ _
  exact (θ_run Cert.Reference17Ideal.defs _ _).mono (fun r h => ⟨fun c => (h c).2.2,
      Idealize.ShloMosaic.sem_eq_zero_of_no_sems (by decide) r.2⟩)
    (Cert.Reference17Ideal.Value.run (F := Ideal) m ρ)

theorem algebraic : Cert.algebraic_Kernel17Ideal_Reference17Ideal_pre_finite17 := by
  intro m g m' g' hpre hagree
  choose xs gs ws ds rs hm using args_real m hpre
  refine ⟨fun c => lift (dX (xs c) (rs c) (gs c) (ws c) (ds c)), fun c => lift (dG (xs c) (ws c) (ds c)), ?_, ?_⟩
  · refine (θ_run Cert.Kernel17Ideal.defs _ _).mono (fun r h c => ?_) (Cert.Kernel17Ideal.Value.run_blocks (F := Ideal) m g)
    obtain ⟨h0, h1, h2⟩ := h c
    exact ⟨h0.trans (x_final m c (hm c)), h1.trans (g_final m c (hm c)), h2⟩
  · refine (θ_run Cert.Reference17Ideal.defs _ _).mono (fun r h c => ?_) (Cert.Reference17Ideal.Value.run (F := Ideal) m' g')
    obtain ⟨h0, h1, h2⟩ := h c
    obtain ⟨a0, a1, a2, a3, a4⟩ := hagree c
    refine ⟨h0.trans ?_, h1.trans ?_, h2⟩
    · refine (Cert.Reference17Ideal.Read.val_main_v43_eq m' c).trans ?_
      rw [a0, a1, a2, a3, a4, (hm c).x, (hm c).g, (hm c).w, (hm c).d, (hm c).r]
      exact x_ref _ _ _ _ _
    · refine (Cert.Reference17Ideal.Read.val_main_v42_eq _ _ _).trans ?_
      rw [a0, a2, a3, (hm c).x, (hm c).w, (hm c).d]
      exact g_ref _ _ _

end Cert.InNorm

end
-- ==== Proof.InWeight.lean ====
module

public import proofs.«01_k».proof.Defs
public import proofs.«01_k».proof.Proof.Lift
public import proofs.«01_k».proof.Proof.Gen.Kernel18Ideal.Value
public import proofs.«01_k».proof.Proof.Gen.Reference18Ideal.Read
public import proofs.«01_k».proof.Proof.Gen.Reference18Ideal.Run
public import Idealize.ShloMosaic.Lib.Claim

/-! The gradient of the first projection's weight: from the same arguments the kernel and the reference end holding the
    same array, each element one sum of products over the positions. -/

@[expose] public section

set_option maxRecDepth 16384

noncomputable section

namespace Cert.InWeight

open Idealize.ShloMosaic Idealize.ShloMosaic.TcCoe Idealize.SL.Sem
open Idealize.ShloMosaic.Pipeline (Dat)

/-- The gradient of the weight, turned: the sum over the positions of cotangent times argument. -/
def W (h : (⟨3, ![1, 2048, 1024]⟩ : Shape).Idx → EReal) (d : (⟨3, ![1, 2048, 3328]⟩ : Shape).Idx → EReal) (i : (⟨2, ![3328, 1024]⟩ : Shape).Idx) : EReal :=
  ∑ r : Fin 2048, d (ix3 0 r (i 0)) * h (ix3 0 r (i 1))

/-- A row of the block, among all the rows of the turned weight. -/
def row (t : ℕ) (j : Fin 1664) : Fin 3328 := ⟨t % 2 * 1664 + j.val, by omega⟩

section Kernel
open Cert.Kernel18Ideal Cert.Kernel18Ideal.Gen

theorem pay1 (a : Vec Ideal S2048x1664 .bf16) (b : Vec Ideal S2048x1024 .bf16) (j : Fin 1664) (k : Fin 1024) :
    k0_pay1 (F := Ideal) a b (ix2 j k) = ∑ r : Fin 2048, a (ix2 r j) * b (ix2 r k) := by
  pointwise [k0_pay1]

variable (m : (ℓ : Loc nD τ sig) → Buf (Elt Ideal) ℓ) (c : Dev nD)

theorem idx : ∀ t : Fin cfg0.N, win0_0.index t = ![0, t.val % 2] ∧ win0_1.index t = ![0, 0] ∧ win0_2.index t = ![t.val % 2, 0] :=
  (by decide +kernel : ∀ t : Fin grid0.N, _)

theorem blk0 (t : Fin cfg0.N) (r : Fin 2048) (j : Fin 1664) :
    iblk m c 0 t (ix2 r j) = m ((c.tc : Thread nD τ).loc main_arg1) (ix3 0 r (row t.val j)) := by
  blk_point [iblk, V, idx t, row]

theorem blk1 (t : Fin cfg0.N) (r : Fin 2048) (k : Fin 1024) : iblk m c 1 t (ix2 r k) = m ((c.tc : Thread nD τ).loc main_arg0) (ix3 0 r k) := by
  blk_point [iblk, V, idx t]

theorem out2 (t : Fin cfg0.N) (j : Fin 1664) (k : Fin 1024) : out0_2 (iblk m c 0 t) (iblk m c 1 t) (ix2 j k)
    = W (m ((c.tc : Thread nD τ).loc main_arg0)) (m ((c.tc : Thread nD τ).loc main_arg1)) (ix2 (row t.val j) k) := by
  frame_out
  refine (pay1 _ _ j k).trans ?_
  simp only [blk0, blk1]
  rfl

/-- The array the two programs end with. -/
abbrev res : S3328x1024.Idx → EReal := W (m ((c.tc : Thread nD τ).loc main_arg0)) (m ((c.tc : Thread nD τ).loc main_arg1))

theorem final : (dats m 0 c).arrAt 2 cfg0.N = W (m ((c.tc : Thread nD τ).loc main_arg0)) (m ((c.tc : Thread nD τ).loc main_arg1)) := by
  refine (dats m 0 c).arrAt_eq_of_covers 2 _ (by decide +kernel) fun t _ y => ?_
  rw [after0_2]
  idx_vars y
  blk_simp
  refine (out2 m c t y0 y1).trans (congrArg (W _ _) ?_)
  blk_ext [idx t, row]
end Kernel

section Reference
open Cert.Reference18Ideal Cert.Reference18Ideal.Gen Cert.Reference18Ideal.Read

theorem ref (h : FVec Ideal S1x2048x1024 .f32) (d : FVec Ideal S1x2048x3328 .f32) : val_main_v5 (F := Ideal) h d = W h d := by
  funext i
  idx_vars i
  pointwise [val_main_v5, val_main_v4, val_main_v3, val_main_v2]
  simp [W]
end Reference

theorem frame_reference : Cert.quiescent_Reference18Ideal := by
  intro m ρ _
  exact (θ_run Cert.Reference18Ideal.defs _ _).mono (fun r h => ⟨fun c => (h c).2,
      Idealize.ShloMosaic.sem_eq_zero_of_no_sems (by decide) r.2⟩)
    (Cert.Reference18Ideal.Value.run (F := Ideal) m ρ)

theorem algebraic : Cert.algebraic_Kernel18Ideal_Reference18Ideal := by
  intro m g m' g' _ hagree
  refine ⟨fun c => res m c, (θ_run Cert.Kernel18Ideal.defs _ _).mono (fun r h c => ?_) (Cert.Kernel18Ideal.Value.run_blocks (F := Ideal) m g),
    (θ_run Cert.Reference18Ideal.defs _ _).mono (fun r h c => ?_) (Cert.Reference18Ideal.Value.run (F := Ideal) m' g')⟩
  · exact ⟨(h c).1.trans (final m c), (h c).2⟩
  · refine ⟨(h c).1.trans ((Cert.Reference18Ideal.Read.val_main_v5_eq _ _).trans ?_), (h c).2⟩
    rw [(hagree c).1, (hagree c).2]
    exact ref _ _

end Cert.InWeight

end
-- ==== Proof.UpWeightRun.lean ====
module

public import proofs.«01_k».proof.Proof.Gen.Kernel19Ideal.Frame
public import Idealize.ShloMosaic.Lib.Claim

/-! The gradient of the up projection's weight is left by two calls, one after the other, in one array of four owners'
    blocks: what each call finds, and what the array holds at the end of the run. -/

@[expose] public section

set_option maxRecDepth 16384

noncomputable section

namespace Cert.UpWeight

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel19Ideal Cert.Kernel19Ideal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg) (c : Dev nD)

/-- The product's left argument, as the first call finds it. -/
theorem V1_h : V1 m ρ c main_v1 = truncf .bf16 (shapeCast S2048x1024 (m ((c : Thread nD τ).loc main_arg0)) shapeCasts_S1x2048x1024_S2048x1024) bitsLt_bf16_f32 := by
  unfold_abbrev_sides
  after_results
  rfl

/-- The cotangent, all its columns. -/
theorem V1_d : V1 m ρ c main_v3 = truncf .bf16 (shapeCast S2048x5632 (m ((c : Thread nD τ).loc main_arg1)) shapeCasts_S1x2048x5632_S2048x5632) bitsLt_bf16_f32 := by
  unfold_abbrev_sides
  after_results
  rfl

/-- The cotangent's first half, for the first call. -/
theorem V1_gate : V1 m ρ c main_v4 = extractStridedSlice S2048x2816 ![0, 0] (truncf .bf16 (shapeCast S2048x5632 (m ((c : Thread nD τ).loc main_arg1))
    shapeCasts_S1x2048x5632_S2048x5632) bitsLt_bf16_f32) slices_S2048x5632_S2048x2816_0_0 := by
  unfold_abbrev_sides
  after_results
  rfl

theorem V2_d : V2 m ρ c main_v3 = V1 m ρ c main_v3 := W2_of m ρ c main_v3 (by decide)

/-- The cotangent's second half, for the second call. -/
theorem V3_value : V3 m ρ c main_v6 = extractStridedSlice S2048x2816 ![0, 2816] (truncf .bf16 (shapeCast S2048x5632 (m ((c : Thread nD τ).loc main_arg1))
    shapeCasts_S1x2048x5632_S2048x5632) bitsLt_bf16_f32) slices_S2048x5632_S2048x2816_0_2816 := by
  refine Eq.trans (b := extractStridedSlice S2048x2816 ![0, 2816] (V2 m ρ c main_v3) slices_S2048x5632_S2048x2816_0_2816) ?_ ?_
  · unfold_abbrev_sides
    after_results
  · rw [show V2 m ρ c main_v3 = _ from (V2_d m ρ c).trans (V1_d m ρ c)]

theorem V3_h : V3 m ρ c main_v1 = V1 m ρ c main_v1 := (W3_of m ρ c main_v1 (by decide)).trans (W2_of m ρ c main_v1 (by decide))

/-- The second call writes over what the first one left. -/
theorem V3_first : V3 m ρ c main_v7 = (dat0 (V1 m ρ) c).arrAt 2 cfg0.N := by
  refine Eq.trans (b := V2 m ρ c main_v5) ?_ (W2_arr m ρ c 2)
  unfold_abbrev_sides
  after_results
  rfl

-- the launch theorem's implicit arguments are found by unfolding plain definitions
set_option backward.isDefEq.respectTransparency.types false in
/-- The run: it ends, the result holds what the second call left, and the arguments are as launched. -/
theorem run_result : θ_run defs (onTc (τ := τ) (main (F := F))) ⟨m, fun _ => 0, ρ⟩ (fun r => ∀ c : Dev nD,
      r.2.mem ((c.tc : Thread nD τ).loc main_v7) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v7 (by decide))).trans (W4_arr m ρ c 2),
       (h c _ (mem_uc main_arg0 (by decide))).trans (W4_main_arg0 m ρ c),
       (h c _ (mem_uc main_arg1 (by decide))).trans (W4_main_arg1 m ρ c)⟩)

end Cert.UpWeight
-- ==== Proof.UpWeight.lean ====
module

public import proofs.«01_k».proof.Defs
public import proofs.«01_k».proof.Proof.Lift
public import proofs.«01_k».proof.Proof.UpWeightRun
public import proofs.«01_k».proof.Proof.Gen.Reference19Ideal.Read
public import proofs.«01_k».proof.Proof.Gen.Reference19Ideal.Run
public import Idealize.ShloMosaic.Lib.Pipeline.ValueKit
public import Idealize.ShloMosaic.Lib.Claim

/-! The gradient of the up projection's weight, each owner's columns in a block of its own: the first call writes two
    owners' blocks, the second the two others, and together they hold the reference's array. -/

@[expose] public section

set_option maxRecDepth 16384

noncomputable section

namespace Cert.UpWeight

open Idealize.ShloMosaic Idealize.ShloMosaic.TcCoe Idealize.SL.Sem
open Idealize.ShloMosaic.Pipeline (Dat)

/-- Column `j` of owner `s`, among all the columns. -/
def col (s : Fin 4) (j : Fin 1408) : Fin 5632 := ⟨s.val * 1408 + j.val, by omega⟩

/-- The gradient of the weight by owners: the sum over the positions of argument times cotangent. -/
def W (h : (⟨3, ![1, 2048, 1024]⟩ : Shape).Idx → EReal) (d : (⟨3, ![1, 2048, 5632]⟩ : Shape).Idx → EReal) (i : (⟨3, ![4, 1024, 1408]⟩ : Shape).Idx) : EReal :=
  ∑ r : Fin 2048, h (ix3 0 r (i 1)) * d (ix3 0 r (col (i 0) (i 2)))

/-- A row of point `t`'s block, among all the rows of the weight. -/
def row (t : ℕ) (k : Fin 512) : Fin 1024 := ⟨t / 2 % 2 * 512 + k.val, by omega⟩

/-- A column of point `t`'s block, among one half's columns. -/
def half (t : ℕ) (j : Fin 1408) : Fin 2816 := ⟨t % 2 * 1408 + j.val, by omega⟩

/-- The owner of point `t`'s block, in the first call and in the second. -/
def owner0 (t : ℕ) : Fin 4 := ⟨t % 2, by omega⟩
def owner1 (t : ℕ) : Fin 4 := ⟨2 + t % 2, by omega⟩

section Kernel
open Cert.Kernel19Ideal Cert.Kernel19Ideal.Gen

theorem pay0 (a : Vec Ideal S2048x512 .bf16) (b : Vec Ideal S2048x1408 .bf16) (k : Fin 512) (j : Fin 1408) :
    k0_pay1 (F := Ideal) a b (ix3 0 k j) = ∑ r : Fin 2048, a (ix2 r k) * b (ix2 r j) := by
  pointwise [k0_pay1]

theorem pay1 (a : Vec Ideal S2048x512 .bf16) (b : Vec Ideal S2048x1408 .bf16) (k : Fin 512) (j : Fin 1408) :
    k1_pay1 (F := Ideal) a b (ix3 0 k j) = ∑ r : Fin 2048, a (ix2 r k) * b (ix2 r j) := by
  pointwise [k1_pay1]

theorem idx0 : ∀ t : Fin cfg0.N, win0_0.index t = ![0, t.val / 2 % 2] ∧ win0_1.index t = ![0, t.val % 2] ∧ win0_2.index t = ![t.val % 2, t.val / 2 % 2, 0] :=
  (by decide +kernel : ∀ t : Fin grid0.N, _)

theorem idx1 : ∀ t : Fin cfg1.N, win1_0.index t = ![0, t.val / 2 % 2] ∧ win1_1.index t = ![0, t.val % 2] ∧ win1_2.index t = ![2 + t.val % 2, t.val / 2 % 2, 0] :=
  (by decide +kernel : ∀ t : Fin grid1.N, _)

section Blocks
variable (V : (c : Dev nD) → (b : Ref sig .tc) → Buf (Elt Ideal) ((c : Thread nD τ).loc b)) (c : Dev nD)

theorem blk0_h (t : Fin cfg0.N) (r : Fin 2048) (k : Fin 512) : iblk0 V c 0 t (ix2 r k) = V c main_v1 (ix2 r (row t.val k)) := by
  blk_point [iblk0, idx0 t, row]

theorem blk0_d (t : Fin cfg0.N) (r : Fin 2048) (j : Fin 1408) : iblk0 V c 1 t (ix2 r j) = V c main_v4 (ix2 r (half t.val j)) := by
  blk_point [iblk0, idx0 t, half]

theorem blk1_h (t : Fin cfg1.N) (r : Fin 2048) (k : Fin 512) : iblk1 V c 0 t (ix2 r k) = V c main_v1 (ix2 r (row t.val k)) := by
  blk_point [iblk1, idx1 t, row]

theorem blk1_d (t : Fin cfg1.N) (r : Fin 2048) (j : Fin 1408) : iblk1 V c 1 t (ix2 r j) = V c main_v6 (ix2 r (half t.val j)) := by
  blk_point [iblk1, idx1 t, half]

end Blocks

variable (m : (ℓ : Loc nD τ sig) → Buf (Elt Ideal) ℓ) (ρ : Dev nD → PrngReg) (c : Dev nD)

theorem flat_h (x : FVec Ideal S1x2048x1024 .f32) (r : Fin 2048) (k : Fin 1024) :
    truncf (F := Ideal) .bf16 (shapeCast S2048x1024 x shapeCasts_S1x2048x1024_S2048x1024) bitsLt_bf16_f32 (ix2 r k) = x (ix3 0 r k) := by
  pointwise

theorem flat_gate (x : FVec Ideal S1x2048x5632 .f32) (t : ℕ) (r : Fin 2048) (j : Fin 1408) :
    extractStridedSlice S2048x2816 ![0, 0] (truncf (F := Ideal) .bf16 (shapeCast S2048x5632 x shapeCasts_S1x2048x5632_S2048x5632) bitsLt_bf16_f32)
      slices_S2048x5632_S2048x2816_0_0 (ix2 r (half t j)) = x (ix3 0 r (col (owner0 t) j)) := by
  pointwise
  refine congrArg x ?_
  blk_ext [half, col, owner0]

theorem flat_value (x : FVec Ideal S1x2048x5632 .f32) (t : ℕ) (r : Fin 2048) (j : Fin 1408) :
    extractStridedSlice S2048x2816 ![0, 2816] (truncf (F := Ideal) .bf16 (shapeCast S2048x5632 x shapeCasts_S1x2048x5632_S2048x5632) bitsLt_bf16_f32)
      slices_S2048x5632_S2048x2816_0_2816 (ix2 r (half t j)) = x (ix3 0 r (col (owner1 t) j)) := by
  pointwise
  refine congrArg x ?_
  blk_ext [half, col, owner1]

/-- The array the two programs end with. -/
abbrev res : S4x1024x1408.Idx → EReal := W (m ((c.tc : Thread nD τ).loc main_arg0)) (m ((c.tc : Thread nD τ).loc main_arg1))

theorem out0 (t : Fin cfg0.N) (k : Fin 512) (j : Fin 1408) :
    out0_2 (iblk0 (V1 m ρ) c 0 t) (iblk0 (V1 m ρ) c 1 t) (ix3 0 k j) = res m c (ix3 (owner0 t.val) (row t.val k) j) := by
  frame_out
  exact (pay0 _ _ k j).trans (Finset.sum_congr rfl fun r _ => congrArg₂ (fun a b : EReal => a * b)
    ((blk0_h (V1 m ρ) c t r k).trans ((congrFun (V1_h m ρ c) _).trans (flat_h _ r _)))
    ((blk0_d (V1 m ρ) c t r j).trans ((congrFun (V1_gate m ρ c) _).trans (flat_gate _ t.val r j))))

theorem out1 (t : Fin cfg1.N) (k : Fin 512) (j : Fin 1408) :
    outsAt1 (V3 m ρ) c t (ix3 0 k j) = res m c (ix3 (owner1 t.val) (row t.val k) j) := by
  unfold outsAt1
  frame_out
  exact (pay1 _ _ k j).trans (Finset.sum_congr rfl fun r _ => congrArg₂ (fun a b : EReal => a * b)
    ((blk1_h (V3 m ρ) c t r k).trans ((congrFun ((V3_h m ρ c).trans (V1_h m ρ c)) _).trans (flat_h _ r _)))
    ((blk1_d (V3 m ρ) c t r j).trans ((congrFun (V3_value m ρ c) _).trans (flat_value _ t.val r j))))

/-- After the first call: the first two owners' blocks are written. -/
theorem first : (dat0 (V1 m ρ) c).arrAt 2 cfg0.N = fun i => if (i 0 : ℕ) / 1 < 2 then res m c i else (dat0 (V1 m ρ) c).A 2 i := by
  refine (dat0 (V1 m ρ) c).arrAt_eq_of_coversWhere 2 (res m c) (fun β => β (0 : Fin 3) < 2) (by decide +kernel) (fun t _ y => ?_) (fun j => Iff.rfl)
  rw [after0_2]
  idx_vars y
  blk_simp
  obtain rfl : y0 = 0 := Subsingleton.elim _ _
  refine (out0 m ρ c t y1 y2).trans (congrArg (res m c) ?_)
  blk_ext [idx0 t, row, owner0]

/-- After the second call: the last two owners' blocks are written, the others are as found. -/
theorem second : (dat1 (V3 m ρ) c).arrAt 2 cfg1.N = fun i => if 2 ≤ (i 0 : ℕ) / 1 then res m c i else (dat1 (V3 m ρ) c).A 2 i := by
  refine (dat1 (V3 m ρ) c).arrAt_eq_of_coversWhere 2 (res m c) (fun β => 2 ≤ β (0 : Fin 3)) (by decide +kernel) (fun t _ y => ?_) (fun j => Iff.rfl)
  rw [after1_2]
  idx_vars y
  blk_simp
  obtain rfl : y0 = 0 := Subsingleton.elim _ _
  refine (out1 m ρ c t y1 y2).trans (congrArg (res m c) ?_)
  blk_ext [idx1 t, row, owner1]

theorem final : (dat1 (V3 m ρ) c).arrAt 2 cfg1.N = res m c := by
  rw [second]
  funext i
  show (if 2 ≤ (i 0 : ℕ) / 1 then res m c i else (dat1 (V3 m ρ) c).A 2 i) = res m c i
  by_cases h : 2 ≤ (i 0 : ℕ) / 1
  · exact if_pos h
  · rw [if_neg h, A_eq1]
    refine (congrFun (V3_first m ρ c) i).trans ((congrFun (first m ρ c) i).trans (if_pos (by omega)))
end Kernel

section Reference
open Cert.Reference19Ideal Cert.Reference19Ideal.Gen Cert.Reference19Ideal.Read

theorem ref (h : FVec Ideal S1x2048x1024 .f32) (d : FVec Ideal S1x2048x5632 .f32) : val_main_v6 (F := Ideal) h d = W h d := by
  funext i
  idx_vars i
  show val_main_v5 (F := Ideal) h d (ix3 i0 i1 i2) = _
  rw [val_main_v5_apply, val_main_v4_apply, val_main_v3_apply]
  have e : idx_main_v3 (idx_main_v4 (idx_main_v5 (ix3 i0 i1 i2))) = ix2 (col i0 i2) i1 := by
    blk_ext [col]
  rw [e]
  pointwise [val_main_v2]
  simp [W, mul_comm]
end Reference

theorem frame_reference : Cert.quiescent_Reference19Ideal := by
  intro m ρ _
  exact (θ_run Cert.Reference19Ideal.defs _ _).mono (fun r h => ⟨fun c => (h c).2,
      Idealize.ShloMosaic.sem_eq_zero_of_no_sems (by decide) r.2⟩)
    (Cert.Reference19Ideal.Value.run (F := Ideal) m ρ)

theorem algebraic : Cert.algebraic_Kernel19Ideal_Reference19Ideal := by
  intro m g m' g' _ hagree
  refine ⟨fun c => res m c, (θ_run Cert.Kernel19Ideal.defs _ _).mono (fun r h c => ?_) (run_result (F := Ideal) m g),
    (θ_run Cert.Reference19Ideal.defs _ _).mono (fun r h c => ?_) (Cert.Reference19Ideal.Value.run (F := Ideal) m' g')⟩
  · exact ⟨(h c).1.trans (final m g c), (h c).2⟩
  · refine ⟨(h c).1.trans ((Cert.Reference19Ideal.Read.val_main_v6_eq _ _).trans ?_), (h c).2⟩
    rw [(hagree c).1, (hagree c).2]
    exact ref _ _

end Cert.UpWeight

end
-- ==== Proof.MemGrad.lean ====
module

public import proofs.«01_k».proof.Defs
public import proofs.«01_k».proof.Proof.Lift
public import proofs.«01_k».proof.Proof.Gen.Kernel20Ideal.Value
public import proofs.«01_k».proof.Proof.Gen.Reference20Ideal.Read
public import proofs.«01_k».proof.Proof.Gen.Reference20Ideal.Run
public import Idealize.ShloMosaic.Lib.Claim

/-! The gradient of the normed memory through the key and value projection: from the same arguments the kernel, which adds
    four parts of the columns, and the reference end holding the same array. -/

@[expose] public section

set_option maxRecDepth 16384

noncomputable section

namespace Cert.MemGrad

open Idealize.ShloMosaic Idealize.ShloMosaic.TcCoe Idealize.SL.Sem
open Idealize.ShloMosaic.Pipeline (Dat)

/-- The gradient: the cotangent times the transposed weight. -/
def D (w : (⟨3, ![1, 1024, 2048]⟩ : Shape).Idx → EReal) (d : (⟨3, ![1, 256, 2048]⟩ : Shape).Idx → EReal) (i : (⟨2, ![256, 1024]⟩ : Shape).Idx) : EReal :=
  ∑ j : Fin 2048, d (ix3 0 (i 0) j) * w (ix3 0 (i 1) j)

/-- A column of one of the four parts, among all the columns. -/
def part (s : Fin 4) (k : Fin 512) : Fin 2048 := ⟨s.val * 512 + k.val, by omega⟩

/-- The columns of the four parts are all the columns. -/
theorem sum_parts (f : Fin 2048 → EReal) : ∑ k, f (part 0 k) + ∑ k, f (part 1 k) + ∑ k, f (part 2 k) + ∑ k, f (part 3 k) = ∑ j, f j := by
  have e : ∑ s : Fin 4, ∑ k : Fin 512, f (part s k) = ∑ j, f j := by
    rw [← Fintype.sum_prod_type', ← (finProdFinEquiv (m := 4) (n := 512)).sum_comp]
    exact Finset.sum_congr rfl fun p _ => congrArg f (Fin.ext (by simp [part, finProdFinEquiv]; omega))
  exact (Fin.sum_univ_four fun s => ∑ k, f (part s k)).symm.trans e

section Kernel
open Cert.Kernel20Ideal Cert.Kernel20Ideal.Gen

theorem pay1 (a0 a1 a2 a3 : Vec Ideal S256x512 .bf16) (b0 b1 b2 b3 : Vec Ideal S1x1024x512 .bf16) (r : Fin 256) (l : Fin 1024) :
    k0_pay1 (F := Ideal) a0 b0 a1 b1 a2 b2 a3 b3 (ix2 r l) = ∑ k : Fin 512, a0 (ix2 r k) * b0 (ix3 0 l k) + ∑ k : Fin 512, a1 (ix2 r k) * b1 (ix3 0 l k)
      + ∑ k : Fin 512, a2 (ix2 r k) * b2 (ix3 0 l k) + ∑ k : Fin 512, a3 (ix2 r k) * b3 (ix3 0 l k) := by
  pointwise [k0_pay1]

variable (m : (ℓ : Loc nD τ sig) → Buf (Elt Ideal) ℓ) (c : Dev nD)

theorem idx : ∀ t : Fin cfg0.N, win0_0.index t = ![0, 0] ∧ win0_1.index t = ![0, 1] ∧ win0_2.index t = ![0, 2] ∧ win0_3.index t = ![0, 3]
    ∧ win0_4.index t = ![0, 0, 0] ∧ win0_5.index t = ![1, 0, 0] ∧ win0_6.index t = ![2, 0, 0] ∧ win0_7.index t = ![3, 0, 0] ∧ win0_8.index t = ![0, 0] :=
  (by decide +kernel : ∀ t : Fin grid0.N, _)

theorem blk0 (t : Fin cfg0.N) (r : Fin 256) (k : Fin 512) : iblk m c 0 t (ix2 r k) = m ((c.tc : Thread nD τ).loc main_arg1) (ix3 0 r (part 0 k)) := by
  blk_point [iblk, V, idx t, part]

theorem blk1 (t : Fin cfg0.N) (r : Fin 256) (k : Fin 512) : iblk m c 1 t (ix2 r k) = m ((c.tc : Thread nD τ).loc main_arg1) (ix3 0 r (part 1 k)) := by
  blk_point [iblk, V, idx t, part]

theorem blk2 (t : Fin cfg0.N) (r : Fin 256) (k : Fin 512) : iblk m c 2 t (ix2 r k) = m ((c.tc : Thread nD τ).loc main_arg1) (ix3 0 r (part 2 k)) := by
  blk_point [iblk, V, idx t, part]

theorem blk3 (t : Fin cfg0.N) (r : Fin 256) (k : Fin 512) : iblk m c 3 t (ix2 r k) = m ((c.tc : Thread nD τ).loc main_arg1) (ix3 0 r (part 3 k)) := by
  blk_point [iblk, V, idx t, part]

theorem blk4 (t : Fin cfg0.N) (l : Fin 1024) (k : Fin 512) : iblk m c 4 t (ix3 0 l k) = m ((c.tc : Thread nD τ).loc main_arg0) (ix3 0 l (part 0 k)) := by
  blk_point [iblk, V, idx t, part]

theorem blk5 (t : Fin cfg0.N) (l : Fin 1024) (k : Fin 512) : iblk m c 5 t (ix3 0 l k) = m ((c.tc : Thread nD τ).loc main_arg0) (ix3 0 l (part 1 k)) := by
  blk_point [iblk, V, idx t, part]

theorem blk6 (t : Fin cfg0.N) (l : Fin 1024) (k : Fin 512) : iblk m c 6 t (ix3 0 l k) = m ((c.tc : Thread nD τ).loc main_arg0) (ix3 0 l (part 2 k)) := by
  blk_point [iblk, V, idx t, part]

theorem blk7 (t : Fin cfg0.N) (l : Fin 1024) (k : Fin 512) : iblk m c 7 t (ix3 0 l k) = m ((c.tc : Thread nD τ).loc main_arg0) (ix3 0 l (part 3 k)) := by
  blk_point [iblk, V, idx t, part]

theorem out8 (t : Fin cfg0.N) (r : Fin 256) (l : Fin 1024) :
    out0_8 (iblk m c 0 t) (iblk m c 1 t) (iblk m c 2 t) (iblk m c 3 t) (iblk m c 4 t) (iblk m c 5 t) (iblk m c 6 t) (iblk m c 7 t) (ix2 r l)
      = D (m ((c.tc : Thread nD τ).loc main_arg0)) (m ((c.tc : Thread nD τ).loc main_arg1)) (ix2 r l) := by
  frame_out
  refine (pay1 _ _ _ _ _ _ _ _ r l).trans ?_
  simp only [blk0, blk1, blk2, blk3, blk4, blk5, blk6, blk7]
  exact (fun (g : S1x256x2048.Idx → EReal) (w : S1x1024x2048.Idx → EReal) => sum_parts fun j => g (ix3 0 r j) * w (ix3 0 l j))
    (m ((c.tc : Thread nD τ).loc main_arg1)) (m ((c.tc : Thread nD τ).loc main_arg0))

/-- The array the two programs end with. -/
abbrev res : S256x1024.Idx → EReal := D (m ((c.tc : Thread nD τ).loc main_arg0)) (m ((c.tc : Thread nD τ).loc main_arg1))

theorem final : (dats m 0 c).arrAt 8 cfg0.N = D (m ((c.tc : Thread nD τ).loc main_arg0)) (m ((c.tc : Thread nD τ).loc main_arg1)) := by
  refine (dats m 0 c).arrAt_eq_of_covers 8 _ (by decide +kernel) fun t _ y => ?_
  rw [after0_8]
  idx_vars y
  blk_simp
  refine (out8 m c t y0 y1).trans (congrArg (D _ _) ?_)
  blk_ext [idx t]
end Kernel

section Reference
open Cert.Reference20Ideal Cert.Reference20Ideal.Gen Cert.Reference20Ideal.Read

theorem ref (w : FVec Ideal S1x1024x2048 .f32) (d : FVec Ideal S1x256x2048 .f32) : val_main_v4 (F := Ideal) w d = D w d := by
  funext i
  idx_vars i
  pointwise [val_main_v4, val_main_v3, val_main_v1]
  rfl
end Reference

theorem frame_reference : Cert.quiescent_Reference20Ideal := by
  intro m ρ _
  exact (θ_run Cert.Reference20Ideal.defs _ _).mono (fun r h => ⟨fun c => (h c).2,
      Idealize.ShloMosaic.sem_eq_zero_of_no_sems (by decide) r.2⟩)
    (Cert.Reference20Ideal.Value.run (F := Ideal) m ρ)

theorem algebraic : Cert.algebraic_Kernel20Ideal_Reference20Ideal := by
  intro m g m' g' _ hagree
  refine ⟨fun c => res m c, (θ_run Cert.Kernel20Ideal.defs _ _).mono (fun r h c => ?_) (Cert.Kernel20Ideal.Value.run_blocks (F := Ideal) m g),
    (θ_run Cert.Reference20Ideal.defs _ _).mono (fun r h c => ?_) (Cert.Reference20Ideal.Value.run (F := Ideal) m' g')⟩
  · exact ⟨(h c).1.trans (final m c), (h c).2⟩
  · refine ⟨(h c).1.trans ((Cert.Reference20Ideal.Read.val_main_v4_eq _ _).trans ?_), (h c).2⟩
    rw [(hagree c).1, (hagree c).2]
    exact ref _ _

end Cert.MemGrad

end
-- ==== Proof.AdamW.lean ====
module

public import proofs.«01_k».proof.Defs
public import proofs.«01_k».proof.Proof.Lift
public import proofs.«01_k».proof.Proof.Gen.Kernel21Ideal.Value
public import proofs.«01_k».proof.Proof.Gen.Reference21Ideal.Read
public import proofs.«01_k».proof.Proof.Gen.Reference21Ideal.Run
public import Idealize.ShloMosaic.Lib.Claim

/-! The optimiser on the feed-forward's two weights: from the same arguments the kernel, a block of rows of each at a time, and
    the reference end holding the same arrays. Nothing is asked of the arguments. -/

@[expose] public section

set_option maxRecDepth 16384

noncomputable section

namespace Cert.AdamW

open Idealize.ShloMosaic Idealize.ShloMosaic.TcCoe Idealize.SL.Sem
open Idealize.ShloMosaic.Pipeline (Dat)

/-- The first moment, the second moment, and the change of the weight, of one element; the constants are named by their words. -/
def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- A function of elements, on arrays. -/
def at2 {s : Shape} (f : EReal → EReal → EReal) (a b : s.Idx → EReal) (i : s.Idx) : EReal := f (a i) (b i)
def at4 {s : Shape} (f : EReal → EReal → EReal → EReal → EReal) (a b c d : s.Idx → EReal) (i : s.Idx) : EReal := f (a i) (b i) (c i) (d i)

/-- A row of the block, among all the rows of the up projection's weight, and of the down projection's. -/
def rowU (t : ℕ) (r : Fin 256) : Fin 1024 := ⟨t % 4 * 256 + r.val, by omega⟩
def rowD (t : ℕ) (r : Fin 176) : Fin 704 := ⟨t % 4 * 176 + r.val, by omega⟩

section Kernel
open Cert.Kernel21Ideal Cert.Kernel21Ideal.Gen

section Elements
variable (w g mo ve : Vec Ideal S1x256x1408 .f32) (i : S1x256x1408.Idx)

theorem pay_mu : k0_pay2 (F := Ideal) g mo i = newM (g i) (mo i) := by
  pointwise [k0_pay2]
  rfl

theorem pay_vu : k0_pay3 (F := Ideal) g ve i = newV (g i) (ve i) := by
  pointwise [k0_pay3]
  rw [mul_assoc]
  rfl

theorem pay_du : k0_pay4 (F := Ideal) g mo ve w i = delta (w i) (g i) (mo i) (ve i) := by
  pointwise [k0_pay4]
  rw [pay_mu, pay_vu]
  rfl
end Elements

section Elements
variable (w g mo ve : Vec Ideal S1x176x1024 .f32) (i : S1x176x1024.Idx)

theorem pay_md : k0_pay5 (F := Ideal) g mo i = newM (g i) (mo i) := by
  pointwise [k0_pay5]
  rfl

theorem pay_vd : k0_pay6 (F := Ideal) g ve i = newV (g i) (ve i) := by
  pointwise [k0_pay6]
  rw [mul_assoc]
  rfl

theorem pay_dd : k0_pay1 (F := Ideal) (k0_pay7 (F := Ideal) g mo ve) (k0_pay8 (F := Ideal) w) i = delta (w i) (g i) (mo i) (ve i) := by
  pointwise [k0_pay1, k0_pay7, k0_pay8]
  rw [pay_md, pay_vd]
  rfl
end Elements

variable (m : (ℓ : Loc nD τ sig) → Buf (Elt Ideal) ℓ) (c : Dev nD)

theorem idx : ∀ t : Fin cfg0.N, win0_0.index t = ![0, t.val % 4, 0] ∧ win0_1.index t = ![0, t.val % 4, 0] ∧ win0_2.index t = ![0, t.val % 4, 0] ∧ win0_3.index t = ![0, t.val % 4, 0]
    ∧ win0_4.index t = ![0, t.val % 4, 0] ∧ win0_5.index t = ![0, t.val % 4, 0] ∧ win0_6.index t = ![0, t.val % 4, 0] ∧ win0_7.index t = ![0, t.val % 4, 0]
    ∧ win0_8.index t = ![0, t.val % 4, 0] ∧ win0_9.index t = ![0, t.val % 4, 0] ∧ win0_10.index t = ![0, t.val % 4, 0] ∧ win0_11.index t = ![0, t.val % 4, 0]
    ∧ win0_12.index t = ![0, t.val % 4, 0] ∧ win0_13.index t = ![0, t.val % 4, 0] ∧ win0_14.index t = ![0, t.val % 4, 0] ∧ win0_15.index t = ![0, t.val % 4, 0] :=
  (by decide +kernel : ∀ t : Fin grid0.N, _)

theorem blk0 (t : Fin cfg0.N) (r : Fin 256) (k : Fin 1408) : iblk m c 0 t (ix3 0 r k) = m ((c.tc : Thread nD τ).loc main_arg0) (ix3 0 (rowU t.val r) k) := by
  blk_point [iblk, V, idx t, rowU]

theorem blk1 (t : Fin cfg0.N) (r : Fin 256) (k : Fin 1408) : iblk m c 1 t (ix3 0 r k) = m ((c.tc : Thread nD τ).loc main_arg1) (ix3 0 (rowU t.val r) k) := by
  blk_point [iblk, V, idx t, rowU]

theorem blk2 (t : Fin cfg0.N) (r : Fin 256) (k : Fin 1408) : iblk m c 2 t (ix3 0 r k) = m ((c.tc : Thread nD τ).loc main_arg2) (ix3 0 (rowU t.val r) k) := by
  blk_point [iblk, V, idx t, rowU]

theorem blk3 (t : Fin cfg0.N) (r : Fin 256) (k : Fin 1408) : iblk m c 3 t (ix3 0 r k) = m ((c.tc : Thread nD τ).loc main_arg3) (ix3 0 (rowU t.val r) k) := by
  blk_point [iblk, V, idx t, rowU]

theorem blk4 (t : Fin cfg0.N) (r : Fin 176) (k : Fin 1024) : iblk m c 4 t (ix3 0 r k) = m ((c.tc : Thread nD τ).loc main_arg4) (ix3 0 (rowD t.val r) k) := by
  blk_point [iblk, V, idx t, rowD]

theorem blk5 (t : Fin cfg0.N) (r : Fin 176) (k : Fin 1024) : iblk m c 5 t (ix3 0 r k) = m ((c.tc : Thread nD τ).loc main_arg5) (ix3 0 (rowD t.val r) k) := by
  blk_point [iblk, V, idx t, rowD]

theorem blk6 (t : Fin cfg0.N) (r : Fin 176) (k : Fin 1024) : iblk m c 6 t (ix3 0 r k) = m ((c.tc : Thread nD τ).loc main_arg6) (ix3 0 (rowD t.val r) k) := by
  blk_point [iblk, V, idx t, rowD]

theorem blk7 (t : Fin cfg0.N) (r : Fin 176) (k : Fin 1024) : iblk m c 7 t (ix3 0 r k) = m ((c.tc : Thread nD τ).loc main_arg7) (ix3 0 (rowD t.val r) k) := by
  blk_point [iblk, V, idx t, rowD]

abbrev res8 : S1x1024x1408.Idx → EReal := at4 delta (m ((c.tc : Thread nD τ).loc main_arg0)) (m ((c.tc : Thread nD τ).loc main_arg1)) (m ((c.tc : Thread nD τ).loc main_arg2)) (m ((c.tc : Thread nD τ).loc main_arg3))

theorem final8 : (dats m 0 c).arrAt 8 cfg0.N = at4 delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t _ y => ?_
  rw [after0_8]
  idx_vars y
  obtain rfl : y0 = 0 := Subsingleton.elim _ _
  blk_simp
  have e : out0_8 (iblk m c 0 t) (iblk m c 1 t) (iblk m c 2 t) (iblk m c 3 t) (iblk m c 4 t) (iblk m c 5 t) (iblk m c 6 t) (iblk m c 7 t) (ix3 0 y1 y2) = (at4 delta (m ((c.tc : Thread nD τ).loc main_arg0)) (m ((c.tc : Thread nD τ).loc main_arg1)) (m ((c.tc : Thread nD τ).loc main_arg2)) (m ((c.tc : Thread nD τ).loc main_arg3))) (ix3 0 (rowU t.val y1) y2) := by
    frame_out
    refine (pay_du _ _ _ _ _).trans ?_
    simp only [blk0, blk1, blk2, blk3]
    rfl
  refine e.trans (congrArg (at4 delta (m ((c.tc : Thread nD τ).loc main_arg0)) (m ((c.tc : Thread nD τ).loc main_arg1)) (m ((c.tc : Thread nD τ).loc main_arg2)) (m ((c.tc : Thread nD τ).loc main_arg3))) ?_)
  blk_ext [idx t, rowU]

abbrev res9 : S1x1024x1408.Idx → EReal := at2 newM (m ((c.tc : Thread nD τ).loc main_arg1)) (m ((c.tc : Thread nD τ).loc main_arg2))

theorem final9 : (dats m 0 c).arrAt 9 cfg0.N = at2 newM (m ((c.tc : Thread nD τ).loc main_arg1)) (m ((c.tc : Thread nD τ).loc main_arg2)) := by
  refine (dats m 0 c).arrAt_eq_of_covers 9 _ (by decide +kernel) fun t _ y => ?_
  rw [after0_9]
  idx_vars y
  obtain rfl : y0 = 0 := Subsingleton.elim _ _
  blk_simp
  have e : out0_9 (iblk m c 0 t) (iblk m c 1 t) (iblk m c 2 t) (iblk m c 3 t) (iblk m c 4 t) (iblk m c 5 t) (iblk m c 6 t) (iblk m c 7 t) (ix3 0 y1 y2) = (at2 newM (m ((c.tc : Thread nD τ).loc main_arg1)) (m ((c.tc : Thread nD τ).loc main_arg2))) (ix3 0 (rowU t.val y1) y2) := by
    frame_out
    refine (pay_mu _ _ _).trans ?_
    simp only [blk1, blk2]
    rfl
  refine e.trans (congrArg (at2 newM (m ((c.tc : Thread nD τ).loc main_arg1)) (m ((c.tc : Thread nD τ).loc main_arg2))) ?_)
  blk_ext [idx t, rowU]

abbrev res10 : S1x1024x1408.Idx → EReal := at2 newV (m ((c.tc : Thread nD τ).loc main_arg1)) (m ((c.tc : Thread nD τ).loc main_arg3))

theorem final10 : (dats m 0 c).arrAt 10 cfg0.N = at2 newV (m ((c.tc : Thread nD τ).loc main_arg1)) (m ((c.tc : Thread nD τ).loc main_arg3)) := by
  refine (dats m 0 c).arrAt_eq_of_covers 10 _ (by decide +kernel) fun t _ y => ?_
  rw [after0_10]
  idx_vars y
  obtain rfl : y0 = 0 := Subsingleton.elim _ _
  blk_simp
  have e : out0_10 (iblk m c 0 t) (iblk m c 1 t) (iblk m c 2 t) (iblk m c 3 t) (iblk m c 4 t) (iblk m c 5 t) (iblk m c 6 t) (iblk m c 7 t) (ix3 0 y1 y2) = (at2 newV (m ((c.tc : Thread nD τ).loc main_arg1)) (m ((c.tc : Thread nD τ).loc main_arg3))) (ix3 0 (rowU t.val y1) y2) := by
    frame_out
    refine (pay_vu _ _ _).trans ?_
    simp only [blk1, blk3]
    rfl
  refine e.trans (congrArg (at2 newV (m ((c.tc : Thread nD τ).loc main_arg1)) (m ((c.tc : Thread nD τ).loc main_arg3))) ?_)
  blk_ext [idx t, rowU]

abbrev res12 : S1x704x1024.Idx → EReal := at4 delta (m ((c.tc : Thread nD τ).loc main_arg4)) (m ((c.tc : Thread nD τ).loc main_arg5)) (m ((c.tc : Thread nD τ).loc main_arg6)) (m ((c.tc : Thread nD τ).loc main_arg7))

theorem final12 : (dats m 0 c).arrAt 12 cfg0.N = at4 delta (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 12 _ (by decide +kernel) fun t _ y => ?_
  rw [after0_12]
  idx_vars y
  obtain rfl : y0 = 0 := Subsingleton.elim _ _
  blk_simp
  have e : out0_12 (iblk m c 0 t) (iblk m c 1 t) (iblk m c 2 t) (iblk m c 3 t) (iblk m c 4 t) (iblk m c 5 t) (iblk m c 6 t) (iblk m c 7 t) (ix3 0 y1 y2) = (at4 delta (m ((c.tc : Thread nD τ).loc main_arg4)) (m ((c.tc : Thread nD τ).loc main_arg5)) (m ((c.tc : Thread nD τ).loc main_arg6)) (m ((c.tc : Thread nD τ).loc main_arg7))) (ix3 0 (rowD t.val y1) y2) := by
    frame_out
    refine (pay_dd _ _ _ _ _).trans ?_
    simp only [blk4, blk5, blk6, blk7]
    rfl
  refine e.trans (congrArg (at4 delta (m ((c.tc : Thread nD τ).loc main_arg4)) (m ((c.tc : Thread nD τ).loc main_arg5)) (m ((c.tc : Thread nD τ).loc main_arg6)) (m ((c.tc : Thread nD τ).loc main_arg7))) ?_)
  blk_ext [idx t, rowD]

abbrev res13 : S1x704x1024.Idx → EReal := at2 newM (m ((c.tc : Thread nD τ).loc main_arg5)) (m ((c.tc : Thread nD τ).loc main_arg6))

theorem final13 : (dats m 0 c).arrAt 13 cfg0.N = at2 newM (m ((c.tc : Thread nD τ).loc main_arg5)) (m ((c.tc : Thread nD τ).loc main_arg6)) := by
  refine (dats m 0 c).arrAt_eq_of_covers 13 _ (by decide +kernel) fun t _ y => ?_
  rw [after0_13]
  idx_vars y
  obtain rfl : y0 = 0 := Subsingleton.elim _ _
  blk_simp
  have e : out0_13 (iblk m c 0 t) (iblk m c 1 t) (iblk m c 2 t) (iblk m c 3 t) (iblk m c 4 t) (iblk m c 5 t) (iblk m c 6 t) (iblk m c 7 t) (ix3 0 y1 y2) = (at2 newM (m ((c.tc : Thread nD τ).loc main_arg5)) (m ((c.tc : Thread nD τ).loc main_arg6))) (ix3 0 (rowD t.val y1) y2) := by
    frame_out
    refine (pay_md _ _ _).trans ?_
    simp only [blk5, blk6]
    rfl
  refine e.trans (congrArg (at2 newM (m ((c.tc : Thread nD τ).loc main_arg5)) (m ((c.tc : Thread nD τ).loc main_arg6))) ?_)
  blk_ext [idx t, rowD]

abbrev res14 : S1x704x1024.Idx → EReal := at2 newV (m ((c.tc : Thread nD τ).loc main_arg5)) (m ((c.tc : Thread nD τ).loc main_arg7))

theorem final14 : (dats m 0 c).arrAt 14 cfg0.N = at2 newV (m ((c.tc : Thread nD τ).loc main_arg5)) (m ((c.tc : Thread nD τ).loc main_arg7)) := by
  refine (dats m 0 c).arrAt_eq_of_covers 14 _ (by decide +kernel) fun t _ y => ?_
  rw [after0_14]
  idx_vars y
  obtain rfl : y0 = 0 := Subsingleton.elim _ _
  blk_simp
  have e : out0_14 (iblk m c 0 t) (iblk m c 1 t) (iblk m c 2 t) (iblk m c 3 t) (iblk m c 4 t) (iblk m c 5 t) (iblk m c 6 t) (iblk m c 7 t) (ix3 0 y1 y2) = (at2 newV (m ((c.tc : Thread nD τ).loc main_arg5)) (m ((c.tc : Thread nD τ).loc main_arg7))) (ix3 0 (rowD t.val y1) y2) := by
    frame_out
    refine (pay_vd _ _ _).trans ?_
    simp only [blk5, blk7]
    rfl
  refine e.trans (congrArg (at2 newV (m ((c.tc : Thread nD τ).loc main_arg5)) (m ((c.tc : Thread nD τ).loc main_arg7))) ?_)
  blk_ext [idx t, rowD]
end Kernel

section Reference
open Cert.Reference21Ideal Cert.Reference21Ideal.Gen Cert.Reference21Ideal.Read

section Up
variable (w g mo ve : FVec Ideal S1x1024x1408 .f32)

theorem ref_mu : val_main_v4 (F := Ideal) g mo = at2 newM g mo := by
  funext i
  pointwise [val_main_v4, val_main_v3, val_main_v2, val_main_v1, val_main_v0, val_main_cst, val_main_cst_0]
  rfl

theorem ref_vu : val_main_v10 (F := Ideal) g ve = at2 newV g ve := by
  funext i
  pointwise [val_main_v10, val_main_v9, val_main_v8, val_main_v7, val_main_v6, val_main_v5, val_main_cst_1, val_main_cst_2]
  rfl

theorem ref_du : val_main_v23 (F := Ideal) w g mo ve = at4 delta w g mo ve := by
  funext i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]
  rw [ref_mu, ref_vu]
  rfl
end Up

section Down
variable (w g mo ve : FVec Ideal S1x704x1024 .f32)

theorem ref_md : val_main_v28 (F := Ideal) g mo = at2 newM g mo := by
  funext i
  pointwise [val_main_v28, val_main_v27, val_main_v26, val_main_v25, val_main_v24, val_main_cst_8, val_main_cst_9]
  rfl

theorem ref_vd : val_main_v34 (F := Ideal) g ve = at2 newV g ve := by
  funext i
  pointwise [val_main_v34, val_main_v33, val_main_v32, val_main_v31, val_main_v30, val_main_v29, val_main_cst_10, val_main_cst_11]
  rfl

theorem ref_dd : val_main_v47 (F := Ideal) w g mo ve = at4 delta w g mo ve := by
  funext i
  pointwise [val_main_v47, val_main_v46, val_main_v45, val_main_v44, val_main_v43, val_main_v42, val_main_v41, val_main_v40, val_main_v39, val_main_v38,
    val_main_v37, val_main_v36, val_main_v35, val_main_cst_12, val_main_cst_13, val_main_cst_14, val_main_cst_15, val_main_cst_16]
  rw [ref_md, ref_vd]
  rfl
end Down
end Reference

theorem frame_reference : Cert.quiescent_Reference21Ideal := by
  intro m ρ _
  exact (θ_run Cert.Reference21Ideal.defs _ _).mono (fun r h => ⟨fun c => (h c).2.2.2.2.2.2,
      Idealize.ShloMosaic.sem_eq_zero_of_no_sems (by decide) r.2⟩)
    (Cert.Reference21Ideal.Value.run (F := Ideal) m ρ)

theorem algebraic : Cert.algebraic_Kernel21Ideal_Reference21Ideal := by
  intro m g m' g' _ hagree
  refine ⟨fun c => res8 m c, fun c => res9 m c, fun c => res10 m c, fun c => res12 m c, fun c => res13 m c, fun c => res14 m c,
    (θ_run Cert.Kernel21Ideal.defs _ _).mono (fun r h c => ?_) (Cert.Kernel21Ideal.Value.run_blocks (F := Ideal) m g),
    (θ_run Cert.Reference21Ideal.defs _ _).mono (fun r h c => ?_) (Cert.Reference21Ideal.Value.run (F := Ideal) m' g')⟩
  · obtain ⟨h0, h1, h2, _, h4, h5, h6, _, h8⟩ := h c
    exact ⟨h0.trans (final8 m c), h1.trans (final9 m c), h2.trans (final10 m c), h4.trans (final12 m c), h5.trans (final13 m c), h6.trans (final14 m c), h8⟩
  · obtain ⟨h0, h1, h2, h3, h4, h5, h6⟩ := h c
    obtain ⟨a0, a1, a2, a3, a4, a5, a6, a7⟩ := hagree c
    refine ⟨h0.trans ?_, h1.trans ?_, h2.trans ?_, h3.trans ?_, h4.trans ?_, h5.trans ?_, h6⟩
    · refine (Cert.Reference21Ideal.Read.val_main_v23_eq _ _ _ _).trans ((ref_du _ _ _ _).trans ?_)
      rw [a0, a1, a2, a3]
    · refine (Cert.Reference21Ideal.Read.val_main_v4_eq _ _).trans ((ref_mu _ _).trans ?_)
      rw [a1, a2]
    · refine (Cert.Reference21Ideal.Read.val_main_v10_eq _ _).trans ((ref_vu _ _).trans ?_)
      rw [a1, a3]
    · refine (Cert.Reference21Ideal.Read.val_main_v47_eq _ _ _ _).trans ((ref_dd _ _ _ _).trans ?_)
      rw [a4, a5, a6, a7]
    · refine (Cert.Reference21Ideal.Read.val_main_v28_eq _ _).trans ((ref_md _ _).trans ?_)
      rw [a5, a6]
    · refine (Cert.Reference21Ideal.Read.val_main_v34_eq _ _).trans ((ref_vd _ _).trans ?_)
      rw [a5, a7]

end Cert.AdamW

end
-- ==== Proof.QueryNorm.lean ====
module

public import proofs.«01_k».proof.Proof.Gen.Kernel22Ideal.Value
public import proofs.«01_k».proof.Proof.NormMath
public import proofs.«01_k».proof.Proof.Rope
public import Idealize.ShloMosaic.Lib.Pipeline.ValueKit.Acc

/-! The gradient of the memory attention's RMSNorm, through the query projection: what the kernel leaves in its two result arrays,
    over real arguments. -/

@[expose] public section

set_option maxRecDepth 16384

noncomputable section

namespace Cert.QueryNorm

open Idealize.ShloMosaic Idealize.ShloMosaic.TcCoe Idealize.SL.Sem
open Idealize.ShloMosaic.Pipeline (Dat)
open Cert.Lift Cert.Norm
open Cert.Rope (line sum_lines)
open Cert.Kernel22Ideal Cert.Kernel22Ideal.Gen

section Rows
variable (p : Vec Ideal S512x1024 .bf16) (w : Vec Ideal S1x1024x1024 .bf16) (x res : Vec Ideal S512x1024 .f32) (g acc : Vec Ideal S1x1024 .f32)

/-- The block's cotangent of the norm. -/
theorem pay3 (rp : Fin 1024 → ℝ) (rw : Fin 1024 → Fin 1024 → ℝ) (r : Fin 512) (l : Fin 1024) (hp : ∀ j, p (ix2 r j) = ((rp j : ℝ) : EReal))
    (hw : ∀ l j, w (ix3 0 l j) = ((rw l j : ℝ) : EReal)) : k0_pay3 (F := Ideal) p w (ix2 r l) = ((∑ j, rp j * rw l j : ℝ) : EReal) := by
  pointwise [k0_pay3]
  simp only [hp, hw, ← EReal.coe_mul, coe_sum, zero_add]

/-- A row of the norm's gradient, with the residual's cotangent. -/
theorem pay8 (rv rx rg rr : Fin 1024 → ℝ) (r : Fin 512) (l : Fin 1024) (hv : ∀ k, k0_pay3 (F := Ideal) p w (ix2 r k) = ((rv k : ℝ) : EReal))
    (hx : ∀ k, x (ix2 r k) = ((rx k : ℝ) : EReal)) (hg : ∀ k, g (ix2 0 k) = ((rg k : ℝ) : EReal)) (hr : ∀ k, res (ix2 r k) = ((rr k : ℝ) : EReal)) :
    k0_pay8 (F := Ideal) p w x g res (ix2 r l) = ((dxRow rx rg rv l + rr l : ℝ) : EReal) := by
  pointwise [k0_pay8, k0_pay6, k0_pay5, k0_pay4]
  simp only [hv, hx, hg, hr, ofBits_1024, ofBits_eps, ← EReal.coe_mul, coe_sum, div_real _ (by norm_num : (1024 : ℝ) ≠ 0), ← EReal.coe_add, ← EReal.coe_sub,
    rsqrt_real (mean_sq_pos rx)]
  rfl

/-- The block's share of the gradient of the gain, added to what is there. -/
theorem pay2 (rv rx : Fin 512 → Fin 1024 → ℝ) (l : Fin 1024) (hv : ∀ r k, k0_pay3 (F := Ideal) p w (ix2 r k) = ((rv r k : ℝ) : EReal))
    (hx : ∀ r k, x (ix2 r k) = ((rx r k : ℝ) : EReal)) :
    k0_pay2 (F := Ideal) (k0_pay7 (F := Ideal) p w x) acc (ix2 0 l) = acc (ix2 0 l) + ((dg rx rv l : ℝ) : EReal) := by
  have e : ∀ r, _ := fun r => rsqrt_real (mean_sq_pos (rx r))
  pointwise [k0_pay2, k0_pay7, k0_pay6, k0_pay5, k0_pay4]
  simp only [hv, hx, ofBits_1024, ofBits_eps, ← EReal.coe_mul, coe_sum, div_real _ (by norm_num : (1024 : ℝ) ≠ 0), ← EReal.coe_add, e]
  rfl
end Rows

section Arrays
variable (x3 r3 : S1x2048x1024.Idx → ℝ) (gs : S1x1024.Idx → ℝ) (w3 : S1x1024x1024.Idx → ℝ) (d3 : S1x2048x1024.Idx → ℝ)

/-- A row of the norm's argument, and the gain. -/
def rowX (r : Fin 2048) (k : Fin 1024) : ℝ := x3 (ix3 0 r k)
def rowG (k : Fin 1024) : ℝ := gs (ix2 0 k)

/-- The cotangent of the norm: the cotangent of the projection times the transposed weight. -/
def dh (r : Fin 2048) (l : Fin 1024) : ℝ := ∑ j, d3 (ix3 0 r j) * w3 (ix3 0 l j)

/-- The gradient of the norm's argument, with the residual's cotangent added. -/
def dX (i : S2048x1024.Idx) : ℝ := dxRow (rowX x3 (i 0)) (rowG gs) (dh w3 d3 (i 0)) (i 1) + r3 (ix3 0 (i 0) (i 1))

/-- The gradient of the gain. -/
def dG (i : S1x1024.Idx) : ℝ := dg (rowX x3) (dh w3 d3) (i 1)

/-- One block's share of the gradient of the gain. -/
def dgTile (t : Fin cfg0.N) (i : S1x1024.Idx) : EReal := ((dg (fun r => rowX x3 (line t.val r)) (fun r => dh w3 d3 (line t.val r)) (i 1) : ℝ) : EReal)

theorem sum_points (l : Fin 1024) : ∑ k : Fin 4, dg (fun r => rowX x3 (line k.val r)) (fun r => dh w3 d3 (line k.val r)) l = dG x3 w3 d3 (ix2 0 l) :=
  sum_lines fun r => dh w3 d3 r l * (rowX x3 r l * rstd (rowX x3 r))
end Arrays

variable (m : (ℓ : Loc nD τ sig) → Buf (Elt Ideal) ℓ) (c : Dev nD)

theorem idx : ∀ t : Fin cfg0.N, win0_0.index t = ![t.val % 4, 0] ∧ win0_1.index t = ![0, 0, 0] ∧ win0_2.index t = ![t.val % 4, 0] ∧ win0_3.index t = ![0, 0]
    ∧ win0_4.index t = ![t.val % 4, 0] ∧ win0_5.index t = ![t.val % 4, 0] ∧ win0_6.index t = ![0, 0] :=
  (by decide +kernel : ∀ t : Fin grid0.N, _)

variable (x3 r3 : S1x2048x1024.Idx → ℝ) (gs : S1x1024.Idx → ℝ) (w3 : S1x1024x1024.Idx → ℝ) (d3 : S1x2048x1024.Idx → ℝ)

/-- The arguments are real arrays. -/
structure Args : Prop where
  x : m ((c.tc : Thread nD τ).loc main_arg0) = lift x3
  g : m ((c.tc : Thread nD τ).loc main_arg1) = lift gs
  w : m ((c.tc : Thread nD τ).loc main_arg2) = lift w3
  d : m ((c.tc : Thread nD τ).loc main_arg3) = lift d3
  r : m ((c.tc : Thread nD τ).loc main_arg4) = lift r3

variable {x3 r3 gs w3 d3}
variable (hm : Args m c x3 r3 gs w3 d3)
include hm

theorem blk0 (t : Fin cfg0.N) (r : Fin 512) (j : Fin 1024) : iblk m c 0 t (ix2 r j) = ((d3 (ix3 0 (line t.val r) j) : ℝ) : EReal) := by
  have e : iblk m c 0 t (ix2 r j) = m ((c.tc : Thread nD τ).loc main_arg3) (ix3 0 (line t.val r) j) := by
    blk_point [iblk, V, idx t, line]
  rw [e, hm.d]; rfl

theorem blk1 (t : Fin cfg0.N) (l j : Fin 1024) : iblk m c 1 t (ix3 0 l j) = ((w3 (ix3 0 l j) : ℝ) : EReal) := by
  have e : iblk m c 1 t (ix3 0 l j) = m ((c.tc : Thread nD τ).loc main_arg2) (ix3 0 l j) := by
    blk_point [iblk, V, idx t]
  rw [e, hm.w]; rfl

theorem blk2 (t : Fin cfg0.N) (r : Fin 512) (k : Fin 1024) : iblk m c 2 t (ix2 r k) = ((rowX x3 (line t.val r) k : ℝ) : EReal) := by
  have e : iblk m c 2 t (ix2 r k) = m ((c.tc : Thread nD τ).loc main_arg0) (ix3 0 (line t.val r) k) := by
    blk_point [iblk, V, idx t, line]
  rw [e, hm.x]; rfl

theorem blk3 (t : Fin cfg0.N) (k : Fin 1024) : iblk m c 3 t (ix2 0 k) = ((rowG gs k : ℝ) : EReal) := by
  have e : iblk m c 3 t = m ((c.tc : Thread nD τ).loc main_arg1) := by
    blk_ext! [iblk, V, idx t]
  rw [e, hm.g]; rfl

theorem blk4 (t : Fin cfg0.N) (r : Fin 512) (k : Fin 1024) : iblk m c 4 t (ix2 r k) = ((r3 (ix3 0 (line t.val r) k) : ℝ) : EReal) := by
  have e : iblk m c 4 t (ix2 r k) = m ((c.tc : Thread nD τ).loc main_arg4) (ix3 0 (line t.val r) k) := by
    blk_point [iblk, V, idx t, line]
  rw [e, hm.r]; rfl

/-- The block's cotangent of the norm. -/
theorem dh_blk (t : Fin cfg0.N) (r : Fin 512) (l : Fin 1024) :
    k0_pay3 (F := Ideal) (iblk m c 0 t) (iblk m c 1 t) (ix2 r l) = ((dh w3 d3 (line t.val r) l : ℝ) : EReal) :=
  pay3 _ _ _ (fun l j => w3 (ix3 0 l j)) r l (blk0 m c hm t r) (blk1 m c hm t)

theorem dx_blk (t : Fin cfg0.N) (r : Fin 512) (l : Fin 1024) :
    k0_pay8 (F := Ideal) (iblk m c 0 t) (iblk m c 1 t) (iblk m c 2 t) (iblk m c 3 t) (iblk m c 4 t) (ix2 r l)
      = ((dX x3 r3 gs w3 d3 (ix2 (line t.val r) l) : ℝ) : EReal) :=
  pay8 _ _ _ _ _ _ _ _ _ r l (dh_blk m c hm t r) (blk2 m c hm t r) (blk3 m c hm t) (blk4 m c hm t r)

theorem out5 (t : Fin cfg0.N) (r : Fin 512) (l : Fin 1024) :
    (outsAt0 m c t.val t.isLt).1 (ix2 r l) = ((dX x3 r3 gs w3 d3 (ix2 (line t.val r) l) : ℝ) : EReal) := by
  by_cases h : t.val % 4 = 0
  · rw [outsAt0_A m c t h]
    frame_out
    exact dx_blk m c hm t r l
  · rw [outsAt0_B m c t h]
    frame_out
    exact dx_blk m c hm t r l

theorem first6 (t : Fin cfg0.N) (h : t.val % 4 = 0) (i : S1x1024.Idx) : (outsAt0 m c t.val t.isLt).2 i = 0 + dgTile x3 w3 d3 t i := by
  idx_vars i
  obtain rfl : i0 = 0 := Subsingleton.elim _ _
  rw [outsAt0_A m c t h]
  frame_out
  refine (pay2 _ _ _ (k0_pay1 (F := Ideal)) _ _ i1 (dh_blk m c hm t) (blk2 m c hm t)).trans (congrArg (· + _) ?_)
  pointwise [k0_pay1]

theorem next6 (t : Fin cfg0.N) (h : ¬ t.val % 4 = 0) (i : S1x1024.Idx) : (outsAt0 m c t.val t.isLt).2 i
    = (outsAt0 m c (t.val - 1) (Nat.lt_of_le_of_lt (Nat.sub_le _ _) t.isLt)).2 i + dgTile x3 w3 d3 t i := by
  idx_vars i
  obtain rfl : i0 = 0 := Subsingleton.elim _ _
  rw [outsAt0_B m c t h]
  frame_out
  exact pay2 _ _ _ _ _ _ i1 (dh_blk m c hm t) (blk2 m c hm t)

theorem x_final : (dats m 0 c).arrAt 5 cfg0.N = lift (dX x3 r3 gs w3 d3) := by
  refine (dats m 0 c).arrAt_eq_of_covers 5 _ (by decide +kernel) fun t _ y => ?_
  rw [after0_5]
  idx_vars y
  blk_simp
  refine (out5 m c hm t y0 y1).trans (congrArg (lift (dX x3 r3 gs w3 d3)) ?_)
  blk_ext [idx t, line]

theorem g_final : (dats m 0 c).arrAt 6 cfg0.N = lift (dG x3 w3 d3) := by
  refine (dats m 0 c).arrAt_eq_of_covers 6 _ (by decide +kernel) fun t hf y => ?_
  rw [after0_6]
  idx_vars y
  obtain rfl : y0 = 0 := Subsingleton.elim _ _
  blk_simp
  refine (Pipeline.eq_sum_fin_of_reset_step_apply_of_flush (f := fun n h => (outsAt0 m c n h).2) 4 (fun _ => 0) (dgTile x3 w3 d3)
    (first6 m c hm) (next6 m c hm) t ((flush0_6 t).mp hf) (ix2 0 y1)).trans ?_
  simp only [dgTile, coe_sum, zero_add]
  have ht : t.val < 4 := t.isLt
  refine (congrArg (fun z : ℝ => (z : EReal)) (Eq.trans (Finset.sum_congr rfl fun k _ => ?_) (sum_points x3 w3 d3 y1))).trans ?_
  · have e : ∀ r, line (4 * (t.val / 4) + k.val) r = line k.val r := fun r => Fin.ext (by simp only [line]; omega)
    simp only [e]
    rfl
  · refine congrArg (lift (dG x3 w3 d3)) (a₁ := ix2 0 y1) ?_
    blk_ext [idx t]

end Cert.QueryNorm

end
-- ==== Proof.QueryNormReference.lean ====
module

public import proofs.«01_k».proof.Proof.Gen.Reference22Ideal.Read
public import proofs.«01_k».proof.Proof.QueryNorm

/-! The gradient of the memory attention's RMSNorm, through the query projection: what the reference computes, over real arguments. -/

@[expose] public section

set_option maxRecDepth 16384

noncomputable section

namespace Cert.QueryNorm

open Idealize.ShloMosaic Idealize.ShloMosaic.TcCoe Idealize.SL.Sem
open Cert.Lift Cert.Norm
open Cert.Reference22Ideal Cert.Reference22Ideal.Gen Cert.Reference22Ideal.Read

variable (x3 r3 : S1x2048x1024.Idx → ℝ) (gs : S1x1024.Idx → ℝ) (w3 : S1x1024x1024.Idx → ℝ) (d3 : S1x2048x1024.Idx → ℝ)

theorem v7 (z : Fin 1) (r : Fin 2048) (l : Fin 1) : val_main_v7 (F := Ideal) (lift x3) (ix3 z r l) = ((ms (rowX x3 r) : ℝ) : EReal) := by
  obtain rfl : z = 0 := Subsingleton.elim _ _
  pointwise [val_main_v7, val_main_v6, val_main_v5, val_main_v4, val_main_v3, val_main_v2, val_main_v1, val_main_cst, val_main_cst_0, val_main_cst_1]
  simp only [lift, ofBits_1024, ofBits_eps, ← EReal.coe_mul, coe_sum, zero_add, div_real _ (by norm_num : (1024 : ℝ) ≠ 0), ← EReal.coe_add]
  rfl

theorem v8 (z : Fin 1) (r : Fin 2048) (l : Fin 1) : val_main_v8 (F := Ideal) (lift x3) (ix3 z r l) = ((rstd (rowX x3 r) : ℝ) : EReal) := by
  pointwise [val_main_v8]
  rw [v7]; exact rsqrt_real (mean_sq_pos _)

theorem v19 (r : Fin 2048) (l : Fin 1024) : val_main_v19 (F := Ideal) (lift w3) (lift d3) (ix3 0 r l) = ((dh w3 d3 r l : ℝ) : EReal) := by
  pointwise [val_main_v19, val_main_v17]
  simp only [lift, ← EReal.coe_mul, coe_sum]
  rfl

theorem v21 (z : Fin 1) (l : Fin 1024) : val_main_v21 (F := Ideal) (lift x3) (lift w3) (lift d3) (ix2 z l)
    = ((dg (rowX x3) (dh w3 d3) l : ℝ) : EReal) := by
  obtain rfl : z = 0 := Subsingleton.elim _ _
  pointwise [val_main_v21, val_main_v20, val_main_v13, val_main_v12, val_main_cst_3]
  simp only [lift, v8, v19, ← EReal.coe_mul, coe_sum, zero_add]
  exact congrArg _ (Finset.sum_congr rfl fun k _ => mul_comm _ _)

theorem v42 (z : Fin 1) (l : Fin 1024) : val_main_v42 (F := Ideal) (lift x3) (lift w3) (lift d3) (ix2 z l)
    = ((dg (rowX x3) (dh w3 d3) l : ℝ) : EReal) := by
  pointwise [val_main_v42, val_main_v25, val_main_v22, val_main_cst_4]
  rw [hostReduceAdd_r3_a01]
  pointwise []
  simp [v21]

theorem v34 (z : Fin 1) (r : Fin 2048) (l : Fin 1) : val_main_v34 (F := Ideal) (lift x3) (lift gs) (lift w3) (lift d3) (ix3 z r l)
    = ((slope (rowX x3 r) (rowG gs) (dh w3 d3 r) : ℝ) : EReal) := by
  obtain rfl : z = 0 := Subsingleton.elim _ _
  pointwise [val_main_v34, val_main_v33, val_main_v32, val_main_v28, val_main_v27, val_main_v26, val_main_v24, val_main_v23,
    val_main_v14, val_main_v0, val_main_v11, val_main_v10, val_main_v9, val_main_cst_2, val_main_cst_5, val_main_cst_6]
  have hm : ms (rowX x3 r) ≠ 0 := (mean_sq_pos _).ne'
  simp only [lift, v7, v8, v19, ofBits_1024, ofBits_neg_half, ← EReal.coe_mul, coe_sum, zero_add, div_real _ hm,
    div_real _ (by norm_num : (1024 : ℝ) ≠ 0)]
  rfl

theorem v37 (r : Fin 2048) (l : Fin 1024) : val_main_v37 (F := Ideal) (lift x3) (lift gs) (lift w3) (lift d3) (ix3 0 r l)
    = ((slope (rowX x3 r) (rowG gs) (dh w3 d3 r) : ℝ) : EReal) := by
  pointwise [val_main_v37, val_main_v36, val_main_v35, val_main_cst_7]
  rw [hostReduceAdd_r3_a02]
  simp [v34]

theorem v43 (r : Fin 2048) (l : Fin 1024) : val_main_v43 (F := Ideal) (lift x3) (lift gs) (lift w3) (lift d3) (lift r3) (ix2 r l)
    = ((dX x3 r3 gs w3 d3 (ix2 r l) : ℝ) : EReal) := by
  pointwise [val_main_v43, val_main_v41, val_main_v40, val_main_v39, val_main_v38, val_main_v31, val_main_v30, val_main_v29, val_main_v24, val_main_v23,
    val_main_v14, val_main_v0]
  simp only [lift, v8, v19, v37, ← EReal.coe_mul, ← EReal.coe_add]
  refine congrArg (fun z : ℝ => (z : EReal)) (Eq.trans ?_ (congrArg (· + r3 (ix3 0 r l)) (dxRow_eq (rowX x3 r) (rowG gs) (dh w3 d3 r) l)))
  simp only [rowX, rowG]
  ring

theorem x_ref : val_main_v43 (F := Ideal) (lift x3) (lift gs) (lift w3) (lift d3) (lift r3) = lift (dX x3 r3 gs w3 d3) := by
  funext i
  idx_vars i
  exact v43 x3 r3 gs w3 d3 i0 i1

theorem g_ref : val_main_v42 (F := Ideal) (lift x3) (lift w3) (lift d3) = lift (dG x3 w3 d3) := by
  funext i
  idx_vars i
  exact v42 x3 w3 d3 i0 i1

end Cert.QueryNorm

end
-- ==== Proof.QueryNormClaim.lean ====
/- The statement about the gradient of the memory attention's RMSNorm, through the query projection: from finite arguments the kernel and the reference
   end holding the same arrays. -/
module

public import proofs.«01_k».proof.Defs
public import proofs.«01_k».proof.Proof.QueryNormReference
public import proofs.«01_k».proof.Proof.Gen.Reference22Ideal.Run
public import proofs.«01_k».proof.Proof.Gen.Pre_finite22
public import Idealize.ShloMosaic.Lib.Claim

@[expose] public section

noncomputable section

namespace Cert.QueryNorm

open Idealize.ShloMosaic Idealize.SL.Sem Cert.Lift

/-- Under the precondition each argument is an array of reals. -/
theorem args_real (m : (ℓ : Loc Cert.Kernel22Ideal.nD Cert.Kernel22Ideal.τ Cert.Kernel22Ideal.sig) → Buf (Elt Ideal) ℓ)
    (h : Cert.Pre_Kernel22Ideal_finite22 m) (c : Dev Cert.Kernel22Ideal.nD) : ∃ xs gs ws ds rs, Args m c xs rs gs ws ds := by
  obtain ⟨hx, hg, hw, hd, hr⟩ := h c
  obtain ⟨xs, hxs⟩ := exists_real _ _ hx
  obtain ⟨gs, hgs⟩ := exists_real _ _ hg
  obtain ⟨ws, hws⟩ := exists_real _ _ hw
  obtain ⟨ds, hds⟩ := exists_real _ _ hd
  obtain ⟨rs, hrs⟩ := exists_real _ _ hr
  exact ⟨xs, gs, ws, ds, rs, hxs, hgs, hws, hds, hrs⟩

theorem frame_reference : Cert.quiescent_Reference22Ideal := by
  intro m ρ _
  exact (θ_run Cert.Reference22Ideal.defs _ _).mono (fun r h => ⟨fun c => (h c).2.2,
      Idealize.ShloMosaic.sem_eq_zero_of_no_sems (by decide) r.2⟩)
    (Cert.Reference22Ideal.Value.run (F := Ideal) m ρ)

theorem algebraic : Cert.algebraic_Kernel22Ideal_Reference22Ideal_pre_finite22 := by
  intro m g m' g' hpre hagree
  choose xs gs ws ds rs hm using args_real m hpre
  refine ⟨fun c => lift (dX (xs c) (rs c) (gs c) (ws c) (ds c)), fun c => lift (dG (xs c) (ws c) (ds c)), ?_, ?_⟩
  · refine (θ_run Cert.Kernel22Ideal.defs _ _).mono (fun r h c => ?_) (Cert.Kernel22Ideal.Value.run_blocks (F := Ideal) m g)
    obtain ⟨h0, h1, h2⟩ := h c
    exact ⟨h0.trans (x_final m c (hm c)), h1.trans (g_final m c (hm c)), h2⟩
  · refine (θ_run Cert.Reference22Ideal.defs _ _).mono (fun r h c => ?_) (Cert.Reference22Ideal.Value.run (F := Ideal) m' g')
    obtain ⟨h0, h1, h2⟩ := h c
    obtain ⟨a0, a1, a2, a3, a4⟩ := hagree c
    refine ⟨h0.trans ?_, h1.trans ?_, h2⟩
    · refine (Cert.Reference22Ideal.Read.val_main_v43_eq m' c).trans ?_
      rw [a0, a1, a2, a3, a4, (hm c).x, (hm c).g, (hm c).w, (hm c).d, (hm c).r]
      exact x_ref _ _ _ _ _
    · refine (Cert.Reference22Ideal.Read.val_main_v42_eq _ _ _).trans ?_
      rw [a0, a2, a3, (hm c).x, (hm c).w, (hm c).d]
      exact g_ref _ _ _

end Cert.QueryNorm

end
-- ==== Proof.DeviceSum.lean ====
module

public import proofs.«01_k».proof.Proof.Gen.Kernel23Ideal.Value
public import proofs.«01_k».proof.Proof.Lift

/-! The sum over the devices of the small gradients: what each device's kernel leaves in its result array. -/

@[expose] public section

set_option maxRecDepth 16384

noncomputable section

namespace Cert.DeviceSum

open Idealize.ShloMosaic Idealize.ShloMosaic.TcCoe Idealize.SL.Sem
open Idealize.ShloMosaic.Pipeline (Dat)
open Cert.Lift
open Cert.Kernel23Ideal Cert.Kernel23Ideal.Gen

variable (m : (ℓ : Loc nD τ sig) → Buf (Elt Ideal) ℓ) (c : Dev nD)

/-- Device `c`'s summand of device `e`: its own array at its own place, elsewhere what device `e` sent. -/
def summand (e : Fin 8) (l : Fin 32256) : EReal :=
  if c.val = e.val then m ((c.tc : Thread nD τ).loc main_arg0) (ix2 0 l) else m ((c.tc : Thread nD τ).loc main_arg1) (ix2 e l)

/-- The sum that device `c` ends with. -/
def total (i : S1x32256.Idx) : EReal := ∑ e, summand m c e (i 1)

/-- The device's number, from its three coordinates. -/
theorem place : Scalar.addi (Scalar.addi (Scalar.muli (4#32) (Scalar.remsi (Scalar.divsi (BitVec.ofNat 32 c.val) 4#32) 2#32))
    (Scalar.muli (2#32) (Scalar.remsi (Scalar.divsi (BitVec.ofNat 32 c.val) 2#32) 2#32)))
    (Scalar.remsi (Scalar.divsi (BitVec.ofNat 32 c.val) 1#32) 2#32) = BitVec.ofNat 32 c.val := by
  revert c; decide

theorem pick (n : ℕ) (h : n < 8) (a b : EReal) :
    Scalar.select (Scalar.cmpi .eq (BitVec.ofNat 32 c.val) (BitVec.ofNat 32 n)) a b = if c.val = n then a else b := by
  have e : Scalar.cmpi .eq (BitVec.ofNat 32 c.val) (BitVec.ofNat 32 n) = if c.val = n then 1#1 else 0#1 :=
    (by decide : ∀ (c : Dev nD) (n : Fin 8), Scalar.cmpi .eq (BitVec.ofNat 32 c.val) (BitVec.ofNat 32 n.val) = if c.val = n.val then 1#1 else 0#1) c ⟨n, h⟩
  rw [e]
  split <;> rfl

/-- The body's sum, in the order of the devices. -/
theorem body (v : Vec Ideal S1x32256 .f32) (a0 a1 a2 a3 a4 a5 a6 a7 : Vec Ideal S1x1x32256 .f32) (l : Fin 32256) (r : Fin 8 → EReal)
    (h0 : a0 (ix3 0 0 l) = r 0) (h1 : a1 (ix3 0 0 l) = r 1) (h2 : a2 (ix3 0 0 l) = r 2) (h3 : a3 (ix3 0 0 l) = r 3)
    (h4 : a4 (ix3 0 0 l) = r 4) (h5 : a5 (ix3 0 0 l) = r 5) (h6 : a6 (ix3 0 0 l) = r 6) (h7 : a7 (ix3 0 0 l) = r 7) :
    k0_pay1 (F := Ideal) (k0_pay3 (BitVec.ofNat 32 c.val) (k0_pay2 c v a0 v a1 v a2) v a3 v a4 v a5 v a6) (Scalar.cmpi .eq (BitVec.ofNat 32 c.val) 7#32) (k0_pay4 v) a7 (ix2 0 l)
      = ∑ e : Fin 8, if c.val = e.val then v (ix2 0 l) else r e := by
  rw [Fin.sum_univ_eight]
  pointwise [k0_pay1, k0_pay2, k0_pay3, k0_pay4]
  simp only [place, h0, h1, h2, h3, h4, h5, h6, h7]
  have p : ∀ n : Fin 8, Scalar.select (Scalar.cmpi .eq (BitVec.ofNat 32 c.val) (BitVec.ofNat 32 n.val)) (v (ix2 0 l)) (r n) = if c.val = n.val then v (ix2 0 l) else r n :=
    fun n => pick c n.val n.isLt _ _
  have add : ∀ {a b x y : EReal}, a = x → b = y → a + b = x + y := fun h h' => h ▸ h' ▸ rfl
  exact add (add (add (add (add (add (add (p 0) (p 1)) (p 2)) (p 3)) (p 4)) (p 5)) (p 6)) (p 7)

theorem slab (X : Vec Ideal S8x1x32256 .f32) (n : ℕ) (h : n < 8) (inb : ∀ a, (![n, 0, 0] : Fin 3 → ℕ) a + (![1, 1, 32256] : Fin 3 → ℕ) a ≤ S8x1x32256.size a) (l : Fin 32256) :
    View.ld (Val := Elt Ideal) (S := S8x1x32256) (e' := .f32) X (Rect.unit ![n, 0, 0] ![1, 1, 32256] inb) (ix3 0 0 l) = X (ix3 ⟨n, h⟩ 0 l) := by
  refine View.ld_unit_apply_of X _ _ _ _ _ fun k => ?_
  fin_cases k
  · exact (Nat.add_zero n).symm
  · rfl
  · exact (Nat.zero_add l.val).symm

theorem idx : ∀ t : Fin cfg0.N, win0_0.index t = ![0, 0] ∧ win0_1.index t = ![0, 0, 0] ∧ win0_2.index t = ![0, 0] :=
  (by decide +kernel : ∀ t : Fin grid0.N, _)

theorem blk0 (t : Fin cfg0.N) : iblk m c 0 t = m ((c.tc : Thread nD τ).loc main_arg0) := by
  blk_ext! [iblk, V, idx t]

theorem blk1 (t : Fin cfg0.N) (e : Fin 8) (l : Fin 32256) : iblk m c 1 t (ix3 e 0 l) = m ((c.tc : Thread nD τ).loc main_arg1) (ix2 e l) := by
  blk_point [iblk, V, idx t]

theorem out2 (t : Fin cfg0.N) (l : Fin 32256) : outsAt0 m c t (ix2 0 l) = total m c (ix2 0 l) := by
  have r0 : View.read (Elt Ideal) (View.whole cc0_stg0_0) ((hs0_0 t).unread (iblk m c 0 t)) = iblk m c 0 t := (hs0_0 t).read_unread _
  have r1 : View.read (Elt Ideal) (View.whole cc0_stg1_0) ((hs0_1 t).unread (iblk m c 1 t)) = iblk m c 1 t := (hs0_1 t).read_unread _
  unfold outsAt0
  frame_out
  rw [r0, r1, place, blk0]
  refine body c _ _ _ _ _ _ _ _ _ l (fun e => m ((c.tc : Thread nD τ).loc main_arg1) (ix2 e l)) ?_ ?_ ?_ ?_ ?_ ?_ ?_ ?_ <;>
    refine (slab _ _ ?_ _ l).trans (blk1 m c t _ l) <;> decide

theorem final : (dats m 0 c).arrAt 2 cfg0.N = total m c := by
  refine (dats m 0 c).arrAt_eq_of_covers 2 _ (by decide +kernel) fun t _ y => ?_
  rw [after0_2]
  idx_vars y
  obtain rfl : y0 = 0 := Subsingleton.elim _ _
  blk_simp
  refine (out2 m c t y1).trans (congrArg (total m c) (a₁ := ix2 0 y1) ?_)
  blk_ext [idx t]

end Cert.DeviceSum

end
-- ==== Proof.DeviceSumClaim.lean ====
/- The sum over the devices of the small gradients: what the reference computes on the whole arrays, and the statement that
   each device's kernel ends holding its row of it. -/
module

public import proofs.«01_k».proof.Defs
public import proofs.«01_k».proof.Proof.DeviceSum
public import proofs.«01_k».proof.Proof.Gen.Reference23Ideal.Read
public import proofs.«01_k».proof.Proof.Gen.Reference23Ideal.Run
public import Idealize.ShloMosaic.Lib.Claim

@[expose] public section

set_option maxRecDepth 16384

noncomputable section

namespace Cert.DeviceSum

open Idealize.ShloMosaic Idealize.ShloMosaic.TcCoe Idealize.SL.Sem
open Cert.Lift

section Reference
open Cert.Reference23Ideal Cert.Reference23Ideal.Gen Cert.Reference23Ideal.Read

/-- A row of the whole array of what was sent: device `d`'s block, and in it device `e`'s row. -/
def sent (d e : Fin 8) : Fin 64 := ⟨d.val * 8 + e.val, by omega⟩

/-- The diagonal's test. -/
theorem v5 (d e : Fin 8) (z : Fin 1) : val_main_v5 (F := Ideal) (ix3 d e z) = if d.val = e.val then 1#1 else 0#1 := by
  pointwise [val_main_v5, val_main_v4, val_main_v3, val_main_v2, val_main_v1, val_main_v0, val_main_c]
  revert d e
  decide

theorem v8 (x0 : Vec Ideal S8x32256 .f32) (x1 : Vec Ideal S64x32256 .f32) (d e : Fin 8) (l : Fin 32256) :
    val_main_v8 (F := Ideal) x0 x1 (ix3 d e l) = if d.val = e.val then x0 (ix2 d l) else x1 (ix2 (sent d e) l) := by
  pointwise [val_main_v8, val_main_call0_v0, val_main_call0_v1, val_main_v6, val_main_v7]
  rw [v5]
  split <;> rfl

theorem v9 (x0 : Vec Ideal S8x32256 .f32) (x1 : Vec Ideal S64x32256 .f32) (d : Fin 8) (l : Fin 32256) :
    val_main_v9 (F := Ideal) x0 x1 (ix2 d l) = ∑ e : Fin 8, if d.val = e.val then x0 (ix2 d l) else x1 (ix2 (sent d e) l) := by
  pointwise [val_main_v9, val_main_cst]
  simp only [v8, zero_add]
end Reference

theorem frame_reference : Cert.quiescent_Reference23Ideal := by
  intro m ρ _
  exact (θ_run Cert.Reference23Ideal.defs _ _).mono (fun r h => ⟨fun c => (h c).2,
      Idealize.ShloMosaic.sem_eq_zero_of_no_sems (by decide) r.2⟩)
    (Cert.Reference23Ideal.Value.run (F := Ideal) m ρ)

theorem algebraic : Cert.algebraic_Kernel23Ideal_Reference23Ideal := by
  intro m g m' g' _ hagree
  refine ⟨Cert.Reference23Ideal.Read.val_main_v9 (F := Ideal) (m' ((0 : Dev Cert.Reference23Ideal.nD).tc.loc Cert.Reference23Ideal.main_arg0))
      (m' ((0 : Dev Cert.Reference23Ideal.nD).tc.loc Cert.Reference23Ideal.main_arg1)), ?_,
    (θ_run Cert.Reference23Ideal.defs _ _).mono (fun r h => ⟨(h 0).1.trans (Cert.Reference23Ideal.Read.val_main_v9_eq _ _), (h 0).2⟩)
      (Cert.Reference23Ideal.Value.run (F := Ideal) m' g')⟩
  refine (θ_run Cert.Kernel23Ideal.defs _ _).mono (fun r h c => ?_) (Cert.Kernel23Ideal.Value.run_blocks (F := Ideal) m g)
  obtain ⟨h0, h1⟩ := h c
  obtain ⟨a0, a1⟩ := hagree c
  refine ⟨h0.trans ((final m c).trans ?_), h1⟩
  funext i
  idx_vars i
  obtain rfl : i0 = 0 := Subsingleton.elim _ _
  refine Eq.trans (Finset.sum_congr rfl fun e _ => ?_) ((v9 _ _ c i1).symm.trans (congrArg (Cert.Reference23Ideal.Read.val_main_v9 (F := Ideal) _ _) ?_))
  · unfold summand
    rw [a0, a1]
    rw [Layout.block_apply, Layout.block_apply]
    refine congrArg₂ (fun a b : EReal => if c.val = e.val then a else b) ?_ ?_
    · refine congrArg (m' ((0 : Dev Cert.Reference23Ideal.nD).tc.loc Cert.Reference23Ideal.main_arg0)) (funext fun k => Fin.ext ?_)
      refine match k with
        | 0 => (Layout.idx_rows_val _ c _).1.trans (by show c.val * 1 + 0 = c.val; omega)
        | 1 => (Layout.idx_rows_val _ c _).2
    · refine congrArg (m' ((0 : Dev Cert.Reference23Ideal.nD).tc.loc Cert.Reference23Ideal.main_arg1)) (funext fun k => Fin.ext ?_)
      refine match k with
        | 0 => (Layout.idx_rows_val _ c _).1
        | 1 => (Layout.idx_rows_val _ c _).2
  · refine funext fun k => Fin.ext ?_
    refine match k with
      | 0 => Eq.symm ((Layout.idx_rows_val _ c _).1.trans (by show c.val * 1 + 0 = c.val; omega))
      | 1 => Eq.symm (Layout.idx_rows_val _ c _).2

end Cert.DeviceSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.ReferenceIdeal.Run
public import proofs.«01_k».proof.Proof.NormClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Reference2Ideal.Run
public import proofs.«01_k».proof.Proof.Gen.Pre_finite2
public import proofs.«01_k».proof.Proof.AttnClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Pre_finite3
public import proofs.«01_k».proof.Proof.XattnClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Gen.Pre_finite5
public import proofs.«01_k».proof.Proof.UpNormClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.Gen.Pre_finite6
public import proofs.«01_k».proof.Proof.GateBwdClaim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Reference7Ideal.Run
public import proofs.«01_k».proof.Proof.Gen.Pre_finite7
public import proofs.«01_k».proof.Proof.ConvBwdClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Reference8Ideal.Run
public import proofs.«01_k».proof.Proof.Gen.Pre_finite8
public import proofs.«01_k».proof.Proof.GateFwdClaim
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Reference9Ideal.Run
public import proofs.«01_k».proof.Proof.Gen.Pre_finite9
public import proofs.«01_k».proof.Proof.ConvFwdClaim
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Reference11Ideal.Run
public import proofs.«01_k».proof.Proof.Gen.Pre_finite11
public import proofs.«01_k».proof.Proof.QkBwdClaim
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Reference12Ideal.Run
public import proofs.«01_k».proof.Proof.Gen.Pre_finite12
public import proofs.«01_k».proof.Proof.QkFwdClaim
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Reference13Ideal.Run
public import proofs.«01_k».proof.Proof.Gen.Pre_finite13
public import proofs.«01_k».proof.Proof.MixBackClaim
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Reference14Ideal.Run
public import proofs.«01_k».proof.Proof.Gen.Pre_finite14
public import proofs.«01_k».proof.Proof.LossClaim
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Read
public import proofs.«01_k».proof.Proof.Gen.Reference15Ideal.Run
public import proofs.«01_k».proof.Proof.Gen.Pre_finite15
public import proofs.«01_k».proof.Proof.MixFwdClaim
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Reference16Ideal.Run
public import proofs.«01_k».proof.Proof.Gen.Pre_finite16
public import proofs.«01_k».proof.Proof.QueryProjClaim
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Reference17Ideal.Run
public import proofs.«01_k».proof.Proof.Gen.Pre_finite17
public import proofs.«01_k».proof.Proof.InNormClaim
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Reference18Ideal.Run
public import proofs.«01_k».proof.Proof.InWeight
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Read
public import proofs.«01_k».proof.Proof.Gen.Reference19Ideal.Run
public import proofs.«01_k».proof.Proof.UpWeight
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Reference20Ideal.Run
public import proofs.«01_k».proof.Proof.MemGrad
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Read
public import proofs.«01_k».proof.Proof.Gen.Reference21Ideal.Run
public import proofs.«01_k».proof.Proof.AdamW
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Read
public import proofs.«01_k».proof.Proof.Gen.Reference22Ideal.Run
public import proofs.«01_k».proof.Proof.Gen.Pre_finite22
public import proofs.«01_k».proof.Proof.QueryNormClaim
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Read
public import proofs.«01_k».proof.Proof.Gen.Reference23Ideal.Run
public import proofs.«01_k».proof.Proof.DeviceSumClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Norm.pre_facts, Cert.Pre_finite2.Gen.facts, Cert.Pre_finite3.Gen.facts, Cert.Pre_finite4.Gen.facts, Cert.Pre_finite5.Gen.facts, Cert.Pre_finite6.Gen.facts, Cert.Pre_finite7.Gen.facts, Cert.Pre_finite8.Gen.facts, Cert.Pre_finite9.Gen.facts, Cert.Pre_finite11.Gen.facts, Cert.Pre_finite12.Gen.facts, Cert.Pre_finite13.Gen.facts, Cert.Pre_finite14.Gen.facts, Cert.Pre_finite15.Gen.facts, Cert.Pre_finite16.Gen.facts, Cert.Pre_finite17.Gen.facts, Cert.Pre_finite22.Gen.facts,
  fun m ρ _ => Cert.Kernel.Gen.frame m ρ, fun m ρ _ => Cert.KernelIdeal.Gen.frame m ρ, fun m ρ _ => Cert.KernelIdeal.Gen.frame m ρ,
  Cert.Norm.frame_reference, fun m ρ _ => Cert.Norm.frame_reference m ρ trivial,
  fun m ρ _ => Cert.Kernel2.Gen.frame m ρ, fun m ρ _ => Cert.Kernel2Ideal.Gen.frame m ρ, fun m ρ _ => Cert.Kernel2Ideal.Gen.frame m ρ,
  Cert.Attn.frame_reference, fun m ρ _ => Cert.Attn.frame_reference m ρ trivial,
  fun m ρ _ => Cert.Kernel3.Gen.frame m ρ, fun m ρ _ => Cert.Kernel3Ideal.Gen.frame m ρ, fun m ρ _ => Cert.Kernel3Ideal.Gen.frame m ρ,
  Cert.Xattn.frame_reference3, fun m ρ _ => Cert.Xattn.frame_reference3 m ρ trivial,
  fun m ρ _ => Cert.Kernel4.Gen.frame m ρ, fun m ρ _ => Cert.Kernel4Ideal.Gen.frame m ρ, fun m ρ _ => Cert.Kernel4Ideal.Gen.frame m ρ,
  Cert.Xattn.frame_reference4, fun m ρ _ => Cert.Xattn.frame_reference4 m ρ trivial,
  fun m ρ _ => Cert.Kernel5.Gen.frame m ρ, fun m ρ _ => Cert.Kernel5Ideal.Gen.frame m ρ, fun m ρ _ => Cert.Kernel5Ideal.Gen.frame m ρ,
  Cert.UpNorm.frame_reference, fun m ρ _ => Cert.UpNorm.frame_reference m ρ trivial,
  fun m ρ _ => Cert.Kernel6.Gen.frame m ρ, fun m ρ _ => Cert.Kernel6Ideal.Gen.frame m ρ, fun m ρ _ => Cert.Kernel6Ideal.Gen.frame m ρ,
  Cert.GateBwd.frame_reference, fun m ρ _ => Cert.GateBwd.frame_reference m ρ trivial,
  fun m ρ _ => Cert.Kernel7.Gen.frame m ρ, fun m ρ _ => Cert.Kernel7Ideal.Gen.frame m ρ, fun m ρ _ => Cert.Kernel7Ideal.Gen.frame m ρ,
  Cert.ConvBwd.frame_reference, fun m ρ _ => Cert.ConvBwd.frame_reference m ρ trivial,
  fun m ρ _ => Cert.Kernel8.Gen.frame m ρ, fun m ρ _ => Cert.Kernel8Ideal.Gen.frame m ρ, fun m ρ _ => Cert.Kernel8Ideal.Gen.frame m ρ,
  Cert.GateFwd.frame_reference, fun m ρ _ => Cert.GateFwd.frame_reference m ρ trivial,
  fun m ρ _ => Cert.Kernel9.Gen.frame m ρ, fun m ρ _ => Cert.Kernel9Ideal.Gen.frame m ρ, fun m ρ _ => Cert.Kernel9Ideal.Gen.frame m ρ,
  Cert.ConvFwd.frame_reference, fun m ρ _ => Cert.ConvFwd.frame_reference m ρ trivial,
  fun m ρ _ => Cert.Kernel10.Gen.frame m ρ, fun m ρ _ => Cert.Kernel10Ideal.Gen.frame m ρ,
  fun m ρ _ => Cert.Kernel11.Gen.frame m ρ, fun m ρ _ => Cert.Kernel11Ideal.Gen.frame m ρ, fun m ρ _ => Cert.Kernel11Ideal.Gen.frame m ρ,
  Cert.QkBwd.frame_reference, fun m ρ _ => Cert.QkBwd.frame_reference m ρ trivial,
  fun m ρ _ => Cert.Kernel12.Gen.frame m ρ, fun m ρ _ => Cert.Kernel12Ideal.Gen.frame m ρ, fun m ρ _ => Cert.Kernel12Ideal.Gen.frame m ρ,
  Cert.QkFwd.frame_reference, fun m ρ _ => Cert.QkFwd.frame_reference m ρ trivial,
  fun m ρ _ => Cert.Kernel13.Gen.frame m ρ, fun m ρ _ => Cert.Kernel13Ideal.Gen.frame m ρ, fun m ρ _ => Cert.Kernel13Ideal.Gen.frame m ρ,
  Cert.MixBack.frame_reference, fun m ρ _ => Cert.MixBack.frame_reference m ρ trivial,
  fun m ρ _ => Cert.Kernel14.Gen.frame m ρ, fun m ρ _ => Cert.Kernel14Ideal.Gen.frame m ρ, fun m ρ _ => Cert.Kernel14Ideal.Gen.frame m ρ,
  Cert.Loss.frame_reference, fun m ρ _ => Cert.Loss.frame_reference m ρ trivial,
  fun m ρ _ => Cert.Kernel15.Gen.frame m ρ, fun m ρ _ => Cert.Kernel15Ideal.Gen.frame m ρ, fun m ρ _ => Cert.Kernel15Ideal.Gen.frame m ρ,
  Cert.MixFwd.frame_reference, fun m ρ _ => Cert.MixFwd.frame_reference m ρ trivial,
  fun m ρ _ => Cert.Kernel16.Gen.frame m ρ, fun m ρ _ => Cert.Kernel16Ideal.Gen.frame m ρ, fun m ρ _ => Cert.Kernel16Ideal.Gen.frame m ρ,
  Cert.QueryProj.frame_reference, fun m ρ _ => Cert.QueryProj.frame_reference m ρ trivial,
  fun m ρ _ => Cert.Kernel17.Gen.frame m ρ, fun m ρ _ => Cert.Kernel17Ideal.Gen.frame m ρ, fun m ρ _ => Cert.Kernel17Ideal.Gen.frame m ρ,
  Cert.InNorm.frame_reference, fun m ρ _ => Cert.InNorm.frame_reference m ρ trivial,
  fun m ρ _ => Cert.Kernel18.Gen.frame m ρ, fun m ρ _ => Cert.Kernel18Ideal.Gen.frame m ρ, Cert.InWeight.frame_reference,
  fun m ρ _ => Cert.Kernel19.Gen.frame m ρ, fun m ρ _ => Cert.Kernel19Ideal.Gen.frame m ρ, Cert.UpWeight.frame_reference,
  fun m ρ _ => Cert.Kernel20.Gen.frame m ρ, fun m ρ _ => Cert.Kernel20Ideal.Gen.frame m ρ, Cert.MemGrad.frame_reference,
  fun m ρ _ => Cert.Kernel21.Gen.frame m ρ, fun m ρ _ => Cert.Kernel21Ideal.Gen.frame m ρ, Cert.AdamW.frame_reference,
  fun m ρ _ => Cert.Kernel22.Gen.frame m ρ, fun m ρ _ => Cert.Kernel22Ideal.Gen.frame m ρ, fun m ρ _ => Cert.Kernel22Ideal.Gen.frame m ρ,
  Cert.QueryNorm.frame_reference, fun m ρ _ => Cert.QueryNorm.frame_reference m ρ trivial,
  fun m ρ _ => Cert.Kernel23.Gen.frame m ρ, fun m ρ _ => Cert.Kernel23Ideal.Gen.frame m ρ, Cert.DeviceSum.frame_reference,
  trivial, Cert.Norm.algebraic, trivial, Cert.Attn.algebraic, trivial, Cert.Xattn.algebraic3, trivial, Cert.Xattn.algebraic4, trivial, Cert.UpNorm.algebraic, trivial, Cert.GateBwd.algebraic, trivial, Cert.ConvBwd.algebraic, trivial, Cert.GateFwd.algebraic, trivial, Cert.ConvFwd.algebraic, trivial, trivial, Cert.QkBwd.algebraic, trivial, Cert.QkFwd.algebraic, trivial, Cert.MixBack.algebraic, trivial, Cert.Loss.algebraic, trivial, Cert.MixFwd.algebraic, trivial, Cert.QueryProj.algebraic, trivial, Cert.InNorm.algebraic, trivial, Cert.InWeight.algebraic, trivial, Cert.UpWeight.algebraic, trivial, Cert.MemGrad.algebraic, trivial, Cert.AdamW.algebraic, trivial, Cert.QueryNorm.algebraic, trivial, Cert.DeviceSum.algebraic⟩

end Cert.Proof

end
